-- ==== Defs.lean ====
def Pre_Rwkv (m : (ℓ : Loc Cert.Rwkv.nD Cert.Rwkv.τ Cert.Rwkv.sig) → Buf (Elt Bits) ℓ) : Prop :=
  True

def Pre_RwkvIdeal (m : (ℓ : Loc Cert.RwkvIdeal.nD Cert.RwkvIdeal.τ Cert.RwkvIdeal.sig) → Buf (Elt Ideal) ℓ) : Prop :=
  True

def Pre_RwkvIdeal_finite [hPre_finite : Cert.Pre_finite.Facts] (m : (ℓ : Loc Cert.RwkvIdeal.nD Cert.RwkvIdeal.τ Cert.RwkvIdeal.sig) → Buf (Elt Ideal) ℓ) : Prop :=
  ∀ c : Dev Cert.RwkvIdeal.nD,
    (Cert.Pre_finite.fn (F := Ideal) (m ((c.tc : Thread Cert.RwkvIdeal.nD Cert.RwkvIdeal.τ).loc Cert.RwkvIdeal.main_arg0)) (m ((c.tc : Thread Cert.RwkvIdeal.nD Cert.RwkvIdeal.τ).loc Cert.RwkvIdeal.main_arg1)) (m ((c.tc : Thread Cert.RwkvIdeal.nD Cert.RwkvIdeal.τ).loc Cert.RwkvIdeal.main_arg2)) (m ((c.tc : Thread Cert.RwkvIdeal.nD Cert.RwkvIdeal.τ).loc Cert.RwkvIdeal.main_arg3)) (m ((c.tc : Thread Cert.RwkvIdeal.nD Cert.RwkvIdeal.τ).loc Cert.RwkvIdeal.main_arg4)) (m ((c.tc : Thread Cert.RwkvIdeal.nD Cert.RwkvIdeal.τ).loc Cert.RwkvIdeal.main_arg5)) (m ((c.tc : Thread Cert.RwkvIdeal.nD Cert.RwkvIdeal.τ).loc Cert.RwkvIdeal.main_arg6)) (m ((c.tc : Thread Cert.RwkvIdeal.nD Cert.RwkvIdeal.τ).loc Cert.RwkvIdeal.main_arg7)) (m ((c.tc : Thread Cert.RwkvIdeal.nD Cert.RwkvIdeal.τ).loc Cert.RwkvIdeal.main_arg8)) (m ((c.tc : Thread Cert.RwkvIdeal.nD Cert.RwkvIdeal.τ).loc Cert.RwkvIdeal.main_arg9)) (m ((c.tc : Thread Cert.RwkvIdeal.nD Cert.RwkvIdeal.τ).loc Cert.RwkvIdeal.main_arg10)) (m ((c.tc : Thread Cert.RwkvIdeal.nD Cert.RwkvIdeal.τ).loc Cert.RwkvIdeal.main_arg11)) (m ((c.tc : Thread Cert.RwkvIdeal.nD Cert.RwkvIdeal.τ).loc Cert.RwkvIdeal.main_arg12)) (m ((c.tc : Thread Cert.RwkvIdeal.nD Cert.RwkvIdeal.τ).loc Cert.RwkvIdeal.main_arg13))) = (fun _ => 1#1)

def Pre_RwkvRefIdeal (m : (ℓ : Loc Cert.RwkvRefIdeal.nD Cert.RwkvRefIdeal.τ Cert.RwkvRefIdeal.sig) → Buf (Elt Ideal) ℓ) : Prop :=
  True

def Pre_RwkvRefIdeal_finite [hPre_finite : Cert.Pre_finite.Facts] (m : (ℓ : Loc Cert.RwkvRefIdeal.nD Cert.RwkvRefIdeal.τ Cert.RwkvRefIdeal.sig) → Buf (Elt Ideal) ℓ) : Prop :=
  ∀ c : Dev Cert.RwkvRefIdeal.nD,
    (Cert.Pre_finite.fn (F := Ideal) (m ((c.tc : Thread Cert.RwkvRefIdeal.nD Cert.RwkvRefIdeal.τ).loc Cert.RwkvRefIdeal.main_arg0)) (m ((c.tc : Thread Cert.RwkvRefIdeal.nD Cert.RwkvRefIdeal.τ).loc Cert.RwkvRefIdeal.main_arg1)) (m ((c.tc : Thread Cert.RwkvRefIdeal.nD Cert.RwkvRefIdeal.τ).loc Cert.RwkvRefIdeal.main_arg2)) (m ((c.tc : Thread Cert.RwkvRefIdeal.nD Cert.RwkvRefIdeal.τ).loc Cert.RwkvRefIdeal.main_arg3)) (m ((c.tc : Thread Cert.RwkvRefIdeal.nD Cert.RwkvRefIdeal.τ).loc Cert.RwkvRefIdeal.main_arg4)) (m ((c.tc : Thread Cert.RwkvRefIdeal.nD Cert.RwkvRefIdeal.τ).loc Cert.RwkvRefIdeal.main_arg5)) (m ((c.tc : Thread Cert.RwkvRefIdeal.nD Cert.RwkvRefIdeal.τ).loc Cert.RwkvRefIdeal.main_arg6)) (m ((c.tc : Thread Cert.RwkvRefIdeal.nD Cert.RwkvRefIdeal.τ).loc Cert.RwkvRefIdeal.main_arg7)) (m ((c.tc : Thread Cert.RwkvRefIdeal.nD Cert.RwkvRefIdeal.τ).loc Cert.RwkvRefIdeal.main_arg8)) (m ((c.tc : Thread Cert.RwkvRefIdeal.nD Cert.RwkvRefIdeal.τ).loc Cert.RwkvRefIdeal.main_arg9)) (m ((c.tc : Thread Cert.RwkvRefIdeal.nD Cert.RwkvRefIdeal.τ).loc Cert.RwkvRefIdeal.main_arg10)) (m ((c.tc : Thread Cert.RwkvRefIdeal.nD Cert.RwkvRefIdeal.τ).loc Cert.RwkvRefIdeal.main_arg11)) (m ((c.tc : Thread Cert.RwkvRefIdeal.nD Cert.RwkvRefIdeal.τ).loc Cert.RwkvRefIdeal.main_arg12)) (m ((c.tc : Thread Cert.RwkvRefIdeal.nD Cert.RwkvRefIdeal.τ).loc Cert.RwkvRefIdeal.main_arg13))) = (fun _ => 1#1)

def Pre_Tail (m : (ℓ : Loc Cert.Tail.nD Cert.Tail.τ Cert.Tail.sig) → Buf (Elt Bits) ℓ) : Prop :=
  True

def Pre_TailIdeal (m : (ℓ : Loc Cert.TailIdeal.nD Cert.TailIdeal.τ Cert.TailIdeal.sig) → Buf (Elt Ideal) ℓ) : Prop :=
  True

def Pre_TailRefIdeal (m : (ℓ : Loc Cert.TailRefIdeal.nD Cert.TailRefIdeal.τ Cert.TailRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_TailS (m : (ℓ : Loc Cert.TailS.nD Cert.TailS.τ Cert.TailS.sig) → Buf (Elt Bits) ℓ) : Prop :=
  True

def Pre_TailSIdeal (m : (ℓ : Loc Cert.TailSIdeal.nD Cert.TailSIdeal.τ Cert.TailSIdeal.sig) → Buf (Elt Ideal) ℓ) : Prop :=
  True

def Pre_TailSRefIdeal (m : (ℓ : Loc Cert.TailSRefIdeal.nD Cert.TailSRefIdeal.τ Cert.TailSRefIdeal.sig) → Buf (Elt Ideal) ℓ) : Prop :=
  True

def Pre_InProjS (m : (ℓ : Loc Cert.InProjS.nD Cert.InProjS.τ Cert.InProjS.sig) → Buf (Elt Bits) ℓ) : Prop :=
  True

def Pre_InProjSIdeal (m : (ℓ : Loc Cert.InProjSIdeal.nD Cert.InProjSIdeal.τ Cert.InProjSIdeal.sig) → Buf (Elt Ideal) ℓ) : Prop :=
  True

def Pre_InProjSRefIdeal (m : (ℓ : Loc Cert.InProjSRefIdeal.nD Cert.InProjSRefIdeal.τ Cert.InProjSRefIdeal.sig) → Buf (Elt Ideal) ℓ) : Prop :=
  True

def quiescent_Rwkv [hRwkv : Cert.Rwkv.Facts] : Prop :=
  ∀ (m : (ℓ : Loc Cert.Rwkv.nD Cert.Rwkv.τ Cert.Rwkv.sig) → Buf (Elt Bits) ℓ) (g : Dev Cert.Rwkv.nD → PrngReg), Pre_Rwkv m →
    θ_run (Cert.Rwkv.defs (F := Bits)) (onTc (τ := Cert.Rwkv.τ) (Cert.Rwkv.main (F := Bits))) ⟨m, fun _ => 0, g⟩ (fun r => (∀ c : Dev Cert.Rwkv.nD,
      r.2.mem ((c.tc : Thread Cert.Rwkv.nD Cert.Rwkv.τ).loc Cert.Rwkv.main_arg0) = m ((c.tc : Thread Cert.Rwkv.nD Cert.Rwkv.τ).loc Cert.Rwkv.main_arg0)
      ∧ r.2.mem ((c.tc : Thread Cert.Rwkv.nD Cert.Rwkv.τ).loc Cert.Rwkv.main_arg1) = m ((c.tc : Thread Cert.Rwkv.nD Cert.Rwkv.τ).loc Cert.Rwkv.main_arg1)
      ∧ r.2.mem ((c.tc : Thread Cert.Rwkv.nD Cert.Rwkv.τ).loc Cert.Rwkv.main_arg2) = m ((c.tc : Thread Cert.Rwkv.nD Cert.Rwkv.τ).loc Cert.Rwkv.main_arg2)
      ∧ r.2.mem ((c.tc : Thread Cert.Rwkv.nD Cert.Rwkv.τ).loc Cert.Rwkv.main_arg3) = m ((c.tc : Thread Cert.Rwkv.nD Cert.Rwkv.τ).loc Cert.Rwkv.main_arg3)
      ∧ r.2.mem ((c.tc : Thread Cert.Rwkv.nD Cert.Rwkv.τ).loc Cert.Rwkv.main_arg4) = m ((c.tc : Thread Cert.Rwkv.nD Cert.Rwkv.τ).loc Cert.Rwkv.main_arg4)
      ∧ r.2.mem ((c.tc : Thread Cert.Rwkv.nD Cert.Rwkv.τ).loc Cert.Rwkv.main_arg5) = m ((c.tc : Thread Cert.Rwkv.nD Cert.Rwkv.τ).loc Cert.Rwkv.main_arg5)
      ∧ r.2.mem ((c.tc : Thread Cert.Rwkv.nD Cert.Rwkv.τ).loc Cert.Rwkv.main_arg6) = m ((c.tc : Thread Cert.Rwkv.nD Cert.Rwkv.τ).loc Cert.Rwkv.main_arg6)
      ∧ r.2.mem ((c.tc : Thread Cert.Rwkv.nD Cert.Rwkv.τ).loc Cert.Rwkv.main_arg7) = m ((c.tc : Thread Cert.Rwkv.nD Cert.Rwkv.τ).loc Cert.Rwkv.main_arg7)
      ∧ r.2.mem ((c.tc : Thread Cert.Rwkv.nD Cert.Rwkv.τ).loc Cert.Rwkv.main_arg8) = m ((c.tc : Thread Cert.Rwkv.nD Cert.Rwkv.τ).loc Cert.Rwkv.main_arg8)
      ∧ r.2.mem ((c.tc : Thread Cert.Rwkv.nD Cert.Rwkv.τ).loc Cert.Rwkv.main_arg9) = m ((c.tc : Thread Cert.Rwkv.nD Cert.Rwkv.τ).loc Cert.Rwkv.main_arg9)
      ∧ r.2.mem ((c.tc : Thread Cert.Rwkv.nD Cert.Rwkv.τ).loc Cert.Rwkv.main_arg10) = m ((c.tc : Thread Cert.Rwkv.nD Cert.Rwkv.τ).loc Cert.Rwkv.main_arg10)
      ∧ r.2.mem ((c.tc : Thread Cert.Rwkv.nD Cert.Rwkv.τ).loc Cert.Rwkv.main_arg11) = m ((c.tc : Thread Cert.Rwkv.nD Cert.Rwkv.τ).loc Cert.Rwkv.main_arg11)
      ∧ r.2.mem ((c.tc : Thread Cert.Rwkv.nD Cert.Rwkv.τ).loc Cert.Rwkv.main_arg12) = m ((c.tc : Thread Cert.Rwkv.nD Cert.Rwkv.τ).loc Cert.Rwkv.main_arg12)
      ∧ r.2.mem ((c.tc : Thread Cert.Rwkv.nD Cert.Rwkv.τ).loc Cert.Rwkv.main_arg13) = m ((c.tc : Thread Cert.Rwkv.nD Cert.Rwkv.τ).loc Cert.Rwkv.main_arg13))
      ∧ r.2.sem = fun _ => 0)

def quiescent_RwkvIdeal [hRwkvIdeal : Cert.RwkvIdeal.Facts] : Prop :=
  ∀ (m : (ℓ : Loc Cert.RwkvIdeal.nD Cert.RwkvIdeal.τ Cert.RwkvIdeal.sig) → Buf (Elt Ideal) ℓ) (g : Dev Cert.RwkvIdeal.nD → PrngReg), Pre_RwkvIdeal m →
    θ_run (Cert.RwkvIdeal.defs (F := Ideal)) (onTc (τ := Cert.RwkvIdeal.τ) (Cert.RwkvIdeal.main (F := Ideal))) ⟨m, fun _ => 0, g⟩ (fun r => (∀ c : Dev Cert.RwkvIdeal.nD,
      r.2.mem ((c.tc : Thread Cert.RwkvIdeal.nD Cert.RwkvIdeal.τ).loc Cert.RwkvIdeal.main_arg0) = m ((c.tc : Thread Cert.RwkvIdeal.nD Cert.RwkvIdeal.τ).loc Cert.RwkvIdeal.main_arg0)
      ∧ r.2.mem ((c.tc : Thread Cert.RwkvIdeal.nD Cert.RwkvIdeal.τ).loc Cert.RwkvIdeal.main_arg1) = m ((c.tc : Thread Cert.RwkvIdeal.nD Cert.RwkvIdeal.τ).loc Cert.RwkvIdeal.main_arg1)
      ∧ r.2.mem ((c.tc : Thread Cert.RwkvIdeal.nD Cert.RwkvIdeal.τ).loc Cert.RwkvIdeal.main_arg2) = m ((c.tc : Thread Cert.RwkvIdeal.nD Cert.RwkvIdeal.τ).loc Cert.RwkvIdeal.main_arg2)
      ∧ r.2.mem ((c.tc : Thread Cert.RwkvIdeal.nD Cert.RwkvIdeal.τ).loc Cert.RwkvIdeal.main_arg3) = m ((c.tc : Thread Cert.RwkvIdeal.nD Cert.RwkvIdeal.τ).loc Cert.RwkvIdeal.main_arg3)
      ∧ r.2.mem ((c.tc : Thread Cert.RwkvIdeal.nD Cert.RwkvIdeal.τ).loc Cert.RwkvIdeal.main_arg4) = m ((c.tc : Thread Cert.RwkvIdeal.nD Cert.RwkvIdeal.τ).loc Cert.RwkvIdeal.main_arg4)
      ∧ r.2.mem ((c.tc : Thread Cert.RwkvIdeal.nD Cert.RwkvIdeal.τ).loc Cert.RwkvIdeal.main_arg5) = m ((c.tc : Thread Cert.RwkvIdeal.nD Cert.RwkvIdeal.τ).loc Cert.RwkvIdeal.main_arg5)
      ∧ r.2.mem ((c.tc : Thread Cert.RwkvIdeal.nD Cert.RwkvIdeal.τ).loc Cert.RwkvIdeal.main_arg6) = m ((c.tc : Thread Cert.RwkvIdeal.nD Cert.RwkvIdeal.τ).loc Cert.RwkvIdeal.main_arg6)
      ∧ r.2.mem ((c.tc : Thread Cert.RwkvIdeal.nD Cert.RwkvIdeal.τ).loc Cert.RwkvIdeal.main_arg7) = m ((c.tc : Thread Cert.RwkvIdeal.nD Cert.RwkvIdeal.τ).loc Cert.RwkvIdeal.main_arg7)
      ∧ r.2.mem ((c.tc : Thread Cert.RwkvIdeal.nD Cert.RwkvIdeal.τ).loc Cert.RwkvIdeal.main_arg8) = m ((c.tc : Thread Cert.RwkvIdeal.nD Cert.RwkvIdeal.τ).loc Cert.RwkvIdeal.main_arg8)
      ∧ r.2.mem ((c.tc : Thread Cert.RwkvIdeal.nD Cert.RwkvIdeal.τ).loc Cert.RwkvIdeal.main_arg9) = m ((c.tc : Thread Cert.RwkvIdeal.nD Cert.RwkvIdeal.τ).loc Cert.RwkvIdeal.main_arg9)
      ∧ r.2.mem ((c.tc : Thread Cert.RwkvIdeal.nD Cert.RwkvIdeal.τ).loc Cert.RwkvIdeal.main_arg10) = m ((c.tc : Thread Cert.RwkvIdeal.nD Cert.RwkvIdeal.τ).loc Cert.RwkvIdeal.main_arg10)
      ∧ r.2.mem ((c.tc : Thread Cert.RwkvIdeal.nD Cert.RwkvIdeal.τ).loc Cert.RwkvIdeal.main_arg11) = m ((c.tc : Thread Cert.RwkvIdeal.nD Cert.RwkvIdeal.τ).loc Cert.RwkvIdeal.main_arg11)
      ∧ r.2.mem ((c.tc : Thread Cert.RwkvIdeal.nD Cert.RwkvIdeal.τ).loc Cert.RwkvIdeal.main_arg12) = m ((c.tc : Thread Cert.RwkvIdeal.nD Cert.RwkvIdeal.τ).loc Cert.RwkvIdeal.main_arg12)
      ∧ r.2.mem ((c.tc : Thread Cert.RwkvIdeal.nD Cert.RwkvIdeal.τ).loc Cert.RwkvIdeal.main_arg13) = m ((c.tc : Thread Cert.RwkvIdeal.nD Cert.RwkvIdeal.τ).loc Cert.RwkvIdeal.main_arg13))
      ∧ r.2.sem = fun _ => 0)

def quiescent_RwkvIdeal_pre_finite [hRwkvIdeal : Cert.RwkvIdeal.Facts] [hPre_finite : Cert.Pre_finite.Facts] : Prop :=
  ∀ (m : (ℓ : Loc Cert.RwkvIdeal.nD Cert.RwkvIdeal.τ Cert.RwkvIdeal.sig) → Buf (Elt Ideal) ℓ) (g : Dev Cert.RwkvIdeal.nD → PrngReg), Pre_RwkvIdeal_finite m →
    θ_run (Cert.RwkvIdeal.defs (F := Ideal)) (onTc (τ := Cert.RwkvIdeal.τ) (Cert.RwkvIdeal.main (F := Ideal))) ⟨m, fun _ => 0, g⟩ (fun r => (∀ c : Dev Cert.RwkvIdeal.nD,
      r.2.mem ((c.tc : Thread Cert.RwkvIdeal.nD Cert.RwkvIdeal.τ).loc Cert.RwkvIdeal.main_arg0) = m ((c.tc : Thread Cert.RwkvIdeal.nD Cert.RwkvIdeal.τ).loc Cert.RwkvIdeal.main_arg0)
      ∧ r.2.mem ((c.tc : Thread Cert.RwkvIdeal.nD Cert.RwkvIdeal.τ).loc Cert.RwkvIdeal.main_arg1) = m ((c.tc : Thread Cert.RwkvIdeal.nD Cert.RwkvIdeal.τ).loc Cert.RwkvIdeal.main_arg1)
      ∧ r.2.mem ((c.tc : Thread Cert.RwkvIdeal.nD Cert.RwkvIdeal.τ).loc Cert.RwkvIdeal.main_arg2) = m ((c.tc : Thread Cert.RwkvIdeal.nD Cert.RwkvIdeal.τ).loc Cert.RwkvIdeal.main_arg2)
      ∧ r.2.mem ((c.tc : Thread Cert.RwkvIdeal.nD Cert.RwkvIdeal.τ).loc Cert.RwkvIdeal.main_arg3) = m ((c.tc : Thread Cert.RwkvIdeal.nD Cert.RwkvIdeal.τ).loc Cert.RwkvIdeal.main_arg3)
      ∧ r.2.mem ((c.tc : Thread Cert.RwkvIdeal.nD Cert.RwkvIdeal.τ).loc Cert.RwkvIdeal.main_arg4) = m ((c.tc : Thread Cert.RwkvIdeal.nD Cert.RwkvIdeal.τ).loc Cert.RwkvIdeal.main_arg4)
      ∧ r.2.mem ((c.tc : Thread Cert.RwkvIdeal.nD Cert.RwkvIdeal.τ).loc Cert.RwkvIdeal.main_arg5) = m ((c.tc : Thread Cert.RwkvIdeal.nD Cert.RwkvIdeal.τ).loc Cert.RwkvIdeal.main_arg5)
      ∧ r.2.mem ((c.tc : Thread Cert.RwkvIdeal.nD Cert.RwkvIdeal.τ).loc Cert.RwkvIdeal.main_arg6) = m ((c.tc : Thread Cert.RwkvIdeal.nD Cert.RwkvIdeal.τ).loc Cert.RwkvIdeal.main_arg6)
      ∧ r.2.mem ((c.tc : Thread Cert.RwkvIdeal.nD Cert.RwkvIdeal.τ).loc Cert.RwkvIdeal.main_arg7) = m ((c.tc : Thread Cert.RwkvIdeal.nD Cert.RwkvIdeal.τ).loc Cert.RwkvIdeal.main_arg7)
      ∧ r.2.mem ((c.tc : Thread Cert.RwkvIdeal.nD Cert.RwkvIdeal.τ).loc Cert.RwkvIdeal.main_arg8) = m ((c.tc : Thread Cert.RwkvIdeal.nD Cert.RwkvIdeal.τ).loc Cert.RwkvIdeal.main_arg8)
      ∧ r.2.mem ((c.tc : Thread Cert.RwkvIdeal.nD Cert.RwkvIdeal.τ).loc Cert.RwkvIdeal.main_arg9) = m ((c.tc : Thread Cert.RwkvIdeal.nD Cert.RwkvIdeal.τ).loc Cert.RwkvIdeal.main_arg9)
      ∧ r.2.mem ((c.tc : Thread Cert.RwkvIdeal.nD Cert.RwkvIdeal.τ).loc Cert.RwkvIdeal.main_arg10) = m ((c.tc : Thread Cert.RwkvIdeal.nD Cert.RwkvIdeal.τ).loc Cert.RwkvIdeal.main_arg10)
      ∧ r.2.mem ((c.tc : Thread Cert.RwkvIdeal.nD Cert.RwkvIdeal.τ).loc Cert.RwkvIdeal.main_arg11) = m ((c.tc : Thread Cert.RwkvIdeal.nD Cert.RwkvIdeal.τ).loc Cert.RwkvIdeal.main_arg11)
      ∧ r.2.mem ((c.tc : Thread Cert.RwkvIdeal.nD Cert.RwkvIdeal.τ).loc Cert.RwkvIdeal.main_arg12) = m ((c.tc : Thread Cert.RwkvIdeal.nD Cert.RwkvIdeal.τ).loc Cert.RwkvIdeal.main_arg12)
      ∧ r.2.mem ((c.tc : Thread Cert.RwkvIdeal.nD Cert.RwkvIdeal.τ).loc Cert.RwkvIdeal.main_arg13) = m ((c.tc : Thread Cert.RwkvIdeal.nD Cert.RwkvIdeal.τ).loc Cert.RwkvIdeal.main_arg13))
      ∧ r.2.sem = fun _ => 0)

def quiescent_RwkvRefIdeal [hRwkvRefIdeal : Cert.RwkvRefIdeal.Facts] : Prop :=
  ∀ (m : (ℓ : Loc Cert.RwkvRefIdeal.nD Cert.RwkvRefIdeal.τ Cert.RwkvRefIdeal.sig) → Buf (Elt Ideal) ℓ) (g : Dev Cert.RwkvRefIdeal.nD → PrngReg), Pre_RwkvRefIdeal m →
    θ_run (Cert.RwkvRefIdeal.defs (F := Ideal)) (onTc (τ := Cert.RwkvRefIdeal.τ) (Cert.RwkvRefIdeal.main (F := Ideal))) ⟨m, fun _ => 0, g⟩ (fun r => (∀ c : Dev Cert.RwkvRefIdeal.nD,
      r.2.mem ((c.tc : Thread Cert.RwkvRefIdeal.nD Cert.RwkvRefIdeal.τ).loc Cert.RwkvRefIdeal.main_arg0) = m ((c.tc : Thread Cert.RwkvRefIdeal.nD Cert.RwkvRefIdeal.τ).loc Cert.RwkvRefIdeal.main_arg0)
      ∧ r.2.mem ((c.tc : Thread Cert.RwkvRefIdeal.nD Cert.RwkvRefIdeal.τ).loc Cert.RwkvRefIdeal.main_arg1) = m ((c.tc : Thread Cert.RwkvRefIdeal.nD Cert.RwkvRefIdeal.τ).loc Cert.RwkvRefIdeal.main_arg1)
      ∧ r.2.mem ((c.tc : Thread Cert.RwkvRefIdeal.nD Cert.RwkvRefIdeal.τ).loc Cert.RwkvRefIdeal.main_arg2) = m ((c.tc : Thread Cert.RwkvRefIdeal.nD Cert.RwkvRefIdeal.τ).loc Cert.RwkvRefIdeal.main_arg2)
      ∧ r.2.mem ((c.tc : Thread Cert.RwkvRefIdeal.nD Cert.RwkvRefIdeal.τ).loc Cert.RwkvRefIdeal.main_arg3) = m ((c.tc : Thread Cert.RwkvRefIdeal.nD Cert.RwkvRefIdeal.τ).loc Cert.RwkvRefIdeal.main_arg3)
      ∧ r.2.mem ((c.tc : Thread Cert.RwkvRefIdeal.nD Cert.RwkvRefIdeal.τ).loc Cert.RwkvRefIdeal.main_arg4) = m ((c.tc : Thread Cert.RwkvRefIdeal.nD Cert.RwkvRefIdeal.τ).loc Cert.RwkvRefIdeal.main_arg4)
      ∧ r.2.mem ((c.tc : Thread Cert.RwkvRefIdeal.nD Cert.RwkvRefIdeal.τ).loc Cert.RwkvRefIdeal.main_arg5) = m ((c.tc : Thread Cert.RwkvRefIdeal.nD Cert.RwkvRefIdeal.τ).loc Cert.RwkvRefIdeal.main_arg5)
      ∧ r.2.mem ((c.tc : Thread Cert.RwkvRefIdeal.nD Cert.RwkvRefIdeal.τ).loc Cert.RwkvRefIdeal.main_arg6) = m ((c.tc : Thread Cert.RwkvRefIdeal.nD Cert.RwkvRefIdeal.τ).loc Cert.RwkvRefIdeal.main_arg6)
      ∧ r.2.mem ((c.tc : Thread Cert.RwkvRefIdeal.nD Cert.RwkvRefIdeal.τ).loc Cert.RwkvRefIdeal.main_arg7) = m ((c.tc : Thread Cert.RwkvRefIdeal.nD Cert.RwkvRefIdeal.τ).loc Cert.RwkvRefIdeal.main_arg7)
      ∧ r.2.mem ((c.tc : Thread Cert.RwkvRefIdeal.nD Cert.RwkvRefIdeal.τ).loc Cert.RwkvRefIdeal.main_arg8) = m ((c.tc : Thread Cert.RwkvRefIdeal.nD Cert.RwkvRefIdeal.τ).loc Cert.RwkvRefIdeal.main_arg8)
      ∧ r.2.mem ((c.tc : Thread Cert.RwkvRefIdeal.nD Cert.RwkvRefIdeal.τ).loc Cert.RwkvRefIdeal.main_arg9) = m ((c.tc : Thread Cert.RwkvRefIdeal.nD Cert.RwkvRefIdeal.τ).loc Cert.RwkvRefIdeal.main_arg9)
      ∧ r.2.mem ((c.tc : Thread Cert.RwkvRefIdeal.nD Cert.RwkvRefIdeal.τ).loc Cert.RwkvRefIdeal.main_arg10) = m ((c.tc : Thread Cert.RwkvRefIdeal.nD Cert.RwkvRefIdeal.τ).loc Cert.RwkvRefIdeal.main_arg10)
      ∧ r.2.mem ((c.tc : Thread Cert.RwkvRefIdeal.nD Cert.RwkvRefIdeal.τ).loc Cert.RwkvRefIdeal.main_arg11) = m ((c.tc : Thread Cert.RwkvRefIdeal.nD Cert.RwkvRefIdeal.τ).loc Cert.RwkvRefIdeal.main_arg11)
      ∧ r.2.mem ((c.tc : Thread Cert.RwkvRefIdeal.nD Cert.RwkvRefIdeal.τ).loc Cert.RwkvRefIdeal.main_arg12) = m ((c.tc : Thread Cert.RwkvRefIdeal.nD Cert.RwkvRefIdeal.τ).loc Cert.RwkvRefIdeal.main_arg12)
      ∧ r.2.mem ((c.tc : Thread Cert.RwkvRefIdeal.nD Cert.RwkvRefIdeal.τ).loc Cert.RwkvRefIdeal.main_arg13) = m ((c.tc : Thread Cert.RwkvRefIdeal.nD Cert.RwkvRefIdeal.τ).loc Cert.RwkvRefIdeal.main_arg13))
      ∧ r.2.sem = fun _ => 0)

def quiescent_RwkvRefIdeal_pre_finite [hRwkvRefIdeal : Cert.RwkvRefIdeal.Facts] [hPre_finite : Cert.Pre_finite.Facts] : Prop :=
  ∀ (m : (ℓ : Loc Cert.RwkvRefIdeal.nD Cert.RwkvRefIdeal.τ Cert.RwkvRefIdeal.sig) → Buf (Elt Ideal) ℓ) (g : Dev Cert.RwkvRefIdeal.nD → PrngReg), Pre_RwkvRefIdeal_finite m →
    θ_run (Cert.RwkvRefIdeal.defs (F := Ideal)) (onTc (τ := Cert.RwkvRefIdeal.τ) (Cert.RwkvRefIdeal.main (F := Ideal))) ⟨m, fun _ => 0, g⟩ (fun r => (∀ c : Dev Cert.RwkvRefIdeal.nD,
      r.2.mem ((c.tc : Thread Cert.RwkvRefIdeal.nD Cert.RwkvRefIdeal.τ).loc Cert.RwkvRefIdeal.main_arg0) = m ((c.tc : Thread Cert.RwkvRefIdeal.nD Cert.RwkvRefIdeal.τ).loc Cert.RwkvRefIdeal.main_arg0)
      ∧ r.2.mem ((c.tc : Thread Cert.RwkvRefIdeal.nD Cert.RwkvRefIdeal.τ).loc Cert.RwkvRefIdeal.main_arg1) = m ((c.tc : Thread Cert.RwkvRefIdeal.nD Cert.RwkvRefIdeal.τ).loc Cert.RwkvRefIdeal.main_arg1)
      ∧ r.2.mem ((c.tc : Thread Cert.RwkvRefIdeal.nD Cert.RwkvRefIdeal.τ).loc Cert.RwkvRefIdeal.main_arg2) = m ((c.tc : Thread Cert.RwkvRefIdeal.nD Cert.RwkvRefIdeal.τ).loc Cert.RwkvRefIdeal.main_arg2)
      ∧ r.2.mem ((c.tc : Thread Cert.RwkvRefIdeal.nD Cert.RwkvRefIdeal.τ).loc Cert.RwkvRefIdeal.main_arg3) = m ((c.tc : Thread Cert.RwkvRefIdeal.nD Cert.RwkvRefIdeal.τ).loc Cert.RwkvRefIdeal.main_arg3)
      ∧ r.2.mem ((c.tc : Thread Cert.RwkvRefIdeal.nD Cert.RwkvRefIdeal.τ).loc Cert.RwkvRefIdeal.main_arg4) = m ((c.tc : Thread Cert.RwkvRefIdeal.nD Cert.RwkvRefIdeal.τ).loc Cert.RwkvRefIdeal.main_arg4)
      ∧ r.2.mem ((c.tc : Thread Cert.RwkvRefIdeal.nD Cert.RwkvRefIdeal.τ).loc Cert.RwkvRefIdeal.main_arg5) = m ((c.tc : Thread Cert.RwkvRefIdeal.nD Cert.RwkvRefIdeal.τ).loc Cert.RwkvRefIdeal.main_arg5)
      ∧ r.2.mem ((c.tc : Thread Cert.RwkvRefIdeal.nD Cert.RwkvRefIdeal.τ).loc Cert.RwkvRefIdeal.main_arg6) = m ((c.tc : Thread Cert.RwkvRefIdeal.nD Cert.RwkvRefIdeal.τ).loc Cert.RwkvRefIdeal.main_arg6)
      ∧ r.2.mem ((c.tc : Thread Cert.RwkvRefIdeal.nD Cert.RwkvRefIdeal.τ).loc Cert.RwkvRefIdeal.main_arg7) = m ((c.tc : Thread Cert.RwkvRefIdeal.nD Cert.RwkvRefIdeal.τ).loc Cert.RwkvRefIdeal.main_arg7)
      ∧ r.2.mem ((c.tc : Thread Cert.RwkvRefIdeal.nD Cert.RwkvRefIdeal.τ).loc Cert.RwkvRefIdeal.main_arg8) = m ((c.tc : Thread Cert.RwkvRefIdeal.nD Cert.RwkvRefIdeal.τ).loc Cert.RwkvRefIdeal.main_arg8)
      ∧ r.2.mem ((c.tc : Thread Cert.RwkvRefIdeal.nD Cert.RwkvRefIdeal.τ).loc Cert.RwkvRefIdeal.main_arg9) = m ((c.tc : Thread Cert.RwkvRefIdeal.nD Cert.RwkvRefIdeal.τ).loc Cert.RwkvRefIdeal.main_arg9)
      ∧ r.2.mem ((c.tc : Thread Cert.RwkvRefIdeal.nD Cert.RwkvRefIdeal.τ).loc Cert.RwkvRefIdeal.main_arg10) = m ((c.tc : Thread Cert.RwkvRefIdeal.nD Cert.RwkvRefIdeal.τ).loc Cert.RwkvRefIdeal.main_arg10)
      ∧ r.2.mem ((c.tc : Thread Cert.RwkvRefIdeal.nD Cert.RwkvRefIdeal.τ).loc Cert.RwkvRefIdeal.main_arg11) = m ((c.tc : Thread Cert.RwkvRefIdeal.nD Cert.RwkvRefIdeal.τ).loc Cert.RwkvRefIdeal.main_arg11)
      ∧ r.2.mem ((c.tc : Thread Cert.RwkvRefIdeal.nD Cert.RwkvRefIdeal.τ).loc Cert.RwkvRefIdeal.main_arg12) = m ((c.tc : Thread Cert.RwkvRefIdeal.nD Cert.RwkvRefIdeal.τ).loc Cert.RwkvRefIdeal.main_arg12)
      ∧ r.2.mem ((c.tc : Thread Cert.RwkvRefIdeal.nD Cert.RwkvRefIdeal.τ).loc Cert.RwkvRefIdeal.main_arg13) = m ((c.tc : Thread Cert.RwkvRefIdeal.nD Cert.RwkvRefIdeal.τ).loc Cert.RwkvRefIdeal.main_arg13))
      ∧ r.2.sem = fun _ => 0)

def quiescent_Tail [hTail : Cert.Tail.Facts] : Prop :=
  ∀ (m : (ℓ : Loc Cert.Tail.nD Cert.Tail.τ Cert.Tail.sig) → Buf (Elt Bits) ℓ) (g : Dev Cert.Tail.nD → PrngReg), Pre_Tail m →
    θ_run (Cert.Tail.defs (F := Bits)) (onTc (τ := Cert.Tail.τ) (Cert.Tail.main (F := Bits))) ⟨m, fun _ => 0, g⟩ (fun r => (∀ c : Dev Cert.Tail.nD,
      r.2.mem ((c.tc : Thread Cert.Tail.nD Cert.Tail.τ).loc Cert.Tail.main_arg0) = m ((c.tc : Thread Cert.Tail.nD Cert.Tail.τ).loc Cert.Tail.main_arg0)
      ∧ r.2.mem ((c.tc : Thread Cert.Tail.nD Cert.Tail.τ).loc Cert.Tail.main_arg1) = m ((c.tc : Thread Cert.Tail.nD Cert.Tail.τ).loc Cert.Tail.main_arg1)
      ∧ r.2.mem ((c.tc : Thread Cert.Tail.nD Cert.Tail.τ).loc Cert.Tail.main_arg2) = m ((c.tc : Thread Cert.Tail.nD Cert.Tail.τ).loc Cert.Tail.main_arg2)
      ∧ r.2.mem ((c.tc : Thread Cert.Tail.nD Cert.Tail.τ).loc Cert.Tail.main_arg3) = m ((c.tc : Thread Cert.Tail.nD Cert.Tail.τ).loc Cert.Tail.main_arg3)
      ∧ r.2.mem ((c.tc : Thread Cert.Tail.nD Cert.Tail.τ).loc Cert.Tail.main_arg4) = m ((c.tc : Thread Cert.Tail.nD Cert.Tail.τ).loc Cert.Tail.main_arg4)
      ∧ r.2.mem ((c.tc : Thread Cert.Tail.nD Cert.Tail.τ).loc Cert.Tail.main_arg5) = m ((c.tc : Thread Cert.Tail.nD Cert.Tail.τ).loc Cert.Tail.main_arg5)
      ∧ r.2.mem ((c.tc : Thread Cert.Tail.nD Cert.Tail.τ).loc Cert.Tail.main_arg6) = m ((c.tc : Thread Cert.Tail.nD Cert.Tail.τ).loc Cert.Tail.main_arg6)
      ∧ r.2.mem ((c.tc : Thread Cert.Tail.nD Cert.Tail.τ).loc Cert.Tail.main_arg7) = m ((c.tc : Thread Cert.Tail.nD Cert.Tail.τ).loc Cert.Tail.main_arg7)
      ∧ r.2.mem ((c.tc : Thread Cert.Tail.nD Cert.Tail.τ).loc Cert.Tail.main_arg8) = m ((c.tc : Thread Cert.Tail.nD Cert.Tail.τ).loc Cert.Tail.main_arg8)
      ∧ r.2.mem ((c.tc : Thread Cert.Tail.nD Cert.Tail.τ).loc Cert.Tail.main_arg9) = m ((c.tc : Thread Cert.Tail.nD Cert.Tail.τ).loc Cert.Tail.main_arg9)
      ∧ r.2.mem ((c.tc : Thread Cert.Tail.nD Cert.Tail.τ).loc Cert.Tail.main_arg10) = m ((c.tc : Thread Cert.Tail.nD Cert.Tail.τ).loc Cert.Tail.main_arg10)
      ∧ r.2.mem ((c.tc : Thread Cert.Tail.nD Cert.Tail.τ).loc Cert.Tail.main_arg11) = m ((c.tc : Thread Cert.Tail.nD Cert.Tail.τ).loc Cert.Tail.main_arg11))
      ∧ r.2.sem = fun _ => 0)

def quiescent_TailIdeal [hTailIdeal : Cert.TailIdeal.Facts] : Prop :=
  ∀ (m : (ℓ : Loc Cert.TailIdeal.nD Cert.TailIdeal.τ Cert.TailIdeal.sig) → Buf (Elt Ideal) ℓ) (g : Dev Cert.TailIdeal.nD → PrngReg), Pre_TailIdeal m →
    θ_run (Cert.TailIdeal.defs (F := Ideal)) (onTc (τ := Cert.TailIdeal.τ) (Cert.TailIdeal.main (F := Ideal))) ⟨m, fun _ => 0, g⟩ (fun r => (∀ c : Dev Cert.TailIdeal.nD,
      r.2.mem ((c.tc : Thread Cert.TailIdeal.nD Cert.TailIdeal.τ).loc Cert.TailIdeal.main_arg0) = m ((c.tc : Thread Cert.TailIdeal.nD Cert.TailIdeal.τ).loc Cert.TailIdeal.main_arg0)
      ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
      ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
      ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
      ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
      ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
      ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
      ∧ r.2.mem ((c.tc : Thread Cert.TailIdeal.nD Cert.TailIdeal.τ).loc Cert.TailIdeal.main_arg7) = m ((c.tc : Thread Cert.TailIdeal.nD Cert.TailIdeal.τ).loc Cert.TailIdeal.main_arg7)
      ∧ r.2.mem ((c.tc : Thread Cert.TailIdeal.nD Cert.TailIdeal.τ).loc Cert.TailIdeal.main_arg8) = m ((c.tc : Thread Cert.TailIdeal.nD Cert.TailIdeal.τ).loc Cert.TailIdeal.main_arg8)
      ∧ r.2.mem ((c.tc : Thread Cert.TailIdeal.nD Cert.TailIdeal.τ).loc Cert.TailIdeal.main_arg9) = m ((c.tc : Thread Cert.TailIdeal.nD Cert.TailIdeal.τ).loc Cert.TailIdeal.main_arg9)
      ∧ r.2.mem ((c.tc : Thread Cert.TailIdeal.nD Cert.TailIdeal.τ).loc Cert.TailIdeal.main_arg10) = m ((c.tc : Thread Cert.TailIdeal.nD Cert.TailIdeal.τ).loc Cert.TailIdeal.main_arg10)
      ∧ r.2.mem ((c.tc : Thread Cert.TailIdeal.nD Cert.TailIdeal.τ).loc Cert.TailIdeal.main_arg11) = m ((c.tc : Thread Cert.TailIdeal.nD Cert.TailIdeal.τ).loc Cert.TailIdeal.main_arg11))
      ∧ r.2.sem = fun _ => 0)

def quiescent_TailRefIdeal [hTailRefIdeal : Cert.TailRefIdeal.Facts] : Prop :=
  ∀ (m : (ℓ : Loc Cert.TailRefIdeal.nD Cert.TailRefIdeal.τ Cert.TailRefIdeal.sig) → Buf (Elt Ideal) ℓ) (g : Dev Cert.TailRefIdeal.nD → PrngReg), Pre_TailRefIdeal m →
    θ_run (Cert.TailRefIdeal.defs (F := Ideal)) (onTc (τ := Cert.TailRefIdeal.τ) (Cert.TailRefIdeal.main (F := Ideal))) ⟨m, fun _ => 0, g⟩ (fun r => (∀ c : Dev Cert.TailRefIdeal.nD,
      r.2.mem ((c.tc : Thread Cert.TailRefIdeal.nD Cert.TailRefIdeal.τ).loc Cert.TailRefIdeal.main_arg0) = m ((c.tc : Thread Cert.TailRefIdeal.nD Cert.TailRefIdeal.τ).loc Cert.TailRefIdeal.main_arg0)
      ∧ r.2.mem ((c.tc : Thread Cert.TailRefIdeal.nD Cert.TailRefIdeal.τ).loc Cert.TailRefIdeal.main_arg1) = m ((c.tc : Thread Cert.TailRefIdeal.nD Cert.TailRefIdeal.τ).loc Cert.TailRefIdeal.main_arg1)
      ∧ r.2.mem ((c.tc : Thread Cert.TailRefIdeal.nD Cert.TailRefIdeal.τ).loc Cert.TailRefIdeal.main_arg2) = m ((c.tc : Thread Cert.TailRefIdeal.nD Cert.TailRefIdeal.τ).loc Cert.TailRefIdeal.main_arg2)
      ∧ r.2.mem ((c.tc : Thread Cert.TailRefIdeal.nD Cert.TailRefIdeal.τ).loc Cert.TailRefIdeal.main_arg3) = m ((c.tc : Thread Cert.TailRefIdeal.nD Cert.TailRefIdeal.τ).loc Cert.TailRefIdeal.main_arg3)
      ∧ r.2.mem ((c.tc : Thread Cert.TailRefIdeal.nD Cert.TailRefIdeal.τ).loc Cert.TailRefIdeal.main_arg4) = m ((c.tc : Thread Cert.TailRefIdeal.nD Cert.TailRefIdeal.τ).loc Cert.TailRefIdeal.main_arg4)
      ∧ r.2.mem ((c.tc : Thread Cert.TailRefIdeal.nD Cert.TailRefIdeal.τ).loc Cert.TailRefIdeal.main_arg5) = m ((c.tc : Thread Cert.TailRefIdeal.nD Cert.TailRefIdeal.τ).loc Cert.TailRefIdeal.main_arg5)
      ∧ r.2.mem ((c.tc : Thread Cert.TailRefIdeal.nD Cert.TailRefIdeal.τ).loc Cert.TailRefIdeal.main_arg6) = m ((c.tc : Thread Cert.TailRefIdeal.nD Cert.TailRefIdeal.τ).loc Cert.TailRefIdeal.main_arg6)
      ∧ r.2.mem ((c.tc : Thread Cert.TailRefIdeal.nD Cert.TailRefIdeal.τ).loc Cert.TailRefIdeal.main_arg7) = m ((c.tc : Thread Cert.TailRefIdeal.nD Cert.TailRefIdeal.τ).loc Cert.TailRefIdeal.main_arg7)
      ∧ r.2.mem ((c.tc : Thread Cert.TailRefIdeal.nD Cert.TailRefIdeal.τ).loc Cert.TailRefIdeal.main_arg8) = m ((c.tc : Thread Cert.TailRefIdeal.nD Cert.TailRefIdeal.τ).loc Cert.TailRefIdeal.main_arg8)
      ∧ r.2.mem ((c.tc : Thread Cert.TailRefIdeal.nD Cert.TailRefIdeal.τ).loc Cert.TailRefIdeal.main_arg9) = m ((c.tc : Thread Cert.TailRefIdeal.nD Cert.TailRefIdeal.τ).loc Cert.TailRefIdeal.main_arg9)
      ∧ r.2.mem ((c.tc : Thread Cert.TailRefIdeal.nD Cert.TailRefIdeal.τ).loc Cert.TailRefIdeal.main_arg10) = m ((c.tc : Thread Cert.TailRefIdeal.nD Cert.TailRefIdeal.τ).loc Cert.TailRefIdeal.main_arg10)
      ∧ r.2.mem ((c.tc : Thread Cert.TailRefIdeal.nD Cert.TailRefIdeal.τ).loc Cert.TailRefIdeal.main_arg11) = m ((c.tc : Thread Cert.TailRefIdeal.nD Cert.TailRefIdeal.τ).loc Cert.TailRefIdeal.main_arg11))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2))
      ∧ r.2.sem = fun _ => 0)

def quiescent_TailS [hTailS : Cert.TailS.Facts] : Prop :=
  ∀ (m : (ℓ : Loc Cert.TailS.nD Cert.TailS.τ Cert.TailS.sig) → Buf (Elt Bits) ℓ) (g : Dev Cert.TailS.nD → PrngReg), Pre_TailS m →
    θ_run (Cert.TailS.defs (F := Bits)) (onTc (τ := Cert.TailS.τ) (Cert.TailS.main (F := Bits))) ⟨m, fun _ => 0, g⟩ (fun r => (∀ c : Dev Cert.TailS.nD,
      r.2.mem ((c.tc : Thread Cert.TailS.nD Cert.TailS.τ).loc Cert.TailS.main_arg0) = m ((c.tc : Thread Cert.TailS.nD Cert.TailS.τ).loc Cert.TailS.main_arg0)
      ∧ r.2.mem ((c.tc : Thread Cert.TailS.nD Cert.TailS.τ).loc Cert.TailS.main_arg1) = m ((c.tc : Thread Cert.TailS.nD Cert.TailS.τ).loc Cert.TailS.main_arg1)
      ∧ r.2.mem ((c.tc : Thread Cert.TailS.nD Cert.TailS.τ).loc Cert.TailS.main_arg2) = m ((c.tc : Thread Cert.TailS.nD Cert.TailS.τ).loc Cert.TailS.main_arg2)
      ∧ r.2.mem ((c.tc : Thread Cert.TailS.nD Cert.TailS.τ).loc Cert.TailS.main_arg3) = m ((c.tc : Thread Cert.TailS.nD Cert.TailS.τ).loc Cert.TailS.main_arg3)
      ∧ r.2.mem ((c.tc : Thread Cert.TailS.nD Cert.TailS.τ).loc Cert.TailS.main_arg4) = m ((c.tc : Thread Cert.TailS.nD Cert.TailS.τ).loc Cert.TailS.main_arg4)
      ∧ r.2.mem ((c.tc : Thread Cert.TailS.nD Cert.TailS.τ).loc Cert.TailS.main_arg5) = m ((c.tc : Thread Cert.TailS.nD Cert.TailS.τ).loc Cert.TailS.main_arg5)
      ∧ r.2.mem ((c.tc : Thread Cert.TailS.nD Cert.TailS.τ).loc Cert.TailS.main_arg6) = m ((c.tc : Thread Cert.TailS.nD Cert.TailS.τ).loc Cert.TailS.main_arg6)
      ∧ r.2.mem ((c.tc : Thread Cert.TailS.nD Cert.TailS.τ).loc Cert.TailS.main_arg7) = m ((c.tc : Thread Cert.TailS.nD Cert.TailS.τ).loc Cert.TailS.main_arg7)
      ∧ r.2.mem ((c.tc : Thread Cert.TailS.nD Cert.TailS.τ).loc Cert.TailS.main_arg8) = m ((c.tc : Thread Cert.TailS.nD Cert.TailS.τ).loc Cert.TailS.main_arg8)
      ∧ r.2.mem ((c.tc : Thread Cert.TailS.nD Cert.TailS.τ).loc Cert.TailS.main_arg9) = m ((c.tc : Thread Cert.TailS.nD Cert.TailS.τ).loc Cert.TailS.main_arg9)
      ∧ r.2.mem ((c.tc : Thread Cert.TailS.nD Cert.TailS.τ).loc Cert.TailS.main_arg10) = m ((c.tc : Thread Cert.TailS.nD Cert.TailS.τ).loc Cert.TailS.main_arg10)
      ∧ r.2.mem ((c.tc : Thread Cert.TailS.nD Cert.TailS.τ).loc Cert.TailS.main_arg11) = m ((c.tc : Thread Cert.TailS.nD Cert.TailS.τ).loc Cert.TailS.main_arg11))
      ∧ r.2.sem = fun _ => 0)

def quiescent_TailSIdeal [hTailSIdeal : Cert.TailSIdeal.Facts] : Prop :=
  ∀ (m : (ℓ : Loc Cert.TailSIdeal.nD Cert.TailSIdeal.τ Cert.TailSIdeal.sig) → Buf (Elt Ideal) ℓ) (g : Dev Cert.TailSIdeal.nD → PrngReg), Pre_TailSIdeal m →
    θ_run (Cert.TailSIdeal.defs (F := Ideal)) (onTc (τ := Cert.TailSIdeal.τ) (Cert.TailSIdeal.main (F := Ideal))) ⟨m, fun _ => 0, g⟩ (fun r => (∀ c : Dev Cert.TailSIdeal.nD,
      r.2.mem ((c.tc : Thread Cert.TailSIdeal.nD Cert.TailSIdeal.τ).loc Cert.TailSIdeal.main_arg0) = m ((c.tc : Thread Cert.TailSIdeal.nD Cert.TailSIdeal.τ).loc Cert.TailSIdeal.main_arg0)
      ∧ r.2.mem ((c.tc : Thread Cert.TailSIdeal.nD Cert.TailSIdeal.τ).loc Cert.TailSIdeal.main_arg1) = m ((c.tc : Thread Cert.TailSIdeal.nD Cert.TailSIdeal.τ).loc Cert.TailSIdeal.main_arg1)
      ∧ r.2.mem ((c.tc : Thread Cert.TailSIdeal.nD Cert.TailSIdeal.τ).loc Cert.TailSIdeal.main_arg2) = m ((c.tc : Thread Cert.TailSIdeal.nD Cert.TailSIdeal.τ).loc Cert.TailSIdeal.main_arg2)
      ∧ r.2.mem ((c.tc : Thread Cert.TailSIdeal.nD Cert.TailSIdeal.τ).loc Cert.TailSIdeal.main_arg3) = m ((c.tc : Thread Cert.TailSIdeal.nD Cert.TailSIdeal.τ).loc Cert.TailSIdeal.main_arg3)
      ∧ r.2.mem ((c.tc : Thread Cert.TailSIdeal.nD Cert.TailSIdeal.τ).loc Cert.TailSIdeal.main_arg4) = m ((c.tc : Thread Cert.TailSIdeal.nD Cert.TailSIdeal.τ).loc Cert.TailSIdeal.main_arg4)
      ∧ r.2.mem ((c.tc : Thread Cert.TailSIdeal.nD Cert.TailSIdeal.τ).loc Cert.TailSIdeal.main_arg5) = m ((c.tc : Thread Cert.TailSIdeal.nD Cert.TailSIdeal.τ).loc Cert.TailSIdeal.main_arg5)
      ∧ r.2.mem ((c.tc : Thread Cert.TailSIdeal.nD Cert.TailSIdeal.τ).loc Cert.TailSIdeal.main_arg6) = m ((c.tc : Thread Cert.TailSIdeal.nD Cert.TailSIdeal.τ).loc Cert.TailSIdeal.main_arg6)
      ∧ r.2.mem ((c.tc : Thread Cert.TailSIdeal.nD Cert.TailSIdeal.τ).loc Cert.TailSIdeal.main_arg7) = m ((c.tc : Thread Cert.TailSIdeal.nD Cert.TailSIdeal.τ).loc Cert.TailSIdeal.main_arg7)
      ∧ r.2.mem ((c.tc : Thread Cert.TailSIdeal.nD Cert.TailSIdeal.τ).loc Cert.TailSIdeal.main_arg8) = m ((c.tc : Thread Cert.TailSIdeal.nD Cert.TailSIdeal.τ).loc Cert.TailSIdeal.main_arg8)
      ∧ r.2.mem ((c.tc : Thread Cert.TailSIdeal.nD Cert.TailSIdeal.τ).loc Cert.TailSIdeal.main_arg9) = m ((c.tc : Thread Cert.TailSIdeal.nD Cert.TailSIdeal.τ).loc Cert.TailSIdeal.main_arg9)
      ∧ r.2.mem ((c.tc : Thread Cert.TailSIdeal.nD Cert.TailSIdeal.τ).loc Cert.TailSIdeal.main_arg10) = m ((c.tc : Thread Cert.TailSIdeal.nD Cert.TailSIdeal.τ).loc Cert.TailSIdeal.main_arg10)
      ∧ r.2.mem ((c.tc : Thread Cert.TailSIdeal.nD Cert.TailSIdeal.τ).loc Cert.TailSIdeal.main_arg11) = m ((c.tc : Thread Cert.TailSIdeal.nD Cert.TailSIdeal.τ).loc Cert.TailSIdeal.main_arg11))
      ∧ r.2.sem = fun _ => 0)

def quiescent_TailSRefIdeal [hTailSRefIdeal : Cert.TailSRefIdeal.Facts] : Prop :=
  ∀ (m : (ℓ : Loc Cert.TailSRefIdeal.nD Cert.TailSRefIdeal.τ Cert.TailSRefIdeal.sig) → Buf (Elt Ideal) ℓ) (g : Dev Cert.TailSRefIdeal.nD → PrngReg), Pre_TailSRefIdeal m →
    θ_run (Cert.TailSRefIdeal.defs (F := Ideal)) (onTc (τ := Cert.TailSRefIdeal.τ) (Cert.TailSRefIdeal.main (F := Ideal))) ⟨m, fun _ => 0, g⟩ (fun r => (∀ c : Dev Cert.TailSRefIdeal.nD,
      r.2.mem ((c.tc : Thread Cert.TailSRefIdeal.nD Cert.TailSRefIdeal.τ).loc Cert.TailSRefIdeal.main_arg0) = m ((c.tc : Thread Cert.TailSRefIdeal.nD Cert.TailSRefIdeal.τ).loc Cert.TailSRefIdeal.main_arg0)
      ∧ r.2.mem ((c.tc : Thread Cert.TailSRefIdeal.nD Cert.TailSRefIdeal.τ).loc Cert.TailSRefIdeal.main_arg1) = m ((c.tc : Thread Cert.TailSRefIdeal.nD Cert.TailSRefIdeal.τ).loc Cert.TailSRefIdeal.main_arg1)
      ∧ r.2.mem ((c.tc : Thread Cert.TailSRefIdeal.nD Cert.TailSRefIdeal.τ).loc Cert.TailSRefIdeal.main_arg2) = m ((c.tc : Thread Cert.TailSRefIdeal.nD Cert.TailSRefIdeal.τ).loc Cert.TailSRefIdeal.main_arg2)
      ∧ r.2.mem ((c.tc : Thread Cert.TailSRefIdeal.nD Cert.TailSRefIdeal.τ).loc Cert.TailSRefIdeal.main_arg3) = m ((c.tc : Thread Cert.TailSRefIdeal.nD Cert.TailSRefIdeal.τ).loc Cert.TailSRefIdeal.main_arg3)
      ∧ r.2.mem ((c.tc : Thread Cert.TailSRefIdeal.nD Cert.TailSRefIdeal.τ).loc Cert.TailSRefIdeal.main_arg4) = m ((c.tc : Thread Cert.TailSRefIdeal.nD Cert.TailSRefIdeal.τ).loc Cert.TailSRefIdeal.main_arg4)
      ∧ r.2.mem ((c.tc : Thread Cert.TailSRefIdeal.nD Cert.TailSRefIdeal.τ).loc Cert.TailSRefIdeal.main_arg5) = m ((c.tc : Thread Cert.TailSRefIdeal.nD Cert.TailSRefIdeal.τ).loc Cert.TailSRefIdeal.main_arg5)
      ∧ r.2.mem ((c.tc : Thread Cert.TailSRefIdeal.nD Cert.TailSRefIdeal.τ).loc Cert.TailSRefIdeal.main_arg6) = m ((c.tc : Thread Cert.TailSRefIdeal.nD Cert.TailSRefIdeal.τ).loc Cert.TailSRefIdeal.main_arg6)
      ∧ r.2.mem ((c.tc : Thread Cert.TailSRefIdeal.nD Cert.TailSRefIdeal.τ).loc Cert.TailSRefIdeal.main_arg7) = m ((c.tc : Thread Cert.TailSRefIdeal.nD Cert.TailSRefIdeal.τ).loc Cert.TailSRefIdeal.main_arg7)
      ∧ r.2.mem ((c.tc : Thread Cert.TailSRefIdeal.nD Cert.TailSRefIdeal.τ).loc Cert.TailSRefIdeal.main_arg8) = m ((c.tc : Thread Cert.TailSRefIdeal.nD Cert.TailSRefIdeal.τ).loc Cert.TailSRefIdeal.main_arg8)
      ∧ r.2.mem ((c.tc : Thread Cert.TailSRefIdeal.nD Cert.TailSRefIdeal.τ).loc Cert.TailSRefIdeal.main_arg9) = m ((c.tc : Thread Cert.TailSRefIdeal.nD Cert.TailSRefIdeal.τ).loc Cert.TailSRefIdeal.main_arg9)
      ∧ r.2.mem ((c.tc : Thread Cert.TailSRefIdeal.nD Cert.TailSRefIdeal.τ).loc Cert.TailSRefIdeal.main_arg10) = m ((c.tc : Thread Cert.TailSRefIdeal.nD Cert.TailSRefIdeal.τ).loc Cert.TailSRefIdeal.main_arg10)
      ∧ r.2.mem ((c.tc : Thread Cert.TailSRefIdeal.nD Cert.TailSRefIdeal.τ).loc Cert.TailSRefIdeal.main_arg11) = m ((c.tc : Thread Cert.TailSRefIdeal.nD Cert.TailSRefIdeal.τ).loc Cert.TailSRefIdeal.main_arg11))
      ∧ r.2.sem = fun _ => 0)

def quiescent_InProjS [hInProjS : Cert.InProjS.Facts] : Prop :=
  ∀ (m : (ℓ : Loc Cert.InProjS.nD Cert.InProjS.τ Cert.InProjS.sig) → Buf (Elt Bits) ℓ) (g : Dev Cert.InProjS.nD → PrngReg), Pre_InProjS m →
    θ_run (Cert.InProjS.defs (F := Bits)) (onTc (τ := Cert.InProjS.τ) (Cert.InProjS.main (F := Bits))) ⟨m, fun _ => 0, g⟩ (fun r => (∀ c : Dev Cert.InProjS.nD,
      r.2.mem ((c.tc : Thread Cert.InProjS.nD Cert.InProjS.τ).loc Cert.InProjS.main_arg0) = m ((c.tc : Thread Cert.InProjS.nD Cert.InProjS.τ).loc Cert.InProjS.main_arg0)
      ∧ r.2.mem ((c.tc : Thread Cert.InProjS.nD Cert.InProjS.τ).loc Cert.InProjS.main_arg1) = m ((c.tc : Thread Cert.InProjS.nD Cert.InProjS.τ).loc Cert.InProjS.main_arg1)
      ∧ r.2.mem ((c.tc : Thread Cert.InProjS.nD Cert.InProjS.τ).loc Cert.InProjS.main_arg2) = m ((c.tc : Thread Cert.InProjS.nD Cert.InProjS.τ).loc Cert.InProjS.main_arg2))
      ∧ r.2.sem = fun _ => 0)

def quiescent_InProjSIdeal [hInProjSIdeal : Cert.InProjSIdeal.Facts] : Prop :=
  ∀ (m : (ℓ : Loc Cert.InProjSIdeal.nD Cert.InProjSIdeal.τ Cert.InProjSIdeal.sig) → Buf (Elt Ideal) ℓ) (g : Dev Cert.InProjSIdeal.nD → PrngReg), Pre_InProjSIdeal m →
    θ_run (Cert.InProjSIdeal.defs (F := Ideal)) (onTc (τ := Cert.InProjSIdeal.τ) (Cert.InProjSIdeal.main (F := Ideal))) ⟨m, fun _ => 0, g⟩ (fun r => (∀ c : Dev Cert.InProjSIdeal.nD,
      r.2.mem ((c.tc : Thread Cert.InProjSIdeal.nD Cert.InProjSIdeal.τ).loc Cert.InProjSIdeal.main_arg0) = m ((c.tc : Thread Cert.InProjSIdeal.nD Cert.InProjSIdeal.τ).loc Cert.InProjSIdeal.main_arg0)
      ∧ r.2.mem ((c.tc : Thread Cert.InProjSIdeal.nD Cert.InProjSIdeal.τ).loc Cert.InProjSIdeal.main_arg1) = m ((c.tc : Thread Cert.InProjSIdeal.nD Cert.InProjSIdeal.τ).loc Cert.InProjSIdeal.main_arg1)
      ∧ r.2.mem ((c.tc : Thread Cert.InProjSIdeal.nD Cert.InProjSIdeal.τ).loc Cert.InProjSIdeal.main_arg2) = m ((c.tc : Thread Cert.InProjSIdeal.nD Cert.InProjSIdeal.τ).loc Cert.InProjSIdeal.main_arg2))
      ∧ r.2.sem = fun _ => 0)

def quiescent_InProjSRefIdeal [hInProjSRefIdeal : Cert.InProjSRefIdeal.Facts] : Prop :=
  ∀ (m : (ℓ : Loc Cert.InProjSRefIdeal.nD Cert.InProjSRefIdeal.τ Cert.InProjSRefIdeal.sig) → Buf (Elt Ideal) ℓ) (g : Dev Cert.InProjSRefIdeal.nD → PrngReg), Pre_InProjSRefIdeal m →
    θ_run (Cert.InProjSRefIdeal.defs (F := Ideal)) (onTc (τ := Cert.InProjSRefIdeal.τ) (Cert.InProjSRefIdeal.main (F := Ideal))) ⟨m, fun _ => 0, g⟩ (fun r => (∀ c : Dev Cert.InProjSRefIdeal.nD,
      r.2.mem ((c.tc : Thread Cert.InProjSRefIdeal.nD Cert.InProjSRefIdeal.τ).loc Cert.InProjSRefIdeal.main_arg0) = m ((c.tc : Thread Cert.InProjSRefIdeal.nD Cert.InProjSRefIdeal.τ).loc Cert.InProjSRefIdeal.main_arg0)
      ∧ r.2.mem ((c.tc : Thread Cert.InProjSRefIdeal.nD Cert.InProjSRefIdeal.τ).loc Cert.InProjSRefIdeal.main_arg1) = m ((c.tc : Thread Cert.InProjSRefIdeal.nD Cert.InProjSRefIdeal.τ).loc Cert.InProjSRefIdeal.main_arg1)
      ∧ r.2.mem ((c.tc : Thread Cert.InProjSRefIdeal.nD Cert.InProjSRefIdeal.τ).loc Cert.InProjSRefIdeal.main_arg2) = m ((c.tc : Thread Cert.InProjSRefIdeal.nD Cert.InProjSRefIdeal.τ).loc Cert.InProjSRefIdeal.main_arg2))
      ∧ r.2.sem = fun _ => 0)

def preserves_Rwkv_RwkvIdeal : Prop :=
  IdealRules.named_const.Statement Cert.RwkvIdeal.κ "eps_sq" .f32 0x179ABE15#32 ((5316911940649 / 5316911983139663491615228241121378304 : ℝ) : EReal)

def algebraic_RwkvIdeal_RwkvRefIdeal_pre_finite [hRwkvIdeal : Cert.RwkvIdeal.Facts] [hRwkvRefIdeal : Cert.RwkvRefIdeal.Facts] [hPre_finite : Cert.Pre_finite.Facts] : Prop :=
  ∀ (m : (ℓ : Loc Cert.RwkvIdeal.nD Cert.RwkvIdeal.τ Cert.RwkvIdeal.sig) → Buf (Elt Ideal) ℓ) (g : Dev Cert.RwkvIdeal.nD → PrngReg)
    (m' : (ℓ : Loc Cert.RwkvRefIdeal.nD Cert.RwkvRefIdeal.τ Cert.RwkvRefIdeal.sig) → Buf (Elt Ideal) ℓ) (g' : Dev Cert.RwkvRefIdeal.nD → PrngReg), Pre_RwkvIdeal_finite m →
    (∀ c : Dev Cert.RwkvIdeal.nD,
      m' ((c.tc : Thread Cert.RwkvRefIdeal.nD Cert.RwkvRefIdeal.τ).loc Cert.RwkvRefIdeal.main_arg0) = m ((c.tc : Thread Cert.RwkvIdeal.nD Cert.RwkvIdeal.τ).loc Cert.RwkvIdeal.main_arg0)
      ∧ m' ((c.tc : Thread Cert.RwkvRefIdeal.nD Cert.RwkvRefIdeal.τ).loc Cert.RwkvRefIdeal.main_arg1) = m ((c.tc : Thread Cert.RwkvIdeal.nD Cert.RwkvIdeal.τ).loc Cert.RwkvIdeal.main_arg1)
      ∧ m' ((c.tc : Thread Cert.RwkvRefIdeal.nD Cert.RwkvRefIdeal.τ).loc Cert.RwkvRefIdeal.main_arg2) = m ((c.tc : Thread Cert.RwkvIdeal.nD Cert.RwkvIdeal.τ).loc Cert.RwkvIdeal.main_arg2)
      ∧ m' ((c.tc : Thread Cert.RwkvRefIdeal.nD Cert.RwkvRefIdeal.τ).loc Cert.RwkvRefIdeal.main_arg3) = m ((c.tc : Thread Cert.RwkvIdeal.nD Cert.RwkvIdeal.τ).loc Cert.RwkvIdeal.main_arg3)
      ∧ m' ((c.tc : Thread Cert.RwkvRefIdeal.nD Cert.RwkvRefIdeal.τ).loc Cert.RwkvRefIdeal.main_arg4) = m ((c.tc : Thread Cert.RwkvIdeal.nD Cert.RwkvIdeal.τ).loc Cert.RwkvIdeal.main_arg4)
      ∧ m' ((c.tc : Thread Cert.RwkvRefIdeal.nD Cert.RwkvRefIdeal.τ).loc Cert.RwkvRefIdeal.main_arg5) = m ((c.tc : Thread Cert.RwkvIdeal.nD Cert.RwkvIdeal.τ).loc Cert.RwkvIdeal.main_arg5)
      ∧ m' ((c.tc : Thread Cert.RwkvRefIdeal.nD Cert.RwkvRefIdeal.τ).loc Cert.RwkvRefIdeal.main_arg6) = m ((c.tc : Thread Cert.RwkvIdeal.nD Cert.RwkvIdeal.τ).loc Cert.RwkvIdeal.main_arg6)
      ∧ m' ((c.tc : Thread Cert.RwkvRefIdeal.nD Cert.RwkvRefIdeal.τ).loc Cert.RwkvRefIdeal.main_arg7) = m ((c.tc : Thread Cert.RwkvIdeal.nD Cert.RwkvIdeal.τ).loc Cert.RwkvIdeal.main_arg7)
      ∧ m' ((c.tc : Thread Cert.RwkvRefIdeal.nD Cert.RwkvRefIdeal.τ).loc Cert.RwkvRefIdeal.main_arg8) = m ((c.tc : Thread Cert.RwkvIdeal.nD Cert.RwkvIdeal.τ).loc Cert.RwkvIdeal.main_arg8)
      ∧ m' ((c.tc : Thread Cert.RwkvRefIdeal.nD Cert.RwkvRefIdeal.τ).loc Cert.RwkvRefIdeal.main_arg9) = m ((c.tc : Thread Cert.RwkvIdeal.nD Cert.RwkvIdeal.τ).loc Cert.RwkvIdeal.main_arg9)
      ∧ m' ((c.tc : Thread Cert.RwkvRefIdeal.nD Cert.RwkvRefIdeal.τ).loc Cert.RwkvRefIdeal.main_arg10) = m ((c.tc : Thread Cert.RwkvIdeal.nD Cert.RwkvIdeal.τ).loc Cert.RwkvIdeal.main_arg10)
      ∧ m' ((c.tc : Thread Cert.RwkvRefIdeal.nD Cert.RwkvRefIdeal.τ).loc Cert.RwkvRefIdeal.main_arg11) = m ((c.tc : Thread Cert.RwkvIdeal.nD Cert.RwkvIdeal.τ).loc Cert.RwkvIdeal.main_arg11)
      ∧ m' ((c.tc : Thread Cert.RwkvRefIdeal.nD Cert.RwkvRefIdeal.τ).loc Cert.RwkvRefIdeal.main_arg12) = m ((c.tc : Thread Cert.RwkvIdeal.nD Cert.RwkvIdeal.τ).loc Cert.RwkvIdeal.main_arg12)
      ∧ m' ((c.tc : Thread Cert.RwkvRefIdeal.nD Cert.RwkvRefIdeal.τ).loc Cert.RwkvRefIdeal.main_arg13) = m ((c.tc : Thread Cert.RwkvIdeal.nD Cert.RwkvIdeal.τ).loc Cert.RwkvIdeal.main_arg13)) →
    ∃ (v0 : (c : Dev Cert.RwkvIdeal.nD) → Buf (Elt Ideal) ((c.tc : Thread Cert.RwkvIdeal.nD Cert.RwkvIdeal.τ).loc Cert.RwkvIdeal.main_v33_1)),
      θ_run (Cert.RwkvIdeal.defs (F := Ideal)) (onTc (τ := Cert.RwkvIdeal.τ) (Cert.RwkvIdeal.main (F := Ideal))) ⟨m, fun _ => 0, g⟩ (fun r => ∀ c : Dev Cert.RwkvIdeal.nD,
          r.2.mem ((c.tc : Thread Cert.RwkvIdeal.nD Cert.RwkvIdeal.τ).loc Cert.RwkvIdeal.main_v33_1) = v0 c
          ∧ r.2.mem ((c.tc : Thread Cert.RwkvIdeal.nD Cert.RwkvIdeal.τ).loc Cert.RwkvIdeal.main_arg0) = m ((c.tc : Thread Cert.RwkvIdeal.nD Cert.RwkvIdeal.τ).loc Cert.RwkvIdeal.main_arg0)
          ∧ r.2.mem ((c.tc : Thread Cert.RwkvIdeal.nD Cert.RwkvIdeal.τ).loc Cert.RwkvIdeal.main_arg1) = m ((c.tc : Thread Cert.RwkvIdeal.nD Cert.RwkvIdeal.τ).loc Cert.RwkvIdeal.main_arg1)
          ∧ r.2.mem ((c.tc : Thread Cert.RwkvIdeal.nD Cert.RwkvIdeal.τ).loc Cert.RwkvIdeal.main_arg2) = m ((c.tc : Thread Cert.RwkvIdeal.nD Cert.RwkvIdeal.τ).loc Cert.RwkvIdeal.main_arg2)
          ∧ r.2.mem ((c.tc : Thread Cert.RwkvIdeal.nD Cert.RwkvIdeal.τ).loc Cert.RwkvIdeal.main_arg3) = m ((c.tc : Thread Cert.RwkvIdeal.nD Cert.RwkvIdeal.τ).loc Cert.RwkvIdeal.main_arg3)
          ∧ r.2.mem ((c.tc : Thread Cert.RwkvIdeal.nD Cert.RwkvIdeal.τ).loc Cert.RwkvIdeal.main_arg4) = m ((c.tc : Thread Cert.RwkvIdeal.nD Cert.RwkvIdeal.τ).loc Cert.RwkvIdeal.main_arg4)
          ∧ r.2.mem ((c.tc : Thread Cert.RwkvIdeal.nD Cert.RwkvIdeal.τ).loc Cert.RwkvIdeal.main_arg5) = m ((c.tc : Thread Cert.RwkvIdeal.nD Cert.RwkvIdeal.τ).loc Cert.RwkvIdeal.main_arg5)
          ∧ r.2.mem ((c.tc : Thread Cert.RwkvIdeal.nD Cert.RwkvIdeal.τ).loc Cert.RwkvIdeal.main_arg6) = m ((c.tc : Thread Cert.RwkvIdeal.nD Cert.RwkvIdeal.τ).loc Cert.RwkvIdeal.main_arg6)
          ∧ r.2.mem ((c.tc : Thread Cert.RwkvIdeal.nD Cert.RwkvIdeal.τ).loc Cert.RwkvIdeal.main_arg7) = m ((c.tc : Thread Cert.RwkvIdeal.nD Cert.RwkvIdeal.τ).loc Cert.RwkvIdeal.main_arg7)
          ∧ r.2.mem ((c.tc : Thread Cert.RwkvIdeal.nD Cert.RwkvIdeal.τ).loc Cert.RwkvIdeal.main_arg8) = m ((c.tc : Thread Cert.RwkvIdeal.nD Cert.RwkvIdeal.τ).loc Cert.RwkvIdeal.main_arg8)
          ∧ r.2.mem ((c.tc : Thread Cert.RwkvIdeal.nD Cert.RwkvIdeal.τ).loc Cert.RwkvIdeal.main_arg9) = m ((c.tc : Thread Cert.RwkvIdeal.nD Cert.RwkvIdeal.τ).loc Cert.RwkvIdeal.main_arg9)
          ∧ r.2.mem ((c.tc : Thread Cert.RwkvIdeal.nD Cert.RwkvIdeal.τ).loc Cert.RwkvIdeal.main_arg10) = m ((c.tc : Thread Cert.RwkvIdeal.nD Cert.RwkvIdeal.τ).loc Cert.RwkvIdeal.main_arg10)
          ∧ r.2.mem ((c.tc : Thread Cert.RwkvIdeal.nD Cert.RwkvIdeal.τ).loc Cert.RwkvIdeal.main_arg11) = m ((c.tc : Thread Cert.RwkvIdeal.nD Cert.RwkvIdeal.τ).loc Cert.RwkvIdeal.main_arg11)
          ∧ r.2.mem ((c.tc : Thread Cert.RwkvIdeal.nD Cert.RwkvIdeal.τ).loc Cert.RwkvIdeal.main_arg12) = m ((c.tc : Thread Cert.RwkvIdeal.nD Cert.RwkvIdeal.τ).loc Cert.RwkvIdeal.main_arg12)
          ∧ r.2.mem ((c.tc : Thread Cert.RwkvIdeal.nD Cert.RwkvIdeal.τ).loc Cert.RwkvIdeal.main_arg13) = m ((c.tc : Thread Cert.RwkvIdeal.nD Cert.RwkvIdeal.τ).loc Cert.RwkvIdeal.main_arg13))
      ∧ θ_run (Cert.RwkvRefIdeal.defs (F := Ideal)) (onTc (τ := Cert.RwkvRefIdeal.τ) (Cert.RwkvRefIdeal.main (F := Ideal))) ⟨m', fun _ => 0, g'⟩ (fun r => ∀ c : Dev Cert.RwkvRefIdeal.nD,
          r.2.mem ((c.tc : Thread Cert.RwkvRefIdeal.nD Cert.RwkvRefIdeal.τ).loc Cert.RwkvRefIdeal.main_v79_6) = v0 c
          ∧ r.2.mem ((c.tc : Thread Cert.RwkvRefIdeal.nD Cert.RwkvRefIdeal.τ).loc Cert.RwkvRefIdeal.main_arg0) = m' ((c.tc : Thread Cert.RwkvRefIdeal.nD Cert.RwkvRefIdeal.τ).loc Cert.RwkvRefIdeal.main_arg0)
          ∧ r.2.mem ((c.tc : Thread Cert.RwkvRefIdeal.nD Cert.RwkvRefIdeal.τ).loc Cert.RwkvRefIdeal.main_arg1) = m' ((c.tc : Thread Cert.RwkvRefIdeal.nD Cert.RwkvRefIdeal.τ).loc Cert.RwkvRefIdeal.main_arg1)
          ∧ r.2.mem ((c.tc : Thread Cert.RwkvRefIdeal.nD Cert.RwkvRefIdeal.τ).loc Cert.RwkvRefIdeal.main_arg2) = m' ((c.tc : Thread Cert.RwkvRefIdeal.nD Cert.RwkvRefIdeal.τ).loc Cert.RwkvRefIdeal.main_arg2)
          ∧ r.2.mem ((c.tc : Thread Cert.RwkvRefIdeal.nD Cert.RwkvRefIdeal.τ).loc Cert.RwkvRefIdeal.main_arg3) = m' ((c.tc : Thread Cert.RwkvRefIdeal.nD Cert.RwkvRefIdeal.τ).loc Cert.RwkvRefIdeal.main_arg3)
          ∧ r.2.mem ((c.tc : Thread Cert.RwkvRefIdeal.nD Cert.RwkvRefIdeal.τ).loc Cert.RwkvRefIdeal.main_arg4) = m' ((c.tc : Thread Cert.RwkvRefIdeal.nD Cert.RwkvRefIdeal.τ).loc Cert.RwkvRefIdeal.main_arg4)
          ∧ r.2.mem ((c.tc : Thread Cert.RwkvRefIdeal.nD Cert.RwkvRefIdeal.τ).loc Cert.RwkvRefIdeal.main_arg5) = m' ((c.tc : Thread Cert.RwkvRefIdeal.nD Cert.RwkvRefIdeal.τ).loc Cert.RwkvRefIdeal.main_arg5)
          ∧ r.2.mem ((c.tc : Thread Cert.RwkvRefIdeal.nD Cert.RwkvRefIdeal.τ).loc Cert.RwkvRefIdeal.main_arg6) = m' ((c.tc : Thread Cert.RwkvRefIdeal.nD Cert.RwkvRefIdeal.τ).loc Cert.RwkvRefIdeal.main_arg6)
          ∧ r.2.mem ((c.tc : Thread Cert.RwkvRefIdeal.nD Cert.RwkvRefIdeal.τ).loc Cert.RwkvRefIdeal.main_arg7) = m' ((c.tc : Thread Cert.RwkvRefIdeal.nD Cert.RwkvRefIdeal.τ).loc Cert.RwkvRefIdeal.main_arg7)
          ∧ r.2.mem ((c.tc : Thread Cert.RwkvRefIdeal.nD Cert.RwkvRefIdeal.τ).loc Cert.RwkvRefIdeal.main_arg8) = m' ((c.tc : Thread Cert.RwkvRefIdeal.nD Cert.RwkvRefIdeal.τ).loc Cert.RwkvRefIdeal.main_arg8)
          ∧ r.2.mem ((c.tc : Thread Cert.RwkvRefIdeal.nD Cert.RwkvRefIdeal.τ).loc Cert.RwkvRefIdeal.main_arg9) = m' ((c.tc : Thread Cert.RwkvRefIdeal.nD Cert.RwkvRefIdeal.τ).loc Cert.RwkvRefIdeal.main_arg9)
          ∧ r.2.mem ((c.tc : Thread Cert.RwkvRefIdeal.nD Cert.RwkvRefIdeal.τ).loc Cert.RwkvRefIdeal.main_arg10) = m' ((c.tc : Thread Cert.RwkvRefIdeal.nD Cert.RwkvRefIdeal.τ).loc Cert.RwkvRefIdeal.main_arg10)
          ∧ r.2.mem ((c.tc : Thread Cert.RwkvRefIdeal.nD Cert.RwkvRefIdeal.τ).loc Cert.RwkvRefIdeal.main_arg11) = m' ((c.tc : Thread Cert.RwkvRefIdeal.nD Cert.RwkvRefIdeal.τ).loc Cert.RwkvRefIdeal.main_arg11)
          ∧ r.2.mem ((c.tc : Thread Cert.RwkvRefIdeal.nD Cert.RwkvRefIdeal.τ).loc Cert.RwkvRefIdeal.main_arg12) = m' ((c.tc : Thread Cert.RwkvRefIdeal.nD Cert.RwkvRefIdeal.τ).loc Cert.RwkvRefIdeal.main_arg12)
          ∧ r.2.mem ((c.tc : Thread Cert.RwkvRefIdeal.nD Cert.RwkvRefIdeal.τ).loc Cert.RwkvRefIdeal.main_arg13) = m' ((c.tc : Thread Cert.RwkvRefIdeal.nD Cert.RwkvRefIdeal.τ).loc Cert.RwkvRefIdeal.main_arg13))

def preserves_Tail_TailIdeal : Prop :=
  True

def algebraic_TailIdeal_TailRefIdeal [hTailIdeal : Cert.TailIdeal.Facts] [hTailRefIdeal : Cert.TailRefIdeal.Facts] : Prop :=
  ∀ (m : (ℓ : Loc Cert.TailIdeal.nD Cert.TailIdeal.τ Cert.TailIdeal.sig) → Buf (Elt Ideal) ℓ) (g : Dev Cert.TailIdeal.nD → PrngReg)
    (m' : (ℓ : Loc Cert.TailRefIdeal.nD Cert.TailRefIdeal.τ Cert.TailRefIdeal.sig) → Buf (Elt Ideal) ℓ) (g' : Dev Cert.TailRefIdeal.nD → PrngReg), Pre_TailIdeal m →
    (∀ c : Dev Cert.TailIdeal.nD,
      m' ((c.tc : Thread Cert.TailRefIdeal.nD Cert.TailRefIdeal.τ).loc Cert.TailRefIdeal.main_arg0) = m ((c.tc : Thread Cert.TailIdeal.nD Cert.TailIdeal.τ).loc Cert.TailIdeal.main_arg0)
      ∧ m' ((c.tc : Thread Cert.TailRefIdeal.nD Cert.TailRefIdeal.τ).loc Cert.TailRefIdeal.main_arg1) = m ((c.tc : Thread Cert.TailIdeal.nD Cert.TailIdeal.τ).loc Cert.TailIdeal.main_arg1)
      ∧ m' ((c.tc : Thread Cert.TailRefIdeal.nD Cert.TailRefIdeal.τ).loc Cert.TailRefIdeal.main_arg2) = m ((c.tc : Thread Cert.TailIdeal.nD Cert.TailIdeal.τ).loc Cert.TailIdeal.main_arg2)
      ∧ m' ((c.tc : Thread Cert.TailRefIdeal.nD Cert.TailRefIdeal.τ).loc Cert.TailRefIdeal.main_arg3) = m ((c.tc : Thread Cert.TailIdeal.nD Cert.TailIdeal.τ).loc Cert.TailIdeal.main_arg3)
      ∧ m' ((c.tc : Thread Cert.TailRefIdeal.nD Cert.TailRefIdeal.τ).loc Cert.TailRefIdeal.main_arg4) = m ((c.tc : Thread Cert.TailIdeal.nD Cert.TailIdeal.τ).loc Cert.TailIdeal.main_arg4)
      ∧ m' ((c.tc : Thread Cert.TailRefIdeal.nD Cert.TailRefIdeal.τ).loc Cert.TailRefIdeal.main_arg5) = m ((c.tc : Thread Cert.TailIdeal.nD Cert.TailIdeal.τ).loc Cert.TailIdeal.main_arg5)
      ∧ m' ((c.tc : Thread Cert.TailRefIdeal.nD Cert.TailRefIdeal.τ).loc Cert.TailRefIdeal.main_arg6) = m ((c.tc : Thread Cert.TailIdeal.nD Cert.TailIdeal.τ).loc Cert.TailIdeal.main_arg6)
      ∧ m' ((c.tc : Thread Cert.TailRefIdeal.nD Cert.TailRefIdeal.τ).loc Cert.TailRefIdeal.main_arg7) = m ((c.tc : Thread Cert.TailIdeal.nD Cert.TailIdeal.τ).loc Cert.TailIdeal.main_arg7)
      ∧ m' ((c.tc : Thread Cert.TailRefIdeal.nD Cert.TailRefIdeal.τ).loc Cert.TailRefIdeal.main_arg8) = m ((c.tc : Thread Cert.TailIdeal.nD Cert.TailIdeal.τ).loc Cert.TailIdeal.main_arg8)
      ∧ m' ((c.tc : Thread Cert.TailRefIdeal.nD Cert.TailRefIdeal.τ).loc Cert.TailRefIdeal.main_arg9) = m ((c.tc : Thread Cert.TailIdeal.nD Cert.TailIdeal.τ).loc Cert.TailIdeal.main_arg9)
      ∧ m' ((c.tc : Thread Cert.TailRefIdeal.nD Cert.TailRefIdeal.τ).loc Cert.TailRefIdeal.main_arg10) = m ((c.tc : Thread Cert.TailIdeal.nD Cert.TailIdeal.τ).loc Cert.TailIdeal.main_arg10)
      ∧ m' ((c.tc : Thread Cert.TailRefIdeal.nD Cert.TailRefIdeal.τ).loc Cert.TailRefIdeal.main_arg11) = m ((c.tc : Thread Cert.TailIdeal.nD Cert.TailIdeal.τ).loc Cert.TailIdeal.main_arg11)) →
    ∃ (v0 : (c : Dev Cert.TailIdeal.nD) → Buf (Elt Ideal) ((c.tc : Thread Cert.TailIdeal.nD Cert.TailIdeal.τ).loc Cert.TailIdeal.main_v34)),
      θ_run (Cert.TailIdeal.defs (F := Ideal)) (onTc (τ := Cert.TailIdeal.τ) (Cert.TailIdeal.main (F := Ideal))) ⟨m, fun _ => 0, g⟩ (fun r => ∀ c : Dev Cert.TailIdeal.nD,
          r.2.mem ((c.tc : Thread Cert.TailIdeal.nD Cert.TailIdeal.τ).loc Cert.TailIdeal.main_v34) = v0 c
          ∧ r.2.mem ((c.tc : Thread Cert.TailIdeal.nD Cert.TailIdeal.τ).loc Cert.TailIdeal.main_arg0) = m ((c.tc : Thread Cert.TailIdeal.nD Cert.TailIdeal.τ).loc Cert.TailIdeal.main_arg0)
          ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
          ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
          ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
          ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
          ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
          ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
          ∧ r.2.mem ((c.tc : Thread Cert.TailIdeal.nD Cert.TailIdeal.τ).loc Cert.TailIdeal.main_arg7) = m ((c.tc : Thread Cert.TailIdeal.nD Cert.TailIdeal.τ).loc Cert.TailIdeal.main_arg7)
          ∧ r.2.mem ((c.tc : Thread Cert.TailIdeal.nD Cert.TailIdeal.τ).loc Cert.TailIdeal.main_arg8) = m ((c.tc : Thread Cert.TailIdeal.nD Cert.TailIdeal.τ).loc Cert.TailIdeal.main_arg8)
          ∧ r.2.mem ((c.tc : Thread Cert.TailIdeal.nD Cert.TailIdeal.τ).loc Cert.TailIdeal.main_arg9) = m ((c.tc : Thread Cert.TailIdeal.nD Cert.TailIdeal.τ).loc Cert.TailIdeal.main_arg9)
          ∧ r.2.mem ((c.tc : Thread Cert.TailIdeal.nD Cert.TailIdeal.τ).loc Cert.TailIdeal.main_arg10) = m ((c.tc : Thread Cert.TailIdeal.nD Cert.TailIdeal.τ).loc Cert.TailIdeal.main_arg10)
          ∧ r.2.mem ((c.tc : Thread Cert.TailIdeal.nD Cert.TailIdeal.τ).loc Cert.TailIdeal.main_arg11) = m ((c.tc : Thread Cert.TailIdeal.nD Cert.TailIdeal.τ).loc Cert.TailIdeal.main_arg11))
      ∧ θ_run (Cert.TailRefIdeal.defs (F := Ideal)) (onTc (τ := Cert.TailRefIdeal.τ) (Cert.TailRefIdeal.main (F := Ideal))) ⟨m', fun _ => 0, g'⟩ (fun r => ∀ c : Dev Cert.TailRefIdeal.nD,
          r.2.mem ((c.tc : Thread Cert.TailRefIdeal.nD Cert.TailRefIdeal.τ).loc Cert.TailRefIdeal.main_v85) = v0 c
          ∧ r.2.mem ((c.tc : Thread Cert.TailRefIdeal.nD Cert.TailRefIdeal.τ).loc Cert.TailRefIdeal.main_arg0) = m' ((c.tc : Thread Cert.TailRefIdeal.nD Cert.TailRefIdeal.τ).loc Cert.TailRefIdeal.main_arg0)
          ∧ r.2.mem ((c.tc : Thread Cert.TailRefIdeal.nD Cert.TailRefIdeal.τ).loc Cert.TailRefIdeal.main_arg1) = m' ((c.tc : Thread Cert.TailRefIdeal.nD Cert.TailRefIdeal.τ).loc Cert.TailRefIdeal.main_arg1)
          ∧ r.2.mem ((c.tc : Thread Cert.TailRefIdeal.nD Cert.TailRefIdeal.τ).loc Cert.TailRefIdeal.main_arg2) = m' ((c.tc : Thread Cert.TailRefIdeal.nD Cert.TailRefIdeal.τ).loc Cert.TailRefIdeal.main_arg2)
          ∧ r.2.mem ((c.tc : Thread Cert.TailRefIdeal.nD Cert.TailRefIdeal.τ).loc Cert.TailRefIdeal.main_arg3) = m' ((c.tc : Thread Cert.TailRefIdeal.nD Cert.TailRefIdeal.τ).loc Cert.TailRefIdeal.main_arg3)
          ∧ r.2.mem ((c.tc : Thread Cert.TailRefIdeal.nD Cert.TailRefIdeal.τ).loc Cert.TailRefIdeal.main_arg4) = m' ((c.tc : Thread Cert.TailRefIdeal.nD Cert.TailRefIdeal.τ).loc Cert.TailRefIdeal.main_arg4)
          ∧ r.2.mem ((c.tc : Thread Cert.TailRefIdeal.nD Cert.TailRefIdeal.τ).loc Cert.TailRefIdeal.main_arg5) = m' ((c.tc : Thread Cert.TailRefIdeal.nD Cert.TailRefIdeal.τ).loc Cert.TailRefIdeal.main_arg5)
          ∧ r.2.mem ((c.tc : Thread Cert.TailRefIdeal.nD Cert.TailRefIdeal.τ).loc Cert.TailRefIdeal.main_arg6) = m' ((c.tc : Thread Cert.TailRefIdeal.nD Cert.TailRefIdeal.τ).loc Cert.TailRefIdeal.main_arg6)
          ∧ r.2.mem ((c.tc : Thread Cert.TailRefIdeal.nD Cert.TailRefIdeal.τ).loc Cert.TailRefIdeal.main_arg7) = m' ((c.tc : Thread Cert.TailRefIdeal.nD Cert.TailRefIdeal.τ).loc Cert.TailRefIdeal.main_arg7)
          ∧ r.2.mem ((c.tc : Thread Cert.TailRefIdeal.nD Cert.TailRefIdeal.τ).loc Cert.TailRefIdeal.main_arg8) = m' ((c.tc : Thread Cert.TailRefIdeal.nD Cert.TailRefIdeal.τ).loc Cert.TailRefIdeal.main_arg8)
          ∧ r.2.mem ((c.tc : Thread Cert.TailRefIdeal.nD Cert.TailRefIdeal.τ).loc Cert.TailRefIdeal.main_arg9) = m' ((c.tc : Thread Cert.TailRefIdeal.nD Cert.TailRefIdeal.τ).loc Cert.TailRefIdeal.main_arg9)
          ∧ r.2.mem ((c.tc : Thread Cert.TailRefIdeal.nD Cert.TailRefIdeal.τ).loc Cert.TailRefIdeal.main_arg10) = m' ((c.tc : Thread Cert.TailRefIdeal.nD Cert.TailRefIdeal.τ).loc Cert.TailRefIdeal.main_arg10)
          ∧ r.2.mem ((c.tc : Thread Cert.TailRefIdeal.nD Cert.TailRefIdeal.τ).loc Cert.TailRefIdeal.main_arg11) = m' ((c.tc : Thread Cert.TailRefIdeal.nD Cert.TailRefIdeal.τ).loc Cert.TailRefIdeal.main_arg11))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)) →
    ∃ (v0 : (c : Dev Cert.InProjIdeal.nD) → Buf (Elt Ideal) ((c.tc : Thread Cert.InProjIdeal.nD Cert.InProjIdeal.τ).loc Cert.InProjIdeal.main_v19_0)) (v1 : (c : Dev Cert.InProjIdeal.nD) → Buf (Elt Ideal) ((c.tc : Thread Cert.InProjIdeal.nD Cert.InProjIdeal.τ).loc Cert.InProjIdeal.main_v19_1)) (v2 : (c : Dev Cert.InProjIdeal.nD) → Buf (Elt Ideal) ((c.tc : Thread Cert.InProjIdeal.nD Cert.InProjIdeal.τ).loc Cert.InProjIdeal.main_v19_2)) (v3 : (c : Dev Cert.InProjIdeal.nD) → Buf (Elt Ideal) ((c.tc : Thread Cert.InProjIdeal.nD Cert.InProjIdeal.τ).loc Cert.InProjIdeal.main_v19_3)) (v4 : (c : Dev Cert.InProjIdeal.nD) → Buf (Elt Ideal) ((c.tc : Thread Cert.InProjIdeal.nD Cert.InProjIdeal.τ).loc Cert.InProjIdeal.main_v19_4)) (v5 : (c : Dev Cert.InProjIdeal.nD) → Buf (Elt Ideal) ((c.tc : Thread Cert.InProjIdeal.nD Cert.InProjIdeal.τ).loc Cert.InProjIdeal.main_v19_5)) (v6 : (c : Dev Cert.InProjIdeal.nD) → Buf (Elt Ideal) ((c.tc : Thread Cert.InProjIdeal.nD Cert.InProjIdeal.τ).loc Cert.InProjIdeal.main_v19_6)) (v7 : (c : Dev Cert.InProjIdeal.nD) → Buf (Elt Ideal) ((c.tc : Thread Cert.InProjIdeal.nD Cert.InProjIdeal.τ).loc Cert.InProjIdeal.main_v19_7)) (v8 : (c : Dev Cert.InProjIdeal.nD) → Buf (Elt Ideal) ((c.tc : Thread Cert.InProjIdeal.nD Cert.InProjIdeal.τ).loc Cert.InProjIdeal.main_v19_8)) (v9 : (c : Dev Cert.InProjIdeal.nD) → Buf (Elt Ideal) ((c.tc : Thread Cert.InProjIdeal.nD Cert.InProjIdeal.τ).loc Cert.InProjIdeal.main_v19_9)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v19_0) = v0 c
          ∧ r.2.mem ((c.tc : Thread Cert.InProjIdeal.nD Cert.InProjIdeal.τ).loc Cert.InProjIdeal.main_v19_1) = v1 c
          ∧ r.2.mem ((c.tc : Thread Cert.InProjIdeal.nD Cert.InProjIdeal.τ).loc Cert.InProjIdeal.main_v19_2) = v2 c
          ∧ r.2.mem ((c.tc : Thread Cert.InProjIdeal.nD Cert.InProjIdeal.τ).loc Cert.InProjIdeal.main_v19_3) = v3 c
          ∧ r.2.mem ((c.tc : Thread Cert.InProjIdeal.nD Cert.InProjIdeal.τ).loc Cert.InProjIdeal.main_v19_4) = v4 c
          ∧ r.2.mem ((c.tc : Thread Cert.InProjIdeal.nD Cert.InProjIdeal.τ).loc Cert.InProjIdeal.main_v19_5) = v5 c
          ∧ r.2.mem ((c.tc : Thread Cert.InProjIdeal.nD Cert.InProjIdeal.τ).loc Cert.InProjIdeal.main_v19_6) = v6 c
          ∧ r.2.mem ((c.tc : Thread Cert.InProjIdeal.nD Cert.InProjIdeal.τ).loc Cert.InProjIdeal.main_v19_7) = v7 c
          ∧ r.2.mem ((c.tc : Thread Cert.InProjIdeal.nD Cert.InProjIdeal.τ).loc Cert.InProjIdeal.main_v19_8) = v8 c
          ∧ r.2.mem ((c.tc : Thread Cert.InProjIdeal.nD Cert.InProjIdeal.τ).loc Cert.InProjIdeal.main_v19_9) = v9 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v30) = v0 c
          ∧ r.2.mem ((c.tc : Thread Cert.InProjRefIdeal.nD Cert.InProjRefIdeal.τ).loc Cert.InProjRefIdeal.main_v33) = v1 c
          ∧ r.2.mem ((c.tc : Thread Cert.InProjRefIdeal.nD Cert.InProjRefIdeal.τ).loc Cert.InProjRefIdeal.main_v18) = v2 c
          ∧ r.2.mem ((c.tc : Thread Cert.InProjRefIdeal.nD Cert.InProjRefIdeal.τ).loc Cert.InProjRefIdeal.main_v19) = v3 c
          ∧ r.2.mem ((c.tc : Thread Cert.InProjRefIdeal.nD Cert.InProjRefIdeal.τ).loc Cert.InProjRefIdeal.main_v21) = v4 c
          ∧ r.2.mem ((c.tc : Thread Cert.InProjRefIdeal.nD Cert.InProjRefIdeal.τ).loc Cert.InProjRefIdeal.main_v27) = v5 c
          ∧ r.2.mem ((c.tc : Thread Cert.InProjRefIdeal.nD Cert.InProjRefIdeal.τ).loc Cert.InProjRefIdeal.main_v23) = v6 c
          ∧ r.2.mem ((c.tc : Thread Cert.InProjRefIdeal.nD Cert.InProjRefIdeal.τ).loc Cert.InProjRefIdeal.main_v35) = v7 c
          ∧ r.2.mem ((c.tc : Thread Cert.InProjRefIdeal.nD Cert.InProjRefIdeal.τ).loc Cert.InProjRefIdeal.main_v37) = v8 c
          ∧ r.2.mem ((c.tc : Thread Cert.InProjRefIdeal.nD Cert.InProjRefIdeal.τ).loc Cert.InProjRefIdeal.main_v39) = v9 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2))

def preserves_TailS_TailSIdeal : Prop :=
  True

def algebraic_TailSIdeal_TailSRefIdeal [hTailSIdeal : Cert.TailSIdeal.Facts] [hTailSRefIdeal : Cert.TailSRefIdeal.Facts] : Prop :=
  ∀ (m : (ℓ : Loc Cert.TailSIdeal.nD Cert.TailSIdeal.τ Cert.TailSIdeal.sig) → Buf (Elt Ideal) ℓ) (g : Dev Cert.TailSIdeal.nD → PrngReg)
    (m' : (ℓ : Loc Cert.TailSRefIdeal.nD Cert.TailSRefIdeal.τ Cert.TailSRefIdeal.sig) → Buf (Elt Ideal) ℓ) (g' : Dev Cert.TailSRefIdeal.nD → PrngReg), Pre_TailSIdeal m →
    (∀ c : Dev Cert.TailSIdeal.nD,
      m' ((c.tc : Thread Cert.TailSRefIdeal.nD Cert.TailSRefIdeal.τ).loc Cert.TailSRefIdeal.main_arg0) = m ((c.tc : Thread Cert.TailSIdeal.nD Cert.TailSIdeal.τ).loc Cert.TailSIdeal.main_arg0)
      ∧ m' ((c.tc : Thread Cert.TailSRefIdeal.nD Cert.TailSRefIdeal.τ).loc Cert.TailSRefIdeal.main_arg1) = m ((c.tc : Thread Cert.TailSIdeal.nD Cert.TailSIdeal.τ).loc Cert.TailSIdeal.main_arg1)
      ∧ m' ((c.tc : Thread Cert.TailSRefIdeal.nD Cert.TailSRefIdeal.τ).loc Cert.TailSRefIdeal.main_arg2) = m ((c.tc : Thread Cert.TailSIdeal.nD Cert.TailSIdeal.τ).loc Cert.TailSIdeal.main_arg2)
      ∧ m' ((c.tc : Thread Cert.TailSRefIdeal.nD Cert.TailSRefIdeal.τ).loc Cert.TailSRefIdeal.main_arg3) = m ((c.tc : Thread Cert.TailSIdeal.nD Cert.TailSIdeal.τ).loc Cert.TailSIdeal.main_arg3)
      ∧ m' ((c.tc : Thread Cert.TailSRefIdeal.nD Cert.TailSRefIdeal.τ).loc Cert.TailSRefIdeal.main_arg4) = m ((c.tc : Thread Cert.TailSIdeal.nD Cert.TailSIdeal.τ).loc Cert.TailSIdeal.main_arg4)
      ∧ m' ((c.tc : Thread Cert.TailSRefIdeal.nD Cert.TailSRefIdeal.τ).loc Cert.TailSRefIdeal.main_arg5) = m ((c.tc : Thread Cert.TailSIdeal.nD Cert.TailSIdeal.τ).loc Cert.TailSIdeal.main_arg5)
      ∧ m' ((c.tc : Thread Cert.TailSRefIdeal.nD Cert.TailSRefIdeal.τ).loc Cert.TailSRefIdeal.main_arg6) = m ((c.tc : Thread Cert.TailSIdeal.nD Cert.TailSIdeal.τ).loc Cert.TailSIdeal.main_arg6)
      ∧ m' ((c.tc : Thread Cert.TailSRefIdeal.nD Cert.TailSRefIdeal.τ).loc Cert.TailSRefIdeal.main_arg7) = m ((c.tc : Thread Cert.TailSIdeal.nD Cert.TailSIdeal.τ).loc Cert.TailSIdeal.main_arg7)
      ∧ m' ((c.tc : Thread Cert.TailSRefIdeal.nD Cert.TailSRefIdeal.τ).loc Cert.TailSRefIdeal.main_arg8) = m ((c.tc : Thread Cert.TailSIdeal.nD Cert.TailSIdeal.τ).loc Cert.TailSIdeal.main_arg8)
      ∧ m' ((c.tc : Thread Cert.TailSRefIdeal.nD Cert.TailSRefIdeal.τ).loc Cert.TailSRefIdeal.main_arg9) = m ((c.tc : Thread Cert.TailSIdeal.nD Cert.TailSIdeal.τ).loc Cert.TailSIdeal.main_arg9)
      ∧ m' ((c.tc : Thread Cert.TailSRefIdeal.nD Cert.TailSRefIdeal.τ).loc Cert.TailSRefIdeal.main_arg10) = m ((c.tc : Thread Cert.TailSIdeal.nD Cert.TailSIdeal.τ).loc Cert.TailSIdeal.main_arg10)
      ∧ m' ((c.tc : Thread Cert.TailSRefIdeal.nD Cert.TailSRefIdeal.τ).loc Cert.TailSRefIdeal.main_arg11) = m ((c.tc : Thread Cert.TailSIdeal.nD Cert.TailSIdeal.τ).loc Cert.TailSIdeal.main_arg11)) →
    ∃ (v0 : (c : Dev Cert.TailSIdeal.nD) → Buf (Elt Ideal) ((c.tc : Thread Cert.TailSIdeal.nD Cert.TailSIdeal.τ).loc Cert.TailSIdeal.main_v34)),
      θ_run (Cert.TailSIdeal.defs (F := Ideal)) (onTc (τ := Cert.TailSIdeal.τ) (Cert.TailSIdeal.main (F := Ideal))) ⟨m, fun _ => 0, g⟩ (fun r => ∀ c : Dev Cert.TailSIdeal.nD,
          r.2.mem ((c.tc : Thread Cert.TailSIdeal.nD Cert.TailSIdeal.τ).loc Cert.TailSIdeal.main_v34) = v0 c
          ∧ r.2.mem ((c.tc : Thread Cert.TailSIdeal.nD Cert.TailSIdeal.τ).loc Cert.TailSIdeal.main_arg0) = m ((c.tc : Thread Cert.TailSIdeal.nD Cert.TailSIdeal.τ).loc Cert.TailSIdeal.main_arg0)
          ∧ r.2.mem ((c.tc : Thread Cert.TailSIdeal.nD Cert.TailSIdeal.τ).loc Cert.TailSIdeal.main_arg1) = m ((c.tc : Thread Cert.TailSIdeal.nD Cert.TailSIdeal.τ).loc Cert.TailSIdeal.main_arg1)
          ∧ r.2.mem ((c.tc : Thread Cert.TailSIdeal.nD Cert.TailSIdeal.τ).loc Cert.TailSIdeal.main_arg2) = m ((c.tc : Thread Cert.TailSIdeal.nD Cert.TailSIdeal.τ).loc Cert.TailSIdeal.main_arg2)
          ∧ r.2.mem ((c.tc : Thread Cert.TailSIdeal.nD Cert.TailSIdeal.τ).loc Cert.TailSIdeal.main_arg3) = m ((c.tc : Thread Cert.TailSIdeal.nD Cert.TailSIdeal.τ).loc Cert.TailSIdeal.main_arg3)
          ∧ r.2.mem ((c.tc : Thread Cert.TailSIdeal.nD Cert.TailSIdeal.τ).loc Cert.TailSIdeal.main_arg4) = m ((c.tc : Thread Cert.TailSIdeal.nD Cert.TailSIdeal.τ).loc Cert.TailSIdeal.main_arg4)
          ∧ r.2.mem ((c.tc : Thread Cert.TailSIdeal.nD Cert.TailSIdeal.τ).loc Cert.TailSIdeal.main_arg5) = m ((c.tc : Thread Cert.TailSIdeal.nD Cert.TailSIdeal.τ).loc Cert.TailSIdeal.main_arg5)
          ∧ r.2.mem ((c.tc : Thread Cert.TailSIdeal.nD Cert.TailSIdeal.τ).loc Cert.TailSIdeal.main_arg6) = m ((c.tc : Thread Cert.TailSIdeal.nD Cert.TailSIdeal.τ).loc Cert.TailSIdeal.main_arg6)
          ∧ r.2.mem ((c.tc : Thread Cert.TailSIdeal.nD Cert.TailSIdeal.τ).loc Cert.TailSIdeal.main_arg7) = m ((c.tc : Thread Cert.TailSIdeal.nD Cert.TailSIdeal.τ).loc Cert.TailSIdeal.main_arg7)
          ∧ r.2.mem ((c.tc : Thread Cert.TailSIdeal.nD Cert.TailSIdeal.τ).loc Cert.TailSIdeal.main_arg8) = m ((c.tc : Thread Cert.TailSIdeal.nD Cert.TailSIdeal.τ).loc Cert.TailSIdeal.main_arg8)
          ∧ r.2.mem ((c.tc : Thread Cert.TailSIdeal.nD Cert.TailSIdeal.τ).loc Cert.TailSIdeal.main_arg9) = m ((c.tc : Thread Cert.TailSIdeal.nD Cert.TailSIdeal.τ).loc Cert.TailSIdeal.main_arg9)
          ∧ r.2.mem ((c.tc : Thread Cert.TailSIdeal.nD Cert.TailSIdeal.τ).loc Cert.TailSIdeal.main_arg10) = m ((c.tc : Thread Cert.TailSIdeal.nD Cert.TailSIdeal.τ).loc Cert.TailSIdeal.main_arg10)
          ∧ r.2.mem ((c.tc : Thread Cert.TailSIdeal.nD Cert.TailSIdeal.τ).loc Cert.TailSIdeal.main_arg11) = m ((c.tc : Thread Cert.TailSIdeal.nD Cert.TailSIdeal.τ).loc Cert.TailSIdeal.main_arg11))
      ∧ θ_run (Cert.TailSRefIdeal.defs (F := Ideal)) (onTc (τ := Cert.TailSRefIdeal.τ) (Cert.TailSRefIdeal.main (F := Ideal))) ⟨m', fun _ => 0, g'⟩ (fun r => ∀ c : Dev Cert.TailSRefIdeal.nD,
          r.2.mem ((c.tc : Thread Cert.TailSRefIdeal.nD Cert.TailSRefIdeal.τ).loc Cert.TailSRefIdeal.main_v85) = v0 c
          ∧ r.2.mem ((c.tc : Thread Cert.TailSRefIdeal.nD Cert.TailSRefIdeal.τ).loc Cert.TailSRefIdeal.main_arg0) = m' ((c.tc : Thread Cert.TailSRefIdeal.nD Cert.TailSRefIdeal.τ).loc Cert.TailSRefIdeal.main_arg0)
          ∧ r.2.mem ((c.tc : Thread Cert.TailSRefIdeal.nD Cert.TailSRefIdeal.τ).loc Cert.TailSRefIdeal.main_arg1) = m' ((c.tc : Thread Cert.TailSRefIdeal.nD Cert.TailSRefIdeal.τ).loc Cert.TailSRefIdeal.main_arg1)
          ∧ r.2.mem ((c.tc : Thread Cert.TailSRefIdeal.nD Cert.TailSRefIdeal.τ).loc Cert.TailSRefIdeal.main_arg2) = m' ((c.tc : Thread Cert.TailSRefIdeal.nD Cert.TailSRefIdeal.τ).loc Cert.TailSRefIdeal.main_arg2)
          ∧ r.2.mem ((c.tc : Thread Cert.TailSRefIdeal.nD Cert.TailSRefIdeal.τ).loc Cert.TailSRefIdeal.main_arg3) = m' ((c.tc : Thread Cert.TailSRefIdeal.nD Cert.TailSRefIdeal.τ).loc Cert.TailSRefIdeal.main_arg3)
          ∧ r.2.mem ((c.tc : Thread Cert.TailSRefIdeal.nD Cert.TailSRefIdeal.τ).loc Cert.TailSRefIdeal.main_arg4) = m' ((c.tc : Thread Cert.TailSRefIdeal.nD Cert.TailSRefIdeal.τ).loc Cert.TailSRefIdeal.main_arg4)
          ∧ r.2.mem ((c.tc : Thread Cert.TailSRefIdeal.nD Cert.TailSRefIdeal.τ).loc Cert.TailSRefIdeal.main_arg5) = m' ((c.tc : Thread Cert.TailSRefIdeal.nD Cert.TailSRefIdeal.τ).loc Cert.TailSRefIdeal.main_arg5)
          ∧ r.2.mem ((c.tc : Thread Cert.TailSRefIdeal.nD Cert.TailSRefIdeal.τ).loc Cert.TailSRefIdeal.main_arg6) = m' ((c.tc : Thread Cert.TailSRefIdeal.nD Cert.TailSRefIdeal.τ).loc Cert.TailSRefIdeal.main_arg6)
          ∧ r.2.mem ((c.tc : Thread Cert.TailSRefIdeal.nD Cert.TailSRefIdeal.τ).loc Cert.TailSRefIdeal.main_arg7) = m' ((c.tc : Thread Cert.TailSRefIdeal.nD Cert.TailSRefIdeal.τ).loc Cert.TailSRefIdeal.main_arg7)
          ∧ r.2.mem ((c.tc : Thread Cert.TailSRefIdeal.nD Cert.TailSRefIdeal.τ).loc Cert.TailSRefIdeal.main_arg8) = m' ((c.tc : Thread Cert.TailSRefIdeal.nD Cert.TailSRefIdeal.τ).loc Cert.TailSRefIdeal.main_arg8)
          ∧ r.2.mem ((c.tc : Thread Cert.TailSRefIdeal.nD Cert.TailSRefIdeal.τ).loc Cert.TailSRefIdeal.main_arg9) = m' ((c.tc : Thread Cert.TailSRefIdeal.nD Cert.TailSRefIdeal.τ).loc Cert.TailSRefIdeal.main_arg9)
          ∧ r.2.mem ((c.tc : Thread Cert.TailSRefIdeal.nD Cert.TailSRefIdeal.τ).loc Cert.TailSRefIdeal.main_arg10) = m' ((c.tc : Thread Cert.TailSRefIdeal.nD Cert.TailSRefIdeal.τ).loc Cert.TailSRefIdeal.main_arg10)
          ∧ r.2.mem ((c.tc : Thread Cert.TailSRefIdeal.nD Cert.TailSRefIdeal.τ).loc Cert.TailSRefIdeal.main_arg11) = m' ((c.tc : Thread Cert.TailSRefIdeal.nD Cert.TailSRefIdeal.τ).loc Cert.TailSRefIdeal.main_arg11))

def preserves_InProjS_InProjSIdeal : Prop :=
  True

def algebraic_InProjSIdeal_InProjSRefIdeal [hInProjSIdeal : Cert.InProjSIdeal.Facts] [hInProjSRefIdeal : Cert.InProjSRefIdeal.Facts] : Prop :=
  ∀ (m : (ℓ : Loc Cert.InProjSIdeal.nD Cert.InProjSIdeal.τ Cert.InProjSIdeal.sig) → Buf (Elt Ideal) ℓ) (g : Dev Cert.InProjSIdeal.nD → PrngReg)
    (m' : (ℓ : Loc Cert.InProjSRefIdeal.nD Cert.InProjSRefIdeal.τ Cert.InProjSRefIdeal.sig) → Buf (Elt Ideal) ℓ) (g' : Dev Cert.InProjSRefIdeal.nD → PrngReg), Pre_InProjSIdeal m →
    (∀ c : Dev Cert.InProjSIdeal.nD,
      m' ((c.tc : Thread Cert.InProjSRefIdeal.nD Cert.InProjSRefIdeal.τ).loc Cert.InProjSRefIdeal.main_arg0) = m ((c.tc : Thread Cert.InProjSIdeal.nD Cert.InProjSIdeal.τ).loc Cert.InProjSIdeal.main_arg0)
      ∧ m' ((c.tc : Thread Cert.InProjSRefIdeal.nD Cert.InProjSRefIdeal.τ).loc Cert.InProjSRefIdeal.main_arg1) = m ((c.tc : Thread Cert.InProjSIdeal.nD Cert.InProjSIdeal.τ).loc Cert.InProjSIdeal.main_arg1)
      ∧ m' ((c.tc : Thread Cert.InProjSRefIdeal.nD Cert.InProjSRefIdeal.τ).loc Cert.InProjSRefIdeal.main_arg2) = m ((c.tc : Thread Cert.InProjSIdeal.nD Cert.InProjSIdeal.τ).loc Cert.InProjSIdeal.main_arg2)) →
    ∃ (v0 : (c : Dev Cert.InProjSIdeal.nD) → Buf (Elt Ideal) ((c.tc : Thread Cert.InProjSIdeal.nD Cert.InProjSIdeal.τ).loc Cert.InProjSIdeal.main_v19_0)) (v1 : (c : Dev Cert.InProjSIdeal.nD) → Buf (Elt Ideal) ((c.tc : Thread Cert.InProjSIdeal.nD Cert.InProjSIdeal.τ).loc Cert.InProjSIdeal.main_v19_1)) (v2 : (c : Dev Cert.InProjSIdeal.nD) → Buf (Elt Ideal) ((c.tc : Thread Cert.InProjSIdeal.nD Cert.InProjSIdeal.τ).loc Cert.InProjSIdeal.main_v19_2)) (v3 : (c : Dev Cert.InProjSIdeal.nD) → Buf (Elt Ideal) ((c.tc : Thread Cert.InProjSIdeal.nD Cert.InProjSIdeal.τ).loc Cert.InProjSIdeal.main_v19_3)) (v4 : (c : Dev Cert.InProjSIdeal.nD) → Buf (Elt Ideal) ((c.tc : Thread Cert.InProjSIdeal.nD Cert.InProjSIdeal.τ).loc Cert.InProjSIdeal.main_v19_4)) (v5 : (c : Dev Cert.InProjSIdeal.nD) → Buf (Elt Ideal) ((c.tc : Thread Cert.InProjSIdeal.nD Cert.InProjSIdeal.τ).loc Cert.InProjSIdeal.main_v19_5)) (v6 : (c : Dev Cert.InProjSIdeal.nD) → Buf (Elt Ideal) ((c.tc : Thread Cert.InProjSIdeal.nD Cert.InProjSIdeal.τ).loc Cert.InProjSIdeal.main_v19_6)),
      θ_run (Cert.InProjSIdeal.defs (F := Ideal)) (onTc (τ := Cert.InProjSIdeal.τ) (Cert.InProjSIdeal.main (F := Ideal))) ⟨m, fun _ => 0, g⟩ (fun r => ∀ c : Dev Cert.InProjSIdeal.nD,
          r.2.mem ((c.tc : Thread Cert.InProjSIdeal.nD Cert.InProjSIdeal.τ).loc Cert.InProjSIdeal.main_v19_0) = v0 c
          ∧ r.2.mem ((c.tc : Thread Cert.InProjSIdeal.nD Cert.InProjSIdeal.τ).loc Cert.InProjSIdeal.main_v19_1) = v1 c
          ∧ r.2.mem ((c.tc : Thread Cert.InProjSIdeal.nD Cert.InProjSIdeal.τ).loc Cert.InProjSIdeal.main_v19_2) = v2 c
          ∧ r.2.mem ((c.tc : Thread Cert.InProjSIdeal.nD Cert.InProjSIdeal.τ).loc Cert.InProjSIdeal.main_v19_3) = v3 c
          ∧ r.2.mem ((c.tc : Thread Cert.InProjSIdeal.nD Cert.InProjSIdeal.τ).loc Cert.InProjSIdeal.main_v19_4) = v4 c
          ∧ r.2.mem ((c.tc : Thread Cert.InProjSIdeal.nD Cert.InProjSIdeal.τ).loc Cert.InProjSIdeal.main_v19_5) = v5 c
          ∧ r.2.mem ((c.tc : Thread Cert.InProjSIdeal.nD Cert.InProjSIdeal.τ).loc Cert.InProjSIdeal.main_v19_6) = v6 c
          ∧ r.2.mem ((c.tc : Thread Cert.InProjSIdeal.nD Cert.InProjSIdeal.τ).loc Cert.InProjSIdeal.main_arg0) = m ((c.tc : Thread Cert.InProjSIdeal.nD Cert.InProjSIdeal.τ).loc Cert.InProjSIdeal.main_arg0)
          ∧ r.2.mem ((c.tc : Thread Cert.InProjSIdeal.nD Cert.InProjSIdeal.τ).loc Cert.InProjSIdeal.main_arg1) = m ((c.tc : Thread Cert.InProjSIdeal.nD Cert.InProjSIdeal.τ).loc Cert.InProjSIdeal.main_arg1)
          ∧ r.2.mem ((c.tc : Thread Cert.InProjSIdeal.nD Cert.InProjSIdeal.τ).loc Cert.InProjSIdeal.main_arg2) = m ((c.tc : Thread Cert.InProjSIdeal.nD Cert.InProjSIdeal.τ).loc Cert.InProjSIdeal.main_arg2))
      ∧ θ_run (Cert.InProjSRefIdeal.defs (F := Ideal)) (onTc (τ := Cert.InProjSRefIdeal.τ) (Cert.InProjSRefIdeal.main (F := Ideal))) ⟨m', fun _ => 0, g'⟩ (fun r => ∀ c : Dev Cert.InProjSRefIdeal.nD,
          r.2.mem ((c.tc : Thread Cert.InProjSRefIdeal.nD Cert.InProjSRefIdeal.τ).loc Cert.InProjSRefIdeal.main_v30) = v0 c
          ∧ r.2.mem ((c.tc : Thread Cert.InProjSRefIdeal.nD Cert.InProjSRefIdeal.τ).loc Cert.InProjSRefIdeal.main_v33) = v1 c
          ∧ r.2.mem ((c.tc : Thread Cert.InProjSRefIdeal.nD Cert.InProjSRefIdeal.τ).loc Cert.InProjSRefIdeal.main_v18) = v2 c
          ∧ r.2.mem ((c.tc : Thread Cert.InProjSRefIdeal.nD Cert.InProjSRefIdeal.τ).loc Cert.InProjSRefIdeal.main_v19) = v3 c
          ∧ r.2.mem ((c.tc : Thread Cert.InProjSRefIdeal.nD Cert.InProjSRefIdeal.τ).loc Cert.InProjSRefIdeal.main_v21) = v4 c
          ∧ r.2.mem ((c.tc : Thread Cert.InProjSRefIdeal.nD Cert.InProjSRefIdeal.τ).loc Cert.InProjSRefIdeal.main_v27) = v5 c
          ∧ r.2.mem ((c.tc : Thread Cert.InProjSRefIdeal.nD Cert.InProjSRefIdeal.τ).loc Cert.InProjSRefIdeal.main_v23) = v6 c
          ∧ r.2.mem ((c.tc : Thread Cert.InProjSRefIdeal.nD Cert.InProjSRefIdeal.τ).loc Cert.InProjSRefIdeal.main_arg0) = m' ((c.tc : Thread Cert.InProjSRefIdeal.nD Cert.InProjSRefIdeal.τ).loc Cert.InProjSRefIdeal.main_arg0)
          ∧ r.2.mem ((c.tc : Thread Cert.InProjSRefIdeal.nD Cert.InProjSRefIdeal.τ).loc Cert.InProjSRefIdeal.main_arg1) = m' ((c.tc : Thread Cert.InProjSRefIdeal.nD Cert.InProjSRefIdeal.τ).loc Cert.InProjSRefIdeal.main_arg1)
          ∧ r.2.mem ((c.tc : Thread Cert.InProjSRefIdeal.nD Cert.InProjSRefIdeal.τ).loc Cert.InProjSRefIdeal.main_arg2) = m' ((c.tc : Thread Cert.InProjSRefIdeal.nD Cert.InProjSRefIdeal.τ).loc Cert.InProjSRefIdeal.main_arg2))

def Claim : Prop :=
  ∃ (hRwkv : Cert.Rwkv.Facts) (hRwkvIdeal : Cert.RwkvIdeal.Facts) (hRwkvRefIdeal : Cert.RwkvRefIdeal.Facts) (hTail : Cert.Tail.Facts) (hTailIdeal : Cert.TailIdeal.Facts) (hTailRefIdeal : Cert.TailRefIdeal.Facts) (hInProj : Cert.InProj.Facts) (hInProjIdeal : Cert.InProjIdeal.Facts) (hInProjRefIdeal : Cert.InProjRefIdeal.Facts) (hTailS : Cert.TailS.Facts) (hTailSIdeal : Cert.TailSIdeal.Facts) (hTailSRefIdeal : Cert.TailSRefIdeal.Facts) (hInProjS : Cert.InProjS.Facts) (hInProjSIdeal : Cert.InProjSIdeal.Facts) (hInProjSRefIdeal : Cert.InProjSRefIdeal.Facts) (hPre_finite : Cert.Pre_finite.Facts),
    quiescent_Rwkv (hRwkv := hRwkv)
    ∧ quiescent_RwkvIdeal (hRwkvIdeal := hRwkvIdeal)
    ∧ quiescent_RwkvIdeal_pre_finite (hRwkvIdeal := hRwkvIdeal) (hPre_finite := hPre_finite)
    ∧ quiescent_RwkvRefIdeal (hRwkvRefIdeal := hRwkvRefIdeal)
    ∧ quiescent_RwkvRefIdeal_pre_finite (hRwkvRefIdeal := hRwkvRefIdeal) (hPre_finite := hPre_finite)
    ∧ quiescent_Tail (hTail := hTail)
    ∧ quiescent_TailIdeal (hTailIdeal := hTailIdeal)
    ∧ quiescent_TailRefIdeal (hTailRefIdeal := hTailRefIdeal)
    ∧ quiescent_InProj (hInProj := hInProj)
    ∧ quiescent_InProjIdeal (hInProjIdeal := hInProjIdeal)
    ∧ quiescent_InProjRefIdeal (hInProjRefIdeal := hInProjRefIdeal)
    ∧ quiescent_TailS (hTailS := hTailS)
    ∧ quiescent_TailSIdeal (hTailSIdeal := hTailSIdeal)
    ∧ quiescent_TailSRefIdeal (hTailSRefIdeal := hTailSRefIdeal)
    ∧ quiescent_InProjS (hInProjS := hInProjS)
    ∧ quiescent_InProjSIdeal (hInProjSIdeal := hInProjSIdeal)
    ∧ quiescent_InProjSRefIdeal (hInProjSRefIdeal := hInProjSRefIdeal)
    ∧ preserves_Rwkv_RwkvIdeal
    ∧ algebraic_RwkvIdeal_RwkvRefIdeal_pre_finite (hRwkvIdeal := hRwkvIdeal) (hRwkvRefIdeal := hRwkvRefIdeal) (hPre_finite := hPre_finite)
    ∧ preserves_Tail_TailIdeal
    ∧ algebraic_TailIdeal_TailRefIdeal (hTailIdeal := hTailIdeal) (hTailRefIdeal := hTailRefIdeal)
    ∧ preserves_InProj_InProjIdeal
    ∧ algebraic_InProjIdeal_InProjRefIdeal (hInProjIdeal := hInProjIdeal) (hInProjRefIdeal := hInProjRefIdeal)
    ∧ preserves_TailS_TailSIdeal
    ∧ algebraic_TailSIdeal_TailSRefIdeal (hTailSIdeal := hTailSIdeal) (hTailSRefIdeal := hTailSRefIdeal)
    ∧ preserves_InProjS_InProjSIdeal
    ∧ algebraic_InProjSIdeal_InProjSRefIdeal (hInProjSIdeal := hInProjSIdeal) (hInProjSRefIdeal := hInProjSRefIdeal)
-- ==== Pre_finite.lean ====
abbrev S32x16x1792 : Shape := ⟨3, ![32, 16, 1792]⟩
abbrev S1x32x1x1792 : Shape := ⟨4, ![1, 32, 1, 1792]⟩
abbrev S1x32x8x64x64 : Shape := ⟨5, ![1, 32, 8, 64, 64]⟩
abbrev S1x1792 : Shape := ⟨2, ![1, 1792]⟩
abbrev S1x512 : Shape := ⟨2, ![1, 512]⟩
abbrev S1x64x512 : Shape := ⟨3, ![1, 64, 512]⟩
abbrev S1x128x512 : Shape := ⟨3, ![1, 128, 512]⟩
abbrev S1x8x64 : Shape := ⟨3, ![1, 8, 64]⟩
abbrev S_ : Shape := ⟨0, ![]⟩

class Facts : Prop where
  bcast_S_S32x16x1792 : S_.BroadcastsInDim S32x16x1792 (![] : Fin 0 → Fin S32x16x1792.rank)
  reducesTo_S32x16x1792_S_d0_1_2 : S32x16x1792.ReducesTo [0, 1, 2] S_
  h_S_ : 0 < S_.numel
  bcast_S_S1x32x1x1792 : S_.BroadcastsInDim S1x32x1x1792 (![] : Fin 0 → Fin S1x32x1x1792.rank)
  reducesTo_S1x32x1x1792_S_d0_1_2_3 : S1x32x1x1792.ReducesTo [0, 1, 2, 3] S_
  bcast_S_S1x32x8x64x64 : S_.BroadcastsInDim S1x32x8x64x64 (![] : Fin 0 → Fin S1x32x8x64x64.rank)
  reducesTo_S1x32x8x64x64_S_d0_1_2_3_4 : S1x32x8x64x64.ReducesTo [0, 1, 2, 3, 4] S_
  bcast_S_S1x1792 : S_.BroadcastsInDim S1x1792 (![] : Fin 0 → Fin S1x1792.rank)
  reducesTo_S1x1792_S_d0_1 : S1x1792.ReducesTo [0, 1] S_
  bcast_S_S1x512 : S_.BroadcastsInDim S1x512 (![] : Fin 0 → Fin S1x512.rank)
  reducesTo_S1x512_S_d0_1 : S1x512.ReducesTo [0, 1] S_

variable [Facts]

def fn_part1 {F : FTy → Type} [FloatOps F] (main_arg9 : FVec F S1x512 .f32) (main_arg10 : FVec F S1x512 .f32) (main_v13 : IVec S_ 1) (main_v16 : IVec S1x1792 1) : IVec S_ 1 :=
  let main_c_5 : IVec S_ 1 := constantI S_ 1 1#1
  let main_v17 : IVec S_ 1 := (fun x v => Host.reduce IntOp.andi x v reducesTo_S1x1792_S_d0_1 h_S_) main_v16 main_c_5
  let main_v18 : IVec S_ 1 := andi main_v13 main_v17
  let main_v19 : FVec F S1x512 .f32 := Host.absf main_arg9
  let main_cst_6 : FVec F S_ .f32 := constant S_ .f32 0x7F800000#32
  let main_v20 : FVec F S1x512 .f32 := broadcastInDim S1x512 ![] bcast_S_S1x512 main_cst_6
  let main_v21 : IVec S1x512 1 := cmpf .olt main_v19 main_v20
  let main_c_7 : IVec S_ 1 := constantI S_ 1 1#1
  let main_v22 : IVec S_ 1 := (fun x v => Host.reduce IntOp.andi x v reducesTo_S1x512_S_d0_1 h_S_) main_v21 main_c_7
  let main_v23 : IVec S_ 1 := andi main_v18 main_v22
  let main_v24 : FVec F S1x512 .f32 := Host.absf main_arg10
  let main_cst_8 : FVec F S_ .f32 := constant S_ .f32 0x7F800000#32
  let main_v25 : FVec F S1x512 .f32 := broadcastInDim S1x512 ![] bcast_S_S1x512 main_cst_8
  let main_v26 : IVec S1x512 1 := cmpf .olt main_v24 main_v25
  let main_c_9 : IVec S_ 1 := constantI S_ 1 1#1
  let main_v27 : IVec S_ 1 := (fun x v => Host.reduce IntOp.andi x v reducesTo_S1x512_S_d0_1 h_S_) main_v26 main_c_9
  let main_v28 : IVec S_ 1 := andi main_v23 main_v27
  main_v28

def fn {F : FTy → Type} [FloatOps F] (main_arg0 : FVec F S32x16x1792 .f32) (main_arg1 : FVec F S1x32x1x1792 .f32) (main_arg2 : FVec F S1x32x8x64x64 .f32) (main_arg3 : FVec F S1x1792 .f32) (main_arg4 : FVec F S1x512 .f32) (main_arg5 : FVec F S1x64x512 .f32) (main_arg6 : FVec F S1x512 .f32) (main_arg7 : FVec F S1x64x512 .f32) (main_arg8 : FVec F S1x128x512 .f32) (main_arg9 : FVec F S1x512 .f32) (main_arg10 : FVec F S1x512 .f32) (main_arg11 : FVec F S1x8x64 .f32) (main_arg12 : FVec F S1x512 .f32) (main_arg13 : FVec F S1x512 .f32) : IVec S_ 1 :=
  let main_v0 : FVec F S32x16x1792 .f32 := Host.absf main_arg0
  let main_cst : FVec F S_ .f32 := constant S_ .f32 0x7F800000#32
  let main_v1 : FVec F S32x16x1792 .f32 := broadcastInDim S32x16x1792 ![] bcast_S_S32x16x1792 main_cst
  let main_v2 : IVec S32x16x1792 1 := cmpf .olt main_v0 main_v1
  let main_c : IVec S_ 1 := constantI S_ 1 1#1
  let main_v3 : IVec S_ 1 := (fun x v => Host.reduce IntOp.andi x v reducesTo_S32x16x1792_S_d0_1_2 h_S_) main_v2 main_c
  let main_v4 : FVec F S1x32x1x1792 .f32 := Host.absf main_arg1
  let main_cst_0 : FVec F S_ .f32 := constant S_ .f32 0x7F800000#32
  let main_v5 : FVec F S1x32x1x1792 .f32 := broadcastInDim S1x32x1x1792 ![] bcast_S_S1x32x1x1792 main_cst_0
  let main_v6 : IVec S1x32x1x1792 1 := cmpf .olt main_v4 main_v5
  let main_c_1 : IVec S_ 1 := constantI S_ 1 1#1
  let main_v7 : IVec S_ 1 := (fun x v => Host.reduce IntOp.andi x v reducesTo_S1x32x1x1792_S_d0_1_2_3 h_S_) main_v6 main_c_1
  let main_v8 : IVec S_ 1 := andi main_v3 main_v7
  let main_v9 : FVec F S1x32x8x64x64 .f32 := Host.absf main_arg2
  let main_cst_2 : FVec F S_ .f32 := constant S_ .f32 0x7F800000#32
  let main_v10 : FVec F S1x32x8x64x64 .f32 := broadcastInDim S1x32x8x64x64 ![] bcast_S_S1x32x8x64x64 main_cst_2
  let main_v11 : IVec S1x32x8x64x64 1 := cmpf .olt main_v9 main_v10
  let main_c_3 : IVec S_ 1 := constantI S_ 1 1#1
  let main_v12 : IVec S_ 1 := (fun x v => Host.reduce IntOp.andi x v reducesTo_S1x32x8x64x64_S_d0_1_2_3_4 h_S_) main_v11 main_c_3
  let main_v13 : IVec S_ 1 := andi main_v8 main_v12
  let main_v14 : FVec F S1x1792 .f32 := Host.absf main_arg3
  let main_cst_4 : FVec F S_ .f32 := constant S_ .f32 0x7F800000#32
  let main_v15 : FVec F S1x1792 .f32 := broadcastInDim S1x1792 ![] bcast_S_S1x1792 main_cst_4
  let main_v16 : IVec S1x1792 1 := cmpf .olt main_v14 main_v15
  fn_part1 (F := F) main_arg9 main_arg10 main_v13 main_v16
-- ==== Rwkv.lean ====
abbrev S32x16x1792 : Shape := ⟨3, ![32, 16, 1792]⟩
abbrev S1x32x1x1792 : Shape := ⟨4, ![1, 32, 1, 1792]⟩
abbrev S1x32x8x64x64 : Shape := ⟨5, ![1, 32, 8, 64, 64]⟩
abbrev S1x1792 : Shape := ⟨2, ![1, 1792]⟩
abbrev S1x512 : Shape := ⟨2, ![1, 512]⟩
abbrev S1x64x512 : Shape := ⟨3, ![1, 64, 512]⟩
abbrev S1x128x512 : Shape := ⟨3, ![1, 128, 512]⟩
abbrev S1x8x64 : Shape := ⟨3, ![1, 8, 64]⟩
abbrev S1792 : Shape := ⟨1, ![1792]⟩
abbrev S512 : Shape := ⟨1, ![512]⟩
abbrev S64x512 : Shape := ⟨2, ![64, 512]⟩
abbrev S128x512 : Shape := ⟨2, ![128, 512]⟩
abbrev S8x64 : Shape := ⟨2, ![8, 64]⟩
abbrev S32x1x1792 : Shape := ⟨3, ![32, 1, 1792]⟩
abbrev S32x8x64x64 : Shape := ⟨4, ![32, 8, 64, 64]⟩
abbrev S_ : Shape := ⟨0, ![]⟩
abbrev S128x1024 : Shape := ⟨2, ![128, 1024]⟩
abbrev S1 : Shape := ⟨1, ![1]⟩
abbrev S2 : Shape := ⟨1, ![2]⟩
abbrev S32x16x512 : Shape := ⟨3, ![32, 16, 512]⟩
abbrev S4x16x1792 : Shape := ⟨3, ![4, 16, 1792]⟩
abbrev S4x1x1792 : Shape := ⟨3, ![4, 1, 1792]⟩
abbrev S4x8x64x64 : Shape := ⟨4, ![4, 8, 64, 64]⟩
abbrev S4x16x512 : Shape := ⟨3, ![4, 16, 512]⟩
abbrev S4x24x1792 : Shape := ⟨3, ![4, 24, 1792]⟩
abbrev S4x4x128x128 : Shape := ⟨4, ![4, 4, 128, 128]⟩
abbrev S1x1x1792 : Shape := ⟨3, ![1, 1, 1792]⟩
abbrev S64x64 : Shape := ⟨2, ![64, 64]⟩
abbrev S1x1x64x64 : Shape := ⟨4, ![1, 1, 64, 64]⟩
abbrev S64x128 : Shape := ⟨2, ![64, 128]⟩
abbrev S128x128 : Shape := ⟨2, ![128, 128]⟩
abbrev S1x1x128x128 : Shape := ⟨4, ![1, 1, 128, 128]⟩
abbrev S1x16x1792 : Shape := ⟨3, ![1, 16, 1792]⟩
abbrev S16x1792 : Shape := ⟨2, ![16, 1792]⟩
abbrev S64x1792 : Shape := ⟨2, ![64, 1792]⟩
abbrev S64x1024 : Shape := ⟨2, ![64, 1024]⟩
abbrev S64x256 : Shape := ⟨2, ![64, 256]⟩
abbrev S256x128 : Shape := ⟨2, ![256, 128]⟩
abbrev S64x192 : Shape := ⟨2, ![64, 192]⟩
abbrev S192x512 : Shape := ⟨2, ![192, 512]⟩
abbrev S16x512 : Shape := ⟨2, ![16, 512]⟩
abbrev S16x32 : Shape := ⟨2, ![16, 32]⟩
abbrev S16x128 : Shape := ⟨2, ![16, 128]⟩
abbrev S32x128 : Shape := ⟨2, ![32, 128]⟩
abbrev S32x64 : Shape := ⟨2, ![32, 64]⟩
abbrev S32x32 : Shape := ⟨2, ![32, 32]⟩
abbrev S16x256 : Shape := ⟨2, ![16, 256]⟩
abbrev S32x256 : Shape := ⟨2, ![32, 256]⟩
abbrev S128x256 : Shape := ⟨2, ![128, 256]⟩
abbrev S48x128 : Shape := ⟨2, ![48, 128]⟩
abbrev S1x128 : Shape := ⟨2, ![1, 128]⟩
abbrev S128 : Shape := ⟨1, ![128]⟩
abbrev S128x1 : Shape := ⟨2, ![128, 1]⟩

abbrev nBuf : Space → Nat
  | .hbm => 54
  | .vmem => 22
  | .smem => 0
  | _ => 0

abbrev bufTy : (tb : Table) → Fin (tcTables nBuf tb) → BufTy
  | .hbm, ⟨0, _⟩ => ⟨S32x16x1792, .f32⟩
  | .hbm, ⟨1, _⟩ => ⟨S1x32x1x1792, .f32⟩
  | .hbm, ⟨2, _⟩ => ⟨S1x32x8x64x64, .f32⟩
  | .hbm, ⟨3, _⟩ => ⟨S1x1792, .f32⟩
  | .hbm, ⟨4, _⟩ => ⟨S1x512, .f32⟩
  | .hbm, ⟨5, _⟩ => ⟨S1x64x512, .f32⟩
  | .hbm, ⟨6, _⟩ => ⟨S1x512, .f32⟩
  | .hbm, ⟨7, _⟩ => ⟨S1x64x512, .f32⟩
  | .hbm, ⟨8, _⟩ => ⟨S1x128x512, .f32⟩
  | .hbm, ⟨9, _⟩ => ⟨S1x512, .f32⟩
  | .hbm, ⟨10, _⟩ => ⟨S1x512, .f32⟩
  | .hbm, ⟨11, _⟩ => ⟨S1x8x64, .f32⟩
  | .hbm, ⟨12, _⟩ => ⟨S1x512, .f32⟩
  | .hbm, ⟨13, _⟩ => ⟨S1x512, .f32⟩
  | .hbm, ⟨14, _⟩ => ⟨S1792, .f32⟩
  | .hbm, ⟨15, _⟩ => ⟨S512, .f32⟩
  | .hbm, ⟨16, _⟩ => ⟨S64x512, .f32⟩
  | .hbm, ⟨17, _⟩ => ⟨S512, .f32⟩
  | .hbm, ⟨18, _⟩ => ⟨S64x512, .f32⟩
  | .hbm, ⟨19, _⟩ => ⟨S128x512, .f32⟩
  | .hbm, ⟨20, _⟩ => ⟨S512, .f32⟩
  | .hbm, ⟨21, _⟩ => ⟨S512, .f32⟩
  | .hbm, ⟨22, _⟩ => ⟨S8x64, .f32⟩
  | .hbm, ⟨23, _⟩ => ⟨S512, .f32⟩
  | .hbm, ⟨24, _⟩ => ⟨S512, .f32⟩
  | .hbm, ⟨25, _⟩ => ⟨S512, .f32⟩
  | .hbm, ⟨26, _⟩ => ⟨S32x1x1792, .f32⟩
  | .hbm, ⟨27, _⟩ => ⟨S32x8x64x64, .f32⟩
  | .hbm, ⟨28, _⟩ => ⟨S1x1792, .f32⟩
  | .hbm, ⟨29, _⟩ => ⟨S1x512, .f32⟩
  | .hbm, ⟨30, _⟩ => ⟨S1x512, .f32⟩
  | .hbm, ⟨31, _⟩ => ⟨S1x512, .f32⟩
  | .hbm, ⟨32, _⟩ => ⟨S1x512, .f32⟩
  | .hbm, ⟨33, _⟩ => ⟨S1x512, .f32⟩
  | .hbm, ⟨34, _⟩ => ⟨S1x512, .f32⟩
  | .hbm, ⟨35, _⟩ => ⟨S1x512, .f32⟩
  | .hbm, ⟨36, _⟩ => ⟨S_, .f32⟩
  | .hbm, ⟨37, _⟩ => ⟨S128x1024, .f32⟩
  | .hbm, ⟨38, _⟩ => ⟨S_, .i32⟩
  | .hbm, ⟨39, _⟩ => ⟨S1, .i32⟩
  | .hbm, ⟨40, _⟩ => ⟨S_, .i32⟩
  | .hbm, ⟨41, _⟩ => ⟨S1, .i32⟩
  | .hbm, ⟨42, _⟩ => ⟨S2, .i32⟩
  | .hbm, ⟨43, _⟩ => ⟨S128x1024, .f32⟩
  | .hbm, ⟨44, _⟩ => ⟨S_, .i32⟩
  | .hbm, ⟨45, _⟩ => ⟨S1, .i32⟩
  | .hbm, ⟨46, _⟩ => ⟨S_, .i32⟩
  | .hbm, ⟨47, _⟩ => ⟨S1, .i32⟩
  | .hbm, ⟨48, _⟩ => ⟨S2, .i32⟩
  | .hbm, ⟨49, _⟩ => ⟨S128x1024, .f32⟩
  | .hbm, ⟨50, _⟩ => ⟨S128x1024, .bf16⟩
  | .hbm, ⟨51, _⟩ => ⟨S128x512, .bf16⟩
  | .hbm, ⟨52, _⟩ => ⟨S32x16x512, .bf16⟩
  | .hbm, ⟨53, _⟩ => ⟨S32x8x64x64, .f32⟩
  | .local _ .vmem, ⟨0, _⟩ => ⟨S4x16x1792, .f32⟩
  | .local _ .vmem, ⟨1, _⟩ => ⟨S4x16x1792, .f32⟩
  | .local _ .vmem, ⟨2, _⟩ => ⟨S4x1x1792, .f32⟩
  | .local _ .vmem, ⟨3, _⟩ => ⟨S4x1x1792, .f32⟩
  | .local _ .vmem, ⟨4, _⟩ => ⟨S4x8x64x64, .f32⟩
  | .local _ .vmem, ⟨5, _⟩ => ⟨S4x8x64x64, .f32⟩
  | .local _ .vmem, ⟨6, _⟩ => ⟨S1x1792, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S1x512, .f32⟩
  | .local _ .vmem, ⟨13, _⟩ => ⟨S1x512, .f32⟩
  | .local _ .vmem, ⟨14, _⟩ => ⟨S128x1024, .bf16⟩
  | .local _ .vmem, ⟨15, _⟩ => ⟨S128x512, .bf16⟩
  | .local _ .vmem, ⟨16, _⟩ => ⟨S4x16x512, .bf16⟩
  | .local _ .vmem, ⟨17, _⟩ => ⟨S4x16x512, .bf16⟩
  | .local _ .vmem, ⟨18, _⟩ => ⟨S4x8x64x64, .f32⟩
  | .local _ .vmem, ⟨19, _⟩ => ⟨S4x8x64x64, .f32⟩
  | .local _ .vmem, ⟨20, _⟩ => ⟨S4x24x1792, .f32⟩
  | .local _ .vmem, ⟨21, _⟩ => ⟨S4x4x128x128, .f32⟩
  | _, _ => ⟨S32x16x1792, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst : Ref sig .tc := ⟨.hbm, 36, rfl⟩
abbrev main_v22 : Ref sig .tc := ⟨.hbm, 37, rfl⟩
abbrev main_c : Ref sig .tc := ⟨.hbm, 38, rfl⟩
abbrev main_v23 : Ref sig .tc := ⟨.hbm, 39, rfl⟩
abbrev main_c_0 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_c_1 : Ref sig .tc := ⟨.hbm, 44, rfl⟩
abbrev main_v27 : Ref sig .tc := ⟨.hbm, 45, rfl⟩
abbrev main_c_2 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33_0 : Ref sig .tc := ⟨.hbm, 52, rfl⟩
abbrev main_v33_1 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg14_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem13_1 : DmaSem sig := 17
abbrev cc0_sem14_0 : DmaSem sig := 18
abbrev cc0_sem14_1 : DmaSem sig := 19

abbrev nD : Nat := 1
abbrev τ : Topo := Topo.v7x

variable {F : FTy → Type} [FloatOps F]

abbrev grid0 : Pipeline.Grid := ⟨2, ![8, 1], ![false, false]⟩

def k0_cond2 (i : grid0.Coords) : BitVec 1 :=
  let arg1 : BitVec 32 := BitVec.ofNat 32 (i 1).val
  let c0_i32_3610 : BitVec 32 := 0#32
  let v11207 : BitVec 1 := Scalar.cmpi .eq arg1 c0_i32_3610
  let v11208 : BitVec 32 := Scalar.extui v11207
  let c0_i32_3611 : BitVec 32 := 0#32
  let v11209 : BitVec 1 := Scalar.cmpi .ne v11208 c0_i32_3611
  v11209

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S4x16x1792 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x1x1792 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4x8x64x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1792 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S128x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S128x512 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S4x16x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S4x8x64x64 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]
-- ==== RwkvIdeal.lean ====
variable {F : FTy → Type} [FloatOps F] [Named F]
def κ : String → Option EReal := fun
  | "eps_sq" => some ((5316911940649 / 5316911983139663491615228241121378304 : ℝ) : EReal)
  | _ => none
-- ==== RwkvRefIdeal.lean ====
abbrev S32x16x1792 : Shape := ⟨3, ![32, 16, 1792]⟩
abbrev S1x32x1x1792 : Shape := ⟨4, ![1, 32, 1, 1792]⟩
abbrev S1x32x8x64x64 : Shape := ⟨5, ![1, 32, 8, 64, 64]⟩
abbrev S1x1792 : Shape := ⟨2, ![1, 1792]⟩
abbrev S1x512 : Shape := ⟨2, ![1, 512]⟩
abbrev S1x64x512 : Shape := ⟨3, ![1, 64, 512]⟩
abbrev S1x128x512 : Shape := ⟨3, ![1, 128, 512]⟩
abbrev S1x8x64 : Shape := ⟨3, ![1, 8, 64]⟩
abbrev S32x1x1792 : Shape := ⟨3, ![32, 1, 1792]⟩
abbrev S32x8x64x64 : Shape := ⟨4, ![32, 8, 64, 64]⟩
abbrev S32x15x1792 : Shape := ⟨3, ![32, 15, 1792]⟩
abbrev S1792 : Shape := ⟨1, ![1792]⟩
abbrev S1x1x1792 : Shape := ⟨3, ![1, 1, 1792]⟩
abbrev S32x16x512 : Shape := ⟨3, ![32, 16, 512]⟩
abbrev S32x16x64 : Shape := ⟨3, ![32, 16, 64]⟩
abbrev S32x16x128 : Shape := ⟨3, ![32, 16, 128]⟩
abbrev S512 : Shape := ⟨1, ![512]⟩
abbrev S64x512 : Shape := ⟨2, ![64, 512]⟩
abbrev S1x1x512 : Shape := ⟨3, ![1, 1, 512]⟩
abbrev S_ : Shape := ⟨0, ![]⟩
abbrev S32x16x8x64 : Shape := ⟨4, ![32, 16, 8, 64]⟩
abbrev S32x16x8 : Shape := ⟨3, ![32, 16, 8]⟩
abbrev S32x16x8x1 : Shape := ⟨4, ![32, 16, 8, 1]⟩
abbrev S16x32x8x64 : Shape := ⟨4, ![16, 32, 8, 64]⟩
abbrev S1x32x8x64 : Shape := ⟨4, ![1, 32, 8, 64]⟩
abbrev S32x8x64 : Shape := ⟨3, ![32, 8, 64]⟩
abbrev S32x8x1x64 : Shape := ⟨4, ![32, 8, 1, 64]⟩
abbrev S32x8x64x1 : Shape := ⟨4, ![32, 8, 64, 1]⟩

abbrev nBuf : Space → Nat
  | .hbm => 167
  | .vmem => 0
  | .smem => 0
  | _ => 0

abbrev hbmTy0_0 (i : Nat) : BufTy := match i % 128 with
  | 0 => ⟨S32x16x1792, .f32⟩
  | 1 => ⟨S1x32x1x1792, .f32⟩
  | 2 => ⟨S1x32x8x64x64, .f32⟩
  | 3 => ⟨S1x1792, .f32⟩
  | 4 => ⟨S1x512, .f32⟩
  | 5 => ⟨S1x64x512, .f32⟩
  | 6 => ⟨S1x512, .f32⟩
  | 7 => ⟨S1x64x512, .f32⟩
  | 8 => ⟨S1x128x512, .f32⟩
  | 9 => ⟨S1x512, .f32⟩
  | 10 => ⟨S1x512, .f32⟩
  | 11 => ⟨S1x8x64, .f32⟩
  | 12 => ⟨S1x512, .f32⟩
  | 13 => ⟨S1x512, .f32⟩
  | 14 => ⟨S32x1x1792, .f32⟩
  | 15 => ⟨S32x8x64x64, .f32⟩
  | 16 => ⟨S32x15x1792, .f32⟩
  | 17 => ⟨S32x16x1792, .f32⟩
  | 18 => ⟨S32x16x1792, .f32⟩
  | 19 => ⟨S1792, .f32⟩
  | 20 => ⟨S1x1x1792, .f32⟩
  | 21 => ⟨S32x16x1792, .f32⟩
  | 22 => ⟨S32x16x1792, .f32⟩
  | 23 => ⟨S32x16x1792, .f32⟩
  | 24 => ⟨S32x16x512, .f32⟩
  | 25 => ⟨S32x16x512, .f32⟩
  | 26 => ⟨S32x16x512, .f32⟩
  | 27 => ⟨S32x16x64, .f32⟩
  | 28 => ⟨S32x16x64, .f32⟩
  | 29 => ⟨S32x16x128, .f32⟩
  | 30 => ⟨S512, .f32⟩
  | 31 => ⟨S32x16x64, .f32⟩
  | 32 => ⟨S64x512, .f32⟩
  | 33 => ⟨S32x16x512, .f32⟩
  | 34 => ⟨S1x1x512, .f32⟩
  | 35 => ⟨S32x16x512, .f32⟩
  | 36 => ⟨S32x16x512, .f32⟩
  | 37 => ⟨S32x16x512, .f32⟩
  | 38 => ⟨S_, .f32⟩
  | 39 => ⟨S32x16x512, .f32⟩
  | 40 => ⟨S32x16x512, .f32⟩
  | 41 => ⟨S32x16x512, .f32⟩
  | 42 => ⟨S32x16x512, .f32⟩
  | 43 => ⟨S32x16x512, .i1⟩
  | 44 => ⟨S32x16x512, .f32⟩
  | 45 => ⟨S32x16x512, .f32⟩
  | 46 => ⟨S32x16x512, .f32⟩
  | 47 => ⟨S32x16x512, .f32⟩
  | 48 => ⟨S32x16x512, .f32⟩
  | 49 => ⟨S32x16x512, .f32⟩
  | 50 => ⟨S32x16x512, .f32⟩
  | 51 => ⟨S32x16x512, .f32⟩
  | 52 => ⟨S32x16x512, .f32⟩
  | 53 => ⟨S_, .f32⟩
  | 54 => ⟨S_, .f32⟩
  | 55 => ⟨S32x16x512, .f32⟩
  | 56 => ⟨S32x16x512, .f32⟩
  | 57 => ⟨S512, .f32⟩
  | 58 => ⟨S64x512, .f32⟩
  | 59 => ⟨S32x16x512, .f32⟩
  | 60 => ⟨S1x1x512, .f32⟩
  | 61 => ⟨S32x16x512, .f32⟩
  | 62 => ⟨S32x16x512, .f32⟩
  | 63 => ⟨S32x16x512, .f32⟩
  | 64 => ⟨S32x16x512, .f32⟩
  | 65 => ⟨S_, .f32⟩
  | 66 => ⟨S32x16x512, .f32⟩
  | 67 => ⟨S32x16x512, .f32⟩
  | 68 => ⟨S_, .f32⟩
  | 69 => ⟨S32x16x512, .f32⟩
  | 70 => ⟨S32x16x512, .f32⟩
  | 71 => ⟨S512, .f32⟩
  | 72 => ⟨S1x1x512, .f32⟩
  | 73 => ⟨S32x16x512, .f32⟩
  | 74 => ⟨S32x16x512, .f32⟩
  | 75 => ⟨S32x16x8x64, .f32⟩
  | 76 => ⟨S32x16x8x64, .f32⟩
  | 77 => ⟨S_, .f32⟩
  | 78 => ⟨S32x16x8, .f32⟩
  | 79 => ⟨S32x16x8x1, .f32⟩
  | 80 => ⟨S32x16x8x1, .f32⟩
  | 81 => ⟨S_, .f32⟩
  | 82 => ⟨S32x16x8x1, .f32⟩
  | 83 => ⟨S32x16x8x1, .f32⟩
  | 84 => ⟨S32x16x8x64, .f32⟩
  | 85 => ⟨S32x16x8x64, .f32⟩
  | 86 => ⟨S32x16x8x64, .f32⟩
  | 87 => ⟨S32x16x8x64, .f32⟩
  | 88 => ⟨S_, .f32⟩
  | 89 => ⟨S32x16x8x64, .f32⟩
  | 90 => ⟨S32x16x8x64, .f32⟩
  | 91 => ⟨S512, .f32⟩
  | 92 => ⟨S_, .f32⟩
  | 93 => ⟨S32x16x512, .f32⟩
  | 94 => ⟨S1x1x512, .f32⟩
  | 95 => ⟨S32x16x512, .f32⟩
  | 96 => ⟨S32x16x512, .f32⟩
  | 97 => ⟨S32x16x8x64, .f32⟩
  | 98 => ⟨S32x16x8x64, .f32⟩
  | 99 => ⟨S_, .f32⟩
  | 100 => ⟨S32x16x8x64, .f32⟩
  | 101 => ⟨S32x16x8x64, .f32⟩
  | 102 => ⟨S32x16x8x64, .f32⟩
  | 103 => ⟨S32x16x8x64, .f32⟩
  | 104 => ⟨S32x16x8x64, .f32⟩
  | 105 => ⟨S32x16x8x64, .f32⟩
  | 106 => ⟨S32x16x8x64, .f32⟩
  | 107 => ⟨S32x16x8x64, .f32⟩
  | 108 => ⟨S32x16x8x64, .f32⟩
  | 109 => ⟨S16x32x8x64, .f32⟩
  | 110 => ⟨S16x32x8x64, .f32⟩
  | 111 => ⟨S16x32x8x64, .f32⟩
  | 112 => ⟨S16x32x8x64, .f32⟩
  | 113 => ⟨S16x32x8x64, .f32⟩
  | 114 => ⟨S_, .i32⟩
  | 115 => ⟨S16x32x8x64, .f32⟩
  | 116 => ⟨S16x32x8x64, .f32⟩
  | 117 => ⟨S16x32x8x64, .f32⟩
  | 118 => ⟨S16x32x8x64, .f32⟩
  | 119 => ⟨S16x32x8x64, .f32⟩
  | 120 => ⟨S_, .i32⟩
  | 121 => ⟨S32x8x64x64, .f32⟩
  | 122 => ⟨S_, .i32⟩
  | 123 => ⟨S_, .i1⟩
  | 124 => ⟨S_, .i32⟩
  | 125 => ⟨S_, .i32⟩
  | 126 => ⟨S_, .i32⟩
  | 127 => ⟨S1x32x8x64, .f32⟩
  | _ => ⟨S32x16x1792, .f32⟩

abbrev hbmTy0_1 (i : Nat) : BufTy := match i % 128 with
  | 0 => ⟨S32x8x64, .f32⟩
  | 1 => ⟨S_, .i32⟩
  | 2 => ⟨S_, .i32⟩
  | 3 => ⟨S_, .i32⟩
  | 4 => ⟨S1x32x8x64, .f32⟩
  | 5 => ⟨S32x8x64, .f32⟩
  | 6 => ⟨S_, .i32⟩
  | 7 => ⟨S_, .i32⟩
  | 8 => ⟨S_, .i32⟩
  | 9 => ⟨S1x32x8x64, .f32⟩
  | 10 => ⟨S32x8x64, .f32⟩
  | 11 => ⟨S_, .i32⟩
  | 12 => ⟨S_, .i32⟩
  | 13 => ⟨S_, .i32⟩
  | 14 => ⟨S1x32x8x64, .f32⟩
  | 15 => ⟨S32x8x64, .f32⟩
  | 16 => ⟨S_, .i32⟩
  | 17 => ⟨S_, .i32⟩
  | 18 => ⟨S_, .i32⟩
  | 19 => ⟨S1x32x8x64, .f32⟩
  | 20 => ⟨S32x8x64, .f32⟩
  | 21 => ⟨S32x8x64, .f32⟩
  | 22 => ⟨S32x8x1x64, .f32⟩
  | 23 => ⟨S32x8x64x64, .f32⟩
  | 24 => ⟨S32x8x64x64, .f32⟩
  | 25 => ⟨S32x8x64x1, .f32⟩
  | 26 => ⟨S32x8x1x64, .f32⟩
  | 27 => ⟨S32x8x64x64, .f32⟩
  | 28 => ⟨S32x8x64x64, .f32⟩
  | 29 => ⟨S32x8x64x64, .f32⟩
  | 30 => ⟨S32x8x64x64, .f32⟩
  | 31 => ⟨S32x8x64x1, .f32⟩
  | 32 => ⟨S32x8x1x64, .f32⟩
  | 33 => ⟨S32x8x64x64, .f32⟩
  | 34 => ⟨S32x8x64x64, .f32⟩
  | 35 => ⟨S32x8x64x64, .f32⟩
  | 36 => ⟨S32x8x64x64, .f32⟩
  | 37 => ⟨S_, .i32⟩
  | 38 => ⟨S_, .i32⟩
  | _ => ⟨S32x16x1792, .f32⟩

abbrev hbmTy (i : Nat) : BufTy := match i / 128 with
  | 0 => hbmTy0_0 i
  | 1 => hbmTy0_1 i
  | _ => ⟨S32x16x1792, .f32⟩

abbrev bufTy : (tb : Table) → Fin (tcTables nBuf tb) → BufTy
  | .hbm, ⟨i, _⟩ => hbmTy i
  | _, _ => ⟨S32x16x1792, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_call0_cst : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_call0_v3 : Ref sig .tc := ⟨.hbm, 42, rfl⟩
abbrev main_call0_v4 : Ref sig .tc := ⟨.hbm, 43, rfl⟩
abbrev main_call0_v5 : Ref sig .tc := ⟨.hbm, 44, rfl⟩
abbrev main_call0_v6 : Ref sig .tc := ⟨.hbm, 45, rfl⟩
abbrev main_call0_v7 : Ref sig .tc := ⟨.hbm, 46, rfl⟩
abbrev main_call0_v8 : Ref sig .tc := ⟨.hbm, 47, rfl⟩
abbrev main_call0_v9 : Ref sig .tc := ⟨.hbm, 48, rfl⟩
abbrev main_call0_v10 : Ref sig .tc := ⟨.hbm, 49, rfl⟩
abbrev main_call0_v11 : Ref sig .tc := ⟨.hbm, 50, rfl⟩
abbrev main_v24 : Ref sig .tc := ⟨.hbm, 51, rfl⟩
abbrev main_v25 : Ref sig .tc := ⟨.hbm, 52, rfl⟩
abbrev main_cst : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_cst_0 : Ref sig .tc := ⟨.hbm, 65, rfl⟩
abbrev main_v37 : Ref sig .tc := ⟨.hbm, 66, rfl⟩
abbrev main_v38 : Ref sig .tc := ⟨.hbm, 67, rfl⟩
abbrev main_cst_1 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_cst_2 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_cst_3 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_cst_4 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_cst_5 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_cst_6 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_c : Ref sig .tc := ⟨.hbm, 114, rfl⟩
abbrev main_v79_0 : Ref sig .tc := ⟨.hbm, 115, rfl⟩
abbrev main_v79_1 : Ref sig .tc := ⟨.hbm, 116, rfl⟩
abbrev main_v79_2 : Ref sig .tc := ⟨.hbm, 117, rfl⟩
abbrev main_v79_3 : Ref sig .tc := ⟨.hbm, 118, rfl⟩
abbrev main_v79_4 : Ref sig .tc := ⟨.hbm, 119, rfl⟩
abbrev main_v79_5 : Ref sig .tc := ⟨.hbm, 120, rfl⟩
abbrev main_v79_6 : Ref sig .tc := ⟨.hbm, 121, rfl⟩
abbrev main_while0c_c_13 : Ref sig .tc := ⟨.hbm, 122, rfl⟩
abbrev main_while0c_v80 : Ref sig .tc := ⟨.hbm, 123, rfl⟩
abbrev main_while0b_call1_c : Ref sig .tc := ⟨.hbm, 124, rfl⟩
abbrev main_while0b_call1_c_0 : Ref sig .tc := ⟨.hbm, 125, rfl⟩
abbrev main_while0b_call1_c_1 : Ref sig .tc := ⟨.hbm, 126, rfl⟩
abbrev main_while0b_call1_v0 : Ref sig .tc := ⟨.hbm, 127, rfl⟩
abbrev main_while0b_v80 : Ref sig .tc := ⟨.hbm, 128, rfl⟩
abbrev main_while0b_call2_c : Ref sig .tc := ⟨.hbm, 129, rfl⟩
abbrev main_while0b_call2_c_0 : Ref sig .tc := ⟨.hbm, 130, rfl⟩
abbrev main_while0b_call2_c_1 : Ref sig .tc := ⟨.hbm, 131, rfl⟩
abbrev main_while0b_call2_v0 : Ref sig .tc := ⟨.hbm, 132, rfl⟩
abbrev main_while0b_v81 : Ref sig .tc := ⟨.hbm, 133, rfl⟩
abbrev main_while0b_call3_c : Ref sig .tc := ⟨.hbm, 134, rfl⟩
abbrev main_while0b_call3_c_0 : Ref sig .tc := ⟨.hbm, 135, rfl⟩
abbrev main_while0b_call3_c_1 : Ref sig .tc := ⟨.hbm, 136, rfl⟩
abbrev main_while0b_call3_v0 : Ref sig .tc := ⟨.hbm, 137, rfl⟩
abbrev main_while0b_v82 : Ref sig .tc := ⟨.hbm, 138, rfl⟩
abbrev main_while0b_call4_c : Ref sig .tc := ⟨.hbm, 139, rfl⟩
abbrev main_while0b_call4_c_0 : Ref sig .tc := ⟨.hbm, 140, rfl⟩
abbrev main_while0b_call4_c_1 : Ref sig .tc := ⟨.hbm, 141, rfl⟩
abbrev main_while0b_call4_v0 : Ref sig .tc := ⟨.hbm, 142, rfl⟩
abbrev main_while0b_v83 : Ref sig .tc := ⟨.hbm, 143, rfl⟩
abbrev main_while0b_call5_c : Ref sig .tc := ⟨.hbm, 144, rfl⟩
abbrev main_while0b_call5_c_0 : Ref sig .tc := ⟨.hbm, 145, rfl⟩
abbrev main_while0b_call5_c_1 : Ref sig .tc := ⟨.hbm, 146, rfl⟩
abbrev main_while0b_call5_v0 : Ref sig .tc := ⟨.hbm, 147, rfl⟩
abbrev main_while0b_v84 : Ref sig .tc := ⟨.hbm, 148, rfl⟩
abbrev main_while0b_v85 : Ref sig .tc := ⟨.hbm, 149, rfl⟩
abbrev main_while0b_v86 : Ref sig .tc := ⟨.hbm, 150, rfl⟩
abbrev main_while0b_v87 : Ref sig .tc := ⟨.hbm, 151, rfl⟩
abbrev main_while0b_v88 : Ref sig .tc := ⟨.hbm, 152, rfl⟩
abbrev main_while0b_v89 : Ref sig .tc := ⟨.hbm, 153, rfl⟩
abbrev main_while0b_v90 : Ref sig .tc := ⟨.hbm, 154, rfl⟩
abbrev main_while0b_v91 : Ref sig .tc := ⟨.hbm, 155, rfl⟩
abbrev main_while0b_v92 : Ref sig .tc := ⟨.hbm, 156, rfl⟩
abbrev main_while0b_v93 : Ref sig .tc := ⟨.hbm, 157, rfl⟩
abbrev main_while0b_v94 : Ref sig .tc := ⟨.hbm, 158, rfl⟩
abbrev main_while0b_v95 : Ref sig .tc := ⟨.hbm, 159, rfl⟩
abbrev main_while0b_v96 : Ref sig .tc := ⟨.hbm, 160, rfl⟩
abbrev main_while0b_v97 : Ref sig .tc := ⟨.hbm, 161, rfl⟩
abbrev main_while0b_v98 : Ref sig .tc := ⟨.hbm, 162, rfl⟩
abbrev main_while0b_v99 : Ref sig .tc := ⟨.hbm, 163, rfl⟩
abbrev main_while0b_v100 : Ref sig .tc := ⟨.hbm, 164, rfl⟩
abbrev main_while0b_c_13 : Ref sig .tc := ⟨.hbm, 165, rfl⟩
abbrev main_while0b_v101 : Ref sig .tc := ⟨.hbm, 166, rfl⟩

abbrev nD : Nat := 1
abbrev τ : Topo := Topo.v7x

variable {F : FTy → Type} [FloatOps F]

abbrev main_while0_count : Scf.Loop 32 := ⟨0#32, 16#32, 1#32⟩
-- ==== Tail.lean ====
abbrev S8x2048x1024 : Shape := ⟨3, ![8, 2048, 1024]⟩
abbrev S8x2048x512 : Shape := ⟨3, ![8, 2048, 512]⟩
abbrev S1x1024 : Shape := ⟨2, ![1, 1024]⟩
abbrev S1x1024x5192 : Shape := ⟨3, ![1, 1024, 5192]⟩
abbrev S1x512x1024 : Shape := ⟨3, ![1, 512, 1024]⟩
abbrev S1x1024x1024 : Shape := ⟨3, ![1, 1024, 1024]⟩
abbrev S1x1024x4096 : Shape := ⟨3, ![1, 1024, 4096]⟩
abbrev S1x4096x1024 : Shape := ⟨3, ![1, 4096, 1024]⟩
abbrev S1024 : Shape := ⟨1, ![1024]⟩
abbrev S16384x1024 : Shape := ⟨2, ![16384, 1024]⟩
abbrev S1024x5192 : Shape := ⟨2, ![1024, 5192]⟩
abbrev S_ : Shape := ⟨0, ![]⟩
abbrev S1024x56 : Shape := ⟨2, ![1024, 56]⟩
abbrev S1024x512 : Shape := ⟨2, ![1024, 512]⟩
abbrev S1024x128 : Shape := ⟨2, ![1024, 128]⟩
abbrev S1024x64 : Shape := ⟨2, ![1024, 64]⟩
abbrev S1024x8 : Shape := ⟨2, ![1024, 8]⟩
abbrev S1024x1408 : Shape := ⟨2, ![1024, 1408]⟩
abbrev S1024x1792 : Shape := ⟨2, ![1024, 1792]⟩
abbrev S1024x1024 : Shape := ⟨2, ![1024, 1024]⟩
abbrev S1024x2048 : Shape := ⟨2, ![1024, 2048]⟩
abbrev S16384x512 : Shape := ⟨2, ![16384, 512]⟩
abbrev S512x1024 : Shape := ⟨2, ![512, 1024]⟩
abbrev S1024x4096 : Shape := ⟨2, ![1024, 4096]⟩
abbrev S4096x1024 : Shape := ⟨2, ![4096, 1024]⟩
abbrev S256x1024 : Shape := ⟨2, ![256, 1024]⟩
abbrev S256x512 : Shape := ⟨2, ![256, 512]⟩
abbrev S256 : Shape := ⟨1, ![256]⟩
abbrev S256x1 : Shape := ⟨2, ![256, 1]⟩
abbrev S256x2048 : Shape := ⟨2, ![256, 2048]⟩
abbrev S256x4096 : Shape := ⟨2, ![256, 4096]⟩

abbrev nBuf : Space → Nat
  | .hbm => 48
  | .vmem => 17
  | .smem => 0
  | _ => 0

abbrev bufTy : (tb : Table) → Fin (tcTables nBuf tb) → BufTy
  | .hbm, ⟨0, _⟩ => ⟨S8x2048x1024, .f32⟩
  | .hbm, ⟨1, _⟩ => ⟨S8x2048x512, .bf16⟩
  | .hbm, ⟨2, _⟩ => ⟨S8x2048x512, .bf16⟩
  | .hbm, ⟨3, _⟩ => ⟨S1x1024, .f32⟩
  | .hbm, ⟨4, _⟩ => ⟨S1x1024x5192, .f32⟩
  | .hbm, ⟨5, _⟩ => ⟨S1x512x1024, .f32⟩
  | .hbm, ⟨6, _⟩ => ⟨S1x512x1024, .f32⟩
  | .hbm, ⟨7, _⟩ => ⟨S1x1024x1024, .f32⟩
  | .hbm, ⟨8, _⟩ => ⟨S1x1024, .f32⟩
  | .hbm, ⟨9, _⟩ => ⟨S1x1024x4096, .f32⟩
  | .hbm, ⟨10, _⟩ => ⟨S1x4096x1024, .f32⟩
  | .hbm, ⟨11, _⟩ => ⟨S1024, .f32⟩
  | .hbm, ⟨12, _⟩ => ⟨S16384x1024, .f32⟩
  | .hbm, ⟨13, _⟩ => ⟨S1024x5192, .f32⟩
  | .hbm, ⟨14, _⟩ => ⟨S_, .f32⟩
  | .hbm, ⟨15, _⟩ => ⟨S1024x56, .f32⟩
  | .hbm, ⟨16, _⟩ => ⟨S1024x512, .f32⟩
  | .hbm, ⟨17, _⟩ => ⟨S1024x512, .f32⟩
  | .hbm, ⟨18, _⟩ => ⟨S1024x128, .f32⟩
  | .hbm, ⟨19, _⟩ => ⟨S1024x128, .f32⟩
  | .hbm, ⟨20, _⟩ => ⟨S1024x64, .f32⟩
  | .hbm, ⟨21, _⟩ => ⟨S1024x8, .f32⟩
  | .hbm, ⟨22, _⟩ => ⟨S1024x1408, .f32⟩
  | .hbm, ⟨23, _⟩ => ⟨S1024x1408, .bf16⟩
  | .hbm, ⟨24, _⟩ => ⟨S1024x1792, .f32⟩
  | .hbm, ⟨25, _⟩ => ⟨S1024x1792, .bf16⟩
  | .hbm, ⟨26, _⟩ => ⟨S1024x1024, .f32⟩
  | .hbm, ⟨27, _⟩ => ⟨S1024x1024, .f32⟩
  | .hbm, ⟨28, _⟩ => ⟨S1024x2048, .f32⟩
  | .hbm, ⟨29, _⟩ => ⟨S1024x2048, .bf16⟩
  | .hbm, ⟨30, _⟩ => ⟨S16384x512, .bf16⟩
  | .hbm, ⟨31, _⟩ => ⟨S16384x512, .bf16⟩
  | .hbm, ⟨32, _⟩ => ⟨S1024, .f32⟩
  | .hbm, ⟨33, _⟩ => ⟨S1x1024, .f32⟩
  | .hbm, ⟨34, _⟩ => ⟨S512x1024, .f32⟩
  | .hbm, ⟨35, _⟩ => ⟨S512x1024, .bf16⟩
  | .hbm, ⟨36, _⟩ => ⟨S512x1024, .f32⟩
  | .hbm, ⟨37, _⟩ => ⟨S512x1024, .bf16⟩
  | .hbm, ⟨38, _⟩ => ⟨S1024x1024, .f32⟩
  | .hbm, ⟨39, _⟩ => ⟨S1024x1024, .bf16⟩
  | .hbm, ⟨40, _⟩ => ⟨S1024, .f32⟩
  | .hbm, ⟨41, _⟩ => ⟨S1x1024, .f32⟩
  | .hbm, ⟨42, _⟩ => ⟨S1024x4096, .f32⟩
  | .hbm, ⟨43, _⟩ => ⟨S1024x4096, .bf16⟩
  | .hbm, ⟨44, _⟩ => ⟨S4096x1024, .f32⟩
  | .hbm, ⟨45, _⟩ => ⟨S4096x1024, .bf16⟩
  | .hbm, ⟨46, _⟩ => ⟨S1x1024, .f32⟩
  | .hbm, ⟨47, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S1x1024, .f32⟩
  | .local _ .vmem, ⟨7, _⟩ => ⟨S1024x2048, .bf16⟩
  | .local _ .vmem, ⟨8, _⟩ => ⟨S512x1024, .bf16⟩
  | .local _ .vmem, ⟨9, _⟩ => ⟨S512x1024, .bf16⟩
  | .local _ .vmem, ⟨10, _⟩ => ⟨S1024x1024, .bf16⟩
  | .local _ .vmem, ⟨11, _⟩ => ⟨S1x1024, .f32⟩
  | .local _ .vmem, ⟨12, _⟩ => ⟨S1024x4096, .bf16⟩
  | .local _ .vmem, ⟨13, _⟩ => ⟨S4096x1024, .bf16⟩
  | .local _ .vmem, ⟨14, _⟩ => ⟨S1x1024, .f32⟩
  | .local _ .vmem, ⟨15, _⟩ => ⟨S256x1024, .f32⟩
  | .local _ .vmem, ⟨16, _⟩ => ⟨S256x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_cst : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg12_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem12_1 : DmaSem sig := 16

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x4096 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S4096x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== TailRefIdeal.lean ====
abbrev S8x2048x1024 : Shape := ⟨3, ![8, 2048, 1024]⟩
abbrev S8x2048x512 : Shape := ⟨3, ![8, 2048, 512]⟩
abbrev S1x1024 : Shape := ⟨2, ![1, 1024]⟩
abbrev S1x1024x5192 : Shape := ⟨3, ![1, 1024, 5192]⟩
abbrev S1x512x1024 : Shape := ⟨3, ![1, 512, 1024]⟩
abbrev S1x1024x1024 : Shape := ⟨3, ![1, 1024, 1024]⟩
abbrev S1x1024x4096 : Shape := ⟨3, ![1, 1024, 4096]⟩
abbrev S1x4096x1024 : Shape := ⟨3, ![1, 4096, 1024]⟩
abbrev S1024 : Shape := ⟨1, ![1024]⟩
abbrev S16384x1024 : Shape := ⟨2, ![16384, 1024]⟩
abbrev S16384x512 : Shape := ⟨2, ![16384, 512]⟩
abbrev S_ : Shape := ⟨0, ![]⟩
abbrev S16384 : Shape := ⟨1, ![16384]⟩
abbrev S16384x1 : Shape := ⟨2, ![16384, 1]⟩
abbrev S1024x5192 : Shape := ⟨2, ![1024, 5192]⟩
abbrev S16384x5192 : Shape := ⟨2, ![16384, 5192]⟩
abbrev S16384x128 : Shape := ⟨2, ![16384, 128]⟩
abbrev S16384x64 : Shape := ⟨2, ![16384, 64]⟩
abbrev S16384x8 : Shape := ⟨2, ![16384, 8]⟩
abbrev S16384x1792 : Shape := ⟨2, ![16384, 1792]⟩
abbrev S512x1024 : Shape := ⟨2, ![512, 1024]⟩
abbrev S1024x1024 : Shape := ⟨2, ![1024, 1024]⟩
abbrev S1024x4096 : Shape := ⟨2, ![1024, 4096]⟩
abbrev S16384x4096 : Shape := ⟨2, ![16384, 4096]⟩
abbrev S4096x1024 : Shape := ⟨2, ![4096, 1024]⟩

abbrev nBuf : Space → Nat
  | .hbm => 113
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x512, .bf16⟩
  | .hbm, ⟨2, _⟩ => ⟨S8x2048x512, .bf16⟩
  | .hbm, ⟨3, _⟩ => ⟨S1x1024, .f32⟩
  | .hbm, ⟨4, _⟩ => ⟨S1x1024x5192, .f32⟩
  | .hbm, ⟨5, _⟩ => ⟨S1x512x1024, .f32⟩
  | .hbm, ⟨6, _⟩ => ⟨S1x512x1024, .f32⟩
  | .hbm, ⟨7, _⟩ => ⟨S1x1024x1024, .f32⟩
  | .hbm, ⟨8, _⟩ => ⟨S1x1024, .f32⟩
  | .hbm, ⟨9, _⟩ => ⟨S1x1024x4096, .f32⟩
  | .hbm, ⟨10, _⟩ => ⟨S1x4096x1024, .f32⟩
  | .hbm, ⟨11, _⟩ => ⟨S1024, .f32⟩
  | .hbm, ⟨12, _⟩ => ⟨S16384x1024, .f32⟩
  | .hbm, ⟨13, _⟩ => ⟨S16384x512, .bf16⟩
  | .hbm, ⟨14, _⟩ => ⟨S16384x512, .f32⟩
  | .hbm, ⟨15, _⟩ => ⟨S16384x512, .bf16⟩
  | .hbm, ⟨16, _⟩ => ⟨S16384x512, .f32⟩
  | .hbm, ⟨17, _⟩ => ⟨S1024, .f32⟩
  | .hbm, ⟨18, _⟩ => ⟨S16384x1024, .f32⟩
  | .hbm, ⟨19, _⟩ => ⟨S_, .f32⟩
  | .hbm, ⟨20, _⟩ => ⟨S16384, .f32⟩
  | .hbm, ⟨21, _⟩ => ⟨S16384x1, .f32⟩
  | .hbm, ⟨22, _⟩ => ⟨S_, .f32⟩
  | .hbm, ⟨23, _⟩ => ⟨S16384x1, .f32⟩
  | .hbm, ⟨24, _⟩ => ⟨S16384x1, .f32⟩
  | .hbm, ⟨25, _⟩ => ⟨S_, .f32⟩
  | .hbm, ⟨26, _⟩ => ⟨S16384x1, .f32⟩
  | .hbm, ⟨27, _⟩ => ⟨S16384x1, .f32⟩
  | .hbm, ⟨28, _⟩ => ⟨S16384x1, .f32⟩
  | .hbm, ⟨29, _⟩ => ⟨S16384x1024, .f32⟩
  | .hbm, ⟨30, _⟩ => ⟨S16384x1024, .f32⟩
  | .hbm, ⟨31, _⟩ => ⟨S1x1024, .f32⟩
  | .hbm, ⟨32, _⟩ => ⟨S16384x1024, .f32⟩
  | .hbm, ⟨33, _⟩ => ⟨S16384x1024, .f32⟩
  | .hbm, ⟨34, _⟩ => ⟨S1024x5192, .f32⟩
  | .hbm, ⟨35, _⟩ => ⟨S16384x5192, .f32⟩
  | .hbm, ⟨36, _⟩ => ⟨S16384x512, .f32⟩
  | .hbm, ⟨37, _⟩ => ⟨S16384x128, .f32⟩
  | .hbm, ⟨38, _⟩ => ⟨S16384x128, .f32⟩
  | .hbm, ⟨39, _⟩ => ⟨S16384x512, .f32⟩
  | .hbm, ⟨40, _⟩ => ⟨S16384x64, .f32⟩
  | .hbm, ⟨41, _⟩ => ⟨S16384x8, .f32⟩
  | .hbm, ⟨42, _⟩ => ⟨S16384x1792, .f32⟩
  | .hbm, ⟨43, _⟩ => ⟨S16384x1024, .f32⟩
  | .hbm, ⟨44, _⟩ => ⟨S16384x1024, .f32⟩
  | .hbm, ⟨45, _⟩ => ⟨S512x1024, .f32⟩
  | .hbm, ⟨46, _⟩ => ⟨S16384x1024, .f32⟩
  | .hbm, ⟨47, _⟩ => ⟨S512x1024, .f32⟩
  | .hbm, ⟨48, _⟩ => ⟨S16384x1024, .f32⟩
  | .hbm, ⟨49, _⟩ => ⟨S16384x1024, .f32⟩
  | .hbm, ⟨50, _⟩ => ⟨S16384x1024, .f32⟩
  | .hbm, ⟨51, _⟩ => ⟨S_, .f32⟩
  | .hbm, ⟨52, _⟩ => ⟨S16384x1024, .f32⟩
  | .hbm, ⟨53, _⟩ => ⟨S16384x1024, .f32⟩
  | .hbm, ⟨54, _⟩ => ⟨S_, .f32⟩
  | .hbm, ⟨55, _⟩ => ⟨S16384x1024, .f32⟩
  | .hbm, ⟨56, _⟩ => ⟨S16384x1024, .f32⟩
  | .hbm, ⟨57, _⟩ => ⟨S16384x1024, .f32⟩
  | .hbm, ⟨58, _⟩ => ⟨S16384x1024, .f32⟩
  | .hbm, ⟨59, _⟩ => ⟨S16384x1024, .f32⟩
  | .hbm, ⟨60, _⟩ => ⟨S_, .f32⟩
  | .hbm, ⟨61, _⟩ => ⟨S16384x1024, .f32⟩
  | .hbm, ⟨62, _⟩ => ⟨S16384x1024, .f32⟩
  | .hbm, ⟨63, _⟩ => ⟨S_, .f32⟩
  | .hbm, ⟨64, _⟩ => ⟨S16384x1024, .f32⟩
  | .hbm, ⟨65, _⟩ => ⟨S16384x1024, .f32⟩
  | .hbm, ⟨66, _⟩ => ⟨S16384x1024, .f32⟩
  | .hbm, ⟨67, _⟩ => ⟨S16384x1024, .f32⟩
  | .hbm, ⟨68, _⟩ => ⟨S1024x1024, .f32⟩
  | .hbm, ⟨69, _⟩ => ⟨S16384x1024, .f32⟩
  | .hbm, ⟨70, _⟩ => ⟨S16384x1024, .f32⟩
  | .hbm, ⟨71, _⟩ => ⟨S1024, .f32⟩
  | .hbm, ⟨72, _⟩ => ⟨S16384x1024, .f32⟩
  | .hbm, ⟨73, _⟩ => ⟨S_, .f32⟩
  | .hbm, ⟨74, _⟩ => ⟨S16384, .f32⟩
  | .hbm, ⟨75, _⟩ => ⟨S16384x1, .f32⟩
  | .hbm, ⟨76, _⟩ => ⟨S_, .f32⟩
  | .hbm, ⟨77, _⟩ => ⟨S16384x1, .f32⟩
  | .hbm, ⟨78, _⟩ => ⟨S16384x1, .f32⟩
  | .hbm, ⟨79, _⟩ => ⟨S_, .f32⟩
  | .hbm, ⟨80, _⟩ => ⟨S16384x1, .f32⟩
  | .hbm, ⟨81, _⟩ => ⟨S16384x1, .f32⟩
  | .hbm, ⟨82, _⟩ => ⟨S16384x1, .f32⟩
  | .hbm, ⟨83, _⟩ => ⟨S16384x1024, .f32⟩
  | .hbm, ⟨84, _⟩ => ⟨S16384x1024, .f32⟩
  | .hbm, ⟨85, _⟩ => ⟨S1x1024, .f32⟩
  | .hbm, ⟨86, _⟩ => ⟨S16384x1024, .f32⟩
  | .hbm, ⟨87, _⟩ => ⟨S16384x1024, .f32⟩
  | .hbm, ⟨88, _⟩ => ⟨S1024x4096, .f32⟩
  | .hbm, ⟨89, _⟩ => ⟨S16384x4096, .f32⟩
  | .hbm, ⟨90, _⟩ => ⟨S_, .f32⟩
  | .hbm, ⟨91, _⟩ => ⟨S16384x4096, .f32⟩
  | .hbm, ⟨92, _⟩ => ⟨S16384x4096, .f32⟩
  | .hbm, ⟨93, _⟩ => ⟨S16384x4096, .f32⟩
  | .hbm, ⟨94, _⟩ => ⟨S4096x1024, .f32⟩
  | .hbm, ⟨95, _⟩ => ⟨S16384x1024, .f32⟩
  | .hbm, ⟨96, _⟩ => ⟨S16384x1024, .f32⟩
  | .hbm, ⟨97, _⟩ => ⟨S16384x1024, .f32⟩
  | .hbm, ⟨98, _⟩ => ⟨S_, .f32⟩
  | .hbm, ⟨99, _⟩ => ⟨S16384, .f32⟩
  | .hbm, ⟨100, _⟩ => ⟨S16384x1, .f32⟩
  | .hbm, ⟨101, _⟩ => ⟨S_, .f32⟩
  | .hbm, ⟨102, _⟩ => ⟨S16384x1, .f32⟩
  | .hbm, ⟨103, _⟩ => ⟨S16384x1, .f32⟩
  | .hbm, ⟨104, _⟩ => ⟨S_, .f32⟩
  | .hbm, ⟨105, _⟩ => ⟨S16384x1, .f32⟩
  | .hbm, ⟨106, _⟩ => ⟨S16384x1, .f32⟩
  | .hbm, ⟨107, _⟩ => ⟨S16384x1, .f32⟩
  | .hbm, ⟨108, _⟩ => ⟨S16384x1024, .f32⟩
  | .hbm, ⟨109, _⟩ => ⟨S16384x1024, .f32⟩
  | .hbm, ⟨110, _⟩ => ⟨S1x1024, .f32⟩
  | .hbm, ⟨111, _⟩ => ⟨S16384x1024, .f32⟩
  | .hbm, ⟨112, _⟩ => ⟨S16384x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_v8 : Ref sig .tc := ⟨.hbm, 21, rfl⟩
abbrev main_cst_0 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_2 : Ref sig .tc := ⟨.hbm, 51, rfl⟩
abbrev main_v36 : Ref sig .tc := ⟨.hbm, 52, rfl⟩
abbrev main_v37 : Ref sig .tc := ⟨.hbm, 53, rfl⟩
abbrev main_cst_3 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_4 : Ref sig .tc := ⟨.hbm, 60, rfl⟩
abbrev main_v43 : Ref sig .tc := ⟨.hbm, 61, rfl⟩
abbrev main_v44 : Ref sig .tc := ⟨.hbm, 62, rfl⟩
abbrev main_cst_5 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_6 : Ref sig .tc := ⟨.hbm, 73, rfl⟩
abbrev main_v54 : Ref sig .tc := ⟨.hbm, 74, rfl⟩
abbrev main_v55 : Ref sig .tc := ⟨.hbm, 75, rfl⟩
abbrev main_cst_7 : Ref sig .tc := ⟨.hbm, 76, rfl⟩
abbrev main_v56 : Ref sig .tc := ⟨.hbm, 77, rfl⟩
abbrev main_v57 : Ref sig .tc := ⟨.hbm, 78, rfl⟩
abbrev main_cst_8 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_call0_cst : Ref sig .tc := ⟨.hbm, 90, rfl⟩
abbrev main_call0_v0 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_cst_9 : Ref sig .tc := ⟨.hbm, 98, rfl⟩
abbrev main_v74 : Ref sig .tc := ⟨.hbm, 99, rfl⟩
abbrev main_v75 : Ref sig .tc := ⟨.hbm, 100, rfl⟩
abbrev main_cst_10 : Ref sig .tc := ⟨.hbm, 101, rfl⟩
abbrev main_v76 : Ref sig .tc := ⟨.hbm, 102, rfl⟩
abbrev main_v77 : Ref sig .tc := ⟨.hbm, 103, rfl⟩
abbrev main_cst_11 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩

abbrev nD : Nat := 1
abbrev τ : Topo := Topo.v7x

variable {F : FTy → Type} [FloatOps F]
-- ==== InProj.lean ====
abbrev S8x2048x1024 : Shape := ⟨3, ![8, 2048, 1024]⟩
abbrev S1x1024 : Shape := ⟨2, ![1, 1024]⟩
abbrev S1x1024x5192 : Shape := ⟨3, ![1, 1024, 5192]⟩
abbrev S16384x1024 : Shape := ⟨2, ![16384, 1024]⟩
abbrev S1024x5192 : Shape := ⟨2, ![1024, 5192]⟩
abbrev S_ : Shape := ⟨0, ![]⟩
abbrev S1024x56 : Shape := ⟨2, ![1024, 56]⟩
abbrev S1024x512 : Shape := ⟨2, ![1024, 512]⟩
abbrev S1024x128 : Shape := ⟨2, ![1024, 128]⟩
abbrev S1024x64 : Shape := ⟨2, ![1024, 64]⟩
abbrev S1024x8 : Shape := ⟨2, ![1024, 8]⟩
abbrev S1024x1408 : Shape := ⟨2, ![1024, 1408]⟩
abbrev S1024x1792 : Shape := ⟨2, ![1024, 1792]⟩
abbrev S1024x1024 : Shape := ⟨2, ![1024, 1024]⟩
abbrev S1024x2048 : Shape := ⟨2, ![1024, 2048]⟩
abbrev S1024 : Shape := ⟨1, ![1024]⟩
abbrev S16384x512 : Shape := ⟨2, ![16384, 512]⟩
abbrev S16384x128 : Shape := ⟨2, ![16384, 128]⟩
abbrev S16384x64 : Shape := ⟨2, ![16384, 64]⟩
abbrev S16384x8 : Shape := ⟨2, ![16384, 8]⟩
abbrev S16384x1792 : Shape := ⟨2, ![16384, 1792]⟩
abbrev S8x128x2048 : Shape := ⟨3, ![8, 128, 2048]⟩
abbrev S8x64x2048 : Shape := ⟨3, ![8, 64, 2048]⟩
abbrev S512x1024 : Shape := ⟨2, ![512, 1024]⟩
abbrev S512x512 : Shape := ⟨2, ![512, 512]⟩
abbrev S512x128 : Shape := ⟨2, ![512, 128]⟩
abbrev S512x64 : Shape := ⟨2, ![512, 64]⟩
abbrev S512x8 : Shape := ⟨2, ![512, 8]⟩
abbrev S512x1792 : Shape := ⟨2, ![512, 1792]⟩
abbrev S1x128x512 : Shape := ⟨3, ![1, 128, 512]⟩
abbrev S1x64x512 : Shape := ⟨3, ![1, 64, 512]⟩
abbrev S512 : Shape := ⟨1, ![512]⟩
abbrev S512x1 : Shape := ⟨2, ![512, 1]⟩
abbrev S512x1408 : Shape := ⟨2, ![512, 1408]⟩
abbrev S128x512 : Shape := ⟨2, ![128, 512]⟩
abbrev S64x512 : Shape := ⟨2, ![64, 512]⟩

abbrev nBuf : Space → Nat
  | .hbm => 33
  | .vmem => 25
  | .smem => 0
  | _ => 0

abbrev bufTy : (tb : Table) → Fin (tcTables nBuf tb) → BufTy
  | .hbm, ⟨0, _⟩ => ⟨S8x2048x1024, .f32⟩
  | .hbm, ⟨1, _⟩ => ⟨S1x1024, .f32⟩
  | .hbm, ⟨2, _⟩ => ⟨S1x1024x5192, .f32⟩
  | .hbm, ⟨3, _⟩ => ⟨S16384x1024, .f32⟩
  | .hbm, ⟨4, _⟩ => ⟨S1024x5192, .f32⟩
  | .hbm, ⟨5, _⟩ => ⟨S_, .f32⟩
  | .hbm, ⟨6, _⟩ => ⟨S1024x56, .f32⟩
  | .hbm, ⟨7, _⟩ => ⟨S1024x512, .f32⟩
  | .hbm, ⟨8, _⟩ => ⟨S1024x512, .f32⟩
  | .hbm, ⟨9, _⟩ => ⟨S1024x128, .f32⟩
  | .hbm, ⟨10, _⟩ => ⟨S1024x128, .f32⟩
  | .hbm, ⟨11, _⟩ => ⟨S1024x64, .f32⟩
  | .hbm, ⟨12, _⟩ => ⟨S1024x8, .f32⟩
  | .hbm, ⟨13, _⟩ => ⟨S1024x1408, .f32⟩
  | .hbm, ⟨14, _⟩ => ⟨S1024x1408, .bf16⟩
  | .hbm, ⟨15, _⟩ => ⟨S1024x1792, .f32⟩
  | .hbm, ⟨16, _⟩ => ⟨S1024x1792, .bf16⟩
  | .hbm, ⟨17, _⟩ => ⟨S1024x1024, .f32⟩
  | .hbm, ⟨18, _⟩ => ⟨S1024x1024, .f32⟩
  | .hbm, ⟨19, _⟩ => ⟨S1024x2048, .f32⟩
  | .hbm, ⟨20, _⟩ => ⟨S1024x2048, .bf16⟩
  | .hbm, ⟨21, _⟩ => ⟨S1024, .f32⟩
  | .hbm, ⟨22, _⟩ => ⟨S1x1024, .f32⟩
  | .hbm, ⟨23, _⟩ => ⟨S16384x512, .bf16⟩
  | .hbm, ⟨24, _⟩ => ⟨S16384x512, .bf16⟩
  | .hbm, ⟨25, _⟩ => ⟨S16384x128, .f32⟩
  | .hbm, ⟨26, _⟩ => ⟨S16384x128, .f32⟩
  | .hbm, ⟨27, _⟩ => ⟨S16384x64, .f32⟩
  | .hbm, ⟨28, _⟩ => ⟨S16384x8, .f32⟩
  | .hbm, ⟨29, _⟩ => ⟨S16384x1792, .f32⟩
  | .hbm, ⟨30, _⟩ => ⟨S8x128x2048, .f32⟩
  | .hbm, ⟨31, _⟩ => ⟨S8x128x2048, .f32⟩
  | .hbm, ⟨32, _⟩ => ⟨S8x64x2048, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1408, .bf16⟩
  | .local _ .vmem, ⟨4, _⟩ => ⟨S1024x1792, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x64, .f32⟩
  | .local _ .vmem, ⟨14, _⟩ => ⟨S512x64, .f32⟩
  | .local _ .vmem, ⟨15, _⟩ => ⟨S512x8, .f32⟩
  | .local _ .vmem, ⟨16, _⟩ => ⟨S512x8, .f32⟩
  | .local _ .vmem, ⟨17, _⟩ => ⟨S512x1792, .f32⟩
  | .local _ .vmem, ⟨18, _⟩ => ⟨S512x1792, .f32⟩
  | .local _ .vmem, ⟨19, _⟩ => ⟨S1x128x512, .f32⟩
  | .local _ .vmem, ⟨20, _⟩ => ⟨S1x128x512, .f32⟩
  | .local _ .vmem, ⟨21, _⟩ => ⟨S1x128x512, .f32⟩
  | .local _ .vmem, ⟨22, _⟩ => ⟨S1x128x512, .f32⟩
  | .local _ .vmem, ⟨23, _⟩ => ⟨S1x64x512, .f32⟩
  | .local _ .vmem, ⟨24, _⟩ => ⟨S1x64x512, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19_0 : Ref sig .tc := ⟨.hbm, 23, rfl⟩
abbrev main_v19_1 : Ref sig .tc := ⟨.hbm, 24, rfl⟩
abbrev main_v19_2 : Ref sig .tc := ⟨.hbm, 25, rfl⟩
abbrev main_v19_3 : Ref sig .tc := ⟨.hbm, 26, rfl⟩
abbrev main_v19_4 : Ref sig .tc := ⟨.hbm, 27, rfl⟩
abbrev main_v19_5 : Ref sig .tc := ⟨.hbm, 28, rfl⟩
abbrev main_v19_6 : Ref sig .tc := ⟨.hbm, 29, rfl⟩
abbrev main_v19_7 : Ref sig .tc := ⟨.hbm, 30, rfl⟩
abbrev main_v19_8 : Ref sig .tc := ⟨.hbm, 31, rfl⟩
abbrev main_v19_9 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_12 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_13 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1408 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1792 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x8 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1792 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x128x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x128x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x64x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== InProjRefIdeal.lean ====
abbrev S8x2048x1024 : Shape := ⟨3, ![8, 2048, 1024]⟩
abbrev S1x1024 : Shape := ⟨2, ![1, 1024]⟩
abbrev S1x1024x5192 : Shape := ⟨3, ![1, 1024, 5192]⟩
abbrev S16384x1024 : Shape := ⟨2, ![16384, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1024x5192 : Shape := ⟨2, ![1024, 5192]⟩
abbrev S16384x5192 : Shape := ⟨2, ![16384, 5192]⟩
abbrev S16384x512 : Shape := ⟨2, ![16384, 512]⟩
abbrev S16384x128 : Shape := ⟨2, ![16384, 128]⟩
abbrev S16384x64 : Shape := ⟨2, ![16384, 64]⟩
abbrev S16384x8 : Shape := ⟨2, ![16384, 8]⟩
abbrev S16384x1792 : Shape := ⟨2, ![16384, 1792]⟩
abbrev S8x2048x128 : Shape := ⟨3, ![8, 2048, 128]⟩
abbrev S8x128x2048 : Shape := ⟨3, ![8, 128, 2048]⟩
abbrev S8x2048x64 : Shape := ⟨3, ![8, 2048, 64]⟩
abbrev S8x64x2048 : Shape := ⟨3, ![8, 64, 2048]⟩

abbrev nBuf : Space → Nat
  | .hbm => 49
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1x1024, .f32⟩
  | .hbm, ⟨2, _⟩ => ⟨S1x1024x5192, .f32⟩
  | .hbm, ⟨3, _⟩ => ⟨S16384x1024, .f32⟩
  | .hbm, ⟨4, _⟩ => ⟨S1024, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1024, .f32⟩
  | .hbm, ⟨17, _⟩ => ⟨S16384x1024, .f32⟩
  | .hbm, ⟨18, _⟩ => ⟨S1x1024, .f32⟩
  | .hbm, ⟨19, _⟩ => ⟨S16384x1024, .f32⟩
  | .hbm, ⟨20, _⟩ => ⟨S16384x1024, .f32⟩
  | .hbm, ⟨21, _⟩ => ⟨S1024x5192, .f32⟩
  | .hbm, ⟨22, _⟩ => ⟨S16384x5192, .f32⟩
  | .hbm, ⟨23, _⟩ => ⟨S16384x512, .f32⟩
  | .hbm, ⟨24, _⟩ => ⟨S16384x128, .f32⟩
  | .hbm, ⟨25, _⟩ => ⟨S16384x128, .f32⟩
  | .hbm, ⟨26, _⟩ => ⟨S16384x512, .f32⟩
  | .hbm, ⟨27, _⟩ => ⟨S16384x64, .f32⟩
  | .hbm, ⟨28, _⟩ => ⟨S16384x8, .f32⟩
  | .hbm, ⟨29, _⟩ => ⟨S16384x1792, .f32⟩
  | .hbm, ⟨30, _⟩ => ⟨S16384x1024, .f32⟩
  | .hbm, ⟨31, _⟩ => ⟨S16384x1024, .f32⟩
  | .hbm, ⟨32, _⟩ => ⟨S_, .f32⟩
  | .hbm, ⟨33, _⟩ => ⟨S16384x8, .f32⟩
  | .hbm, ⟨34, _⟩ => ⟨S16384x8, .f32⟩
  | .hbm, ⟨35, _⟩ => ⟨S_, .f32⟩
  | .hbm, ⟨36, _⟩ => ⟨S16384x512, .f32⟩
  | .hbm, ⟨37, _⟩ => ⟨S16384x512, .f32⟩
  | .hbm, ⟨38, _⟩ => ⟨S16384x512, .bf16⟩
  | .hbm, ⟨39, _⟩ => ⟨S_, .f32⟩
  | .hbm, ⟨40, _⟩ => ⟨S16384x512, .f32⟩
  | .hbm, ⟨41, _⟩ => ⟨S16384x512, .f32⟩
  | .hbm, ⟨42, _⟩ => ⟨S16384x512, .bf16⟩
  | .hbm, ⟨43, _⟩ => ⟨S8x2048x128, .f32⟩
  | .hbm, ⟨44, _⟩ => ⟨S8x128x2048, .f32⟩
  | .hbm, ⟨45, _⟩ => ⟨S8x2048x128, .f32⟩
  | .hbm, ⟨46, _⟩ => ⟨S8x128x2048, .f32⟩
  | .hbm, ⟨47, _⟩ => ⟨S8x2048x64, .f32⟩
  | .hbm, ⟨48, _⟩ => ⟨S8x64x2048, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_cst_2 : Ref sig .tc := ⟨.hbm, 32, rfl⟩
abbrev main_v26 : Ref sig .tc := ⟨.hbm, 33, rfl⟩
abbrev main_v27 : Ref sig .tc := ⟨.hbm, 34, rfl⟩
abbrev main_cst_3 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_cst_4 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩

abbrev nD : Nat := 1
abbrev τ : Topo := Topo.v7x

variable {F : FTy → Type} [FloatOps F]
-- ==== TailS.lean ====
abbrev S32x16x1024 : Shape := ⟨3, ![32, 16, 1024]⟩
abbrev S32x16x512 : Shape := ⟨3, ![32, 16, 512]⟩
abbrev S1x1024 : Shape := ⟨2, ![1, 1024]⟩
abbrev S1x1024x5192 : Shape := ⟨3, ![1, 1024, 5192]⟩
abbrev S1x512x1024 : Shape := ⟨3, ![1, 512, 1024]⟩
abbrev S1x1024x1024 : Shape := ⟨3, ![1, 1024, 1024]⟩
abbrev S1x1024x4096 : Shape := ⟨3, ![1, 1024, 4096]⟩
abbrev S1x4096x1024 : Shape := ⟨3, ![1, 4096, 1024]⟩
abbrev S1024 : Shape := ⟨1, ![1024]⟩
abbrev S512x1024 : Shape := ⟨2, ![512, 1024]⟩
abbrev S1024x5192 : Shape := ⟨2, ![1024, 5192]⟩
abbrev S_ : Shape := ⟨0, ![]⟩
abbrev S1024x56 : Shape := ⟨2, ![1024, 56]⟩
abbrev S1024x512 : Shape := ⟨2, ![1024, 512]⟩
abbrev S1024x128 : Shape := ⟨2, ![1024, 128]⟩
abbrev S1024x64 : Shape := ⟨2, ![1024, 64]⟩
abbrev S1024x8 : Shape := ⟨2, ![1024, 8]⟩
abbrev S1024x1408 : Shape := ⟨2, ![1024, 1408]⟩
abbrev S1024x1792 : Shape := ⟨2, ![1024, 1792]⟩
abbrev S1024x1024 : Shape := ⟨2, ![1024, 1024]⟩
abbrev S1024x2048 : Shape := ⟨2, ![1024, 2048]⟩
abbrev S512x512 : Shape := ⟨2, ![512, 512]⟩
abbrev S1024x4096 : Shape := ⟨2, ![1024, 4096]⟩
abbrev S4096x1024 : Shape := ⟨2, ![4096, 1024]⟩
abbrev S256x1024 : Shape := ⟨2, ![256, 1024]⟩
abbrev S256x512 : Shape := ⟨2, ![256, 512]⟩
abbrev S256 : Shape := ⟨1, ![256]⟩
abbrev S256x1 : Shape := ⟨2, ![256, 1]⟩
abbrev S256x2048 : Shape := ⟨2, ![256, 2048]⟩
abbrev S256x4096 : Shape := ⟨2, ![256, 4096]⟩

abbrev nBuf : Space → Nat
  | .hbm => 48
  | .vmem => 17
  | .smem => 0
  | _ => 0

abbrev bufTy : (tb : Table) → Fin (tcTables nBuf tb) → BufTy
  | .hbm, ⟨0, _⟩ => ⟨S32x16x1024, .f32⟩
  | .hbm, ⟨1, _⟩ => ⟨S32x16x512, .bf16⟩
  | .hbm, ⟨2, _⟩ => ⟨S32x16x512, .bf16⟩
  | .hbm, ⟨3, _⟩ => ⟨S1x1024, .f32⟩
  | .hbm, ⟨4, _⟩ => ⟨S1x1024x5192, .f32⟩
  | .hbm, ⟨5, _⟩ => ⟨S1x512x1024, .f32⟩
  | .hbm, ⟨6, _⟩ => ⟨S1x512x1024, .f32⟩
  | .hbm, ⟨7, _⟩ => ⟨S1x1024x1024, .f32⟩
  | .hbm, ⟨8, _⟩ => ⟨S1x1024, .f32⟩
  | .hbm, ⟨9, _⟩ => ⟨S1x1024x4096, .f32⟩
  | .hbm, ⟨10, _⟩ => ⟨S1x4096x1024, .f32⟩
  | .hbm, ⟨11, _⟩ => ⟨S1024, .f32⟩
  | .hbm, ⟨12, _⟩ => ⟨S512x1024, .f32⟩
  | .hbm, ⟨13, _⟩ => ⟨S1024x5192, .f32⟩
  | .hbm, ⟨14, _⟩ => ⟨S_, .f32⟩
  | .hbm, ⟨15, _⟩ => ⟨S1024x56, .f32⟩
  | .hbm, ⟨16, _⟩ => ⟨S1024x512, .f32⟩
  | .hbm, ⟨17, _⟩ => ⟨S1024x512, .f32⟩
  | .hbm, ⟨18, _⟩ => ⟨S1024x128, .f32⟩
  | .hbm, ⟨19, _⟩ => ⟨S1024x128, .f32⟩
  | .hbm, ⟨20, _⟩ => ⟨S1024x64, .f32⟩
  | .hbm, ⟨21, _⟩ => ⟨S1024x8, .f32⟩
  | .hbm, ⟨22, _⟩ => ⟨S1024x1408, .f32⟩
  | .hbm, ⟨23, _⟩ => ⟨S1024x1408, .bf16⟩
  | .hbm, ⟨24, _⟩ => ⟨S1024x1792, .f32⟩
  | .hbm, ⟨25, _⟩ => ⟨S1024x1792, .bf16⟩
  | .hbm, ⟨26, _⟩ => ⟨S1024x1024, .f32⟩
  | .hbm, ⟨27, _⟩ => ⟨S1024x1024, .f32⟩
  | .hbm, ⟨28, _⟩ => ⟨S1024x2048, .f32⟩
  | .hbm, ⟨29, _⟩ => ⟨S1024x2048, .bf16⟩
  | .hbm, ⟨30, _⟩ => ⟨S512x512, .bf16⟩
  | .hbm, ⟨31, _⟩ => ⟨S512x512, .bf16⟩
  | .hbm, ⟨32, _⟩ => ⟨S1024, .f32⟩
  | .hbm, ⟨33, _⟩ => ⟨S1x1024, .f32⟩
  | .hbm, ⟨34, _⟩ => ⟨S512x1024, .f32⟩
  | .hbm, ⟨35, _⟩ => ⟨S512x1024, .bf16⟩
  | .hbm, ⟨36, _⟩ => ⟨S512x1024, .f32⟩
  | .hbm, ⟨37, _⟩ => ⟨S512x1024, .bf16⟩
  | .hbm, ⟨38, _⟩ => ⟨S1024x1024, .f32⟩
  | .hbm, ⟨39, _⟩ => ⟨S1024x1024, .bf16⟩
  | .hbm, ⟨40, _⟩ => ⟨S1024, .f32⟩
  | .hbm, ⟨41, _⟩ => ⟨S1x1024, .f32⟩
  | .hbm, ⟨42, _⟩ => ⟨S1024x4096, .f32⟩
  | .hbm, ⟨43, _⟩ => ⟨S1024x4096, .bf16⟩
  | .hbm, ⟨44, _⟩ => ⟨S4096x1024, .f32⟩
  | .hbm, ⟨45, _⟩ => ⟨S4096x1024, .bf16⟩
  | .hbm, ⟨46, _⟩ => ⟨S1x1024, .f32⟩
  | .hbm, ⟨47, _⟩ => ⟨S512x1024, .f32⟩
  | .local _ .vmem, ⟨0, _⟩ => ⟨S256x1024, .f32⟩
  | .local _ .vmem, ⟨1, _⟩ => ⟨S256x1024, .f32⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S1x1024, .f32⟩
  | .local _ .vmem, ⟨7, _⟩ => ⟨S1024x2048, .bf16⟩
  | .local _ .vmem, ⟨8, _⟩ => ⟨S512x1024, .bf16⟩
  | .local _ .vmem, ⟨9, _⟩ => ⟨S512x1024, .bf16⟩
  | .local _ .vmem, ⟨10, _⟩ => ⟨S1024x1024, .bf16⟩
  | .local _ .vmem, ⟨11, _⟩ => ⟨S1x1024, .f32⟩
  | .local _ .vmem, ⟨12, _⟩ => ⟨S1024x4096, .bf16⟩
  | .local _ .vmem, ⟨13, _⟩ => ⟨S4096x1024, .bf16⟩
  | .local _ .vmem, ⟨14, _⟩ => ⟨S1x1024, .f32⟩
  | .local _ .vmem, ⟨15, _⟩ => ⟨S256x1024, .f32⟩
  | .local _ .vmem, ⟨16, _⟩ => ⟨S256x1024, .f32⟩
  | _, _ => ⟨S32x16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_cst : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg12_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem12_1 : DmaSem sig := 16

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x4096 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S4096x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== TailSRefIdeal.lean ====
abbrev S32x16x1024 : Shape := ⟨3, ![32, 16, 1024]⟩
abbrev S32x16x512 : Shape := ⟨3, ![32, 16, 512]⟩
abbrev S1x1024 : Shape := ⟨2, ![1, 1024]⟩
abbrev S1x1024x5192 : Shape := ⟨3, ![1, 1024, 5192]⟩
abbrev S1x512x1024 : Shape := ⟨3, ![1, 512, 1024]⟩
abbrev S1x1024x1024 : Shape := ⟨3, ![1, 1024, 1024]⟩
abbrev S1x1024x4096 : Shape := ⟨3, ![1, 1024, 4096]⟩
abbrev S1x4096x1024 : Shape := ⟨3, ![1, 4096, 1024]⟩
abbrev S1024 : Shape := ⟨1, ![1024]⟩
abbrev S512x1024 : Shape := ⟨2, ![512, 1024]⟩
abbrev S512x512 : Shape := ⟨2, ![512, 512]⟩
abbrev S_ : Shape := ⟨0, ![]⟩
abbrev S512 : Shape := ⟨1, ![512]⟩
abbrev S512x1 : Shape := ⟨2, ![512, 1]⟩
abbrev S1024x5192 : Shape := ⟨2, ![1024, 5192]⟩
abbrev S512x5192 : Shape := ⟨2, ![512, 5192]⟩
abbrev S512x128 : Shape := ⟨2, ![512, 128]⟩
abbrev S512x64 : Shape := ⟨2, ![512, 64]⟩
abbrev S512x8 : Shape := ⟨2, ![512, 8]⟩
abbrev S512x1792 : Shape := ⟨2, ![512, 1792]⟩
abbrev S1024x1024 : Shape := ⟨2, ![1024, 1024]⟩
abbrev S1024x4096 : Shape := ⟨2, ![1024, 4096]⟩
abbrev S512x4096 : Shape := ⟨2, ![512, 4096]⟩
abbrev S4096x1024 : Shape := ⟨2, ![4096, 1024]⟩

abbrev nBuf : Space → Nat
  | .hbm => 113
  | .vmem => 0
  | .smem => 0
  | _ => 0

abbrev bufTy : (tb : Table) → Fin (tcTables nBuf tb) → BufTy
  | .hbm, ⟨0, _⟩ => ⟨S32x16x1024, .f32⟩
  | .hbm, ⟨1, _⟩ => ⟨S32x16x512, .bf16⟩
  | .hbm, ⟨2, _⟩ => ⟨S32x16x512, .bf16⟩
  | .hbm, ⟨3, _⟩ => ⟨S1x1024, .f32⟩
  | .hbm, ⟨4, _⟩ => ⟨S1x1024x5192, .f32⟩
  | .hbm, ⟨5, _⟩ => ⟨S1x512x1024, .f32⟩
  | .hbm, ⟨6, _⟩ => ⟨S1x512x1024, .f32⟩
  | .hbm, ⟨7, _⟩ => ⟨S1x1024x1024, .f32⟩
  | .hbm, ⟨8, _⟩ => ⟨S1x1024, .f32⟩
  | .hbm, ⟨9, _⟩ => ⟨S1x1024x4096, .f32⟩
  | .hbm, ⟨10, _⟩ => ⟨S1x4096x1024, .f32⟩
  | .hbm, ⟨11, _⟩ => ⟨S1024, .f32⟩
  | .hbm, ⟨12, _⟩ => ⟨S512x1024, .f32⟩
  | .hbm, ⟨13, _⟩ => ⟨S512x512, .bf16⟩
  | .hbm, ⟨14, _⟩ => ⟨S512x512, .f32⟩
  | .hbm, ⟨15, _⟩ => ⟨S512x512, .bf16⟩
  | .hbm, ⟨16, _⟩ => ⟨S512x512, .f32⟩
  | .hbm, ⟨17, _⟩ => ⟨S1024, .f32⟩
  | .hbm, ⟨18, _⟩ => ⟨S512x1024, .f32⟩
  | .hbm, ⟨19, _⟩ => ⟨S_, .f32⟩
  | .hbm, ⟨20, _⟩ => ⟨S512, .f32⟩
  | .hbm, ⟨21, _⟩ => ⟨S512x1, .f32⟩
  | .hbm, ⟨22, _⟩ => ⟨S_, .f32⟩
  | .hbm, ⟨23, _⟩ => ⟨S512x1, .f32⟩
  | .hbm, ⟨24, _⟩ => ⟨S512x1, .f32⟩
  | .hbm, ⟨25, _⟩ => ⟨S_, .f32⟩
  | .hbm, ⟨26, _⟩ => ⟨S512x1, .f32⟩
  | .hbm, ⟨27, _⟩ => ⟨S512x1, .f32⟩
  | .hbm, ⟨28, _⟩ => ⟨S512x1, .f32⟩
  | .hbm, ⟨29, _⟩ => ⟨S512x1024, .f32⟩
  | .hbm, ⟨30, _⟩ => ⟨S512x1024, .f32⟩
  | .hbm, ⟨31, _⟩ => ⟨S1x1024, .f32⟩
  | .hbm, ⟨32, _⟩ => ⟨S512x1024, .f32⟩
  | .hbm, ⟨33, _⟩ => ⟨S512x1024, .f32⟩
  | .hbm, ⟨34, _⟩ => ⟨S1024x5192, .f32⟩
  | .hbm, ⟨35, _⟩ => ⟨S512x5192, .f32⟩
  | .hbm, ⟨36, _⟩ => ⟨S512x512, .f32⟩
  | .hbm, ⟨37, _⟩ => ⟨S512x128, .f32⟩
  | .hbm, ⟨38, _⟩ => ⟨S512x128, .f32⟩
  | .hbm, ⟨39, _⟩ => ⟨S512x512, .f32⟩
  | .hbm, ⟨40, _⟩ => ⟨S512x64, .f32⟩
  | .hbm, ⟨41, _⟩ => ⟨S512x8, .f32⟩
  | .hbm, ⟨42, _⟩ => ⟨S512x1792, .f32⟩
  | .hbm, ⟨43, _⟩ => ⟨S512x1024, .f32⟩
  | .hbm, ⟨44, _⟩ => ⟨S512x1024, .f32⟩
  | .hbm, ⟨45, _⟩ => ⟨S512x1024, .f32⟩
  | .hbm, ⟨46, _⟩ => ⟨S512x1024, .f32⟩
  | .hbm, ⟨47, _⟩ => ⟨S512x1024, .f32⟩
  | .hbm, ⟨48, _⟩ => ⟨S512x1024, .f32⟩
  | .hbm, ⟨49, _⟩ => ⟨S512x1024, .f32⟩
  | .hbm, ⟨50, _⟩ => ⟨S512x1024, .f32⟩
  | .hbm, ⟨51, _⟩ => ⟨S_, .f32⟩
  | .hbm, ⟨52, _⟩ => ⟨S512x1024, .f32⟩
  | .hbm, ⟨53, _⟩ => ⟨S512x1024, .f32⟩
  | .hbm, ⟨54, _⟩ => ⟨S_, .f32⟩
  | .hbm, ⟨55, _⟩ => ⟨S512x1024, .f32⟩
  | .hbm, ⟨56, _⟩ => ⟨S512x1024, .f32⟩
  | .hbm, ⟨57, _⟩ => ⟨S512x1024, .f32⟩
  | .hbm, ⟨58, _⟩ => ⟨S512x1024, .f32⟩
  | .hbm, ⟨59, _⟩ => ⟨S512x1024, .f32⟩
  | .hbm, ⟨60, _⟩ => ⟨S_, .f32⟩
  | .hbm, ⟨61, _⟩ => ⟨S512x1024, .f32⟩
  | .hbm, ⟨62, _⟩ => ⟨S512x1024, .f32⟩
  | .hbm, ⟨63, _⟩ => ⟨S_, .f32⟩
  | .hbm, ⟨64, _⟩ => ⟨S512x1024, .f32⟩
  | .hbm, ⟨65, _⟩ => ⟨S512x1024, .f32⟩
  | .hbm, ⟨66, _⟩ => ⟨S512x1024, .f32⟩
  | .hbm, ⟨67, _⟩ => ⟨S512x1024, .f32⟩
  | .hbm, ⟨68, _⟩ => ⟨S1024x1024, .f32⟩
  | .hbm, ⟨69, _⟩ => ⟨S512x1024, .f32⟩
  | .hbm, ⟨70, _⟩ => ⟨S512x1024, .f32⟩
  | .hbm, ⟨71, _⟩ => ⟨S1024, .f32⟩
  | .hbm, ⟨72, _⟩ => ⟨S512x1024, .f32⟩
  | .hbm, ⟨73, _⟩ => ⟨S_, .f32⟩
  | .hbm, ⟨74, _⟩ => ⟨S512, .f32⟩
  | .hbm, ⟨75, _⟩ => ⟨S512x1, .f32⟩
  | .hbm, ⟨76, _⟩ => ⟨S_, .f32⟩
  | .hbm, ⟨77, _⟩ => ⟨S512x1, .f32⟩
  | .hbm, ⟨78, _⟩ => ⟨S512x1, .f32⟩
  | .hbm, ⟨79, _⟩ => ⟨S_, .f32⟩
  | .hbm, ⟨80, _⟩ => ⟨S512x1, .f32⟩
  | .hbm, ⟨81, _⟩ => ⟨S512x1, .f32⟩
  | .hbm, ⟨82, _⟩ => ⟨S512x1, .f32⟩
  | .hbm, ⟨83, _⟩ => ⟨S512x1024, .f32⟩
  | .hbm, ⟨84, _⟩ => ⟨S512x1024, .f32⟩
  | .hbm, ⟨85, _⟩ => ⟨S1x1024, .f32⟩
  | .hbm, ⟨86, _⟩ => ⟨S512x1024, .f32⟩
  | .hbm, ⟨87, _⟩ => ⟨S512x1024, .f32⟩
  | .hbm, ⟨88, _⟩ => ⟨S1024x4096, .f32⟩
  | .hbm, ⟨89, _⟩ => ⟨S512x4096, .f32⟩
  | .hbm, ⟨90, _⟩ => ⟨S_, .f32⟩
  | .hbm, ⟨91, _⟩ => ⟨S512x4096, .f32⟩
  | .hbm, ⟨92, _⟩ => ⟨S512x4096, .f32⟩
  | .hbm, ⟨93, _⟩ => ⟨S512x4096, .f32⟩
  | .hbm, ⟨94, _⟩ => ⟨S4096x1024, .f32⟩
  | .hbm, ⟨95, _⟩ => ⟨S512x1024, .f32⟩
  | .hbm, ⟨96, _⟩ => ⟨S512x1024, .f32⟩
  | .hbm, ⟨97, _⟩ => ⟨S512x1024, .f32⟩
  | .hbm, ⟨98, _⟩ => ⟨S_, .f32⟩
  | .hbm, ⟨99, _⟩ => ⟨S512, .f32⟩
  | .hbm, ⟨100, _⟩ => ⟨S512x1, .f32⟩
  | .hbm, ⟨101, _⟩ => ⟨S_, .f32⟩
  | .hbm, ⟨102, _⟩ => ⟨S512x1, .f32⟩
  | .hbm, ⟨103, _⟩ => ⟨S512x1, .f32⟩
  | .hbm, ⟨104, _⟩ => ⟨S_, .f32⟩
  | .hbm, ⟨105, _⟩ => ⟨S512x1, .f32⟩
  | .hbm, ⟨106, _⟩ => ⟨S512x1, .f32⟩
  | .hbm, ⟨107, _⟩ => ⟨S512x1, .f32⟩
  | .hbm, ⟨108, _⟩ => ⟨S512x1024, .f32⟩
  | .hbm, ⟨109, _⟩ => ⟨S512x1024, .f32⟩
  | .hbm, ⟨110, _⟩ => ⟨S1x1024, .f32⟩
  | .hbm, ⟨111, _⟩ => ⟨S512x1024, .f32⟩
  | .hbm, ⟨112, _⟩ => ⟨S512x1024, .f32⟩
  | _, _ => ⟨S32x16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_v8 : Ref sig .tc := ⟨.hbm, 21, rfl⟩
abbrev main_cst_0 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_2 : Ref sig .tc := ⟨.hbm, 51, rfl⟩
abbrev main_v36 : Ref sig .tc := ⟨.hbm, 52, rfl⟩
abbrev main_v37 : Ref sig .tc := ⟨.hbm, 53, rfl⟩
abbrev main_cst_3 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_4 : Ref sig .tc := ⟨.hbm, 60, rfl⟩
abbrev main_v43 : Ref sig .tc := ⟨.hbm, 61, rfl⟩
abbrev main_v44 : Ref sig .tc := ⟨.hbm, 62, rfl⟩
abbrev main_cst_5 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_6 : Ref sig .tc := ⟨.hbm, 73, rfl⟩
abbrev main_v54 : Ref sig .tc := ⟨.hbm, 74, rfl⟩
abbrev main_v55 : Ref sig .tc := ⟨.hbm, 75, rfl⟩
abbrev main_cst_7 : Ref sig .tc := ⟨.hbm, 76, rfl⟩
abbrev main_v56 : Ref sig .tc := ⟨.hbm, 77, rfl⟩
abbrev main_v57 : Ref sig .tc := ⟨.hbm, 78, rfl⟩
abbrev main_cst_8 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_call0_cst : Ref sig .tc := ⟨.hbm, 90, rfl⟩
abbrev main_call0_v0 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_cst_9 : Ref sig .tc := ⟨.hbm, 98, rfl⟩
abbrev main_v74 : Ref sig .tc := ⟨.hbm, 99, rfl⟩
abbrev main_v75 : Ref sig .tc := ⟨.hbm, 100, rfl⟩
abbrev main_cst_10 : Ref sig .tc := ⟨.hbm, 101, rfl⟩
abbrev main_v76 : Ref sig .tc := ⟨.hbm, 102, rfl⟩
abbrev main_v77 : Ref sig .tc := ⟨.hbm, 103, rfl⟩
abbrev main_cst_11 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩

abbrev nD : Nat := 1
abbrev τ : Topo := Topo.v7x

variable {F : FTy → Type} [FloatOps F]
-- ==== InProjS.lean ====
abbrev S32x16x1024 : Shape := ⟨3, ![32, 16, 1024]⟩
abbrev S1x1024 : Shape := ⟨2, ![1, 1024]⟩
abbrev S1x1024x5192 : Shape := ⟨3, ![1, 1024, 5192]⟩
abbrev S512x1024 : Shape := ⟨2, ![512, 1024]⟩
abbrev S1024x5192 : Shape := ⟨2, ![1024, 5192]⟩
abbrev S_ : Shape := ⟨0, ![]⟩
abbrev S1024x56 : Shape := ⟨2, ![1024, 56]⟩
abbrev S1024x512 : Shape := ⟨2, ![1024, 512]⟩
abbrev S1024x128 : Shape := ⟨2, ![1024, 128]⟩
abbrev S1024x64 : Shape := ⟨2, ![1024, 64]⟩
abbrev S1024x8 : Shape := ⟨2, ![1024, 8]⟩
abbrev S1024x1408 : Shape := ⟨2, ![1024, 1408]⟩
abbrev S1024x1792 : Shape := ⟨2, ![1024, 1792]⟩
abbrev S1024x1024 : Shape := ⟨2, ![1024, 1024]⟩
abbrev S1024x2048 : Shape := ⟨2, ![1024, 2048]⟩
abbrev S1024 : Shape := ⟨1, ![1024]⟩
abbrev S512x512 : Shape := ⟨2, ![512, 512]⟩
abbrev S512x128 : Shape := ⟨2, ![512, 128]⟩
abbrev S512x64 : Shape := ⟨2, ![512, 64]⟩
abbrev S512x8 : Shape := ⟨2, ![512, 8]⟩
abbrev S512x1792 : Shape := ⟨2, ![512, 1792]⟩
abbrev S512 : Shape := ⟨1, ![512]⟩
abbrev S512x1 : Shape := ⟨2, ![512, 1]⟩
abbrev S512x1408 : Shape := ⟨2, ![512, 1408]⟩

abbrev nBuf : Space → Nat
  | .hbm => 30
  | .vmem => 11
  | .smem => 0
  | _ => 0

abbrev bufTy : (tb : Table) → Fin (tcTables nBuf tb) → BufTy
  | .hbm, ⟨0, _⟩ => ⟨S32x16x1024, .f32⟩
  | .hbm, ⟨1, _⟩ => ⟨S1x1024, .f32⟩
  | .hbm, ⟨2, _⟩ => ⟨S1x1024x5192, .f32⟩
  | .hbm, ⟨3, _⟩ => ⟨S512x1024, .f32⟩
  | .hbm, ⟨4, _⟩ => ⟨S1024x5192, .f32⟩
  | .hbm, ⟨5, _⟩ => ⟨S_, .f32⟩
  | .hbm, ⟨6, _⟩ => ⟨S1024x56, .f32⟩
  | .hbm, ⟨7, _⟩ => ⟨S1024x512, .f32⟩
  | .hbm, ⟨8, _⟩ => ⟨S1024x512, .f32⟩
  | .hbm, ⟨9, _⟩ => ⟨S1024x128, .f32⟩
  | .hbm, ⟨10, _⟩ => ⟨S1024x128, .f32⟩
  | .hbm, ⟨11, _⟩ => ⟨S1024x64, .f32⟩
  | .hbm, ⟨12, _⟩ => ⟨S1024x8, .f32⟩
  | .hbm, ⟨13, _⟩ => ⟨S1024x1408, .f32⟩
  | .hbm, ⟨14, _⟩ => ⟨S1024x1408, .bf16⟩
  | .hbm, ⟨15, _⟩ => ⟨S1024x1792, .f32⟩
  | .hbm, ⟨16, _⟩ => ⟨S1024x1792, .bf16⟩
  | .hbm, ⟨17, _⟩ => ⟨S1024x1024, .f32⟩
  | .hbm, ⟨18, _⟩ => ⟨S1024x1024, .f32⟩
  | .hbm, ⟨19, _⟩ => ⟨S1024x2048, .f32⟩
  | .hbm, ⟨20, _⟩ => ⟨S1024x2048, .bf16⟩
  | .hbm, ⟨21, _⟩ => ⟨S1024, .f32⟩
  | .hbm, ⟨22, _⟩ => ⟨S1x1024, .f32⟩
  | .hbm, ⟨23, _⟩ => ⟨S512x512, .bf16⟩
  | .hbm, ⟨24, _⟩ => ⟨S512x512, .bf16⟩
  | .hbm, ⟨25, _⟩ => ⟨S512x128, .f32⟩
  | .hbm, ⟨26, _⟩ => ⟨S512x128, .f32⟩
  | .hbm, ⟨27, _⟩ => ⟨S512x64, .f32⟩
  | .hbm, ⟨28, _⟩ => ⟨S512x8, .f32⟩
  | .hbm, ⟨29, _⟩ => ⟨S512x1792, .f32⟩
  | .local _ .vmem, ⟨0, _⟩ => ⟨S512x1024, .f32⟩
  | .local _ .vmem, ⟨1, _⟩ => ⟨S1x1024, .f32⟩
  | .local _ .vmem, ⟨2, _⟩ => ⟨S1024x1408, .bf16⟩
  | .local _ .vmem, ⟨3, _⟩ => ⟨S1024x1792, .bf16⟩
  | .local _ .vmem, ⟨4, _⟩ => ⟨S512x512, .bf16⟩
  | .local _ .vmem, ⟨5, _⟩ => ⟨S512x512, .bf16⟩
  | .local _ .vmem, ⟨6, _⟩ => ⟨S512x128, .f32⟩
  | .local _ .vmem, ⟨7, _⟩ => ⟨S512x128, .f32⟩
  | .local _ .vmem, ⟨8, _⟩ => ⟨S512x64, .f32⟩
  | .local _ .vmem, ⟨9, _⟩ => ⟨S512x8, .f32⟩
  | .local _ .vmem, ⟨10, _⟩ => ⟨S512x1792, .f32⟩
  | _, _ => ⟨S32x16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19_0 : Ref sig .tc := ⟨.hbm, 23, rfl⟩
abbrev main_v19_1 : Ref sig .tc := ⟨.hbm, 24, rfl⟩
abbrev main_v19_2 : Ref sig .tc := ⟨.hbm, 25, rfl⟩
abbrev main_v19_3 : Ref sig .tc := ⟨.hbm, 26, rfl⟩
abbrev main_v19_4 : Ref sig .tc := ⟨.hbm, 27, rfl⟩
abbrev main_v19_5 : Ref sig .tc := ⟨.hbm, 28, rfl⟩
abbrev main_v19_6 : Ref sig .tc := ⟨.hbm, 29, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1408 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1792 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S512x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S512x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S512x8 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S512x1792 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]
-- ==== InProjSRefIdeal.lean ====
abbrev S32x16x1024 : Shape := ⟨3, ![32, 16, 1024]⟩
abbrev S1x1024 : Shape := ⟨2, ![1, 1024]⟩
abbrev S1x1024x5192 : Shape := ⟨3, ![1, 1024, 5192]⟩
abbrev S512x1024 : Shape := ⟨2, ![512, 1024]⟩
abbrev S1024 : Shape := ⟨1, ![1024]⟩
abbrev S_ : Shape := ⟨0, ![]⟩
abbrev S512 : Shape := ⟨1, ![512]⟩
abbrev S512x1 : Shape := ⟨2, ![512, 1]⟩
abbrev S1024x5192 : Shape := ⟨2, ![1024, 5192]⟩
abbrev S512x5192 : Shape := ⟨2, ![512, 5192]⟩
abbrev S512x512 : Shape := ⟨2, ![512, 512]⟩
abbrev S512x128 : Shape := ⟨2, ![512, 128]⟩
abbrev S512x64 : Shape := ⟨2, ![512, 64]⟩
abbrev S512x8 : Shape := ⟨2, ![512, 8]⟩
abbrev S512x1792 : Shape := ⟨2, ![512, 1792]⟩
abbrev S32x16x128 : Shape := ⟨3, ![32, 16, 128]⟩
abbrev S32x128x16 : Shape := ⟨3, ![32, 128, 16]⟩
abbrev S32x16x64 : Shape := ⟨3, ![32, 16, 64]⟩
abbrev S32x64x16 : Shape := ⟨3, ![32, 64, 16]⟩

abbrev nBuf : Space → Nat
  | .hbm => 49
  | .vmem => 0
  | .smem => 0
  | _ => 0

abbrev bufTy : (tb : Table) → Fin (tcTables nBuf tb) → BufTy
  | .hbm, ⟨0, _⟩ => ⟨S32x16x1024, .f32⟩
  | .hbm, ⟨1, _⟩ => ⟨S1x1024, .f32⟩
  | .hbm, ⟨2, _⟩ => ⟨S1x1024x5192, .f32⟩
  | .hbm, ⟨3, _⟩ => ⟨S512x1024, .f32⟩
  | .hbm, ⟨4, _⟩ => ⟨S1024, .f32⟩
  | .hbm, ⟨5, _⟩ => ⟨S512x1024, .f32⟩
  | .hbm, ⟨6, _⟩ => ⟨S_, .f32⟩
  | .hbm, ⟨7, _⟩ => ⟨S512, .f32⟩
  | .hbm, ⟨8, _⟩ => ⟨S512x1, .f32⟩
  | .hbm, ⟨9, _⟩ => ⟨S_, .f32⟩
  | .hbm, ⟨10, _⟩ => ⟨S512x1, .f32⟩
  | .hbm, ⟨11, _⟩ => ⟨S512x1, .f32⟩
  | .hbm, ⟨12, _⟩ => ⟨S_, .f32⟩
  | .hbm, ⟨13, _⟩ => ⟨S512x1, .f32⟩
  | .hbm, ⟨14, _⟩ => ⟨S512x1, .f32⟩
  | .hbm, ⟨15, _⟩ => ⟨S512x1, .f32⟩
  | .hbm, ⟨16, _⟩ => ⟨S512x1024, .f32⟩
  | .hbm, ⟨17, _⟩ => ⟨S512x1024, .f32⟩
  | .hbm, ⟨18, _⟩ => ⟨S1x1024, .f32⟩
  | .hbm, ⟨19, _⟩ => ⟨S512x1024, .f32⟩
  | .hbm, ⟨20, _⟩ => ⟨S512x1024, .f32⟩
  | .hbm, ⟨21, _⟩ => ⟨S1024x5192, .f32⟩
  | .hbm, ⟨22, _⟩ => ⟨S512x5192, .f32⟩
  | .hbm, ⟨23, _⟩ => ⟨S512x512, .f32⟩
  | .hbm, ⟨24, _⟩ => ⟨S512x128, .f32⟩
  | .hbm, ⟨25, _⟩ => ⟨S512x128, .f32⟩
  | .hbm, ⟨26, _⟩ => ⟨S512x512, .f32⟩
  | .hbm, ⟨27, _⟩ => ⟨S512x64, .f32⟩
  | .hbm, ⟨28, _⟩ => ⟨S512x8, .f32⟩
  | .hbm, ⟨29, _⟩ => ⟨S512x1792, .f32⟩
  | .hbm, ⟨30, _⟩ => ⟨S512x1024, .f32⟩
  | .hbm, ⟨31, _⟩ => ⟨S512x1024, .f32⟩
  | .hbm, ⟨32, _⟩ => ⟨S_, .f32⟩
  | .hbm, ⟨33, _⟩ => ⟨S512x8, .f32⟩
  | .hbm, ⟨34, _⟩ => ⟨S512x8, .f32⟩
  | .hbm, ⟨35, _⟩ => ⟨S_, .f32⟩
  | .hbm, ⟨36, _⟩ => ⟨S512x512, .f32⟩
  | .hbm, ⟨37, _⟩ => ⟨S512x512, .f32⟩
  | .hbm, ⟨38, _⟩ => ⟨S512x512, .bf16⟩
  | .hbm, ⟨39, _⟩ => ⟨S_, .f32⟩
  | .hbm, ⟨40, _⟩ => ⟨S512x512, .f32⟩
  | .hbm, ⟨41, _⟩ => ⟨S512x512, .f32⟩
  | .hbm, ⟨42, _⟩ => ⟨S512x512, .bf16⟩
  | .hbm, ⟨43, _⟩ => ⟨S32x16x128, .f32⟩
  | .hbm, ⟨44, _⟩ => ⟨S32x128x16, .f32⟩
  | .hbm, ⟨45, _⟩ => ⟨S32x16x128, .f32⟩
  | .hbm, ⟨46, _⟩ => ⟨S32x128x16, .f32⟩
  | .hbm, ⟨47, _⟩ => ⟨S32x16x64, .f32⟩
  | .hbm, ⟨48, _⟩ => ⟨S32x64x16, .f32⟩
  | _, _ => ⟨S32x16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_cst_2 : Ref sig .tc := ⟨.hbm, 32, rfl⟩
abbrev main_v26 : Ref sig .tc := ⟨.hbm, 33, rfl⟩
abbrev main_v27 : Ref sig .tc := ⟨.hbm, 34, rfl⟩
abbrev main_cst_3 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_cst_4 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩

abbrev nD : Nat := 1
abbrev τ : Topo := Topo.v7x

variable {F : FTy → Type} [FloatOps F]
-- ==== Proof.RwkvChain.lean ====
/- The recurrent mixer's state update for one batch row and one pair of heads, as the kernel computes it: named stages over its operand blocks. -/
module

public import proofs.«01_k».proof.Proof.Gen.RwkvIdeal.Value

@[expose] public section

set_option maxRecDepth 16384

noncomputable section

namespace Cert.RwkvIdeal.Hand

open Cert.RwkvIdeal Cert.RwkvIdeal.Gen Cert.RwkvIdeal.Gen.kernelRun0_A Idealize.ShloMosaic

variable {F : FTy → Type} [FloatOps F]

/-- Lane block by head: lanes of the pair's first (second) head. -/
noncomputable def lane0 : IVec S16x128 1 := cmpi .eq sl.v427 sl.v392
@[inherit_doc lane0] noncomputable def lane1 : IVec S16x128 1 := cmpi .eq sl.v427 sl.v418
/-- Column block by head, in a 16 by 32 pair of square blocks. -/
noncomputable def col0 : IVec S16x32 1 := cmpi .eq sl.v2390 sl.v313
@[inherit_doc col0] noncomputable def col1 : IVec S16x32 1 := cmpi .eq sl.v2390 sl.v2381
/-- Lane block by head, in two side by side copies of the pair's lanes. -/
noncomputable def wide0 : IVec S16x256 1 := cmpi .eq sl.v8539 sl.v8504
@[inherit_doc wide0] noncomputable def wide1 : IVec S16x256 1 := cmpi .eq sl.v8539 sl.v8530
/-- Strictly earlier, and no later: the masks of each square block. -/
noncomputable def before : IVec S16x32 1 := cmpi .slt sl.v324 sl.v307
@[inherit_doc before] noncomputable def upto : IVec S16x32 1 := cmpi .sle sl.v324 sl.v307
/-- Row and lane in the same head; row equal to lane. -/
noncomputable def sameHead : IVec S128x128 1 := cmpi .eq sl.v113 sl.v138
@[inherit_doc sameHead] noncomputable def diag : IVec S128x128 1 := cmpi .eq sl.v89 sl.v114

/-- The block's rows, once per head, the other head's lanes at zero. -/
noncomputable def bdF (x : FVec F S16x128 .f32) : FVec F S32x128 .f32 :=
  concatenate S32x128 0 [⟨S16x128, select lane0 x (broadcast S16x128 (Scalar.ofBits .f32 0x00000000#32))⟩,
    ⟨S16x128, select lane1 x (broadcast S16x128 (Scalar.ofBits .f32 0x00000000#32))⟩] concatenates_S16x128_S16x128_S32x128_d0

/-- The products of the rows of two blocks with the rows of two others, per head. -/
noncomputable def gram (k r b m : FVec F S16x128 .f32) : FVec F S32x64 .f32 :=
  matmul dot_S32x128_S64x128_S32x64_1_1_0_0_n_n none
    (truncf .bf16 (concatenate S32x128 0 [⟨S16x128, k⟩, ⟨S16x128, r⟩] concatenates_S16x128_S16x128_S32x128_d0) bitsLt_bf16_f32)
    (truncf .bf16 (concatenate S64x128 0 [⟨S32x128, bdF b⟩, ⟨S32x128, bdF m⟩] concatenates_S32x128_S32x128_S64x128_d0) bitsLt_bf16_f32)
    (constant S32x64 .f32 0x00000000#32)

/-- The strict part of the first block with the third. -/
noncomputable def nkb (g : FVec F S32x64 .f32) : FVec F S16x32 .f32 :=
  select before (extractStridedSlice S16x32 ![0, 0] g slices_S32x64_o0_0_S16x32) (broadcast S16x32 (Scalar.ofBits .f32 0x00000000#32))
/-- The strict part of the first block with the fourth. -/
noncomputable def akk (g : FVec F S32x64 .f32) : FVec F S16x32 .f32 :=
  select before (extractStridedSlice S16x32 ![0, 32] g slices_S32x64_o0_32_S16x32) (broadcast S16x32 (Scalar.ofBits .f32 0x00000000#32))
/-- The lower part of the second block with the fourth. -/
noncomputable def ark (g : FVec F S32x64 .f32) : FVec F S16x32 .f32 :=
  select upto (extractStridedSlice S16x32 ![16, 32] g slices_S32x64_o16_32_S16x32) (broadcast S16x32 (Scalar.ofBits .f32 0x00000000#32))

/-- A pair of square blocks as one block diagonal matrix. -/
noncomputable def bdP (p : FVec F S16x32 .bf16) : FVec F S32x32 .bf16 :=
  concatenate S32x32 0 [⟨S16x32, select col0 p (broadcast S16x32 (Scalar.truncf .bf16 bitsLt_bf16_f32 (Scalar.ofBits .f32 0x00000000#32 : F .f32)))⟩,
    ⟨S16x32, select col1 p (broadcast S16x32 (Scalar.truncf .bf16 bitsLt_bf16_f32 (Scalar.ofBits .f32 0x00000000#32 : F .f32)))⟩] concatenates_S16x32_S16x32_S32x32_d0

/-- The pair's product with a pair, block by block. -/
noncomputable def mul2 (p q : FVec F S16x32 .bf16) : FVec F S16x32 .f32 :=
  matmul dot_S16x32_S32x32_S16x32_1_0_0_1_n_n none p (bdP q) (constant S16x32 .f32 0x00000000#32)

/-- One factor of the inverse. -/
noncomputable def stepT (t : FVec F S16x32 .f32) (p : FVec F S16x32 .bf16) : FVec F S16x32 .f32 := addf t (mul2 (truncf .bf16 t bitsLt_bf16_f32) p)

/-- The square of a pair. -/
noncomputable def sqr (p : FVec F S16x32 .bf16) : FVec F S16x32 .bf16 := truncf .bf16 (mul2 p p) bitsLt_bf16_f32

/-- The inverse of one plus the pair, by repeated squaring. -/
noncomputable def inv (n : FVec F S16x32 .f32) : FVec F S16x32 .f32 :=
  stepT (stepT (stepT (subf sl.v329 n) (sqr (truncf .bf16 n bitsLt_bf16_f32))) (sqr (sqr (truncf .bf16 n bitsLt_bf16_f32))))
    (sqr (sqr (sqr (truncf .bf16 n bitsLt_bf16_f32))))

/-- The block's rows, once per head, at the narrow format. -/
noncomputable def bdV (x : FVec F S16x128 .bf16) : FVec F S32x128 .bf16 :=
  concatenate S32x128 0 [⟨S16x128, select lane0 x (broadcast S16x128 (Scalar.truncf .bf16 bitsLt_bf16_f32 (Scalar.ofBits .f32 0x00000000#32 : F .f32)))⟩,
    ⟨S16x128, select lane1 x (broadcast S16x128 (Scalar.truncf .bf16 bitsLt_bf16_f32 (Scalar.ofBits .f32 0x00000000#32 : F .f32)))⟩] concatenates_S16x128_S16x128_S32x128_d0

/-- The two pairs' products with the values. -/
noncomputable def av (a r : FVec F S16x32 .f32) (v : FVec F S16x128 .f32) : FVec F S32x128 .f32 :=
  matmul dot_S32x32_S32x128_S32x128_1_0_0_1_n_n none
    (truncf .bf16 (concatenate S32x32 0 [⟨S16x32, a⟩, ⟨S16x32, r⟩] concatenates_S16x32_S16x32_S32x32_d0) bitsLt_bf16_f32)
    (bdV (truncf .bf16 v bitsLt_bf16_f32)) (constant S32x128 .f32 0x00000000#32)

/-- The rows of two blocks side by side, once per head. -/
noncomputable def bdW (x : FVec F S16x256 .bf16) : FVec F S32x256 .bf16 :=
  concatenate S32x256 0 [⟨S16x256, select wide0 x (broadcast S16x256 (Scalar.truncf .bf16 bitsLt_bf16_f32 (Scalar.ofBits .f32 0x00000000#32 : F .f32)))⟩,
    ⟨S16x256, select wide1 x (broadcast S16x256 (Scalar.truncf .bf16 bitsLt_bf16_f32 (Scalar.ofBits .f32 0x00000000#32 : F .f32)))⟩] concatenates_S16x256_S16x256_S32x256_d0

/-- The inverse applied to the keys' directions and to the values' products, side by side. -/
noncomputable def wu (t : FVec F S16x32 .f32) (a : FVec F S16x128 .f32) (y : FVec F S32x128 .f32) : FVec F S16x256 .f32 :=
  matmul dot_S16x32_S32x256_S16x256_1_0_0_1_n_n none (truncf .bf16 t bitsLt_bf16_f32)
    (bdW (truncf .bf16 (concatenate S16x256 1 [⟨S16x128, a⟩, ⟨S16x128, extractStridedSlice S16x128 ![0, 0] y slices_S32x128_o0_0_S16x128⟩]
      concatenates_S16x128_S16x128_S16x256_d1) bitsLt_bf16_f32)) (constant S16x256 .f32 0x00000000#32)

/-- The outgoing directions against these. -/
noncomputable def bw (b : FVec F S16x128 .f32) (w : FVec F S16x256 .f32) : FVec F S128x256 .f32 :=
  matmul dot_S16x128_S16x256_S128x256_0_0_1_1_n_n none (truncf .bf16 b bitsLt_bf16_f32) (truncf .bf16 w bitsLt_bf16_f32) (constant S128x256 .f32 0x00000000#32)

/-- What rounding to the narrow format loses of a block. -/
noncomputable def rest (x : FVec F S16x128 .f32) : FVec F S16x128 .f32 := subf x (extf .f32 (truncf .bf16 x bitsLt_bf16_f32) bitsLt_bf16_f32)

/-- The outgoing keys against the values. -/
noncomputable def kv (k v : FVec F S16x128 .f32) : FVec F S128x128 .f32 :=
  matmul dot_S48x128_S48x128_S128x128_0_0_1_1_n_n none
    (concatenate S48x128 0 [⟨S16x128, truncf .bf16 k bitsLt_bf16_f32⟩, ⟨S16x128, truncf .bf16 k bitsLt_bf16_f32⟩,
      ⟨S16x128, truncf .bf16 (rest k) bitsLt_bf16_f32⟩] concatenates_S16x128_S16x128_S16x128_S48x128_d0)
    (concatenate S48x128 0 [⟨S16x128, truncf .bf16 v bitsLt_bf16_f32⟩, ⟨S16x128, truncf .bf16 (rest v) bitsLt_bf16_f32⟩,
      ⟨S16x128, truncf .bf16 v bitsLt_bf16_f32⟩] concatenates_S16x128_S16x128_S16x128_S48x128_d0)
    (constant S128x128 .f32 0x00000000#32)

/-- What the chunk adds to the state. -/
noncomputable def added (kvs : FVec F S128x128 .f32) (bws : FVec F S128x256 .f32) : FVec F S128x128 .f32 :=
  select sameHead (subf kvs (extractStridedSlice S128x128 ![0, 128] bws slices_S128x256_o0_128_S128x128)) (broadcast S128x128 (Scalar.ofBits .f32 0x00000000#32))

/-- What multiplies the state the chunk enters with. -/
noncomputable def mixed (bws : FVec F S128x256 .f32) : FVec F S128x128 .f32 :=
  select sameHead (extractStridedSlice S128x128 ![0, 0] bws slices_S128x256_o0_0_S128x128) (broadcast S128x128 (Scalar.ofBits .f32 0x00000000#32))

/-- A row of lanes as a column of rows. -/
noncomputable def pcol (p : FVec F S16x128 .f32) : FVec F S128x1 .f32 :=
  shapeCast S128x1 (multiReduction .add [1] S128 (select diag (broadcastTo S128x128 (shapeCast S1x128
    (extractStridedSlice S1x128 ![0, 0] p slices_S16x128_o0_0_S1x128) shapeCasts_S1x128_S1x128) broadcasts_S1x128_S128x128)
    (broadcast S128x128 (Scalar.ofBits .f32 0x00000000#32))) 0x00000000#32 reduces_S128x128_S128 (.inl rfl) rfl) shapeCasts_S128_S128x1

/-- The state after the chunk. -/
noncomputable def leave (p : FVec F S16x128 .f32) (h m g : FVec F S128x128 .f32) : FVec F S128x128 .f32 :=
  addf (subf (mulf (broadcastTo S128x128 (pcol p) broadcasts_S128x1_S128x128) h)
    (matmul dot_S128x128_S128x128_S128x128_1_0_0_1_n_n none (truncf .bf16 m bitsLt_bf16_f32) (truncf .bf16 h bitsLt_bf16_f32)
      (constant S128x128 .f32 0x00000000#32))) g

/-- The whole of it, from the operand blocks: the scaled keys' directions, receptances, corrections and keys about the chunk's middle, the
    directions from its start, the values, the corrections and keys to its end, the decay across it, and the state it enters with. -/
noncomputable def chain (km rm bm mm ka v be ke p : FVec F S16x128 .f32) (h : FVec F S128x128 .f32) : FVec F S128x128 .f32 :=
  have g := gram km rm bm mm
  have w := wu (inv (nkb g)) ka (av (akk g) (ark g) v)
  leave p h (mixed (bw be w)) (added (kv ke v) (bw be w))

end Cert.RwkvIdeal.Hand

end
-- ==== Proof.RwkvModel.lean ====
/- The recurrent mixer kernel, the part its final state depends on, as named stages: the shared arrays over four batch rows, then the chunk per row and pair of heads. -/
module

public import proofs.«01_k».proof.Proof.RwkvChain

@[expose] public section

set_option maxRecDepth 16384

noncomputable section

namespace Cert.RwkvIdeal.Hand

open Cert.RwkvIdeal Cert.RwkvIdeal.Gen Cert.RwkvIdeal.Gen.kernelRun0_A Idealize.ShloMosaic

variable {F : FTy → Type} [FloatOps F]

variable (P prev : FVec F S64x1792 .f32) (mu : FVec F S1x1792 .f32) (w0 a0 kkp kap : FVec F S1x512 .f32) (wl : FVec F S128x1024 .bf16)

/-- The rows, shifted. -/
noncomputable def xs : FVec F S64x1792 .f32 := addf P (mulf (subf prev P) (broadcastTo S64x1792 mu broadcasts_S1x1792_S64x1792))
/-- The receptances, keys and values. -/
noncomputable def rr : FVec F S64x512 .f32 := extractStridedSlice S64x512 ![0, 0] (xs P prev mu) slices_S64x1792_o0_0_S64x512
@[inherit_doc rr] noncomputable def kz : FVec F S64x512 .f32 := extractStridedSlice S64x512 ![0, 512] (xs P prev mu) slices_S64x1792_o0_512_S64x512
@[inherit_doc rr] noncomputable def vv : FVec F S64x512 .f32 := extractStridedSlice S64x512 ![0, 1024] (xs P prev mu) slices_S64x1792_o0_1024_S64x512
/-- The two small projections' inputs, side by side. -/
noncomputable def da : FVec F S64x128 .f32 := extractStridedSlice S64x128 ![0, 1536] (xs P prev mu) slices_S64x1792_o0_1536_S64x128
/-- The first of them through the hyperbolic tangent. -/
noncomputable def tin : FVec F S64x128 .f32 := select (cmpi .slt sl.v61 sl.v62) (tanh (da P prev mu)) (da P prev mu)
/-- Their products. -/
noncomputable def lor : FVec F S64x1024 .f32 :=
  matmul dot_S64x128_S128x1024_S64x1024_1_0_0_1_n_n none (truncf .bf16 (tin P prev mu) bitsLt_bf16_f32) wl (constant S64x1024 .f32 0x00000000#32)
/-- The logarithm of the decay. -/
noncomputable def ld : FVec F S64x512 .f32 :=
  mulf (broadcast S64x512 (Scalar.ofBits .f32 0xBF1B4598#32)) (logistic (addf (broadcastTo S64x512 w0 broadcasts_S1x512_S64x512)
    (extractStridedSlice S64x512 ![0, 0] (lor P prev mu wl) slices_S64x1024_o0_0_S64x512)))
/-- The learning rates. -/
noncomputable def aa : FVec F S64x512 .f32 :=
  logistic (addf (broadcastTo S64x512 a0 broadcasts_S1x512_S64x512) (extractStridedSlice S64x512 ![0, 512] (lor P prev mu wl) slices_S64x1024_o0_512_S64x512))
/-- One where row and lane lie in one head. -/
noncomputable def seg : FVec F S128x128 .bf16 := truncf .bf16 (sitofp .f32 (extui 32 sameHead natLt_1_32)) bitsLt_bf16_f32
/-- The keys' directions, not normalised. -/
noncomputable def kk0 : FVec F S64x512 .f32 := mulf (kz P prev mu) (broadcastTo S64x512 kkp broadcasts_S1x512_S64x512)
/-- The sums over a head's lanes of one pair's squares. -/
noncomputable def segp (t : FVec F S64x128 .f32) : FVec F S64x128 .f32 :=
  matmul dot_S64x256_S256x128_S64x128_1_0_0_1_n_n none
    (concatenate S64x256 1 [⟨S64x128, truncf .bf16 t bitsLt_bf16_f32⟩, ⟨S64x128, truncf .bf16 (subf t (extf .f32 (truncf .bf16 t bitsLt_bf16_f32) bitsLt_bf16_f32)) bitsLt_bf16_f32⟩] concatenates_S64x128_S64x128_S64x256_d1)
    (concatenate S256x128 0 [⟨S128x128, seg⟩, ⟨S128x128, seg⟩] concatenates_S128x128_S128x128_S256x128_d0) (constant S64x128 .f32 0x00000000#32)
/-- The sums over a head's lanes. -/
noncomputable def segs (t : FVec F S64x512 .f32) : FVec F S64x512 .f32 :=
  concatenate S64x512 1 [⟨S64x128, segp (extractStridedSlice S64x128 ![0, 0] t slices_S64x512_o0_0_S64x128)⟩, ⟨S64x128, segp (extractStridedSlice S64x128 ![0, 128] t slices_S64x512_o0_128_S64x128)⟩, ⟨S64x128, segp (extractStridedSlice S64x128 ![0, 256] t slices_S64x512_o0_256_S64x128)⟩, ⟨S64x128, segp (extractStridedSlice S64x128 ![0, 384] t slices_S64x512_o0_384_S64x128)⟩] concatenates_S64x128_S64x128_S64x128_S64x128_S64x512_d1
/-- The keys' directions. -/
noncomputable def kn [Named F] : FVec F S64x512 .f32 :=
  mulf (kk0 P prev mu kkp) (rsqrt (maximumf (segs (mulf (kk0 P prev mu kkp) (kk0 P prev mu kkp))) (broadcast S64x512 (Named.named κ "eps_sq" 0x179ABE15#32))))
/-- The keys, corrected. -/
noncomputable def k2 : FVec F S64x512 .f32 :=
  mulf (kz P prev mu) (addf (broadcast S64x512 (Scalar.ofBits .f32 0x3F800000#32)) (mulf (subf (aa P prev mu a0 wl) (broadcast S64x512 (Scalar.ofBits .f32 0x3F800000#32))) (broadcastTo S64x512 kap broadcasts_S1x512_S64x512)))
/-- The corrections' directions. -/
noncomputable def bb [Named F] : FVec F S64x512 .f32 := mulf (kn P prev mu kkp) (aa P prev mu a0 wl)
/-- Row by row, the logarithms of decay summed over a batch row's rows so far. -/
noncomputable def cum (l : FVec F S64x512 .f32) : FVec F S64x512 .f32 :=
  matmul dot_S64x192_S192x512_S64x512_1_0_0_1_n_n none sl.v258
    (concatenate S192x512 0 [⟨S64x512, truncf .bf16 l bitsLt_bf16_f32⟩, ⟨S64x512, truncf .bf16 (subf l (extf .f32 (truncf .bf16 l bitsLt_bf16_f32) bitsLt_bf16_f32)) bitsLt_bf16_f32⟩,
      ⟨S64x512, truncf .bf16 (subf (subf l (extf .f32 (truncf .bf16 l bitsLt_bf16_f32) bitsLt_bf16_f32)) (extf .f32 (truncf .bf16 (subf l (extf .f32 (truncf .bf16 l bitsLt_bf16_f32) bitsLt_bf16_f32)) bitsLt_bf16_f32) bitsLt_bf16_f32)) bitsLt_bf16_f32⟩]
      concatenates_S64x512_S64x512_S64x512_S192x512_d0) (constant S64x512 .f32 0x00000000#32)
/-- The sums up to each row. -/
noncomputable def lp : FVec F S64x512 .f32 := cum (ld P prev mu w0 wl)
/-- The sums up to the row before each. -/
noncomputable def lpp : FVec F S64x512 .f32 := subf (lp P prev mu w0 wl) (ld P prev mu w0 wl)
/-- A batch row's last row, on each of its rows. -/
noncomputable def lastOf (lp : FVec F S64x512 .f32) : FVec F S64x512 .f32 := concatenate S64x512 0 [⟨S16x512, broadcastTo S16x512 (shapeCast S1x512 (extractStridedSlice S1x512 ![15, 0] lp slices_S64x512_o15_0_S1x512) shapeCasts_S1x512_S1x512) broadcasts_S1x512_S16x512⟩, ⟨S16x512, broadcastTo S16x512 (shapeCast S1x512 (extractStridedSlice S1x512 ![31, 0] lp slices_S64x512_o31_0_S1x512) shapeCasts_S1x512_S1x512) broadcasts_S1x512_S16x512⟩, ⟨S16x512, broadcastTo S16x512 (shapeCast S1x512 (extractStridedSlice S1x512 ![47, 0] lp slices_S64x512_o47_0_S1x512) shapeCasts_S1x512_S1x512) broadcasts_S1x512_S16x512⟩, ⟨S16x512, broadcastTo S16x512 (shapeCast S1x512 (extractStridedSlice S1x512 ![63, 0] lp slices_S64x512_o63_0_S1x512) shapeCasts_S1x512_S1x512) broadcasts_S1x512_S16x512⟩] concatenates_S16x512_S16x512_S16x512_S16x512_S64x512_d0
/-- A batch row's middle row, on each of its rows. -/
noncomputable def midOf (lp : FVec F S64x512 .f32) : FVec F S64x512 .f32 := concatenate S64x512 0 [⟨S16x512, broadcastTo S16x512 (shapeCast S1x512 (extractStridedSlice S1x512 ![7, 0] lp slices_S64x512_o7_0_S1x512) shapeCasts_S1x512_S1x512) broadcasts_S1x512_S16x512⟩, ⟨S16x512, broadcastTo S16x512 (shapeCast S1x512 (extractStridedSlice S1x512 ![23, 0] lp slices_S64x512_o23_0_S1x512) shapeCasts_S1x512_S1x512) broadcasts_S1x512_S16x512⟩, ⟨S16x512, broadcastTo S16x512 (shapeCast S1x512 (extractStridedSlice S1x512 ![39, 0] lp slices_S64x512_o39_0_S1x512) shapeCasts_S1x512_S1x512) broadcasts_S1x512_S16x512⟩, ⟨S16x512, broadcastTo S16x512 (shapeCast S1x512 (extractStridedSlice S1x512 ![55, 0] lp slices_S64x512_o55_0_S1x512) shapeCasts_S1x512_S1x512) broadcasts_S1x512_S16x512⟩] concatenates_S16x512_S16x512_S16x512_S16x512_S64x512_d0

/-- The block of a chain lies in its array. -/
theorem slK (k : Fin 16) : S64x512.Slices ![16 * (k.1 / 4), 128 * (k.1 % 4)] S16x128 := by revert k; decide

/-- One batch row's and one pair's block. -/
noncomputable def blk (x : FVec F S64x512 .f32) (k : Fin 16) : FVec F S16x128 .f32 :=
  extractStridedSlice S16x128 ![16 * (k.1 / 4), 128 * (k.1 % 4)] x (slK k)

variable (km rm bm mm ka v be ke p : FVec F S64x512 .f32)

/-- The state after the chunk, for one batch row and one pair. -/
noncomputable def chainK (k : Fin 16) (h : FVec F S128x128 .f32) : FVec F S128x128 .f32 :=
  chain (blk km k) (blk rm k) (blk bm k) (blk mm k) (blk ka k) (blk v k) (blk be k) (blk ke k) (blk p k) h

/-- The state of a head lies in its array. -/
theorem inbH (k : Fin 32) : ∀ a, (![k.1 / 8, k.1 % 8, 0, 0] : Fin 4 → Nat) a + S1x1x64x64.size a ≤ S4x8x64x64.size a := by revert k; decide
/-- The state of a pair of heads lies in its array. -/
theorem inbS (k : Fin 16) : ∀ a, (![k.1 / 4, k.1 % 4, 0, 0] : Fin 4 → Nat) a + S1x1x128x128.size a ≤ S4x4x128x128.size a := by revert k; decide
/-- The state of a head lies in that of its pair. -/
theorem slH (k : Fin 32) : S128x128.Slices ![64 * (k.1 % 2), 64 * (k.1 % 2)] S64x64 := by revert k; decide

/-- Where a batch row's and head's state lies in the state array. -/
noncomputable def rH (k : Fin 32) : Rect S4x8x64x64 := Rect.unit ![k.1 / 8, k.1 % 8, 0, 0] S1x1x64x64.size (inbH k)
/-- Where a batch row's and pair's state lies in the scratch. -/
noncomputable def rS (k : Fin 16) : Rect S4x4x128x128 := Rect.unit ![k.1 / 4, k.1 % 4, 0, 0] S1x1x128x128.size (inbS k)

/-- The first head of pair `k`, and the second. -/
def fst2 (k : Fin 16) : Fin 32 := ⟨2 * k.1, by omega⟩
@[inherit_doc fst2] def snd2 (k : Fin 16) : Fin 32 := ⟨2 * k.1 + 1, by omega⟩
/-- The pair head `k` belongs to. -/
def pairOf (k : Fin 32) : Fin 16 := ⟨k.1 / 2, by omega⟩

variable (hb : Fin 32 → Vec F S1x1x64x64 .f32)

/-- The entry state of a pair, as stored: its two heads' states down the diagonal, transposed. -/
noncomputable def entry (k : Fin 16) : FVec F S1x1x128x128 .f32 :=
  shapeCast S1x1x128x128 (transpose S128x128 [1, 0] (concatenate S128x128 0
    [⟨S64x128, concatenate S64x128 1 [⟨S64x64, shapeCast S64x64 (hb (fst2 k)) shapeCasts_S1x1x64x64_S64x64⟩, ⟨S64x64, (broadcast S64x64 (Scalar.ofBits .f32 0x00000000#32))⟩] concatenates_S64x64_S64x64_S64x128_d1⟩,
     ⟨S64x128, concatenate S64x128 1 [⟨S64x64, (broadcast S64x64 (Scalar.ofBits .f32 0x00000000#32))⟩, ⟨S64x64, shapeCast S64x64 (hb (snd2 k)) shapeCasts_S1x1x64x64_S64x64⟩] concatenates_S64x64_S64x64_S64x128_d1⟩]
    concatenates_S64x128_S64x128_S128x128_d0) transposes_S128x128_p1_0_S128x128) shapeCasts_S128x128_S1x1x128x128

/-- What the scratch holds at the start of the chunk. -/
noncomputable def entries : List (View.Piece (Elt F) S4x4x128x128 .f32) := List.ofFn fun k : Fin 16 => ⟨rS k.rev, entry hb k.rev⟩

variable (arg18 : Memref sig .tc .vmem S4x4x128x128 .f32)

/-- The state a pair enters the chunk with. -/
noncomputable def start (k : Fin 16) : FVec F S128x128 .f32 :=
  shapeCast S128x128 (arg18.view.readCov (entries hb) (rS k).toLoadRect) shapeCasts_S1x1x128x128_S128x128

/-- What the scratch holds after it. -/
noncomputable def leaves : List (View.Piece (Elt F) S4x4x128x128 .f32) :=
  (List.ofFn fun k : Fin 16 => (⟨rS k.rev, shapeCast S1x1x128x128 (chainK km rm bm mm ka v be ke p k.rev (start hb arg18 k.rev)) shapeCasts_S128x128_S1x1x128x128⟩ : View.Piece (Elt F) S4x4x128x128 .f32)) ++ entries hb

/-- What is written back, read off the scratch. -/
noncomputable def back (L : List (View.Piece (Elt F) S4x4x128x128 .f32)) (k : Fin 32) : FVec F S1x1x64x64 .f32 :=
  shapeCast S1x1x64x64 (extractStridedSlice S64x64 ![64 * (k.1 % 2), 64 * (k.1 % 2)] (transpose S128x128 [1, 0]
    (shapeCast S128x128 (arg18.view.readCov L (rS (pairOf k)).toLoadRect) shapeCasts_S1x1x128x128_S128x128)
    transposes_S128x128_p1_0_S128x128) (slH k)) shapeCasts_S64x64_S1x1x64x64

/-- All of what is written back. -/
noncomputable def finals : List (View.Piece (Elt F) S4x8x64x64 .f32) :=
  List.ofFn fun k : Fin 32 => ⟨rH k.rev, back arg18 (leaves km rm bm mm ka v be ke p hb arg18) k.rev⟩

end Cert.RwkvIdeal.Hand

end
-- ==== Proof.Rows.lean ====
/- The layer's two projections, a row at a time: plain functions of one token's row and of the weights, on the extended reals.
   The two programs' vector operations are read against these. -/
module

public import Idealize.ShloMosaic.PureOps.Ideal
public import Idealize.ShloMosaic.Lib.ValueIdxCore
public import Idealize.ShloMosaic.Lib.MatmulPlain
public import Idealize.ShloMosaic.Lib.Pointwise.Tactic

@[expose] public section

noncomputable section

namespace Cert.Rows

open Idealize.ShloMosaic

/-- Root-mean-square normalisation of a row of 1024 entries, times a gain. -/
def rms (x g : Fin 1024 → EReal) (j : Fin 1024) : EReal :=
  x j * Ideal.rsqrt (Ideal.div (∑ k, x k * x k) (Ideal.ofBits .f32 0x44800000#32) + Ideal.ofBits .f32 0x358637BD#32) * g j

/-- A row times a matrix. -/
def dot {n m : ℕ} (x : Fin n → EReal) (w : Fin n → Fin m → EReal) (j : Fin m) : EReal := ∑ k, x k * w k j

/-- The two attention outputs, each projected and weighted by its sigmoid gate of the normalised input row. -/
def mix (h : Fin 1024 → EReal) (wga wgr : Fin 1024 → Fin 1024 → EReal) (att rw : Fin 512 → EReal)
    (wa wr : Fin 512 → Fin 1024 → EReal) (j : Fin 1024) : EReal :=
  Ideal.logistic (dot h wga j) * dot att wa j + Ideal.logistic (dot h wgr j) * dot rw wr j

/-- The residual row after the output projection. -/
def resid (x mx : Fin 1024 → EReal) (wo : Fin 1024 → Fin 1024 → EReal) (j : Fin 1024) : EReal := x j + dot mx wo j

/-- The squared rectifier of a normalised row times the first feed-forward matrix. -/
def hidden (x g : Fin 1024 → EReal) (w1 : Fin 1024 → Fin 4096 → EReal) (j : Fin 4096) : EReal :=
  max (dot (rms x g) w1 j) 0 * max (dot (rms x g) w1 j) 0

/-- The residual row after the feed-forward block. -/
def mlp (x g : Fin 1024 → EReal) (w1 : Fin 1024 → Fin 4096 → EReal) (w2 : Fin 4096 → Fin 1024 → EReal) (j : Fin 1024) : EReal :=
  x j + dot (hidden x g w1) w2 j

/-- One row of the layer's end: gates, output projection, feed-forward block and last normalisation. -/
def tail (x : Fin 1024 → EReal) (att rw : Fin 512 → EReal) (g1 : Fin 1024 → EReal) (wga wgr : Fin 1024 → Fin 1024 → EReal)
    (wa wr : Fin 512 → Fin 1024 → EReal) (wo : Fin 1024 → Fin 1024 → EReal) (g2 : Fin 1024 → EReal)
    (w1 : Fin 1024 → Fin 4096 → EReal) (w2 : Fin 4096 → Fin 1024 → EReal) (gf : Fin 1024 → EReal) (j : Fin 1024) : EReal :=
  rms (mlp (resid x (mix (rms x g1) wga wgr att rw wa wr) wo) g2 w1 w2) gf j

/-- `tail` sees its operands only through their entries. -/
theorem tail_congr {x x' : Fin 1024 → EReal} {att att' rw rw' : Fin 512 → EReal} {g1 g1' : Fin 1024 → EReal} {wga wga' wgr wgr' : Fin 1024 → Fin 1024 → EReal}
    {wa wa' wr wr' : Fin 512 → Fin 1024 → EReal} {wo wo' : Fin 1024 → Fin 1024 → EReal} {g2 g2' : Fin 1024 → EReal}
    {w1 w1' : Fin 1024 → Fin 4096 → EReal} {w2 w2' : Fin 4096 → Fin 1024 → EReal} {gf gf' : Fin 1024 → EReal} (j : Fin 1024)
    (hx : ∀ k, x k = x' k) (ha : ∀ k, att k = att' k) (hr : ∀ k, rw k = rw' k) (h1 : ∀ k, g1 k = g1' k)
    (hga : ∀ k l, wga k l = wga' k l) (hgr : ∀ k l, wgr k l = wgr' k l) (hwa : ∀ k l, wa k l = wa' k l) (hwr : ∀ k l, wr k l = wr' k l)
    (hwo : ∀ k l, wo k l = wo' k l) (h2 : ∀ k, g2 k = g2' k) (hw1 : ∀ k l, w1 k l = w1' k l) (hw2 : ∀ k l, w2 k l = w2' k l)
    (hf : ∀ k, gf k = gf' k) :
    tail x att rw g1 wga wgr wa wr wo g2 w1 w2 gf j = tail x' att' rw' g1' wga' wgr' wa' wr' wo' g2' w1' w2' gf' j := by
  obtain rfl : x = x' := funext hx
  obtain rfl : att = att' := funext ha
  obtain rfl : rw = rw' := funext hr
  obtain rfl : g1 = g1' := funext h1
  obtain rfl : wga = wga' := funext fun k => funext (hga k)
  obtain rfl : wgr = wgr' := funext fun k => funext (hgr k)
  obtain rfl : wa = wa' := funext fun k => funext (hwa k)
  obtain rfl : wr = wr' := funext fun k => funext (hwr k)
  obtain rfl : wo = wo' := funext fun k => funext (hwo k)
  obtain rfl : g2 = g2' := funext h2
  obtain rfl : w1 = w1' := funext fun k => funext (hw1 k)
  obtain rfl : w2 = w2' := funext fun k => funext (hw2 k)
  obtain rfl : gf = gf' := funext hf
  rfl

/-- The layer's end for every token: row `r` of the result is `tail` of row `r` of the three inputs, the two gate matrices the
    two last groups of 1024 columns of the wide input projection. -/
def tailAll {N : ℕ} (x : Fin N → Fin 1024 → EReal) (att rw : Fin N → Fin 512 → EReal) (g1 : Fin 1024 → EReal)
    (win : Fin 1024 → Fin 5192 → EReal) (wa wr : Fin 512 → Fin 1024 → EReal) (wo : Fin 1024 → Fin 1024 → EReal) (g2 : Fin 1024 → EReal)
    (w1 : Fin 1024 → Fin 4096 → EReal) (w2 : Fin 4096 → Fin 1024 → EReal) (gf : Fin 1024 → EReal) (r : Fin N) (j : Fin 1024) : EReal :=
  tail (x r) (att r) (rw r) g1 (fun k l => win k ⟨3144 + l.val, by omega⟩) (fun k l => win k ⟨4168 + l.val, by omega⟩) wa wr wo g2 w1 w2 gf j

/-- A product into a zero accumulator, at an index: the row of the left operand against the column of the right one. -/
theorem mm_apply {M K N : ℕ} (D : DotDims ⟨2, ![M, K]⟩ ⟨2, ![K, N]⟩ ⟨2, ![M, N]⟩) (hD : D = DotDims.plain M K N)
    (l : (⟨2, ![M, K]⟩ : Shape).Idx → EReal) (r : (⟨2, ![K, N]⟩ : Shape).Idx → EReal) (i : Fin M) (j : Fin N) :
    Ideal.matmul D l r (constant ⟨2, ![M, N]⟩ .f32 0x00000000#32 : FVec Ideal ⟨2, ![M, N]⟩ .f32) (ix2 i j) = ∑ k : Fin K, l (ix2 i k) * r (ix2 k j) := by
  subst hD
  have h := Ideal.matmul_plain_apply (φ₁ := .f32) (φ₂ := .f32) none l r (constant ⟨2, ![M, N]⟩ .f32 0x00000000#32) i j
  have e : ∀ {a b : ℕ} (p : Fin a) (q : Fin b), (ValueIdx.ix2 p q : (⟨2, ![a, b]⟩ : Shape).Idx) = ix2 p q := fun p q =>
    funext fun a => by fin_cases a <;> rfl
  simp only [e] at h
  refine h.trans ?_
  simp only [constant_apply]
  rw [show (FloatOps.ofBits .f32 0x00000000#32 : Ideal .f32) = 0 from Ideal.ofBits_zero_f32, zero_add]

end Cert.Rows

end
-- ==== Proof.RwkvMasks.lean ====
/- The masks of the recurrent mixer kernel, at an index. -/
module

public import proofs.«01_k».proof.Proof.RwkvModel
public import proofs.«01_k».proof.Proof.Rows

@[expose] public section
noncomputable section
namespace Cert.RwkvIdeal.Hand
open Cert.RwkvIdeal Cert.RwkvIdeal.Gen Cert.RwkvIdeal.Gen.kernelRun0_A Idealize.ShloMosaic

/-- The mask at an index. -/
theorem lane0_at (t : Fin 16) (l : Fin 128) : lane0 (ix2 t l) = if l.1 / 64 = 0 then 1#1 else 0#1 := by
  have e : lane0 (ix2 t l) = lane0 (ix2 0 l) := rfl
  rw [e]; clear e; revert l; decide +kernel

/-- The mask at an index. -/
theorem lane1_at (t : Fin 16) (l : Fin 128) : lane1 (ix2 t l) = if l.1 / 64 = 1 then 1#1 else 0#1 := by
  have e : lane1 (ix2 t l) = lane1 (ix2 0 l) := rfl
  rw [e]; clear e; revert l; decide +kernel

/-- The mask at an index. -/
theorem col0_at (t : Fin 16) (l : Fin 32) : col0 (ix2 t l) = if l.1 / 16 = 0 then 1#1 else 0#1 := by
  have e : col0 (ix2 t l) = col0 (ix2 0 l) := rfl
  rw [e]; clear e; revert l; decide +kernel

/-- The mask at an index. -/
theorem col1_at (t : Fin 16) (l : Fin 32) : col1 (ix2 t l) = if l.1 / 16 = 1 then 1#1 else 0#1 := by
  have e : col1 (ix2 t l) = col1 (ix2 0 l) := rfl
  rw [e]; clear e; revert l; decide +kernel

/-- The mask at an index. -/
theorem wide0_at (t : Fin 16) (l : Fin 256) : wide0 (ix2 t l) = if l.1 % 128 / 64 = 0 then 1#1 else 0#1 := by
  have e : wide0 (ix2 t l) = wide0 (ix2 0 l) := rfl
  rw [e]; clear e; revert l; decide +kernel

/-- The mask at an index. -/
theorem wide1_at (t : Fin 16) (l : Fin 256) : wide1 (ix2 t l) = if l.1 % 128 / 64 = 1 then 1#1 else 0#1 := by
  have e : wide1 (ix2 t l) = wide1 (ix2 0 l) := rfl
  rw [e]; clear e; revert l; decide +kernel

/-- The mask at an index. -/
theorem before_at (t : Fin 16) (l : Fin 32) : before (ix2 t l) = if l.1 % 16 < t.1 then 1#1 else 0#1 := by
  revert t l; decide +kernel

/-- The mask at an index. -/
theorem place_row (i : Fin 128) : sl.v89 (ix2 i 0) = BitVec.ofNat 32 i.1 := by
  revert i; decide +kernel

/-- The mask at an index. -/
theorem place_lane (i : Fin 128) : sl.v114 (ix2 0 i) = BitVec.ofNat 32 i.1 := by
  revert i; decide +kernel

/-- The mask at an index. -/
theorem diag_at (i j : Fin 128) : diag (ix2 i j) = if i = j then 1#1 else 0#1 := by
  have e : diag (ix2 i j) = Scalar.cmpi .eq (sl.v89 (ix2 i 0)) (sl.v114 (ix2 0 j)) := rfl
  rw [e, place_row, place_lane]
  by_cases h : i = j
  · subst h; rw [if_pos rfl]; simp [Scalar.cmpi, IntOp.cmpi]
  · rw [if_neg h]
    have h2 : BitVec.ofNat 32 i.1 ≠ BitVec.ofNat 32 j.1 := fun e => h (Fin.ext (by
      have := congrArg BitVec.toNat e
      simp only [BitVec.toNat_ofNat] at this
      omega))
    have h3 : (BitVec.ofNat 32 i.1 == BitVec.ofNat 32 j.1) = false := beq_false_of_ne h2
    simp only [Scalar.cmpi, IntOp.cmpi, h3]; rfl

/-- The mask at an index. -/
theorem head_row (i : Fin 128) : sl.v113 (ix2 i 0) = BitVec.ofNat 32 (i.1 / 64) := by
  revert i; decide +kernel

/-- The mask at an index. -/
theorem head_lane (i : Fin 128) : sl.v138 (ix2 0 i) = BitVec.ofNat 32 (i.1 / 64) := by
  revert i; decide +kernel

/-- The mask at an index. -/
theorem sameHead_at (i j : Fin 128) : sameHead (ix2 i j) = if i.1 / 64 = j.1 / 64 then 1#1 else 0#1 := by
  have e : sameHead (ix2 i j) = Scalar.cmpi .eq (sl.v113 (ix2 i 0)) (sl.v138 (ix2 0 j)) := rfl
  rw [e, head_row, head_lane]
  have hi : i.1 / 64 < 2 := by omega
  have hj : j.1 / 64 < 2 := by omega
  generalize i.1 / 64 = a at *
  generalize j.1 / 64 = b at *
  interval_cases a <;> interval_cases b <;> rfl

/-- The mask at an index. -/
theorem eye_at (t : Fin 16) (l : Fin 32) : (sl.v328 (ix2 t l)) = if l.1 % 16 = t.1 then 1#32 else 0#32 := by
  revert t l; decide +kernel

/-- The mask at an index. -/
theorem tri_at (r s : Fin 64) : sl.v248 (ix2 r s) = if s.1 ≤ r.1 ∧ s.1 / 16 = r.1 / 16 then 1#32 else 0#32 := by
  revert r s; decide +kernel

/-- The mask at an index. -/
theorem low_at (r : Fin 64) (l : Fin 128) : cmpi .slt sl.v61 sl.v62 (ix2 r l) = if l.1 < 64 then 1#1 else 0#1 := by
  have e : cmpi .slt sl.v61 sl.v62 (ix2 r l) = cmpi .slt sl.v61 sl.v62 (ix2 0 l) := rfl
  rw [e]; clear e; revert l; decide +kernel
end Cert.RwkvIdeal.Hand
end
-- ==== Proof.RwkvBlocks.lean ====
/- Arrays of real numbers in blocks by head, and sums, products and concatenations read in those blocks. -/
module

public import proofs.«01_k».proof.Proof.Rows
public import Idealize.ShloMosaic.Lib.ValueIdx
public import Idealize.ShloMosaic.Lib.Pipeline.Value
public import Idealize.ShloMosaic.Lib.Pointwise.Tactic
public import Idealize.ShloMosaic.Lib.Pointwise.Contract
public import Mathlib.LinearAlgebra.Matrix.Transvection

@[expose] public section

noncomputable section

namespace Cert.RwkvBlocks

open Idealize.ShloMosaic Matrix

/-- Position `s` of block `e`, of two blocks of sixteen. -/
def i32 (e : Fin 2) (s : Fin 16) : Fin 32 := ⟨16 * e.1 + s.1, by omega⟩
/-- Position `j` of block `e`, of two blocks of sixty four. -/
def i128 (e : Fin 2) (j : Fin 64) : Fin 128 := ⟨64 * e.1 + j.1, by omega⟩

/-- Every index below 32 is one of two blocks of sixteen. -/
theorem i32_ex (k : Fin 32) : ∃ e s, k = i32 e s := ⟨⟨k.1 / 16, by omega⟩, ⟨k.1 % 16, by omega⟩, Fin.ext (by simp only [i32]; omega)⟩
/-- Every index below 128 is one of two blocks of sixty-four. -/
theorem i128_ex (k : Fin 128) : ∃ e j, k = i128 e j := ⟨⟨k.1 / 64, by omega⟩, ⟨k.1 % 64, by omega⟩, Fin.ext (by simp only [i128]; omega)⟩

/-- A sum of real numbers, as a sum of extended real numbers. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum over `m` blocks of `n`. -/
theorem sum_blocks {M : Type} [AddCommMonoid M] {m n : ℕ} (f : Fin (m * n) → M) :
    ∑ k, f k = ∑ e : Fin m, ∑ s : Fin n, f (finProdFinEquiv (e, s)) := by
  rw [← Fintype.sum_prod_type']
  exact (Equiv.sum_comp finProdFinEquiv f).symm

/-- A sum over two blocks of which only one contributes. -/
theorem sum32 (f : Fin 32 → EReal) (g : Fin 16 → EReal) (e : Fin 2) (h : ∀ e' s, f (i32 e' s) = if e' = e then g s else 0) :
    ∑ k, f k = ∑ s, g s := by
  have hb := sum_blocks (m := 2) (n := 16) f
  have hi : ∀ e' s, f (finProdFinEquiv (m := 2) (n := 16) (e', s)) = if e' = e then g s else 0 := fun e' s => by
    rw [← h e' s]; exact congrArg f (Fin.ext (by simp [finProdFinEquiv, i32]; omega))
  refine hb.trans ?_
  simp only [hi]
  rw [Finset.sum_eq_single e (fun b _ hb => by simp [hb]) (by simp)]
  simp

/-- A sum over two blocks of which only one contributes. -/
theorem sum128 (f : Fin 128 → EReal) (g : Fin 64 → EReal) (e : Fin 2) (h : ∀ e' s, f (i128 e' s) = if e' = e then g s else 0) :
    ∑ k, f k = ∑ s, g s := by
  have hb := sum_blocks (m := 2) (n := 64) f
  have hi : ∀ e' s, f (finProdFinEquiv (m := 2) (n := 64) (e', s)) = if e' = e then g s else 0 := fun e' s => by
    rw [← h e' s]; exact congrArg f (Fin.ext (by simp [finProdFinEquiv, i128]; omega))
  refine hb.trans ?_
  simp only [hi]
  rw [Finset.sum_eq_single e (fun b _ hb => by simp [hb]) (by simp)]
  simp

/-- A sum over three blocks of `n`. -/
theorem sum3 {n : ℕ} (f : Fin (3 * n) → EReal) : ∑ k, f k = (∑ s : Fin n, f ⟨s.1, by omega⟩) + (∑ s : Fin n, f ⟨n + s.1, by omega⟩) + ∑ s : Fin n, f ⟨2 * n + s.1, by omega⟩ := by
  rw [sum_blocks, Fin.sum_univ_three]
  refine congrArg₂ _ (congrArg₂ _ ?_ ?_) ?_ <;> refine Finset.sum_congr rfl fun s _ => congrArg f (Fin.ext ?_)
  · simp [finProdFinEquiv]
  · simp [finProdFinEquiv]; omega
  · simp [finProdFinEquiv]; ring

/-- A sum over two blocks of `n`. -/
theorem sum2 {n : ℕ} (f : Fin (2 * n) → EReal) : ∑ k, f k = (∑ s : Fin n, f ⟨s.1, by omega⟩) + (∑ s : Fin n, f ⟨n + s.1, by omega⟩) := by
  rw [sum_blocks, Fin.sum_univ_two]
  refine congrArg₂ _ ?_ ?_ <;> refine Finset.sum_congr rfl fun s _ => congrArg f (Fin.ext ?_)
  · simp [finProdFinEquiv]
  · simp [finProdFinEquiv]; omega

section
variable {α : Type}

/-- Two pieces one above the other, read in the upper one. -/
theorem cat0_lo {m m' n M : ℕ} (x : (⟨2, ![m, n]⟩ : Shape).Idx → α) (y : (⟨2, ![m', n]⟩ : Shape).Idx → α)
    (h : Shape.Concatenates [⟨2, ![m, n]⟩, ⟨2, ![m', n]⟩] ⟨2, ![M, n]⟩ 0) (i : Fin m) (j : Fin n) (I : Fin M) (hI : I.1 = i.1) :
    concatenate ⟨2, ![M, n]⟩ 0 [⟨⟨2, ![m, n]⟩, x⟩, ⟨⟨2, ![m', n]⟩, y⟩] h (ix2 I j) = x (ix2 i j) :=
  concatenate_apply_piece (t := ⟨2, ![M, n]⟩) 0 [⟨⟨2, ![m, n]⟩, x⟩, ⟨⟨2, ![m', n]⟩, y⟩] h (ix2 I j) 0 (by simp) ⟨2, ![m, n]⟩ x rfl rfl 0 rfl (ix2 i j)
    (fun b hb => by match b with | ⟨0, _⟩ => exact absurd rfl hb | ⟨1, _⟩ => rfl) (by show 0 + i.1 = I.1; omega)

/-- Two pieces one above the other, read in the lower one. -/
theorem cat0_hi {m m' n M : ℕ} (x : (⟨2, ![m, n]⟩ : Shape).Idx → α) (y : (⟨2, ![m', n]⟩ : Shape).Idx → α)
    (h : Shape.Concatenates [⟨2, ![m, n]⟩, ⟨2, ![m', n]⟩] ⟨2, ![M, n]⟩ 0) (i : Fin m') (j : Fin n) (I : Fin M) (hI : I.1 = m + i.1) :
    concatenate ⟨2, ![M, n]⟩ 0 [⟨⟨2, ![m, n]⟩, x⟩, ⟨⟨2, ![m', n]⟩, y⟩] h (ix2 I j) = y (ix2 i j) :=
  concatenate_apply_piece (t := ⟨2, ![M, n]⟩) 0 [⟨⟨2, ![m, n]⟩, x⟩, ⟨⟨2, ![m', n]⟩, y⟩] h (ix2 I j) 1 (by simp) ⟨2, ![m', n]⟩ y rfl rfl m
    (by simp) (ix2 i j)
    (fun b hb => by match b with | ⟨0, _⟩ => exact absurd rfl hb | ⟨1, _⟩ => rfl) (by show m + i.1 = I.1; omega)

/-- Two pieces side by side, read in the left one. -/
theorem cat1_lo {m n n' N : ℕ} (x : (⟨2, ![m, n]⟩ : Shape).Idx → α) (y : (⟨2, ![m, n']⟩ : Shape).Idx → α)
    (h : Shape.Concatenates [⟨2, ![m, n]⟩, ⟨2, ![m, n']⟩] ⟨2, ![m, N]⟩ 1) (i : Fin m) (j : Fin n) (J : Fin N) (hJ : J.1 = j.1) :
    concatenate ⟨2, ![m, N]⟩ 1 [⟨⟨2, ![m, n]⟩, x⟩, ⟨⟨2, ![m, n']⟩, y⟩] h (ix2 i J) = x (ix2 i j) :=
  concatenate_apply_piece (t := ⟨2, ![m, N]⟩) 1 [⟨⟨2, ![m, n]⟩, x⟩, ⟨⟨2, ![m, n']⟩, y⟩] h (ix2 i J) 0 (by simp) ⟨2, ![m, n]⟩ x rfl rfl 0 rfl (ix2 i j)
    (fun b hb => by match b with | ⟨1, _⟩ => exact absurd rfl hb | ⟨0, _⟩ => rfl) (by show 0 + j.1 = J.1; omega)

/-- Two pieces side by side, read in the right one. -/
theorem cat1_hi {m n n' N : ℕ} (x : (⟨2, ![m, n]⟩ : Shape).Idx → α) (y : (⟨2, ![m, n']⟩ : Shape).Idx → α)
    (h : Shape.Concatenates [⟨2, ![m, n]⟩, ⟨2, ![m, n']⟩] ⟨2, ![m, N]⟩ 1) (i : Fin m) (j : Fin n') (J : Fin N) (hJ : J.1 = n + j.1) :
    concatenate ⟨2, ![m, N]⟩ 1 [⟨⟨2, ![m, n]⟩, x⟩, ⟨⟨2, ![m, n']⟩, y⟩] h (ix2 i J) = y (ix2 i j) :=
  concatenate_apply_piece (t := ⟨2, ![m, N]⟩) 1 [⟨⟨2, ![m, n]⟩, x⟩, ⟨⟨2, ![m, n']⟩, y⟩] h (ix2 i J) 1 (by simp) ⟨2, ![m, n']⟩ y rfl rfl n
    (by simp) (ix2 i j)
    (fun b hb => by match b with | ⟨1, _⟩ => exact absurd rfl hb | ⟨0, _⟩ => rfl) (by show n + j.1 = J.1; omega)

/-- A slice of a table, at an index. -/
theorem sl2 {M N m n : ℕ} (o p : ℕ) (x : (⟨2, ![M, N]⟩ : Shape).Idx → α) (h : (⟨2, ![M, N]⟩ : Shape).Slices ![o, p] ⟨2, ![m, n]⟩)
    (i : Fin m) (j : Fin n) (I : Fin M) (J : Fin N) (hI : I.1 = o + i.1) (hJ : J.1 = p + j.1) :
    extractStridedSlice ⟨2, ![m, n]⟩ ![o, p] x h (ix2 i j) = x (ix2 I J) :=
  extractStridedSlice_apply ![o, p] x h (ix2 i j) (ix2 I J) (fun a => by match a with | ⟨0, _⟩ => exact hI | ⟨1, _⟩ => exact hJ)

/-- Three pieces of equal height one above the other, read in each. -/
theorem cat3_0 {m n : ℕ} {M : ℕ} (x y z : (⟨2, ![m, n]⟩ : Shape).Idx → α)
    (h : Shape.Concatenates [⟨2, ![m, n]⟩, ⟨2, ![m, n]⟩, ⟨2, ![m, n]⟩] ⟨2, ![M, n]⟩ 0) (i : Fin m) (j : Fin n) (I : Fin M) (hI : I.1 = i.1) :
    concatenate ⟨2, ![M, n]⟩ 0 [⟨⟨2, ![m, n]⟩, x⟩, ⟨⟨2, ![m, n]⟩, y⟩, ⟨⟨2, ![m, n]⟩, z⟩] h (ix2 I j) = x (ix2 i j) :=
  concatenate_apply_piece (t := ⟨2, ![M, n]⟩) 0 [⟨⟨2, ![m, n]⟩, x⟩, ⟨⟨2, ![m, n]⟩, y⟩, ⟨⟨2, ![m, n]⟩, z⟩] h (ix2 I j) 0 (by simp) ⟨2, ![m, n]⟩ x rfl rfl 0 rfl (ix2 i j)
    (fun b hb => by match b with | ⟨0, _⟩ => exact absurd rfl hb | ⟨1, _⟩ => rfl) (by show 0 + i.1 = I.1; omega)
@[inherit_doc cat3_0] theorem cat3_1 {m n : ℕ} {M : ℕ} (x y z : (⟨2, ![m, n]⟩ : Shape).Idx → α)
    (h : Shape.Concatenates [⟨2, ![m, n]⟩, ⟨2, ![m, n]⟩, ⟨2, ![m, n]⟩] ⟨2, ![M, n]⟩ 0) (i : Fin m) (j : Fin n) (I : Fin M) (hI : I.1 = m + i.1) :
    concatenate ⟨2, ![M, n]⟩ 0 [⟨⟨2, ![m, n]⟩, x⟩, ⟨⟨2, ![m, n]⟩, y⟩, ⟨⟨2, ![m, n]⟩, z⟩] h (ix2 I j) = y (ix2 i j) :=
  concatenate_apply_piece (t := ⟨2, ![M, n]⟩) 0 [⟨⟨2, ![m, n]⟩, x⟩, ⟨⟨2, ![m, n]⟩, y⟩, ⟨⟨2, ![m, n]⟩, z⟩] h (ix2 I j) 1 (by simp) ⟨2, ![m, n]⟩ y rfl rfl m (by simp) (ix2 i j)
    (fun b hb => by match b with | ⟨0, _⟩ => exact absurd rfl hb | ⟨1, _⟩ => rfl) (by show m + i.1 = I.1; omega)
@[inherit_doc cat3_0] theorem cat3_2 {m n : ℕ} {M : ℕ} (x y z : (⟨2, ![m, n]⟩ : Shape).Idx → α)
    (h : Shape.Concatenates [⟨2, ![m, n]⟩, ⟨2, ![m, n]⟩, ⟨2, ![m, n]⟩] ⟨2, ![M, n]⟩ 0) (i : Fin m) (j : Fin n) (I : Fin M) (hI : I.1 = 2 * m + i.1) :
    concatenate ⟨2, ![M, n]⟩ 0 [⟨⟨2, ![m, n]⟩, x⟩, ⟨⟨2, ![m, n]⟩, y⟩, ⟨⟨2, ![m, n]⟩, z⟩] h (ix2 I j) = z (ix2 i j) :=
  concatenate_apply_piece (t := ⟨2, ![M, n]⟩) 0 [⟨⟨2, ![m, n]⟩, x⟩, ⟨⟨2, ![m, n]⟩, y⟩, ⟨⟨2, ![m, n]⟩, z⟩] h (ix2 I j) 2 (by simp) ⟨2, ![m, n]⟩ z rfl rfl (2 * m) (by simp; omega) (ix2 i j)
    (fun b hb => by match b with | ⟨0, _⟩ => exact absurd rfl hb | ⟨1, _⟩ => rfl) (by show 2 * m + i.1 = I.1; omega)

end

/-- A product with a transposed right operand into a zero accumulator, at an index. -/
theorem nt_apply {M K N : ℕ} (D : DotDims ⟨2, ![M, K]⟩ ⟨2, ![N, K]⟩ ⟨2, ![M, N]⟩) (hD : D = DotDims.transposedRhs M K N)
    (l : (⟨2, ![M, K]⟩ : Shape).Idx → EReal) (r : (⟨2, ![N, K]⟩ : Shape).Idx → EReal) (i : Fin M) (j : Fin N) :
    Ideal.matmul D l r (constant ⟨2, ![M, N]⟩ .f32 0x00000000#32 : FVec Ideal ⟨2, ![M, N]⟩ .f32) (ix2 i j) = ∑ k : Fin K, l (ix2 i k) * r (ix2 j k) := by
  subst hD
  have h := Ideal.matmul_transposedRhs_apply (φ₁ := .f32) (φ₂ := .f32) none l r (constant ⟨2, ![M, N]⟩ .f32 0x00000000#32) i j
  have e : ∀ {a b : ℕ} (p : Fin a) (q : Fin b), (ValueIdx.ix2 p q : (⟨2, ![a, b]⟩ : Shape).Idx) = ix2 p q := fun p q =>
    funext fun a => by fin_cases a <;> rfl
  simp only [e] at h
  refine h.trans ?_
  simp only [constant_apply]
  rw [show (FloatOps.ofBits .f32 0x00000000#32 : Ideal .f32) = 0 from Ideal.ofBits_zero_f32, zero_add]

end Cert.RwkvBlocks

end
-- ==== Proof.RwkvMath.lean ====
/- The recurrence over the real numbers: sixteen steps of the mixer's state update in closed form, through the inverse of a unit lower triangular matrix. -/
module

public import Mathlib.LinearAlgebra.Matrix.Transvection
public import Mathlib.Analysis.SpecialFunctions.Exp
public import Mathlib.Tactic.NoncommRing
public import Mathlib.Tactic.Ring
public import Idealize.ShloMosaic.PureOps.Ideal

@[expose] public section

namespace Cert.RwkvMath

open Matrix

/-- The product of four factors that the kernel forms in place of the inverse. -/
def inv4 (N : Matrix (Fin 16) (Fin 16) ℝ) : Matrix (Fin 16) (Fin 16) ℝ :=
  let T1 := (1 - N) + (1 - N) * (N * N)
  let T2 := T1 + T1 * ((N * N) * (N * N))
  T2 + T2 * (((N * N) * (N * N)) * ((N * N) * (N * N)))

/-- A power of a strictly lower triangular matrix is zero near the diagonal. -/
theorem pow_zero_near (N : Matrix (Fin 16) (Fin 16) ℝ) (hN : ∀ t s : Fin 16, t ≤ s → N t s = 0) :
    ∀ (k : ℕ) (t s : Fin 16), t.1 < s.1 + k → (N ^ k) t s = 0
  | 0, t, s, h => by
    rw [pow_zero, Matrix.one_apply_ne]
    intro e; subst e; simp at h
  | k + 1, t, s, h => by
    rw [pow_succ, Matrix.mul_apply]
    refine Finset.sum_eq_zero fun u _ => ?_
    by_cases hu : t.1 < u.1 + k
    · rw [pow_zero_near N hN k t u hu, zero_mul]
    · rw [hN u s (by rw [Fin.le_def]; omega), mul_zero]

/-- The four factors' product is a left inverse of one plus the matrix. -/
theorem inv4_mul (N : Matrix (Fin 16) (Fin 16) ℝ) (hN : ∀ t s : Fin 16, t ≤ s → N t s = 0) : inv4 N * (1 + N) = 1 := by
  have h16 : N ^ 16 = 0 := by
    ext t s; exact pow_zero_near N hN 16 t s (by omega)
  have : inv4 N * (1 + N) = 1 - N ^ 16 := by
    simp only [inv4]; noncomm_ring
  rw [this, h16, sub_zero]

/-- One more term of a sum over the rows before a row. -/
theorem sum_lt_succ (f : Fin 16 → ℝ) (n : ℕ) (h : n < 16) :
    (∑ s : Fin 16, if s.1 < n + 1 then f s else 0) = (∑ s : Fin 16, if s.1 < n then f s else 0) + f ⟨n, h⟩ := by
  have e : ∀ s : Fin 16, (if s.1 < n + 1 then f s else 0) = (if s.1 < n then f s else 0) + (if s = ⟨n, h⟩ then f s else 0) := by
    intro s
    by_cases h1 : s.1 < n
    · have : s ≠ ⟨n, h⟩ := fun e => by rw [e] at h1; exact lt_irrefl _ h1
      rw [if_pos (by omega), if_pos h1, if_neg this, add_zero]
    · by_cases h2 : s = ⟨n, h⟩
      · subst h2; simp
      · have : s.1 ≠ n := fun e => h2 (Fin.ext e)
        rw [if_neg (by omega), if_neg h1, if_neg h2, add_zero]
  rw [Finset.sum_congr rfl fun s _ => e s, Finset.sum_add_distrib, Finset.sum_ite_eq' Finset.univ, if_pos (Finset.mem_univ _)]

section
variable (ld kk b k v : Fin 16 → Fin 64 → ℝ) (S : ℕ → Fin 64 → Fin 64 → ℝ)

/-- The logarithms of decay summed over the rows before row `n`. -/
noncomputable def cumL (n : ℕ) (j : Fin 64) : ℝ := ∑ s : Fin 16, if s.1 < n then ld s j else 0

/-- The state's product with a row's direction. -/
noncomputable def sa (s : Fin 16) (i : Fin 64) : ℝ := ∑ j, S s.1 i j * kk s j

/-- The same for all rows, as a matrix. -/
noncomputable def saM : Matrix (Fin 16) (Fin 64) ℝ := Matrix.of fun t i => sa kk S t i

variable (hS : ∀ (t : Fin 16) (i j : Fin 64), S (t.1 + 1) i j = S t.1 i j * Real.exp (ld t j) - sa kk S t i * b t j + v t i * k t j)
include hS

/-- The state before row `n`, in closed form. -/
theorem state_closed (i j : Fin 64) : ∀ n : ℕ, n ≤ 16 → S n i j = S 0 i j * Real.exp (cumL ld n j)
    + ∑ s : Fin 16, if s.1 < n then (v s i * k s j - sa kk S s i * b s j) * Real.exp (cumL ld n j - cumL ld (s.1 + 1) j) else 0
  | 0, _ => by simp [cumL]
  | n + 1, h => by
    have hc : cumL ld (n + 1) j = cumL ld n j + ld ⟨n, h⟩ j := sum_lt_succ (fun s => ld s j) n h
    rw [hS ⟨n, h⟩ i j, sum_lt_succ _ n h]
    show S n i j * _ - _ + _ = _
    rw [state_closed i j n (by omega), hc, Real.exp_add]
    rw [sub_self, Real.exp_zero, mul_one]
    have : (∑ s : Fin 16, if s.1 < n then (v s i * k s j - sa kk S s i * b s j) * Real.exp (cumL ld n j + ld ⟨n, h⟩ j - cumL ld (s.1 + 1) j) else 0)
        = (∑ s : Fin 16, if s.1 < n then (v s i * k s j - sa kk S s i * b s j) * Real.exp (cumL ld n j - cumL ld (s.1 + 1) j) else 0) * Real.exp (ld ⟨n, h⟩ j) := by
      rw [Finset.sum_mul]
      refine Finset.sum_congr rfl fun s _ => ?_
      by_cases hs : s.1 < n
      · rw [if_pos hs, if_pos hs, mul_assoc, ← Real.exp_add]; congr 2; ring
      · rw [if_neg hs, if_neg hs, zero_mul]
    rw [this]; ring

variable (N A T : Matrix (Fin 16) (Fin 16) ℝ) (Ka Be Ke V : Matrix (Fin 16) (Fin 64) ℝ) (H : Matrix (Fin 64) (Fin 64) ℝ)
  (hN : ∀ t s, N t s = if s < t then ∑ j, (kk t j * Real.exp (cumL ld t.1 j)) * (b s j * Real.exp (-cumL ld (s.1 + 1) j)) else 0)
  (hA : ∀ t s, A t s = if s < t then ∑ j, (kk t j * Real.exp (cumL ld t.1 j)) * (k s j * Real.exp (-cumL ld (s.1 + 1) j)) else 0)
  (hKa : ∀ t j, Ka t j = kk t j * Real.exp (cumL ld t.1 j))
  (hBe : ∀ s j, Be s j = b s j * Real.exp (cumL ld 16 j - cumL ld (s.1 + 1) j))
  (hKe : ∀ s j, Ke s j = k s j * Real.exp (cumL ld 16 j - cumL ld (s.1 + 1) j))
  (hV : ∀ s i, V s i = v s i) (hH : ∀ j i, H j i = S 0 i j) (hT : T * (1 + N) = 1)
include hN hA hKa hBe hKe hV hH hT

/-- The state's products with the rows' directions, all at once. -/
theorem sa_eq : saM kk S = T * Ka * H + T * (A * V) := by
  have h : (1 + N) * saM kk S = Ka * H + A * V := by
    ext t i
    rw [Matrix.add_mul, Matrix.one_mul, Matrix.add_apply, Matrix.add_apply, Matrix.mul_apply, Matrix.mul_apply, Matrix.mul_apply]
    have e : sa kk S t i = (∑ j, Ka t j * H j i) + ∑ s : Fin 16, (A t s * V s i - N t s * sa kk S s i) := by
      rw [sa]
      have e1 : ∀ j, S t.1 i j * kk t j = Ka t j * H j i
          + ∑ s : Fin 16, (if s.1 < t.1 then (v s i * k s j - sa kk S s i * b s j) * Real.exp (cumL ld t.1 j - cumL ld (s.1 + 1) j) * kk t j else 0) := by
        intro j
        rw [state_closed ld kk b k v S hS i j t.1 (by omega), hKa, hH, add_mul, Finset.sum_mul]
        congr 1
        · ring
        · refine Finset.sum_congr rfl fun s _ => ?_
          rw [ite_mul, zero_mul]
      rw [Finset.sum_congr rfl fun j _ => e1 j, Finset.sum_add_distrib, Finset.sum_comm]
      congr 1
      refine Finset.sum_congr rfl fun s _ => ?_
      rw [hA, hN, hV]
      by_cases hs : s.1 < t.1
      · have hs' : s < t := hs
        rw [if_pos hs', if_pos hs', Finset.sum_mul, Finset.sum_mul, ← Finset.sum_sub_distrib]
        refine Finset.sum_congr rfl fun j _ => ?_
        rw [if_pos hs, sub_eq_add_neg (cumL ld t.1 j), Real.exp_add]; ring
      · have hs' : ¬ s < t := hs
        rw [if_neg hs', if_neg hs']; simp [hs]
    show sa kk S t i + (∑ s, N t s * sa kk S s i) = _
    rw [e, Finset.sum_sub_distrib]
    ring
  calc _ = (T * (1 + N)) * saM kk S := by rw [hT, Matrix.one_mul]
    _ = T * (Ka * H + A * V) := by rw [Matrix.mul_assoc, h]
    _ = _ := by rw [Matrix.mul_add, Matrix.mul_assoc]

/-- The state after the sixteen rows. -/
theorem state_final (i j : Fin 64) : S 16 i j = Real.exp (cumL ld 16 j) * H j i - ((Beᵀ * (T * Ka)) * H) j i + ((Keᵀ * V) j i - (Beᵀ * (T * (A * V))) j i) := by
  have hs := sa_eq ld kk b k v S hS N A T Ka Be Ke V H hN hA hKa hBe hKe hV hH hT
  rw [state_closed ld kk b k v S hS i j 16 le_rfl, hH]
  have e2 : ((Beᵀ * (T * Ka)) * H) j i + (Beᵀ * (T * (A * V))) j i = (Beᵀ * saM kk S) j i := by
    rw [hs, Matrix.mul_add, Matrix.add_apply, Matrix.mul_assoc]
  have e3 : (∑ s : Fin 16, if s.1 < 16 then (v s i * k s j - sa kk S s i * b s j) * Real.exp (cumL ld 16 j - cumL ld (s.1 + 1) j) else 0)
      = (Keᵀ * V) j i - (Beᵀ * saM kk S) j i := by
    rw [Matrix.mul_apply, Matrix.mul_apply, ← Finset.sum_sub_distrib]
    refine Finset.sum_congr rfl fun s _ => ?_
    rw [if_pos s.2, Matrix.transpose_apply, Matrix.transpose_apply, hKe, hBe, hV]
    show _ = _ - _ * sa kk S s i
    ring
  rw [e3, ← e2]; ring

end

end Cert.RwkvMath
-- ==== Proof.RwkvChainVal.lean ====
/- The state update over real operands: each stage, and the whole, as matrices per head. -/
module

public import proofs.«01_k».proof.Proof.RwkvChain
public import proofs.«01_k».proof.Proof.RwkvMasks
public import proofs.«01_k».proof.Proof.RwkvBlocks
public import proofs.«01_k».proof.Proof.RwkvMath

@[expose] public section

set_option maxRecDepth 16384

noncomputable section

namespace Cert.RwkvIdeal.Hand

open Cert.RwkvIdeal Cert.RwkvIdeal.Gen Cert.RwkvIdeal.Gen.kernelRun0_A Idealize.ShloMosaic Cert.RwkvBlocks Cert.RwkvMath Matrix

variable {φ : FTy}

/-- Two square blocks side by side. -/
noncomputable def pr (A : Fin 2 → Matrix (Fin 16) (Fin 16) ℝ) : FVec Ideal S16x32 φ :=
  fun x => ((A ⟨(x 1).1 / 16, by have : (x 1).1 < 32 := (x 1).2; omega⟩ (x 0) ⟨(x 1).1 % 16, by omega⟩ : ℝ) : EReal)
/-- Two blocks of rows of lanes side by side. -/
noncomputable def bl (A : Fin 2 → Matrix (Fin 16) (Fin 64) ℝ) : FVec Ideal S16x128 φ :=
  fun x => ((A ⟨(x 1).1 / 64, by have : (x 1).1 < 128 := (x 1).2; omega⟩ (x 0) ⟨(x 1).1 % 64, by omega⟩ : ℝ) : EReal)
/-- A block diagonal matrix. -/
noncomputable def sq (A : Fin 2 → Matrix (Fin 64) (Fin 64) ℝ) : FVec Ideal S128x128 φ :=
  fun x => if (x 0).1 / 64 = (x 1).1 / 64 then
    ((A ⟨(x 1).1 / 64, by have : (x 1).1 < 128 := (x 1).2; omega⟩ ⟨(x 0).1 % 64, by omega⟩ ⟨(x 1).1 % 64, by omega⟩ : ℝ) : EReal) else 0

/-- An entry of two square matrices side by side. -/
theorem pr_at (A : Fin 2 → Matrix (Fin 16) (Fin 16) ℝ) (t : Fin 16) (e : Fin 2) (s : Fin 16) : pr (φ := φ) A (ix2 t (i32 e s)) = ((A e t s : ℝ) : EReal) := by
  have h1 : (⟨(16 * e.1 + s.1) / 16, by omega⟩ : Fin 2) = e := Fin.ext (by show (16 * e.1 + s.1) / 16 = e.1; omega)
  have h2 : (⟨(16 * e.1 + s.1) % 16, by omega⟩ : Fin 16) = s := Fin.ext (by show (16 * e.1 + s.1) % 16 = s.1; omega)
  show ((A (⟨(16 * e.1 + s.1) / 16, by omega⟩ : Fin 2) t (⟨(16 * e.1 + s.1) % 16, by omega⟩ : Fin 16) : ℝ) : EReal) = _
  rw [h1, h2]

/-- An entry of two heads side by side. -/
theorem bl_at (A : Fin 2 → Matrix (Fin 16) (Fin 64) ℝ) (t : Fin 16) (e : Fin 2) (s : Fin 64) : bl (φ := φ) A (ix2 t (i128 e s)) = ((A e t s : ℝ) : EReal) := by
  have h1 : (⟨(64 * e.1 + s.1) / 64, by omega⟩ : Fin 2) = e := Fin.ext (by show (64 * e.1 + s.1) / 64 = e.1; omega)
  have h2 : (⟨(64 * e.1 + s.1) % 64, by omega⟩ : Fin 64) = s := Fin.ext (by show (64 * e.1 + s.1) % 64 = s.1; omega)
  show ((A (⟨(64 * e.1 + s.1) / 64, by omega⟩ : Fin 2) t (⟨(64 * e.1 + s.1) % 64, by omega⟩ : Fin 64) : ℝ) : EReal) = _
  rw [h1, h2]

/-- An entry of two heads on the diagonal: zero between different heads. -/
theorem sq_at (A : Fin 2 → Matrix (Fin 64) (Fin 64) ℝ) (e' : Fin 2) (t : Fin 64) (e : Fin 2) (s : Fin 64) :
    sq (φ := φ) A (ix2 (i128 e' t) (i128 e s)) = if e' = e then ((A e t s : ℝ) : EReal) else 0 := by
  have h1 : (⟨(64 * e.1 + s.1) / 64, by omega⟩ : Fin 2) = e := Fin.ext (by show (64 * e.1 + s.1) / 64 = e.1; omega)
  have h2 : (⟨(64 * e.1 + s.1) % 64, by omega⟩ : Fin 64) = s := Fin.ext (by show (64 * e.1 + s.1) % 64 = s.1; omega)
  have h3 : (⟨(64 * e'.1 + t.1) % 64, by omega⟩ : Fin 64) = t := Fin.ext (by show (64 * e'.1 + t.1) % 64 = t.1; omega)
  have h4 : ((64 * e'.1 + t.1) / 64 = (64 * e.1 + s.1) / 64) = (e' = e) := propext ⟨fun h => Fin.ext (by omega), fun h => by subst h; omega⟩
  show (if (64 * e'.1 + t.1) / 64 = (64 * e.1 + s.1) / 64 then
    ((A (⟨(64 * e.1 + s.1) / 64, by omega⟩ : Fin 2) (⟨(64 * e'.1 + t.1) % 64, by omega⟩ : Fin 64) (⟨(64 * e.1 + s.1) % 64, by omega⟩ : Fin 64) : ℝ) : EReal) else 0) = _
  rw [h1, h2, h3]
  simp only [h4]

/-- Arrays of 32 columns are equal when both blocks of sixteen are. -/
theorem ext32 {f g : S16x32.Idx → EReal} (h : ∀ t e s, f (ix2 t (i32 e s)) = g (ix2 t (i32 e s))) : f = g := by
  funext x
  obtain ⟨e, s, hk⟩ := i32_ex (x 1)
  have hx : x = ix2 (x 0) (i32 e s) := by rw [← hk]; funext a; fin_cases a <;> rfl
  rw [hx]; exact h _ _ _

/-- Arrays of 128 columns are equal when both heads are. -/
theorem ext128 {f g : S16x128.Idx → EReal} (h : ∀ t e s, f (ix2 t (i128 e s)) = g (ix2 t (i128 e s))) : f = g := by
  funext x
  obtain ⟨e, s, hk⟩ := i128_ex (x 1)
  have hx : x = ix2 (x 0) (i128 e s) := by rw [← hk]; funext a; fin_cases a <;> rfl
  rw [hx]; exact h _ _ _

/-- Square arrays of 128 rows are equal when their four blocks are. -/
theorem extSq {f g : S128x128.Idx → EReal} (h : ∀ e' t e s, f (ix2 (i128 e' t) (i128 e s)) = g (ix2 (i128 e' t) (i128 e s))) : f = g := by
  funext x
  obtain ⟨e, s, hk⟩ := i128_ex (x 1)
  obtain ⟨e', t, hk'⟩ := i128_ex (x 0)
  have hx : x = ix2 (i128 e' t) (i128 e s) := by rw [← hk, ← hk']; funext a; fin_cases a <;> rfl
  rw [hx]; exact h _ _ _ _

/-- The word of zero is zero. -/
theorem zero_f : (Scalar.ofBits .f32 0x00000000#32 : Ideal .f32) = 0 := Ideal.ofBits_zero_f32
/-- So is the narrower one. -/
theorem zero_b : (Scalar.truncf .bf16 bitsLt_bf16_f32 (Scalar.ofBits .f32 0x00000000#32 : Ideal .f32) : Ideal .bf16) = 0 := Ideal.ofBits_zero_f32

/-- A selection by a mask that is one exactly where `p` holds. -/
theorem sel_at {s : Shape} (m : IVec s 1) (x y : FVec Ideal s φ) (i : s.Idx) (p : Prop) [Decidable p] (hm : m i = if p then 1#1 else 0#1) :
    select m x y i = if p then x i else y i := by
  show Scalar.select (m i) (x i) (y i) = _
  rw [hm]; by_cases h : p <;> simp [h, Scalar.select]

/-- The head of a column. -/
theorem i128_div (e : Fin 2) (j : Fin 64) : (i128 e j).1 / 64 = e.1 := by show (64 * e.1 + j.1) / 64 = e.1; omega
/-- The block of a column below 32. -/
theorem i32_div (e : Fin 2) (j : Fin 16) : (i32 e j).1 / 16 = e.1 := by show (16 * e.1 + j.1) / 16 = e.1; omega
/-- The place of a column in its block. -/
theorem i32_mod (e : Fin 2) (j : Fin 16) : (i32 e j).1 % 16 = j.1 := by show (16 * e.1 + j.1) % 16 = j.1; omega

/-- Two heads spread on the diagonal, at an entry. -/
theorem bdF_at (B : Fin 2 → Matrix (Fin 16) (Fin 64) ℝ) (e : Fin 2) (s : Fin 16) (e' : Fin 2) (j : Fin 64) :
    bdF (F := Ideal) (bl B) (ix2 (i32 e s) (i128 e' j)) = if e' = e then ((B e s j : ℝ) : EReal) else 0 := by
  unfold bdF
  fin_cases e
  · refine (cat0_lo _ _ _ s (i128 e' j) _ (by simp [i32])).trans ?_
    refine (sel_at _ _ _ _ _ (lane0_at s _)).trans ?_
    rw [i128_div, bl_at]
    by_cases h : e' = 0
    · subst h; simp
    · exact (if_neg (show ¬ e'.1 = 0 from fun h' => h (Fin.ext h'))).trans (zero_f.trans (if_neg h).symm)
  · refine (cat0_hi _ _ _ s (i128 e' j) _ (by simp [i32])).trans ?_
    refine (sel_at _ _ _ _ _ (lane1_at s _)).trans ?_
    rw [i128_div, bl_at]
    by_cases h : e' = 1
    · subst h; simp
    · exact (if_neg (show ¬ e'.1 = 1 from fun h' => h (Fin.ext h'))).trans (zero_f.trans (if_neg h).symm)

/-- The same for the narrower format. -/
theorem bdV_at (B : Fin 2 → Matrix (Fin 16) (Fin 64) ℝ) (e : Fin 2) (s : Fin 16) (e' : Fin 2) (j : Fin 64) :
    bdV (F := Ideal) (bl B) (ix2 (i32 e s) (i128 e' j)) = if e' = e then ((B e s j : ℝ) : EReal) else 0 := bdF_at B e s e' j

/-- Two square matrices spread on the diagonal, at an entry. -/
theorem bdP_at (A : Fin 2 → Matrix (Fin 16) (Fin 16) ℝ) (e : Fin 2) (s : Fin 16) (e' : Fin 2) (j : Fin 16) :
    bdP (F := Ideal) (pr A) (ix2 (i32 e s) (i32 e' j)) = if e' = e then ((A e s j : ℝ) : EReal) else 0 := by
  unfold bdP
  fin_cases e
  · refine (cat0_lo _ _ _ s (i32 e' j) _ (by simp [i32])).trans ?_
    refine (sel_at _ _ _ _ _ (col0_at s _)).trans ?_
    rw [i32_div, pr_at]
    by_cases h : e' = 0
    · subst h; simp
    · exact (if_neg (show ¬ e'.1 = 0 from fun h' => h (Fin.ext h'))).trans (zero_b.trans (if_neg h).symm)
  · refine (cat0_hi _ _ _ s (i32 e' j) _ (by simp [i32])).trans ?_
    refine (sel_at _ _ _ _ _ (col1_at s _)).trans ?_
    rw [i32_div, pr_at]
    by_cases h : e' = 1
    · subst h; simp
    · exact (if_neg (show ¬ e'.1 = 1 from fun h' => h (Fin.ext h'))).trans (zero_b.trans (if_neg h).symm)

/-- Real entries of a product of two matrices. -/
theorem coe_mul_apply {m k n : Type} [Fintype k] (A : Matrix m k ℝ) (B : Matrix k n ℝ) (i : m) (j : n) :
    (((A * B) i j : ℝ) : EReal) = ∑ s, (A i s : EReal) * (B s j : EReal) := by
  rw [Matrix.mul_apply, coe_sum]; simp only [EReal.coe_mul]

/-- The product of pairs is the pair of the products. -/
theorem mul2_pr (p q : Fin 2 → Matrix (Fin 16) (Fin 16) ℝ) : mul2 (F := Ideal) (pr p) (pr q) = pr (fun e => p e * q e) := by
  refine ext32 fun t e s => ?_
  refine (Rows.mm_apply dot_S16x32_S32x32_S16x32_1_0_0_1_n_n rfl _ _ t (i32 e s)).trans ?_
  refine (sum32 _ (fun k => (p e t k : EReal) * (q e k s : EReal)) e fun e' s' => ?_).trans ?_
  · rw [bdP_at, pr_at]
    by_cases h : e = e'
    · subst h; simp
    · rw [if_neg h, if_neg (fun h' => h h'.symm), mul_zero]
  · rw [pr_at, coe_mul_apply]

/-- The sum of pairs is the pair of the sums. -/
theorem addf_pr (p q : Fin 2 → Matrix (Fin 16) (Fin 16) ℝ) : addf (pr (φ := φ) p) (pr q) = pr (fun e => p e + q e) := by
  refine ext32 fun t e s => ?_
  rw [addf_apply, pr_at, pr_at, pr_at]; exact (EReal.coe_add _ _).symm

/-- The ones on the diagonal are the pair of the identities. -/
theorem eye_pr : (sl.v329 : FVec Ideal S16x32 .f32) = pr (fun _ => 1) := by
  refine ext32 fun t e s => ?_
  have h : (sl.v329 : FVec Ideal S16x32 .f32) (ix2 t (i32 e s)) = Scalar.sitofp .f32 (sl.v328 (ix2 t (i32 e s))) := rfl
  rw [h, eye_at, pr_at, i32_mod, Matrix.one_apply]
  by_cases h : t = s
  · subst h; rw [if_pos rfl, if_pos rfl]; show (((1#32).toInt : ℝ) : EReal) = _; norm_num
  · rw [if_neg (fun h' => h (Fin.ext h'.symm)), if_neg h]; show (((0#32).toInt : ℝ) : EReal) = _; norm_num

/-- The difference of pairs is the pair of the differences. -/
theorem subf_pr (p q : Fin 2 → Matrix (Fin 16) (Fin 16) ℝ) : subf (pr (φ := φ) p) (pr q) = pr (fun e => p e - q e) := by
  refine ext32 fun t e s => ?_
  rw [subf_apply, pr_at, pr_at, pr_at]; exact (EReal.coe_sub _ _).symm

/-- A step of the inverse, on pairs. -/
theorem stepT_pr (t p : Fin 2 → Matrix (Fin 16) (Fin 16) ℝ) : stepT (F := Ideal) (pr t) (pr p) = pr (fun e => t e + t e * p e) := by
  show addf (pr t) (mul2 (pr t) (pr p)) = _
  rw [mul2_pr, addf_pr]

/-- A squaring, on pairs. -/
theorem sqr_pr (p : Fin 2 → Matrix (Fin 16) (Fin 16) ℝ) : sqr (F := Ideal) (pr p) = pr (fun e => p e * p e) := by
  show mul2 (F := Ideal) (pr p) (pr p) = _
  exact mul2_pr p p

/-- The chunk inverse, on pairs. -/
theorem inv_pr (n : Fin 2 → Matrix (Fin 16) (Fin 16) ℝ) : inv (F := Ideal) (pr n) = pr (fun e => inv4 (n e)) := by
  have h : truncf .bf16 (pr (φ := .f32) n) bitsLt_bf16_f32 = pr n := rfl
  unfold inv
  rw [h, eye_pr, subf_pr, sqr_pr, sqr_pr, sqr_pr, stepT_pr, stepT_pr, stepT_pr]
  rfl

/-- Strictly lower inner products of rows, per head. -/
noncomputable def low (A B : Fin 2 → Matrix (Fin 16) (Fin 64) ℝ) (e : Fin 2) : Matrix (Fin 16) (Fin 16) ℝ :=
  Matrix.of fun t s => if s < t then ∑ j, A e t j * B e s j else 0

/-- The products of the keys' directions with the directions under the gate, for both heads. -/
theorem gram_b (K B : Fin 2 → Matrix (Fin 16) (Fin 64) ℝ) (r m : FVec Ideal S16x128 .f32) (t : Fin 16) (e : Fin 2) (s : Fin 16) :
    gram (F := Ideal) (bl K) r (bl B) m (ix2 (⟨t.1, by omega⟩ : Fin 32) (⟨(i32 e s).1, by omega⟩ : Fin 64)) = ((∑ j, K e t j * B e s j : ℝ) : EReal) := by
  refine (nt_apply dot_S32x128_S64x128_S32x64_1_1_0_0_n_n rfl _ _ _ _).trans ?_
  rw [coe_sum]
  refine (sum128 _ (fun k => (K e t k : EReal) * (B e s k : EReal)) e fun e' k => ?_).trans ?_
  · refine (congrArg₂ (· * ·) (cat0_lo (m := 16) (m' := 16) (n := 128) (M := 32) _ _ concatenates_S16x128_S16x128_S32x128_d0 t (i128 e' k) _ (by rfl)) (cat0_lo (m := 32) (m' := 32) (n := 128) (M := 64) _ _ concatenates_S32x128_S32x128_S64x128_d0 (i32 e s) (i128 e' k) _ (by rfl))).trans ?_
    rw [bdF_at, bl_at]
    by_cases h : e' = e
    · subst h; simp
    · rw [if_neg h, if_neg h, mul_zero]
  · simp only [EReal.coe_mul]

/-- The products of the keys' directions with the gated keys, for both heads. -/
theorem gram_m (K M : Fin 2 → Matrix (Fin 16) (Fin 64) ℝ) (r b : FVec Ideal S16x128 .f32) (t : Fin 16) (e : Fin 2) (s : Fin 16) :
    gram (F := Ideal) (bl K) r b (bl M) (ix2 (⟨t.1, by omega⟩ : Fin 32) (⟨32 + (i32 e s).1, by omega⟩ : Fin 64)) = ((∑ j, K e t j * M e s j : ℝ) : EReal) := by
  refine (nt_apply dot_S32x128_S64x128_S32x64_1_1_0_0_n_n rfl _ _ _ _).trans ?_
  rw [coe_sum]
  refine (sum128 _ (fun k => (K e t k : EReal) * (M e s k : EReal)) e fun e' k => ?_).trans ?_
  · refine (congrArg₂ (· * ·) (cat0_lo (m := 16) (m' := 16) (n := 128) (M := 32) _ _ concatenates_S16x128_S16x128_S32x128_d0 t (i128 e' k) _ (by rfl)) (cat0_hi (m := 32) (m' := 32) (n := 128) (M := 64) _ _ concatenates_S32x128_S32x128_S64x128_d0 (i32 e s) (i128 e' k) _ (by rfl))).trans ?_
    rw [bdF_at, bl_at]
    by_cases h : e' = e
    · subst h; simp
    · rw [if_neg h, if_neg h, mul_zero]
  · simp only [EReal.coe_mul]

/-- The first of them below the diagonal. -/
theorem nkb_pr (K B : Fin 2 → Matrix (Fin 16) (Fin 64) ℝ) (r m : FVec Ideal S16x128 .f32) :
    nkb (F := Ideal) (gram (bl K) r (bl B) m) = pr (low K B) := by
  refine ext32 fun t e s => ?_
  unfold nkb
  refine (sel_at _ _ _ _ _ (before_at t _)).trans ?_
  rw [i32_mod, pr_at]
  show _ = (((if s < t then ∑ j, K e t j * B e s j else 0 : ℝ)) : EReal)
  by_cases h : s < t
  · rw [if_pos h, if_pos (show s.1 < t.1 from h)]
    refine (sl2 0 0 _ _ _ _ (⟨t.1, by omega⟩ : Fin 32) (⟨(i32 e s).1, by omega⟩ : Fin 64) (by first | rfl | exact (Nat.zero_add _).symm) (by first | rfl | exact (Nat.zero_add _).symm)).trans ?_
    exact gram_b K B r m t e s
  · rw [if_neg h, if_neg (show ¬ s.1 < t.1 from h)]; exact zero_f

/-- The second of them below the diagonal. -/
theorem akk_pr (K M : Fin 2 → Matrix (Fin 16) (Fin 64) ℝ) (r b : FVec Ideal S16x128 .f32) :
    akk (F := Ideal) (gram (bl K) r b (bl M)) = pr (low K M) := by
  refine ext32 fun t e s => ?_
  unfold akk
  refine (sel_at _ _ _ _ _ (before_at t _)).trans ?_
  rw [i32_mod, pr_at]
  show _ = (((if s < t then ∑ j, K e t j * M e s j else 0 : ℝ)) : EReal)
  by_cases h : s < t
  · rw [if_pos h, if_pos (show s.1 < t.1 from h)]
    refine (sl2 0 32 _ _ _ _ (⟨t.1, by omega⟩ : Fin 32) (⟨32 + (i32 e s).1, by omega⟩ : Fin 64) (by first | rfl | exact (Nat.zero_add _).symm) (by first | rfl | exact (Nat.zero_add _).symm)).trans ?_
    exact gram_m K M r b t e s
  · rw [if_neg h, if_neg (show ¬ s.1 < t.1 from h)]; exact zero_f

/-- A pair of matrices times the values of both heads. -/
theorem av_bl (A : Fin 2 → Matrix (Fin 16) (Fin 16) ℝ) (r : FVec Ideal S16x32 .f32) (V : Fin 2 → Matrix (Fin 16) (Fin 64) ℝ) :
    extractStridedSlice S16x128 ![0, 0] (av (F := Ideal) (pr A) r (bl V)) slices_S32x128_o0_0_S16x128 = bl (fun e => A e * V e) := by
  refine ext128 fun t e s => ?_
  refine (sl2 0 0 _ _ _ _ (⟨t.1, by omega⟩ : Fin 32) (i128 e s) (by first | rfl | exact (Nat.zero_add _).symm) (by first | rfl | exact (Nat.zero_add _).symm)).trans ?_
  refine (Rows.mm_apply dot_S32x32_S32x128_S32x128_1_0_0_1_n_n rfl _ _ _ _).trans ?_
  refine (sum32 _ (fun k => (A e t k : EReal) * (V e k s : EReal)) e fun e' k => ?_).trans ?_
  · refine (congrArg₂ (· * ·) (cat0_lo (m := 16) (m' := 16) (n := 32) (M := 32) (pr (φ := .f32) A) r concatenates_S16x32_S16x32_S32x32_d0 t (i32 e' k) ⟨t.1, by omega⟩ rfl) (bdV_at V e' k e s)).trans ?_
    rw [pr_at]
    by_cases h : e = e'
    · subst h; simp
    · rw [if_neg h, if_neg (fun h' => h h'.symm), mul_zero]
  · rw [bl_at, coe_mul_apply]

/-- Two arrays side by side spread on the diagonal, at an entry. -/
theorem bdW_at (x : FVec Ideal S16x256 .bf16) (e : Fin 2) (s : Fin 16) (c : Fin 256) :
    bdW (F := Ideal) x (ix2 (i32 e s) c) = if c.1 % 128 / 64 = e.1 then x (ix2 s c) else 0 := by
  unfold bdW
  fin_cases e
  · refine (cat0_lo _ _ _ s c _ (by simp [i32])).trans ?_
    refine (sel_at _ _ _ _ _ (wide0_at s _)).trans ?_
    by_cases h : c.1 % 128 / 64 = 0
    · rw [if_pos h]; exact (if_pos h).symm
    · rw [if_neg h]; exact zero_b.trans (if_neg h).symm
  · refine (cat0_hi _ _ _ s c _ (by simp [i32])).trans ?_
    refine (sel_at _ _ _ _ _ (wide1_at s _)).trans ?_
    by_cases h : c.1 % 128 / 64 = 1
    · rw [if_pos h]; exact (if_pos h).symm
    · rw [if_neg h]; exact zero_b.trans (if_neg h).symm

/-- The inverse times the keys' directions. -/
theorem wu_lo (T : Fin 2 → Matrix (Fin 16) (Fin 16) ℝ) (K : Fin 2 → Matrix (Fin 16) (Fin 64) ℝ) (y : FVec Ideal S32x128 .f32)
    (t : Fin 16) (e : Fin 2) (j : Fin 64) :
    wu (F := Ideal) (pr T) (bl K) y (ix2 t (⟨(i128 e j).1, by omega⟩ : Fin 256)) = (((T e * K e) t j : ℝ) : EReal) := by
  refine (Rows.mm_apply dot_S16x32_S32x256_S16x256_1_0_0_1_n_n rfl _ _ _ _).trans ?_
  refine (sum32 _ (fun k => (T e t k : EReal) * (K e k j : EReal)) e fun e' k => ?_).trans ?_
  · rw [bdW_at]
    have h1 : (i128 e j).1 % 128 / 64 = e.1 := by show (64 * e.1 + j.1) % 128 / 64 = e.1; omega
    simp only [h1]
    by_cases h : e' = e
    · subst h
      rw [if_pos rfl, if_pos rfl]
      exact congrArg₂ (· * ·) (pr_at (φ := .bf16) T t e' k) ((cat1_lo (m := 16) (n := 128) (n' := 128) (N := 256) (bl (φ := .f32) K) _ concatenates_S16x128_S16x128_S16x256_d1 k (i128 e' j) (⟨(i128 e' j).1, by omega⟩ : Fin 256) rfl).trans (bl_at K k e' j))
    · rw [if_neg h, if_neg (fun h' => h (Fin.ext h'.symm)), mul_zero]
  · rw [coe_mul_apply]

/-- The inverse times the added values. -/
theorem wu_hi (T : Fin 2 → Matrix (Fin 16) (Fin 16) ℝ) (a : FVec Ideal S16x128 .f32) (y : FVec Ideal S32x128 .f32)
    (Y : Fin 2 → Matrix (Fin 16) (Fin 64) ℝ) (hy : extractStridedSlice S16x128 ![0, 0] y slices_S32x128_o0_0_S16x128 = bl Y)
    (t : Fin 16) (e : Fin 2) (j : Fin 64) :
    wu (F := Ideal) (pr T) a y (ix2 t (⟨128 + (i128 e j).1, by omega⟩ : Fin 256)) = (((T e * Y e) t j : ℝ) : EReal) := by
  unfold wu
  rw [hy]
  refine (Rows.mm_apply dot_S16x32_S32x256_S16x256_1_0_0_1_n_n rfl _ _ _ _).trans ?_
  refine (sum32 _ (fun k => (T e t k : EReal) * (Y e k j : EReal)) e fun e' k => ?_).trans ?_
  · rw [bdW_at]
    have h1 : (128 + (i128 e j).1) % 128 / 64 = e.1 := by show (128 + (64 * e.1 + j.1)) % 128 / 64 = e.1; omega
    simp only [h1]
    by_cases h : e' = e
    · subst h
      rw [if_pos rfl, if_pos rfl]
      exact congrArg₂ (· * ·) (pr_at (φ := .bf16) T t e' k) ((cat1_hi (m := 16) (n := 128) (n' := 128) (N := 256) a (bl (φ := .f32) Y) concatenates_S16x128_S16x128_S16x256_d1 k (i128 e' j) _ (by rfl)).trans (bl_at Y k e' j))
    · rw [if_neg h, if_neg (fun h' => h (Fin.ext h'.symm)), mul_zero]
  · rw [coe_mul_apply]

/-- The product that takes the chunk to its end, at an entry. -/
theorem bw_at (b : FVec Ideal S16x128 .f32) (w : FVec Ideal S16x256 .f32) (i : Fin 128) (c : Fin 256) :
    bw (F := Ideal) b w (ix2 i c) = ∑ t : Fin 16, b (ix2 t i) * w (ix2 t c) := by
  refine (Ideal.matmul_apply₁_of dot_S16x128_S16x256_S128x256_0_0_1_1_n_n rfl rfl b w _ (ix2 i c) (fun t => ix2 t i) (fun t => ix2 t c)
    (fun t => by funext a; fin_cases a <;> rfl) (fun t => by funext a; fin_cases a <;> rfl)).trans ?_
  rw [constant_apply, show (FloatOps.ofBits .f32 0x00000000#32 : Ideal .f32) = 0 from Ideal.ofBits_zero_f32, zero_add]
  rfl

/-- What the split of an array leaves behind is zero. -/
theorem rest_bl (X : Fin 2 → Matrix (Fin 16) (Fin 64) ℝ) (i : S16x128.Idx) : rest (F := Ideal) (bl X) i = 0 := by
  show (bl (φ := .f32) X i : EReal) - (bl (φ := .f32) X i : EReal) = 0
  unfold bl
  rw [← EReal.coe_sub, sub_self]; rfl

/-- The products of the keys and the values over the chunk. -/
theorem kv_at (K V : Fin 2 → Matrix (Fin 16) (Fin 64) ℝ) (e' : Fin 2) (j : Fin 64) (e : Fin 2) (i : Fin 64) :
    kv (F := Ideal) (bl K) (bl V) (ix2 (i128 e' j) (i128 e i)) = ((∑ t, K e' t j * V e t i : ℝ) : EReal) := by
  refine (Ideal.matmul_apply₁_of dot_S48x128_S48x128_S128x128_0_0_1_1_n_n rfl rfl _ _ _ (ix2 (i128 e' j) (i128 e i)) (fun t => ix2 t (i128 e' j)) (fun t => ix2 t (i128 e i))
    (fun t => by funext a; fin_cases a <;> rfl) (fun t => by funext a; fin_cases a <;> rfl)).trans ?_
  rw [constant_apply, show (FloatOps.ofBits .f32 0x00000000#32 : Ideal .f32) = 0 from Ideal.ofBits_zero_f32, zero_add]
  refine (sum3 (n := 16) _).trans ?_
  have h2 : ∀ s : Fin 16, concatenate S48x128 0 [⟨S16x128, truncf .bf16 (bl (φ := .f32) V) bitsLt_bf16_f32⟩, ⟨S16x128, truncf .bf16 (rest (F := Ideal) (bl V)) bitsLt_bf16_f32⟩,
      ⟨S16x128, truncf .bf16 (bl (φ := .f32) V) bitsLt_bf16_f32⟩] concatenates_S16x128_S16x128_S16x128_S48x128_d0 (ix2 (⟨16 + s.1, by omega⟩ : Fin 48) (i128 e i)) = (0 : EReal) := fun s =>
    (cat3_1 _ _ _ _ s (i128 e i) _ rfl).trans (rest_bl V _)
  have h3 : ∀ s : Fin 16, concatenate S48x128 0 [⟨S16x128, truncf .bf16 (bl (φ := .f32) K) bitsLt_bf16_f32⟩, ⟨S16x128, truncf .bf16 (bl (φ := .f32) K) bitsLt_bf16_f32⟩,
      ⟨S16x128, truncf .bf16 (rest (F := Ideal) (bl K)) bitsLt_bf16_f32⟩] concatenates_S16x128_S16x128_S16x128_S48x128_d0 (ix2 (⟨2 * 16 + s.1, by omega⟩ : Fin 48) (i128 e' j)) = (0 : EReal) := fun s =>
    (cat3_2 _ _ _ _ s (i128 e' j) _ rfl).trans (rest_bl K _)
  have e2 : (∑ s : Fin 16, (concatenate S48x128 0 [⟨S16x128, truncf .bf16 (bl (φ := .f32) K) bitsLt_bf16_f32⟩, ⟨S16x128, truncf .bf16 (bl (φ := .f32) K) bitsLt_bf16_f32⟩,
      ⟨S16x128, truncf .bf16 (rest (F := Ideal) (bl K)) bitsLt_bf16_f32⟩] concatenates_S16x128_S16x128_S16x128_S48x128_d0 (ix2 (⟨16 + s.1, by omega⟩ : Fin 48) (i128 e' j)) : EReal) *
      concatenate S48x128 0 [⟨S16x128, truncf .bf16 (bl (φ := .f32) V) bitsLt_bf16_f32⟩, ⟨S16x128, truncf .bf16 (rest (F := Ideal) (bl V)) bitsLt_bf16_f32⟩,
      ⟨S16x128, truncf .bf16 (bl (φ := .f32) V) bitsLt_bf16_f32⟩] concatenates_S16x128_S16x128_S16x128_S48x128_d0 (ix2 (⟨16 + s.1, by omega⟩ : Fin 48) (i128 e i))) = 0 :=
    Finset.sum_eq_zero fun s _ => by rw [h2, mul_zero]
  have e3 : (∑ s : Fin 16, (concatenate S48x128 0 [⟨S16x128, truncf .bf16 (bl (φ := .f32) K) bitsLt_bf16_f32⟩, ⟨S16x128, truncf .bf16 (bl (φ := .f32) K) bitsLt_bf16_f32⟩,
      ⟨S16x128, truncf .bf16 (rest (F := Ideal) (bl K)) bitsLt_bf16_f32⟩] concatenates_S16x128_S16x128_S16x128_S48x128_d0 (ix2 (⟨2 * 16 + s.1, by omega⟩ : Fin 48) (i128 e' j)) : EReal) *
      concatenate S48x128 0 [⟨S16x128, truncf .bf16 (bl (φ := .f32) V) bitsLt_bf16_f32⟩, ⟨S16x128, truncf .bf16 (rest (F := Ideal) (bl V)) bitsLt_bf16_f32⟩,
      ⟨S16x128, truncf .bf16 (bl (φ := .f32) V) bitsLt_bf16_f32⟩] concatenates_S16x128_S16x128_S16x128_S48x128_d0 (ix2 (⟨2 * 16 + s.1, by omega⟩ : Fin 48) (i128 e i))) = 0 :=
    Finset.sum_eq_zero fun s _ => by rw [h3, zero_mul]
  refine (congrArg₂ (· + ·) (congrArg₂ (· + ·) rfl e2) e3).trans ?_
  rw [add_zero, add_zero, coe_sum]
  refine Finset.sum_congr rfl fun s _ => ?_
  rw [EReal.coe_mul]
  exact congrArg₂ (· * ·) ((cat3_0 (m := 16) (n := 128) (M := 48) (truncf .bf16 (bl (φ := .f32) K) bitsLt_bf16_f32) _ _ _ s (i128 e' j) _ (by rfl)).trans (bl_at (φ := .f32) K s e' j)) ((cat3_0 (m := 16) (n := 128) (M := 48) (truncf .bf16 (bl (φ := .f32) V) bitsLt_bf16_f32) _ _ _ s (i128 e i) _ (by rfl)).trans (bl_at (φ := .f32) V s e i))

/-- The part of the state that the chunk takes away. -/
theorem mixed_sq (B : Fin 2 → Matrix (Fin 16) (Fin 64) ℝ) (T : Fin 2 → Matrix (Fin 16) (Fin 16) ℝ) (K : Fin 2 → Matrix (Fin 16) (Fin 64) ℝ) (y : FVec Ideal S32x128 .f32) :
    mixed (F := Ideal) (bw (bl B) (wu (pr T) (bl K) y)) = sq (fun e => (B e)ᵀ * (T e * K e)) := by
  refine extSq fun e' j e i => ?_
  unfold mixed
  refine (sel_at _ _ _ _ _ (sameHead_at _ _)).trans ?_
  rw [sq_at, i128_div, i128_div]
  by_cases h : e' = e
  · subst h
    rw [if_pos rfl, if_pos rfl]
    refine (sl2 0 0 _ _ _ _ (i128 e' j) (⟨(i128 e' i).1, by omega⟩ : Fin 256) (by first | rfl | exact (Nat.zero_add _).symm) (by first | rfl | exact (Nat.zero_add _).symm)).trans ?_
    rw [bw_at, coe_mul_apply]
    refine Finset.sum_congr rfl fun t _ => ?_
    rw [wu_lo, bl_at]; rfl
  · rw [if_neg h, if_neg (fun h' => h (Fin.ext h'))]; exact zero_f

/-- The part of the state that the chunk adds. -/
theorem added_sq (B K V : Fin 2 → Matrix (Fin 16) (Fin 64) ℝ) (T : Fin 2 → Matrix (Fin 16) (Fin 16) ℝ) (a : FVec Ideal S16x128 .f32) (y : FVec Ideal S32x128 .f32)
    (Y : Fin 2 → Matrix (Fin 16) (Fin 64) ℝ) (hy : extractStridedSlice S16x128 ![0, 0] y slices_S32x128_o0_0_S16x128 = bl Y) :
    added (F := Ideal) (kv (bl K) (bl V)) (bw (bl B) (wu (pr T) a y)) = sq (fun e => (K e)ᵀ * V e - (B e)ᵀ * (T e * Y e)) := by
  refine extSq fun e' j e i => ?_
  unfold added
  refine (sel_at _ _ _ _ _ (sameHead_at _ _)).trans ?_
  rw [sq_at, i128_div, i128_div]
  by_cases h : e' = e
  · subst h
    rw [if_pos rfl, if_pos rfl, subf_apply, kv_at, Matrix.sub_apply, EReal.coe_sub]
    refine congrArg₂ (fun a b : EReal => a - b) rfl ?_
    refine (sl2 0 128 _ _ _ _ (i128 e' j) (⟨128 + (i128 e' i).1, by omega⟩ : Fin 256) (by first | rfl | exact (Nat.zero_add _).symm) (by first | rfl | exact (Nat.zero_add _).symm)).trans ?_
    rw [bw_at, coe_mul_apply]
    refine Finset.sum_congr rfl fun t _ => ?_
    rw [wu_hi _ _ _ Y hy, bl_at]; rfl
  · rw [if_neg h, if_neg (fun h' => h (Fin.ext h'))]; exact zero_f

/-- The decay over the chunk, as a column. -/
theorem pcol_at (P : Fin 2 → Matrix (Fin 16) (Fin 64) ℝ) (e : Fin 2) (j : Fin 64) : pcol (F := Ideal) (bl P) (ix2 (i128 e j) 0) = ((P e 0 j : ℝ) : EReal) := by
  unfold pcol
  refine (shapeCast_apply _ _ (ix2 (i128 e j) 0) (ix1 (i128 e j)) (by rfl)).trans ?_
  refine (Ideal.multiReduction_add_single _ _ reduces_S128x128_S128 _ _ _).trans ?_
  have key : ∀ k : Fin 128, (select diag (broadcastTo S128x128 (shapeCast S1x128
    (extractStridedSlice S1x128 ![0, 0] (bl (φ := .f32) P) slices_S16x128_o0_0_S1x128) shapeCasts_S1x128_S1x128) broadcasts_S1x128_S128x128)
    (broadcast S128x128 (Scalar.ofBits .f32 0x00000000#32 : Ideal .f32))) (ix2 (i128 e j) k) = if i128 e j = k then ((P e 0 j : ℝ) : EReal) else 0 := fun k => by
    refine (sel_at _ _ _ _ _ (diag_at _ _)).trans ?_
    by_cases h : i128 e j = k
    · subst h
      rw [if_pos rfl, if_pos rfl, shapeCast_self]
      exact (congrArg (extractStridedSlice S1x128 ![0, 0] (bl (φ := .f32) P) slices_S16x128_o0_0_S1x128) (by funext a; fin_cases a <;> rfl)).trans ((sl2 (m := 1) (n := 128) 0 0 (bl (φ := .f32) P) slices_S16x128_o0_0_S1x128 0 (i128 e j) (0 : Fin 16) (i128 e j) (by rfl) ((Nat.zero_add _).symm)).trans (bl_at P 0 e j))
    · rw [if_neg h, if_neg h]; exact zero_f
  refine (Finset.sum_congr rfl fun k _ => ?_).trans ((Finset.sum_ite_eq Finset.univ (i128 e j) fun _ => ((P e 0 j : ℝ) : EReal)).trans (if_pos (Finset.mem_univ _)))
  refine Eq.trans (congrArg _ ?_) (key k)
  funext a; fin_cases a <;> rfl

/-- The state that the chunk leaves. -/
theorem leave_sq (P : Fin 2 → Matrix (Fin 16) (Fin 64) ℝ) (H M G : Fin 2 → Matrix (Fin 64) (Fin 64) ℝ) :
    leave (F := Ideal) (bl P) (sq H) (sq M) (sq G) = sq (fun e => Matrix.of fun j i => P e 0 j * H e j i - (M e * H e) j i + G e j i) := by
  refine extSq fun e' j e i => ?_
  unfold leave
  rw [addf_apply, subf_apply, mulf_apply]
  have h1 : broadcastTo S128x128 (pcol (F := Ideal) (bl P)) broadcasts_S128x1_S128x128 (ix2 (i128 e' j) (i128 e i)) = ((P e' 0 j : ℝ) : EReal) :=
    Eq.trans (congrArg (pcol (F := Ideal) (bl P)) (by funext a; fin_cases a <;> rfl)) (pcol_at P e' j)
  have h2 : matmul dot_S128x128_S128x128_S128x128_1_0_0_1_n_n none (truncf .bf16 (sq (φ := .f32) M) bitsLt_bf16_f32) (truncf .bf16 (sq (φ := .f32) H) bitsLt_bf16_f32)
      (constant S128x128 .f32 0x00000000#32) (ix2 (i128 e' j) (i128 e i)) = if e' = e then (((M e * H e) j i : ℝ) : EReal) else 0 := by
    refine (Rows.mm_apply dot_S128x128_S128x128_S128x128_1_0_0_1_n_n rfl _ _ _ _).trans ?_
    by_cases h : e' = e
    · subst h
      refine (sum128 _ (fun k => (M e' j k : EReal) * (H e' k i : EReal)) e' fun e'' k => ?_).trans ?_
      · refine (congrArg₂ (· * ·) (sq_at M e' j e'' k) (sq_at H e'' k e' i)).trans ?_
        by_cases h : e'' = e'
        · subst h; simp
        · rw [if_neg h, if_neg h, mul_zero]
      · rw [if_pos rfl, coe_mul_apply]
    · rw [if_neg h]
      refine (sum128 _ (fun k => 0) e fun e'' k => ?_).trans (by simp)
      refine (congrArg₂ (· * ·) (sq_at M e' j e'' k) (sq_at H e'' k e i)).trans ?_
      by_cases h' : e'' = e
      · subst h'; rw [if_neg h, zero_mul]; simp
      · rw [if_neg h', if_neg h', mul_zero]
  rw [h1, h2, sq_at, sq_at, sq_at]
  by_cases h : e' = e
  · subst h
    rw [if_pos rfl, if_pos rfl, if_pos rfl, if_pos rfl]
    show (_ : EReal) = ((P e' 0 j * H e' j i - (M e' * H e') j i + G e' j i : ℝ) : EReal)
    rw [EReal.coe_add, EReal.coe_sub, EReal.coe_mul]; rfl
  · rw [if_neg h, if_neg h, if_neg h, if_neg h]
    show ((P e' 0 j : ℝ) : EReal) * 0 - 0 + 0 = 0
    simp

/-- The whole update, as matrices per head. -/
theorem chain_sq (Km Bm Mm Ka V Be Ke P : Fin 2 → Matrix (Fin 16) (Fin 64) ℝ) (r : FVec Ideal S16x128 .f32) (H : Fin 2 → Matrix (Fin 64) (Fin 64) ℝ) :
    chain (F := Ideal) (bl Km) r (bl Bm) (bl Mm) (bl Ka) (bl V) (bl Be) (bl Ke) (bl P) (sq H)
      = sq (fun e => Matrix.of fun j i => P e 0 j * H e j i - ((Be e)ᵀ * (inv4 (low Km Bm e) * Ka e) * H e) j i
          + ((Ke e)ᵀ * V e - (Be e)ᵀ * (inv4 (low Km Bm e) * (low Km Mm e * V e))) j i) := by
  show leave _ _ (mixed (bw _ (wu (inv (nkb (gram _ _ _ _))) _ (av (akk (gram _ _ _ _)) (ark _) _)))) (added (kv _ _) (bw _ (wu (inv (nkb (gram _ _ _ _))) _ (av (akk (gram _ _ _ _)) (ark _) _)))) = _
  rw [nkb_pr, akk_pr, inv_pr, mixed_sq, added_sq _ _ _ _ _ _ _ (av_bl _ _ _), leave_sq]

end Cert.RwkvIdeal.Hand

end
-- ==== Proof.RwkvSpec.lean ====
/- One batch row of the recurrent mixer, from its arguments to its final state, over the reals; and the facts about extended reals that both programs need. -/
module

public import proofs.«01_k».proof.Proof.RwkvMath
public import Idealize.ShloMosaic.PureOps.Ideal
public import Mathlib.Analysis.SpecialFunctions.Exp
public import Mathlib.Analysis.SpecialFunctions.Log.Basic

@[expose] public section

noncomputable section

namespace Cert.RwkvSpec

open Idealize.ShloMosaic

/-- What a batch row's final state depends on: the row's activations, the activation before them, the weights, and the state it starts from. -/
structure Row where
  P : Fin 16 → Fin 1792 → EReal
  sh : Fin 1792 → EReal
  mu : Fin 1792 → EReal
  w0 : Fin 512 → EReal
  a0 : Fin 512 → EReal
  kkp : Fin 512 → EReal
  kap : Fin 512 → EReal
  wd : Fin 64 → Fin 512 → EReal
  wa : Fin 64 → Fin 512 → EReal
  S0 : Fin 8 → Fin 64 → Fin 64 → EReal

/-- An extended real that is a real. -/
def IsR (z : EReal) : Prop := ((z.toReal : ℝ) : EReal) = z

/-- A real number is real. -/
theorem isR_coe (r : ℝ) : IsR (r : EReal) := by unfold IsR; rw [EReal.toReal_coe]
/-- And is some real number. -/
theorem IsR.ex {z : EReal} (h : IsR z) : ∃ r : ℝ, z = r := ⟨z.toReal, h.symm⟩

/-- The row's real arguments. -/
structure Row.Real (x : Row) : Prop where
  P : ∀ t c, IsR (x.P t c)
  sh : ∀ c, IsR (x.sh c)
  mu : ∀ c, IsR (x.mu c)
  kkp : ∀ c, IsR (x.kkp c)
  kap : ∀ c, IsR (x.kap c)
  S0 : ∀ h i j, IsR (x.S0 h i j)

namespace Row

variable (x : Row)

/-- The activation before row `t`. -/
def prev (t : Fin 16) (c : Fin 1792) : EReal := if t.1 = 0 then x.sh c else x.P ⟨t.1 - 1, by omega⟩ c
/-- The shifted activations. -/
def X (t : Fin 16) (c : Fin 1792) : EReal := x.P t c + (x.prev t c - x.P t c) * x.mu c

/-- The shifted activation is real. -/
theorem X_real (hx : x.Real) (t : Fin 16) (c : Fin 1792) : IsR (x.X t c) := by
  obtain ⟨p, hp⟩ := (hx.P t c).ex
  obtain ⟨m, hm⟩ := (hx.mu c).ex
  have hq : ∃ q : ℝ, x.prev t c = q := by
    unfold prev; by_cases h : t.1 = 0
    · rw [if_pos h]; exact (hx.sh c).ex
    · rw [if_neg h]; exact (hx.P _ c).ex
  obtain ⟨q, hq⟩ := hq
  unfold X
  rw [hp, hm, hq, ← EReal.coe_sub, ← EReal.coe_mul, ← EReal.coe_add]
  exact isR_coe _

/-- The decay's and the learning rate's arguments. -/
def lw (t : Fin 16) (l : Fin 512) : EReal := x.w0 l + ∑ j : Fin 64, Ideal.tanh (x.X t ⟨1536 + j.1, by omega⟩) * x.wd j l
@[inherit_doc lw] def la (t : Fin 16) (l : Fin 512) : EReal := x.a0 l + ∑ j : Fin 64, x.X t ⟨1600 + j.1, by omega⟩ * x.wa j l

end Row

/-- The logistic function's value, which is real everywhere. -/
def sg (z : EReal) : ℝ := (Ideal.logistic z).toReal

/-- The sigmoid of any extended number is a real number. -/
theorem sg_coe (z : EReal) : Ideal.logistic z = ((sg z : ℝ) : EReal) := by
  unfold sg
  induction z using EReal.rec with
  | bot => simp
  | top => simp
  | coe r => rw [Ideal.logistic_coe, EReal.toReal_coe]

/-- The sigmoid of minus infinity. -/
theorem sg_bot : sg ⊥ = 0 := by unfold sg; simp
/-- The sigmoid of infinity. -/
theorem sg_top : sg ⊤ = 1 := by unfold sg; simp
/-- The sigmoid of a real number. -/
theorem sg_real (r : ℝ) : sg (r : EReal) = (1 + Real.exp (-r))⁻¹ := by unfold sg; rw [Ideal.logistic_coe, EReal.toReal_coe]

/-- The larger of two real numbers. -/
theorem coe_max (a b : ℝ) : max (a : EReal) (b : EReal) = ((max a b : ℝ) : EReal) := (EReal.coe_strictMono.monotone.map_max).symm

/-- The decay's two forms. -/
theorem decay_coe (z : EReal) :
    Ideal.exp (-(Ideal.exp (-(max (-z) 0 + Ideal.log1p (Ideal.exp (-(max (-z - 0) (-(-z - 0)))))) - ((-(Real.log (1271987 / 2097152)) : ℝ) : EReal))))
      = ((Real.exp (-(1271987 / 2097152) * sg z) : ℝ) : EReal) := by
  have hc : (0 : ℝ) < 1271987 / 2097152 := by norm_num
  induction z using EReal.rec with
  | bot =>
    rw [sg_bot, mul_zero, Real.exp_zero, EReal.neg_bot, max_eq_left le_top]
    have h1 : (⊤ : EReal) - 0 = ⊤ := by simp
    rw [h1, EReal.neg_top, max_eq_left bot_le, EReal.neg_top, Ideal.exp_bot]
    have h2 : Ideal.log1p 0 = ((0 : ℝ) : EReal) := by
      unfold Ideal.log1p; rw [add_zero, ← EReal.coe_one, Ideal.log_coe, if_neg (by norm_num), Real.log_one]
    rw [h2, EReal.top_add_coe, EReal.neg_top, EReal.bot_sub, Ideal.exp_bot, neg_zero, ← EReal.coe_zero, Ideal.exp_coe, Real.exp_zero]
  | top =>
    rw [sg_top, mul_one, EReal.neg_top, max_eq_right bot_le]
    have h1 : (⊥ : EReal) - 0 = ⊥ := by simp
    rw [h1, EReal.neg_bot, max_eq_right bot_le, EReal.neg_top, Ideal.exp_bot]
    have h2 : Ideal.log1p 0 = ((0 : ℝ) : EReal) := by
      unfold Ideal.log1p; rw [add_zero, ← EReal.coe_one, Ideal.log_coe, if_neg (by norm_num), Real.log_one]
    rw [h2, EReal.coe_zero, add_zero, neg_zero, ← EReal.coe_zero, ← EReal.coe_sub, Ideal.exp_coe, ← EReal.coe_neg, Ideal.exp_coe]
    rw [zero_sub, neg_neg, Real.exp_log hc]
  | coe r =>
    have h0 : ((-r : ℝ) : EReal) - 0 = ((-r : ℝ) : EReal) := by rw [← EReal.coe_zero, ← EReal.coe_sub, sub_zero]
    have hp : ∀ y : ℝ, 0 < 1 + Real.exp y := fun y => by positivity
    have hl : Ideal.log1p (Ideal.exp ((-(max (-r) r) : ℝ) : EReal)) = ((Real.log (1 + Real.exp (-(max (-r) r))) : ℝ) : EReal) := by
      unfold Ideal.log1p
      rw [Ideal.exp_coe, ← EReal.coe_one, ← EReal.coe_add, Ideal.log_coe, if_neg (not_le.mpr (hp _))]
    rw [← EReal.coe_neg, h0, ← EReal.coe_neg, neg_neg, coe_max, ← EReal.coe_neg, hl, ← EReal.coe_zero, coe_max, ← EReal.coe_add, ← EReal.coe_neg,
      ← EReal.coe_sub, Ideal.exp_coe, ← EReal.coe_neg, Ideal.exp_coe, sg_real]
    congr 2
    rcases le_total 0 r with h | h
    · rw [max_eq_right (by linarith), max_eq_right (by linarith), zero_add, sub_neg_eq_add, Real.exp_add, Real.exp_log hc, Real.exp_neg (Real.log _), Real.exp_log (hp _)]
      ring
    · rw [max_eq_left (by linarith), max_eq_left (by linarith), sub_neg_eq_add, Real.exp_add, Real.exp_log hc, neg_add, Real.exp_add, Real.exp_neg (Real.log _), Real.exp_log (hp _), neg_neg]
      have e : (1 + Real.exp (-r))⁻¹ = Real.exp r * (1 + Real.exp r)⁻¹ := by
        rw [Real.exp_neg]
        have := Real.exp_pos r
        field_simp
        ring
      rw [e]; ring

/-- The floor under a head's norm. -/
def eps : ℝ := 2305843 / 2305843009213693952

/-- The threshold is positive. -/
theorem eps_pos : 0 < eps := by unfold eps; norm_num

/-- The root of a square held above a squared threshold. -/
theorem sqrt_max {s : ℝ} : Real.sqrt (max s (eps * eps)) = max (Real.sqrt s) eps := by
  rw [(show Monotone Real.sqrt from fun a b h => Real.sqrt_le_sqrt h).map_max, Real.sqrt_mul_self eps_pos.le]

/-- A direction, normalised as the kernel does it. -/
theorem norm_k (a s : ℝ) : (a : EReal) * Ideal.rsqrt (max (s : EReal) ((eps * eps : ℝ) : EReal)) = ((a / max (Real.sqrt s) eps : ℝ) : EReal) := by
  have hp : 0 < max s (eps * eps) := lt_max_of_lt_right (mul_pos eps_pos eps_pos)
  rw [coe_max, Ideal.rsqrt_coe, if_neg (not_lt.mpr hp.le), if_neg hp.ne', ← EReal.coe_mul, sqrt_max, div_eq_mul_inv]

/-- A direction, normalised as the reference does it. -/
theorem norm_r (a s : ℝ) (hs : 0 ≤ s) : Ideal.div (a : EReal) (max (Ideal.sqrt (s : EReal)) ((eps : ℝ) : EReal)) = ((a / max (Real.sqrt s) eps : ℝ) : EReal) := by
  have hp : 0 < max (Real.sqrt s) eps := lt_max_of_lt_right eps_pos
  rw [Ideal.sqrt_coe, if_neg (not_lt.mpr hs), coe_max]
  unfold Ideal.div
  rw [if_neg (fun h => hp.ne' (by exact_mod_cast h)), ← EReal.coe_inv, ← EReal.coe_mul, div_eq_mul_inv]

/-- Lane `j` of head `h`. -/
def hl (h : Fin 8) (j : Fin 64) : Fin 512 := ⟨64 * h.1 + j.1, by omega⟩

namespace Row

variable (x : Row)

/-- The logarithm of the decay. -/
def ld (t : Fin 16) (l : Fin 512) : ℝ := -(1271987 / 2097152) * sg (x.lw t l)
/-- The learning rate. -/
def a (t : Fin 16) (l : Fin 512) : ℝ := sg (x.la t l)
/-- The keys and the values. -/
def k (t : Fin 16) (l : Fin 512) : ℝ := (x.X t ⟨512 + l.1, by omega⟩).toReal
@[inherit_doc k] def v (t : Fin 16) (l : Fin 512) : ℝ := (x.X t ⟨1024 + l.1, by omega⟩).toReal
/-- The keys' directions, not normalised. -/
def kk0 (t : Fin 16) (l : Fin 512) : ℝ := x.k t l * (x.kkp l).toReal
/-- A head's squares, summed. -/
def ss (t : Fin 16) (h : Fin 8) : ℝ := ∑ j, x.kk0 t (hl h j) * x.kk0 t (hl h j)
/-- The keys' directions. -/
def kk (h : Fin 8) (t : Fin 16) (j : Fin 64) : ℝ := x.kk0 t (hl h j) / max (Real.sqrt (x.ss t h)) eps
/-- The keys, corrected. -/
def k2 (t : Fin 16) (l : Fin 512) : ℝ := x.k t l * (1 + (x.a t l - 1) * (x.kap l).toReal)
/-- The corrections' directions. -/
def b (h : Fin 8) (t : Fin 16) (j : Fin 64) : ℝ := x.kk h t j * x.a t (hl h j)

/-- The state of head `h` after `n` rows. -/
def S (h : Fin 8) : ℕ → Fin 64 → Fin 64 → ℝ
  | 0 => fun i j => (x.S0 h i j).toReal
  | n + 1 => if hn : n < 16 then fun i j =>
      S h n i j * Real.exp (x.ld ⟨n, hn⟩ (hl h j)) - (∑ j', S h n i j' * x.kk h ⟨n, hn⟩ j') * x.b h ⟨n, hn⟩ j
        + x.v ⟨n, hn⟩ (hl h i) * x.k2 ⟨n, hn⟩ (hl h j)
    else S h n

end Row

end Cert.RwkvSpec

end
-- ==== Proof.RwkvVals.lean ====
/- The recurrent mixer kernel's shared arrays, entry by entry, as functions of each batch row's arguments. -/
module

public import proofs.«01_k».proof.Proof.RwkvModel
public import proofs.«01_k».proof.Proof.RwkvChainVal
public import proofs.«01_k».proof.Proof.RwkvSpec

@[expose] public section

set_option maxRecDepth 16384

noncomputable section

namespace Cert.RwkvIdeal.Hand

open Cert.RwkvIdeal Cert.RwkvIdeal.Gen Cert.RwkvIdeal.Gen.kernelRun0_A Idealize.ShloMosaic Cert.RwkvBlocks Cert.RwkvMath Cert.RwkvSpec Matrix

/-- Row `t` of batch row `n`. -/
def i64 (n : Fin 4) (t : Fin 16) : Fin 64 := ⟨16 * n.1 + t.1, by omega⟩

/-- A row, repeated. -/
theorem bcRow {α : Type} {M N : ℕ} (x : (⟨2, ![1, N]⟩ : Shape).Idx → α) (h : (⟨2, ![1, N]⟩ : Shape).Broadcasts ⟨2, ![M, N]⟩) (i : Fin M) (j : Fin N) :
    broadcastTo ⟨2, ![M, N]⟩ x h (ix2 i j) = x (ix2 0 j) :=
  broadcastTo_apply x h (ix2 i j) (ix2 0 j) (fun a => by
    match a with
    | ⟨0, _⟩ => rfl
    | ⟨1, _⟩ =>
      show j.1 = if N = 1 then 0 else j.1
      by_cases hN : N = 1
      · rw [if_pos hN]; omega
      · rw [if_neg hN])

/-- Four pieces side by side. -/
theorem cat1_4 {α : Type} {m n N : ℕ} (x : Fin 4 → (⟨2, ![m, n]⟩ : Shape).Idx → α)
    (h : Shape.Concatenates [⟨2, ![m, n]⟩, ⟨2, ![m, n]⟩, ⟨2, ![m, n]⟩, ⟨2, ![m, n]⟩] ⟨2, ![m, N]⟩ 1) (p : Fin 4) (i : Fin m) (j : Fin n) (J : Fin N) (hJ : J.1 = n * p.1 + j.1) :
    concatenate ⟨2, ![m, N]⟩ 1 [⟨⟨2, ![m, n]⟩, x 0⟩, ⟨⟨2, ![m, n]⟩, x 1⟩, ⟨⟨2, ![m, n]⟩, x 2⟩, ⟨⟨2, ![m, n]⟩, x 3⟩] h (ix2 i J) = x p (ix2 i j) :=
  concatenate_apply_piece (t := ⟨2, ![m, N]⟩) 1 [⟨⟨2, ![m, n]⟩, x 0⟩, ⟨⟨2, ![m, n]⟩, x 1⟩, ⟨⟨2, ![m, n]⟩, x 2⟩, ⟨⟨2, ![m, n]⟩, x 3⟩] h (ix2 i J) p.1 (by simp) ⟨2, ![m, n]⟩ (x p)
    (by fin_cases p <;> rfl) rfl (n * p.1) (by fin_cases p <;> simp <;> ring) (ix2 i j)
    (fun b hb => by match b with | ⟨1, _⟩ => exact absurd rfl hb | ⟨0, _⟩ => rfl) (by show n * p.1 + j.1 = J.1; omega)

/-- Four pieces one above the other. -/
theorem cat0_4 {α : Type} {m n M : ℕ} (x : Fin 4 → (⟨2, ![m, n]⟩ : Shape).Idx → α)
    (h : Shape.Concatenates [⟨2, ![m, n]⟩, ⟨2, ![m, n]⟩, ⟨2, ![m, n]⟩, ⟨2, ![m, n]⟩] ⟨2, ![M, n]⟩ 0) (p : Fin 4) (i : Fin m) (j : Fin n) (I : Fin M) (hI : I.1 = m * p.1 + i.1) :
    concatenate ⟨2, ![M, n]⟩ 0 [⟨⟨2, ![m, n]⟩, x 0⟩, ⟨⟨2, ![m, n]⟩, x 1⟩, ⟨⟨2, ![m, n]⟩, x 2⟩, ⟨⟨2, ![m, n]⟩, x 3⟩] h (ix2 I j) = x p (ix2 i j) :=
  concatenate_apply_piece (t := ⟨2, ![M, n]⟩) 0 [⟨⟨2, ![m, n]⟩, x 0⟩, ⟨⟨2, ![m, n]⟩, x 1⟩, ⟨⟨2, ![m, n]⟩, x 2⟩, ⟨⟨2, ![m, n]⟩, x 3⟩] h (ix2 I j) p.1 (by simp) ⟨2, ![m, n]⟩ (x p)
    (by fin_cases p <;> rfl) rfl (m * p.1) (by fin_cases p <;> simp <;> ring) (ix2 i j)
    (fun b hb => by match b with | ⟨0, _⟩ => exact absurd rfl hb | ⟨1, _⟩ => rfl) (by show m * p.1 + i.1 = I.1; omega)

/-- The word of minus exp(-1/2). -/
theorem ld_const : (Scalar.ofBits .f32 0xBF1B4598#32 : Ideal .f32) = ((-(1271987 / 2097152) : ℝ) : EReal) := by
  show Ideal.ofBits .f32 0xBF1B4598#32 = _
  simp [Ideal.ofBits, Ideal.ieee, -EReal.coe_mul, -EReal.coe_neg]; norm_num

/-- The word of one. -/
theorem one_const : (Scalar.ofBits .f32 0x3F800000#32 : Ideal .f32) = ((1 : ℝ) : EReal) := by
  show Ideal.ofBits .f32 0x3F800000#32 = _
  simp [Ideal.ofBits, Ideal.ieee, -EReal.coe_mul]; norm_num

/-- The named constant is the squared threshold. -/
theorem eps_const : (Named.named (F := Ideal) κ "eps_sq" (φ := .f32) 0x179ABE15#32) = ((eps * eps : ℝ) : EReal) := by
  have h : κ "eps_sq" = some ((5316911940649/5316911983139663491615228241121378304 : ℝ) : EReal) := by rfl
  show (κ "eps_sq").getD _ = _
  rw [h, Option.getD_some]
  congr 1
  unfold eps; norm_num

/-- A real number less itself is zero. -/
theorem coe_sub_self (r : ℝ) : (r : EReal) - (r : EReal) = 0 := by rw [← EReal.coe_sub, sub_self, EReal.coe_zero]
/-- The same, for the difference of the format. -/
theorem fsub_self (r : ℝ) : FloatOps.subf (F := Ideal) (φ := .f32) (r : EReal) (r : EReal) = 0 := coe_sub_self r
/-- Zero less zero is zero. -/
theorem fsub_zero : FloatOps.subf (F := Ideal) (φ := .f32) (0 : EReal) (0 : EReal) = 0 := sub_zero (0 : EReal)

/-- The mask of heads, as numbers. -/
theorem seg_at (a b : Fin 128) : (seg : FVec Ideal S128x128 .bf16) (ix2 a b) = if a.1 / 64 = b.1 / 64 then 1 else 0 := by
  have h : (seg : FVec Ideal S128x128 .bf16) (ix2 a b) = Scalar.sitofp (F := Ideal) .f32 ((sameHead (ix2 a b)).setWidth 32) := rfl
  rw [h, sameHead_at]
  by_cases h : a.1 / 64 = b.1 / 64
  · rw [if_pos h, if_pos h]; show ((((1#1).setWidth 32).toInt : ℝ) : EReal) = _; norm_num
  · rw [if_neg h, if_neg h]; show ((((0#1).setWidth 32).toInt : ℝ) : EReal) = _; norm_num

/-- The sums over a head's lanes. -/
theorem segp_at (T : FVec Ideal S64x128 .f32) (r : Fin 64) (f : Fin 2 → Fin 64 → ℝ) (hT : ∀ e j, T (ix2 r (i128 e j)) = ((f e j : ℝ) : EReal)) (e : Fin 2) (j : Fin 64) :
    segp T (ix2 r (i128 e j)) = ((∑ j', f e j' : ℝ) : EReal) := by
  have hs : ∀ e' s, (seg : FVec Ideal S128x128 .bf16) (ix2 (i128 e' s) (i128 e j)) = if e' = e then 1 else 0 := fun e' s => by
    rw [seg_at, i128_div, i128_div]
    by_cases h : e' = e
    · rw [if_pos (congrArg Fin.val h), if_pos h]
    · rw [if_neg (fun h' => h (Fin.ext h')), if_neg h]
  refine (Rows.mm_apply dot_S64x256_S256x128_S64x128_1_0_0_1_n_n rfl _ _ r (i128 e j)).trans ?_
  refine (sum2 (n := 128) _).trans ?_
  have h2 : (∑ s : Fin 128, concatenate S64x256 1 [⟨S64x128, T⟩, ⟨S64x128, subf T T⟩] concatenates_S64x128_S64x128_S64x256_d1 (ix2 r (⟨128 + s.1, by omega⟩ : Fin 256))
      * concatenate S256x128 0 [⟨S128x128, (seg : FVec Ideal S128x128 .bf16)⟩, ⟨S128x128, seg⟩] concatenates_S128x128_S128x128_S256x128_d0 (ix2 (⟨128 + s.1, by omega⟩ : Fin 256) (i128 e j))) = 0 := by
    refine Finset.sum_eq_zero fun s _ => ?_
    rw [cat1_hi (m := 64) (n := 128) (n' := 128) (N := 256) T (subf T T) concatenates_S64x128_S64x128_S64x256_d1 r s _ rfl, subf_apply]
    obtain ⟨e', s', rfl⟩ := i128_ex s
    rw [hT, fsub_self, zero_mul]
  have h1 : (∑ s : Fin 128, concatenate S64x256 1 [⟨S64x128, T⟩, ⟨S64x128, subf T T⟩] concatenates_S64x128_S64x128_S64x256_d1 (ix2 r (⟨s.1, by omega⟩ : Fin 256))
      * concatenate S256x128 0 [⟨S128x128, (seg : FVec Ideal S128x128 .bf16)⟩, ⟨S128x128, seg⟩] concatenates_S128x128_S128x128_S256x128_d0 (ix2 (⟨s.1, by omega⟩ : Fin 256) (i128 e j))) = ((∑ j', f e j' : ℝ) : EReal) := by
    rw [coe_sum]
    refine sum128 _ _ e fun e' s => ?_
    rw [cat1_lo (m := 64) (n := 128) (n' := 128) (N := 256) T (subf T T) concatenates_S64x128_S64x128_S64x256_d1 r (i128 e' s) _ rfl,
      cat0_lo (m := 128) (m' := 128) (n := 128) (M := 256) (seg : FVec Ideal S128x128 .bf16) seg concatenates_S128x128_S128x128_S256x128_d0 (i128 e' s) (i128 e j) _ rfl, hs, hT]
    by_cases h : e' = e
    · rw [if_pos h, if_pos h, mul_one, h]
    · rw [if_neg h, if_neg h, mul_zero]
  refine (congrArg₂ (· + ·) h1 h2).trans (add_zero _)

/-- Every channel is a place of a head. -/
theorem hl_ex (l : Fin 512) : ∃ h j, l = hl h j := ⟨⟨l.1 / 64, by omega⟩, ⟨l.1 % 64, by omega⟩, Fin.ext (by simp only [hl]; omega)⟩
/-- Head `e` of pair `p`. -/
def hd (p : Fin 4) (e : Fin 2) : Fin 8 := ⟨2 * p.1 + e.1, by omega⟩
/-- Every head is one of a pair. -/
theorem hd_ex (h : Fin 8) : ∃ p e, h = hd p e := ⟨⟨h.1 / 2, by omega⟩, ⟨h.1 % 2, by omega⟩, Fin.ext (by simp only [hd]; omega)⟩

/-- The sums for one pair's lanes. -/
noncomputable def segq (T : FVec Ideal S64x512 .f32) (o : ℕ) (h : S64x512.Slices ![0, o] S64x128) : FVec Ideal S64x128 .f32 := segp (extractStridedSlice S64x128 ![0, o] T h)

/-- The sums over each head. -/
theorem segq_at (T : FVec Ideal S64x512 .f32) (r : Fin 64) (f : Fin 8 → Fin 64 → ℝ) (hT : ∀ h j, T (ix2 r (hl h j)) = ((f h j : ℝ) : EReal)) (p : Fin 4) (o : ℕ)
    (ho : o = 128 * p.1) (hs : S64x512.Slices ![0, o] S64x128) (e : Fin 2) (j : Fin 64) : segq T o hs (ix2 r (i128 e j)) = ((∑ j', f (hd p e) j' : ℝ) : EReal) :=
  segp_at _ r (fun e j => f (hd p e) j) (fun e j => (sl2 0 o T hs r (i128 e j) r (hl (hd p e) j) (by omega) (by
    show 64 * (2 * p.1 + e.1) + j.1 = o + (64 * e.1 + j.1); omega)).trans (hT _ _)) e j

/-- The same, over all lanes. -/
theorem segs_at (T : FVec Ideal S64x512 .f32) (r : Fin 64) (f : Fin 8 → Fin 64 → ℝ) (hT : ∀ h j, T (ix2 r (hl h j)) = ((f h j : ℝ) : EReal)) (h : Fin 8) (j : Fin 64) :
    segs T (ix2 r (hl h j)) = ((∑ j', f h j' : ℝ) : EReal) := by
  obtain ⟨p, e, rfl⟩ := hd_ex h
  refine (cat1_4 (m := 64) (n := 128) (N := 512) ![segq T 0 slices_S64x512_o0_0_S64x128, segq T 128 slices_S64x512_o0_128_S64x128, segq T 256 slices_S64x512_o0_256_S64x128, segq T 384 slices_S64x512_o0_384_S64x128]
    concatenates_S64x128_S64x128_S64x128_S64x128_S64x512_d1 p r (i128 e j) (hl (hd p e) j) (by show 64 * (2 * p.1 + e.1) + j.1 = 128 * p.1 + (64 * e.1 + j.1); omega)).trans ?_
  match p with
  | 0 => exact segq_at T r f hT 0 0 rfl slices_S64x512_o0_0_S64x128 e j
  | 1 => exact segq_at T r f hT 1 128 rfl slices_S64x512_o0_128_S64x128 e j
  | 2 => exact segq_at T r f hT 2 256 rfl slices_S64x512_o0_256_S64x128 e j
  | 3 => exact segq_at T r f hT 3 384 rfl slices_S64x512_o0_384_S64x128 e j

/-- The first of three arrays side by side. -/
theorem cat3w_0 {α : Type} {m n N : ℕ} (x y z : (⟨2, ![m, n]⟩ : Shape).Idx → α)
    (h : Shape.Concatenates [⟨2, ![m, n]⟩, ⟨2, ![m, n]⟩, ⟨2, ![m, n]⟩] ⟨2, ![m, N]⟩ 1) (i : Fin m) (j : Fin n) (J : Fin N) (hJ : J.1 = j.1) :
    concatenate ⟨2, ![m, N]⟩ 1 [⟨⟨2, ![m, n]⟩, x⟩, ⟨⟨2, ![m, n]⟩, y⟩, ⟨⟨2, ![m, n]⟩, z⟩] h (ix2 i J) = x (ix2 i j) :=
  concatenate_apply_piece (t := ⟨2, ![m, N]⟩) 1 [⟨⟨2, ![m, n]⟩, x⟩, ⟨⟨2, ![m, n]⟩, y⟩, ⟨⟨2, ![m, n]⟩, z⟩] h (ix2 i J) 0 (by simp) ⟨2, ![m, n]⟩ x rfl rfl 0 rfl (ix2 i j)
    (fun b hb => by match b with | ⟨1, _⟩ => exact absurd rfl hb | ⟨0, _⟩ => rfl) (by show 0 + j.1 = J.1; omega)

/-- The triangle, as numbers. -/
theorem tri_num (r s : Fin 64) : (sl.v258 : FVec Ideal S64x192 .bf16) (ix2 r (⟨s.1, by omega⟩ : Fin 192)) = if s.1 ≤ r.1 ∧ s.1 / 16 = r.1 / 16 then 1 else 0 := by
  have h : (sl.v258 : FVec Ideal S64x192 .bf16) (ix2 r (⟨s.1, by omega⟩ : Fin 192)) = Scalar.sitofp (F := Ideal) .f32 (sl.v248 (ix2 r s)) :=
    cat3w_0 (m := 64) (n := 64) (N := 192) (sl.v250 : FVec Ideal S64x64 .bf16) sl.v250 sl.v250 concatenates_S64x64_S64x64_S64x64_S64x192_d1 r s _ rfl
  rw [h, tri_at]
  by_cases h : s.1 ≤ r.1 ∧ s.1 / 16 = r.1 / 16
  · rw [if_pos h, if_pos h]; show (((1#32).toInt : ℝ) : EReal) = _; norm_num
  · rw [if_neg h, if_neg h]; show (((0#32).toInt : ℝ) : EReal) = _; norm_num

/-- The running sums. -/
theorem cum_at (l : FVec Ideal S64x512 .f32) (f : Fin 4 → Fin 16 → ℝ) (c : Fin 512) (hf : ∀ n t, l (ix2 (i64 n t) c) = ((f n t : ℝ) : EReal)) (n : Fin 4) (t : Fin 16) :
    cum l (ix2 (i64 n t) c) = ((∑ s : Fin 16, if s.1 < t.1 + 1 then f n s else 0 : ℝ) : EReal) := by
  have hx : ∀ s : Fin 64, ∃ q : ℝ, l (ix2 s c) = q := fun s => by
    have := hf ⟨s.1 / 16, by omega⟩ ⟨s.1 % 16, by omega⟩
    refine ⟨_, Eq.trans (congrArg l ?_) this⟩
    exact congrArg (fun r => ix2 r c) (Fin.ext (by simp only [i64]; omega))
  refine (Rows.mm_apply dot_S64x192_S192x512_S64x512_1_0_0_1_n_n rfl _ _ (i64 n t) c).trans ?_
  refine (sum3 (n := 64) _).trans ?_
  have h2 : (∑ s : Fin 64, (sl.v258 : FVec Ideal S64x192 .bf16) (ix2 (i64 n t) (⟨64 + s.1, by omega⟩ : Fin 192)) * concatenate S192x512 0 [⟨S64x512, l⟩, ⟨S64x512, subf l l⟩, ⟨S64x512, subf (subf l l) (subf l l)⟩] concatenates_S64x512_S64x512_S64x512_S192x512_d0 (ix2 (⟨64 + s.1, by omega⟩ : Fin 192) c)) = 0 := by
    refine Finset.sum_eq_zero fun s _ => ?_
    rw [cat3_1 (m := 64) (n := 512) (M := 192) l (subf l l) (subf (subf l l) (subf l l)) concatenates_S64x512_S64x512_S64x512_S192x512_d0 s c _ rfl, subf_apply]
    obtain ⟨q, hq⟩ := hx s
    rw [hq, fsub_self, mul_zero]
  have h3 : (∑ s : Fin 64, (sl.v258 : FVec Ideal S64x192 .bf16) (ix2 (i64 n t) (⟨2 * 64 + s.1, by omega⟩ : Fin 192)) * concatenate S192x512 0 [⟨S64x512, l⟩, ⟨S64x512, subf l l⟩, ⟨S64x512, subf (subf l l) (subf l l)⟩] concatenates_S64x512_S64x512_S64x512_S192x512_d0 (ix2 (⟨2 * 64 + s.1, by omega⟩ : Fin 192) c)) = 0 := by
    refine Finset.sum_eq_zero fun s _ => ?_
    rw [cat3_2 (m := 64) (n := 512) (M := 192) l (subf l l) (subf (subf l l) (subf l l)) concatenates_S64x512_S64x512_S64x512_S192x512_d0 s c _ rfl, subf_apply, subf_apply]
    obtain ⟨q, hq⟩ := hx s
    rw [hq, fsub_self, fsub_zero, mul_zero]
  have h1 : (∑ s : Fin 64, (sl.v258 : FVec Ideal S64x192 .bf16) (ix2 (i64 n t) (⟨s.1, by omega⟩ : Fin 192)) * concatenate S192x512 0 [⟨S64x512, l⟩, ⟨S64x512, subf l l⟩, ⟨S64x512, subf (subf l l) (subf l l)⟩] concatenates_S64x512_S64x512_S64x512_S192x512_d0 (ix2 (⟨s.1, by omega⟩ : Fin 192) c)) = ((∑ s : Fin 16, if s.1 < t.1 + 1 then f n s else 0 : ℝ) : EReal) := by
    rw [coe_sum]
    refine (sum_blocks (m := 4) (n := 16) _).trans ?_
    refine (Finset.sum_eq_single n ?_ (by simp)).trans ?_
    · intro n' _ hn
      refine Finset.sum_eq_zero fun s _ => ?_
      have hv : (finProdFinEquiv (m := 4) (n := 16) (n', s)).1 = 16 * n'.1 + s.1 := by simp [finProdFinEquiv]; omega
      rw [tri_num, if_neg (fun h => hn (Fin.ext (by have := h.2; rw [hv] at this; simp only [i64] at this; omega))), zero_mul]
    · refine Finset.sum_congr rfl fun s _ => ?_
      have hv : finProdFinEquiv (m := 4) (n := 16) (n, s) = i64 n s := Fin.ext (by simp [finProdFinEquiv, i64]; omega)
      rw [hv, tri_num, cat3_0 (m := 64) (n := 512) (M := 192) l (subf l l) (subf (subf l l) (subf l l)) concatenates_S64x512_S64x512_S64x512_S192x512_d0 (i64 n s) c _ rfl, hf]
      by_cases h : s.1 < t.1 + 1
      · rw [if_pos ⟨by simp only [i64]; omega, by simp only [i64]; omega⟩, if_pos h, one_mul]
      · rw [if_neg (fun h' => h (by have := h'.1; simp only [i64] at this; omega)), if_neg h, zero_mul, EReal.coe_zero]
  exact (congrArg₂ (· + ·) (congrArg₂ (· + ·) h1 h2) h3).trans (by rw [add_zero, add_zero])

/-- One row, on sixteen rows. -/
noncomputable def rep (y : FVec Ideal S64x512 .f32) (o : ℕ) (h : S64x512.Slices ![o, 0] S1x512) : FVec Ideal S16x512 .f32 :=
  broadcastTo S16x512 (shapeCast S1x512 (extractStridedSlice S1x512 ![o, 0] y h) shapeCasts_S1x512_S1x512) broadcasts_S1x512_S16x512

/-- A row repeated. -/
theorem rep_at (y : FVec Ideal S64x512 .f32) (o : ℕ) (h : S64x512.Slices ![o, 0] S1x512) (t : Fin 16) (c : Fin 512) (r : Fin 64) (hr : r.1 = o) :
    rep y o h (ix2 t c) = y (ix2 r c) := by
  unfold rep
  refine (bcRow (M := 16) (N := 512) _ broadcasts_S1x512_S16x512 t c).trans ?_
  rw [shapeCast_self]
  exact sl2 o 0 y h 0 c r c (by simp [hr]) (by omega)

/-- A batch row's last row. -/
theorem lastOf_at (y : FVec Ideal S64x512 .f32) (n : Fin 4) (t : Fin 16) (c : Fin 512) : lastOf y (ix2 (i64 n t) c) = y (ix2 (i64 n 15) c) := by
  refine (cat0_4 (m := 16) (n := 512) (M := 64) ![rep y 15 slices_S64x512_o15_0_S1x512, rep y 31 slices_S64x512_o31_0_S1x512, rep y 47 slices_S64x512_o47_0_S1x512, rep y 63 slices_S64x512_o63_0_S1x512]
    concatenates_S16x512_S16x512_S16x512_S16x512_S64x512_d0 n t c (i64 n t) rfl).trans ?_
  match n with
  | 0 => exact rep_at y 15 slices_S64x512_o15_0_S1x512 t c (i64 0 15) rfl
  | 1 => exact rep_at y 31 slices_S64x512_o31_0_S1x512 t c (i64 1 15) rfl
  | 2 => exact rep_at y 47 slices_S64x512_o47_0_S1x512 t c (i64 2 15) rfl
  | 3 => exact rep_at y 63 slices_S64x512_o63_0_S1x512 t c (i64 3 15) rfl

/-- A batch row's middle row. -/
theorem midOf_at (y : FVec Ideal S64x512 .f32) (n : Fin 4) (t : Fin 16) (c : Fin 512) : midOf y (ix2 (i64 n t) c) = y (ix2 (i64 n 7) c) := by
  refine (cat0_4 (m := 16) (n := 512) (M := 64) ![rep y 7 slices_S64x512_o7_0_S1x512, rep y 23 slices_S64x512_o23_0_S1x512, rep y 39 slices_S64x512_o39_0_S1x512, rep y 55 slices_S64x512_o55_0_S1x512]
    concatenates_S16x512_S16x512_S16x512_S16x512_S64x512_d0 n t c (i64 n t) rfl).trans ?_
  match n with
  | 0 => exact rep_at y 7 slices_S64x512_o7_0_S1x512 t c (i64 0 7) rfl
  | 1 => exact rep_at y 23 slices_S64x512_o23_0_S1x512 t c (i64 1 7) rfl
  | 2 => exact rep_at y 39 slices_S64x512_o39_0_S1x512 t c (i64 2 7) rfl
  | 3 => exact rep_at y 55 slices_S64x512_o55_0_S1x512 t c (i64 3 7) rfl

end Cert.RwkvIdeal.Hand

end
-- ==== Proof.RwkvFinal.lean ====
/- The state each batch row and pair of heads ends with is the recurrence's. -/
module

public import proofs.«01_k».proof.Proof.RwkvVals
public import Mathlib.Tactic.LinearCombination

@[expose] public section

set_option maxRecDepth 16384

noncomputable section

namespace Cert.RwkvIdeal.Hand

open Cert.RwkvIdeal Cert.RwkvIdeal.Gen Cert.RwkvIdeal.Gen.kernelRun0_A Idealize.ShloMosaic Cert.RwkvBlocks Cert.RwkvMath Cert.RwkvSpec Matrix

/-- Four batch rows' arguments, as the kernel holds them. -/
structure Tied (P prev : FVec Ideal S64x1792 .f32) (mu : FVec Ideal S1x1792 .f32) (w0 a0 kkp kap : FVec Ideal S1x512 .f32) (wl : FVec Ideal S128x1024 .bf16)
    (x : Fin 4 → Row) : Prop where
  real : ∀ n, (x n).Real
  P : ∀ n t c, P (ix2 (i64 n t) c) = (x n).P t c
  prev : ∀ n t c, prev (ix2 (i64 n t) c) = (x n).prev t c
  mu : ∀ n c, mu (ix2 0 c) = (x n).mu c
  w0 : ∀ n c, w0 (ix2 0 c) = (x n).w0 c
  a0 : ∀ n c, a0 (ix2 0 c) = (x n).a0 c
  kkp : ∀ n c, kkp (ix2 0 c) = (x n).kkp c
  kap : ∀ n c, kap (ix2 0 c) = (x n).kap c
  wd : ∀ n (j : Fin 64) (l : Fin 512), wl (ix2 (⟨j.1, by omega⟩ : Fin 128) (⟨l.1, by omega⟩ : Fin 1024)) = (x n).wd j l
  wd0 : ∀ (j : Fin 64) (l : Fin 512), wl (ix2 (⟨64 + j.1, by omega⟩ : Fin 128) (⟨l.1, by omega⟩ : Fin 1024)) = 0
  wa : ∀ n (j : Fin 64) (l : Fin 512), wl (ix2 (⟨64 + j.1, by omega⟩ : Fin 128) (⟨512 + l.1, by omega⟩ : Fin 1024)) = (x n).wa j l
  wa0 : ∀ (j : Fin 64) (l : Fin 512), wl (ix2 (⟨j.1, by omega⟩ : Fin 128) (⟨512 + l.1, by omega⟩ : Fin 1024)) = 0

section
variable {P prev : FVec Ideal S64x1792 .f32} {mu : FVec Ideal S1x1792 .f32} {w0 a0 kkp kap : FVec Ideal S1x512 .f32} {wl : FVec Ideal S128x1024 .bf16}
    {x : Fin 4 → Row} (T : Tied P prev mu w0 a0 kkp kap wl x)
include T

/-- The shifted rows. -/
theorem xs_at (n : Fin 4) (t : Fin 16) (c : Fin 1792) : xs P prev mu (ix2 (i64 n t) c) = (x n).X t c := by
  unfold xs
  rw [addf_apply, mulf_apply, subf_apply, bcRow (M := 64) (N := 1792) mu broadcasts_S1x1792_S64x1792 (i64 n t) c, T.P, T.prev, T.mu n]
  rfl

/-- The keys and the values. -/
theorem kz_at (n : Fin 4) (t : Fin 16) (l : Fin 512) : kz P prev mu (ix2 (i64 n t) l) = (((x n).k t l : ℝ) : EReal) := by
  refine (sl2 0 512 (xs P prev mu) slices_S64x1792_o0_512_S64x512 (i64 n t) l (i64 n t) ⟨512 + l.1, by omega⟩ (by omega) rfl).trans ?_
  rw [xs_at T]; exact ((x n).X_real (T.real n) t _).symm
@[inherit_doc kz_at] theorem vv_at (n : Fin 4) (t : Fin 16) (l : Fin 512) : vv P prev mu (ix2 (i64 n t) l) = (((x n).v t l : ℝ) : EReal) := by
  refine (sl2 0 1024 (xs P prev mu) slices_S64x1792_o0_1024_S64x512 (i64 n t) l (i64 n t) ⟨1024 + l.1, by omega⟩ (by omega) rfl).trans ?_
  rw [xs_at T]; exact ((x n).X_real (T.real n) t _).symm

/-- The columns of the decay and the gate, at an entry. -/
theorem da_at (n : Fin 4) (t : Fin 16) (j : Fin 128) : da P prev mu (ix2 (i64 n t) j) = (x n).X t ⟨1536 + j.1, by omega⟩ := by
  refine (sl2 0 1536 (xs P prev mu) slices_S64x1792_o0_1536_S64x128 (i64 n t) j (i64 n t) ⟨1536 + j.1, by omega⟩ (by omega) rfl).trans ?_
  rw [xs_at T]

/-- The two small projections' inputs. -/
theorem tin_at (n : Fin 4) (t : Fin 16) (j : Fin 128) :
    tin P prev mu (ix2 (i64 n t) j) = if j.1 < 64 then Ideal.tanh ((x n).X t ⟨1536 + j.1, by omega⟩) else (x n).X t ⟨1536 + j.1, by omega⟩ := by
  unfold tin
  rw [sel_at _ _ _ _ _ (low_at (i64 n t) j)]
  have h : tanh (da P prev mu) (ix2 (i64 n t) j) = Ideal.tanh (da P prev mu (ix2 (i64 n t) j)) := rfl
  rw [h, da_at T]

/-- Their products. -/
theorem lor_w (n : Fin 4) (t : Fin 16) (l : Fin 512) :
    lor P prev mu wl (ix2 (i64 n t) (⟨l.1, by omega⟩ : Fin 1024)) = ∑ j : Fin 64, Ideal.tanh ((x n).X t ⟨1536 + j.1, by omega⟩) * (x n).wd j l := by
  refine (Rows.mm_apply dot_S64x128_S128x1024_S64x1024_1_0_0_1_n_n rfl _ _ (i64 n t) _).trans ?_
  refine (sum2 (n := 64) _).trans ?_
  refine (congrArg₂ (· + ·) (Finset.sum_congr rfl fun s _ => ?_) (Finset.sum_eq_zero fun s _ => ?_)).trans (add_zero _)
  · refine congrArg₂ (· * ·) ((tin_at T n t ⟨s.1, by omega⟩).trans (if_pos s.2)) (T.wd n s l)
  · exact (congrArg (_ * ·) (T.wd0 s l)).trans (mul_zero _)
@[inherit_doc lor_w] theorem lor_a (n : Fin 4) (t : Fin 16) (l : Fin 512) :
    lor P prev mu wl (ix2 (i64 n t) (⟨512 + l.1, by omega⟩ : Fin 1024)) = ∑ j : Fin 64, (x n).X t ⟨1600 + j.1, by omega⟩ * (x n).wa j l := by
  refine (Rows.mm_apply dot_S64x128_S128x1024_S64x1024_1_0_0_1_n_n rfl _ _ (i64 n t) _).trans ?_
  refine (sum2 (n := 64) _).trans ?_
  refine (congrArg₂ (· + ·) (Finset.sum_eq_zero fun s _ => ?_) (Finset.sum_congr rfl fun s _ => ?_)).trans (zero_add _)
  · exact (congrArg (_ * ·) (T.wa0 s l)).trans (mul_zero _)
  · refine congrArg₂ (· * ·) ((tin_at T n t ⟨64 + s.1, by omega⟩).trans (if_neg (by simp))) (T.wa n s l) |>.trans ?_
    refine congrArg (· * _) (congrArg ((x n).X t) (Fin.ext (by simp; omega)))

/-- The logarithm of the decay. -/
theorem ld_at (n : Fin 4) (t : Fin 16) (l : Fin 512) : ld P prev mu w0 wl (ix2 (i64 n t) l) = (((x n).ld t l : ℝ) : EReal) := by
  have h : ld P prev mu w0 wl (ix2 (i64 n t) l) = (Scalar.ofBits .f32 0xBF1B4598#32 : Ideal .f32) * Ideal.logistic (broadcastTo S64x512 w0 broadcasts_S1x512_S64x512 (ix2 (i64 n t) l)
      + extractStridedSlice S64x512 ![0, 0] (lor P prev mu wl) slices_S64x1024_o0_0_S64x512 (ix2 (i64 n t) l)) := rfl
  rw [h, bcRow (M := 64) (N := 512) w0 broadcasts_S1x512_S64x512, sl2 0 0 (lor P prev mu wl) slices_S64x1024_o0_0_S64x512 (i64 n t) l (i64 n t) ⟨l.1, by omega⟩ (by omega) (by simp),
    lor_w T, T.w0 n, ld_const]
  show _ * Ideal.logistic ((x n).lw t l) = _
  rw [sg_coe, ← EReal.coe_mul]; rfl

/-- The learning rate. -/
theorem aa_at (n : Fin 4) (t : Fin 16) (l : Fin 512) : aa P prev mu a0 wl (ix2 (i64 n t) l) = (((x n).a t l : ℝ) : EReal) := by
  have h : aa P prev mu a0 wl (ix2 (i64 n t) l) = Ideal.logistic (broadcastTo S64x512 a0 broadcasts_S1x512_S64x512 (ix2 (i64 n t) l)
      + extractStridedSlice S64x512 ![0, 512] (lor P prev mu wl) slices_S64x1024_o0_512_S64x512 (ix2 (i64 n t) l)) := rfl
  rw [h, bcRow (M := 64) (N := 512) a0 broadcasts_S1x512_S64x512, sl2 0 512 (lor P prev mu wl) slices_S64x1024_o0_512_S64x512 (i64 n t) l (i64 n t) ⟨512 + l.1, by omega⟩ (by omega) (by simp),
    lor_a T, T.a0 n]
  show Ideal.logistic ((x n).la t l) = _
  rw [sg_coe]; rfl

/-- The keys' directions, not normalised. -/
theorem kk0_at (n : Fin 4) (t : Fin 16) (l : Fin 512) : kk0 P prev mu kkp (ix2 (i64 n t) l) = (((x n).kk0 t l : ℝ) : EReal) := by
  unfold kk0
  rw [mulf_apply, kz_at T, bcRow (M := 64) (N := 512) kkp broadcasts_S1x512_S64x512, T.kkp n, ← (T.real n).kkp l]
  exact (EReal.coe_mul _ _).symm

/-- The keys' directions. -/
theorem kn_at (n : Fin 4) (t : Fin 16) (h : Fin 8) (j : Fin 64) : kn P prev mu kkp (ix2 (i64 n t) (hl h j)) = (((x n).kk h t j : ℝ) : EReal) := by
  have e : kn P prev mu kkp (ix2 (i64 n t) (hl h j)) = kk0 P prev mu kkp (ix2 (i64 n t) (hl h j)) * Ideal.rsqrt (max (segs (mulf (kk0 P prev mu kkp) (kk0 P prev mu kkp)) (ix2 (i64 n t) (hl h j)))
      (Named.named (F := Ideal) κ "eps_sq" (φ := .f32) 0x179ABE15#32)) := rfl
  rw [e, eps_const, kk0_at T, segs_at _ (i64 n t) (fun h j => (x n).kk0 t (hl h j) * (x n).kk0 t (hl h j)) (fun h j => by
    rw [mulf_apply, kk0_at T]; exact (EReal.coe_mul _ _).symm) h j]
  exact norm_k _ _

/-- The keys, corrected. -/
theorem k2_at (n : Fin 4) (t : Fin 16) (l : Fin 512) : k2 P prev mu a0 kap wl (ix2 (i64 n t) l) = (((x n).k2 t l : ℝ) : EReal) := by
  have e : k2 P prev mu a0 kap wl (ix2 (i64 n t) l) = kz P prev mu (ix2 (i64 n t) l) * ((Scalar.ofBits .f32 0x3F800000#32 : Ideal .f32)
      + (aa P prev mu a0 wl (ix2 (i64 n t) l) - (Scalar.ofBits .f32 0x3F800000#32 : Ideal .f32)) * broadcastTo S64x512 kap broadcasts_S1x512_S64x512 (ix2 (i64 n t) l)) := rfl
  rw [e, one_const, kz_at T, aa_at T, bcRow (M := 64) (N := 512) kap broadcasts_S1x512_S64x512, T.kap n, ← (T.real n).kap l, ← EReal.coe_sub, ← EReal.coe_mul, ← EReal.coe_add, ← EReal.coe_mul]
  rfl

/-- The corrections' directions. -/
theorem bb_at (n : Fin 4) (t : Fin 16) (h : Fin 8) (j : Fin 64) : bb P prev mu a0 kkp wl (ix2 (i64 n t) (hl h j)) = (((x n).b h t j : ℝ) : EReal) := by
  unfold bb
  rw [mulf_apply, kn_at T, aa_at T]
  exact (EReal.coe_mul _ _).symm

/-- The decay's logarithm for one head. -/
noncomputable def ldh (x : Row) (h : Fin 8) (t : Fin 16) (j : Fin 64) : ℝ := x.ld t (hl h j)

/-- The sums of the log decays, up to and with a row. -/
theorem lp_at (n : Fin 4) (t : Fin 16) (h : Fin 8) (j : Fin 64) : lp P prev mu w0 wl (ix2 (i64 n t) (hl h j)) = ((cumL (ldh (x n) h) (t.1 + 1) j : ℝ) : EReal) :=
  cum_at _ (fun n t => (x n).ld t (hl h j)) (hl h j) (fun n t => ld_at T n t _) n t

/-- The sums of the log decays before a row. -/
theorem lpp_at (n : Fin 4) (t : Fin 16) (h : Fin 8) (j : Fin 64) : lpp P prev mu w0 wl (ix2 (i64 n t) (hl h j)) = ((cumL (ldh (x n) h) t.1 j : ℝ) : EReal) := by
  unfold lpp
  rw [subf_apply, lp_at T, ld_at T]
  refine (EReal.coe_sub _ _).symm.trans (congrArg _ ?_)
  have := sum_lt_succ (fun s => ldh (x n) h s j) t.1 t.2
  show cumL (ldh (x n) h) (t.1 + 1) j - ldh (x n) h t j = _
  unfold cumL
  rw [this]; simp

end

/-- The block of one batch row and one pair. -/
theorem blk_bl (y : FVec Ideal S64x512 .f32) (k : Fin 16) (n p : Fin 4) (hk : k.1 = 4 * n.1 + p.1) (f : Fin 8 → Matrix (Fin 16) (Fin 64) ℝ)
    (hy : ∀ t h j, y (ix2 (i64 n t) (hl h j)) = ((f h t j : ℝ) : EReal)) : blk y k = bl (fun e => f (hd p e)) := by
  refine ext128 fun t e j => ?_
  rw [bl_at, ← hy]
  exact sl2 _ _ y (slK k) t (i128 e j) (i64 n t) (hl (hd p e) j) (by show 16 * n.1 + t.1 = 16 * (k.1 / 4) + t.1; omega)
    (by show 64 * (2 * p.1 + e.1) + j.1 = 128 * (k.1 % 4) + (64 * e.1 + j.1); omega)

/-- The exponential of a real number. -/
theorem fexp (r : ℝ) : FloatOps.exp (F := Ideal) (φ := .f32) (r : EReal) = ((Real.exp r : ℝ) : EReal) := Ideal.exp_coe r

/-- The state each pair ends with. -/
theorem chainK_final {P prev : FVec Ideal S64x1792 .f32} {mu : FVec Ideal S1x1792 .f32} {w0 a0 kkp kap : FVec Ideal S1x512 .f32} {wl : FVec Ideal S128x1024 .bf16}
    {x : Fin 4 → Row} (T : Tied P prev mu w0 a0 kkp kap wl x) (rm : FVec Ideal S64x512 .f32) (k : Fin 16) (n p : Fin 4) (hk : k.1 = 4 * n.1 + p.1) :
    chainK (F := Ideal)
      (mulf (kn P prev mu kkp) (exp (subf (lpp P prev mu w0 wl) (midOf (lp P prev mu w0 wl))))) rm
      (mulf (bb P prev mu a0 kkp wl) (exp (subf (midOf (lp P prev mu w0 wl)) (lp P prev mu w0 wl))))
      (mulf (k2 P prev mu a0 kap wl) (exp (subf (midOf (lp P prev mu w0 wl)) (lp P prev mu w0 wl))))
      (mulf (kn P prev mu kkp) (exp (lpp P prev mu w0 wl)))
      (vv P prev mu)
      (mulf (bb P prev mu a0 kkp wl) (exp (subf (lastOf (lp P prev mu w0 wl)) (lp P prev mu w0 wl))))
      (mulf (k2 P prev mu a0 kap wl) (exp (subf (lastOf (lp P prev mu w0 wl)) (lp P prev mu w0 wl))))
      (exp (lastOf (lp P prev mu w0 wl))) k (sq fun e => Matrix.of fun j i => (x n).S (hd p e) 0 i j)
    = sq fun e => Matrix.of fun j i => (x n).S (hd p e) 16 i j := by
  have hx : ∀ (y : FVec Ideal S64x512 .f32) (t : Fin 16) (c : Fin 512), exp y (ix2 (i64 n t) c) = FloatOps.exp (F := Ideal) (φ := .f32) (y (ix2 (i64 n t) c)) := fun _ _ _ => rfl
  have fs : ∀ a b : ℝ, FloatOps.subf (F := Ideal) (φ := .f32) (a : EReal) (b : EReal) = ((a - b : ℝ) : EReal) := fun a b => (EReal.coe_sub a b).symm
  have fm : ∀ a b : ℝ, FloatOps.mulf (F := Ideal) (φ := .f32) (a : EReal) (b : EReal) = ((a * b : ℝ) : EReal) := fun a b => (EReal.coe_mul a b).symm
  unfold chainK
  generalize blk rm k = R
  rw [blk_bl _ k n p hk (fun h => Matrix.of fun t j => (x n).kk h t j * Real.exp (cumL (ldh (x n) h) t.1 j - cumL (ldh (x n) h) 8 j)) (fun t h j => by
      rw [mulf_apply, kn_at T, hx, subf_apply, lpp_at T, midOf_at, lp_at T, fs, fexp, fm]; rfl),
    blk_bl _ k n p hk (fun h => Matrix.of fun t j => (x n).b h t j * Real.exp (cumL (ldh (x n) h) 8 j - cumL (ldh (x n) h) (t.1 + 1) j)) (fun t h j => by
      rw [mulf_apply, bb_at T, hx, subf_apply, midOf_at, lp_at T, lp_at T, fs, fexp, fm]; rfl),
    blk_bl _ k n p hk (fun h => Matrix.of fun t j => (x n).k2 t (hl h j) * Real.exp (cumL (ldh (x n) h) 8 j - cumL (ldh (x n) h) (t.1 + 1) j)) (fun t h j => by
      rw [mulf_apply, k2_at T, hx, subf_apply, midOf_at, lp_at T, lp_at T, fs, fexp, fm]; rfl),
    blk_bl _ k n p hk (fun h => Matrix.of fun t j => (x n).kk h t j * Real.exp (cumL (ldh (x n) h) t.1 j)) (fun t h j => by
      rw [mulf_apply, kn_at T, hx, lpp_at T, fexp, fm]; rfl),
    blk_bl _ k n p hk (fun h => Matrix.of fun t j => (x n).v t (hl h j)) (fun t h j => by rw [vv_at T]; rfl),
    blk_bl _ k n p hk (fun h => Matrix.of fun t j => (x n).b h t j * Real.exp (cumL (ldh (x n) h) 16 j - cumL (ldh (x n) h) (t.1 + 1) j)) (fun t h j => by
      rw [mulf_apply, bb_at T, hx, subf_apply, lastOf_at, lp_at T, lp_at T, fs, fexp, fm]; rfl),
    blk_bl _ k n p hk (fun h => Matrix.of fun t j => (x n).k2 t (hl h j) * Real.exp (cumL (ldh (x n) h) 16 j - cumL (ldh (x n) h) (t.1 + 1) j)) (fun t h j => by
      rw [mulf_apply, k2_at T, hx, subf_apply, lastOf_at, lp_at T, lp_at T, fs, fexp, fm]; rfl),
    blk_bl _ k n p hk (fun h => Matrix.of fun t j => Real.exp (cumL (ldh (x n) h) 16 j)) (fun t h j => by
      rw [hx, lastOf_at, lp_at T, fexp]; rfl)]
  rw [chain_sq]
  congr 1
  funext e
  refine congrArg Matrix.of (funext fun j => funext fun i => ?_)
  have hm : ∀ a b m : ℝ, Real.exp (a - m) * Real.exp (m - b) = Real.exp a * Real.exp (-b) := fun a b m => by
    rw [← Real.exp_add, ← Real.exp_add]; congr 1; ring
  refine (state_final (ldh (x n) (hd p e)) ((x n).kk (hd p e)) ((x n).b (hd p e)) (fun t j => (x n).k2 t (hl (hd p e) j)) (fun t j => (x n).v t (hl (hd p e) j)) ((x n).S (hd p e))
    ?_ _ _ _ _ _ _ _ _ ?_ ?_ (fun t j => rfl) (fun s j => rfl) (fun s j => rfl) (fun s i => rfl) (fun j i => rfl) (inv4_mul _ ?_) i j).symm
  · intro t i j
    show Row.S (x n) (hd p e) (t.1 + 1) i j = _
    rw [Row.S, dif_pos t.2]
    rfl
  · intro t s
    show (if s < t then _ else (0 : ℝ)) = _
    refine if_congr Iff.rfl (Finset.sum_congr rfl fun j _ => ?_) rfl
    have := hm (cumL (ldh (x n) (hd p e)) t.1 j) (cumL (ldh (x n) (hd p e)) (s.1 + 1) j) (cumL (ldh (x n) (hd p e)) 8 j)
    show ((x n).kk (hd p e) t j * Real.exp _) * ((x n).b (hd p e) s j * Real.exp _) = _
    linear_combination ((x n).kk (hd p e) t j * (x n).b (hd p e) s j) * this
  · intro t s
    show (if s < t then _ else (0 : ℝ)) = _
    refine if_congr Iff.rfl (Finset.sum_congr rfl fun j _ => ?_) rfl
    have := hm (cumL (ldh (x n) (hd p e)) t.1 j) (cumL (ldh (x n) (hd p e)) (s.1 + 1) j) (cumL (ldh (x n) (hd p e)) 8 j)
    show ((x n).kk (hd p e) t j * Real.exp _) * ((x n).k2 s (hl (hd p e) j) * Real.exp _) = _
    linear_combination ((x n).kk (hd p e) t j * (x n).k2 s (hl (hd p e) j)) * this
  · intro t s hts
    exact if_neg (not_lt.mpr hts)

end Cert.RwkvIdeal.Hand

end
-- ==== Proof.RwkvRows.lean ====
/- The batch's rows, out of the arrays that hold them all. -/
module

public import proofs.«01_k».proof.Proof.RwkvSpec
public import proofs.«01_k».proof.Proof.Rows

@[expose] public section

noncomputable section

namespace Cert.RwkvSpec

open Idealize.ShloMosaic Cert.Rows

/-- An index into three axes. -/
def i3 {a b c : ℕ} (p : Fin a) (q : Fin b) (r : Fin c) : (⟨3, ![a, b, c]⟩ : Shape).Idx :=
  fun | ⟨0, _⟩ => p | ⟨1, _⟩ => q | ⟨2, _⟩ => r
/-- An index into four axes. -/
def i4 {a b c d : ℕ} (p : Fin a) (q : Fin b) (r : Fin c) (s : Fin d) : (⟨4, ![a, b, c, d]⟩ : Shape).Idx :=
  fun | ⟨0, _⟩ => p | ⟨1, _⟩ => q | ⟨2, _⟩ => r | ⟨3, _⟩ => s
/-- An index into five axes. -/
def i5 {a b c d e : ℕ} (p : Fin a) (q : Fin b) (r : Fin c) (s : Fin d) (t : Fin e) : (⟨5, ![a, b, c, d, e]⟩ : Shape).Idx :=
  fun | ⟨0, _⟩ => p | ⟨1, _⟩ => q | ⟨2, _⟩ => r | ⟨3, _⟩ => s | ⟨4, _⟩ => t

/-- Batch row `b`'s arguments: the activations `A0`, the activations before them `A1`, the states `A2`, then the weights. -/
def rowOf (A0 : (⟨3, ![32, 16, 1792]⟩ : Shape).Idx → EReal) (A1 : (⟨4, ![1, 32, 1, 1792]⟩ : Shape).Idx → EReal) (A2 : (⟨5, ![1, 32, 8, 64, 64]⟩ : Shape).Idx → EReal)
    (A3 : (⟨2, ![1, 1792]⟩ : Shape).Idx → EReal) (A4 : (⟨2, ![1, 512]⟩ : Shape).Idx → EReal) (A5 : (⟨3, ![1, 64, 512]⟩ : Shape).Idx → EReal)
    (A6 : (⟨2, ![1, 512]⟩ : Shape).Idx → EReal) (A7 : (⟨3, ![1, 64, 512]⟩ : Shape).Idx → EReal) (A9 A10 : (⟨2, ![1, 512]⟩ : Shape).Idx → EReal) (b : Fin 32) : Row where
  P t c := A0 (i3 b t c)
  sh c := A1 (i4 0 b 0 c)
  mu c := A3 (ix2 0 c)
  w0 l := A4 (ix2 0 l)
  a0 l := A6 (ix2 0 l)
  kkp l := A9 (ix2 0 l)
  kap l := A10 (ix2 0 l)
  wd j l := A5 (i3 0 j l)
  wa j l := A7 (i3 0 j l)
  S0 h i j := A2 (i5 0 b h i j)

end Cert.RwkvSpec

end
-- ==== Proof.RwkvState.lean ====
/- How the states go into the scratch and come back from it: read entry by entry. -/
module

public import proofs.«01_k».proof.Proof.RwkvFinal
public import proofs.«01_k».proof.Proof.RwkvRows
public import Idealize.ShloMosaic.Lib.Pipeline.ValueKit.Tiles
public import Idealize.ShloMosaic.Lib.Pipeline.CanonAppend

@[expose] public section

set_option maxRecDepth 16384

noncomputable section

namespace Cert.RwkvIdeal.Hand

open Cert.RwkvIdeal Cert.RwkvIdeal.Gen Cert.RwkvIdeal.Gen.kernelRun0_A Idealize.ShloMosaic Cert.RwkvBlocks Cert.RwkvSpec Matrix

/-- Two leading axes of one entry put on, or taken off. -/
theorem drop2 {α : Type} {M N : ℕ} (x : (⟨4, ![1, 1, M, N]⟩ : Shape).Idx → α) (h : (⟨4, ![1, 1, M, N]⟩ : Shape).ShapeCasts ⟨2, ![M, N]⟩) (a : Fin M) (b : Fin N) :
    shapeCast ⟨2, ![M, N]⟩ x h (ix2 a b) = x (i4 0 0 a b) :=
  shapeCast_apply x h (ix2 a b) (i4 0 0 a b) (by
    rw [Shape.rowMajor_val_two, Shape.rowMajor_val_four]
    show ((0 * 1 + 0) * M + a.1) * N + b.1 = a.1 * N + b.1
    simp)
@[inherit_doc drop2] theorem put2 {α : Type} {M N : ℕ} (x : (⟨2, ![M, N]⟩ : Shape).Idx → α) (h : (⟨2, ![M, N]⟩ : Shape).ShapeCasts ⟨4, ![1, 1, M, N]⟩) (a : Fin M) (b : Fin N) :
    shapeCast ⟨4, ![1, 1, M, N]⟩ x h (i4 0 0 a b) = x (ix2 a b) :=
  shapeCast_apply x h (i4 0 0 a b) (ix2 a b) (by
    rw [Shape.rowMajor_val_two, Shape.rowMajor_val_four]
    show a.1 * N + b.1 = ((0 * 1 + 0) * M + a.1) * N + b.1
    simp)

/-- A transposed table, at an index. -/
theorem tr_at {α : Type} (x : S128x128.Idx → α) (a b : Fin 128) : transpose S128x128 [1, 0] x transposes_S128x128_p1_0_S128x128 (ix2 a b) = x (ix2 b a) :=
  transpose_apply [1, 0] x transposes_S128x128_p1_0_S128x128 (ix2 a b) (ix2 b a) (fun d => by match d with | ⟨0, _⟩ => rfl | ⟨1, _⟩ => rfl)

/-- The states of different pairs lie apart. -/
theorem disjS (k k' : Fin 16) (h : k ≠ k') : Disjoint (rS k).set (rS k').set := by
  refine Finset.disjoint_left.mpr fun x h1 h2 => h (Fin.ext ?_)
  have a0 := (Rect.mem_set_unit.mp h1) 0; have a1 := (Rect.mem_set_unit.mp h1) 1
  have b0 := (Rect.mem_set_unit.mp h2) 0; have b1 := (Rect.mem_set_unit.mp h2) 1
  change k.1 / 4 ≤ _ ∧ _ < k.1 / 4 + 1 at a0; change k.1 % 4 ≤ _ ∧ _ < k.1 % 4 + 1 at a1
  change k'.1 / 4 ≤ _ ∧ _ < k'.1 / 4 + 1 at b0; change k'.1 % 4 ≤ _ ∧ _ < k'.1 % 4 + 1 at b1
  omega
/-- The states of different heads lie apart. -/
theorem disjH (k k' : Fin 32) (h : k ≠ k') : Disjoint (rH k).set (rH k').set := by
  refine Finset.disjoint_left.mpr fun x h1 h2 => h (Fin.ext ?_)
  have a0 := (Rect.mem_set_unit.mp h1) 0; have a1 := (Rect.mem_set_unit.mp h1) 1
  have b0 := (Rect.mem_set_unit.mp h2) 0; have b1 := (Rect.mem_set_unit.mp h2) 1
  change k.1 / 8 ≤ _ ∧ _ < k.1 / 8 + 1 at a0; change k.1 % 8 ≤ _ ∧ _ < k.1 % 8 + 1 at a1
  change k'.1 / 8 ≤ _ ∧ _ < k'.1 / 8 + 1 at b0; change k'.1 % 8 ≤ _ ∧ _ < k'.1 % 8 + 1 at b1
  omega

/-- A piece of a family in reverse order, read. -/
theorem canon_rev {N : ℕ} {S : Shape} (R : Fin N → Rect S) (P : (k : Fin N) → (R k).shape.Idx → EReal) (hd : ∀ k k', k ≠ k' → Disjoint (R k).set (R k').set)
    (n : Fin N) (x : (R n).shape.Idx) :
    View.canon (Val := Elt Ideal) (e := .f32) (List.ofFn fun k => (⟨R k.rev, P k.rev⟩ : View.Piece (Elt Ideal) S .f32)) ((R n).emb x) = P n x := by
  obtain ⟨m, rfl⟩ : ∃ m : Fin N, n = m.rev := ⟨n.rev, (Fin.rev_rev n).symm⟩
  exact View.canon_ofFn_emb_of_disjoint (Val := Elt Ideal) (e := .f32) (fun k => R k.rev) (fun k => P k.rev) (fun k k' h => hd _ _ (fun h' => h (Fin.rev_injective h'))) m x

/-- The same, over older pieces. -/
theorem canon_rev_append {N : ℕ} {S : Shape} (R : Fin N → Rect S) (P : (k : Fin N) → (R k).shape.Idx → EReal) (hd : ∀ k k', k ≠ k' → Disjoint (R k).set (R k').set)
    (L : List (View.Piece (Elt Ideal) S .f32)) (n : Fin N) (x : (R n).shape.Idx) :
    View.canon (Val := Elt Ideal) (e := .f32) ((List.ofFn fun k => (⟨R k.rev, P k.rev⟩ : View.Piece (Elt Ideal) S .f32)) ++ L) ((R n).emb x) = P n x := by
  refine (View.canon_append_of_pieces (Val := Elt Ideal) (View.canon (List.ofFn fun k => (⟨R k.rev, P k.rev⟩ : View.Piece (Elt Ideal) S .f32))) L _ ?_ _ ?_).trans (canon_rev R P hd n x)
  · intro p hp y
    obtain ⟨k, rfl⟩ := List.mem_ofFn.mp hp
    exact (canon_rev R P hd k.rev y).symm
  · exact ⟨⟨R n, P n⟩, List.mem_ofFn.mpr ⟨n.rev, congrArg (fun k => (⟨R k, P k⟩ : View.Piece (Elt Ideal) S .f32)) (Fin.rev_rev n)⟩, (R n).idx_mem x⟩

variable (arg18 : Memref sig .tc .vmem S4x4x128x128 .f32) (hb : Fin 32 → Vec Ideal S1x1x64x64 .f32) (S0 S1 : Fin 32 → Fin 64 → Fin 64 → ℝ)

/-- The state a pair enters with: its heads' states transposed, down the diagonal. -/
theorem start_sq (h0 : ∀ k i j, hb k (i4 0 0 i j) = ((S0 k i j : ℝ) : EReal)) (k : Fin 16) :
    start hb arg18 k = sq fun e => Matrix.of fun j i => S0 (⟨2 * k.1 + e.1, by omega⟩ : Fin 32) i j := by
  have hr : arg18.view.readCov (entries hb) (rS k).toLoadRect = entry hb k := by
    rw [View.readCov_eq_canon']
    funext x
    exact canon_rev rS (fun k => entry hb k) disjS k x
  have es : start hb arg18 k = shapeCast S128x128 (entry hb k) shapeCasts_S1x1x128x128_S128x128 :=
    congrArg (fun z : FVec Ideal S1x1x128x128 .f32 => shapeCast S128x128 z shapeCasts_S1x1x128x128_S128x128) hr
  rw [es]
  unfold entry
  rw [shapeCast_shapeCast]
  refine extSq fun e' t e s => ?_
  rw [tr_at, sq_at]
  have z2 : ∀ a b, broadcast S64x64 (Scalar.ofBits .f32 0x00000000#32 : Ideal .f32) (ix2 a b) = 0 := fun a b => zero_f
  match e, e' with
  | 0, 0 =>
    rw [cat0_lo (m := 64) (m' := 64) (n := 128) (M := 128) _ _ concatenates_S64x128_S64x128_S128x128_d0 s (i128 0 t) _ (by simp [i128]),
      cat1_lo (m := 64) (n := 64) (n' := 64) (N := 128) _ _ concatenates_S64x64_S64x64_S64x128_d1 s t _ (by simp [i128]), if_pos rfl]
    exact (drop2 (M := 64) (N := 64) _ shapeCasts_S1x1x64x64_S64x64 s t).trans (h0 _ _ _)
  | 0, 1 =>
    rw [cat0_lo (m := 64) (m' := 64) (n := 128) (M := 128) _ _ concatenates_S64x128_S64x128_S128x128_d0 s (i128 1 t) _ (by simp [i128]),
      cat1_hi (m := 64) (n := 64) (n' := 64) (N := 128) _ _ concatenates_S64x64_S64x64_S64x128_d1 s t _ (by simp [i128]), if_neg (by decide)]
    exact z2 _ _
  | 1, 0 =>
    rw [cat0_hi (m := 64) (m' := 64) (n := 128) (M := 128) _ _ concatenates_S64x128_S64x128_S128x128_d0 s (i128 0 t) _ (by simp [i128]),
      cat1_lo (m := 64) (n := 64) (n' := 64) (N := 128) _ _ concatenates_S64x64_S64x64_S64x128_d1 s t _ (by simp [i128]), if_neg (by decide)]
    exact z2 _ _
  | 1, 1 =>
    rw [cat0_hi (m := 64) (m' := 64) (n := 128) (M := 128) _ _ concatenates_S64x128_S64x128_S128x128_d0 s (i128 1 t) _ (by simp [i128]),
      cat1_hi (m := 64) (n := 64) (n' := 64) (N := 128) _ _ concatenates_S64x64_S64x64_S64x128_d1 s t _ (by simp [i128]), if_pos rfl]
    exact (drop2 (M := 64) (N := 64) _ shapeCasts_S1x1x64x64_S64x64 s t).trans (h0 _ _ _)

variable (km rm bm mm ka v be ke p : FVec Ideal S64x512 .f32)

/-- One head's state out of a pair's table. -/
noncomputable def backOf (q : Fin 32) (z : FVec Ideal S1x1x128x128 .f32) : FVec Ideal S1x1x64x64 .f32 :=
  shapeCast S1x1x64x64 (extractStridedSlice S64x64 ![64 * (q.1 % 2), 64 * (q.1 % 2)] (Idealize.ShloMosaic.transpose S128x128 [1, 0]
    (shapeCast S128x128 z shapeCasts_S1x1x128x128_S128x128) transposes_S128x128_p1_0_S128x128) (slH q)) shapeCasts_S64x64_S1x1x64x64
@[inherit_doc backOf] theorem back_eq (L : List (View.Piece (Elt Ideal) S4x4x128x128 .f32)) (q : Fin 32) :
    back arg18 L q = backOf q (arg18.view.readCov L (rS (pairOf q)).toLoadRect) := rfl

/-- What is written back for a head. -/
theorem finals_at (h0 : ∀ k i j, hb k (i4 0 0 i j) = ((S0 k i j : ℝ) : EReal))
    (hk : ∀ k, chainK km rm bm mm ka v be ke p k (sq fun e => Matrix.of fun j i => S0 (⟨2 * k.1 + e.1, by omega⟩ : Fin 32) i j)
      = sq fun e => Matrix.of fun j i => S1 (⟨2 * k.1 + e.1, by omega⟩ : Fin 32) i j)
    (n : Fin 4) (h : Fin 8) (i j : Fin 64) :
    View.canon (finals km rm bm mm ka v be ke p hb arg18) (i4 n h i j : S4x8x64x64.Idx) = ((S1 ⟨8 * n.1 + h.1, by omega⟩ i j : ℝ) : EReal) := by
  have he : (i4 n h i j : S4x8x64x64.Idx) = (rH ⟨8 * n.1 + h.1, by omega⟩).emb (i4 0 0 i j : S1x1x64x64.Idx) := funext fun a => Fin.ext (by
    match a with
    | ⟨0, _⟩ => show n.1 = (8 * n.1 + h.1) / 8 + 1 * 0; omega
    | ⟨1, _⟩ => show h.1 = (8 * n.1 + h.1) % 8 + 1 * 0; omega
    | ⟨2, _⟩ => show i.1 = 0 + 1 * i.1; omega
    | ⟨3, _⟩ => show j.1 = 0 + 1 * j.1; omega)
  rw [he]
  generalize hq : (⟨8 * n.1 + h.1, by omega⟩ : Fin 32) = q
  refine (canon_rev rH (fun k => back arg18 (leaves km rm bm mm ka v be ke p hb arg18) k) disjH q (i4 0 0 i j : S1x1x64x64.Idx)).trans ?_
  have hr : arg18.view.readCov (leaves km rm bm mm ka v be ke p hb arg18) (rS (pairOf q)).toLoadRect
      = shapeCast S1x1x128x128 (chainK km rm bm mm ka v be ke p (pairOf q) (start hb arg18 (pairOf q))) shapeCasts_S128x128_S1x1x128x128 := by
    rw [View.readCov_eq_canon']
    funext x
    exact canon_rev_append rS (fun k => shapeCast S1x1x128x128 (chainK km rm bm mm ka v be ke p k (start hb arg18 k)) shapeCasts_S128x128_S1x1x128x128) disjS (entries hb) (pairOf q) x
  have eb : back arg18 (leaves km rm bm mm ka v be ke p hb arg18) q
      = backOf q (shapeCast S1x1x128x128 (chainK km rm bm mm ka v be ke p (pairOf q) (start hb arg18 (pairOf q))) shapeCasts_S128x128_S1x1x128x128) :=
    (back_eq arg18 _ q).trans (congrArg (fun z : FVec Ideal S1x1x128x128 .f32 => backOf q z) hr)
  rw [start_sq arg18 hb S0 h0, hk] at eb
  unfold backOf at eb
  rw [shapeCast_shapeCast] at eb
  refine (congrFun eb (i4 0 0 i j : S1x1x64x64.Idx)).trans ?_
  refine (put2 (M := 64) (N := 64) _ shapeCasts_S64x64_S1x1x64x64 i j).trans ?_
  refine (sl2 _ _ _ (slH q) i j (i128 ⟨q.1 % 2, by omega⟩ i) (i128 ⟨q.1 % 2, by omega⟩ j) rfl rfl).trans ?_
  rw [tr_at, sq_at, if_pos rfl]
  have e : (⟨2 * (pairOf q).1 + q.1 % 2, by have := (pairOf q).2; omega⟩ : Fin 32) = q := Fin.ext (by show 2 * (q.1 / 2) + q.1 % 2 = q.1; omega)
  show ((S1 (⟨2 * (pairOf q).1 + q.1 % 2, _⟩ : Fin 32) i j : ℝ) : EReal) = _
  rw [e]

end Cert.RwkvIdeal.Hand

end
-- ==== Proof.RwkvRead.lean ====
/- The activations and the activations before them, as a grid point reads them. -/
module

public import proofs.«01_k».proof.Proof.RwkvState
public import Idealize.ShloMosaic.Lib.WholeRead

@[expose] public section

set_option maxRecDepth 16384

noncomputable section

namespace Cert.RwkvIdeal.Hand

open Cert.RwkvIdeal Cert.RwkvIdeal.Gen Cert.RwkvIdeal.Gen.kernelRun0_A Idealize.ShloMosaic Cert.RwkvBlocks Cert.RwkvSpec Matrix

section
variable {F : FTy → Type} [FloatOps F] [Named F]

/-- A sequence's rows lie in the window. -/
theorem inbP (n : Fin 4) : ∀ a, (![n.1, 0, 0] : Fin 3 → ℕ) a + S1x16x1792.size a ≤ S4x16x1792.size a := fun a => by
  match a with
  | ⟨0, _⟩ => show n.1 + 1 ≤ 4; omega
  | ⟨1, _⟩ => show 0 + 16 ≤ 16; omega
  | ⟨2, _⟩ => show 0 + 1792 ≤ 1792; omega
/-- The window lies in itself. -/
theorem inbA : ∀ a, (![0, 0, 0] : Fin 3 → ℕ) a + S4x16x1792.size a ≤ S4x16x1792.size a := fun a => by
  match a with
  | ⟨0, _⟩ => show 0 + 4 ≤ 4; omega
  | ⟨1, _⟩ => show 0 + 16 ≤ 16; omega
  | ⟨2, _⟩ => show 0 + 1792 ≤ 1792; omega
/-- A sequence's carried row lies in its window. -/
theorem inb1 (n : Fin 4) : ∀ a, (![n.1, 0, 0] : Fin 3 → ℕ) a + S1x1x1792.size a ≤ S4x1x1792.size a := fun a => by
  match a with
  | ⟨0, _⟩ => show n.1 + 1 ≤ 4; omega
  | ⟨1, _⟩ => show 0 + 1 ≤ 1; omega
  | ⟨2, _⟩ => show 0 + 1792 ≤ 1792; omega
/-- A sequence's carried row lies in the buffer. -/
theorem inb7 (n : Fin 4) : ∀ a, (![n.1, 7, 0] : Fin 3 → ℕ) a + S1x1x1792.size a ≤ S4x24x1792.size a := fun a => by
  match a with
  | ⟨0, _⟩ => show n.1 + 1 ≤ 4; omega
  | ⟨1, _⟩ => show 7 + 1 ≤ 24; omega
  | ⟨2, _⟩ => show 0 + 1792 ≤ 1792; omega
/-- A sequence's rows lie in the buffer. -/
theorem inb8 (n : Fin 4) : ∀ a, (![n.1, 8, 0] : Fin 3 → ℕ) a + S1x16x1792.size a ≤ S4x24x1792.size a := fun a => by
  match a with
  | ⟨0, _⟩ => show n.1 + 1 ≤ 4; omega
  | ⟨1, _⟩ => show 8 + 16 ≤ 24; omega
  | ⟨2, _⟩ => show 0 + 1792 ≤ 1792; omega
/-- A sequence's preceding rows lie in the buffer. -/
theorem inbR (n : Fin 4) : ∀ a, (![n.1, 7, 0] : Fin 3 → ℕ) a + S1x16x1792.size a ≤ S4x24x1792.size a := fun a => by
  match a with
  | ⟨0, _⟩ => show n.1 + 1 ≤ 4; omega
  | ⟨1, _⟩ => show 7 + 16 ≤ 24; omega
  | ⟨2, _⟩ => show 0 + 1792 ≤ 1792; omega

/-- Batch row `n`'s place: in the activations, in those before them, and in the scratch: the row before, the rows, and the rows shifted. -/
noncomputable def rP (n : Fin 4) : Rect S4x16x1792 := Rect.unit ![n.1, 0, 0] S1x16x1792.size (inbP n)
@[inherit_doc rP] noncomputable def r1 (n : Fin 4) : Rect S4x1x1792 := Rect.unit ![n.1, 0, 0] S1x1x1792.size (inb1 n)
@[inherit_doc rP] noncomputable def r7 (n : Fin 4) : Rect S4x24x1792 := Rect.unit ![n.1, 7, 0] S1x1x1792.size (inb7 n)
@[inherit_doc rP] noncomputable def r8 (n : Fin 4) : Rect S4x24x1792 := Rect.unit ![n.1, 8, 0] S1x16x1792.size (inb8 n)
@[inherit_doc rP] noncomputable def rR (n : Fin 4) : Rect S4x24x1792 := Rect.unit ![n.1, 7, 0] S1x16x1792.size (inbR n)

variable (arg2 : Memref sig .tc .vmem S4x16x1792 .f32) (harg2 : arg2.IsWhole) (arg3 : Memref sig .tc .vmem S4x1x1792 .f32) (harg3 : arg3.IsWhole)
  (arg17 : Memref sig .tc .vmem S4x24x1792 .f32) (x0 : Vec F S4x16x1792 .f32) (x1 : Vec F S4x1x1792 .f32)

/-- What is loaded: a batch row's activations, the row before them, and all of the activations. -/
noncomputable def ldP (n : Fin 4) : FVec F S1x16x1792 .f32 := arg2.view.readAt (Elt F) (rP n).toLoadRect (harg2.unread x0)
@[inherit_doc ldP] noncomputable def ld1 (n : Fin 4) : FVec F S1x1x1792 .f32 := arg3.view.readAt (Elt F) (r1 n).toLoadRect (harg3.unread x1)
@[inherit_doc ldP] noncomputable def ldA : FVec F S4x16x1792 .f32 := arg2.view.readAt (Elt F) (Rect.unit ![0, 0, 0] S4x16x1792.size inbA).toLoadRect (harg2.unread x0)
/-- A batch row's activations, as loaded, and as stored. -/
noncomputable def rowsOf (n : Fin 4) : FVec F S16x1792 .f32 := shapeCast S16x1792 (ldP arg2 harg2 x0 n) shapeCasts_S1x16x1792_S16x1792
@[inherit_doc rowsOf] noncomputable def fullOf (n : Fin 4) : FVec F S1x16x1792 .f32 := shapeCast S1x16x1792 (rowsOf arg2 harg2 x0 n) shapeCasts_S16x1792_S1x16x1792
/-- The row before a batch row's first, as stored. -/
noncomputable def shOf (n : Fin 4) : FVec F S1x1x1792 .f32 :=
  shapeCast S1x1x1792 (shapeCast S1x1792 (ld1 arg3 harg3 x1 n) shapeCasts_S1x1x1792_S1x1792) shapeCasts_S1x1792_S1x1x1792
/-- A batch row's last row, as stored. -/
noncomputable def lastRow (n : Fin 4) : FVec F S1x1x1792 .f32 :=
  shapeCast S1x1x1792 (extractStridedSlice S1x1792 ![15, 0] (rowsOf arg2 harg2 x0 n) slices_S16x1792_o15_0_S1x1792) shapeCasts_S1x1792_S1x1x1792

/-- What the scratch holds when batch row `0`, `1`, `2`, `3` is read off it. -/
noncomputable def held0 : List (View.Piece (Elt F) S4x24x1792 .f32) :=
  [⟨r8 0, fullOf arg2 harg2 x0 0⟩, ⟨r7 3, shOf arg3 harg3 x1 3⟩, ⟨r7 2, shOf arg3 harg3 x1 2⟩, ⟨r7 1, shOf arg3 harg3 x1 1⟩, ⟨r7 0, shOf arg3 harg3 x1 0⟩]
@[inherit_doc held0] noncomputable def held1 : List (View.Piece (Elt F) S4x24x1792 .f32) :=
  ⟨r8 1, fullOf arg2 harg2 x0 1⟩ :: ⟨r7 0, lastRow arg2 harg2 x0 0⟩ :: held0 arg2 harg2 arg3 harg3 x0 x1
@[inherit_doc held0] noncomputable def held2 : List (View.Piece (Elt F) S4x24x1792 .f32) :=
  ⟨r8 2, fullOf arg2 harg2 x0 2⟩ :: ⟨r7 1, lastRow arg2 harg2 x0 1⟩ :: held1 arg2 harg2 arg3 harg3 x0 x1
@[inherit_doc held0] noncomputable def held3 : List (View.Piece (Elt F) S4x24x1792 .f32) :=
  ⟨r8 3, fullOf arg2 harg2 x0 3⟩ :: ⟨r7 2, lastRow arg2 harg2 x0 2⟩ :: held2 arg2 harg2 arg3 harg3 x0 x1

/-- A load from the scratch. -/
noncomputable def ldR (L : List (View.Piece (Elt F) S4x24x1792 .f32)) (n : Fin 4) : FVec F S1x16x1792 .f32 := arg17.view.readCov L (rR n).toLoadRect
/-- A batch row's shifted activations, as read. -/
noncomputable def seen (L : List (View.Piece (Elt F) S4x24x1792 .f32)) (n : Fin 4) : FVec F S16x1792 .f32 :=
  shapeCast S16x1792 (ldR arg17 L n) shapeCasts_S1x16x1792_S16x1792

variable (c : Dev nD)

/-- The shifted activations are the four batch rows' one under another. -/
theorem prev_tie : (sl.v49 c arg2 harg2 arg3 harg3 arg17 x0 x1) = concatenate S64x1792 0
    [⟨S16x1792, seen arg17 (held0 arg2 harg2 arg3 harg3 x0 x1) 0⟩, ⟨S16x1792, seen arg17 (held1 arg2 harg2 arg3 harg3 x0 x1) 1⟩,
     ⟨S16x1792, seen arg17 (held2 arg2 harg2 arg3 harg3 x0 x1) 2⟩, ⟨S16x1792, seen arg17 (held3 arg2 harg2 arg3 harg3 x0 x1) 3⟩]
    concatenates_S16x1792_S16x1792_S16x1792_S16x1792_S64x1792_d0 := by sl_kernel_rfl
/-- The activations likewise. -/
theorem act_tie : (sl.v48 c arg2 harg2 x0) = shapeCast S64x1792 (ldA arg2 harg2 x0) shapeCasts_S4x16x1792_S64x1792 := by sl_kernel_rfl

end

section
variable (arg2 : Memref sig .tc .vmem S4x16x1792 .f32) (harg2 : arg2.IsWhole) (arg3 : Memref sig .tc .vmem S4x1x1792 .f32) (harg3 : arg3.IsWhole)
  (arg17 : Memref sig .tc .vmem S4x24x1792 .f32) (x0 : Vec Ideal S4x16x1792 .f32) (x1 : Vec Ideal S4x1x1792 .f32)

/-- An index of three axes is its three coordinates. -/
theorem i3_ex {a b d : ℕ} (x : (⟨3, ![a, b, d]⟩ : Shape).Idx) : x = i3 (x 0) (x 1) (x 2) := funext fun e => by
  match e with | ⟨0, _⟩ => rfl | ⟨1, _⟩ => rfl | ⟨2, _⟩ => rfl

/-- A leading axis of one entry taken off. -/
theorem drop1 {α : Type} {M N : ℕ} (x : (⟨3, ![1, M, N]⟩ : Shape).Idx → α) (h : (⟨3, ![1, M, N]⟩ : Shape).ShapeCasts ⟨2, ![M, N]⟩) (a : Fin M) (b : Fin N) :
    shapeCast ⟨2, ![M, N]⟩ x h (ix2 a b) = x (i3 0 a b) :=
  shapeCast_apply x h (ix2 a b) (i3 0 a b) (by
    rw [Shape.rowMajor_val_two, Shape.rowMajor_val_three]
    show (0 * M + a.1) * N + b.1 = a.1 * N + b.1
    simp)

/-- A sequence's rows, at an entry. -/
theorem full_at (n : Fin 4) (z : Fin 1) (s : Fin 16) (d : Fin 1792) : fullOf arg2 harg2 x0 n (i3 z s d) = x0 (i3 n s d) := by
  unfold fullOf rowsOf
  rw [shapeCast_shapeCast]
  unfold ldP
  refine (Memref.IsWhole.readAt_unread harg2 x0 (rP n).toLoadRect (i3 z s d : S1x16x1792.Idx)).trans (congrArg x0 (funext fun a => Fin.ext ?_))
  match a with
  | ⟨0, _⟩ => show n.1 + 1 * z.1 = n.1; omega
  | ⟨1, _⟩ => show 0 + 1 * s.1 = s.1; omega
  | ⟨2, _⟩ => show 0 + 1 * d.1 = d.1; omega

/-- The carried row, at an entry. -/
theorem sh_at (n : Fin 4) (z y : Fin 1) (d : Fin 1792) : shOf arg3 harg3 x1 n (i3 z y d) = x1 (i3 n 0 d) := by
  unfold shOf
  rw [shapeCast_shapeCast]
  unfold ld1
  refine (Memref.IsWhole.readAt_unread harg3 x1 (r1 n).toLoadRect (i3 z y d : S1x1x1792.Idx)).trans (congrArg x1 (funext fun a => Fin.ext ?_))
  match a with
  | ⟨0, _⟩ => show n.1 + 1 * z.1 = n.1; omega
  | ⟨1, _⟩ => show 0 + 1 * y.1 = 0; omega
  | ⟨2, _⟩ => show 0 + 1 * d.1 = d.1; omega

/-- The row before row `t`. -/
noncomputable def beforeRow (n : Fin 4) (t : Fin 16) (d : Fin 1792) : EReal := if t.1 = 0 then x1 (i3 n 0 d) else x0 (i3 n ⟨t.1 - 1, by omega⟩ d)
/-- Where it is read. -/
def yy (n : Fin 4) (t : Fin 16) (d : Fin 1792) : S4x24x1792.Idx := i3 n ⟨7 + t.1, by omega⟩ d

/-- Where a sequence's rows are written, the buffer holds the row before each row. -/
theorem at8 (n n' : Fin 4) (t : Fin 16) (d : Fin 1792) :
    View.RectAt (Val := Elt Ideal) (e := .f32) (yy n t d) (r8 n') (fullOf arg2 harg2 x0 n') (beforeRow x0 x1 n t d) := by
  intro x hx
  have h0 : n'.1 + 1 * (x 0).1 = n.1 := congrArg Fin.val (congrFun hx 0)
  have h1 : 8 + 1 * (x 1).1 = 7 + t.1 := congrArg Fin.val (congrFun hx 1)
  have h2 : 0 + 1 * (x 2).1 = d.1 := congrArg Fin.val (congrFun hx 2)
  have l0 : (x 0).1 < 1 := (x 0).isLt
  have ex : x = (i3 (0 : Fin 1) (⟨t.1 - 1, by omega⟩ : Fin 16) d : S1x16x1792.Idx) := funext fun a => Fin.ext (by
    match a with
    | ⟨0, _⟩ => show (x 0).1 = 0; omega
    | ⟨1, _⟩ => show (x 1).1 = t.1 - 1; omega
    | ⟨2, _⟩ => show (x 2).1 = d.1; omega)
  have en : n' = n := Fin.ext (by omega)
  rw [ex, en]
  refine (full_at arg2 harg2 x0 n 0 _ d).trans ?_
  unfold beforeRow
  rw [if_neg (by omega)]

/-- Where the carried row is written, the buffer holds the row before the first. -/
theorem at7 (n n' : Fin 4) (t : Fin 16) (d : Fin 1792) :
    View.RectAt (Val := Elt Ideal) (e := .f32) (yy n t d) (r7 n') (shOf arg3 harg3 x1 n') (beforeRow x0 x1 n t d) := by
  intro x hx
  have h0 : n'.1 + 1 * (x 0).1 = n.1 := congrArg Fin.val (congrFun hx 0)
  have h1 : 7 + 1 * (x 1).1 = 7 + t.1 := congrArg Fin.val (congrFun hx 1)
  have h2 : 0 + 1 * (x 2).1 = d.1 := congrArg Fin.val (congrFun hx 2)
  have l0 : (x 0).1 < 1 := (x 0).isLt
  have l1 : (x 1).1 < 1 := (x 1).isLt
  have ex : x = (i3 (0 : Fin 1) (0 : Fin 1) d : S1x1x1792.Idx) := funext fun a => Fin.ext (by
    match a with
    | ⟨0, _⟩ => show (x 0).1 = 0; omega
    | ⟨1, _⟩ => show (x 1).1 = 0; omega
    | ⟨2, _⟩ => show (x 2).1 = d.1; omega)
  have en : n' = n := Fin.ext (by omega)
  rw [ex, en]
  refine (sh_at arg3 harg3 x1 n 0 0 d).trans ?_
  unfold beforeRow
  rw [if_pos (by omega)]

/-- Another sequence's last row is not touched. -/
theorem atL (n n' : Fin 4) (hn : n' ≠ n) (t : Fin 16) (d : Fin 1792) :
    View.RectAt (Val := Elt Ideal) (e := .f32) (yy n t d) (r7 n') (lastRow arg2 harg2 x0 n') (beforeRow x0 x1 n t d) := by
  intro x hx
  have h0 : n'.1 + 1 * (x 0).1 = n.1 := congrArg Fin.val (congrFun hx 0)
  have l0 : (x 0).1 < 1 := (x 0).isLt
  exact absurd (Fin.ext (by omega)) hn

/-- The buffer holds the first sequence. -/
theorem all0 (n : Fin 4) (t : Fin 16) (d : Fin 1792) : View.AllAt (held0 arg2 harg2 arg3 harg3 x0 x1) (yy n t d) (beforeRow x0 x1 n t d) :=
  View.allAt_cons _ _ _ (at8 arg2 harg2 x0 x1 n 0 t d) (View.allAt_cons _ _ _ (at7 arg3 harg3 x0 x1 n 3 t d) (View.allAt_cons _ _ _ (at7 arg3 harg3 x0 x1 n 2 t d)
    (View.allAt_cons _ _ _ (at7 arg3 harg3 x0 x1 n 1 t d) (View.allAt_cons _ _ _ (at7 arg3 harg3 x0 x1 n 0 t d) (View.allAt_nil _ _)))))
/-- The buffer holds the second as well. -/
theorem all1 (n : Fin 4) (h0 : 0 ≠ n) (t : Fin 16) (d : Fin 1792) : View.AllAt (held1 arg2 harg2 arg3 harg3 x0 x1) (yy n t d) (beforeRow x0 x1 n t d) :=
  View.allAt_cons _ _ _ (at8 arg2 harg2 x0 x1 n 1 t d) (View.allAt_cons _ _ _ (atL arg2 harg2 x0 x1 n 0 h0 t d) (all0 arg2 harg2 arg3 harg3 x0 x1 n t d))
/-- The buffer holds the third as well. -/
theorem all2 (n : Fin 4) (h0 : 0 ≠ n) (h1 : 1 ≠ n) (t : Fin 16) (d : Fin 1792) : View.AllAt (held2 arg2 harg2 arg3 harg3 x0 x1) (yy n t d) (beforeRow x0 x1 n t d) :=
  View.allAt_cons _ _ _ (at8 arg2 harg2 x0 x1 n 2 t d) (View.allAt_cons _ _ _ (atL arg2 harg2 x0 x1 n 1 h1 t d) (all1 arg2 harg2 arg3 harg3 x0 x1 n h0 t d))
/-- The buffer holds the fourth as well. -/
theorem all3 (n : Fin 4) (h0 : 0 ≠ n) (h1 : 1 ≠ n) (h2 : 2 ≠ n) (t : Fin 16) (d : Fin 1792) : View.AllAt (held3 arg2 harg2 arg3 harg3 x0 x1) (yy n t d) (beforeRow x0 x1 n t d) :=
  View.allAt_cons _ _ _ (at8 arg2 harg2 x0 x1 n 3 t d) (View.allAt_cons _ _ _ (atL arg2 harg2 x0 x1 n 2 h2 t d) (all2 arg2 harg2 arg3 harg3 x0 x1 n h0 h1 t d))

/-- The pieces that hold it. -/
theorem in8 (n : Fin 4) (t : Fin 16) (ht : t.1 ≠ 0) (d : Fin 1792) : yy n t d ∈ (r8 n).set := Rect.mem_set_unit.mpr fun a => by
  match a with
  | ⟨0, _⟩ => show n.1 ≤ n.1 ∧ n.1 < n.1 + 1; omega
  | ⟨1, _⟩ => show 8 ≤ 7 + t.1 ∧ 7 + t.1 < 8 + 16; omega
  | ⟨2, _⟩ => show 0 ≤ d.1 ∧ d.1 < 0 + 1792; omega
@[inherit_doc in8] theorem in7 (n : Fin 4) (t : Fin 16) (ht : t.1 = 0) (d : Fin 1792) : yy n t d ∈ (r7 n).set := Rect.mem_set_unit.mpr fun a => by
  match a with
  | ⟨0, _⟩ => show n.1 ≤ n.1 ∧ n.1 < n.1 + 1; omega
  | ⟨1, _⟩ => show 7 ≤ 7 + t.1 ∧ 7 + t.1 < 7 + 1; omega
  | ⟨2, _⟩ => show 0 ≤ d.1 ∧ d.1 < 0 + 1792; omega

/-- The shifted activations, at an index. -/
theorem seen_at (L : List (View.Piece (Elt Ideal) S4x24x1792 .f32)) (n : Fin 4) (t : Fin 16) (d : Fin 1792)
    (h8 : (⟨r8 n, fullOf arg2 harg2 x0 n⟩ : View.Piece (Elt Ideal) S4x24x1792 .f32) ∈ L) (h7 : (⟨r7 n, shOf arg3 harg3 x1 n⟩ : View.Piece (Elt Ideal) S4x24x1792 .f32) ∈ L)
    (hL : View.AllAt L (yy n t d) (beforeRow x0 x1 n t d)) : seen arg17 L n (ix2 t d) = beforeRow x0 x1 n t d := by
  unfold seen
  refine (drop1 (M := 16) (N := 1792) _ shapeCasts_S1x16x1792_S16x1792 t d).trans ?_
  unfold ldR
  rw [View.readCov_eq_canon']
  have e : ((rR n).toLoadRect.idx (i3 0 t d : S1x16x1792.Idx)) = yy n t d := funext fun a => Fin.ext (by
    match a with
    | ⟨0, _⟩ => show n.1 + 1 * 0 = n.1; omega
    | ⟨1, _⟩ => show 7 + 1 * t.1 = 7 + t.1; omega
    | ⟨2, _⟩ => show 0 + 1 * d.1 = d.1; omega)
  refine (congrArg (View.canon L) e).trans (View.canon_eq_of_allAt L _ _ ?_ hL)
  by_cases ht : t.1 = 0
  · exact ⟨_, h7, in7 n t ht d⟩
  · exact ⟨_, h8, in8 n t ht d⟩

/-- The shifted activations of all four rows. -/
theorem prev_at (c : Dev nD) (n : Fin 4) (t : Fin 16) (d : Fin 1792) : (sl.v49 c arg2 harg2 arg3 harg3 arg17 x0 x1) (ix2 (i64 n t) d) = beforeRow x0 x1 n t d := by
  rw [prev_tie]
  refine (cat0_4 (m := 16) (n := 1792) (M := 64) ![seen arg17 (held0 arg2 harg2 arg3 harg3 x0 x1) 0, seen arg17 (held1 arg2 harg2 arg3 harg3 x0 x1) 1,
    seen arg17 (held2 arg2 harg2 arg3 harg3 x0 x1) 2, seen arg17 (held3 arg2 harg2 arg3 harg3 x0 x1) 3]
    concatenates_S16x1792_S16x1792_S16x1792_S16x1792_S64x1792_d0 n t d (i64 n t) rfl).trans ?_
  match n with
  | 0 => exact seen_at arg2 harg2 arg3 harg3 arg17 x0 x1 _ 0 t d (by simp [held0]) (by simp [held0]) (all0 arg2 harg2 arg3 harg3 x0 x1 0 t d)
  | 1 => exact seen_at arg2 harg2 arg3 harg3 arg17 x0 x1 _ 1 t d (by simp [held1]) (by simp [held1, held0]) (all1 arg2 harg2 arg3 harg3 x0 x1 1 (by decide) t d)
  | 2 => exact seen_at arg2 harg2 arg3 harg3 arg17 x0 x1 _ 2 t d (by simp [held2]) (by simp [held2, held1, held0]) (all2 arg2 harg2 arg3 harg3 x0 x1 2 (by decide) (by decide) t d)
  | 3 => exact seen_at arg2 harg2 arg3 harg3 arg17 x0 x1 _ 3 t d (by simp [held3]) (by simp [held3, held2, held1, held0]) (all3 arg2 harg2 arg3 harg3 x0 x1 3 (by decide) (by decide) (by decide) t d)

/-- The activations of all four rows. -/
theorem act_at (c : Dev nD) (n : Fin 4) (t : Fin 16) (d : Fin 1792) : (sl.v48 c arg2 harg2 x0) (ix2 (i64 n t) d) = x0 (i3 n t d) := by
  rw [act_tie]
  refine (shapeCast_apply _ shapeCasts_S4x16x1792_S64x1792 (ix2 (i64 n t) d) (i3 n t d : S4x16x1792.Idx) (by
    rw [Shape.rowMajor_val_two, Shape.rowMajor_val_three]
    show (n.1 * 16 + t.1) * 1792 + d.1 = (16 * n.1 + t.1) * 1792 + d.1
    omega)).trans ?_
  unfold ldA
  refine (Memref.IsWhole.readAt_unread harg2 x0 (Rect.unit ![0, 0, 0] S4x16x1792.size inbA).toLoadRect (i3 n t d : S4x16x1792.Idx)).trans (congrArg x0 (funext fun a => Fin.ext ?_))
  match a with
  | ⟨0, _⟩ => show 0 + 1 * n.1 = n.1; omega
  | ⟨1, _⟩ => show 0 + 1 * t.1 = t.1; omega
  | ⟨2, _⟩ => show 0 + 1 * d.1 = d.1; omega

/-- A load of a whole small array. -/
theorem whole2 {sg : RefSig} {M N : ℕ} {e : EltTy} (a : Memref sg .tc .vmem ⟨2, ![M, N]⟩ e) (h : a.IsWhole) (X : Vec Ideal ⟨2, ![M, N]⟩ e)
    (inb : ∀ d, (![0, 0] : Fin 2 → ℕ) d + (⟨2, ![M, N]⟩ : Shape).size d ≤ (⟨2, ![M, N]⟩ : Shape).size d) (x : (⟨2, ![M, N]⟩ : Shape).Idx) :
    a.view.readAt (Elt Ideal) (Rect.unit ![0, 0] (⟨2, ![M, N]⟩ : Shape).size inb).toLoadRect (h.unread X) x = X x :=
  (Memref.IsWhole.readAt_unread h X (Rect.unit ![0, 0] (⟨2, ![M, N]⟩ : Shape).size inb).toLoadRect x).trans (congrArg X (funext fun d => Fin.ext (by
    match d with
    | ⟨0, _⟩ => show 0 + 1 * (x 0).1 = (x 0).1; omega
    | ⟨1, _⟩ => show 0 + 1 * (x 1).1 = (x 1).1; omega)))

end

end Cert.RwkvIdeal.Hand

end
-- ==== Proof.RwkvTie.lean ====
/- The run's pieces are the stages of RwkvModel. -/
module

public import proofs.«01_k».proof.Proof.RwkvModel

@[expose] public section

noncomputable section

namespace Cert.RwkvIdeal.Hand

open Cert.RwkvIdeal Cert.RwkvIdeal.Gen Cert.RwkvIdeal.Gen.kernelRun0_A Idealize.ShloMosaic

variable {F : FTy → Type} [FloatOps F] [Named F]

/-- One head's entry state, as loaded. -/
noncomputable def headIn (arg4 : Memref sig .tc .vmem S4x8x64x64 .f32) (harg4 : arg4.IsWhole) (x2 : Vec F S4x8x64x64 .f32) (k : Fin 32) : Vec F S1x1x64x64 .f32 :=
  arg4.view.readAt (Elt F) (rH k).toLoadRect (harg4.unread x2)

variable (c : Dev nD) (arg2 : Memref sig .tc .vmem S4x16x1792 .f32) (harg2 : arg2.IsWhole) (arg3 : Memref sig .tc .vmem S4x1x1792 .f32) (harg3 : arg3.IsWhole) (arg4 : Memref sig .tc .vmem S4x8x64x64 .f32) (harg4 : arg4.IsWhole) (arg5 : Memref sig .tc .vmem S1x1792 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (arg13 : Memref sig .tc .vmem S128x1024 .bf16) (harg13 : arg13.IsWhole) (arg17 : Memref sig .tc .vmem S4x24x1792 .f32) (arg18 : Memref sig .tc .vmem S4x4x128x128 .f32) (x0 : Vec F S4x16x1792 .f32) (x1 : Vec F S4x1x1792 .f32) (x2 : Vec F S4x8x64x64 .f32) (x3 : Vec F S1x1792 .f32) (x4 : Vec F S1x512 .f32) (x5 : Vec F S1x512 .f32) (x6 : Vec F S1x512 .f32) (x7 : Vec F S1x512 .f32) (x11 : Vec F S128x1024 .bf16)

/-- The entry state of pair 0. -/
theorem ent0 : (sl.v11241 c arg4 harg4 x2) = entry (headIn arg4 harg4 x2) 0 := by sl_kernel_rfl
/-- The entry state of pair 1. -/
theorem ent1 : (sl.v11252 c arg4 harg4 x2) = entry (headIn arg4 harg4 x2) 1 := by sl_kernel_rfl
/-- The entry state of pair 2. -/
theorem ent2 : (sl.v11263 c arg4 harg4 x2) = entry (headIn arg4 harg4 x2) 2 := by sl_kernel_rfl
/-- The entry state of pair 3. -/
theorem ent3 : (sl.v11274 c arg4 harg4 x2) = entry (headIn arg4 harg4 x2) 3 := by sl_kernel_rfl
/-- The entry state of pair 4. -/
theorem ent4 : (sl.v11285 c arg4 harg4 x2) = entry (headIn arg4 harg4 x2) 4 := by sl_kernel_rfl
/-- The entry state of pair 5. -/
theorem ent5 : (sl.v11296 c arg4 harg4 x2) = entry (headIn arg4 harg4 x2) 5 := by sl_kernel_rfl
/-- The entry state of pair 6. -/
theorem ent6 : (sl.v11307 c arg4 harg4 x2) = entry (headIn arg4 harg4 x2) 6 := by sl_kernel_rfl
/-- The entry state of pair 7. -/
theorem ent7 : (sl.v11318 c arg4 harg4 x2) = entry (headIn arg4 harg4 x2) 7 := by sl_kernel_rfl
/-- The entry state of pair 8. -/
theorem ent8 : (sl.v11329 c arg4 harg4 x2) = entry (headIn arg4 harg4 x2) 8 := by sl_kernel_rfl
/-- The entry state of pair 9. -/
theorem ent9 : (sl.v11340 c arg4 harg4 x2) = entry (headIn arg4 harg4 x2) 9 := by sl_kernel_rfl
/-- The entry state of pair 10. -/
theorem ent10 : (sl.v11351 c arg4 harg4 x2) = entry (headIn arg4 harg4 x2) 10 := by sl_kernel_rfl
/-- The entry state of pair 11. -/
theorem ent11 : (sl.v11362 c arg4 harg4 x2) = entry (headIn arg4 harg4 x2) 11 := by sl_kernel_rfl
/-- The entry state of pair 12. -/
theorem ent12 : (sl.v11373 c arg4 harg4 x2) = entry (headIn arg4 harg4 x2) 12 := by sl_kernel_rfl
/-- The entry state of pair 13. -/
theorem ent13 : (sl.v11384 c arg4 harg4 x2) = entry (headIn arg4 harg4 x2) 13 := by sl_kernel_rfl
/-- The entry state of pair 14. -/
theorem ent14 : (sl.v11395 c arg4 harg4 x2) = entry (headIn arg4 harg4 x2) 14 := by sl_kernel_rfl
/-- The entry state of pair 15. -/
theorem ent15 : (sl.v11406 c arg4 harg4 x2) = entry (headIn arg4 harg4 x2) 15 := by sl_kernel_rfl

/-- The scratch at the start. -/
theorem entries_tie : (sl.HS1_16 c arg4 harg4 x2) = entries (headIn arg4 harg4 x2) := by sl_kernel_rfl

end Cert.RwkvIdeal.Hand

end
-- ==== Proof.RwkvTieB.lean ====
/- The states each pair enters with. -/
module

public import proofs.«01_k».proof.Proof.RwkvTie

@[expose] public section

noncomputable section

namespace Cert.RwkvIdeal.Hand

open Cert.RwkvIdeal Cert.RwkvIdeal.Gen Cert.RwkvIdeal.Gen.kernelRun0_A Idealize.ShloMosaic

variable {F : FTy → Type} [FloatOps F] [Named F]
variable (c : Dev nD) (arg2 : Memref sig .tc .vmem S4x16x1792 .f32) (harg2 : arg2.IsWhole) (arg3 : Memref sig .tc .vmem S4x1x1792 .f32) (harg3 : arg3.IsWhole) (arg4 : Memref sig .tc .vmem S4x8x64x64 .f32) (harg4 : arg4.IsWhole) (arg5 : Memref sig .tc .vmem S1x1792 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (arg13 : Memref sig .tc .vmem S128x1024 .bf16) (harg13 : arg13.IsWhole) (arg17 : Memref sig .tc .vmem S4x24x1792 .f32) (arg18 : Memref sig .tc .vmem S4x4x128x128 .f32) (x0 : Vec F S4x16x1792 .f32) (x1 : Vec F S4x1x1792 .f32) (x2 : Vec F S4x8x64x64 .f32) (x3 : Vec F S1x1792 .f32) (x4 : Vec F S1x512 .f32) (x5 : Vec F S1x512 .f32) (x6 : Vec F S1x512 .f32) (x7 : Vec F S1x512 .f32) (x11 : Vec F S128x1024 .bf16)

/-- The state pair 0 enters with. -/
theorem start0 : (sl.v10863 c arg4 harg4 arg18 x2) = start (headIn arg4 harg4 x2) arg18 0 := by
  have e : (sl.v10863 c arg4 harg4 arg18 x2) = shapeCast S128x128 (arg18.view.readCov (sl.HS1_16 c arg4 harg4 x2) (rS 0).toLoadRect) shapeCasts_S1x1x128x128_S128x128 := by sl_kernel_rfl
  rw [e, entries_tie]; rfl
/-- The state pair 1 enters with. -/
theorem start1 : (sl.v10865 c arg4 harg4 arg18 x2) = start (headIn arg4 harg4 x2) arg18 1 := by
  have e : (sl.v10865 c arg4 harg4 arg18 x2) = shapeCast S128x128 (arg18.view.readCov (sl.HS1_16 c arg4 harg4 x2) (rS 1).toLoadRect) shapeCasts_S1x1x128x128_S128x128 := by sl_kernel_rfl
  rw [e, entries_tie]; rfl
/-- The state pair 2 enters with. -/
theorem start2 : (sl.v10867 c arg4 harg4 arg18 x2) = start (headIn arg4 harg4 x2) arg18 2 := by
  have e : (sl.v10867 c arg4 harg4 arg18 x2) = shapeCast S128x128 (arg18.view.readCov (sl.HS1_16 c arg4 harg4 x2) (rS 2).toLoadRect) shapeCasts_S1x1x128x128_S128x128 := by sl_kernel_rfl
  rw [e, entries_tie]; rfl
/-- The state pair 3 enters with. -/
theorem start3 : (sl.v10869 c arg4 harg4 arg18 x2) = start (headIn arg4 harg4 x2) arg18 3 := by
  have e : (sl.v10869 c arg4 harg4 arg18 x2) = shapeCast S128x128 (arg18.view.readCov (sl.HS1_16 c arg4 harg4 x2) (rS 3).toLoadRect) shapeCasts_S1x1x128x128_S128x128 := by sl_kernel_rfl
  rw [e, entries_tie]; rfl
/-- The state pair 4 enters with. -/
theorem start4 : (sl.v10871 c arg4 harg4 arg18 x2) = start (headIn arg4 harg4 x2) arg18 4 := by
  have e : (sl.v10871 c arg4 harg4 arg18 x2) = shapeCast S128x128 (arg18.view.readCov (sl.HS1_16 c arg4 harg4 x2) (rS 4).toLoadRect) shapeCasts_S1x1x128x128_S128x128 := by sl_kernel_rfl
  rw [e, entries_tie]; rfl
/-- The state pair 5 enters with. -/
theorem start5 : (sl.v10873 c arg4 harg4 arg18 x2) = start (headIn arg4 harg4 x2) arg18 5 := by
  have e : (sl.v10873 c arg4 harg4 arg18 x2) = shapeCast S128x128 (arg18.view.readCov (sl.HS1_16 c arg4 harg4 x2) (rS 5).toLoadRect) shapeCasts_S1x1x128x128_S128x128 := by sl_kernel_rfl
  rw [e, entries_tie]; rfl
/-- The state pair 6 enters with. -/
theorem start6 : (sl.v10875 c arg4 harg4 arg18 x2) = start (headIn arg4 harg4 x2) arg18 6 := by
  have e : (sl.v10875 c arg4 harg4 arg18 x2) = shapeCast S128x128 (arg18.view.readCov (sl.HS1_16 c arg4 harg4 x2) (rS 6).toLoadRect) shapeCasts_S1x1x128x128_S128x128 := by sl_kernel_rfl
  rw [e, entries_tie]; rfl
/-- The state pair 7 enters with. -/
theorem start7 : (sl.v10877 c arg4 harg4 arg18 x2) = start (headIn arg4 harg4 x2) arg18 7 := by
  have e : (sl.v10877 c arg4 harg4 arg18 x2) = shapeCast S128x128 (arg18.view.readCov (sl.HS1_16 c arg4 harg4 x2) (rS 7).toLoadRect) shapeCasts_S1x1x128x128_S128x128 := by sl_kernel_rfl
  rw [e, entries_tie]; rfl
/-- The state pair 8 enters with. -/
theorem start8 : (sl.v10879 c arg4 harg4 arg18 x2) = start (headIn arg4 harg4 x2) arg18 8 := by
  have e : (sl.v10879 c arg4 harg4 arg18 x2) = shapeCast S128x128 (arg18.view.readCov (sl.HS1_16 c arg4 harg4 x2) (rS 8).toLoadRect) shapeCasts_S1x1x128x128_S128x128 := by sl_kernel_rfl
  rw [e, entries_tie]; rfl
/-- The state pair 9 enters with. -/
theorem start9 : (sl.v10881 c arg4 harg4 arg18 x2) = start (headIn arg4 harg4 x2) arg18 9 := by
  have e : (sl.v10881 c arg4 harg4 arg18 x2) = shapeCast S128x128 (arg18.view.readCov (sl.HS1_16 c arg4 harg4 x2) (rS 9).toLoadRect) shapeCasts_S1x1x128x128_S128x128 := by sl_kernel_rfl
  rw [e, entries_tie]; rfl
/-- The state pair 10 enters with. -/
theorem start10 : (sl.v10883 c arg4 harg4 arg18 x2) = start (headIn arg4 harg4 x2) arg18 10 := by
  have e : (sl.v10883 c arg4 harg4 arg18 x2) = shapeCast S128x128 (arg18.view.readCov (sl.HS1_16 c arg4 harg4 x2) (rS 10).toLoadRect) shapeCasts_S1x1x128x128_S128x128 := by sl_kernel_rfl
  rw [e, entries_tie]; rfl
/-- The state pair 11 enters with. -/
theorem start11 : (sl.v10885 c arg4 harg4 arg18 x2) = start (headIn arg4 harg4 x2) arg18 11 := by
  have e : (sl.v10885 c arg4 harg4 arg18 x2) = shapeCast S128x128 (arg18.view.readCov (sl.HS1_16 c arg4 harg4 x2) (rS 11).toLoadRect) shapeCasts_S1x1x128x128_S128x128 := by sl_kernel_rfl
  rw [e, entries_tie]; rfl
/-- The state pair 12 enters with. -/
theorem start12 : (sl.v10887 c arg4 harg4 arg18 x2) = start (headIn arg4 harg4 x2) arg18 12 := by
  have e : (sl.v10887 c arg4 harg4 arg18 x2) = shapeCast S128x128 (arg18.view.readCov (sl.HS1_16 c arg4 harg4 x2) (rS 12).toLoadRect) shapeCasts_S1x1x128x128_S128x128 := by sl_kernel_rfl
  rw [e, entries_tie]; rfl
/-- The state pair 13 enters with. -/
theorem start13 : (sl.v10889 c arg4 harg4 arg18 x2) = start (headIn arg4 harg4 x2) arg18 13 := by
  have e : (sl.v10889 c arg4 harg4 arg18 x2) = shapeCast S128x128 (arg18.view.readCov (sl.HS1_16 c arg4 harg4 x2) (rS 13).toLoadRect) shapeCasts_S1x1x128x128_S128x128 := by sl_kernel_rfl
  rw [e, entries_tie]; rfl
/-- The state pair 14 enters with. -/
theorem start14 : (sl.r_3 c arg4 harg4 arg18 x2) = start (headIn arg4 harg4 x2) arg18 14 := by
  have e : (sl.r_3 c arg4 harg4 arg18 x2) = shapeCast S128x128 (arg18.view.readCov (sl.HS1_16 c arg4 harg4 x2) (rS 14).toLoadRect) shapeCasts_S1x1x128x128_S128x128 := by sl_kernel_rfl
  rw [e, entries_tie]; rfl
/-- The state pair 15 enters with. -/
theorem start15 : (sl.r_4 c arg4 harg4 arg18 x2) = start (headIn arg4 harg4 x2) arg18 15 := by
  have e : (sl.r_4 c arg4 harg4 arg18 x2) = shapeCast S128x128 (arg18.view.readCov (sl.HS1_16 c arg4 harg4 x2) (rS 15).toLoadRect) shapeCasts_S1x1x128x128_S128x128 := by sl_kernel_rfl
  rw [e, entries_tie]; rfl

end Cert.RwkvIdeal.Hand

end
-- ==== Proof.RwkvTieC.lean ====
/- The states each pair leaves with. -/
module

public import proofs.«01_k».proof.Proof.RwkvTie

@[expose] public section

noncomputable section

namespace Cert.RwkvIdeal.Hand

open Cert.RwkvIdeal Cert.RwkvIdeal.Gen Cert.RwkvIdeal.Gen.kernelRun0_A Idealize.ShloMosaic

variable {F : FTy → Type} [FloatOps F] [Named F]
variable (c : Dev nD) (arg2 : Memref sig .tc .vmem S4x16x1792 .f32) (harg2 : arg2.IsWhole) (arg3 : Memref sig .tc .vmem S4x1x1792 .f32) (harg3 : arg3.IsWhole) (arg4 : Memref sig .tc .vmem S4x8x64x64 .f32) (harg4 : arg4.IsWhole) (arg5 : Memref sig .tc .vmem S1x1792 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (arg13 : Memref sig .tc .vmem S128x1024 .bf16) (harg13 : arg13.IsWhole) (arg17 : Memref sig .tc .vmem S4x24x1792 .f32) (arg18 : Memref sig .tc .vmem S4x4x128x128 .f32) (x0 : Vec F S4x16x1792 .f32) (x1 : Vec F S4x1x1792 .f32) (x2 : Vec F S4x8x64x64 .f32) (x3 : Vec F S1x1792 .f32) (x4 : Vec F S1x512 .f32) (x5 : Vec F S1x512 .f32) (x6 : Vec F S1x512 .f32) (x7 : Vec F S1x512 .f32) (x11 : Vec F S128x1024 .bf16)

/-- The state pair 0 leaves with. -/
theorem leave0 : k0_pay1265 (sl.v10625 c arg2 harg2 arg3 harg3 arg5 harg5 arg6 harg6 arg7 harg7 arg8 harg8 arg9 harg9 arg13 harg13 arg17 x0 x1 x3 x4 x5 x6 x7 x11) (sl.v10688 c arg2 harg2 arg3 harg3 arg5 harg5 arg6 harg6 arg7 harg7 arg8 harg8 arg9 harg9 arg13 harg13 arg17 x0 x1 x3 x4 x5 x6 x7 x11) (sl.v10741 c arg2 harg2 arg3 harg3 arg5 harg5 arg6 harg6 arg13 harg13 arg17 x0 x1 x3 x4 x11) (sl.v10863 c arg4 harg4 arg18 x2) (sl.r_5 c arg4 harg4 arg18 x2) = shapeCast S1x1x128x128 (chain (blk (sl.v297 c arg2 harg2 arg3 harg3 arg5 harg5 arg6 harg6 arg8 harg8 arg13 harg13 arg17 x0 x1 x3 x4 x6 x11) 0) (blk (sl.v294 c arg2 harg2 arg3 harg3 arg5 harg5 arg6 harg6 arg13 harg13 arg17 x0 x1 x3 x4 x11) 0) (blk (sl.v300 c arg2 harg2 arg3 harg3 arg5 harg5 arg6 harg6 arg7 harg7 arg8 harg8 arg13 harg13 arg17 x0 x1 x3 x4 x5 x6 x11) 0) (blk (sl.v301 c arg2 harg2 arg3 harg3 arg5 harg5 arg6 harg6 arg7 harg7 arg9 harg9 arg13 harg13 arg17 x0 x1 x3 x4 x5 x7 x11) 0) (blk (sl.v291 c arg2 harg2 arg3 harg3 arg5 harg5 arg6 harg6 arg8 harg8 arg13 harg13 arg17 x0 x1 x3 x4 x6 x11) 0) (blk (sl.v58 c arg2 harg2 arg3 harg3 arg5 harg5 arg17 x0 x1 x3) 0) (blk (sl.v304 c arg2 harg2 arg3 harg3 arg5 harg5 arg6 harg6 arg7 harg7 arg8 harg8 arg13 harg13 arg17 x0 x1 x3 x4 x5 x6 x11) 0) (blk (sl.v305 c arg2 harg2 arg3 harg3 arg5 harg5 arg6 harg6 arg7 harg7 arg9 harg9 arg13 harg13 arg17 x0 x1 x3 x4 x5 x7 x11) 0) (blk (sl.v306 c arg2 harg2 arg3 harg3 arg5 harg5 arg6 harg6 arg13 harg13 arg17 x0 x1 x3 x4 x11) 0) (sl.v10863 c arg4 harg4 arg18 x2)) shapeCasts_S128x128_S1x1x128x128 := by sl_kernel_rfl
/-- The state pair 1 leaves with. -/
theorem leave1 : k0_pay1266 (sl.v10629 c arg2 harg2 arg3 harg3 arg5 harg5 arg6 harg6 arg7 harg7 arg8 harg8 arg9 harg9 arg13 harg13 arg17 x0 x1 x3 x4 x5 x6 x7 x11) (sl.v10691 c arg2 harg2 arg3 harg3 arg5 harg5 arg6 harg6 arg7 harg7 arg8 harg8 arg9 harg9 arg13 harg13 arg17 x0 x1 x3 x4 x5 x6 x7 x11) (sl.v10749 c arg2 harg2 arg3 harg3 arg5 harg5 arg6 harg6 arg13 harg13 arg17 x0 x1 x3 x4 x11) (sl.v10865 c arg4 harg4 arg18 x2) (sl.r_6 c arg4 harg4 arg18 x2) = shapeCast S1x1x128x128 (chain (blk (sl.v297 c arg2 harg2 arg3 harg3 arg5 harg5 arg6 harg6 arg8 harg8 arg13 harg13 arg17 x0 x1 x3 x4 x6 x11) 1) (blk (sl.v294 c arg2 harg2 arg3 harg3 arg5 harg5 arg6 harg6 arg13 harg13 arg17 x0 x1 x3 x4 x11) 1) (blk (sl.v300 c arg2 harg2 arg3 harg3 arg5 harg5 arg6 harg6 arg7 harg7 arg8 harg8 arg13 harg13 arg17 x0 x1 x3 x4 x5 x6 x11) 1) (blk (sl.v301 c arg2 harg2 arg3 harg3 arg5 harg5 arg6 harg6 arg7 harg7 arg9 harg9 arg13 harg13 arg17 x0 x1 x3 x4 x5 x7 x11) 1) (blk (sl.v291 c arg2 harg2 arg3 harg3 arg5 harg5 arg6 harg6 arg8 harg8 arg13 harg13 arg17 x0 x1 x3 x4 x6 x11) 1) (blk (sl.v58 c arg2 harg2 arg3 harg3 arg5 harg5 arg17 x0 x1 x3) 1) (blk (sl.v304 c arg2 harg2 arg3 harg3 arg5 harg5 arg6 harg6 arg7 harg7 arg8 harg8 arg13 harg13 arg17 x0 x1 x3 x4 x5 x6 x11) 1) (blk (sl.v305 c arg2 harg2 arg3 harg3 arg5 harg5 arg6 harg6 arg7 harg7 arg9 harg9 arg13 harg13 arg17 x0 x1 x3 x4 x5 x7 x11) 1) (blk (sl.v306 c arg2 harg2 arg3 harg3 arg5 harg5 arg6 harg6 arg13 harg13 arg17 x0 x1 x3 x4 x11) 1) (sl.v10865 c arg4 harg4 arg18 x2)) shapeCasts_S128x128_S1x1x128x128 := by sl_kernel_rfl
/-- The state pair 2 leaves with. -/
theorem leave2 : k0_pay1267 (sl.v10633 c arg2 harg2 arg3 harg3 arg5 harg5 arg6 harg6 arg7 harg7 arg8 harg8 arg9 harg9 arg13 harg13 arg17 x0 x1 x3 x4 x5 x6 x7 x11) (sl.v10694 c arg2 harg2 arg3 harg3 arg5 harg5 arg6 harg6 arg7 harg7 arg8 harg8 arg9 harg9 arg13 harg13 arg17 x0 x1 x3 x4 x5 x6 x7 x11) (sl.v10757 c arg2 harg2 arg3 harg3 arg5 harg5 arg6 harg6 arg13 harg13 arg17 x0 x1 x3 x4 x11) (sl.v10867 c arg4 harg4 arg18 x2) (sl.r_7 c arg4 harg4 arg18 x2) = shapeCast S1x1x128x128 (chain (blk (sl.v297 c arg2 harg2 arg3 harg3 arg5 harg5 arg6 harg6 arg8 harg8 arg13 harg13 arg17 x0 x1 x3 x4 x6 x11) 2) (blk (sl.v294 c arg2 harg2 arg3 harg3 arg5 harg5 arg6 harg6 arg13 harg13 arg17 x0 x1 x3 x4 x11) 2) (blk (sl.v300 c arg2 harg2 arg3 harg3 arg5 harg5 arg6 harg6 arg7 harg7 arg8 harg8 arg13 harg13 arg17 x0 x1 x3 x4 x5 x6 x11) 2) (blk (sl.v301 c arg2 harg2 arg3 harg3 arg5 harg5 arg6 harg6 arg7 harg7 arg9 harg9 arg13 harg13 arg17 x0 x1 x3 x4 x5 x7 x11) 2) (blk (sl.v291 c arg2 harg2 arg3 harg3 arg5 harg5 arg6 harg6 arg8 harg8 arg13 harg13 arg17 x0 x1 x3 x4 x6 x11) 2) (blk (sl.v58 c arg2 harg2 arg3 harg3 arg5 harg5 arg17 x0 x1 x3) 2) (blk (sl.v304 c arg2 harg2 arg3 harg3 arg5 harg5 arg6 harg6 arg7 harg7 arg8 harg8 arg13 harg13 arg17 x0 x1 x3 x4 x5 x6 x11) 2) (blk (sl.v305 c arg2 harg2 arg3 harg3 arg5 harg5 arg6 harg6 arg7 harg7 arg9 harg9 arg13 harg13 arg17 x0 x1 x3 x4 x5 x7 x11) 2) (blk (sl.v306 c arg2 harg2 arg3 harg3 arg5 harg5 arg6 harg6 arg13 harg13 arg17 x0 x1 x3 x4 x11) 2) (sl.v10867 c arg4 harg4 arg18 x2)) shapeCasts_S128x128_S1x1x128x128 := by sl_kernel_rfl
/-- The state pair 3 leaves with. -/
theorem leave3 : k0_pay1268 (sl.v10637 c arg2 harg2 arg3 harg3 arg5 harg5 arg6 harg6 arg7 harg7 arg8 harg8 arg9 harg9 arg13 harg13 arg17 x0 x1 x3 x4 x5 x6 x7 x11) (sl.v10697 c arg2 harg2 arg3 harg3 arg5 harg5 arg6 harg6 arg7 harg7 arg8 harg8 arg9 harg9 arg13 harg13 arg17 x0 x1 x3 x4 x5 x6 x7 x11) (sl.v10765 c arg2 harg2 arg3 harg3 arg5 harg5 arg6 harg6 arg13 harg13 arg17 x0 x1 x3 x4 x11) (sl.v10869 c arg4 harg4 arg18 x2) (sl.r_8 c arg4 harg4 arg18 x2) = shapeCast S1x1x128x128 (chain (blk (sl.v297 c arg2 harg2 arg3 harg3 arg5 harg5 arg6 harg6 arg8 harg8 arg13 harg13 arg17 x0 x1 x3 x4 x6 x11) 3) (blk (sl.v294 c arg2 harg2 arg3 harg3 arg5 harg5 arg6 harg6 arg13 harg13 arg17 x0 x1 x3 x4 x11) 3) (blk (sl.v300 c arg2 harg2 arg3 harg3 arg5 harg5 arg6 harg6 arg7 harg7 arg8 harg8 arg13 harg13 arg17 x0 x1 x3 x4 x5 x6 x11) 3) (blk (sl.v301 c arg2 harg2 arg3 harg3 arg5 harg5 arg6 harg6 arg7 harg7 arg9 harg9 arg13 harg13 arg17 x0 x1 x3 x4 x5 x7 x11) 3) (blk (sl.v291 c arg2 harg2 arg3 harg3 arg5 harg5 arg6 harg6 arg8 harg8 arg13 harg13 arg17 x0 x1 x3 x4 x6 x11) 3) (blk (sl.v58 c arg2 harg2 arg3 harg3 arg5 harg5 arg17 x0 x1 x3) 3) (blk (sl.v304 c arg2 harg2 arg3 harg3 arg5 harg5 arg6 harg6 arg7 harg7 arg8 harg8 arg13 harg13 arg17 x0 x1 x3 x4 x5 x6 x11) 3) (blk (sl.v305 c arg2 harg2 arg3 harg3 arg5 harg5 arg6 harg6 arg7 harg7 arg9 harg9 arg13 harg13 arg17 x0 x1 x3 x4 x5 x7 x11) 3) (blk (sl.v306 c arg2 harg2 arg3 harg3 arg5 harg5 arg6 harg6 arg13 harg13 arg17 x0 x1 x3 x4 x11) 3) (sl.v10869 c arg4 harg4 arg18 x2)) shapeCasts_S128x128_S1x1x128x128 := by sl_kernel_rfl
/-- The state pair 4 leaves with. -/
theorem leave4 : k0_pay1269 (sl.v10641 c arg2 harg2 arg3 harg3 arg5 harg5 arg6 harg6 arg7 harg7 arg8 harg8 arg9 harg9 arg13 harg13 arg17 x0 x1 x3 x4 x5 x6 x7 x11) (sl.v10700 c arg2 harg2 arg3 harg3 arg5 harg5 arg6 harg6 arg7 harg7 arg8 harg8 arg9 harg9 arg13 harg13 arg17 x0 x1 x3 x4 x5 x6 x7 x11) (sl.v10773 c arg2 harg2 arg3 harg3 arg5 harg5 arg6 harg6 arg13 harg13 arg17 x0 x1 x3 x4 x11) (sl.v10871 c arg4 harg4 arg18 x2) (sl.r_9 c arg4 harg4 arg18 x2) = shapeCast S1x1x128x128 (chain (blk (sl.v297 c arg2 harg2 arg3 harg3 arg5 harg5 arg6 harg6 arg8 harg8 arg13 harg13 arg17 x0 x1 x3 x4 x6 x11) 4) (blk (sl.v294 c arg2 harg2 arg3 harg3 arg5 harg5 arg6 harg6 arg13 harg13 arg17 x0 x1 x3 x4 x11) 4) (blk (sl.v300 c arg2 harg2 arg3 harg3 arg5 harg5 arg6 harg6 arg7 harg7 arg8 harg8 arg13 harg13 arg17 x0 x1 x3 x4 x5 x6 x11) 4) (blk (sl.v301 c arg2 harg2 arg3 harg3 arg5 harg5 arg6 harg6 arg7 harg7 arg9 harg9 arg13 harg13 arg17 x0 x1 x3 x4 x5 x7 x11) 4) (blk (sl.v291 c arg2 harg2 arg3 harg3 arg5 harg5 arg6 harg6 arg8 harg8 arg13 harg13 arg17 x0 x1 x3 x4 x6 x11) 4) (blk (sl.v58 c arg2 harg2 arg3 harg3 arg5 harg5 arg17 x0 x1 x3) 4) (blk (sl.v304 c arg2 harg2 arg3 harg3 arg5 harg5 arg6 harg6 arg7 harg7 arg8 harg8 arg13 harg13 arg17 x0 x1 x3 x4 x5 x6 x11) 4) (blk (sl.v305 c arg2 harg2 arg3 harg3 arg5 harg5 arg6 harg6 arg7 harg7 arg9 harg9 arg13 harg13 arg17 x0 x1 x3 x4 x5 x7 x11) 4) (blk (sl.v306 c arg2 harg2 arg3 harg3 arg5 harg5 arg6 harg6 arg13 harg13 arg17 x0 x1 x3 x4 x11) 4) (sl.v10871 c arg4 harg4 arg18 x2)) shapeCasts_S128x128_S1x1x128x128 := by sl_kernel_rfl
/-- The state pair 5 leaves with. -/
theorem leave5 : k0_pay1270 (sl.v10645 c arg2 harg2 arg3 harg3 arg5 harg5 arg6 harg6 arg7 harg7 arg8 harg8 arg9 harg9 arg13 harg13 arg17 x0 x1 x3 x4 x5 x6 x7 x11) (sl.v10703 c arg2 harg2 arg3 harg3 arg5 harg5 arg6 harg6 arg7 harg7 arg8 harg8 arg9 harg9 arg13 harg13 arg17 x0 x1 x3 x4 x5 x6 x7 x11) (sl.v10781 c arg2 harg2 arg3 harg3 arg5 harg5 arg6 harg6 arg13 harg13 arg17 x0 x1 x3 x4 x11) (sl.v10873 c arg4 harg4 arg18 x2) (sl.r_10 c arg4 harg4 arg18 x2) = shapeCast S1x1x128x128 (chain (blk (sl.v297 c arg2 harg2 arg3 harg3 arg5 harg5 arg6 harg6 arg8 harg8 arg13 harg13 arg17 x0 x1 x3 x4 x6 x11) 5) (blk (sl.v294 c arg2 harg2 arg3 harg3 arg5 harg5 arg6 harg6 arg13 harg13 arg17 x0 x1 x3 x4 x11) 5) (blk (sl.v300 c arg2 harg2 arg3 harg3 arg5 harg5 arg6 harg6 arg7 harg7 arg8 harg8 arg13 harg13 arg17 x0 x1 x3 x4 x5 x6 x11) 5) (blk (sl.v301 c arg2 harg2 arg3 harg3 arg5 harg5 arg6 harg6 arg7 harg7 arg9 harg9 arg13 harg13 arg17 x0 x1 x3 x4 x5 x7 x11) 5) (blk (sl.v291 c arg2 harg2 arg3 harg3 arg5 harg5 arg6 harg6 arg8 harg8 arg13 harg13 arg17 x0 x1 x3 x4 x6 x11) 5) (blk (sl.v58 c arg2 harg2 arg3 harg3 arg5 harg5 arg17 x0 x1 x3) 5) (blk (sl.v304 c arg2 harg2 arg3 harg3 arg5 harg5 arg6 harg6 arg7 harg7 arg8 harg8 arg13 harg13 arg17 x0 x1 x3 x4 x5 x6 x11) 5) (blk (sl.v305 c arg2 harg2 arg3 harg3 arg5 harg5 arg6 harg6 arg7 harg7 arg9 harg9 arg13 harg13 arg17 x0 x1 x3 x4 x5 x7 x11) 5) (blk (sl.v306 c arg2 harg2 arg3 harg3 arg5 harg5 arg6 harg6 arg13 harg13 arg17 x0 x1 x3 x4 x11) 5) (sl.v10873 c arg4 harg4 arg18 x2)) shapeCasts_S128x128_S1x1x128x128 := by sl_kernel_rfl
/-- The state pair 6 leaves with. -/
theorem leave6 : k0_pay1271 (sl.v10649 c arg2 harg2 arg3 harg3 arg5 harg5 arg6 harg6 arg7 harg7 arg8 harg8 arg9 harg9 arg13 harg13 arg17 x0 x1 x3 x4 x5 x6 x7 x11) (sl.v10706 c arg2 harg2 arg3 harg3 arg5 harg5 arg6 harg6 arg7 harg7 arg8 harg8 arg9 harg9 arg13 harg13 arg17 x0 x1 x3 x4 x5 x6 x7 x11) (sl.v10789 c arg2 harg2 arg3 harg3 arg5 harg5 arg6 harg6 arg13 harg13 arg17 x0 x1 x3 x4 x11) (sl.v10875 c arg4 harg4 arg18 x2) (sl.r_11 c arg4 harg4 arg18 x2) = shapeCast S1x1x128x128 (chain (blk (sl.v297 c arg2 harg2 arg3 harg3 arg5 harg5 arg6 harg6 arg8 harg8 arg13 harg13 arg17 x0 x1 x3 x4 x6 x11) 6) (blk (sl.v294 c arg2 harg2 arg3 harg3 arg5 harg5 arg6 harg6 arg13 harg13 arg17 x0 x1 x3 x4 x11) 6) (blk (sl.v300 c arg2 harg2 arg3 harg3 arg5 harg5 arg6 harg6 arg7 harg7 arg8 harg8 arg13 harg13 arg17 x0 x1 x3 x4 x5 x6 x11) 6) (blk (sl.v301 c arg2 harg2 arg3 harg3 arg5 harg5 arg6 harg6 arg7 harg7 arg9 harg9 arg13 harg13 arg17 x0 x1 x3 x4 x5 x7 x11) 6) (blk (sl.v291 c arg2 harg2 arg3 harg3 arg5 harg5 arg6 harg6 arg8 harg8 arg13 harg13 arg17 x0 x1 x3 x4 x6 x11) 6) (blk (sl.v58 c arg2 harg2 arg3 harg3 arg5 harg5 arg17 x0 x1 x3) 6) (blk (sl.v304 c arg2 harg2 arg3 harg3 arg5 harg5 arg6 harg6 arg7 harg7 arg8 harg8 arg13 harg13 arg17 x0 x1 x3 x4 x5 x6 x11) 6) (blk (sl.v305 c arg2 harg2 arg3 harg3 arg5 harg5 arg6 harg6 arg7 harg7 arg9 harg9 arg13 harg13 arg17 x0 x1 x3 x4 x5 x7 x11) 6) (blk (sl.v306 c arg2 harg2 arg3 harg3 arg5 harg5 arg6 harg6 arg13 harg13 arg17 x0 x1 x3 x4 x11) 6) (sl.v10875 c arg4 harg4 arg18 x2)) shapeCasts_S128x128_S1x1x128x128 := by sl_kernel_rfl
/-- The state pair 7 leaves with. -/
theorem leave7 : k0_pay1272 (sl.v10653 c arg2 harg2 arg3 harg3 arg5 harg5 arg6 harg6 arg7 harg7 arg8 harg8 arg9 harg9 arg13 harg13 arg17 x0 x1 x3 x4 x5 x6 x7 x11) (sl.v10709 c arg2 harg2 arg3 harg3 arg5 harg5 arg6 harg6 arg7 harg7 arg8 harg8 arg9 harg9 arg13 harg13 arg17 x0 x1 x3 x4 x5 x6 x7 x11) (sl.v10797 c arg2 harg2 arg3 harg3 arg5 harg5 arg6 harg6 arg13 harg13 arg17 x0 x1 x3 x4 x11) (sl.v10877 c arg4 harg4 arg18 x2) (sl.r_12 c arg4 harg4 arg18 x2) = shapeCast S1x1x128x128 (chain (blk (sl.v297 c arg2 harg2 arg3 harg3 arg5 harg5 arg6 harg6 arg8 harg8 arg13 harg13 arg17 x0 x1 x3 x4 x6 x11) 7) (blk (sl.v294 c arg2 harg2 arg3 harg3 arg5 harg5 arg6 harg6 arg13 harg13 arg17 x0 x1 x3 x4 x11) 7) (blk (sl.v300 c arg2 harg2 arg3 harg3 arg5 harg5 arg6 harg6 arg7 harg7 arg8 harg8 arg13 harg13 arg17 x0 x1 x3 x4 x5 x6 x11) 7) (blk (sl.v301 c arg2 harg2 arg3 harg3 arg5 harg5 arg6 harg6 arg7 harg7 arg9 harg9 arg13 harg13 arg17 x0 x1 x3 x4 x5 x7 x11) 7) (blk (sl.v291 c arg2 harg2 arg3 harg3 arg5 harg5 arg6 harg6 arg8 harg8 arg13 harg13 arg17 x0 x1 x3 x4 x6 x11) 7) (blk (sl.v58 c arg2 harg2 arg3 harg3 arg5 harg5 arg17 x0 x1 x3) 7) (blk (sl.v304 c arg2 harg2 arg3 harg3 arg5 harg5 arg6 harg6 arg7 harg7 arg8 harg8 arg13 harg13 arg17 x0 x1 x3 x4 x5 x6 x11) 7) (blk (sl.v305 c arg2 harg2 arg3 harg3 arg5 harg5 arg6 harg6 arg7 harg7 arg9 harg9 arg13 harg13 arg17 x0 x1 x3 x4 x5 x7 x11) 7) (blk (sl.v306 c arg2 harg2 arg3 harg3 arg5 harg5 arg6 harg6 arg13 harg13 arg17 x0 x1 x3 x4 x11) 7) (sl.v10877 c arg4 harg4 arg18 x2)) shapeCasts_S128x128_S1x1x128x128 := by sl_kernel_rfl
/-- The state pair 8 leaves with. -/
theorem leave8 : k0_pay1273 (sl.v10657 c arg2 harg2 arg3 harg3 arg5 harg5 arg6 harg6 arg7 harg7 arg8 harg8 arg9 harg9 arg13 harg13 arg17 x0 x1 x3 x4 x5 x6 x7 x11) (sl.v10712 c arg2 harg2 arg3 harg3 arg5 harg5 arg6 harg6 arg7 harg7 arg8 harg8 arg9 harg9 arg13 harg13 arg17 x0 x1 x3 x4 x5 x6 x7 x11) (sl.v10805 c arg2 harg2 arg3 harg3 arg5 harg5 arg6 harg6 arg13 harg13 arg17 x0 x1 x3 x4 x11) (sl.v10879 c arg4 harg4 arg18 x2) (sl.r_13 c arg4 harg4 arg18 x2) = shapeCast S1x1x128x128 (chain (blk (sl.v297 c arg2 harg2 arg3 harg3 arg5 harg5 arg6 harg6 arg8 harg8 arg13 harg13 arg17 x0 x1 x3 x4 x6 x11) 8) (blk (sl.v294 c arg2 harg2 arg3 harg3 arg5 harg5 arg6 harg6 arg13 harg13 arg17 x0 x1 x3 x4 x11) 8) (blk (sl.v300 c arg2 harg2 arg3 harg3 arg5 harg5 arg6 harg6 arg7 harg7 arg8 harg8 arg13 harg13 arg17 x0 x1 x3 x4 x5 x6 x11) 8) (blk (sl.v301 c arg2 harg2 arg3 harg3 arg5 harg5 arg6 harg6 arg7 harg7 arg9 harg9 arg13 harg13 arg17 x0 x1 x3 x4 x5 x7 x11) 8) (blk (sl.v291 c arg2 harg2 arg3 harg3 arg5 harg5 arg6 harg6 arg8 harg8 arg13 harg13 arg17 x0 x1 x3 x4 x6 x11) 8) (blk (sl.v58 c arg2 harg2 arg3 harg3 arg5 harg5 arg17 x0 x1 x3) 8) (blk (sl.v304 c arg2 harg2 arg3 harg3 arg5 harg5 arg6 harg6 arg7 harg7 arg8 harg8 arg13 harg13 arg17 x0 x1 x3 x4 x5 x6 x11) 8) (blk (sl.v305 c arg2 harg2 arg3 harg3 arg5 harg5 arg6 harg6 arg7 harg7 arg9 harg9 arg13 harg13 arg17 x0 x1 x3 x4 x5 x7 x11) 8) (blk (sl.v306 c arg2 harg2 arg3 harg3 arg5 harg5 arg6 harg6 arg13 harg13 arg17 x0 x1 x3 x4 x11) 8) (sl.v10879 c arg4 harg4 arg18 x2)) shapeCasts_S128x128_S1x1x128x128 := by sl_kernel_rfl
/-- The state pair 9 leaves with. -/
theorem leave9 : k0_pay1274 (sl.v10661 c arg2 harg2 arg3 harg3 arg5 harg5 arg6 harg6 arg7 harg7 arg8 harg8 arg9 harg9 arg13 harg13 arg17 x0 x1 x3 x4 x5 x6 x7 x11) (sl.v10715 c arg2 harg2 arg3 harg3 arg5 harg5 arg6 harg6 arg7 harg7 arg8 harg8 arg9 harg9 arg13 harg13 arg17 x0 x1 x3 x4 x5 x6 x7 x11) (sl.v10813 c arg2 harg2 arg3 harg3 arg5 harg5 arg6 harg6 arg13 harg13 arg17 x0 x1 x3 x4 x11) (sl.v10881 c arg4 harg4 arg18 x2) (sl.r_14 c arg4 harg4 arg18 x2) = shapeCast S1x1x128x128 (chain (blk (sl.v297 c arg2 harg2 arg3 harg3 arg5 harg5 arg6 harg6 arg8 harg8 arg13 harg13 arg17 x0 x1 x3 x4 x6 x11) 9) (blk (sl.v294 c arg2 harg2 arg3 harg3 arg5 harg5 arg6 harg6 arg13 harg13 arg17 x0 x1 x3 x4 x11) 9) (blk (sl.v300 c arg2 harg2 arg3 harg3 arg5 harg5 arg6 harg6 arg7 harg7 arg8 harg8 arg13 harg13 arg17 x0 x1 x3 x4 x5 x6 x11) 9) (blk (sl.v301 c arg2 harg2 arg3 harg3 arg5 harg5 arg6 harg6 arg7 harg7 arg9 harg9 arg13 harg13 arg17 x0 x1 x3 x4 x5 x7 x11) 9) (blk (sl.v291 c arg2 harg2 arg3 harg3 arg5 harg5 arg6 harg6 arg8 harg8 arg13 harg13 arg17 x0 x1 x3 x4 x6 x11) 9) (blk (sl.v58 c arg2 harg2 arg3 harg3 arg5 harg5 arg17 x0 x1 x3) 9) (blk (sl.v304 c arg2 harg2 arg3 harg3 arg5 harg5 arg6 harg6 arg7 harg7 arg8 harg8 arg13 harg13 arg17 x0 x1 x3 x4 x5 x6 x11) 9) (blk (sl.v305 c arg2 harg2 arg3 harg3 arg5 harg5 arg6 harg6 arg7 harg7 arg9 harg9 arg13 harg13 arg17 x0 x1 x3 x4 x5 x7 x11) 9) (blk (sl.v306 c arg2 harg2 arg3 harg3 arg5 harg5 arg6 harg6 arg13 harg13 arg17 x0 x1 x3 x4 x11) 9) (sl.v10881 c arg4 harg4 arg18 x2)) shapeCasts_S128x128_S1x1x128x128 := by sl_kernel_rfl
/-- The state pair 10 leaves with. -/
theorem leave10 : k0_pay1275 (sl.v10665 c arg2 harg2 arg3 harg3 arg5 harg5 arg6 harg6 arg7 harg7 arg8 harg8 arg9 harg9 arg13 harg13 arg17 x0 x1 x3 x4 x5 x6 x7 x11) (sl.v10718 c arg2 harg2 arg3 harg3 arg5 harg5 arg6 harg6 arg7 harg7 arg8 harg8 arg9 harg9 arg13 harg13 arg17 x0 x1 x3 x4 x5 x6 x7 x11) (sl.v10821 c arg2 harg2 arg3 harg3 arg5 harg5 arg6 harg6 arg13 harg13 arg17 x0 x1 x3 x4 x11) (sl.v10883 c arg4 harg4 arg18 x2) (sl.r_15 c arg4 harg4 arg18 x2) = shapeCast S1x1x128x128 (chain (blk (sl.v297 c arg2 harg2 arg3 harg3 arg5 harg5 arg6 harg6 arg8 harg8 arg13 harg13 arg17 x0 x1 x3 x4 x6 x11) 10) (blk (sl.v294 c arg2 harg2 arg3 harg3 arg5 harg5 arg6 harg6 arg13 harg13 arg17 x0 x1 x3 x4 x11) 10) (blk (sl.v300 c arg2 harg2 arg3 harg3 arg5 harg5 arg6 harg6 arg7 harg7 arg8 harg8 arg13 harg13 arg17 x0 x1 x3 x4 x5 x6 x11) 10) (blk (sl.v301 c arg2 harg2 arg3 harg3 arg5 harg5 arg6 harg6 arg7 harg7 arg9 harg9 arg13 harg13 arg17 x0 x1 x3 x4 x5 x7 x11) 10) (blk (sl.v291 c arg2 harg2 arg3 harg3 arg5 harg5 arg6 harg6 arg8 harg8 arg13 harg13 arg17 x0 x1 x3 x4 x6 x11) 10) (blk (sl.v58 c arg2 harg2 arg3 harg3 arg5 harg5 arg17 x0 x1 x3) 10) (blk (sl.v304 c arg2 harg2 arg3 harg3 arg5 harg5 arg6 harg6 arg7 harg7 arg8 harg8 arg13 harg13 arg17 x0 x1 x3 x4 x5 x6 x11) 10) (blk (sl.v305 c arg2 harg2 arg3 harg3 arg5 harg5 arg6 harg6 arg7 harg7 arg9 harg9 arg13 harg13 arg17 x0 x1 x3 x4 x5 x7 x11) 10) (blk (sl.v306 c arg2 harg2 arg3 harg3 arg5 harg5 arg6 harg6 arg13 harg13 arg17 x0 x1 x3 x4 x11) 10) (sl.v10883 c arg4 harg4 arg18 x2)) shapeCasts_S128x128_S1x1x128x128 := by sl_kernel_rfl
/-- The state pair 11 leaves with. -/
theorem leave11 : k0_pay1276 (sl.v10669 c arg2 harg2 arg3 harg3 arg5 harg5 arg6 harg6 arg7 harg7 arg8 harg8 arg9 harg9 arg13 harg13 arg17 x0 x1 x3 x4 x5 x6 x7 x11) (sl.v10721 c arg2 harg2 arg3 harg3 arg5 harg5 arg6 harg6 arg7 harg7 arg8 harg8 arg9 harg9 arg13 harg13 arg17 x0 x1 x3 x4 x5 x6 x7 x11) (sl.v10829 c arg2 harg2 arg3 harg3 arg5 harg5 arg6 harg6 arg13 harg13 arg17 x0 x1 x3 x4 x11) (sl.v10885 c arg4 harg4 arg18 x2) (sl.r_16 c arg4 harg4 arg18 x2) = shapeCast S1x1x128x128 (chain (blk (sl.v297 c arg2 harg2 arg3 harg3 arg5 harg5 arg6 harg6 arg8 harg8 arg13 harg13 arg17 x0 x1 x3 x4 x6 x11) 11) (blk (sl.v294 c arg2 harg2 arg3 harg3 arg5 harg5 arg6 harg6 arg13 harg13 arg17 x0 x1 x3 x4 x11) 11) (blk (sl.v300 c arg2 harg2 arg3 harg3 arg5 harg5 arg6 harg6 arg7 harg7 arg8 harg8 arg13 harg13 arg17 x0 x1 x3 x4 x5 x6 x11) 11) (blk (sl.v301 c arg2 harg2 arg3 harg3 arg5 harg5 arg6 harg6 arg7 harg7 arg9 harg9 arg13 harg13 arg17 x0 x1 x3 x4 x5 x7 x11) 11) (blk (sl.v291 c arg2 harg2 arg3 harg3 arg5 harg5 arg6 harg6 arg8 harg8 arg13 harg13 arg17 x0 x1 x3 x4 x6 x11) 11) (blk (sl.v58 c arg2 harg2 arg3 harg3 arg5 harg5 arg17 x0 x1 x3) 11) (blk (sl.v304 c arg2 harg2 arg3 harg3 arg5 harg5 arg6 harg6 arg7 harg7 arg8 harg8 arg13 harg13 arg17 x0 x1 x3 x4 x5 x6 x11) 11) (blk (sl.v305 c arg2 harg2 arg3 harg3 arg5 harg5 arg6 harg6 arg7 harg7 arg9 harg9 arg13 harg13 arg17 x0 x1 x3 x4 x5 x7 x11) 11) (blk (sl.v306 c arg2 harg2 arg3 harg3 arg5 harg5 arg6 harg6 arg13 harg13 arg17 x0 x1 x3 x4 x11) 11) (sl.v10885 c arg4 harg4 arg18 x2)) shapeCasts_S128x128_S1x1x128x128 := by sl_kernel_rfl
/-- The state pair 12 leaves with. -/
theorem leave12 : k0_pay1277 (sl.v10673 c arg2 harg2 arg3 harg3 arg5 harg5 arg6 harg6 arg7 harg7 arg8 harg8 arg9 harg9 arg13 harg13 arg17 x0 x1 x3 x4 x5 x6 x7 x11) (sl.v10724 c arg2 harg2 arg3 harg3 arg5 harg5 arg6 harg6 arg7 harg7 arg8 harg8 arg9 harg9 arg13 harg13 arg17 x0 x1 x3 x4 x5 x6 x7 x11) (sl.v10837 c arg2 harg2 arg3 harg3 arg5 harg5 arg6 harg6 arg13 harg13 arg17 x0 x1 x3 x4 x11) (sl.v10887 c arg4 harg4 arg18 x2) (sl.r_17 c arg4 harg4 arg18 x2) = shapeCast S1x1x128x128 (chain (blk (sl.v297 c arg2 harg2 arg3 harg3 arg5 harg5 arg6 harg6 arg8 harg8 arg13 harg13 arg17 x0 x1 x3 x4 x6 x11) 12) (blk (sl.v294 c arg2 harg2 arg3 harg3 arg5 harg5 arg6 harg6 arg13 harg13 arg17 x0 x1 x3 x4 x11) 12) (blk (sl.v300 c arg2 harg2 arg3 harg3 arg5 harg5 arg6 harg6 arg7 harg7 arg8 harg8 arg13 harg13 arg17 x0 x1 x3 x4 x5 x6 x11) 12) (blk (sl.v301 c arg2 harg2 arg3 harg3 arg5 harg5 arg6 harg6 arg7 harg7 arg9 harg9 arg13 harg13 arg17 x0 x1 x3 x4 x5 x7 x11) 12) (blk (sl.v291 c arg2 harg2 arg3 harg3 arg5 harg5 arg6 harg6 arg8 harg8 arg13 harg13 arg17 x0 x1 x3 x4 x6 x11) 12) (blk (sl.v58 c arg2 harg2 arg3 harg3 arg5 harg5 arg17 x0 x1 x3) 12) (blk (sl.v304 c arg2 harg2 arg3 harg3 arg5 harg5 arg6 harg6 arg7 harg7 arg8 harg8 arg13 harg13 arg17 x0 x1 x3 x4 x5 x6 x11) 12) (blk (sl.v305 c arg2 harg2 arg3 harg3 arg5 harg5 arg6 harg6 arg7 harg7 arg9 harg9 arg13 harg13 arg17 x0 x1 x3 x4 x5 x7 x11) 12) (blk (sl.v306 c arg2 harg2 arg3 harg3 arg5 harg5 arg6 harg6 arg13 harg13 arg17 x0 x1 x3 x4 x11) 12) (sl.v10887 c arg4 harg4 arg18 x2)) shapeCasts_S128x128_S1x1x128x128 := by sl_kernel_rfl
/-- The state pair 13 leaves with. -/
theorem leave13 : k0_pay1278 (sl.v10677 c arg2 harg2 arg3 harg3 arg5 harg5 arg6 harg6 arg7 harg7 arg8 harg8 arg9 harg9 arg13 harg13 arg17 x0 x1 x3 x4 x5 x6 x7 x11) (sl.v10727 c arg2 harg2 arg3 harg3 arg5 harg5 arg6 harg6 arg7 harg7 arg8 harg8 arg9 harg9 arg13 harg13 arg17 x0 x1 x3 x4 x5 x6 x7 x11) (sl.v10845 c arg2 harg2 arg3 harg3 arg5 harg5 arg6 harg6 arg13 harg13 arg17 x0 x1 x3 x4 x11) (sl.v10889 c arg4 harg4 arg18 x2) (sl.r_18 c arg4 harg4 arg18 x2) = shapeCast S1x1x128x128 (chain (blk (sl.v297 c arg2 harg2 arg3 harg3 arg5 harg5 arg6 harg6 arg8 harg8 arg13 harg13 arg17 x0 x1 x3 x4 x6 x11) 13) (blk (sl.v294 c arg2 harg2 arg3 harg3 arg5 harg5 arg6 harg6 arg13 harg13 arg17 x0 x1 x3 x4 x11) 13) (blk (sl.v300 c arg2 harg2 arg3 harg3 arg5 harg5 arg6 harg6 arg7 harg7 arg8 harg8 arg13 harg13 arg17 x0 x1 x3 x4 x5 x6 x11) 13) (blk (sl.v301 c arg2 harg2 arg3 harg3 arg5 harg5 arg6 harg6 arg7 harg7 arg9 harg9 arg13 harg13 arg17 x0 x1 x3 x4 x5 x7 x11) 13) (blk (sl.v291 c arg2 harg2 arg3 harg3 arg5 harg5 arg6 harg6 arg8 harg8 arg13 harg13 arg17 x0 x1 x3 x4 x6 x11) 13) (blk (sl.v58 c arg2 harg2 arg3 harg3 arg5 harg5 arg17 x0 x1 x3) 13) (blk (sl.v304 c arg2 harg2 arg3 harg3 arg5 harg5 arg6 harg6 arg7 harg7 arg8 harg8 arg13 harg13 arg17 x0 x1 x3 x4 x5 x6 x11) 13) (blk (sl.v305 c arg2 harg2 arg3 harg3 arg5 harg5 arg6 harg6 arg7 harg7 arg9 harg9 arg13 harg13 arg17 x0 x1 x3 x4 x5 x7 x11) 13) (blk (sl.v306 c arg2 harg2 arg3 harg3 arg5 harg5 arg6 harg6 arg13 harg13 arg17 x0 x1 x3 x4 x11) 13) (sl.v10889 c arg4 harg4 arg18 x2)) shapeCasts_S128x128_S1x1x128x128 := by sl_kernel_rfl
/-- The state pair 14 leaves with. -/
theorem leave14 : k0_pay1279 (sl.v10681 c arg2 harg2 arg3 harg3 arg5 harg5 arg6 harg6 arg7 harg7 arg8 harg8 arg9 harg9 arg13 harg13 arg17 x0 x1 x3 x4 x5 x6 x7 x11) (sl.v10730 c arg2 harg2 arg3 harg3 arg5 harg5 arg6 harg6 arg7 harg7 arg8 harg8 arg9 harg9 arg13 harg13 arg17 x0 x1 x3 x4 x5 x6 x7 x11) (sl.v10853 c arg2 harg2 arg3 harg3 arg5 harg5 arg6 harg6 arg13 harg13 arg17 x0 x1 x3 x4 x11) (sl.r_3 c arg4 harg4 arg18 x2) (sl.r_19 c arg4 harg4 arg18 x2) = shapeCast S1x1x128x128 (chain (blk (sl.v297 c arg2 harg2 arg3 harg3 arg5 harg5 arg6 harg6 arg8 harg8 arg13 harg13 arg17 x0 x1 x3 x4 x6 x11) 14) (blk (sl.v294 c arg2 harg2 arg3 harg3 arg5 harg5 arg6 harg6 arg13 harg13 arg17 x0 x1 x3 x4 x11) 14) (blk (sl.v300 c arg2 harg2 arg3 harg3 arg5 harg5 arg6 harg6 arg7 harg7 arg8 harg8 arg13 harg13 arg17 x0 x1 x3 x4 x5 x6 x11) 14) (blk (sl.v301 c arg2 harg2 arg3 harg3 arg5 harg5 arg6 harg6 arg7 harg7 arg9 harg9 arg13 harg13 arg17 x0 x1 x3 x4 x5 x7 x11) 14) (blk (sl.v291 c arg2 harg2 arg3 harg3 arg5 harg5 arg6 harg6 arg8 harg8 arg13 harg13 arg17 x0 x1 x3 x4 x6 x11) 14) (blk (sl.v58 c arg2 harg2 arg3 harg3 arg5 harg5 arg17 x0 x1 x3) 14) (blk (sl.v304 c arg2 harg2 arg3 harg3 arg5 harg5 arg6 harg6 arg7 harg7 arg8 harg8 arg13 harg13 arg17 x0 x1 x3 x4 x5 x6 x11) 14) (blk (sl.v305 c arg2 harg2 arg3 harg3 arg5 harg5 arg6 harg6 arg7 harg7 arg9 harg9 arg13 harg13 arg17 x0 x1 x3 x4 x5 x7 x11) 14) (blk (sl.v306 c arg2 harg2 arg3 harg3 arg5 harg5 arg6 harg6 arg13 harg13 arg17 x0 x1 x3 x4 x11) 14) (sl.r_3 c arg4 harg4 arg18 x2)) shapeCasts_S128x128_S1x1x128x128 := by sl_kernel_rfl
/-- The state pair 15 leaves with. -/
theorem leave15 : k0_pay1280 (sl.v10685 c arg2 harg2 arg3 harg3 arg5 harg5 arg6 harg6 arg7 harg7 arg8 harg8 arg9 harg9 arg13 harg13 arg17 x0 x1 x3 x4 x5 x6 x7 x11) (sl.v10733 c arg2 harg2 arg3 harg3 arg5 harg5 arg6 harg6 arg7 harg7 arg8 harg8 arg9 harg9 arg13 harg13 arg17 x0 x1 x3 x4 x5 x6 x7 x11) (sl.v10861 c arg2 harg2 arg3 harg3 arg5 harg5 arg6 harg6 arg13 harg13 arg17 x0 x1 x3 x4 x11) (sl.r_4 c arg4 harg4 arg18 x2) (sl.r_20 c arg4 harg4 arg18 x2) = shapeCast S1x1x128x128 (chain (blk (sl.v297 c arg2 harg2 arg3 harg3 arg5 harg5 arg6 harg6 arg8 harg8 arg13 harg13 arg17 x0 x1 x3 x4 x6 x11) 15) (blk (sl.v294 c arg2 harg2 arg3 harg3 arg5 harg5 arg6 harg6 arg13 harg13 arg17 x0 x1 x3 x4 x11) 15) (blk (sl.v300 c arg2 harg2 arg3 harg3 arg5 harg5 arg6 harg6 arg7 harg7 arg8 harg8 arg13 harg13 arg17 x0 x1 x3 x4 x5 x6 x11) 15) (blk (sl.v301 c arg2 harg2 arg3 harg3 arg5 harg5 arg6 harg6 arg7 harg7 arg9 harg9 arg13 harg13 arg17 x0 x1 x3 x4 x5 x7 x11) 15) (blk (sl.v291 c arg2 harg2 arg3 harg3 arg5 harg5 arg6 harg6 arg8 harg8 arg13 harg13 arg17 x0 x1 x3 x4 x6 x11) 15) (blk (sl.v58 c arg2 harg2 arg3 harg3 arg5 harg5 arg17 x0 x1 x3) 15) (blk (sl.v304 c arg2 harg2 arg3 harg3 arg5 harg5 arg6 harg6 arg7 harg7 arg8 harg8 arg13 harg13 arg17 x0 x1 x3 x4 x5 x6 x11) 15) (blk (sl.v305 c arg2 harg2 arg3 harg3 arg5 harg5 arg6 harg6 arg7 harg7 arg9 harg9 arg13 harg13 arg17 x0 x1 x3 x4 x5 x7 x11) 15) (blk (sl.v306 c arg2 harg2 arg3 harg3 arg5 harg5 arg6 harg6 arg13 harg13 arg17 x0 x1 x3 x4 x11) 15) (sl.r_4 c arg4 harg4 arg18 x2)) shapeCasts_S128x128_S1x1x128x128 := by sl_kernel_rfl

end Cert.RwkvIdeal.Hand

end
-- ==== Proof.RwkvTieD.lean ====
/- The scratch after the chunk, and what the run writes back. -/
module

public import proofs.«01_k».proof.Proof.RwkvTieB
public import proofs.«01_k».proof.Proof.RwkvTieC

@[expose] public section

noncomputable section

namespace Cert.RwkvIdeal.Hand

open Cert.RwkvIdeal Cert.RwkvIdeal.Gen Cert.RwkvIdeal.Gen.kernelRun0_A Idealize.ShloMosaic

variable {F : FTy → Type} [FloatOps F] [Named F]
variable (c : Dev nD) (arg2 : Memref sig .tc .vmem S4x16x1792 .f32) (harg2 : arg2.IsWhole) (arg3 : Memref sig .tc .vmem S4x1x1792 .f32) (harg3 : arg3.IsWhole) (arg4 : Memref sig .tc .vmem S4x8x64x64 .f32) (harg4 : arg4.IsWhole) (arg5 : Memref sig .tc .vmem S1x1792 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (arg13 : Memref sig .tc .vmem S128x1024 .bf16) (harg13 : arg13.IsWhole) (arg17 : Memref sig .tc .vmem S4x24x1792 .f32) (arg18 : Memref sig .tc .vmem S4x4x128x128 .f32) (x0 : Vec F S4x16x1792 .f32) (x1 : Vec F S4x1x1792 .f32) (x2 : Vec F S4x8x64x64 .f32) (x3 : Vec F S1x1792 .f32) (x4 : Vec F S1x512 .f32) (x5 : Vec F S1x512 .f32) (x6 : Vec F S1x512 .f32) (x7 : Vec F S1x512 .f32) (x11 : Vec F S128x1024 .bf16)

/-- The scratch after the chunk. -/
theorem leaves_tie : (sl.HS1_32 c arg2 harg2 arg3 harg3 arg4 harg4 arg5 harg5 arg6 harg6 arg7 harg7 arg8 harg8 arg9 harg9 arg13 harg13 arg17 arg18 x0 x1 x2 x3 x4 x5 x6 x7 x11) = leaves (sl.v297 c arg2 harg2 arg3 harg3 arg5 harg5 arg6 harg6 arg8 harg8 arg13 harg13 arg17 x0 x1 x3 x4 x6 x11) (sl.v294 c arg2 harg2 arg3 harg3 arg5 harg5 arg6 harg6 arg13 harg13 arg17 x0 x1 x3 x4 x11) (sl.v300 c arg2 harg2 arg3 harg3 arg5 harg5 arg6 harg6 arg7 harg7 arg8 harg8 arg13 harg13 arg17 x0 x1 x3 x4 x5 x6 x11) (sl.v301 c arg2 harg2 arg3 harg3 arg5 harg5 arg6 harg6 arg7 harg7 arg9 harg9 arg13 harg13 arg17 x0 x1 x3 x4 x5 x7 x11) (sl.v291 c arg2 harg2 arg3 harg3 arg5 harg5 arg6 harg6 arg8 harg8 arg13 harg13 arg17 x0 x1 x3 x4 x6 x11) (sl.v58 c arg2 harg2 arg3 harg3 arg5 harg5 arg17 x0 x1 x3) (sl.v304 c arg2 harg2 arg3 harg3 arg5 harg5 arg6 harg6 arg7 harg7 arg8 harg8 arg13 harg13 arg17 x0 x1 x3 x4 x5 x6 x11) (sl.v305 c arg2 harg2 arg3 harg3 arg5 harg5 arg6 harg6 arg7 harg7 arg9 harg9 arg13 harg13 arg17 x0 x1 x3 x4 x5 x7 x11) (sl.v306 c arg2 harg2 arg3 harg3 arg5 harg5 arg6 harg6 arg13 harg13 arg17 x0 x1 x3 x4 x11) (headIn arg4 harg4 x2) arg18 := by
  have e : (sl.HS1_32 c arg2 harg2 arg3 harg3 arg4 harg4 arg5 harg5 arg6 harg6 arg7 harg7 arg8 harg8 arg9 harg9 arg13 harg13 arg17 arg18 x0 x1 x2 x3 x4 x5 x6 x7 x11) = ([⟨rS 15, k0_pay1280 (sl.v10685 c arg2 harg2 arg3 harg3 arg5 harg5 arg6 harg6 arg7 harg7 arg8 harg8 arg9 harg9 arg13 harg13 arg17 x0 x1 x3 x4 x5 x6 x7 x11) (sl.v10733 c arg2 harg2 arg3 harg3 arg5 harg5 arg6 harg6 arg7 harg7 arg8 harg8 arg9 harg9 arg13 harg13 arg17 x0 x1 x3 x4 x5 x6 x7 x11) (sl.v10861 c arg2 harg2 arg3 harg3 arg5 harg5 arg6 harg6 arg13 harg13 arg17 x0 x1 x3 x4 x11) (sl.r_4 c arg4 harg4 arg18 x2) (sl.r_20 c arg4 harg4 arg18 x2)⟩, ⟨rS 14, k0_pay1279 (sl.v10681 c arg2 harg2 arg3 harg3 arg5 harg5 arg6 harg6 arg7 harg7 arg8 harg8 arg9 harg9 arg13 harg13 arg17 x0 x1 x3 x4 x5 x6 x7 x11) (sl.v10730 c arg2 harg2 arg3 harg3 arg5 harg5 arg6 harg6 arg7 harg7 arg8 harg8 arg9 harg9 arg13 harg13 arg17 x0 x1 x3 x4 x5 x6 x7 x11) (sl.v10853 c arg2 harg2 arg3 harg3 arg5 harg5 arg6 harg6 arg13 harg13 arg17 x0 x1 x3 x4 x11) (sl.r_3 c arg4 harg4 arg18 x2) (sl.r_19 c arg4 harg4 arg18 x2)⟩, ⟨rS 13, k0_pay1278 (sl.v10677 c arg2 harg2 arg3 harg3 arg5 harg5 arg6 harg6 arg7 harg7 arg8 harg8 arg9 harg9 arg13 harg13 arg17 x0 x1 x3 x4 x5 x6 x7 x11) (sl.v10727 c arg2 harg2 arg3 harg3 arg5 harg5 arg6 harg6 arg7 harg7 arg8 harg8 arg9 harg9 arg13 harg13 arg17 x0 x1 x3 x4 x5 x6 x7 x11) (sl.v10845 c arg2 harg2 arg3 harg3 arg5 harg5 arg6 harg6 arg13 harg13 arg17 x0 x1 x3 x4 x11) (sl.v10889 c arg4 harg4 arg18 x2) (sl.r_18 c arg4 harg4 arg18 x2)⟩, ⟨rS 12, k0_pay1277 (sl.v10673 c arg2 harg2 arg3 harg3 arg5 harg5 arg6 harg6 arg7 harg7 arg8 harg8 arg9 harg9 arg13 harg13 arg17 x0 x1 x3 x4 x5 x6 x7 x11) (sl.v10724 c arg2 harg2 arg3 harg3 arg5 harg5 arg6 harg6 arg7 harg7 arg8 harg8 arg9 harg9 arg13 harg13 arg17 x0 x1 x3 x4 x5 x6 x7 x11) (sl.v10837 c arg2 harg2 arg3 harg3 arg5 harg5 arg6 harg6 arg13 harg13 arg17 x0 x1 x3 x4 x11) (sl.v10887 c arg4 harg4 arg18 x2) (sl.r_17 c arg4 harg4 arg18 x2)⟩, ⟨rS 11, k0_pay1276 (sl.v10669 c arg2 harg2 arg3 harg3 arg5 harg5 arg6 harg6 arg7 harg7 arg8 harg8 arg9 harg9 arg13 harg13 arg17 x0 x1 x3 x4 x5 x6 x7 x11) (sl.v10721 c arg2 harg2 arg3 harg3 arg5 harg5 arg6 harg6 arg7 harg7 arg8 harg8 arg9 harg9 arg13 harg13 arg17 x0 x1 x3 x4 x5 x6 x7 x11) (sl.v10829 c arg2 harg2 arg3 harg3 arg5 harg5 arg6 harg6 arg13 harg13 arg17 x0 x1 x3 x4 x11) (sl.v10885 c arg4 harg4 arg18 x2) (sl.r_16 c arg4 harg4 arg18 x2)⟩, ⟨rS 10, k0_pay1275 (sl.v10665 c arg2 harg2 arg3 harg3 arg5 harg5 arg6 harg6 arg7 harg7 arg8 harg8 arg9 harg9 arg13 harg13 arg17 x0 x1 x3 x4 x5 x6 x7 x11) (sl.v10718 c arg2 harg2 arg3 harg3 arg5 harg5 arg6 harg6 arg7 harg7 arg8 harg8 arg9 harg9 arg13 harg13 arg17 x0 x1 x3 x4 x5 x6 x7 x11) (sl.v10821 c arg2 harg2 arg3 harg3 arg5 harg5 arg6 harg6 arg13 harg13 arg17 x0 x1 x3 x4 x11) (sl.v10883 c arg4 harg4 arg18 x2) (sl.r_15 c arg4 harg4 arg18 x2)⟩, ⟨rS 9, k0_pay1274 (sl.v10661 c arg2 harg2 arg3 harg3 arg5 harg5 arg6 harg6 arg7 harg7 arg8 harg8 arg9 harg9 arg13 harg13 arg17 x0 x1 x3 x4 x5 x6 x7 x11) (sl.v10715 c arg2 harg2 arg3 harg3 arg5 harg5 arg6 harg6 arg7 harg7 arg8 harg8 arg9 harg9 arg13 harg13 arg17 x0 x1 x3 x4 x5 x6 x7 x11) (sl.v10813 c arg2 harg2 arg3 harg3 arg5 harg5 arg6 harg6 arg13 harg13 arg17 x0 x1 x3 x4 x11) (sl.v10881 c arg4 harg4 arg18 x2) (sl.r_14 c arg4 harg4 arg18 x2)⟩, ⟨rS 8, k0_pay1273 (sl.v10657 c arg2 harg2 arg3 harg3 arg5 harg5 arg6 harg6 arg7 harg7 arg8 harg8 arg9 harg9 arg13 harg13 arg17 x0 x1 x3 x4 x5 x6 x7 x11) (sl.v10712 c arg2 harg2 arg3 harg3 arg5 harg5 arg6 harg6 arg7 harg7 arg8 harg8 arg9 harg9 arg13 harg13 arg17 x0 x1 x3 x4 x5 x6 x7 x11) (sl.v10805 c arg2 harg2 arg3 harg3 arg5 harg5 arg6 harg6 arg13 harg13 arg17 x0 x1 x3 x4 x11) (sl.v10879 c arg4 harg4 arg18 x2) (sl.r_13 c arg4 harg4 arg18 x2)⟩, ⟨rS 7, k0_pay1272 (sl.v10653 c arg2 harg2 arg3 harg3 arg5 harg5 arg6 harg6 arg7 harg7 arg8 harg8 arg9 harg9 arg13 harg13 arg17 x0 x1 x3 x4 x5 x6 x7 x11) (sl.v10709 c arg2 harg2 arg3 harg3 arg5 harg5 arg6 harg6 arg7 harg7 arg8 harg8 arg9 harg9 arg13 harg13 arg17 x0 x1 x3 x4 x5 x6 x7 x11) (sl.v10797 c arg2 harg2 arg3 harg3 arg5 harg5 arg6 harg6 arg13 harg13 arg17 x0 x1 x3 x4 x11) (sl.v10877 c arg4 harg4 arg18 x2) (sl.r_12 c arg4 harg4 arg18 x2)⟩, ⟨rS 6, k0_pay1271 (sl.v10649 c arg2 harg2 arg3 harg3 arg5 harg5 arg6 harg6 arg7 harg7 arg8 harg8 arg9 harg9 arg13 harg13 arg17 x0 x1 x3 x4 x5 x6 x7 x11) (sl.v10706 c arg2 harg2 arg3 harg3 arg5 harg5 arg6 harg6 arg7 harg7 arg8 harg8 arg9 harg9 arg13 harg13 arg17 x0 x1 x3 x4 x5 x6 x7 x11) (sl.v10789 c arg2 harg2 arg3 harg3 arg5 harg5 arg6 harg6 arg13 harg13 arg17 x0 x1 x3 x4 x11) (sl.v10875 c arg4 harg4 arg18 x2) (sl.r_11 c arg4 harg4 arg18 x2)⟩, ⟨rS 5, k0_pay1270 (sl.v10645 c arg2 harg2 arg3 harg3 arg5 harg5 arg6 harg6 arg7 harg7 arg8 harg8 arg9 harg9 arg13 harg13 arg17 x0 x1 x3 x4 x5 x6 x7 x11) (sl.v10703 c arg2 harg2 arg3 harg3 arg5 harg5 arg6 harg6 arg7 harg7 arg8 harg8 arg9 harg9 arg13 harg13 arg17 x0 x1 x3 x4 x5 x6 x7 x11) (sl.v10781 c arg2 harg2 arg3 harg3 arg5 harg5 arg6 harg6 arg13 harg13 arg17 x0 x1 x3 x4 x11) (sl.v10873 c arg4 harg4 arg18 x2) (sl.r_10 c arg4 harg4 arg18 x2)⟩, ⟨rS 4, k0_pay1269 (sl.v10641 c arg2 harg2 arg3 harg3 arg5 harg5 arg6 harg6 arg7 harg7 arg8 harg8 arg9 harg9 arg13 harg13 arg17 x0 x1 x3 x4 x5 x6 x7 x11) (sl.v10700 c arg2 harg2 arg3 harg3 arg5 harg5 arg6 harg6 arg7 harg7 arg8 harg8 arg9 harg9 arg13 harg13 arg17 x0 x1 x3 x4 x5 x6 x7 x11) (sl.v10773 c arg2 harg2 arg3 harg3 arg5 harg5 arg6 harg6 arg13 harg13 arg17 x0 x1 x3 x4 x11) (sl.v10871 c arg4 harg4 arg18 x2) (sl.r_9 c arg4 harg4 arg18 x2)⟩, ⟨rS 3, k0_pay1268 (sl.v10637 c arg2 harg2 arg3 harg3 arg5 harg5 arg6 harg6 arg7 harg7 arg8 harg8 arg9 harg9 arg13 harg13 arg17 x0 x1 x3 x4 x5 x6 x7 x11) (sl.v10697 c arg2 harg2 arg3 harg3 arg5 harg5 arg6 harg6 arg7 harg7 arg8 harg8 arg9 harg9 arg13 harg13 arg17 x0 x1 x3 x4 x5 x6 x7 x11) (sl.v10765 c arg2 harg2 arg3 harg3 arg5 harg5 arg6 harg6 arg13 harg13 arg17 x0 x1 x3 x4 x11) (sl.v10869 c arg4 harg4 arg18 x2) (sl.r_8 c arg4 harg4 arg18 x2)⟩, ⟨rS 2, k0_pay1267 (sl.v10633 c arg2 harg2 arg3 harg3 arg5 harg5 arg6 harg6 arg7 harg7 arg8 harg8 arg9 harg9 arg13 harg13 arg17 x0 x1 x3 x4 x5 x6 x7 x11) (sl.v10694 c arg2 harg2 arg3 harg3 arg5 harg5 arg6 harg6 arg7 harg7 arg8 harg8 arg9 harg9 arg13 harg13 arg17 x0 x1 x3 x4 x5 x6 x7 x11) (sl.v10757 c arg2 harg2 arg3 harg3 arg5 harg5 arg6 harg6 arg13 harg13 arg17 x0 x1 x3 x4 x11) (sl.v10867 c arg4 harg4 arg18 x2) (sl.r_7 c arg4 harg4 arg18 x2)⟩, ⟨rS 1, k0_pay1266 (sl.v10629 c arg2 harg2 arg3 harg3 arg5 harg5 arg6 harg6 arg7 harg7 arg8 harg8 arg9 harg9 arg13 harg13 arg17 x0 x1 x3 x4 x5 x6 x7 x11) (sl.v10691 c arg2 harg2 arg3 harg3 arg5 harg5 arg6 harg6 arg7 harg7 arg8 harg8 arg9 harg9 arg13 harg13 arg17 x0 x1 x3 x4 x5 x6 x7 x11) (sl.v10749 c arg2 harg2 arg3 harg3 arg5 harg5 arg6 harg6 arg13 harg13 arg17 x0 x1 x3 x4 x11) (sl.v10865 c arg4 harg4 arg18 x2) (sl.r_6 c arg4 harg4 arg18 x2)⟩, ⟨rS 0, k0_pay1265 (sl.v10625 c arg2 harg2 arg3 harg3 arg5 harg5 arg6 harg6 arg7 harg7 arg8 harg8 arg9 harg9 arg13 harg13 arg17 x0 x1 x3 x4 x5 x6 x7 x11) (sl.v10688 c arg2 harg2 arg3 harg3 arg5 harg5 arg6 harg6 arg7 harg7 arg8 harg8 arg9 harg9 arg13 harg13 arg17 x0 x1 x3 x4 x5 x6 x7 x11) (sl.v10741 c arg2 harg2 arg3 harg3 arg5 harg5 arg6 harg6 arg13 harg13 arg17 x0 x1 x3 x4 x11) (sl.v10863 c arg4 harg4 arg18 x2) (sl.r_5 c arg4 harg4 arg18 x2)⟩] : List (View.Piece (Elt F) S4x4x128x128 .f32)) ++ (sl.HS1_16 c arg4 harg4 x2) := by sl_kernel_rfl
  rw [e, leave0, leave1, leave2, leave3, leave4, leave5, leave6, leave7, leave8, leave9, leave10, leave11, leave12, leave13, leave14, leave15, start0, start1, start2, start3, start4, start5, start6, start7, start8, start9, start10, start11, start12, start13, start14, start15, entries_tie]
  have e2 : (List.ofFn fun k : Fin 16 => (⟨rS k.rev, shapeCast S1x1x128x128 (chainK (sl.v297 c arg2 harg2 arg3 harg3 arg5 harg5 arg6 harg6 arg8 harg8 arg13 harg13 arg17 x0 x1 x3 x4 x6 x11) (sl.v294 c arg2 harg2 arg3 harg3 arg5 harg5 arg6 harg6 arg13 harg13 arg17 x0 x1 x3 x4 x11) (sl.v300 c arg2 harg2 arg3 harg3 arg5 harg5 arg6 harg6 arg7 harg7 arg8 harg8 arg13 harg13 arg17 x0 x1 x3 x4 x5 x6 x11) (sl.v301 c arg2 harg2 arg3 harg3 arg5 harg5 arg6 harg6 arg7 harg7 arg9 harg9 arg13 harg13 arg17 x0 x1 x3 x4 x5 x7 x11) (sl.v291 c arg2 harg2 arg3 harg3 arg5 harg5 arg6 harg6 arg8 harg8 arg13 harg13 arg17 x0 x1 x3 x4 x6 x11) (sl.v58 c arg2 harg2 arg3 harg3 arg5 harg5 arg17 x0 x1 x3) (sl.v304 c arg2 harg2 arg3 harg3 arg5 harg5 arg6 harg6 arg7 harg7 arg8 harg8 arg13 harg13 arg17 x0 x1 x3 x4 x5 x6 x11) (sl.v305 c arg2 harg2 arg3 harg3 arg5 harg5 arg6 harg6 arg7 harg7 arg9 harg9 arg13 harg13 arg17 x0 x1 x3 x4 x5 x7 x11) (sl.v306 c arg2 harg2 arg3 harg3 arg5 harg5 arg6 harg6 arg13 harg13 arg17 x0 x1 x3 x4 x11) k.rev (start (headIn arg4 harg4 x2) arg18 k.rev)) shapeCasts_S128x128_S1x1x128x128⟩ : View.Piece (Elt F) S4x4x128x128 .f32)) = [⟨rS 15, shapeCast S1x1x128x128 (chainK (sl.v297 c arg2 harg2 arg3 harg3 arg5 harg5 arg6 harg6 arg8 harg8 arg13 harg13 arg17 x0 x1 x3 x4 x6 x11) (sl.v294 c arg2 harg2 arg3 harg3 arg5 harg5 arg6 harg6 arg13 harg13 arg17 x0 x1 x3 x4 x11) (sl.v300 c arg2 harg2 arg3 harg3 arg5 harg5 arg6 harg6 arg7 harg7 arg8 harg8 arg13 harg13 arg17 x0 x1 x3 x4 x5 x6 x11) (sl.v301 c arg2 harg2 arg3 harg3 arg5 harg5 arg6 harg6 arg7 harg7 arg9 harg9 arg13 harg13 arg17 x0 x1 x3 x4 x5 x7 x11) (sl.v291 c arg2 harg2 arg3 harg3 arg5 harg5 arg6 harg6 arg8 harg8 arg13 harg13 arg17 x0 x1 x3 x4 x6 x11) (sl.v58 c arg2 harg2 arg3 harg3 arg5 harg5 arg17 x0 x1 x3) (sl.v304 c arg2 harg2 arg3 harg3 arg5 harg5 arg6 harg6 arg7 harg7 arg8 harg8 arg13 harg13 arg17 x0 x1 x3 x4 x5 x6 x11) (sl.v305 c arg2 harg2 arg3 harg3 arg5 harg5 arg6 harg6 arg7 harg7 arg9 harg9 arg13 harg13 arg17 x0 x1 x3 x4 x5 x7 x11) (sl.v306 c arg2 harg2 arg3 harg3 arg5 harg5 arg6 harg6 arg13 harg13 arg17 x0 x1 x3 x4 x11) 15 (start (headIn arg4 harg4 x2) arg18 15)) shapeCasts_S128x128_S1x1x128x128⟩, ⟨rS 14, shapeCast S1x1x128x128 (chainK (sl.v297 c arg2 harg2 arg3 harg3 arg5 harg5 arg6 harg6 arg8 harg8 arg13 harg13 arg17 x0 x1 x3 x4 x6 x11) (sl.v294 c arg2 harg2 arg3 harg3 arg5 harg5 arg6 harg6 arg13 harg13 arg17 x0 x1 x3 x4 x11) (sl.v300 c arg2 harg2 arg3 harg3 arg5 harg5 arg6 harg6 arg7 harg7 arg8 harg8 arg13 harg13 arg17 x0 x1 x3 x4 x5 x6 x11) (sl.v301 c arg2 harg2 arg3 harg3 arg5 harg5 arg6 harg6 arg7 harg7 arg9 harg9 arg13 harg13 arg17 x0 x1 x3 x4 x5 x7 x11) (sl.v291 c arg2 harg2 arg3 harg3 arg5 harg5 arg6 harg6 arg8 harg8 arg13 harg13 arg17 x0 x1 x3 x4 x6 x11) (sl.v58 c arg2 harg2 arg3 harg3 arg5 harg5 arg17 x0 x1 x3) (sl.v304 c arg2 harg2 arg3 harg3 arg5 harg5 arg6 harg6 arg7 harg7 arg8 harg8 arg13 harg13 arg17 x0 x1 x3 x4 x5 x6 x11) (sl.v305 c arg2 harg2 arg3 harg3 arg5 harg5 arg6 harg6 arg7 harg7 arg9 harg9 arg13 harg13 arg17 x0 x1 x3 x4 x5 x7 x11) (sl.v306 c arg2 harg2 arg3 harg3 arg5 harg5 arg6 harg6 arg13 harg13 arg17 x0 x1 x3 x4 x11) 14 (start (headIn arg4 harg4 x2) arg18 14)) shapeCasts_S128x128_S1x1x128x128⟩, ⟨rS 13, shapeCast S1x1x128x128 (chainK (sl.v297 c arg2 harg2 arg3 harg3 arg5 harg5 arg6 harg6 arg8 harg8 arg13 harg13 arg17 x0 x1 x3 x4 x6 x11) (sl.v294 c arg2 harg2 arg3 harg3 arg5 harg5 arg6 harg6 arg13 harg13 arg17 x0 x1 x3 x4 x11) (sl.v300 c arg2 harg2 arg3 harg3 arg5 harg5 arg6 harg6 arg7 harg7 arg8 harg8 arg13 harg13 arg17 x0 x1 x3 x4 x5 x6 x11) (sl.v301 c arg2 harg2 arg3 harg3 arg5 harg5 arg6 harg6 arg7 harg7 arg9 harg9 arg13 harg13 arg17 x0 x1 x3 x4 x5 x7 x11) (sl.v291 c arg2 harg2 arg3 harg3 arg5 harg5 arg6 harg6 arg8 harg8 arg13 harg13 arg17 x0 x1 x3 x4 x6 x11) (sl.v58 c arg2 harg2 arg3 harg3 arg5 harg5 arg17 x0 x1 x3) (sl.v304 c arg2 harg2 arg3 harg3 arg5 harg5 arg6 harg6 arg7 harg7 arg8 harg8 arg13 harg13 arg17 x0 x1 x3 x4 x5 x6 x11) (sl.v305 c arg2 harg2 arg3 harg3 arg5 harg5 arg6 harg6 arg7 harg7 arg9 harg9 arg13 harg13 arg17 x0 x1 x3 x4 x5 x7 x11) (sl.v306 c arg2 harg2 arg3 harg3 arg5 harg5 arg6 harg6 arg13 harg13 arg17 x0 x1 x3 x4 x11) 13 (start (headIn arg4 harg4 x2) arg18 13)) shapeCasts_S128x128_S1x1x128x128⟩, ⟨rS 12, shapeCast S1x1x128x128 (chainK (sl.v297 c arg2 harg2 arg3 harg3 arg5 harg5 arg6 harg6 arg8 harg8 arg13 harg13 arg17 x0 x1 x3 x4 x6 x11) (sl.v294 c arg2 harg2 arg3 harg3 arg5 harg5 arg6 harg6 arg13 harg13 arg17 x0 x1 x3 x4 x11) (sl.v300 c arg2 harg2 arg3 harg3 arg5 harg5 arg6 harg6 arg7 harg7 arg8 harg8 arg13 harg13 arg17 x0 x1 x3 x4 x5 x6 x11) (sl.v301 c arg2 harg2 arg3 harg3 arg5 harg5 arg6 harg6 arg7 harg7 arg9 harg9 arg13 harg13 arg17 x0 x1 x3 x4 x5 x7 x11) (sl.v291 c arg2 harg2 arg3 harg3 arg5 harg5 arg6 harg6 arg8 harg8 arg13 harg13 arg17 x0 x1 x3 x4 x6 x11) (sl.v58 c arg2 harg2 arg3 harg3 arg5 harg5 arg17 x0 x1 x3) (sl.v304 c arg2 harg2 arg3 harg3 arg5 harg5 arg6 harg6 arg7 harg7 arg8 harg8 arg13 harg13 arg17 x0 x1 x3 x4 x5 x6 x11) (sl.v305 c arg2 harg2 arg3 harg3 arg5 harg5 arg6 harg6 arg7 harg7 arg9 harg9 arg13 harg13 arg17 x0 x1 x3 x4 x5 x7 x11) (sl.v306 c arg2 harg2 arg3 harg3 arg5 harg5 arg6 harg6 arg13 harg13 arg17 x0 x1 x3 x4 x11) 12 (start (headIn arg4 harg4 x2) arg18 12)) shapeCasts_S128x128_S1x1x128x128⟩, ⟨rS 11, shapeCast S1x1x128x128 (chainK (sl.v297 c arg2 harg2 arg3 harg3 arg5 harg5 arg6 harg6 arg8 harg8 arg13 harg13 arg17 x0 x1 x3 x4 x6 x11) (sl.v294 c arg2 harg2 arg3 harg3 arg5 harg5 arg6 harg6 arg13 harg13 arg17 x0 x1 x3 x4 x11) (sl.v300 c arg2 harg2 arg3 harg3 arg5 harg5 arg6 harg6 arg7 harg7 arg8 harg8 arg13 harg13 arg17 x0 x1 x3 x4 x5 x6 x11) (sl.v301 c arg2 harg2 arg3 harg3 arg5 harg5 arg6 harg6 arg7 harg7 arg9 harg9 arg13 harg13 arg17 x0 x1 x3 x4 x5 x7 x11) (sl.v291 c arg2 harg2 arg3 harg3 arg5 harg5 arg6 harg6 arg8 harg8 arg13 harg13 arg17 x0 x1 x3 x4 x6 x11) (sl.v58 c arg2 harg2 arg3 harg3 arg5 harg5 arg17 x0 x1 x3) (sl.v304 c arg2 harg2 arg3 harg3 arg5 harg5 arg6 harg6 arg7 harg7 arg8 harg8 arg13 harg13 arg17 x0 x1 x3 x4 x5 x6 x11) (sl.v305 c arg2 harg2 arg3 harg3 arg5 harg5 arg6 harg6 arg7 harg7 arg9 harg9 arg13 harg13 arg17 x0 x1 x3 x4 x5 x7 x11) (sl.v306 c arg2 harg2 arg3 harg3 arg5 harg5 arg6 harg6 arg13 harg13 arg17 x0 x1 x3 x4 x11) 11 (start (headIn arg4 harg4 x2) arg18 11)) shapeCasts_S128x128_S1x1x128x128⟩, ⟨rS 10, shapeCast S1x1x128x128 (chainK (sl.v297 c arg2 harg2 arg3 harg3 arg5 harg5 arg6 harg6 arg8 harg8 arg13 harg13 arg17 x0 x1 x3 x4 x6 x11) (sl.v294 c arg2 harg2 arg3 harg3 arg5 harg5 arg6 harg6 arg13 harg13 arg17 x0 x1 x3 x4 x11) (sl.v300 c arg2 harg2 arg3 harg3 arg5 harg5 arg6 harg6 arg7 harg7 arg8 harg8 arg13 harg13 arg17 x0 x1 x3 x4 x5 x6 x11) (sl.v301 c arg2 harg2 arg3 harg3 arg5 harg5 arg6 harg6 arg7 harg7 arg9 harg9 arg13 harg13 arg17 x0 x1 x3 x4 x5 x7 x11) (sl.v291 c arg2 harg2 arg3 harg3 arg5 harg5 arg6 harg6 arg8 harg8 arg13 harg13 arg17 x0 x1 x3 x4 x6 x11) (sl.v58 c arg2 harg2 arg3 harg3 arg5 harg5 arg17 x0 x1 x3) (sl.v304 c arg2 harg2 arg3 harg3 arg5 harg5 arg6 harg6 arg7 harg7 arg8 harg8 arg13 harg13 arg17 x0 x1 x3 x4 x5 x6 x11) (sl.v305 c arg2 harg2 arg3 harg3 arg5 harg5 arg6 harg6 arg7 harg7 arg9 harg9 arg13 harg13 arg17 x0 x1 x3 x4 x5 x7 x11) (sl.v306 c arg2 harg2 arg3 harg3 arg5 harg5 arg6 harg6 arg13 harg13 arg17 x0 x1 x3 x4 x11) 10 (start (headIn arg4 harg4 x2) arg18 10)) shapeCasts_S128x128_S1x1x128x128⟩, ⟨rS 9, shapeCast S1x1x128x128 (chainK (sl.v297 c arg2 harg2 arg3 harg3 arg5 harg5 arg6 harg6 arg8 harg8 arg13 harg13 arg17 x0 x1 x3 x4 x6 x11) (sl.v294 c arg2 harg2 arg3 harg3 arg5 harg5 arg6 harg6 arg13 harg13 arg17 x0 x1 x3 x4 x11) (sl.v300 c arg2 harg2 arg3 harg3 arg5 harg5 arg6 harg6 arg7 harg7 arg8 harg8 arg13 harg13 arg17 x0 x1 x3 x4 x5 x6 x11) (sl.v301 c arg2 harg2 arg3 harg3 arg5 harg5 arg6 harg6 arg7 harg7 arg9 harg9 arg13 harg13 arg17 x0 x1 x3 x4 x5 x7 x11) (sl.v291 c arg2 harg2 arg3 harg3 arg5 harg5 arg6 harg6 arg8 harg8 arg13 harg13 arg17 x0 x1 x3 x4 x6 x11) (sl.v58 c arg2 harg2 arg3 harg3 arg5 harg5 arg17 x0 x1 x3) (sl.v304 c arg2 harg2 arg3 harg3 arg5 harg5 arg6 harg6 arg7 harg7 arg8 harg8 arg13 harg13 arg17 x0 x1 x3 x4 x5 x6 x11) (sl.v305 c arg2 harg2 arg3 harg3 arg5 harg5 arg6 harg6 arg7 harg7 arg9 harg9 arg13 harg13 arg17 x0 x1 x3 x4 x5 x7 x11) (sl.v306 c arg2 harg2 arg3 harg3 arg5 harg5 arg6 harg6 arg13 harg13 arg17 x0 x1 x3 x4 x11) 9 (start (headIn arg4 harg4 x2) arg18 9)) shapeCasts_S128x128_S1x1x128x128⟩, ⟨rS 8, shapeCast S1x1x128x128 (chainK (sl.v297 c arg2 harg2 arg3 harg3 arg5 harg5 arg6 harg6 arg8 harg8 arg13 harg13 arg17 x0 x1 x3 x4 x6 x11) (sl.v294 c arg2 harg2 arg3 harg3 arg5 harg5 arg6 harg6 arg13 harg13 arg17 x0 x1 x3 x4 x11) (sl.v300 c arg2 harg2 arg3 harg3 arg5 harg5 arg6 harg6 arg7 harg7 arg8 harg8 arg13 harg13 arg17 x0 x1 x3 x4 x5 x6 x11) (sl.v301 c arg2 harg2 arg3 harg3 arg5 harg5 arg6 harg6 arg7 harg7 arg9 harg9 arg13 harg13 arg17 x0 x1 x3 x4 x5 x7 x11) (sl.v291 c arg2 harg2 arg3 harg3 arg5 harg5 arg6 harg6 arg8 harg8 arg13 harg13 arg17 x0 x1 x3 x4 x6 x11) (sl.v58 c arg2 harg2 arg3 harg3 arg5 harg5 arg17 x0 x1 x3) (sl.v304 c arg2 harg2 arg3 harg3 arg5 harg5 arg6 harg6 arg7 harg7 arg8 harg8 arg13 harg13 arg17 x0 x1 x3 x4 x5 x6 x11) (sl.v305 c arg2 harg2 arg3 harg3 arg5 harg5 arg6 harg6 arg7 harg7 arg9 harg9 arg13 harg13 arg17 x0 x1 x3 x4 x5 x7 x11) (sl.v306 c arg2 harg2 arg3 harg3 arg5 harg5 arg6 harg6 arg13 harg13 arg17 x0 x1 x3 x4 x11) 8 (start (headIn arg4 harg4 x2) arg18 8)) shapeCasts_S128x128_S1x1x128x128⟩, ⟨rS 7, shapeCast S1x1x128x128 (chainK (sl.v297 c arg2 harg2 arg3 harg3 arg5 harg5 arg6 harg6 arg8 harg8 arg13 harg13 arg17 x0 x1 x3 x4 x6 x11) (sl.v294 c arg2 harg2 arg3 harg3 arg5 harg5 arg6 harg6 arg13 harg13 arg17 x0 x1 x3 x4 x11) (sl.v300 c arg2 harg2 arg3 harg3 arg5 harg5 arg6 harg6 arg7 harg7 arg8 harg8 arg13 harg13 arg17 x0 x1 x3 x4 x5 x6 x11) (sl.v301 c arg2 harg2 arg3 harg3 arg5 harg5 arg6 harg6 arg7 harg7 arg9 harg9 arg13 harg13 arg17 x0 x1 x3 x4 x5 x7 x11) (sl.v291 c arg2 harg2 arg3 harg3 arg5 harg5 arg6 harg6 arg8 harg8 arg13 harg13 arg17 x0 x1 x3 x4 x6 x11) (sl.v58 c arg2 harg2 arg3 harg3 arg5 harg5 arg17 x0 x1 x3) (sl.v304 c arg2 harg2 arg3 harg3 arg5 harg5 arg6 harg6 arg7 harg7 arg8 harg8 arg13 harg13 arg17 x0 x1 x3 x4 x5 x6 x11) (sl.v305 c arg2 harg2 arg3 harg3 arg5 harg5 arg6 harg6 arg7 harg7 arg9 harg9 arg13 harg13 arg17 x0 x1 x3 x4 x5 x7 x11) (sl.v306 c arg2 harg2 arg3 harg3 arg5 harg5 arg6 harg6 arg13 harg13 arg17 x0 x1 x3 x4 x11) 7 (start (headIn arg4 harg4 x2) arg18 7)) shapeCasts_S128x128_S1x1x128x128⟩, ⟨rS 6, shapeCast S1x1x128x128 (chainK (sl.v297 c arg2 harg2 arg3 harg3 arg5 harg5 arg6 harg6 arg8 harg8 arg13 harg13 arg17 x0 x1 x3 x4 x6 x11) (sl.v294 c arg2 harg2 arg3 harg3 arg5 harg5 arg6 harg6 arg13 harg13 arg17 x0 x1 x3 x4 x11) (sl.v300 c arg2 harg2 arg3 harg3 arg5 harg5 arg6 harg6 arg7 harg7 arg8 harg8 arg13 harg13 arg17 x0 x1 x3 x4 x5 x6 x11) (sl.v301 c arg2 harg2 arg3 harg3 arg5 harg5 arg6 harg6 arg7 harg7 arg9 harg9 arg13 harg13 arg17 x0 x1 x3 x4 x5 x7 x11) (sl.v291 c arg2 harg2 arg3 harg3 arg5 harg5 arg6 harg6 arg8 harg8 arg13 harg13 arg17 x0 x1 x3 x4 x6 x11) (sl.v58 c arg2 harg2 arg3 harg3 arg5 harg5 arg17 x0 x1 x3) (sl.v304 c arg2 harg2 arg3 harg3 arg5 harg5 arg6 harg6 arg7 harg7 arg8 harg8 arg13 harg13 arg17 x0 x1 x3 x4 x5 x6 x11) (sl.v305 c arg2 harg2 arg3 harg3 arg5 harg5 arg6 harg6 arg7 harg7 arg9 harg9 arg13 harg13 arg17 x0 x1 x3 x4 x5 x7 x11) (sl.v306 c arg2 harg2 arg3 harg3 arg5 harg5 arg6 harg6 arg13 harg13 arg17 x0 x1 x3 x4 x11) 6 (start (headIn arg4 harg4 x2) arg18 6)) shapeCasts_S128x128_S1x1x128x128⟩, ⟨rS 5, shapeCast S1x1x128x128 (chainK (sl.v297 c arg2 harg2 arg3 harg3 arg5 harg5 arg6 harg6 arg8 harg8 arg13 harg13 arg17 x0 x1 x3 x4 x6 x11) (sl.v294 c arg2 harg2 arg3 harg3 arg5 harg5 arg6 harg6 arg13 harg13 arg17 x0 x1 x3 x4 x11) (sl.v300 c arg2 harg2 arg3 harg3 arg5 harg5 arg6 harg6 arg7 harg7 arg8 harg8 arg13 harg13 arg17 x0 x1 x3 x4 x5 x6 x11) (sl.v301 c arg2 harg2 arg3 harg3 arg5 harg5 arg6 harg6 arg7 harg7 arg9 harg9 arg13 harg13 arg17 x0 x1 x3 x4 x5 x7 x11) (sl.v291 c arg2 harg2 arg3 harg3 arg5 harg5 arg6 harg6 arg8 harg8 arg13 harg13 arg17 x0 x1 x3 x4 x6 x11) (sl.v58 c arg2 harg2 arg3 harg3 arg5 harg5 arg17 x0 x1 x3) (sl.v304 c arg2 harg2 arg3 harg3 arg5 harg5 arg6 harg6 arg7 harg7 arg8 harg8 arg13 harg13 arg17 x0 x1 x3 x4 x5 x6 x11) (sl.v305 c arg2 harg2 arg3 harg3 arg5 harg5 arg6 harg6 arg7 harg7 arg9 harg9 arg13 harg13 arg17 x0 x1 x3 x4 x5 x7 x11) (sl.v306 c arg2 harg2 arg3 harg3 arg5 harg5 arg6 harg6 arg13 harg13 arg17 x0 x1 x3 x4 x11) 5 (start (headIn arg4 harg4 x2) arg18 5)) shapeCasts_S128x128_S1x1x128x128⟩, ⟨rS 4, shapeCast S1x1x128x128 (chainK (sl.v297 c arg2 harg2 arg3 harg3 arg5 harg5 arg6 harg6 arg8 harg8 arg13 harg13 arg17 x0 x1 x3 x4 x6 x11) (sl.v294 c arg2 harg2 arg3 harg3 arg5 harg5 arg6 harg6 arg13 harg13 arg17 x0 x1 x3 x4 x11) (sl.v300 c arg2 harg2 arg3 harg3 arg5 harg5 arg6 harg6 arg7 harg7 arg8 harg8 arg13 harg13 arg17 x0 x1 x3 x4 x5 x6 x11) (sl.v301 c arg2 harg2 arg3 harg3 arg5 harg5 arg6 harg6 arg7 harg7 arg9 harg9 arg13 harg13 arg17 x0 x1 x3 x4 x5 x7 x11) (sl.v291 c arg2 harg2 arg3 harg3 arg5 harg5 arg6 harg6 arg8 harg8 arg13 harg13 arg17 x0 x1 x3 x4 x6 x11) (sl.v58 c arg2 harg2 arg3 harg3 arg5 harg5 arg17 x0 x1 x3) (sl.v304 c arg2 harg2 arg3 harg3 arg5 harg5 arg6 harg6 arg7 harg7 arg8 harg8 arg13 harg13 arg17 x0 x1 x3 x4 x5 x6 x11) (sl.v305 c arg2 harg2 arg3 harg3 arg5 harg5 arg6 harg6 arg7 harg7 arg9 harg9 arg13 harg13 arg17 x0 x1 x3 x4 x5 x7 x11) (sl.v306 c arg2 harg2 arg3 harg3 arg5 harg5 arg6 harg6 arg13 harg13 arg17 x0 x1 x3 x4 x11) 4 (start (headIn arg4 harg4 x2) arg18 4)) shapeCasts_S128x128_S1x1x128x128⟩, ⟨rS 3, shapeCast S1x1x128x128 (chainK (sl.v297 c arg2 harg2 arg3 harg3 arg5 harg5 arg6 harg6 arg8 harg8 arg13 harg13 arg17 x0 x1 x3 x4 x6 x11) (sl.v294 c arg2 harg2 arg3 harg3 arg5 harg5 arg6 harg6 arg13 harg13 arg17 x0 x1 x3 x4 x11) (sl.v300 c arg2 harg2 arg3 harg3 arg5 harg5 arg6 harg6 arg7 harg7 arg8 harg8 arg13 harg13 arg17 x0 x1 x3 x4 x5 x6 x11) (sl.v301 c arg2 harg2 arg3 harg3 arg5 harg5 arg6 harg6 arg7 harg7 arg9 harg9 arg13 harg13 arg17 x0 x1 x3 x4 x5 x7 x11) (sl.v291 c arg2 harg2 arg3 harg3 arg5 harg5 arg6 harg6 arg8 harg8 arg13 harg13 arg17 x0 x1 x3 x4 x6 x11) (sl.v58 c arg2 harg2 arg3 harg3 arg5 harg5 arg17 x0 x1 x3) (sl.v304 c arg2 harg2 arg3 harg3 arg5 harg5 arg6 harg6 arg7 harg7 arg8 harg8 arg13 harg13 arg17 x0 x1 x3 x4 x5 x6 x11) (sl.v305 c arg2 harg2 arg3 harg3 arg5 harg5 arg6 harg6 arg7 harg7 arg9 harg9 arg13 harg13 arg17 x0 x1 x3 x4 x5 x7 x11) (sl.v306 c arg2 harg2 arg3 harg3 arg5 harg5 arg6 harg6 arg13 harg13 arg17 x0 x1 x3 x4 x11) 3 (start (headIn arg4 harg4 x2) arg18 3)) shapeCasts_S128x128_S1x1x128x128⟩, ⟨rS 2, shapeCast S1x1x128x128 (chainK (sl.v297 c arg2 harg2 arg3 harg3 arg5 harg5 arg6 harg6 arg8 harg8 arg13 harg13 arg17 x0 x1 x3 x4 x6 x11) (sl.v294 c arg2 harg2 arg3 harg3 arg5 harg5 arg6 harg6 arg13 harg13 arg17 x0 x1 x3 x4 x11) (sl.v300 c arg2 harg2 arg3 harg3 arg5 harg5 arg6 harg6 arg7 harg7 arg8 harg8 arg13 harg13 arg17 x0 x1 x3 x4 x5 x6 x11) (sl.v301 c arg2 harg2 arg3 harg3 arg5 harg5 arg6 harg6 arg7 harg7 arg9 harg9 arg13 harg13 arg17 x0 x1 x3 x4 x5 x7 x11) (sl.v291 c arg2 harg2 arg3 harg3 arg5 harg5 arg6 harg6 arg8 harg8 arg13 harg13 arg17 x0 x1 x3 x4 x6 x11) (sl.v58 c arg2 harg2 arg3 harg3 arg5 harg5 arg17 x0 x1 x3) (sl.v304 c arg2 harg2 arg3 harg3 arg5 harg5 arg6 harg6 arg7 harg7 arg8 harg8 arg13 harg13 arg17 x0 x1 x3 x4 x5 x6 x11) (sl.v305 c arg2 harg2 arg3 harg3 arg5 harg5 arg6 harg6 arg7 harg7 arg9 harg9 arg13 harg13 arg17 x0 x1 x3 x4 x5 x7 x11) (sl.v306 c arg2 harg2 arg3 harg3 arg5 harg5 arg6 harg6 arg13 harg13 arg17 x0 x1 x3 x4 x11) 2 (start (headIn arg4 harg4 x2) arg18 2)) shapeCasts_S128x128_S1x1x128x128⟩, ⟨rS 1, shapeCast S1x1x128x128 (chainK (sl.v297 c arg2 harg2 arg3 harg3 arg5 harg5 arg6 harg6 arg8 harg8 arg13 harg13 arg17 x0 x1 x3 x4 x6 x11) (sl.v294 c arg2 harg2 arg3 harg3 arg5 harg5 arg6 harg6 arg13 harg13 arg17 x0 x1 x3 x4 x11) (sl.v300 c arg2 harg2 arg3 harg3 arg5 harg5 arg6 harg6 arg7 harg7 arg8 harg8 arg13 harg13 arg17 x0 x1 x3 x4 x5 x6 x11) (sl.v301 c arg2 harg2 arg3 harg3 arg5 harg5 arg6 harg6 arg7 harg7 arg9 harg9 arg13 harg13 arg17 x0 x1 x3 x4 x5 x7 x11) (sl.v291 c arg2 harg2 arg3 harg3 arg5 harg5 arg6 harg6 arg8 harg8 arg13 harg13 arg17 x0 x1 x3 x4 x6 x11) (sl.v58 c arg2 harg2 arg3 harg3 arg5 harg5 arg17 x0 x1 x3) (sl.v304 c arg2 harg2 arg3 harg3 arg5 harg5 arg6 harg6 arg7 harg7 arg8 harg8 arg13 harg13 arg17 x0 x1 x3 x4 x5 x6 x11) (sl.v305 c arg2 harg2 arg3 harg3 arg5 harg5 arg6 harg6 arg7 harg7 arg9 harg9 arg13 harg13 arg17 x0 x1 x3 x4 x5 x7 x11) (sl.v306 c arg2 harg2 arg3 harg3 arg5 harg5 arg6 harg6 arg13 harg13 arg17 x0 x1 x3 x4 x11) 1 (start (headIn arg4 harg4 x2) arg18 1)) shapeCasts_S128x128_S1x1x128x128⟩, ⟨rS 0, shapeCast S1x1x128x128 (chainK (sl.v297 c arg2 harg2 arg3 harg3 arg5 harg5 arg6 harg6 arg8 harg8 arg13 harg13 arg17 x0 x1 x3 x4 x6 x11) (sl.v294 c arg2 harg2 arg3 harg3 arg5 harg5 arg6 harg6 arg13 harg13 arg17 x0 x1 x3 x4 x11) (sl.v300 c arg2 harg2 arg3 harg3 arg5 harg5 arg6 harg6 arg7 harg7 arg8 harg8 arg13 harg13 arg17 x0 x1 x3 x4 x5 x6 x11) (sl.v301 c arg2 harg2 arg3 harg3 arg5 harg5 arg6 harg6 arg7 harg7 arg9 harg9 arg13 harg13 arg17 x0 x1 x3 x4 x5 x7 x11) (sl.v291 c arg2 harg2 arg3 harg3 arg5 harg5 arg6 harg6 arg8 harg8 arg13 harg13 arg17 x0 x1 x3 x4 x6 x11) (sl.v58 c arg2 harg2 arg3 harg3 arg5 harg5 arg17 x0 x1 x3) (sl.v304 c arg2 harg2 arg3 harg3 arg5 harg5 arg6 harg6 arg7 harg7 arg8 harg8 arg13 harg13 arg17 x0 x1 x3 x4 x5 x6 x11) (sl.v305 c arg2 harg2 arg3 harg3 arg5 harg5 arg6 harg6 arg7 harg7 arg9 harg9 arg13 harg13 arg17 x0 x1 x3 x4 x5 x7 x11) (sl.v306 c arg2 harg2 arg3 harg3 arg5 harg5 arg6 harg6 arg13 harg13 arg17 x0 x1 x3 x4 x11) 0 (start (headIn arg4 harg4 x2) arg18 0)) shapeCasts_S128x128_S1x1x128x128⟩] := by sl_kernel_rfl
  rw [leaves, e2]; rfl

end Cert.RwkvIdeal.Hand

end
-- ==== Proof.RwkvTieE.lean ====
/- What the run writes back. -/
module

public import proofs.«01_k».proof.Proof.RwkvTieD

@[expose] public section

noncomputable section

namespace Cert.RwkvIdeal.Hand

open Cert.RwkvIdeal Cert.RwkvIdeal.Gen Cert.RwkvIdeal.Gen.kernelRun0_A Idealize.ShloMosaic

variable {F : FTy → Type} [FloatOps F] [Named F]

/-- What the run writes back, in the stages' terms. -/
theorem state_tie  (c : Dev nD) (i : grid0.Coords) (arg2 : Memref sig .tc .vmem S4x16x1792 .f32) (harg2 : arg2.IsWhole) (arg3 : Memref sig .tc .vmem S4x1x1792 .f32) (harg3 : arg3.IsWhole) (arg4 : Memref sig .tc .vmem S4x8x64x64 .f32) (harg4 : arg4.IsWhole) (arg5 : Memref sig .tc .vmem S1x1792 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S128x1024 .bf16) (harg13 : arg13.IsWhole) (arg14 : Memref sig .tc .vmem S128x512 .bf16) (harg14 : arg14.IsWhole) (arg15 : Memref sig .tc .vmem S4x16x512 .bf16) (harg15 : arg15.IsWhole) (arg16 : Memref sig .tc .vmem S4x8x64x64 .f32) (harg16 : arg16.IsWhole) (arg17 : Memref sig .tc .vmem S4x24x1792 .f32) (harg17 : arg17.IsWhole) (arg18 : Memref sig .tc .vmem S4x4x128x128 .f32) (harg18 : arg18.IsWhole) (hc0 : cond0_0 i) (hc1 : cond0_1 i)
    (x0 : Vec F S4x16x1792 .f32) (x1 : Vec F S4x1x1792 .f32) (x2 : Vec F S4x8x64x64 .f32) (x3 : Vec F S1x1792 .f32) (x4 : Vec F S1x512 .f32) (x5 : Vec F S1x512 .f32) (x6 : Vec F S1x512 .f32) (x7 : Vec F S1x512 .f32) (x8 : Vec F S1x512 .f32) (x9 : Vec F S1x512 .f32) (x10 : Vec F S1x512 .f32) (x11 : Vec F S128x1024 .bf16) (x12 : Vec F S128x512 .bf16) :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12).2.1 = finals (sl.v297 c arg2 harg2 arg3 harg3 arg5 harg5 arg6 harg6 arg8 harg8 arg13 harg13 arg17 x0 x1 x3 x4 x6 x11) (sl.v294 c arg2 harg2 arg3 harg3 arg5 harg5 arg6 harg6 arg13 harg13 arg17 x0 x1 x3 x4 x11) (sl.v300 c arg2 harg2 arg3 harg3 arg5 harg5 arg6 harg6 arg7 harg7 arg8 harg8 arg13 harg13 arg17 x0 x1 x3 x4 x5 x6 x11) (sl.v301 c arg2 harg2 arg3 harg3 arg5 harg5 arg6 harg6 arg7 harg7 arg9 harg9 arg13 harg13 arg17 x0 x1 x3 x4 x5 x7 x11) (sl.v291 c arg2 harg2 arg3 harg3 arg5 harg5 arg6 harg6 arg8 harg8 arg13 harg13 arg17 x0 x1 x3 x4 x6 x11) (sl.v58 c arg2 harg2 arg3 harg3 arg5 harg5 arg17 x0 x1 x3) (sl.v304 c arg2 harg2 arg3 harg3 arg5 harg5 arg6 harg6 arg7 harg7 arg8 harg8 arg13 harg13 arg17 x0 x1 x3 x4 x5 x6 x11) (sl.v305 c arg2 harg2 arg3 harg3 arg5 harg5 arg6 harg6 arg7 harg7 arg9 harg9 arg13 harg13 arg17 x0 x1 x3 x4 x5 x7 x11) (sl.v306 c arg2 harg2 arg3 harg3 arg5 harg5 arg6 harg6 arg13 harg13 arg17 x0 x1 x3 x4 x11) (headIn arg4 harg4 x2) arg18 := by
  have e : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12).2.1 = List.ofFn fun k : Fin 32 => (⟨rH k.rev, back arg18 (sl.HS1_32 c arg2 harg2 arg3 harg3 arg4 harg4 arg5 harg5 arg6 harg6 arg7 harg7 arg8 harg8 arg9 harg9 arg13 harg13 arg17 arg18 x0 x1 x2 x3 x4 x5 x6 x7 x11) k.rev⟩ : View.Piece (Elt F) S4x8x64x64 .f32) := by sl_kernel_rfl
  rw [e, leaves_tie]; rfl

end Cert.RwkvIdeal.Hand

end
-- ==== Proof.RwkvTieF.lean ====
/- The arrays of the chunk products, by the shared arrays. -/
module

public import proofs.«01_k».proof.Proof.RwkvTieE

@[expose] public section

noncomputable section

namespace Cert.RwkvIdeal.Hand

open Cert.RwkvIdeal Cert.RwkvIdeal.Gen Cert.RwkvIdeal.Gen.kernelRun0_A Idealize.ShloMosaic

variable {F : FTy → Type} [FloatOps F] [Named F]
variable (c : Dev nD) (arg2 : Memref sig .tc .vmem S4x16x1792 .f32) (harg2 : arg2.IsWhole) (arg3 : Memref sig .tc .vmem S4x1x1792 .f32) (harg3 : arg3.IsWhole) (arg4 : Memref sig .tc .vmem S4x8x64x64 .f32) (harg4 : arg4.IsWhole) (arg5 : Memref sig .tc .vmem S1x1792 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (arg13 : Memref sig .tc .vmem S128x1024 .bf16) (harg13 : arg13.IsWhole) (arg17 : Memref sig .tc .vmem S4x24x1792 .f32) (arg18 : Memref sig .tc .vmem S4x4x128x128 .f32) (x0 : Vec F S4x16x1792 .f32) (x1 : Vec F S4x1x1792 .f32) (x2 : Vec F S4x8x64x64 .f32) (x3 : Vec F S1x1792 .f32) (x4 : Vec F S1x512 .f32) (x5 : Vec F S1x512 .f32) (x6 : Vec F S1x512 .f32) (x7 : Vec F S1x512 .f32) (x11 : Vec F S128x1024 .bf16)

/-- A factor of the chunk products. -/
theorem sh_v291 : (sl.v291 c arg2 harg2 arg3 harg3 arg5 harg5 arg6 harg6 arg8 harg8 arg13 harg13 arg17 x0 x1 x3 x4 x6 x11) = mulf (sl.r c arg2 harg2 arg3 harg3 arg5 harg5 arg8 harg8 arg17 x0 x1 x3 x6) (exp (sl.v261 c arg2 harg2 arg3 harg3 arg5 harg5 arg6 harg6 arg13 harg13 arg17 x0 x1 x3 x4 x11)) := by sl_kernel_rfl
/-- A factor of the chunk products. -/
theorem sh_v294 : (sl.v294 c arg2 harg2 arg3 harg3 arg5 harg5 arg6 harg6 arg13 harg13 arg17 x0 x1 x3 x4 x11) = mulf (sl.v56 c arg2 harg2 arg3 harg3 arg5 harg5 arg17 x0 x1 x3) (exp (subf (sl.v260 c arg2 harg2 arg3 harg3 arg5 harg5 arg6 harg6 arg13 harg13 arg17 x0 x1 x3 x4 x11) (sl.v287 c arg2 harg2 arg3 harg3 arg5 harg5 arg6 harg6 arg13 harg13 arg17 x0 x1 x3 x4 x11))) := by sl_kernel_rfl
/-- A factor of the chunk products. -/
theorem sh_v297 : (sl.v297 c arg2 harg2 arg3 harg3 arg5 harg5 arg6 harg6 arg8 harg8 arg13 harg13 arg17 x0 x1 x3 x4 x6 x11) = mulf (sl.r c arg2 harg2 arg3 harg3 arg5 harg5 arg8 harg8 arg17 x0 x1 x3 x6) (exp (subf (sl.v261 c arg2 harg2 arg3 harg3 arg5 harg5 arg6 harg6 arg13 harg13 arg17 x0 x1 x3 x4 x11) (sl.v287 c arg2 harg2 arg3 harg3 arg5 harg5 arg6 harg6 arg13 harg13 arg17 x0 x1 x3 x4 x11))) := by sl_kernel_rfl
/-- A factor of the chunk products. -/
theorem sh_v300 : (sl.v300 c arg2 harg2 arg3 harg3 arg5 harg5 arg6 harg6 arg7 harg7 arg8 harg8 arg13 harg13 arg17 x0 x1 x3 x4 x5 x6 x11) = mulf (sl.r_2 c arg2 harg2 arg3 harg3 arg5 harg5 arg7 harg7 arg8 harg8 arg13 harg13 arg17 x0 x1 x3 x5 x6 x11) (exp (subf (sl.v287 c arg2 harg2 arg3 harg3 arg5 harg5 arg6 harg6 arg13 harg13 arg17 x0 x1 x3 x4 x11) (sl.v260 c arg2 harg2 arg3 harg3 arg5 harg5 arg6 harg6 arg13 harg13 arg17 x0 x1 x3 x4 x11))) := by sl_kernel_rfl
/-- A factor of the chunk products. -/
theorem sh_v301 : (sl.v301 c arg2 harg2 arg3 harg3 arg5 harg5 arg6 harg6 arg7 harg7 arg9 harg9 arg13 harg13 arg17 x0 x1 x3 x4 x5 x7 x11) = mulf (sl.r_1 c arg2 harg2 arg3 harg3 arg5 harg5 arg7 harg7 arg9 harg9 arg13 harg13 arg17 x0 x1 x3 x5 x7 x11) (exp (subf (sl.v287 c arg2 harg2 arg3 harg3 arg5 harg5 arg6 harg6 arg13 harg13 arg17 x0 x1 x3 x4 x11) (sl.v260 c arg2 harg2 arg3 harg3 arg5 harg5 arg6 harg6 arg13 harg13 arg17 x0 x1 x3 x4 x11))) := by sl_kernel_rfl
/-- A factor of the chunk products. -/
theorem sh_v304 : (sl.v304 c arg2 harg2 arg3 harg3 arg5 harg5 arg6 harg6 arg7 harg7 arg8 harg8 arg13 harg13 arg17 x0 x1 x3 x4 x5 x6 x11) = mulf (sl.r_2 c arg2 harg2 arg3 harg3 arg5 harg5 arg7 harg7 arg8 harg8 arg13 harg13 arg17 x0 x1 x3 x5 x6 x11) (exp (subf (sl.v274 c arg2 harg2 arg3 harg3 arg5 harg5 arg6 harg6 arg13 harg13 arg17 x0 x1 x3 x4 x11) (sl.v260 c arg2 harg2 arg3 harg3 arg5 harg5 arg6 harg6 arg13 harg13 arg17 x0 x1 x3 x4 x11))) := by sl_kernel_rfl
/-- A factor of the chunk products. -/
theorem sh_v305 : (sl.v305 c arg2 harg2 arg3 harg3 arg5 harg5 arg6 harg6 arg7 harg7 arg9 harg9 arg13 harg13 arg17 x0 x1 x3 x4 x5 x7 x11) = mulf (sl.r_1 c arg2 harg2 arg3 harg3 arg5 harg5 arg7 harg7 arg9 harg9 arg13 harg13 arg17 x0 x1 x3 x5 x7 x11) (exp (subf (sl.v274 c arg2 harg2 arg3 harg3 arg5 harg5 arg6 harg6 arg13 harg13 arg17 x0 x1 x3 x4 x11) (sl.v260 c arg2 harg2 arg3 harg3 arg5 harg5 arg6 harg6 arg13 harg13 arg17 x0 x1 x3 x4 x11))) := by sl_kernel_rfl
/-- A factor of the chunk products. -/
theorem sh_v306 : (sl.v306 c arg2 harg2 arg3 harg3 arg5 harg5 arg6 harg6 arg13 harg13 arg17 x0 x1 x3 x4 x11) = (exp (sl.v274 c arg2 harg2 arg3 harg3 arg5 harg5 arg6 harg6 arg13 harg13 arg17 x0 x1 x3 x4 x11)) := by sl_kernel_rfl

end Cert.RwkvIdeal.Hand

end
-- ==== Proof.RwkvTieA.lean ====
/- The shared arrays are the stages of RwkvModel. -/
module

public import proofs.«01_k».proof.Proof.RwkvTie

@[expose] public section

noncomputable section

namespace Cert.RwkvIdeal.Hand

open Cert.RwkvIdeal Cert.RwkvIdeal.Gen Cert.RwkvIdeal.Gen.kernelRun0_A Idealize.ShloMosaic

variable {F : FTy → Type} [FloatOps F] [Named F]
variable (c : Dev nD) (arg2 : Memref sig .tc .vmem S4x16x1792 .f32) (harg2 : arg2.IsWhole) (arg3 : Memref sig .tc .vmem S4x1x1792 .f32) (harg3 : arg3.IsWhole) (arg4 : Memref sig .tc .vmem S4x8x64x64 .f32) (harg4 : arg4.IsWhole) (arg5 : Memref sig .tc .vmem S1x1792 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (arg13 : Memref sig .tc .vmem S128x1024 .bf16) (harg13 : arg13.IsWhole) (arg17 : Memref sig .tc .vmem S4x24x1792 .f32) (arg18 : Memref sig .tc .vmem S4x4x128x128 .f32) (x0 : Vec F S4x16x1792 .f32) (x1 : Vec F S4x1x1792 .f32) (x2 : Vec F S4x8x64x64 .f32) (x3 : Vec F S1x1792 .f32) (x4 : Vec F S1x512 .f32) (x5 : Vec F S1x512 .f32) (x6 : Vec F S1x512 .f32) (x7 : Vec F S1x512 .f32) (x11 : Vec F S128x1024 .bf16)

/-- A shared array. -/
theorem sh_v57 : (sl.v57 c arg2 harg2 arg3 harg3 arg5 harg5 arg17 x0 x1 x3) = kz (sl.v48 c arg2 harg2 x0) (sl.v49 c arg2 harg2 arg3 harg3 arg17 x0 x1) (sl.v52 c arg5 harg5 x3) := by sl_kernel_rfl
/-- A shared array. -/
theorem sh_v58 : (sl.v58 c arg2 harg2 arg3 harg3 arg5 harg5 arg17 x0 x1 x3) = vv (sl.v48 c arg2 harg2 x0) (sl.v49 c arg2 harg2 arg3 harg3 arg17 x0 x1) (sl.v52 c arg5 harg5 x3) := by sl_kernel_rfl
/-- A shared array. -/
theorem sh_v56 : (sl.v56 c arg2 harg2 arg3 harg3 arg5 harg5 arg17 x0 x1 x3) = rr (sl.v48 c arg2 harg2 x0) (sl.v49 c arg2 harg2 arg3 harg3 arg17 x0 x1) (sl.v52 c arg5 harg5 x3) := by sl_kernel_rfl
/-- A shared array. -/
theorem sh_v69 : (sl.v69 c arg2 harg2 arg3 harg3 arg5 harg5 arg13 harg13 arg17 x0 x1 x3 x11) = lor (sl.v48 c arg2 harg2 x0) (sl.v49 c arg2 harg2 arg3 harg3 arg17 x0 x1) (sl.v52 c arg5 harg5 x3) (sl.v68 c arg13 harg13 x11) := by sl_kernel_rfl
/-- A shared array. -/
theorem sh_v77 : (sl.v77 c arg2 harg2 arg3 harg3 arg5 harg5 arg6 harg6 arg13 harg13 arg17 x0 x1 x3 x4 x11) = ld (sl.v48 c arg2 harg2 x0) (sl.v49 c arg2 harg2 arg3 harg3 arg17 x0 x1) (sl.v52 c arg5 harg5 x3) (sl.v71 c arg6 harg6 x4) (sl.v68 c arg13 harg13 x11) := by sl_kernel_rfl
/-- A shared array. -/
theorem sh_v83 : (sl.v83 c arg2 harg2 arg3 harg3 arg5 harg5 arg7 harg7 arg13 harg13 arg17 x0 x1 x3 x5 x11) = aa (sl.v48 c arg2 harg2 x0) (sl.v49 c arg2 harg2 arg3 harg3 arg17 x0 x1) (sl.v52 c arg5 harg5 x3) (sl.v79 c arg7 harg7 x5) (sl.v68 c arg13 harg13 x11) := by sl_kernel_rfl
/-- A shared array. -/
theorem sh_v142 : (sl.v142 : FVec F S128x128 .bf16) = seg := by sl_kernel_rfl
/-- A shared array. -/
theorem sh_r : (sl.r c arg2 harg2 arg3 harg3 arg5 harg5 arg8 harg8 arg17 x0 x1 x3 x6) = kn (sl.v48 c arg2 harg2 x0) (sl.v49 c arg2 harg2 arg3 harg3 arg17 x0 x1) (sl.v52 c arg5 harg5 x3) (sl.v144 c arg8 harg8 x6) := by sl_kernel_rfl
/-- A shared array. -/
theorem sh_r_1 : (sl.r_1 c arg2 harg2 arg3 harg3 arg5 harg5 arg7 harg7 arg9 harg9 arg13 harg13 arg17 x0 x1 x3 x5 x7 x11) = k2 (sl.v48 c arg2 harg2 x0) (sl.v49 c arg2 harg2 arg3 harg3 arg17 x0 x1) (sl.v52 c arg5 harg5 x3) (sl.v79 c arg7 harg7 x5) (shapeCast S1x512 (arg9.view.readAt (Elt F) (Rect.unit (s := S1x512) ![0, 0] S1x512.size inb_S1x512_S1x512_0_0).toLoadRect (harg9.unread x7)) shapeCasts_S1x512_S1x512) (sl.v68 c arg13 harg13 x11) := by sl_kernel_rfl
/-- A shared array. -/
theorem sh_r_2 : (sl.r_2 c arg2 harg2 arg3 harg3 arg5 harg5 arg7 harg7 arg8 harg8 arg13 harg13 arg17 x0 x1 x3 x5 x6 x11) = bb (sl.v48 c arg2 harg2 x0) (sl.v49 c arg2 harg2 arg3 harg3 arg17 x0 x1) (sl.v52 c arg5 harg5 x3) (sl.v79 c arg7 harg7 x5) (sl.v144 c arg8 harg8 x6) (sl.v68 c arg13 harg13 x11) := by sl_kernel_rfl
/-- A shared array. -/
theorem sh_v260 : (sl.v260 c arg2 harg2 arg3 harg3 arg5 harg5 arg6 harg6 arg13 harg13 arg17 x0 x1 x3 x4 x11) = lp (sl.v48 c arg2 harg2 x0) (sl.v49 c arg2 harg2 arg3 harg3 arg17 x0 x1) (sl.v52 c arg5 harg5 x3) (sl.v71 c arg6 harg6 x4) (sl.v68 c arg13 harg13 x11) := by sl_kernel_rfl
/-- A shared array. -/
theorem sh_v261 : (sl.v261 c arg2 harg2 arg3 harg3 arg5 harg5 arg6 harg6 arg13 harg13 arg17 x0 x1 x3 x4 x11) = lpp (sl.v48 c arg2 harg2 x0) (sl.v49 c arg2 harg2 arg3 harg3 arg17 x0 x1) (sl.v52 c arg5 harg5 x3) (sl.v71 c arg6 harg6 x4) (sl.v68 c arg13 harg13 x11) := by sl_kernel_rfl
/-- A shared array. -/
theorem sh_v274 : (sl.v274 c arg2 harg2 arg3 harg3 arg5 harg5 arg6 harg6 arg13 harg13 arg17 x0 x1 x3 x4 x11) = lastOf (sl.v260 c arg2 harg2 arg3 harg3 arg5 harg5 arg6 harg6 arg13 harg13 arg17 x0 x1 x3 x4 x11) := by sl_kernel_rfl
/-- A shared array. -/
theorem sh_v287 : (sl.v287 c arg2 harg2 arg3 harg3 arg5 harg5 arg6 harg6 arg13 harg13 arg17 x0 x1 x3 x4 x11) = midOf (sl.v260 c arg2 harg2 arg3 harg3 arg5 harg5 arg6 harg6 arg13 harg13 arg17 x0 x1 x3 x4 x11) := by sl_kernel_rfl

end Cert.RwkvIdeal.Hand

end
-- ==== Proof.RwkvRun.lean ====
/- What one grid point leaves of the states: the recurrence's, of its four batch rows. -/
module

public import proofs.«01_k».proof.Proof.RwkvRead
public import proofs.«01_k».proof.Proof.RwkvTieF
public import proofs.«01_k».proof.Proof.RwkvTieA

@[expose] public section

set_option maxRecDepth 16384

noncomputable section

namespace Cert.RwkvIdeal.Hand

open Cert.RwkvIdeal Cert.RwkvIdeal.Gen Cert.RwkvIdeal.Gen.kernelRun0_A Idealize.ShloMosaic Cert.RwkvBlocks Cert.RwkvSpec Matrix

/-- Four batch rows' arguments, as a grid point's windows hold them. -/
structure Blk (x0 : Vec Ideal S4x16x1792 .f32) (x1 : Vec Ideal S4x1x1792 .f32) (x2 : Vec Ideal S4x8x64x64 .f32) (x3 : Vec Ideal S1x1792 .f32)
    (x4 x5 x6 x7 : Vec Ideal S1x512 .f32) (x11 : Vec Ideal S128x1024 .bf16) (x : Fin 4 → Row) : Prop where
  real : ∀ n, (x n).Real
  P : ∀ n t d, x0 (i3 n t d) = (x n).P t d
  sh : ∀ n d, x1 (i3 n 0 d) = (x n).sh d
  S0 : ∀ n h i j, x2 (i4 n h i j) = (x n).S0 h i j
  mu : ∀ n d, x3 (ix2 0 d) = (x n).mu d
  w0 : ∀ n d, x4 (ix2 0 d) = (x n).w0 d
  a0 : ∀ n d, x5 (ix2 0 d) = (x n).a0 d
  kkp : ∀ n d, x6 (ix2 0 d) = (x n).kkp d
  kap : ∀ n d, x7 (ix2 0 d) = (x n).kap d
  wd : ∀ n (j : Fin 64) (l : Fin 512), x11 (ix2 (⟨j.1, by omega⟩ : Fin 128) (⟨l.1, by omega⟩ : Fin 1024)) = (x n).wd j l
  wd0 : ∀ (j : Fin 64) (l : Fin 512), x11 (ix2 (⟨64 + j.1, by omega⟩ : Fin 128) (⟨l.1, by omega⟩ : Fin 1024)) = 0
  wa : ∀ n (j : Fin 64) (l : Fin 512), x11 (ix2 (⟨64 + j.1, by omega⟩ : Fin 128) (⟨512 + l.1, by omega⟩ : Fin 1024)) = (x n).wa j l
  wa0 : ∀ (j : Fin 64) (l : Fin 512), x11 (ix2 (⟨j.1, by omega⟩ : Fin 128) (⟨512 + l.1, by omega⟩ : Fin 1024)) = 0

/-- The row before a row. -/
theorem beforeRow_eq (x0 : Vec Ideal S4x16x1792 .f32) (x1 : Vec Ideal S4x1x1792 .f32) (x : Row) (n : Fin 4)
    (hP : ∀ t d, x0 (i3 n t d) = x.P t d) (hs : ∀ d, x1 (i3 n 0 d) = x.sh d) (t : Fin 16) (d : Fin 1792) : beforeRow x0 x1 n t d = x.prev t d := by
  unfold beforeRow Row.prev
  by_cases h : t.1 = 0
  · rw [if_pos h, if_pos h, hs]
  · rw [if_neg h, if_neg h, hP]

/-- A read of the whole of a matrix. -/
theorem ld2 {M N : ℕ} {e : EltTy} (a : Memref sig .tc .vmem ⟨2, ![M, N]⟩ e) (h : a.IsWhole) (X : Vec Ideal ⟨2, ![M, N]⟩ e)
    (inb : ∀ d, (![0, 0] : Fin 2 → ℕ) d + (⟨2, ![M, N]⟩ : Shape).size d ≤ (⟨2, ![M, N]⟩ : Shape).size d) (hc : (⟨2, ![M, N]⟩ : Shape).ShapeCasts ⟨2, ![M, N]⟩) :
    shapeCast ⟨2, ![M, N]⟩ (a.view.readAt (Elt Ideal) (Rect.unit ![0, 0] (⟨2, ![M, N]⟩ : Shape).size inb).toLoadRect (h.unread X) : (⟨2, ![M, N]⟩ : Shape).Idx → Elt Ideal e) hc = X :=
  (shapeCast_self _ hc).trans (funext fun x => whole2 a h X inb x)

/-- The state of a head that a window holds. -/
theorem headIn_at (arg4 : Memref sig .tc .vmem S4x8x64x64 .f32) (harg4 : arg4.IsWhole) (x2 : Vec Ideal S4x8x64x64 .f32) (k : Fin 32) (i j : Fin 64) :
    headIn arg4 harg4 x2 k (i4 0 0 i j : S1x1x64x64.Idx) = x2 (i4 (⟨k.1 / 8, by omega⟩ : Fin 4) (⟨k.1 % 8, by omega⟩ : Fin 8) i j) := by
  unfold headIn
  refine (Memref.IsWhole.readAt_unread harg4 x2 (rH k).toLoadRect (i4 0 0 i j : S1x1x64x64.Idx)).trans (congrArg x2 (funext fun a => Fin.ext ?_))
  match a with
  | ⟨0, _⟩ => show k.1 / 8 + 1 * 0 = k.1 / 8; omega
  | ⟨1, _⟩ => show k.1 % 8 + 1 * 0 = k.1 % 8; omega
  | ⟨2, _⟩ => show 0 + 1 * i.1 = i.1; omega
  | ⟨3, _⟩ => show 0 + 1 * j.1 = j.1; omega

/-- What a grid point leaves in the block of states. -/
theorem out14_at (c : Dev nD) (i : grid0.Coords) (arg2 : Memref sig .tc .vmem S4x16x1792 .f32) (harg2 : arg2.IsWhole) (arg3 : Memref sig .tc .vmem S4x1x1792 .f32) (harg3 : arg3.IsWhole) (arg4 : Memref sig .tc .vmem S4x8x64x64 .f32) (harg4 : arg4.IsWhole) (arg5 : Memref sig .tc .vmem S1x1792 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S128x1024 .bf16) (harg13 : arg13.IsWhole) (arg14 : Memref sig .tc .vmem S128x512 .bf16) (harg14 : arg14.IsWhole) (arg15 : Memref sig .tc .vmem S4x16x512 .bf16) (harg15 : arg15.IsWhole) (arg16 : Memref sig .tc .vmem S4x8x64x64 .f32) (harg16 : arg16.IsWhole) (arg17 : Memref sig .tc .vmem S4x24x1792 .f32) (harg17 : arg17.IsWhole) (arg18 : Memref sig .tc .vmem S4x4x128x128 .f32) (harg18 : arg18.IsWhole) (hc0 : cond0_0 i) (hc1 : cond0_1 i)
    (x0 : Vec Ideal S4x16x1792 .f32) (x1 : Vec Ideal S4x1x1792 .f32) (x2 : Vec Ideal S4x8x64x64 .f32) (x3 : Vec Ideal S1x1792 .f32) (x4 : Vec Ideal S1x512 .f32) (x5 : Vec Ideal S1x512 .f32) (x6 : Vec Ideal S1x512 .f32) (x7 : Vec Ideal S1x512 .f32) (x8 : Vec Ideal S1x512 .f32) (x9 : Vec Ideal S1x512 .f32) (x10 : Vec Ideal S1x512 .f32) (x11 : Vec Ideal S128x1024 .bf16) (x12 : Vec Ideal S128x512 .bf16)
    (x : Fin 4 → Row) (B : Blk x0 x1 x2 x3 x4 x5 x6 x7 x11 x) (n : Fin 4) (h : Fin 8) (a b : Fin 64) :
    out0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 (i4 n h a b : S4x8x64x64.Idx) = (((x n).S h 16 a b : ℝ) : EReal) := by
  unfold out0_A_14
  rw [View.read_writes_junk_apply_eq_canon, state_tie]
  have T : Tied (sl.v48 c arg2 harg2 x0) (sl.v49 c arg2 harg2 arg3 harg3 arg17 x0 x1) (sl.v52 c arg5 harg5 x3) (sl.v71 c arg6 harg6 x4) (sl.v79 c arg7 harg7 x5) (sl.v144 c arg8 harg8 x6) (shapeCast S1x512 (arg9.view.readAt (Elt Ideal) (Rect.unit (s := S1x512) ![0, 0] S1x512.size inb_S1x512_S1x512_0_0).toLoadRect (harg9.unread x7)) shapeCasts_S1x512_S1x512) (sl.v68 c arg13 harg13 x11) x :=
    { real := B.real
      P := fun n t d => (act_at arg2 harg2 x0 c n t d).trans (B.P n t d)
      prev := fun n t d => (prev_at arg2 harg2 arg3 harg3 arg17 x0 x1 c n t d).trans (beforeRow_eq x0 x1 (x n) n (B.P n) (B.sh n) t d)
      mu := fun n d => (congrFun (ld2 arg5 harg5 x3 _ _) _).trans (B.mu n d)
      w0 := fun n d => (congrFun (ld2 arg6 harg6 x4 _ _) _).trans (B.w0 n d)
      a0 := fun n d => (congrFun (ld2 arg7 harg7 x5 _ _) _).trans (B.a0 n d)
      kkp := fun n d => (congrFun (ld2 arg8 harg8 x6 _ _) _).trans (B.kkp n d)
      kap := fun n d => (congrFun (ld2 arg9 harg9 x7 _ _) _).trans (B.kap n d)
      wd := fun n j l => (congrFun (ld2 arg13 harg13 x11 _ _) _).trans (B.wd n j l)
      wd0 := fun j l => (congrFun (ld2 arg13 harg13 x11 _ _) _).trans (B.wd0 j l)
      wa := fun n j l => (congrFun (ld2 arg13 harg13 x11 _ _) _).trans (B.wa n j l)
      wa0 := fun j l => (congrFun (ld2 arg13 harg13 x11 _ _) _).trans (B.wa0 j l) }
  rw [sh_v297, sh_v300, sh_v301, sh_v291, sh_v304, sh_v305, sh_v306, sh_r, sh_r_1, sh_r_2, sh_v287, sh_v274, sh_v260, sh_v261, sh_v58]
  refine (finals_at arg18 (headIn arg4 harg4 x2) (fun q => (x ⟨q.1 / 8, by omega⟩).S ⟨q.1 % 8, by omega⟩ 0) (fun q => (x ⟨q.1 / 8, by omega⟩).S ⟨q.1 % 8, by omega⟩ 16)
    _ _ _ _ _ _ _ _ _ (fun k i j => ?_) (fun k => ?_) n h a b).trans ?_
  · exact (headIn_at arg4 harg4 x2 k i j).trans ((B.S0 _ _ i j).trans ((B.real _).S0 _ i j).symm)
  · have hS : ∀ N : ℕ, (fun e : Fin 2 => Matrix.of fun j i : Fin 64 => (x (⟨(⟨2 * k.1 + e.1, by omega⟩ : Fin 32).1 / 8, by omega⟩ : Fin 4)).S (⟨(⟨2 * k.1 + e.1, by omega⟩ : Fin 32).1 % 8, by omega⟩ : Fin 8) N i j)
        = fun e : Fin 2 => Matrix.of fun j i : Fin 64 => (x (⟨k.1 / 4, by omega⟩ : Fin 4)).S (hd ⟨k.1 % 4, by omega⟩ e) N i j := fun N => funext fun e => by
      have e1 : (⟨(2 * k.1 + e.1) / 8, by omega⟩ : Fin 4) = ⟨k.1 / 4, by omega⟩ := Fin.ext (by show (2 * k.1 + e.1) / 8 = k.1 / 4; omega)
      have e2 : (⟨(2 * k.1 + e.1) % 8, by omega⟩ : Fin 8) = hd ⟨k.1 % 4, by omega⟩ e := Fin.ext (by show (2 * k.1 + e.1) % 8 = 2 * (k.1 % 4) + e.1; omega)
      show (Matrix.of fun j i : Fin 64 => (x (⟨(2 * k.1 + e.1) / 8, _⟩ : Fin 4)).S (⟨(2 * k.1 + e.1) % 8, _⟩ : Fin 8) N i j) = _
      rw [e1, e2]
    have g := chainK_final T (sl.v294 c arg2 harg2 arg3 harg3 arg5 harg5 arg6 harg6 arg13 harg13 arg17 x0 x1 x3 x4 x11) k ⟨k.1 / 4, by omega⟩ ⟨k.1 % 4, by omega⟩ (by show k.1 = 4 * (k.1 / 4) + k.1 % 4; omega)
    rw [← hS 0, ← hS 16] at g
    exact g
  · have e1 : (⟨(8 * n.1 + h.1) / 8, by omega⟩ : Fin 4) = n := Fin.ext (by show (8 * n.1 + h.1) / 8 = n.1; omega)
    have e2 : (⟨(8 * n.1 + h.1) % 8, by omega⟩ : Fin 8) = h := Fin.ext (by show (8 * n.1 + h.1) % 8 = h.1; omega)
    show (((x (⟨(8 * n.1 + h.1) / 8, _⟩ : Fin 4)).S (⟨(8 * n.1 + h.1) % 8, _⟩ : Fin 8) 16 a b : ℝ) : EReal) = _
    rw [e1, e2]

end Cert.RwkvIdeal.Hand

end
-- ==== Proof.RwkvHost.lean ====
/- The recurrent mixer kernel's run: the states it returns, of the program's arguments. -/
module

public import proofs.«01_k».proof.Proof.RwkvRun
public import proofs.«01_k».proof.Proof.Gen.RwkvIdeal.Value
public import Idealize.ShloMosaic.Lib.Pipeline.ValueKit.Geometry
public import Idealize.ShloMosaic.Lib.Routing.OpsSet
public import Idealize.ShloMosaic.Lib.Routing.OpsOne
public import Idealize.ShloMosaic.Lib.Routing.OpsPair

@[expose] public section

set_option maxRecDepth 16384

noncomputable section

namespace Cert.RwkvIdeal.Hand

open Cert.RwkvIdeal Cert.RwkvIdeal.Gen Idealize.ShloMosaic Idealize.ShloMosaic.TcCoe Idealize.SL.Sem Cert.RwkvSpec
open Idealize.ShloMosaic.Pipeline (Dat)

/-- An index into one axis. -/
theorem flatR {α : Type} {N : ℕ} (x : (⟨2, ![1, N]⟩ : Shape).Idx → α) (h : (⟨2, ![1, N]⟩ : Shape).ShapeCasts ⟨1, ![N]⟩) (h' : (⟨1, ![N]⟩ : Shape).ShapeCasts ⟨2, ![1, N]⟩) :
    shapeCast ⟨2, ![1, N]⟩ (shapeCast ⟨1, ![N]⟩ x h) h' = x := by
  rw [shapeCast_shapeCast]

/-- Where an update of the weights' block lands: at its own place, from the block's corner on. -/
theorem lands (idx : IVec S2 32) (r0 c0 : ℕ) (h0 : (idx (ix1 0)).toInt = r0) (h1 : (idx (ix1 1)).toInt = c0) (k : S64x512.Idx) (r : Fin 128) (c : Fin 1024) :
    scatter_S128x1024_S2_S64x512_01_n_01_0.resultIdx? k idx = some (ix2 r c) ↔ r0 + (k 0).val = r.val ∧ c0 + (k 1).val = c.val := by
  refine (Routing.resultIdx?_ix2 scatter_S128x1024_S2_S64x512_01_n_01_0 k idx r c).trans ?_
  rw [Routing.start_pair scatter_S128x1024_S2_S64x512_01_n_01_0 rfl rfl idx k 0, Routing.start_pair scatter_S128x1024_S2_S64x512_01_n_01_0 rfl rfl idx k 1]
  rw [show scatter_S128x1024_S2_S64x512_01_n_01_0.window k 0 = (k 0).val from rfl, show scatter_S128x1024_S2_S64x512_01_n_01_0.window k 1 = (k 1).val from rfl]
  have e0 : (idx (ValueIdx.ix1 0)).toInt = r0 := h0
  have e1 : (idx (ValueIdx.ix1 1)).toInt = c0 := h1
  rw [e0, e1]
  omega

/-- Inside the corner the array holds what was put there. -/
theorem put_hit (x0 : FVec Ideal S128x1024 .f32) (idx : IVec S2 32) (upd : FVec Ideal S64x512 .f32) (r0 c0 : ℕ) (h0 : (idx (ix1 0)).toInt = r0)
    (h1 : (idx (ix1 1)).toInt = c0) (j : Fin 64) (l : Fin 512) (r : Fin 128) (c : Fin 1024) (hr : r0 + j.val = r.val) (hc : c0 + l.val = c.val) :
    Host.scatter scatter_S128x1024_S2_S64x512_01_n_01_0 (fun _ b => b) x0 idx upd (ix2 r c) = upd (ix2 j l) := by
  refine Routing.scatter_set_hit _ x0 idx upd _ _ (fun k hk => ?_) (ix2 j l) ((lands idx r0 c0 h0 h1 _ r c).mpr ⟨hr, hc⟩)
  obtain ⟨g0, g1⟩ := (lands idx r0 c0 h0 h1 k r c).mp hk
  refine congrArg upd (funext fun a => Fin.ext ?_)
  match a with
  | ⟨0, _⟩ => show (k 0).val = j.val; omega
  | ⟨1, _⟩ => show (k 1).val = l.val; omega

/-- Outside it the array is as before. -/
theorem put_miss (x0 : FVec Ideal S128x1024 .f32) (idx : IVec S2 32) (upd : FVec Ideal S64x512 .f32) (r0 c0 : ℕ) (h0 : (idx (ix1 0)).toInt = r0)
    (h1 : (idx (ix1 1)).toInt = c0) (r : Fin 128) (c : Fin 1024) (hm : ∀ (j : Fin 64) (l : Fin 512), ¬(r0 + j.val = r.val ∧ c0 + l.val = c.val)) :
    Host.scatter scatter_S128x1024_S2_S64x512_01_n_01_0 (fun _ b => b) x0 idx upd (ix2 r c) = x0 (ix2 r c) :=
  Routing.scatter_set_miss _ x0 idx upd _ fun k hk => hm (k 0) (k 1) ((lands idx r0 c0 h0 h1 k r c).mp hk)

/-- Two index words. -/
def words (a b : BitVec 32) : IVec S2 32 :=
  concatenate S2 0 [⟨S1, broadcastInDim S1 ![] bcast_S_S1 (constantI S_ 32 a)⟩, ⟨S1, broadcastInDim S1 ![] bcast_S_S1 (constantI S_ 32 b)⟩] concatenates_S1_S1_S2_d0

/-- The first of two words. -/
theorem words0 (a b : BitVec 32) : words a b (ix1 0) = a :=
  concatenate_pair_apply_left (t := S2) (s₁ := S1) (s₂ := S1) 0 _ _ concatenates_S1_S1_S2_d0 (ix1 0) rfl (ix1 0 : S1.Idx) (fun a => by match a with | ⟨0, _⟩ => rfl)
/-- The second of two words. -/
theorem words1 (a b : BitVec 32) : words a b (ix1 1) = b :=
  concatenate_pair_apply_right (t := S2) (s₁ := S1) (s₂ := S1) 0 _ _ concatenates_S1_S1_S2_d0 (ix1 1) rfl rfl (ix1 0 : S1.Idx)
    (fun a ha => by match a with | ⟨0, _⟩ => exact absurd rfl ha) rfl

/-- The first corner starts at row 0. -/
theorem w00 : (words 0#32 0#32 (ix1 0)).toInt = ((0 : ℕ) : ℤ) := by rw [words0]; decide
/-- The first corner starts at column 0. -/
theorem w01 : (words 0#32 0#32 (ix1 1)).toInt = ((0 : ℕ) : ℤ) := by rw [words1]; decide
/-- The last corner starts at row 64. -/
theorem w10 : (words 64#32 512#32 (ix1 0)).toInt = ((64 : ℕ) : ℤ) := by rw [words0]; decide
/-- The last corner starts at column 512. -/
theorem w11 : (words 64#32 512#32 (ix1 1)).toInt = ((512 : ℕ) : ℤ) := by rw [words1]; decide

/-- An array of zeros. -/
def z0 : FVec Ideal S128x1024 .f32 := broadcastInDim S128x1024 ![] bcast_S_S128x1024 (constant S_ .f32 0x00000000#32)
/-- Every element of the array of zeros is zero. -/
theorem z0_at (i : S128x1024.Idx) : z0 i = (0 : EReal) := Ideal.ofBits_zero_f32
/-- A bottleneck's weights. -/
def w64 (A : FVec Ideal S1x64x512 .f32) : FVec Ideal S64x512 .f32 := shapeCast S64x512 A shapeCasts_S1x64x512_S64x512
/-- A bottleneck's weights without the axis of length one. -/
theorem w64_at (A : FVec Ideal S1x64x512 .f32) (j : Fin 64) (l : Fin 512) : w64 A (ix2 j l) = A (i3 0 j l) := drop1 A shapeCasts_S1x64x512_S64x512 j l
/-- The first bottleneck's weights, in the array's first corner. -/
def putA (A5 : FVec Ideal S1x64x512 .f32) : FVec Ideal S128x1024 .f32 :=
  Host.scatter scatter_S128x1024_S2_S64x512_01_n_01_0 (fun _ b => b) z0 (words 0#32 0#32) (w64 A5)
/-- The second bottleneck's weights, in its last corner. -/
def putB (A5 A7 : FVec Ideal S1x64x512 .f32) : FVec Ideal S128x1024 .f32 :=
  Host.scatter scatter_S128x1024_S2_S64x512_01_n_01_0 (fun _ b => b) (putA A5) (words 64#32 512#32) (w64 A7)
/-- The two bottlenecks' weights, one block each of an array of zeros. -/
def wts (A5 A7 : FVec Ideal S1x64x512 .f32) : FVec Ideal S128x1024 .bf16 := truncf .bf16 (putB A5 A7) bitsLt_bf16_f32
/-- A change of format keeps the number. -/
theorem trunc_at (x : FVec Ideal S128x1024 .f32) (h : (FTy.bf16).bits < (FTy.f32).bits) (i : S128x1024.Idx) : truncf (F := Ideal) .bf16 x h i = x i := rfl
/-- So the weights are those of the wider format. -/
theorem wts_at (A5 A7 : FVec Ideal S1x64x512 .f32) (i : S128x1024.Idx) : wts A5 A7 i = putB A5 A7 i := by
  unfold wts
  exact trunc_at _ _ i

section
variable (A5 A7 : FVec Ideal S1x64x512 .f32)

/-- The first corner holds the decay's weights. -/
theorem putA_hit (j : Fin 64) (l : Fin 512) (r : Fin 128) (c : Fin 1024) (hr : r.1 = j.1) (hc : c.1 = l.1) : putA A5 (ix2 r c) = A5 (i3 0 j l) :=
  (put_hit z0 (words 0#32 0#32) (w64 A5) 0 0 w00 w01 j l r c (by omega) (by omega)).trans (w64_at A5 j l)
/-- The rest is zero. -/
theorem putA_miss (r : Fin 128) (c : Fin 1024) (h : 64 ≤ r.1 ∨ 512 ≤ c.1) : putA A5 (ix2 r c) = (0 : EReal) :=
  (put_miss z0 (words 0#32 0#32) (w64 A5) 0 0 w00 w01 r c (fun j l e => by have := j.2; have := l.2; omega)).trans (z0_at _)
/-- The last corner holds the gate's weights. -/
theorem putB_hit (j : Fin 64) (l : Fin 512) (r : Fin 128) (c : Fin 1024) (hr : r.1 = 64 + j.1) (hc : c.1 = 512 + l.1) : putB A5 A7 (ix2 r c) = A7 (i3 0 j l) :=
  (put_hit (putA A5) (words 64#32 512#32) (w64 A7) 64 512 w10 w11 j l r c (by omega) (by omega)).trans (w64_at A7 j l)
/-- The rest is as before. -/
theorem putB_miss (r : Fin 128) (c : Fin 1024) (h : r.1 < 64 ∨ c.1 < 512) : putB A5 A7 (ix2 r c) = putA A5 (ix2 r c) :=
  put_miss (putA A5) (words 64#32 512#32) (w64 A7) 64 512 w10 w11 r c (fun j l e => by omega)

/-- The decay's weights. -/
theorem wts_wd (j : Fin 64) (l : Fin 512) : wts A5 A7 (ix2 (⟨j.1, by omega⟩ : Fin 128) (⟨l.1, by omega⟩ : Fin 1024)) = A5 (i3 0 j l) :=
  (wts_at A5 A7 _).trans ((putB_miss A5 A7 _ _ (Or.inl j.2)).trans (putA_hit A5 j l _ _ rfl rfl))
/-- The gate's weights. -/
theorem wts_wa (j : Fin 64) (l : Fin 512) : wts A5 A7 (ix2 (⟨64 + j.1, by omega⟩ : Fin 128) (⟨512 + l.1, by omega⟩ : Fin 1024)) = A7 (i3 0 j l) :=
  (wts_at A5 A7 _).trans (putB_hit A5 A7 j l _ _ rfl rfl)
/-- No column of the decay reads a row of the gate. -/
theorem wts_wd0 (j : Fin 64) (l : Fin 512) : wts A5 A7 (ix2 (⟨64 + j.1, by omega⟩ : Fin 128) (⟨l.1, by omega⟩ : Fin 1024)) = (0 : EReal) :=
  (wts_at A5 A7 _).trans ((putB_miss A5 A7 _ _ (Or.inr l.2)).trans (putA_miss A5 _ _ (Or.inl (Nat.le_add_right _ _))))
/-- No column of the gate reads a row of the decay. -/
theorem wts_wa0 (j : Fin 64) (l : Fin 512) : wts A5 A7 (ix2 (⟨j.1, by omega⟩ : Fin 128) (⟨512 + l.1, by omega⟩ : Fin 1024)) = (0 : EReal) :=
  (wts_at A5 A7 _).trans ((putB_miss A5 A7 _ _ (Or.inl j.2)).trans (putA_miss A5 _ _ (Or.inr (Nat.le_add_right _ _))))

end

variable (m : (ℓ : Loc nD τ sig) → Buf (Elt Ideal) ℓ) (ρ : Dev nD → PrngReg)

/-- The arrays the region reads: the activations before the chunk, the states, the rows of weights, and the bottlenecks' weights. -/
theorem V_sh (c : Dev nD) : V m c main_v12 = shapeCast S32x1x1792 (m ((c : Thread nD τ).loc main_arg1)) shapeCasts_S1x32x1x1792_S32x1x1792 := by
  simp only [V, hostOps0]; after_results_simp <;> rfl
@[inherit_doc V_sh] theorem V_S (c : Dev nD) : V m c main_v13 = shapeCast S32x8x64x64 (m ((c : Thread nD τ).loc main_arg2)) shapeCasts_S1x32x8x64x64_S32x8x64x64 := by
  simp only [V, hostOps0]; after_results_simp <;> rfl
@[inherit_doc V_sh] theorem V_P (c : Dev nD) : V m c main_arg0 = m ((c : Thread nD τ).loc main_arg0) := by
  simp only [V, hostOps0]; after_results_simp <;> rfl

@[inherit_doc V_sh] theorem V_mu (c : Dev nD) : V m c main_v14 = m ((c : Thread nD τ).loc main_arg3) := by
  have h : V m c main_v14 = shapeCast S1x1792 (shapeCast S1792 (m ((c : Thread nD τ).loc main_arg3)) shapeCasts_S1x1792_S1792) shapeCasts_S1792_S1x1792 := by
    simp only [V, hostOps0]; after_results_simp <;> rfl
  rw [h]; exact flatR _ _ _

@[inherit_doc V_sh] theorem V_w0 (c : Dev nD) : V m c main_v15 = m ((c : Thread nD τ).loc main_arg4) := by
  have h : V m c main_v15 = shapeCast S1x512 (shapeCast S512 (m ((c : Thread nD τ).loc main_arg4)) shapeCasts_S1x512_S512) shapeCasts_S512_S1x512 := by
    simp only [V, hostOps0]; after_results_simp <;> rfl
  rw [h]; exact flatR _ _ _

@[inherit_doc V_sh] theorem V_a0 (c : Dev nD) : V m c main_v16 = m ((c : Thread nD τ).loc main_arg6) := by
  have h : V m c main_v16 = shapeCast S1x512 (shapeCast S512 (m ((c : Thread nD τ).loc main_arg6)) shapeCasts_S1x512_S512) shapeCasts_S512_S1x512 := by
    simp only [V, hostOps0]; after_results_simp <;> rfl
  rw [h]; exact flatR _ _ _

@[inherit_doc V_sh] theorem V_kkp (c : Dev nD) : V m c main_v17 = m ((c : Thread nD τ).loc main_arg9) := by
  have h : V m c main_v17 = shapeCast S1x512 (shapeCast S512 (m ((c : Thread nD τ).loc main_arg9)) shapeCasts_S1x512_S512) shapeCasts_S512_S1x512 := by
    simp only [V, hostOps0]; after_results_simp <;> rfl
  rw [h]; exact flatR _ _ _

@[inherit_doc V_sh] theorem V_kap (c : Dev nD) : V m c main_v18 = m ((c : Thread nD τ).loc main_arg10) := by
  have h : V m c main_v18 = shapeCast S1x512 (shapeCast S512 (m ((c : Thread nD τ).loc main_arg10)) shapeCasts_S1x512_S512) shapeCasts_S512_S1x512 := by
    simp only [V, hostOps0]; after_results_simp <;> rfl
  rw [h]; exact flatR _ _ _

@[inherit_doc V_sh] theorem V_wts (c : Dev nD) : V m c main_v31 = wts (m ((c : Thread nD τ).loc main_arg5)) (m ((c : Thread nD τ).loc main_arg7)) := by
  simp only [V, hostOps0]; after_results_simp <;> rfl

/-- Where each window stands at point `t`. -/
theorem idx_facts : ∀ t : Fin cfg0.N,
    (win0_0.index t 0 = t.val ∧ win0_0.index t 1 = 0 ∧ win0_0.index t 2 = 0) ∧ (win0_1.index t 0 = t.val ∧ win0_1.index t 1 = 0 ∧ win0_1.index t 2 = 0)
    ∧ (win0_2.index t 0 = t.val ∧ win0_2.index t 1 = 0 ∧ win0_2.index t 2 = 0 ∧ win0_2.index t 3 = 0) ∧ (win0_14.index t 0 = t.val ∧ win0_14.index t 1 = 0 ∧ win0_14.index t 2 = 0 ∧ win0_14.index t 3 = 0)
    ∧ (win0_3.index t 0 = 0 ∧ win0_3.index t 1 = 0) ∧ (win0_4.index t 0 = 0 ∧ win0_4.index t 1 = 0)
    ∧ (win0_5.index t 0 = 0 ∧ win0_5.index t 1 = 0) ∧ (win0_6.index t 0 = 0 ∧ win0_6.index t 1 = 0)
    ∧ (win0_7.index t 0 = 0 ∧ win0_7.index t 1 = 0) ∧ (win0_11.index t 0 = 0 ∧ win0_11.index t 1 = 0) :=
  (by decide +kernel : ∀ t : Fin grid0.N,
    (win0_0.index t 0 = t.val ∧ win0_0.index t 1 = 0 ∧ win0_0.index t 2 = 0) ∧ (win0_1.index t 0 = t.val ∧ win0_1.index t 1 = 0 ∧ win0_1.index t 2 = 0)
    ∧ (win0_2.index t 0 = t.val ∧ win0_2.index t 1 = 0 ∧ win0_2.index t 2 = 0 ∧ win0_2.index t 3 = 0) ∧ (win0_14.index t 0 = t.val ∧ win0_14.index t 1 = 0 ∧ win0_14.index t 2 = 0 ∧ win0_14.index t 3 = 0)
    ∧ (win0_3.index t 0 = 0 ∧ win0_3.index t 1 = 0) ∧ (win0_4.index t 0 = 0 ∧ win0_4.index t 1 = 0)
    ∧ (win0_5.index t 0 = 0 ∧ win0_5.index t 1 = 0) ∧ (win0_6.index t 0 = 0 ∧ win0_6.index t 1 = 0)
    ∧ (win0_7.index t 0 = 0 ∧ win0_7.index t 1 = 0) ∧ (win0_11.index t 0 = 0 ∧ win0_11.index t 1 = 0))

/-- Row `a` of block `t` is batch row `4 t + a`. -/
def brow (t : Fin cfg0.N) (a : Fin 4) : Fin 32 := ⟨4 * t.val + a.val, by have : t.val < 8 := t.isLt; omega⟩

/-- A window's block. -/
theorem blk_P (c : Dev nD) (t : Fin cfg0.N) (n : Fin 4) (s : Fin 16) (q : Fin 1792) :
    (iblk m c 0 t : S4x16x1792.Idx → EReal) (i3 n s q) = (V m c main_arg0 : S32x16x1792.Idx → EReal) (i3 (brow t n) s q) := by
  obtain ⟨h0, h1, h2⟩ := (idx_facts t).1
  unfold iblk
  rw [View.read_apply]
  refine congrArg (V m c main_arg0) (funext fun d => Fin.ext ?_)
  match d with
  | ⟨0, _⟩ => show win0_0.index t 0 * 4 + 1 * n.val = 4 * t.val + n.val; rw [h0]; omega
  | ⟨1, _⟩ => show win0_0.index t 1 * 16 + 1 * s.val = s.val; rw [h1]; omega
  | ⟨2, _⟩ => show win0_0.index t 2 * 1792 + 1 * q.val = q.val; rw [h2]; omega

/-- A window's block. -/
theorem blk_sh (c : Dev nD) (t : Fin cfg0.N) (n : Fin 4) (s : Fin 1) (q : Fin 1792) :
    (iblk m c 1 t : S4x1x1792.Idx → EReal) (i3 n s q) = (V m c main_v12 : S32x1x1792.Idx → EReal) (i3 (brow t n) s q) := by
  obtain ⟨h0, h1, h2⟩ := (idx_facts t).2.1
  unfold iblk
  rw [View.read_apply]
  refine congrArg (V m c main_v12) (funext fun d => Fin.ext ?_)
  match d with
  | ⟨0, _⟩ => show win0_1.index t 0 * 4 + 1 * n.val = 4 * t.val + n.val; rw [h0]; omega
  | ⟨1, _⟩ => show win0_1.index t 1 * 1 + 1 * s.val = s.val; rw [h1]; omega
  | ⟨2, _⟩ => show win0_1.index t 2 * 1792 + 1 * q.val = q.val; rw [h2]; omega

/-- A window's block. -/
theorem blk_S (c : Dev nD) (t : Fin cfg0.N) (n : Fin 4) (h : Fin 8) (i j : Fin 64) :
    (iblk m c 2 t : S4x8x64x64.Idx → EReal) (i4 n h i j) = (V m c main_v13 : S32x8x64x64.Idx → EReal) (i4 (brow t n) h i j) := by
  obtain ⟨h0, h1, h2, h3⟩ := (idx_facts t).2.2.1
  unfold iblk
  rw [View.read_apply]
  refine congrArg (V m c main_v13) (funext fun d => Fin.ext ?_)
  match d with
  | ⟨0, _⟩ => show win0_2.index t 0 * 4 + 1 * n.val = 4 * t.val + n.val; rw [h0]; omega
  | ⟨1, _⟩ => show win0_2.index t 1 * 8 + 1 * h.val = h.val; rw [h1]; omega
  | ⟨2, _⟩ => show win0_2.index t 2 * 64 + 1 * i.val = i.val; rw [h2]; omega
  | ⟨3, _⟩ => show win0_2.index t 3 * 64 + 1 * j.val = j.val; rw [h3]; omega

/-- A window's block. -/
theorem blk_mu (c : Dev nD) (t : Fin cfg0.N) (s : Fin 1) (q : Fin 1792) :
    (iblk m c 3 t : S1x1792.Idx → EReal) (ix2 s q) = (V m c main_v14 : S1x1792.Idx → EReal) (ix2 s q) := by
  obtain ⟨h0, h1⟩ := (idx_facts t).2.2.2.2.1
  unfold iblk
  rw [View.read_apply]
  refine congrArg (V m c main_v14) (funext fun d => Fin.ext ?_)
  match d with
  | ⟨0, _⟩ => show win0_3.index t 0 * 1 + 1 * s.val = s.val; rw [h0]; omega
  | ⟨1, _⟩ => show win0_3.index t 1 * 1792 + 1 * q.val = q.val; rw [h1]; omega

/-- A window's block. -/
theorem blk_w0 (c : Dev nD) (t : Fin cfg0.N) (s : Fin 1) (q : Fin 512) :
    (iblk m c 4 t : S1x512.Idx → EReal) (ix2 s q) = (V m c main_v15 : S1x512.Idx → EReal) (ix2 s q) := by
  obtain ⟨h0, h1⟩ := (idx_facts t).2.2.2.2.2.1
  unfold iblk
  rw [View.read_apply]
  refine congrArg (V m c main_v15) (funext fun d => Fin.ext ?_)
  match d with
  | ⟨0, _⟩ => show win0_4.index t 0 * 1 + 1 * s.val = s.val; rw [h0]; omega
  | ⟨1, _⟩ => show win0_4.index t 1 * 512 + 1 * q.val = q.val; rw [h1]; omega

/-- A window's block. -/
theorem blk_a0 (c : Dev nD) (t : Fin cfg0.N) (s : Fin 1) (q : Fin 512) :
    (iblk m c 5 t : S1x512.Idx → EReal) (ix2 s q) = (V m c main_v16 : S1x512.Idx → EReal) (ix2 s q) := by
  obtain ⟨h0, h1⟩ := (idx_facts t).2.2.2.2.2.2.1
  unfold iblk
  rw [View.read_apply]
  refine congrArg (V m c main_v16) (funext fun d => Fin.ext ?_)
  match d with
  | ⟨0, _⟩ => show win0_5.index t 0 * 1 + 1 * s.val = s.val; rw [h0]; omega
  | ⟨1, _⟩ => show win0_5.index t 1 * 512 + 1 * q.val = q.val; rw [h1]; omega

/-- A window's block. -/
theorem blk_kkp (c : Dev nD) (t : Fin cfg0.N) (s : Fin 1) (q : Fin 512) :
    (iblk m c 6 t : S1x512.Idx → EReal) (ix2 s q) = (V m c main_v17 : S1x512.Idx → EReal) (ix2 s q) := by
  obtain ⟨h0, h1⟩ := (idx_facts t).2.2.2.2.2.2.2.1
  unfold iblk
  rw [View.read_apply]
  refine congrArg (V m c main_v17) (funext fun d => Fin.ext ?_)
  match d with
  | ⟨0, _⟩ => show win0_6.index t 0 * 1 + 1 * s.val = s.val; rw [h0]; omega
  | ⟨1, _⟩ => show win0_6.index t 1 * 512 + 1 * q.val = q.val; rw [h1]; omega

/-- A window's block. -/
theorem blk_kap (c : Dev nD) (t : Fin cfg0.N) (s : Fin 1) (q : Fin 512) :
    (iblk m c 7 t : S1x512.Idx → EReal) (ix2 s q) = (V m c main_v18 : S1x512.Idx → EReal) (ix2 s q) := by
  obtain ⟨h0, h1⟩ := (idx_facts t).2.2.2.2.2.2.2.2.1
  unfold iblk
  rw [View.read_apply]
  refine congrArg (V m c main_v18) (funext fun d => Fin.ext ?_)
  match d with
  | ⟨0, _⟩ => show win0_7.index t 0 * 1 + 1 * s.val = s.val; rw [h0]; omega
  | ⟨1, _⟩ => show win0_7.index t 1 * 512 + 1 * q.val = q.val; rw [h1]; omega

/-- A window's block. -/
theorem blk_wts (c : Dev nD) (t : Fin cfg0.N) (s : Fin 128) (q : Fin 1024) :
    (iblk m c 11 t : S128x1024.Idx → EReal) (ix2 s q) = (V m c main_v31 : S128x1024.Idx → EReal) (ix2 s q) := by
  obtain ⟨h0, h1⟩ := (idx_facts t).2.2.2.2.2.2.2.2.2
  unfold iblk
  rw [View.read_apply]
  refine congrArg (V m c main_v31) (funext fun d => Fin.ext ?_)
  match d with
  | ⟨0, _⟩ => show win0_11.index t 0 * 128 + 1 * s.val = s.val; rw [h0]; omega
  | ⟨1, _⟩ => show win0_11.index t 1 * 1024 + 1 * q.val = q.val; rw [h1]; omega

/-- Batch row `b`'s arguments on device `c`. -/
def rowAt (c : Dev nD) (b : Fin 32) : Row :=
  rowOf (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))
    (m ((c : Thread nD τ).loc main_arg9)) (m ((c : Thread nD τ).loc main_arg10)) b

/-- The states the recurrence ends with. -/
def result (c : Dev nD) : S32x8x64x64.Idx → EReal := fun i => (((rowAt m c (i 0)).S (i 1) 16 (i 2) (i 3) : ℝ) : EReal)

/-- A point's windows hold its four batch rows. -/
theorem blk_rows (c : Dev nD) (hx : ∀ b, (rowAt m c b).Real) (t : Fin cfg0.N) :
    Blk (iblk m c 0 t) (iblk m c 1 t) (iblk m c 2 t) (iblk m c 3 t) (iblk m c 4 t) (iblk m c 5 t) (iblk m c 6 t) (iblk m c 7 t) (iblk m c 11 t) (fun n => rowAt m c (brow t n)) where
  real n := hx _
  P n s d := (blk_P m c t n s d).trans (congrFun (V_P m c) _)
  sh n d := (blk_sh m c t n 0 d).trans ((congrFun (V_sh m c) _).trans (shapeCast_apply _ shapeCasts_S1x32x1x1792_S32x1x1792 (i3 (brow t n) 0 d : S32x1x1792.Idx) (i4 0 (brow t n) 0 d : S1x32x1x1792.Idx) (by
    rw [Shape.rowMajor_val_three, Shape.rowMajor_val_four]
    show ((0 * 32 + (brow t n).1) * 1 + 0) * 1792 + d.1 = ((brow t n).1 * 1 + 0) * 1792 + d.1
    omega)))
  S0 n h i j := (blk_S m c t n h i j).trans ((congrFun (V_S m c) _).trans (shapeCast_apply _ shapeCasts_S1x32x8x64x64_S32x8x64x64 (i4 (brow t n) h i j : S32x8x64x64.Idx) (i5 0 (brow t n) h i j : S1x32x8x64x64.Idx) (by
    rw [Shape.rowMajor_val_four, Shape.rowMajor_val_five]
    show (((0 * 32 + (brow t n).1) * 8 + h.1) * 64 + i.1) * 64 + j.1 = (((brow t n).1 * 8 + h.1) * 64 + i.1) * 64 + j.1
    omega)))
  mu n d := (blk_mu m c t 0 d).trans (congrFun (V_mu m c) _)
  w0 n d := (blk_w0 m c t 0 d).trans (congrFun (V_w0 m c) _)
  a0 n d := (blk_a0 m c t 0 d).trans (congrFun (V_a0 m c) _)
  kkp n d := (blk_kkp m c t 0 d).trans (congrFun (V_kkp m c) _)
  kap n d := (blk_kap m c t 0 d).trans (congrFun (V_kap m c) _)
  wd n j l := (blk_wts m c t _ _).trans ((congrFun (V_wts m c) _).trans (wts_wd _ _ j l))
  wd0 j l := (blk_wts m c t _ _).trans ((congrFun (V_wts m c) _).trans (wts_wd0 _ _ j l))
  wa n j l := (blk_wts m c t _ _).trans ((congrFun (V_wts m c) _).trans (wts_wa _ _ j l))
  wa0 j l := (blk_wts m c t _ _).trans ((congrFun (V_wts m c) _).trans (wts_wa0 _ _ j l))

/-- What point `t` leaves of the states is block `t` of `result`. -/
theorem block_eq (c : Dev nD) (hx : ∀ b, (rowAt m c b).Real) (t : Fin cfg0.N) (n : Fin 4) (h : Fin 8) (i j : Fin 64) :
    (outsAt0 m c t).2 (i4 n h i j) = result m c (i4 (brow t n) h i j) := by
  have h1 := out14_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) (hcond0_0 t) (hcond0_1 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    (fun n => rowAt m c (brow t n)) (blk_rows m c hx t) n h i j
  unfold outsAt0
  dsimp only
  show _ = (((rowAt m c (brow t n)).S h 16 i j : ℝ) : EReal)
  exact h1

/-- The states' array after the run. -/
theorem final_eq (c : Dev nD) (hx : ∀ b, (rowAt m c b).Real) : (dats m 0 c).arrAt 14 cfg0.N = result m c := by
  refine (dats m 0 c).arrAt_eq_of_covers 14 _ (by decide +kernel) fun t hf y => ?_
  obtain ⟨h0, h1, h2, h3⟩ := (idx_facts t).2.2.2.1
  have e : (((cfg0.win 14).blk t).view.emb y : S32x8x64x64.Idx) = i4 (brow t (y 0)) (y 1) (y 2) (y 3) := funext fun d => Fin.ext (by
    match d with
    | ⟨0, _⟩ => show win0_14.index t 0 * 4 + 1 * (y 0).val = 4 * t.val + (y 0).val; rw [h0]; omega
    | ⟨1, _⟩ => show win0_14.index t 1 * 8 + 1 * (y 1).val = (y 1).val; rw [h1]; omega
    | ⟨2, _⟩ => show win0_14.index t 2 * 64 + 1 * (y 2).val = (y 2).val; rw [h2]; omega
    | ⟨3, _⟩ => show win0_14.index t 3 * 64 + 1 * (y 3).val = (y 3).val; rw [h3]; omega)
  have hy : ((cfg0.win 14).xinj (cfg0.grid.coords t) y : S4x8x64x64.Idx) = i4 (a := 4) (b := 8) (c := 64) (d := 64) (y 0) (y 1) (y 2) (y 3) :=
    funext fun a => by match a with | ⟨0, _⟩ => rfl | ⟨1, _⟩ => rfl | ⟨2, _⟩ => rfl | ⟨3, _⟩ => rfl
  rw [after0_14]
  have hb := block_eq m c hx t (y 0) (y 1) (y 2) (y 3)
  generalize (outsAt0 m c t).2 = X at hb ⊢
  refine Eq.trans ?_ (congrArg (result m c) e).symm
  exact (congrArg X hy).trans hb

end Cert.RwkvIdeal.Hand

end
-- ==== Proof.HostRead.lean ====
/- Two host operations at an index: the matrix product and the sum along a row. -/
module

public import proofs.«01_k».proof.Proof.Rows

@[expose] public section

noncomputable section

namespace Cert.Rows

open Idealize.ShloMosaic

/-- The host's matrix product, at an index: the row of the left operand against the column of the right one. -/
theorem hostDot_apply {M K N : ℕ} (D : DotDims ⟨2, ![M, K]⟩ ⟨2, ![K, N]⟩ ⟨2, ![M, N]⟩) (hD : D = DotDims.plain M K N)
    (l : FVec Ideal ⟨2, ![M, K]⟩ .f32) (r : FVec Ideal ⟨2, ![K, N]⟩ .f32) (i : Fin M) (j : Fin N) :
    Host.dotGeneral D none l r (ix2 i j) = ∑ k : Fin K, l (ix2 i k) * r (ix2 k j) := by
  refine Eq.trans ?_ (mm_apply D hD l r i j)
  simp only [Host.dotGeneral]
  rw [Ideal.dotGeneral_apply]
  show _ = (constant ⟨2, ![M, N]⟩ .f32 0x00000000#32 : FVec Ideal ⟨2, ![M, N]⟩ .f32) (ix2 i j) + ∑ k : D.contr.Idx, l (D.lhsIdx (ix2 i j) k) * r (D.rhsIdx (ix2 i j) k)
  rw [constant_apply, show (FloatOps.ofBits .f32 0x00000000#32 : Ideal .f32) = 0 from Ideal.ofBits_zero_f32, zero_add]

/-- The host's sum along a row, at an index, from a zero start. -/
theorem hostSum_apply {M K : ℕ} (h : (⟨2, ![M, K]⟩ : Shape).ReducesTo [1] ⟨1, ![M]⟩) (h' : (⟨2, ![M, K]⟩ : Shape).Reduces [1] ⟨1, ![M]⟩)
    (h0 : 0 < (⟨0, ![]⟩ : Shape).numel) (x : FVec Ideal ⟨2, ![M, K]⟩ .f32) (i : Fin M) :
    Host.reduceAdd x (constant ⟨0, ![]⟩ .f32 0x00000000#32 : FVec Ideal ⟨0, ![]⟩ .f32) h h0 (ix1 i) = ∑ k : Fin K, x (ix2 i k) := by
  simp only [Host.reduceAdd, Ideal.hostReduceAdd_def]
  rw [Ideal.hostReduceAdd_single h h', constant_apply, show (FloatOps.ofBits .f32 0x00000000#32 : Ideal .f32) = 0 from Ideal.ofBits_zero_f32, zero_add]
  refine Finset.sum_congr rfl fun k _ => congrArg x (funext fun a => Fin.ext ?_)
  match a with
  | ⟨0, _⟩ => rfl
  | ⟨1, _⟩ => rfl

end Cert.Rows

end
-- ==== Proof.RwkvRefArr.lean ====
/- The recurrence's reference: the arrays it computes before its loop over the steps, entry by entry. -/
module

public import proofs.«01_k».proof.Proof.HostRead
public import proofs.«01_k».proof.Proof.RwkvRows
public import proofs.«01_k».proof.Proof.Gen.RwkvRefIdeal
public import Idealize.ShloMosaic.Lib.Pipeline.Value
public import Idealize.ShloMosaic.Lib.Pointwise.Contract

@[expose] public section

set_option maxRecDepth 16384

noncomputable section

namespace Cert.RwkvRefIdeal.Hand

open Cert.RwkvRefIdeal Cert.RwkvRefIdeal.Gen Idealize.ShloMosaic Cert.Rows Cert.RwkvSpec

/-- A sum of reals, inside the extended reals. -/
theorem coe_sum' {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The word of zero. -/
theorem zeroW : (FloatOps.ofBits .f32 0x00000000#32 : Ideal .f32) = (0 : EReal) := Ideal.ofBits_zero_f32

/-- The word of one. -/
theorem oneW : (FloatOps.ofBits .f32 0x3F800000#32 : Ideal .f32) = ((1 : ℝ) : EReal) := by
  show Ideal.ofBits .f32 0x3F800000#32 = _
  simp [Ideal.ofBits, Ideal.ieee, -EReal.coe_mul]; norm_num

/-- The word of the threshold of the norm. -/
theorem epsW : (FloatOps.ofBits .f32 0x2B8CBCCC#32 : Ideal .f32) = ((eps : ℝ) : EReal) := by
  show Ideal.ofBits .f32 0x2B8CBCCC#32 = _
  unfold eps
  simp [Ideal.ofBits, Ideal.ieee, -EReal.coe_mul, -EReal.coe_neg]; norm_num

/-- The word of exp(-1/2). -/
theorem decW : (FloatOps.ofBits .f32 0x3F1B4598#32 : Ideal .f32) = ((1271987 / 2097152 : ℝ) : EReal) := by
  show Ideal.ofBits .f32 0x3F1B4598#32 = _
  simp [Ideal.ofBits, Ideal.ieee, -EReal.coe_mul, -EReal.coe_neg]; norm_num

/-- A word, everywhere. -/
def all3 (w : BitVec 32) : FVec Ideal S32x16x512 .f32 := broadcastInDim S32x16x512 ![] bcast_S_S32x16x512 (constant S_ .f32 w)
@[inherit_doc all3] def all4 (w : BitVec 32) : FVec Ideal S32x16x8x64 .f32 := broadcastInDim S32x16x8x64 ![] bcast_S_S32x16x8x64 (constant S_ .f32 w)
/-- A constant array of three axes, at an entry. -/
theorem all3_at (w : BitVec 32) (i : S32x16x512.Idx) : all3 w i = FloatOps.ofBits .f32 w := rfl
/-- A constant array of four axes, at an entry. -/
theorem all4_at (w : BitVec 32) (i : S32x16x8x64.Idx) : all4 w i = FloatOps.ofBits .f32 w := rfl

/-- A row of weights, at every step of every batch row. -/
def row (A : FVec Ideal S1x512 .f32) : FVec Ideal S32x16x512 .f32 :=
  broadcastInDim S32x16x512 ![0, 1, 2] bcast_S1x1x512_S32x16x512_0_1_2 (broadcastInDim S1x1x512 ![2] bcast_S512_S1x1x512_2 (shapeCast S512 A shapeCasts_S1x512_S512))

/-- A row without its axis of length one. -/
theorem flat1 {α : Type} {N : ℕ} (x : (⟨2, ![1, N]⟩ : Shape).Idx → α) (h : (⟨2, ![1, N]⟩ : Shape).ShapeCasts ⟨1, ![N]⟩) (b : Fin N) :
    shapeCast ⟨1, ![N]⟩ x h (ix1 b) = x (ix2 0 b) :=
  shapeCast_apply x h (ix1 b) (ix2 0 b) (by
    rw [Shape.rowMajor_val_two, Shape.rowMajor_val_one]
    show 0 * N + b.1 = b.1
    simp)

/-- A matrix without its axis of length one. -/
theorem flat2 {α : Type} {M N : ℕ} (x : (⟨3, ![1, M, N]⟩ : Shape).Idx → α) (h : (⟨3, ![1, M, N]⟩ : Shape).ShapeCasts ⟨2, ![M, N]⟩) (a : Fin M) (b : Fin N) :
    shapeCast ⟨2, ![M, N]⟩ x h (ix2 a b) = x (i3 0 a b) :=
  shapeCast_apply x h (ix2 a b) (i3 0 a b) (by
    rw [Shape.rowMajor_val_two, Shape.rowMajor_val_three]
    show (0 * M + a.1) * N + b.1 = a.1 * N + b.1
    simp)

/-- A row repeated over sequences and steps. -/
theorem row_at (A : FVec Ideal S1x512 .f32) (b : Fin 32) (t : Fin 16) (l : Fin 512) : row A (i3 b t l) = A (ix2 0 l) := by
  unfold row
  refine (broadcastInDim_apply ![0, 1, 2] bcast_S1x1x512_S32x16x512_0_1_2 _ (i3 b t l) (i3 0 0 l : S1x1x512.Idx)
    (fun a => by match a with | ⟨0, _⟩ => rfl | ⟨1, _⟩ => rfl | ⟨2, _⟩ => rfl)).trans ?_
  refine (broadcastInDim_apply ![2] bcast_S512_S1x1x512_2 _ (i3 0 0 l : S1x1x512.Idx) (ix1 l : S512.Idx)
    (fun a => by match a with | ⟨0, _⟩ => rfl)).trans ?_
  exact flat1 A shapeCasts_S1x512_S512 l

/-- The heads of an array, apart. -/
def heads (x : FVec Ideal S32x16x512 .f32) : FVec Ideal S32x16x8x64 .f32 := shapeCast S32x16x8x64 x shapeCasts_S32x16x512_S32x16x8x64

/-- The channels cut into heads. -/
theorem heads_at (x : FVec Ideal S32x16x512 .f32) (b : Fin 32) (t : Fin 16) (h : Fin 8) (j : Fin 64) : heads x (i4 b t h j) = x (i3 b t (hl h j)) := by
  unfold heads
  exact shapeCast_apply x shapeCasts_S32x16x512_S32x16x8x64 (i4 b t h j : S32x16x8x64.Idx) (i3 b t (hl h j) : S32x16x512.Idx) (by
    rw [Shape.rowMajor_val_three, Shape.rowMajor_val_four]
    show (b.1 * 16 + t.1) * 512 + (64 * h.1 + j.1) = ((b.1 * 16 + t.1) * 8 + h.1) * 64 + j.1
    omega)

/-- The steps first. -/
def steps (x : FVec Ideal S32x16x8x64 .f32) : FVec Ideal S16x32x8x64 .f32 := transpose S16x32x8x64 [1, 0, 2, 3] x transposes_S32x16x8x64_S16x32x8x64_1_0_2_3

/-- The steps moved to the front. -/
theorem steps_at (x : FVec Ideal S32x16x8x64 .f32) (b : Fin 32) (t : Fin 16) (h : Fin 8) (j : Fin 64) : steps x (i4 t b h j) = x (i4 b t h j) := by
  unfold steps
  exact transpose_apply [1, 0, 2, 3] x transposes_S32x16x8x64_S16x32x8x64_1_0_2_3 (i4 t b h j : S16x32x8x64.Idx) (i4 b t h j : S32x16x8x64.Idx)
    (fun d => by match d with | ⟨0, _⟩ => rfl | ⟨1, _⟩ => rfl | ⟨2, _⟩ => rfl | ⟨3, _⟩ => rfl)

/-- A product with the weights of a rank-64 bottleneck. -/
def dot (l : FVec Ideal S32x16x64 .f32) (A : FVec Ideal S1x64x512 .f32) : FVec Ideal S32x16x512 .f32 :=
  Host.dotGeneral dot_S32x16x64_S64x512_S32x16x512_2_0_01_1_n_n none l (shapeCast S64x512 A shapeCasts_S1x64x512_S64x512)

/-- A product with the weights of a bottleneck. -/
theorem dot_at (l : FVec Ideal S32x16x64 .f32) (A : FVec Ideal S1x64x512 .f32) (b : Fin 32) (t : Fin 16) (c : Fin 512) :
    dot l A (i3 b t c) = ∑ j : Fin 64, l (i3 b t j) * A (i3 0 j c) := by
  unfold dot
  simp only [Host.dotGeneral]
  rw [Ideal.dotGeneral_apply]
  refine (DotDims.sum_contr₁ (K := 64) dot_S32x16x64_S64x512_S32x16x512_2_0_01_1_n_n rfl rfl _).trans (Finset.sum_congr rfl fun j _ => ?_)
  rw [← flat2 A shapeCasts_S1x64x512_S64x512 j c]
  refine congrArg₂ (· * ·) (congrArg l (funext fun a => ?_)) (congrArg (shapeCast S64x512 A shapeCasts_S1x64x512_S64x512) (funext fun a => ?_))
  · match a with | ⟨0, _⟩ => rfl | ⟨1, _⟩ => rfl | ⟨2, _⟩ => rfl
  · match a with | ⟨0, _⟩ => rfl | ⟨1, _⟩ => rfl

/-- The softplus, as the reference writes it. -/
def sp (y : FVec Ideal S32x16x512 .f32) : FVec Ideal S32x16x512 .f32 :=
  select (cmpf .une (subf y (all3 0x00000000#32)) (subf y (all3 0x00000000#32))) (addf y (all3 0x00000000#32))
    (addf (maximumf y (all3 0x00000000#32)) (Host.log1p (Host.exp (Host.negf (Host.absf (subf y (all3 0x00000000#32)))))))

/-- The soft plus, at an entry. -/
theorem sp_at (y : FVec Ideal S32x16x512 .f32) (i : S32x16x512.Idx) :
    sp y i = max (y i) 0 + Ideal.log1p (Ideal.exp (-(max (y i - 0) (-(y i - 0))))) := by
  have hz : all3 0x00000000#32 i = (0 : EReal) := zeroW
  unfold sp
  have hc : cmpf .une (subf y (all3 0x00000000#32)) (subf y (all3 0x00000000#32)) i = 0#1 := by
    show Ideal.cmp .une _ _ = _
    simp [Ideal.cmp]
  show Scalar.select (cmpf .une (subf y (all3 0x00000000#32)) (subf y (all3 0x00000000#32)) i) _ _ = _
  rw [hc]
  unfold Scalar.select
  rw [if_neg (by decide)]
  show max (y i) (all3 0x00000000#32 i) + Ideal.log1p (Ideal.exp (-(max (y i - all3 0x00000000#32 i) (-(y i - all3 0x00000000#32 i))))) = _
  rw [hz]

/-- A sigmoid, as the reference writes it. -/
def sig1 (x : FVec Ideal S32x16x512 .f32) : FVec Ideal S32x16x512 .f32 := Host.divf (all3 0x3F800000#32) (addf (all3 0x3F800000#32) (Host.exp (Host.negf x)))

/-- The sigmoid, at an entry. -/
theorem sig1_at (x : FVec Ideal S32x16x512 .f32) (i : S32x16x512.Idx) : sig1 x i = ((sg (x i) : ℝ) : EReal) := by
  have h1 : all3 0x3F800000#32 i = (1 : EReal) := by rw [all3_at, oneW]; rfl
  rw [← sg_coe]
  unfold sig1 Ideal.logistic
  show Ideal.div (all3 0x3F800000#32 i) (all3 0x3F800000#32 i + Ideal.exp (-(x i))) = _
  rw [h1]

variable (A0 : FVec Ideal S32x16x1792 .f32) (A1 : FVec Ideal S1x32x1x1792 .f32) (A2 : FVec Ideal S1x32x8x64x64 .f32) (A3 : FVec Ideal S1x1792 .f32) (A4 : FVec Ideal S1x512 .f32)
  (A5 : FVec Ideal S1x64x512 .f32) (A6 : FVec Ideal S1x512 .f32) (A7 : FVec Ideal S1x64x512 .f32) (A9 A10 : FVec Ideal S1x512 .f32)

/-- The activations before each step: the state's for the first one. -/
def prevA : FVec Ideal S32x16x1792 .f32 :=
  concatenate S32x16x1792 1 [⟨S32x1x1792, shapeCast S32x1x1792 A1 shapeCasts_S1x32x1x1792_S32x1x1792⟩,
    ⟨S32x15x1792, extractStridedSlice S32x15x1792 ![0, 0, 0] A0 slices_S32x16x1792_S32x15x1792_0_0_0⟩] concatenates_S32x1x1792_S32x15x1792_S32x16x1792_d1

/-- The preceding step, at an entry. -/
theorem prevA_at (b : Fin 32) (t : Fin 16) (c : Fin 1792) : prevA A0 A1 (i3 b t c) = (rowOf A0 A1 A2 A3 A4 A5 A6 A7 A9 A10 b).prev t c := by
  unfold prevA
  show _ = if t.1 = 0 then A1 (i4 0 b 0 c) else A0 (i3 b ⟨t.1 - 1, by omega⟩ c)
  by_cases h : t.1 = 0
  · rw [if_pos h]
    refine (concatenate_pair_apply_left (t := S32x16x1792) (s₁ := S32x1x1792) (s₂ := S32x15x1792) 1 _ _ concatenates_S32x1x1792_S32x15x1792_S32x16x1792_d1 (i3 b t c) rfl
      (i3 b 0 c : S32x1x1792.Idx) (fun a => by match a with | ⟨0, _⟩ => rfl | ⟨1, _⟩ => exact h.symm | ⟨2, _⟩ => rfl)).trans ?_
    exact shapeCast_apply A1 shapeCasts_S1x32x1x1792_S32x1x1792 (i3 b 0 c : S32x1x1792.Idx) (i4 0 b 0 c : S1x32x1x1792.Idx) (by
      rw [Shape.rowMajor_val_three, Shape.rowMajor_val_four]
      show ((0 * 32 + b.1) * 1 + 0) * 1792 + c.1 = (b.1 * 1 + 0) * 1792 + c.1
      omega)
  · rw [if_neg h]
    refine (concatenate_pair_apply_right (t := S32x16x1792) (s₁ := S32x1x1792) (s₂ := S32x15x1792) 1 _ _ concatenates_S32x1x1792_S32x15x1792_S32x16x1792_d1 (i3 b t c) rfl rfl
      (i3 b (⟨t.1 - 1, by omega⟩ : Fin 15) c : S32x15x1792.Idx) (fun a ha => by match a with | ⟨0, _⟩ => rfl | ⟨1, _⟩ => exact absurd rfl ha | ⟨2, _⟩ => rfl)
      (by show t.1 - 1 + 1 = t.1; omega)).trans ?_
    exact extractStridedSlice_apply ![0, 0, 0] A0 slices_S32x16x1792_S32x15x1792_0_0_0 (i3 b (⟨t.1 - 1, by omega⟩ : Fin 15) c : S32x15x1792.Idx) (i3 b ⟨t.1 - 1, by omega⟩ c)
      (fun a => by match a with | ⟨0, _⟩ => exact (Nat.zero_add _).symm | ⟨1, _⟩ => exact (Nat.zero_add _).symm | ⟨2, _⟩ => exact (Nat.zero_add _).symm)

/-- The mixed activations. -/
def X9 : FVec Ideal S32x16x1792 .f32 :=
  addf A0 (mulf (subf (prevA A0 A1) A0) (broadcastInDim S32x16x1792 ![0, 1, 2] bcast_S1x1x1792_S32x16x1792_0_1_2 (broadcastInDim S1x1x1792 ![2] bcast_S1792_S1x1x1792_2 (shapeCast S1792 A3 shapeCasts_S1x1792_S1792))))

/-- The shifted activation, at an entry. -/
theorem X9_at (b : Fin 32) (t : Fin 16) (c : Fin 1792) : X9 A0 A1 A3 (i3 b t c) = (rowOf A0 A1 A2 A3 A4 A5 A6 A7 A9 A10 b).X t c := by
  have hm : broadcastInDim S32x16x1792 ![0, 1, 2] bcast_S1x1x1792_S32x16x1792_0_1_2 (broadcastInDim S1x1x1792 ![2] bcast_S1792_S1x1x1792_2 (shapeCast S1792 A3 shapeCasts_S1x1792_S1792)) (i3 b t c) = A3 (ix2 0 c) := by
    refine (broadcastInDim_apply ![0, 1, 2] bcast_S1x1x1792_S32x16x1792_0_1_2 _ (i3 b t c) (i3 0 0 c : S1x1x1792.Idx)
      (fun a => by match a with | ⟨0, _⟩ => rfl | ⟨1, _⟩ => rfl | ⟨2, _⟩ => rfl)).trans ?_
    refine (broadcastInDim_apply ![2] bcast_S1792_S1x1x1792_2 _ (i3 0 0 c : S1x1x1792.Idx) (ix1 c : S1792.Idx)
      (fun a => by match a with | ⟨0, _⟩ => rfl)).trans ?_
    exact flat1 A3 shapeCasts_S1x1792_S1792 c
  unfold X9
  rw [addf_apply, mulf_apply, subf_apply, hm, prevA_at A0 A1 A2 A3 A4 A5 A6 A7 A9 A10]
  rfl

/-- The pieces of the mixed activations the state uses: keys, values, and the two bottlenecks. -/
def kA : FVec Ideal S32x16x512 .f32 := extractStridedSlice S32x16x512 ![0, 0, 512] (X9 A0 A1 A3) slices_S32x16x1792_S32x16x512_0_0_512
@[inherit_doc kA] def vA : FVec Ideal S32x16x512 .f32 := extractStridedSlice S32x16x512 ![0, 0, 1024] (X9 A0 A1 A3) slices_S32x16x1792_S32x16x512_0_0_1024
@[inherit_doc kA] def wdA : FVec Ideal S32x16x64 .f32 := extractStridedSlice S32x16x64 ![0, 0, 1536] (X9 A0 A1 A3) slices_S32x16x1792_S32x16x64_0_0_1536
@[inherit_doc kA] def adA : FVec Ideal S32x16x64 .f32 := extractStridedSlice S32x16x64 ![0, 0, 1600] (X9 A0 A1 A3) slices_S32x16x1792_S32x16x64_0_0_1600

/-- The keys. -/
theorem kA_at (b : Fin 32) (t : Fin 16) (l : Fin 512) : kA A0 A1 A3 (i3 b t l) = (rowOf A0 A1 A2 A3 A4 A5 A6 A7 A9 A10 b).X t ⟨512 + l.1, by omega⟩ := by
  rw [← X9_at]
  exact extractStridedSlice_apply ![0, 0, 512] _ slices_S32x16x1792_S32x16x512_0_0_512 (i3 b t l : S32x16x512.Idx) (i3 b t ⟨512 + l.1, by omega⟩ : S32x16x1792.Idx)
    (fun a => by match a with | ⟨0, _⟩ => exact (Nat.zero_add _).symm | ⟨1, _⟩ => exact (Nat.zero_add _).symm | ⟨2, _⟩ => rfl)
/-- The values. -/
theorem vA_at (b : Fin 32) (t : Fin 16) (l : Fin 512) : vA A0 A1 A3 (i3 b t l) = (rowOf A0 A1 A2 A3 A4 A5 A6 A7 A9 A10 b).X t ⟨1024 + l.1, by omega⟩ := by
  rw [← X9_at]
  exact extractStridedSlice_apply ![0, 0, 1024] _ slices_S32x16x1792_S32x16x512_0_0_1024 (i3 b t l : S32x16x512.Idx) (i3 b t ⟨1024 + l.1, by omega⟩ : S32x16x1792.Idx)
    (fun a => by match a with | ⟨0, _⟩ => exact (Nat.zero_add _).symm | ⟨1, _⟩ => exact (Nat.zero_add _).symm | ⟨2, _⟩ => rfl)
/-- The decay's bottleneck. -/
theorem wdA_at (b : Fin 32) (t : Fin 16) (j : Fin 64) : wdA A0 A1 A3 (i3 b t j) = (rowOf A0 A1 A2 A3 A4 A5 A6 A7 A9 A10 b).X t ⟨1536 + j.1, by omega⟩ := by
  rw [← X9_at]
  exact extractStridedSlice_apply ![0, 0, 1536] _ slices_S32x16x1792_S32x16x64_0_0_1536 (i3 b t j : S32x16x64.Idx) (i3 b t ⟨1536 + j.1, by omega⟩ : S32x16x1792.Idx)
    (fun a => by match a with | ⟨0, _⟩ => exact (Nat.zero_add _).symm | ⟨1, _⟩ => exact (Nat.zero_add _).symm | ⟨2, _⟩ => rfl)
/-- The gate's bottleneck. -/
theorem adA_at (b : Fin 32) (t : Fin 16) (j : Fin 64) : adA A0 A1 A3 (i3 b t j) = (rowOf A0 A1 A2 A3 A4 A5 A6 A7 A9 A10 b).X t ⟨1600 + j.1, by omega⟩ := by
  rw [← X9_at]
  exact extractStridedSlice_apply ![0, 0, 1600] _ slices_S32x16x1792_S32x16x64_0_0_1600 (i3 b t j : S32x16x64.Idx) (i3 b t ⟨1600 + j.1, by omega⟩ : S32x16x1792.Idx)
    (fun a => by match a with | ⟨0, _⟩ => exact (Nat.zero_add _).symm | ⟨1, _⟩ => exact (Nat.zero_add _).symm | ⟨2, _⟩ => rfl)

/-- The decay's logarithm's argument, and the gate's. -/
def lwA : FVec Ideal S32x16x512 .f32 := addf (row A4) (dot (Host.tanh (wdA A0 A1 A3)) A5)
@[inherit_doc lwA] def laA : FVec Ideal S32x16x512 .f32 := addf (row A6) (dot (adA A0 A1 A3) A7)

/-- The decay's logits. -/
theorem lwA_at (b : Fin 32) (t : Fin 16) (l : Fin 512) : lwA A0 A1 A3 A4 A5 (i3 b t l) = (rowOf A0 A1 A2 A3 A4 A5 A6 A7 A9 A10 b).lw t l := by
  unfold lwA Row.lw
  rw [addf_apply, row_at, dot_at]
  refine congrArg₂ (· + ·) rfl (Finset.sum_congr rfl fun j _ => congrArg₂ (· * ·) ?_ rfl)
  rw [← wdA_at]; rfl
/-- The gate's logits. -/
theorem laA_at (b : Fin 32) (t : Fin 16) (l : Fin 512) : laA A0 A1 A3 A6 A7 (i3 b t l) = (rowOf A0 A1 A2 A3 A4 A5 A6 A7 A9 A10 b).la t l := by
  unfold laA Row.la
  rw [addf_apply, row_at, dot_at]
  refine congrArg₂ (· + ·) rfl (Finset.sum_congr rfl fun j _ => congrArg₂ (· * ·) ?_ rfl)
  rw [← adA_at]

/-- The decay. -/
def decA (z : FVec Ideal S32x16x512 .f32) : FVec Ideal S32x16x8x64 .f32 :=
  Host.exp (Host.negf (Host.exp (heads (addf (Host.negf (sp (Host.negf z))) (broadcastInDim S32x16x512 ![] bcast_S_S32x16x512 (Host.log (constant S_ .f32 0x3F1B4598#32)))))))

/-- The decay is the exponential of its logarithm. -/
theorem decA_at (z : FVec Ideal S32x16x512 .f32) (b : Fin 32) (t : Fin 16) (h : Fin 8) (j : Fin 64) :
    decA z (i4 b t h j) = ((Real.exp (-(1271987 / 2097152) * sg (z (i3 b t (hl h j)))) : ℝ) : EReal) := by
  rw [← decay_coe, sub_eq_add_neg, ← EReal.coe_neg, neg_neg]
  unfold decA
  show Ideal.exp (-(Ideal.exp (heads _ (i4 b t h j)))) = _
  rw [heads_at]
  show Ideal.exp (-(Ideal.exp (-(sp (Host.negf z) (i3 b t (hl h j))) + Ideal.log (FloatOps.ofBits .f32 0x3F1B4598#32 : Ideal .f32)))) = _
  rw [sp_at, decW, Ideal.log_coe, if_neg (by norm_num)]
  rfl

/-- The keys' directions, before and after they are scaled to unit length. -/
def kk0A : FVec Ideal S32x16x8x64 .f32 := heads (mulf (kA A0 A1 A3) (row A9))
/-- An array over its norm along the last axis, with a floor under the norm. -/
def unitA (x : FVec Ideal S32x16x8x64 .f32) : FVec Ideal S32x16x8x64 .f32 :=
  Host.divf x (broadcastInDim S32x16x8x64 ![0, 1, 2, 3] bcast_S32x16x8x1_S32x16x8x64_0_1_2_3 (maximumf
    (Host.sqrt (broadcastInDim S32x16x8x1 ![0, 1, 2] bcast_S32x16x8_S32x16x8x1_0_1_2
      (Host.reduceAdd (mulf x x) (constant S_ .f32 0x00000000#32) reducesTo_S32x16x8x64_S32x16x8_d3 h_S_)))
    (broadcastInDim S32x16x8x1 ![] bcast_S_S32x16x8x1 (constant S_ .f32 0x2B8CBCCC#32))))

/-- A head over its norm, the norm held above the threshold. -/
theorem unitA_at (x : FVec Ideal S32x16x8x64 .f32) (b : Fin 32) (t : Fin 16) (h : Fin 8) (f : Fin 64 → ℝ) (hf : ∀ j, x (i4 b t h j) = ((f j : ℝ) : EReal)) (j : Fin 64) :
    unitA x (i4 b t h j) = ((f j / max (Real.sqrt (∑ l, f l * f l)) eps : ℝ) : EReal) := by
  have hs : Host.reduceAdd (mulf x x) (constant S_ .f32 0x00000000#32 : FVec Ideal S_ .f32) reducesTo_S32x16x8x64_S32x16x8_d3 h_S_ (i3 b t h : S32x16x8.Idx) = ((∑ l, f l * f l : ℝ) : EReal) := by
    have h' : Shape.Reduces S32x16x8x64 [3] S32x16x8 := by decide
    simp only [Host.reduceAdd, Ideal.hostReduceAdd_def]
    rw [Ideal.hostReduceAdd_single reducesTo_S32x16x8x64_S32x16x8_d3 h', constant_apply, zeroW, zero_add, coe_sum']
    refine Finset.sum_congr rfl fun (k : Fin 64) _ => ?_
    rw [EReal.coe_mul, ← hf k]
    have e : (mulf x x : FVec Ideal S32x16x8x64 .f32) (i4 b t h k) = x (i4 b t h k) * x (i4 b t h k) := rfl
    rw [← e]
    refine congrArg (mulf x x) (funext fun a => Fin.ext ?_)
    match a with
    | ⟨0, _⟩ => rfl
    | ⟨1, _⟩ => rfl
    | ⟨2, _⟩ => rfl
    | ⟨3, _⟩ => rfl
  rw [← norm_r _ _ (Finset.sum_nonneg fun l _ => mul_self_nonneg (f l)), ← hf, ← hs]
  unfold unitA
  rw [Host.divf_apply]
  refine congrArg (Ideal.div (x (i4 b t h j))) ?_
  refine (broadcastInDim_apply ![0, 1, 2, 3] bcast_S32x16x8x1_S32x16x8x64_0_1_2_3 _ (i4 b t h j : S32x16x8x64.Idx) (i4 b t h 0 : S32x16x8x1.Idx)
    (fun a => by match a with | ⟨0, _⟩ => rfl | ⟨1, _⟩ => rfl | ⟨2, _⟩ => rfl | ⟨3, _⟩ => rfl)).trans ?_
  rw [maximumf_apply, Host.sqrt_apply]
  refine congrArg₂ (max : EReal → EReal → EReal) (congrArg Ideal.sqrt ?_) epsW
  exact broadcastInDim_apply ![0, 1, 2] bcast_S32x16x8_S32x16x8x1_0_1_2 _ (i4 b t h 0 : S32x16x8x1.Idx) (i3 b t h : S32x16x8.Idx)
    (fun a => by match a with | ⟨0, _⟩ => rfl | ⟨1, _⟩ => rfl | ⟨2, _⟩ => rfl)

/-- The gate, and the gated keys. -/
def aA : FVec Ideal S32x16x8x64 .f32 := heads (sig1 (laA A0 A1 A3 A6 A7))
@[inherit_doc aA] def k2A : FVec Ideal S32x16x8x64 .f32 :=
  mulf (heads (kA A0 A1 A3)) (addf (all4 0x3F800000#32) (mulf (subf (aA A0 A1 A3 A6 A7) (all4 0x3F800000#32)) (heads (mulf (row A10) (all3 0x3F800000#32)))))

section
variable {A0 A1 A2 A3 A4 A5 A6 A7 A9 A10} {b : Fin 32} (hx : (rowOf A0 A1 A2 A3 A4 A5 A6 A7 A9 A10 b).Real) (t : Fin 16) (h : Fin 8) (j : Fin 64)
include hx

/-- The five arrays the steps read, at an index. -/
theorem dec_val : steps (decA (lwA A0 A1 A3 A4 A5)) (i4 t b h j) = ((Real.exp ((rowOf A0 A1 A2 A3 A4 A5 A6 A7 A9 A10 b).ld t (hl h j)) : ℝ) : EReal) := by
  rw [steps_at, decA_at, lwA_at A0 A1 A2 A3 A4 A5 A6 A7 A9 A10]; rfl

/-- The keys are the real numbers of the row. -/
theorem k_val (l : Fin 512) : kA A0 A1 A3 (i3 b t l) = (((rowOf A0 A1 A2 A3 A4 A5 A6 A7 A9 A10 b).k t l : ℝ) : EReal) :=
  (kA_at A0 A1 A2 A3 A4 A5 A6 A7 A9 A10 b t l).trans (Row.X_real _ hx _ _).symm

/-- The values, steps first. -/
theorem v_val : steps (heads (vA A0 A1 A3)) (i4 t b h j) = (((rowOf A0 A1 A2 A3 A4 A5 A6 A7 A9 A10 b).v t (hl h j) : ℝ) : EReal) := by
  rw [steps_at, heads_at]
  exact (vA_at A0 A1 A2 A3 A4 A5 A6 A7 A9 A10 b t (hl h j)).trans (Row.X_real _ hx _ _).symm

/-- The gate. -/
theorem a_val : aA A0 A1 A3 A6 A7 (i4 b t h j) = (((rowOf A0 A1 A2 A3 A4 A5 A6 A7 A9 A10 b).a t (hl h j) : ℝ) : EReal) := by
  unfold aA
  rw [heads_at, sig1_at, laA_at A0 A1 A2 A3 A4 A5 A6 A7 A9 A10]; rfl

/-- The keys over their norms. -/
theorem kk_val' : unitA (kk0A A0 A1 A3 A9) (i4 b t h j) = (((rowOf A0 A1 A2 A3 A4 A5 A6 A7 A9 A10 b).kk h t j : ℝ) : EReal) := by
  refine unitA_at (kk0A A0 A1 A3 A9) b t h (fun j => (rowOf A0 A1 A2 A3 A4 A5 A6 A7 A9 A10 b).kk0 t (hl h j)) (fun j => ?_) j
  unfold kk0A
  rw [heads_at, mulf_apply, k_val hx, row_at]
  show _ = (((rowOf A0 A1 A2 A3 A4 A5 A6 A7 A9 A10 b).k t (hl h j) * (A9 (ix2 0 (hl h j)) : EReal).toReal : ℝ) : EReal)
  rw [EReal.coe_mul, show (((A9 (ix2 0 (hl h j)) : EReal).toReal : ℝ) : EReal) = A9 (ix2 0 (hl h j)) from hx.kkp (hl h j)]
  rfl

/-- The keys over their norms, steps first. -/
theorem kk_val : steps (unitA (kk0A A0 A1 A3 A9)) (i4 t b h j) = (((rowOf A0 A1 A2 A3 A4 A5 A6 A7 A9 A10 b).kk h t j : ℝ) : EReal) := by
  rw [steps_at, kk_val' hx]

/-- The keys over their norms under the gate. -/
theorem b_val : steps (mulf (unitA (kk0A A0 A1 A3 A9)) (aA A0 A1 A3 A6 A7)) (i4 t b h j) = (((rowOf A0 A1 A2 A3 A4 A5 A6 A7 A9 A10 b).b h t j : ℝ) : EReal) := by
  rw [steps_at, mulf_apply, kk_val' hx, a_val hx]
  exact (EReal.coe_mul _ _).symm

/-- The gated keys. -/
theorem k2_val : steps (k2A A0 A1 A3 A6 A7 A10) (i4 t b h j) = (((rowOf A0 A1 A2 A3 A4 A5 A6 A7 A9 A10 b).k2 t (hl h j) : ℝ) : EReal) := by
  rw [steps_at]
  unfold k2A
  rw [mulf_apply, addf_apply, mulf_apply, subf_apply, heads_at, heads_at, mulf_apply, k_val hx, a_val hx, row_at, all4_at, all3_at, oneW]
  show ((_ : ℝ) : EReal) * (((1 : ℝ) : EReal) + (((_ : ℝ) : EReal) - ((1 : ℝ) : EReal)) * (A10 (ix2 0 (hl h j)) * ((1 : ℝ) : EReal))) = _
  rw [show A10 (ix2 0 (hl h j)) = (((A10 (ix2 0 (hl h j)) : EReal).toReal : ℝ) : EReal) from (hx.kap (hl h j)).symm, ← EReal.coe_mul, mul_one, ← EReal.coe_sub, ← EReal.coe_mul, ← EReal.coe_add, ← EReal.coe_mul]
  rfl

end

end Cert.RwkvRefIdeal.Hand

end
-- ==== Proof.RwkvRefEntry.lean ====
/- The recurrence's reference: what its loop starts from. -/
module

public import proofs.«01_k».proof.Proof.RwkvRefArr
public import proofs.«01_k».proof.Proof.Gen.RwkvRefIdeal.Run

@[expose] public section

set_option maxRecDepth 16384

noncomputable section

namespace Cert.RwkvRefIdeal.Hand

open Cert.RwkvRefIdeal Cert.RwkvRefIdeal.Gen Cert.RwkvRefIdeal.Value Idealize.ShloMosaic.StableHlo Idealize.ShloMosaic Idealize.ShloMosaic.TcCoe Cert.Rows Cert.RwkvSpec
open Idealize.SL Idealize.SL.RA Idealize.SL.BI
open scoped Idealize.SL.BI
open Idealize.SL.BI.BIBase Idealize.SL.Sem

variable (m : (ℓ : Loc nD τ sig) → Buf (Elt Ideal) ℓ)

/-- The decays, steps first. -/
theorem e_dec (c : Dev nD) : entryContents preI m c (Proc.devRef .tc main_v79_0)
    = steps (decA (lwA (m ((c : Thread nD τ).loc main_arg0)) (m ((c : Thread nD τ).loc main_arg1)) (m ((c : Thread nD τ).loc main_arg3)) (m ((c : Thread nD τ).loc main_arg4)) (m ((c : Thread nD τ).loc main_arg5)))) := by
  simp only [entryContents, afterL_cons, afterL_nil]
  after_reads_simp
  rfl

/-- The gated keys. -/
theorem e_k2 (c : Dev nD) : entryContents preI m c (Proc.devRef .tc main_v79_1)
    = steps (k2A (m ((c : Thread nD τ).loc main_arg0)) (m ((c : Thread nD τ).loc main_arg1)) (m ((c : Thread nD τ).loc main_arg3)) (m ((c : Thread nD τ).loc main_arg6)) (m ((c : Thread nD τ).loc main_arg7)) (m ((c : Thread nD τ).loc main_arg10))) := by
  simp only [entryContents, afterL_cons, afterL_nil]
  after_reads_simp
  rfl

/-- The values. -/
theorem e_v (c : Dev nD) : entryContents preI m c (Proc.devRef .tc main_v79_2)
    = steps (heads (vA (m ((c : Thread nD τ).loc main_arg0)) (m ((c : Thread nD τ).loc main_arg1)) (m ((c : Thread nD τ).loc main_arg3)))) := by
  simp only [entryContents, afterL_cons, afterL_nil]
  after_reads_simp
  rfl

/-- The keys' directions. -/
theorem e_kk (c : Dev nD) : entryContents preI m c (Proc.devRef .tc main_v79_3)
    = steps (unitA (kk0A (m ((c : Thread nD τ).loc main_arg0)) (m ((c : Thread nD τ).loc main_arg1)) (m ((c : Thread nD τ).loc main_arg3)) (m ((c : Thread nD τ).loc main_arg9)))) := by
  simp only [entryContents, afterL_cons, afterL_nil]
  after_reads_simp
  rfl

/-- The directions under the gate. -/
theorem e_b (c : Dev nD) : entryContents preI m c (Proc.devRef .tc main_v79_4)
    = steps (mulf (unitA (kk0A (m ((c : Thread nD τ).loc main_arg0)) (m ((c : Thread nD τ).loc main_arg1)) (m ((c : Thread nD τ).loc main_arg3)) (m ((c : Thread nD τ).loc main_arg9))))
      (aA (m ((c : Thread nD τ).loc main_arg0)) (m ((c : Thread nD τ).loc main_arg1)) (m ((c : Thread nD τ).loc main_arg3)) (m ((c : Thread nD τ).loc main_arg6)) (m ((c : Thread nD τ).loc main_arg7)))) := by
  simp only [entryContents, afterL_cons, afterL_nil]
  after_reads_simp
  rfl

/-- The states. -/
theorem e_S (c : Dev nD) : entryContents preI m c (Proc.devRef .tc main_v79_6)
    = shapeCast S32x8x64x64 (m ((c : Thread nD τ).loc main_arg2)) shapeCasts_S1x32x8x64x64_S32x8x64x64 := by
  simp only [entryContents, afterL_cons, afterL_nil]
  after_reads_simp
  rfl

end Cert.RwkvRefIdeal.Hand

end
-- ==== Proof.RwkvRefVal.lean ====
/- The recurrence's reference: its loop over the steps, and the states it ends with. -/
module

public import proofs.«01_k».proof.Proof.RwkvRefArr
public import proofs.«01_k».proof.Proof.Gen.RwkvRefIdeal.Run
public import Idealize.ShloMosaic.Lib.DynamicIndex

@[expose] public section

set_option maxRecDepth 16384

noncomputable section

namespace Cert.RwkvRefIdeal.Hand

open Cert.RwkvRefIdeal Cert.RwkvRefIdeal.Gen Cert.RwkvRefIdeal.Value Idealize.ShloMosaic.StableHlo Idealize.ShloMosaic Idealize.ShloMosaic.TcCoe Cert.Rows Cert.RwkvSpec
open Idealize.SL Idealize.SL.RA Idealize.SL.BI
open scoped Idealize.SL.BI
open Idealize.SL.BI.BIBase Idealize.SL.Sem

/-- An array's entries at one step. -/
def at_ (x : FVec Ideal S16x32x8x64 .f32) (ctr : IVec S_ 32) : FVec Ideal S32x8x64 .f32 :=
  shapeCast S32x8x64 (Host.dynamicSlice S1x32x8x64 x (fun k => (((![ctr, constantI S_ 32 0#32, constantI S_ 32 0#32, constantI S_ 32 0#32] :
    Fin 4 → (⟨S_, .i32⟩ : BufTy).Contents (Elt Ideal))) k (Shape.Idx.first h_S_)).toInt) sliceFits_S16x32x8x64_S1x32x8x64) shapeCasts_S1x32x8x64_S32x8x64

/-- The array of one step. -/
theorem at_at (x : FVec Ideal S16x32x8x64 .f32) (n : ℕ) (hn : n < 16) (b : Fin 32) (h : Fin 8) (j : Fin 64) :
    at_ x (fun _ => BitVec.ofNat 32 n) (i3 b h j) = x (i4 ⟨n, hn⟩ b h j) := by
  have hoff : S16x32x8x64.Slices (![n, 0, 0, 0] : Fin 4 → ℕ) S1x32x8x64 := ⟨rfl, fun a => by
    match a with
    | ⟨0, _⟩ => show n + 1 ≤ 16; omega
    | ⟨1, _⟩ => show 0 + 32 ≤ 32; omega
    | ⟨2, _⟩ => show 0 + 8 ≤ 8; omega
    | ⟨3, _⟩ => show 0 + 64 ≤ 64; omega⟩
  unfold at_
  rw [Host.dynamicSlice_eq_extractStridedSlice S1x32x8x64 x _ (![n, 0, 0, 0] : Fin 4 → ℕ) sliceFits_S16x32x8x64_S1x32x8x64 hoff (fun a => by
    match a with
    | ⟨0, _⟩ => exact toInt_ofNat_of_lt (by omega)
    | ⟨1, _⟩ => rfl
    | ⟨2, _⟩ => rfl
    | ⟨3, _⟩ => rfl)]
  refine (shapeCast_apply _ shapeCasts_S1x32x8x64_S32x8x64 (i3 b h j : S32x8x64.Idx) (i4 0 b h j : S1x32x8x64.Idx) (by
    rw [Shape.rowMajor_val_three, Shape.rowMajor_val_four]
    show ((0 * 32 + b.1) * 8 + h.1) * 64 + j.1 = (b.1 * 8 + h.1) * 64 + j.1
    omega)).trans ?_
  exact extractStridedSlice_apply (![n, 0, 0, 0] : Fin 4 → ℕ) x hoff (i4 0 b h j : S1x32x8x64.Idx) (i4 ⟨n, hn⟩ b h j : S16x32x8x64.Idx) (fun a => by
    match a with
    | ⟨0, _⟩ => exact (Nat.add_zero _).symm
    | ⟨1, _⟩ => exact (Nat.zero_add _).symm
    | ⟨2, _⟩ => exact (Nat.zero_add _).symm
    | ⟨3, _⟩ => exact (Nat.zero_add _).symm)

/-- One number for each column of a head's state, along its rows. -/
def cols (x : FVec Ideal S32x8x64 .f32) : FVec Ideal S32x8x64x64 .f32 :=
  broadcastInDim S32x8x64x64 ![0, 1, 2, 3] bcast_S32x8x1x64_S32x8x64x64_0_1_2_3 (broadcastInDim S32x8x1x64 ![0, 1, 3] bcast_S32x8x64_S32x8x1x64_0_1_3 x)
/-- One number for each row of a head's state, along its columns. -/
def rows (x : FVec Ideal S32x8x64 .f32) : FVec Ideal S32x8x64x64 .f32 :=
  broadcastInDim S32x8x64x64 ![0, 1, 2, 3] bcast_S32x8x64x1_S32x8x64x64_0_1_2_3 (broadcastInDim S32x8x64x1 ![0, 1, 2] bcast_S32x8x64_S32x8x64x1_0_1_2 x)

/-- A vector over the columns of the state. -/
theorem cols_at (x : FVec Ideal S32x8x64 .f32) (b : Fin 32) (h : Fin 8) (i j : Fin 64) : cols x (i4 b h i j) = x (i3 b h j) := by
  unfold cols
  refine (broadcastInDim_apply ![0, 1, 2, 3] bcast_S32x8x1x64_S32x8x64x64_0_1_2_3 _ (i4 b h i j : S32x8x64x64.Idx) (i4 b h 0 j : S32x8x1x64.Idx)
    (fun a => by match a with | ⟨0, _⟩ => rfl | ⟨1, _⟩ => rfl | ⟨2, _⟩ => rfl | ⟨3, _⟩ => rfl)).trans ?_
  exact broadcastInDim_apply ![0, 1, 3] bcast_S32x8x64_S32x8x1x64_0_1_3 x (i4 b h 0 j : S32x8x1x64.Idx) (i3 b h j : S32x8x64.Idx)
    (fun a => by match a with | ⟨0, _⟩ => rfl | ⟨1, _⟩ => rfl | ⟨2, _⟩ => rfl)
/-- A vector over the rows of the state. -/
theorem rows_at (x : FVec Ideal S32x8x64 .f32) (b : Fin 32) (h : Fin 8) (i j : Fin 64) : rows x (i4 b h i j) = x (i3 b h i) := by
  unfold rows
  refine (broadcastInDim_apply ![0, 1, 2, 3] bcast_S32x8x64x1_S32x8x64x64_0_1_2_3 _ (i4 b h i j : S32x8x64x64.Idx) (i4 b h i 0 : S32x8x64x1.Idx)
    (fun a => by match a with | ⟨0, _⟩ => rfl | ⟨1, _⟩ => rfl | ⟨2, _⟩ => rfl | ⟨3, _⟩ => rfl)).trans ?_
  exact broadcastInDim_apply ![0, 1, 2] bcast_S32x8x64_S32x8x64x1_0_1_2 x (i4 b h i 0 : S32x8x64x1.Idx) (i3 b h i : S32x8x64.Idx)
    (fun a => by match a with | ⟨0, _⟩ => rfl | ⟨1, _⟩ => rfl | ⟨2, _⟩ => rfl)

/-- Each head's state times a vector. -/
def sdot (S : FVec Ideal S32x8x64x64 .f32) (x : FVec Ideal S32x8x64 .f32) : FVec Ideal S32x8x64 .f32 :=
  Host.dotGeneral dot_S32x8x64x64_S32x8x64_S32x8x64_3_2_2_n_01_01 none S x

/-- The state times a vector. -/
theorem sdot_at (S : FVec Ideal S32x8x64x64 .f32) (x : FVec Ideal S32x8x64 .f32) (b : Fin 32) (h : Fin 8) (i : Fin 64) :
    sdot S x (i3 b h i) = ∑ j : Fin 64, S (i4 b h i j) * x (i3 b h j) := by
  unfold sdot
  simp only [Host.dotGeneral]
  rw [Ideal.dotGeneral_apply]
  refine (DotDims.sum_contr₁ (K := 64) dot_S32x8x64x64_S32x8x64_S32x8x64_3_2_2_n_01_01 rfl rfl _).trans (Finset.sum_congr rfl fun j _ => ?_)
  refine congrArg₂ (· * ·) (congrArg S (funext fun a => ?_)) (congrArg x (funext fun a => ?_))
  · match a with | ⟨0, _⟩ => rfl | ⟨1, _⟩ => rfl | ⟨2, _⟩ => rfl | ⟨3, _⟩ => rfl
  · match a with | ⟨0, _⟩ => rfl | ⟨1, _⟩ => rfl | ⟨2, _⟩ => rfl

/-- One step of the states. -/
def stepS (S : FVec Ideal S32x8x64x64 .f32) (d k v kk b : FVec Ideal S32x8x64 .f32) : FVec Ideal S32x8x64x64 .f32 :=
  addf (subf (mulf S (cols d)) (mulf (rows (sdot S kk)) (cols b))) (mulf (rows v) (cols k))

/-- A step's state, in the operations of the recurrence. -/
theorem step6_eq (V : Valuation τ sig (Elt Ideal)) : step_main_v79_6 V
    = stepS (V (Proc.devRef .tc main_v79_6)) (at_ (V (Proc.devRef .tc main_v79_0)) (V (Proc.devRef .tc main_v79_5))) (at_ (V (Proc.devRef .tc main_v79_1)) (V (Proc.devRef .tc main_v79_5)))
      (at_ (V (Proc.devRef .tc main_v79_2)) (V (Proc.devRef .tc main_v79_5))) (at_ (V (Proc.devRef .tc main_v79_3)) (V (Proc.devRef .tc main_v79_5)))
      (at_ (V (Proc.devRef .tc main_v79_4)) (V (Proc.devRef .tc main_v79_5))) := rfl

/-- A step of the reference is a step of the recurrence. -/
theorem stepS_at (x : Row) (S : FVec Ideal S32x8x64x64 .f32) (D K V KK B : FVec Ideal S16x32x8x64 .f32) (b : Fin 32) (n : ℕ) (hn : n < 16)
    (hS : ∀ h i j, S (i4 b h i j) = ((x.S h n i j : ℝ) : EReal))
    (hD : ∀ t h j, D (i4 t b h j) = ((Real.exp (x.ld t (hl h j)) : ℝ) : EReal)) (hK : ∀ t h j, K (i4 t b h j) = ((x.k2 t (hl h j) : ℝ) : EReal))
    (hV : ∀ t h j, V (i4 t b h j) = ((x.v t (hl h j) : ℝ) : EReal)) (hKK : ∀ t h j, KK (i4 t b h j) = ((x.kk h t j : ℝ) : EReal))
    (hB : ∀ t h j, B (i4 t b h j) = ((x.b h t j : ℝ) : EReal)) (h : Fin 8) (i j : Fin 64) :
    stepS S (at_ D fun _ => BitVec.ofNat 32 n) (at_ K fun _ => BitVec.ofNat 32 n) (at_ V fun _ => BitVec.ofNat 32 n) (at_ KK fun _ => BitVec.ofNat 32 n)
      (at_ B fun _ => BitVec.ofNat 32 n) (i4 b h i j) = ((x.S h (n + 1) i j : ℝ) : EReal) := by
  unfold stepS
  rw [addf_apply, subf_apply, mulf_apply, mulf_apply, mulf_apply, cols_at, cols_at, cols_at, rows_at, rows_at, sdot_at, at_at D n hn, at_at K n hn, at_at V n hn, at_at B n hn, hS, hD, hK, hV, hB]
  have hs : ∑ l : Fin 64, S (i4 b h i l) * at_ KK (fun _ => BitVec.ofNat 32 n) (i3 b h l) = ((∑ l, x.S h n i l * x.kk h ⟨n, hn⟩ l : ℝ) : EReal) := by
    rw [coe_sum']
    exact Finset.sum_congr rfl fun l _ => by rw [hS, at_at KK n hn, hKK, EReal.coe_mul]
  rw [hs]
  show ((_ : ℝ) : EReal) * ((_ : ℝ) : EReal) - ((_ : ℝ) : EReal) * ((_ : ℝ) : EReal) + ((_ : ℝ) : EReal) * ((_ : ℝ) : EReal) = _
  rw [← EReal.coe_mul, ← EReal.coe_mul, ← EReal.coe_mul, ← EReal.coe_sub, ← EReal.coe_add]
  rw [Row.S, dif_pos hn]

/-- The states after `n` steps, from any contents whose arrays hold one batch row's numbers. -/
theorem iter_at (x : Row) (V : Valuation τ sig (Elt Ideal)) (b : Fin 32) (h5 : V (Proc.devRef .tc main_v79_5) = fun _ => (0#32 : BitVec 32))
    (h6 : ∀ h i j, (V (Proc.devRef .tc main_v79_6) : S32x8x64x64.Idx → EReal) (i4 b h i j) = ((x.S h 0 i j : ℝ) : EReal))
    (hD : ∀ t h j, (V (Proc.devRef .tc main_v79_0) : S16x32x8x64.Idx → EReal) (i4 t b h j) = ((Real.exp (x.ld t (hl h j)) : ℝ) : EReal))
    (hK : ∀ t h j, (V (Proc.devRef .tc main_v79_1) : S16x32x8x64.Idx → EReal) (i4 t b h j) = ((x.k2 t (hl h j) : ℝ) : EReal))
    (hV : ∀ t h j, (V (Proc.devRef .tc main_v79_2) : S16x32x8x64.Idx → EReal) (i4 t b h j) = ((x.v t (hl h j) : ℝ) : EReal))
    (hKK : ∀ t h j, (V (Proc.devRef .tc main_v79_3) : S16x32x8x64.Idx → EReal) (i4 t b h j) = ((x.kk h t j : ℝ) : EReal))
    (hB : ∀ t h j, (V (Proc.devRef .tc main_v79_4) : S16x32x8x64.Idx → EReal) (i4 t b h j) = ((x.b h t j : ℝ) : EReal)) :
    ∀ n, n ≤ 16 →
      (STEP^[n] V) (Proc.devRef .tc main_v79_0) = V (Proc.devRef .tc main_v79_0) ∧ (STEP^[n] V) (Proc.devRef .tc main_v79_1) = V (Proc.devRef .tc main_v79_1)
      ∧ (STEP^[n] V) (Proc.devRef .tc main_v79_2) = V (Proc.devRef .tc main_v79_2) ∧ (STEP^[n] V) (Proc.devRef .tc main_v79_3) = V (Proc.devRef .tc main_v79_3)
      ∧ (STEP^[n] V) (Proc.devRef .tc main_v79_4) = V (Proc.devRef .tc main_v79_4)
      ∧ ((STEP^[n] V) (Proc.devRef .tc main_v79_5) = fun _ => BitVec.ofNat 32 n)
      ∧ ∀ h i j, ((STEP^[n] V) (Proc.devRef .tc main_v79_6) : S32x8x64x64.Idx → EReal) (i4 b h i j) = ((x.S h n i j : ℝ) : EReal)
  | 0, _ => ⟨rfl, rfl, rfl, rfl, rfl, h5, h6⟩
  | n + 1, hn => by
    obtain ⟨g0, g1, g2, g3, g4, g5, g6⟩ := iter_at x V b h5 h6 hD hK hV hKK hB n (by omega)
    rw [Function.iterate_succ_apply']
    generalize STEP^[n] V = W at g0 g1 g2 g3 g4 g5 g6 ⊢
    refine ⟨(STEP_main_v79_0 W).trans g0, (STEP_main_v79_1 W).trans g1, (STEP_main_v79_2 W).trans g2, (STEP_main_v79_3 W).trans g3, (STEP_main_v79_4 W).trans g4, ?_, fun h i j => ?_⟩
    · rw [STEP_main_v79_5]
      unfold step_main_v79_5
      rw [g5]
      funext q
      show BitVec.ofNat 32 n + 1#32 = BitVec.ofNat 32 (n + 1)
      rw [BitVec.ofNat_add]
    · refine (congrFun ((STEP_main_v79_6 W).trans (step6_eq W)) (i4 b h i j)).trans ?_
      rw [g5]
      exact stepS_at x _ _ _ _ _ _ b n (by omega) g6 (fun t h j => by rw [g0]; exact hD t h j) (fun t h j => by rw [g1]; exact hK t h j) (fun t h j => by rw [g2]; exact hV t h j)
        (fun t h j => by rw [g3]; exact hKK t h j) (fun t h j => by rw [g4]; exact hB t h j) h i j

end Cert.RwkvRefIdeal.Hand

end
-- ==== Proof.RwkvRefRun.lean ====
/- The recurrence's reference: the states it ends with. -/
module

public import proofs.«01_k».proof.Proof.RwkvRefEntry
public import proofs.«01_k».proof.Proof.RwkvRefVal

@[expose] public section

set_option maxRecDepth 16384

noncomputable section

namespace Cert.RwkvRefIdeal.Hand

open Cert.RwkvRefIdeal Cert.RwkvRefIdeal.Gen Cert.RwkvRefIdeal.Value Idealize.ShloMosaic.StableHlo Idealize.ShloMosaic Idealize.ShloMosaic.TcCoe Cert.Rows Cert.RwkvSpec
open Idealize.SL Idealize.SL.RA Idealize.SL.BI
open scoped Idealize.SL.BI
open Idealize.SL.BI.BIBase Idealize.SL.Sem

variable (m : (ℓ : Loc nD τ sig) → Buf (Elt Ideal) ℓ)

/-- Batch row `b`'s arguments on device `c`. -/
def rowAt (c : Dev nD) (b : Fin 32) : Row :=
  rowOf (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))
    (m ((c : Thread nD τ).loc main_arg9)) (m ((c : Thread nD τ).loc main_arg10)) b

/-- The states the recurrence starts from. -/
theorem S0_at (A2 : S1x32x8x64x64.Idx → EReal) (b : Fin 32) (h : Fin 8) (i j : Fin 64) :
    shapeCast S32x8x64x64 (A2 : FVec Ideal S1x32x8x64x64 .f32) shapeCasts_S1x32x8x64x64_S32x8x64x64 (i4 b h i j) = A2 (i5 0 b h i j) := by
  refine shapeCast_apply (A2 : FVec Ideal S1x32x8x64x64 .f32) shapeCasts_S1x32x8x64x64_S32x8x64x64 (i4 b h i j : S32x8x64x64.Idx) (i5 0 b h i j : S1x32x8x64x64.Idx) ?_
  rw [Shape.rowMajor_val_four, Shape.rowMajor_val_five]
  show (((0 * 32 + b.1) * 8 + h.1) * 64 + i.1) * 64 + j.1 = ((b.1 * 8 + h.1) * 64 + i.1) * 64 + j.1
  rw [Nat.zero_mul, Nat.zero_add]

/-- The states the reference ends with are the recurrence's after sixteen steps. -/
theorem final_eq (c : Dev nD) (hx : ∀ b, (rowAt m c b).Real) :
    ((STEP^[16] (entryContents preI m c)) (Proc.devRef .tc main_v79_6) : S32x8x64x64.Idx → EReal)
      = fun i => (((rowAt m c (i 0)).S (i 1) 16 (i 2) (i 3) : ℝ) : EReal) := by
  funext i
  obtain ⟨b, h, p, q, rfl⟩ : ∃ b h p q, i = i4 b h p q := ⟨i 0, i 1, i 2, i 3, by funext d; match d with | ⟨0, _⟩ => rfl | ⟨1, _⟩ => rfl | ⟨2, _⟩ => rfl | ⟨3, _⟩ => rfl⟩
  refine (iter_at (rowAt m c b) (entryContents preI m c) b (ctr_entry m c) (fun h i j => ?_) (fun t h j => ?_) (fun t h j => ?_) (fun t h j => ?_) (fun t h j => ?_) (fun t h j => ?_) 16 le_rfl).2.2.2.2.2.2 h p q
  · rw [e_S m c]
    exact (S0_at _ b h i j).trans ((hx b).S0 h i j).symm
  · rw [e_dec m c]; exact dec_val (hx b) t h j
  · rw [e_k2 m c]; exact k2_val (hx b) t h j
  · rw [e_v m c]; exact v_val (hx b) t h j
  · rw [e_kk m c]; exact kk_val (hx b) t h j
  · rw [e_b m c]; exact b_val (hx b) t h j

end Cert.RwkvRefIdeal.Hand

end
-- ==== Proof.RwkvPre.lean ====
/- The recurrence's precondition, read element by element. -/
module

public import proofs.«01_k».proof.Pre_finite
public import proofs.«01_k».proof.Proof.RwkvRows
public import Idealize.ShloMosaic.Lib.ReduceAll
public import Idealize.ShloMosaic.Lib.Pointwise.Select

@[expose] public section

set_option maxRecDepth 16384

noncomputable section

namespace Cert.RwkvPre

open Idealize.ShloMosaic Cert.Pre_finite Cert.RwkvSpec

/-- The relations between shapes which the precondition's operations take. -/
theorem facts : Cert.Pre_finite.Facts where
  bcast_S_S32x16x1792 := by decide
  reducesTo_S32x16x1792_S_d0_1_2 := by decide
  h_S_ := by decide
  bcast_S_S1x32x1x1792 := by decide
  reducesTo_S1x32x1x1792_S_d0_1_2_3 := by decide
  bcast_S_S1x32x8x64x64 := by decide
  reducesTo_S1x32x8x64x64_S_d0_1_2_3_4 := by decide
  bcast_S_S1x1792 := by decide
  reducesTo_S1x1792_S_d0_1 := by decide
  bcast_S_S1x512 := by decide
  reducesTo_S1x512_S_d0_1 := by decide

/-- A number whose absolute value is below infinity is real. -/
theorem isR_of_lt {z : EReal} (h : max z (-z) < ⊤) : IsR z := by
  induction z using EReal.rec with
  | bot => simp at h
  | coe r => exact isR_coe r
  | top => simp at h

/-- The word of infinity is infinity. -/
theorem infW : Ideal.ofBits .f32 0x7F800000#32 = ⊤ := by simp [Ideal.ofBits, Ideal.ieee]

/-- A number that passes the test is real. -/
theorem isR_of_test (z : EReal) (h : Ideal.cmp .olt (max z (-z)) (Ideal.ofBits .f32 0x7F800000#32) = 1#1) : IsR z := by
  rw [infW, Ideal.cmp_olt] at h
  by_cases hl : max z (-z) < ⊤
  · exact isR_of_lt hl
  · rw [decide_eq_false hl] at h
    exact absurd h (by decide)

/-- An array all of whose elements pass is an array of real numbers. -/
theorem all_real {S : Shape} {axes : List (Fin S.rank)} (x : FVec Ideal S .f32) (hb : S_.BroadcastsInDim S (![] : Fin 0 → Fin S.rank)) (hr : S.ReducesTo axes S_) (h0 : 0 < S_.numel)
    (e : ∀ j, Host.reduce IntOp.andi (cmpf .olt (Host.absf x) (broadcastInDim S ![] hb (constant S_ .f32 0x7F800000#32))) (constantI S_ 1 1#1) hr h0 j = 1#1) (i : S.Idx) :
    IsR (x i) :=
  isR_of_test (x i) (Host.reduce_andi_all _ _ _ _ (fun d => d.elim0) (e _) i)

/-- Both of two truths. -/
theorem both {a b : BitVec 1} (h : IntOp.andi a b = 1#1) : a = 1#1 ∧ b = 1#1 := by
  revert a b; decide

variable {A0 : FVec Ideal S32x16x1792 .f32} {A1 : FVec Ideal S1x32x1x1792 .f32} {A2 : FVec Ideal S1x32x8x64x64 .f32} {A3 : FVec Ideal S1x1792 .f32}
  {A4 : FVec Ideal S1x512 .f32} {A5 : FVec Ideal S1x64x512 .f32} {A6 : FVec Ideal S1x512 .f32} {A7 : FVec Ideal S1x64x512 .f32} {A8 : FVec Ideal S1x128x512 .f32}
  {A9 A10 : FVec Ideal S1x512 .f32} {A11 : FVec Ideal S1x8x64 .f32} {A12 A13 : FVec Ideal S1x512 .f32}

/-- Under the precondition a batch row's activation, states and scales are real numbers. -/
theorem real_of_finite [Cert.Pre_finite.Facts] (h : Cert.Pre_finite.fn (F := Ideal) A0 A1 A2 A3 A4 A5 A6 A7 A8 A9 A10 A11 A12 A13 = fun _ => 1#1) (b : Fin 32) :
    (rowOf A0 A1 A2 A3 A4 A5 A6 A7 A9 A10 b).Real := by
  unfold Cert.Pre_finite.fn Cert.Pre_finite.fn_part1 at h
  dsimp only at h
  have g := fun j => congrFun h j
  have g5 := fun j => both (g j)
  have g4 := fun j => both (g5 j).1
  have g3 := fun j => both (g4 j).1
  have g2 := fun j => both (g3 j).1
  have g1 := fun j => both (g2 j).1
  exact ⟨fun t c => all_real A0 _ _ _ (fun j => (g1 j).1) _, fun c => all_real A1 _ _ _ (fun j => (g1 j).2) _, fun c => all_real A3 _ _ _ (fun j => (g3 j).2) _,
    fun c => all_real A9 _ _ _ (fun j => (g4 j).2) _, fun c => all_real A10 _ _ _ (fun j => (g5 j).2) _, fun h i j => all_real A2 _ _ _ (fun j => (g2 j).2) _⟩

end Cert.RwkvPre

end
-- ==== Proof.RwkvClaims.lean ====
/- The claims about the recurrent mixer's call. -/
module

public import proofs.«01_k».proof.Defs
public import proofs.«01_k».proof.Proof.Gen.Rwkv.Frame
public import proofs.«01_k».proof.Proof.Gen.RwkvIdeal.Frame
public import proofs.«01_k».proof.Proof.RwkvHost
public import proofs.«01_k».proof.Proof.RwkvRefRun
public import proofs.«01_k».proof.Proof.RwkvPre

@[expose] public section

noncomputable section

namespace Cert.RwkvClaims

open Idealize.ShloMosaic Idealize.ShloMosaic.TcCoe Idealize.SL.Sem Cert.RwkvSpec

/-- The kernel, over the device's numbers, leaves its arguments unchanged. -/
theorem frame_p : Cert.quiescent_Rwkv := fun m ρ _ => Cert.Rwkv.Gen.frame m ρ

/-- So does the kernel over the reals. -/
theorem frame_i : Cert.quiescent_RwkvIdeal := fun m ρ _ => Cert.RwkvIdeal.Gen.frame m ρ

/-- The kernel over the reals differs from the kernel in one named constant: the squared threshold of the key's norm,
    written as the square of the reference's threshold. -/
theorem preserves : Cert.preserves_Rwkv_RwkvIdeal := IdealRules.named_const.statement Cert.RwkvIdeal.κ "eps_sq" .f32 0x179ABE15#32 _ rfl

/-- The precondition's side conditions. -/
local instance : Cert.Pre_finite.Facts := Cert.RwkvPre.facts

/-- The kernel's frame, under the precondition of the equality. -/
theorem frame_ip : Cert.quiescent_RwkvIdeal_pre_finite := fun m ρ _ => Cert.RwkvIdeal.Gen.frame m ρ

/-- The reference leaves its arguments unchanged. -/
theorem frame_r : Cert.quiescent_RwkvRefIdeal := fun m ρ _ =>
  (θ_run Cert.RwkvRefIdeal.defs _ _).mono (fun r h => ⟨fun c => (h c).2, sem_eq_zero_of_no_sems (by decide) r.2⟩) (Cert.RwkvRefIdeal.Value.run (F := Ideal) m ρ)

/-- The reference's frame, under the precondition of the equality. -/
theorem frame_rp : Cert.quiescent_RwkvRefIdeal_pre_finite := fun m ρ _ => frame_r m ρ trivial

/-- For finite arguments the kernel's states, sixteen steps taken at once, are the states of the reference's sixteen steps. -/
theorem algebraic : Cert.algebraic_RwkvIdeal_RwkvRefIdeal_pre_finite := by
  intro m ρ m' ρ' hp hagree
  have hx : ∀ c b, (Cert.RwkvIdeal.Hand.rowAt m c b).Real := fun c b => Cert.RwkvPre.real_of_finite (hp c) b
  have hr : ∀ (c : Dev Cert.RwkvIdeal.nD) b, Cert.RwkvRefIdeal.Hand.rowAt m' c b = Cert.RwkvIdeal.Hand.rowAt m c b := fun c b => by
    obtain ⟨e0, e1, e2, e3, e4, e5, e6, e7, -, e9, e10, -⟩ := hagree c
    unfold Cert.RwkvRefIdeal.Hand.rowAt Cert.RwkvIdeal.Hand.rowAt
    rw [e0, e1, e2, e3, e4, e5, e6, e7, e9, e10]
  have hs : ∀ (c : Dev Cert.RwkvIdeal.nD) (i : (⟨4, ![32, 8, 64, 64]⟩ : Shape).Idx),
      (((Cert.RwkvRefIdeal.Hand.rowAt m' c (i 0)).S (i 1) 16 (i 2) (i 3) : ℝ) : EReal) = Cert.RwkvIdeal.Hand.result m c i := fun c i =>
    congrArg (fun x : Row => ((x.S (i 1 : Fin 8) 16 (i 2 : Fin 64) (i 3 : Fin 64) : ℝ) : EReal)) (hr c (i 0))
  refine ⟨fun c => Cert.RwkvIdeal.Hand.result m c, ?_, ?_⟩
  · exact (θ_run Cert.RwkvIdeal.defs _ _).mono (fun r h c => ⟨(h c).2.1.trans (Cert.RwkvIdeal.Hand.final_eq m c (hx c)), (h c).2.2⟩)
      (Cert.RwkvIdeal.Value.run_blocks (F := Ideal) m ρ)
  · refine (θ_run Cert.RwkvRefIdeal.defs _ _).mono (fun r h c => ⟨(h c).1.trans ((Cert.RwkvRefIdeal.Hand.final_eq m' c fun b => (hr c b).symm ▸ hx c b).trans ?_), (h c).2⟩)
      (Cert.RwkvRefIdeal.Value.run (F := Ideal) m' ρ')
    exact funext (hs c)

end Cert.RwkvClaims

end
-- ==== Proof.TailRef.lean ====
/- The tail call's reference: its result array, row by row. -/
module

public import proofs.«01_k».proof.Proof.HostRead
public import proofs.«01_k».proof.Proof.Gen.TailRefIdeal.Read

@[expose] public section

noncomputable section

namespace Cert.TailRefIdeal.Hand

open Cert.TailRefIdeal Cert.TailRefIdeal.Gen Cert.TailRefIdeal.Read Idealize.ShloMosaic Idealize.SL.Sem Cert.Rows

/-- The reference's root-mean-square normalisation of every row, as array operations. -/
def rmsR (x : FVec Ideal S16384x1024 .f32) (g : FVec Ideal S1024 .f32) : FVec Ideal S16384x1024 .f32 :=
  mulf (mulf x (broadcastInDim S16384x1024 ![0, 1] bcast_S16384x1_S16384x1024_0_1 (Host.rsqrt (addf (Host.divf
    (broadcastInDim S16384x1 ![0] bcast_S16384_S16384x1_0 (Host.reduceAdd (mulf x x) (val_main_cst (F := Ideal)) reducesTo_S16384x1024_S16384_d1 h_S_))
    (broadcastInDim S16384x1 ![] bcast_S_S16384x1 (val_main_cst_0 (F := Ideal)))) (broadcastInDim S16384x1 ![] bcast_S_S16384x1 (val_main_cst_1 (F := Ideal)))))))
    (broadcastInDim S16384x1024 ![0, 1] bcast_S1x1024_S16384x1024_0_1 (broadcastInDim S1x1024 ![1] bcast_S1024_S1x1024_1 g))

/-- The sum of a row's squares. -/
theorem sq_apply (x : FVec Ideal S16384x1024 .f32) (i : Fin 16384) :
    Host.reduceAdd (mulf x x) (constant S_ .f32 0x00000000#32 : FVec Ideal S_ .f32) reducesTo_S16384x1024_S16384_d1 h_S_ (ix1 i) = ∑ k : Fin 1024, x (ix2 i k) * x (ix2 i k) :=
  hostSum_apply reducesTo_S16384x1024_S16384_d1 (by decide) h_S_ (mulf x x) i

/-- It is `Rows.rms` of each row. -/
theorem rmsR_apply (x : FVec Ideal S16384x1024 .f32) (g : FVec Ideal S1024 .f32) (i : Fin 16384) (j : Fin 1024) :
    rmsR x g (ix2 i j) = rms (fun k => x (ix2 i k)) (fun k => g (ix1 k)) j := by
  unfold rmsR rms val_main_cst val_main_cst_0 val_main_cst_1
  pointwise [sq_apply]

/-- A sigmoid, as the reference writes it. -/
def sigR (x : FVec Ideal S16384x1024 .f32) : FVec Ideal S16384x1024 .f32 :=
  Host.divf (broadcastInDim S16384x1024 ![] bcast_S_S16384x1024 (val_main_cst_3 (F := Ideal)))
    (addf (broadcastInDim S16384x1024 ![] bcast_S_S16384x1024 (val_main_cst_2 (F := Ideal))) (Host.exp (Host.negf x)))

/-- The sigmoid, at an entry. -/
theorem sigR_apply (x : FVec Ideal S16384x1024 .f32) (i : Fin 16384) (j : Fin 1024) : sigR x (ix2 i j) = Ideal.logistic (x (ix2 i j)) := by
  unfold sigR Ideal.logistic val_main_cst_3 val_main_cst_2
  pointwise

/-- The gates and the two projections, as the reference writes them. -/
def mixR (h : FVec Ideal S16384x1024 .f32) (win : FVec Ideal S1024x5192 .f32) (att rw : FVec Ideal S16384x512 .f32) (wa wr : FVec Ideal S512x1024 .f32) :
    FVec Ideal S16384x1024 .f32 :=
  addf (mulf (sigR (extractStridedSlice S16384x1024 ![0, 3144] (Host.dotGeneral dot_S16384x1024_S1024x5192_S16384x5192_1_0_0_1_n_n none h win) slices_S16384x5192_S16384x1024_0_3144))
      (Host.dotGeneral dot_S16384x512_S512x1024_S16384x1024_1_0_0_1_n_n none att wa))
    (mulf (sigR (extractStridedSlice S16384x1024 ![0, 4168] (Host.dotGeneral dot_S16384x1024_S1024x5192_S16384x5192_1_0_0_1_n_n none h win) slices_S16384x5192_S16384x1024_0_4168))
      (Host.dotGeneral dot_S16384x512_S512x1024_S16384x1024_1_0_0_1_n_n none rw wr))

/-- They are `Rows.mix` of each row. -/
theorem mixR_apply (h : FVec Ideal S16384x1024 .f32) (win : FVec Ideal S1024x5192 .f32) (att rw : FVec Ideal S16384x512 .f32) (wa wr : FVec Ideal S512x1024 .f32)
    (i : Fin 16384) (j : Fin 1024) :
    mixR h win att rw wa wr (ix2 i j) = mix (fun k => h (ix2 i k)) (fun k l => win (ix2 k ⟨3144 + l.val, by omega⟩)) (fun k l => win (ix2 k ⟨4168 + l.val, by omega⟩))
      (fun k => att (ix2 i k)) (fun k => rw (ix2 i k)) (fun k l => wa (ix2 k l)) (fun k l => wr (ix2 k l)) j := by
  unfold mixR
  simp only [addf_apply, mulf_apply, sigR_apply]
  rw [extractStridedSlice_apply ![0, 3144] _ _ (ix2 i j) (ix2 i ⟨3144 + j.val, by omega⟩) (by intro a; match a with | ⟨0, _⟩ => exact (Nat.zero_add _).symm | ⟨1, _⟩ => rfl),
    extractStridedSlice_apply ![0, 4168] _ _ (ix2 i j) (ix2 i ⟨4168 + j.val, by omega⟩) (by intro a; match a with | ⟨0, _⟩ => exact (Nat.zero_add _).symm | ⟨1, _⟩ => rfl),
    hostDot_apply dot_S16384x1024_S1024x5192_S16384x5192_1_0_0_1_n_n rfl, hostDot_apply dot_S16384x1024_S1024x5192_S16384x5192_1_0_0_1_n_n rfl,
    hostDot_apply dot_S16384x512_S512x1024_S16384x1024_1_0_0_1_n_n rfl, hostDot_apply dot_S16384x512_S512x1024_S16384x1024_1_0_0_1_n_n rfl]
  rfl

/-- The residual, as the reference writes it. -/
def residR (x mx : FVec Ideal S16384x1024 .f32) (wo : FVec Ideal S1024x1024 .f32) : FVec Ideal S16384x1024 .f32 :=
  addf x (Host.dotGeneral dot_S16384x1024_S1024x1024_S16384x1024_1_0_0_1_n_n none mx wo)

/-- The residual, at an entry. -/
theorem residR_apply (x mx : FVec Ideal S16384x1024 .f32) (wo : FVec Ideal S1024x1024 .f32) (i : Fin 16384) (j : Fin 1024) :
    residR x mx wo (ix2 i j) = resid (fun k => x (ix2 i k)) (fun k => mx (ix2 i k)) (fun k l => wo (ix2 k l)) j := by
  unfold residR
  rw [addf_apply, hostDot_apply dot_S16384x1024_S1024x1024_S16384x1024_1_0_0_1_n_n rfl]
  rfl

/-- The feed-forward block's hidden layer before its rectifier. -/
def upR (x : FVec Ideal S16384x1024 .f32) (g : FVec Ideal S1024 .f32) (w1 : FVec Ideal S1024x4096 .f32) : FVec Ideal S16384x4096 .f32 :=
  maximumf (Host.dotGeneral dot_S16384x1024_S1024x4096_S16384x4096_1_0_0_1_n_n none (rmsR x g) w1) (val_main_call0_v0 (F := Ideal))

/-- The feed-forward block, as the reference writes it. -/
def mlpR (x : FVec Ideal S16384x1024 .f32) (g : FVec Ideal S1024 .f32) (w1 : FVec Ideal S1024x4096 .f32) (w2 : FVec Ideal S4096x1024 .f32) : FVec Ideal S16384x1024 .f32 :=
  addf x (Host.dotGeneral dot_S16384x4096_S4096x1024_S16384x1024_1_0_0_1_n_n none (mulf (upR x g w1) (upR x g w1)) w2)

/-- The rectified hidden layer, an entry. -/
theorem upR_apply (x : FVec Ideal S16384x1024 .f32) (g : FVec Ideal S1024 .f32) (w1 : FVec Ideal S1024x4096 .f32) (i : Fin 16384) (j : Fin 4096) :
    upR x g w1 (ix2 i j) = max (dot (rms (fun k => x (ix2 i k)) (fun k => g (ix1 k))) (fun k l => w1 (ix2 k l)) j) 0 := by
  unfold upR
  have h0 : (val_main_call0_v0 (F := Ideal)) (ix2 i j) = (0 : EReal) := by
    rw [val_main_call0_v0_apply]; exact Ideal.ofBits_zero_f32
  show max _ _ = _
  rw [h0, hostDot_apply dot_S16384x1024_S1024x4096_S16384x4096_1_0_0_1_n_n rfl]
  simp only [rmsR_apply]
  rfl

/-- The feed-forward block, at an entry. -/
theorem mlpR_apply (x : FVec Ideal S16384x1024 .f32) (g : FVec Ideal S1024 .f32) (w1 : FVec Ideal S1024x4096 .f32) (w2 : FVec Ideal S4096x1024 .f32) (i : Fin 16384) (j : Fin 1024) :
    mlpR x g w1 w2 (ix2 i j) = mlp (fun k => x (ix2 i k)) (fun k => g (ix1 k)) (fun k l => w1 (ix2 k l)) (fun k l => w2 (ix2 k l)) j := by
  unfold mlpR
  rw [addf_apply, hostDot_apply dot_S16384x4096_S4096x1024_S16384x1024_1_0_0_1_n_n rfl]
  simp only [mulf_apply, upR_apply]
  rfl

variable {F : FTy → Type}

/-- The reference's result is the composition of these. -/
theorem v85_eq (x0 : FVec Ideal S8x2048x1024 .f32) (x1 x2 : FVec Ideal S8x2048x512 .bf16) (x3 : FVec Ideal S1x1024 .f32) (x4 : FVec Ideal S1x1024x5192 .f32)
    (x5 x6 : FVec Ideal S1x512x1024 .f32) (x7 : FVec Ideal S1x1024x1024 .f32) (x8 : FVec Ideal S1x1024 .f32) (x9 : FVec Ideal S1x1024x4096 .f32)
    (x10 : FVec Ideal S1x4096x1024 .f32) (x11 : FVec Ideal S1024 .f32) :
    val_main_v85 (F := Ideal) x0 x1 x2 x3 x4 x5 x6 x7 x8 x9 x10 x11 =
      rmsR (mlpR (residR (val_main_v0 (F := Ideal) x0) (mixR (rmsR (val_main_v0 (F := Ideal) x0) (val_main_v5 (F := Ideal) x3)) (val_main_v19 (F := Ideal) x4)
        (val_main_v2 (F := Ideal) x1) (val_main_v4 (F := Ideal) x2) (val_main_v30 (F := Ideal) x5) (val_main_v32 (F := Ideal) x6)) (val_main_v49 (F := Ideal) x7))
        (val_main_v52 (F := Ideal) x8) (val_main_v66 (F := Ideal) x9) (val_main_v70 (F := Ideal) x10)) x11 := rfl

/-- The reference's result, at an index. -/
theorem v85_apply (x0 : FVec Ideal S8x2048x1024 .f32) (x1 x2 : FVec Ideal S8x2048x512 .bf16) (x3 : FVec Ideal S1x1024 .f32) (x4 : FVec Ideal S1x1024x5192 .f32)
    (x5 x6 : FVec Ideal S1x512x1024 .f32) (x7 : FVec Ideal S1x1024x1024 .f32) (x8 : FVec Ideal S1x1024 .f32) (x9 : FVec Ideal S1x1024x4096 .f32)
    (x10 : FVec Ideal S1x4096x1024 .f32) (x11 : FVec Ideal S1024 .f32) (i : Fin 16384) (j : Fin 1024) :
    val_main_v85 (F := Ideal) x0 x1 x2 x3 x4 x5 x6 x7 x8 x9 x10 x11 (ix2 i j) =
      tailAll (fun r k => val_main_v0 (F := Ideal) x0 (ix2 r k)) (fun r k => val_main_v2 (F := Ideal) x1 (ix2 r k)) (fun r k => val_main_v4 (F := Ideal) x2 (ix2 r k))
        (fun k => val_main_v5 (F := Ideal) x3 (ix1 k)) (fun k l => val_main_v19 (F := Ideal) x4 (ix2 k l)) (fun k l => val_main_v30 (F := Ideal) x5 (ix2 k l))
        (fun k l => val_main_v32 (F := Ideal) x6 (ix2 k l)) (fun k l => val_main_v49 (F := Ideal) x7 (ix2 k l)) (fun k => val_main_v52 (F := Ideal) x8 (ix1 k))
        (fun k l => val_main_v66 (F := Ideal) x9 (ix2 k l)) (fun k l => val_main_v70 (F := Ideal) x10 (ix2 k l)) (fun k => x11 (ix1 k)) i j := by
  rw [v85_eq, rmsR_apply]
  simp only [mlpR_apply, residR_apply, mixR_apply, rmsR_apply]
  rfl

end Cert.TailRefIdeal.Hand

end
-- ==== Proof.TailKernel.lean ====
/- The tail call's stored block, element by element: row `i` of the block is `Rows.tail` of row `i` of its operands. -/
module

public import proofs.«01_k».proof.Proof.Rows
public import proofs.«01_k».proof.Proof.Gen.TailIdeal.Value
public import Idealize.ShloMosaic.Lib.Pointwise.Tactic
public import Idealize.ShloMosaic.Lib.ValueIdx

@[expose] public section

noncomputable section

namespace Cert.TailIdeal.Hand

open Cert.TailIdeal Cert.TailIdeal.Gen Idealize.ShloMosaic Cert.Rows

/-- The block's root-mean-square normalisation as vector operations. -/
def rmsV (x : FVec Ideal S256x1024 .f32) (g : FVec Ideal S1x1024 .f32) : FVec Ideal S256x1024 .f32 :=
  mulf (mulf x (broadcastTo S256x1024 (rsqrt (addf (divf (shapeCast S256x1 (multiReduction .add [1] S256 (mulf x x) 0x00000000#32
    reduces_S256x1024_S256 (.inl rfl) rfl) shapeCasts_S256_S256x1) (broadcast S256x1 (Scalar.ofBits .f32 0x44800000#32)))
    (broadcast S256x1 (Scalar.ofBits .f32 0x358637BD#32)))) broadcasts_S256x1_S256x1024))
    (broadcastTo S256x1024 g broadcasts_S1x1024_S256x1024)

/-- It is `Rows.rms` of each row. -/
theorem rmsV_apply (x : FVec Ideal S256x1024 .f32) (g : FVec Ideal S1x1024 .f32) (i : Fin 256) (j : Fin 1024) :
    rmsV x g (ix2 i j) = rms (fun k => x (ix2 i k)) (fun k => g (ix2 0 k)) j := by
  have e : shapeCast S256x1 (multiReduction .add [1] S256 (mulf x x) 0x00000000#32 reduces_S256x1024_S256 (.inl rfl) rfl)
      shapeCasts_S256_S256x1 (ix2 i 0) = ∑ k : Fin 1024, x (ix2 i k) * x (ix2 i k) := by
    rw [shapeCast_apply _ _ _ (ix1 i : S256.Idx) (by rfl)]
    refine (Ideal.multiReduction_add_single _ _ _ _ _ _).trans ?_
    refine Finset.sum_congr rfl fun k _ => ?_
    have h : (reduces_S256x1024_S256.lift (ix1 i : S256.Idx) k : S256x1024.Idx) = ix2 i k := funext fun a => Fin.ext (by
      match a with | ⟨0, _⟩ => rfl | ⟨1, _⟩ => rfl)
    rw [h]
    rfl
  unfold rmsV rms
  pointwise [e]

/-- The gated sum of the two projections, from the normalised block, as vector operations. -/
def mixV (h : FVec Ideal S256x1024 .f32) (wg : FVec Ideal S1024x2048 .bf16) (a : FVec Ideal S256x512 .bf16) (wa : FVec Ideal S512x1024 .bf16)
    (r : FVec Ideal S256x512 .bf16) (wr : FVec Ideal S512x1024 .bf16) : FVec Ideal S256x1024 .f32 :=
  addf (mulf (extractStridedSlice S256x1024 ![0, 0] (logistic (matmul dot_S256x1024_S1024x2048_S256x2048_1_0_0_1_n_n none
      (truncf .bf16 h bitsLt_bf16_f32) (shapeCast S1024x2048 wg shapeCasts_S1024x2048_S1024x2048)
      (constant S256x2048 .f32 0x00000000#32))) slices_S256x2048_o0_0_S256x1024)
    (matmul dot_S256x512_S512x1024_S256x1024_1_0_0_1_n_n none (shapeCast S256x512 a shapeCasts_S256x512_S256x512)
      (shapeCast S512x1024 wa shapeCasts_S512x1024_S512x1024) (constant S256x1024 .f32 0x00000000#32)))
   (mulf (extractStridedSlice S256x1024 ![0, 1024] (logistic (matmul dot_S256x1024_S1024x2048_S256x2048_1_0_0_1_n_n none
      (truncf .bf16 h bitsLt_bf16_f32) (shapeCast S1024x2048 wg shapeCasts_S1024x2048_S1024x2048)
      (constant S256x2048 .f32 0x00000000#32))) slices_S256x2048_o0_1024_S256x1024)
    (matmul dot_S256x512_S512x1024_S256x1024_1_0_0_1_n_n none (shapeCast S256x512 r shapeCasts_S256x512_S256x512)
      (shapeCast S512x1024 wr shapeCasts_S512x1024_S512x1024) (constant S256x1024 .f32 0x00000000#32)))

/-- It is `Rows.mix` of each row, the gate weights the two halves of the wide matrix. -/
theorem mixV_apply (h : FVec Ideal S256x1024 .f32) (wg : FVec Ideal S1024x2048 .bf16) (a : FVec Ideal S256x512 .bf16) (wa : FVec Ideal S512x1024 .bf16)
    (r : FVec Ideal S256x512 .bf16) (wr : FVec Ideal S512x1024 .bf16) (i : Fin 256) (j : Fin 1024) :
    mixV h wg a wa r wr (ix2 i j) = mix (fun k => h (ix2 i k)) (fun k l => wg (ix2 k ⟨l.val, by omega⟩))
      (fun k l => wg (ix2 k ⟨1024 + l.val, by omega⟩)) (fun k => a (ix2 i k)) (fun k => r (ix2 i k))
      (fun k l => wa (ix2 k l)) (fun k l => wr (ix2 k l)) j := by
  have e1 := mm_apply dot_S256x1024_S1024x2048_S256x2048_1_0_0_1_n_n rfl
  have e2 := mm_apply dot_S256x512_S512x1024_S256x1024_1_0_0_1_n_n rfl
  unfold mixV mix dot
  pointwise [e1, e2, shapeCast_self]

/-- The block after the output projection, as vector operations. -/
def residV (x mx : FVec Ideal S256x1024 .f32) (wo : FVec Ideal S1024x1024 .bf16) : FVec Ideal S256x1024 .f32 :=
  addf x (matmul dot_S256x1024_S1024x1024_S256x1024_1_0_0_1_n_n none (truncf .bf16 mx bitsLt_bf16_f32)
    (shapeCast S1024x1024 wo shapeCasts_S1024x1024_S1024x1024) (constant S256x1024 .f32 0x00000000#32))

/-- It is `Rows.resid` of each row. -/
theorem residV_apply (x mx : FVec Ideal S256x1024 .f32) (wo : FVec Ideal S1024x1024 .bf16) (i : Fin 256) (j : Fin 1024) :
    residV x mx wo (ix2 i j) = resid (fun k => x (ix2 i k)) (fun k => mx (ix2 i k)) (fun k l => wo (ix2 k l)) j := by
  have e1 := mm_apply dot_S256x1024_S1024x1024_S256x1024_1_0_0_1_n_n rfl
  unfold residV resid dot
  pointwise [e1, shapeCast_self]

/-- The feed-forward block with its residual, as vector operations. -/
def mlpV (x : FVec Ideal S256x1024 .f32) (g : FVec Ideal S1x1024 .f32) (w1 : FVec Ideal S1024x4096 .bf16) (w2 : FVec Ideal S4096x1024 .bf16) :
    FVec Ideal S256x1024 .f32 :=
  have u : FVec Ideal S256x4096 .f32 := maximumf (matmul dot_S256x1024_S1024x4096_S256x4096_1_0_0_1_n_n none (truncf .bf16 (rmsV x g) bitsLt_bf16_f32)
    (shapeCast S1024x4096 w1 shapeCasts_S1024x4096_S1024x4096) (constant S256x4096 .f32 0x00000000#32))
    (broadcast S256x4096 (Scalar.ofBits .f32 0x00000000#32))
  addf x (matmul dot_S256x4096_S4096x1024_S256x1024_1_0_0_1_n_n none (truncf .bf16 (mulf u u) bitsLt_bf16_f32)
    (shapeCast S4096x1024 w2 shapeCasts_S4096x1024_S4096x1024) (constant S256x1024 .f32 0x00000000#32))

/-- It is `Rows.mlp` of each row. -/
theorem mlpV_apply (x : FVec Ideal S256x1024 .f32) (g : FVec Ideal S1x1024 .f32) (w1 : FVec Ideal S1024x4096 .bf16) (w2 : FVec Ideal S4096x1024 .bf16)
    (i : Fin 256) (j : Fin 1024) :
    mlpV x g w1 w2 (ix2 i j) = mlp (fun k => x (ix2 i k)) (fun k => g (ix2 0 k)) (fun k l => w1 (ix2 k l)) (fun k l => w2 (ix2 k l)) j := by
  have e1 := mm_apply dot_S256x1024_S1024x4096_S256x4096_1_0_0_1_n_n rfl
  have e2 := mm_apply dot_S256x4096_S4096x1024_S256x1024_1_0_0_1_n_n rfl
  unfold mlpV mlp Rows.hidden dot
  pointwise [e1, e2, shapeCast_self, rmsV_apply]

/-- The stored block is the composition of these. -/
theorem payload_eq (v0 : Vec Ideal S256x1024 .f32) (v2 : Vec Ideal S1x1024 .f32) (v17 : Vec Ideal S1024x2048 .bf16) (v21 : Vec Ideal S256x512 .bf16)
    (v23 : Vec Ideal S512x1024 .bf16) (v26 : Vec Ideal S256x512 .bf16) (v28 : Vec Ideal S512x1024 .bf16) (v37 : Vec Ideal S1024x1024 .bf16)
    (v41 : Vec Ideal S1x1024 .f32) (v56 : Vec Ideal S1024x4096 .bf16) (v63 : Vec Ideal S4096x1024 .bf16) (v67 : Vec Ideal S1x1024 .f32) :
    k0_pay1 (k0_pay4 v67) (k0_pay5 (k0_pay2 v0) (k0_pay3 v0 v2 v17 v21 v23 v26 v28) v37 v41 v56 v63)
      = rmsV (mlpV (residV v0 (mixV (rmsV v0 v2) v17 v21 v23 v26 v28) v37) v41 v56 v63) v67 := by
  have h : k0_pay1 (k0_pay4 v67) (k0_pay5 (k0_pay2 v0) (k0_pay3 v0 v2 v17 v21 v23 v26 v28) v37 v41 v56 v63)
      = rmsV (mlpV (residV (k0_pay2 v0) (mixV (rmsV (k0_pay2 v0) (k0_pay4 v2)) v17 v21 v23 v26 v28) v37) (k0_pay4 v41) v56 v63) (k0_pay4 v67) := rfl
  rw [h]
  simp only [k0_pay2, k0_pay4, shapeCast_self]

/-- What a grid point leaves in its block: each row is `Rows.tail` of the operands' rows. -/
theorem out_apply (x0 : Vec Ideal S256x1024 .f32) (x1 x2 : Vec Ideal S256x512 .bf16) (x3 : Vec Ideal S1x1024 .f32)
    (x4 : Vec Ideal S1024x2048 .bf16) (x5 x6 : Vec Ideal S512x1024 .bf16) (x7 : Vec Ideal S1024x1024 .bf16) (x8 : Vec Ideal S1x1024 .f32)
    (x9 : Vec Ideal S1024x4096 .bf16) (x10 : Vec Ideal S4096x1024 .bf16) (x11 : Vec Ideal S1x1024 .f32) (i : Fin 256) (j : Fin 1024) :
    out0_12 (F := Ideal) x0 x1 x2 x3 x4 x5 x6 x7 x8 x9 x10 x11 (ix2 i j)
      = tail (fun k => x0 (ix2 i k)) (fun k => x1 (ix2 i k)) (fun k => x2 (ix2 i k)) (fun k => x3 (ix2 0 k))
          (fun k l => x4 (ix2 k ⟨l.val, by omega⟩)) (fun k l => x4 (ix2 k ⟨1024 + l.val, by omega⟩))
          (fun k l => x5 (ix2 k l)) (fun k l => x6 (ix2 k l)) (fun k l => x7 (ix2 k l)) (fun k => x8 (ix2 0 k))
          (fun k l => x9 (ix2 k l)) (fun k l => x10 (ix2 k l)) (fun k => x11 (ix2 0 k)) j := by
  have hz0 : (![0, 0] : Fin S256x1024.rank → Nat) = fun _ => 0 := funext fun a => by fin_cases a <;> rfl
  unfold out0_12
  rw [View.canon_unit_zero hz0]
  simp only [r0_0, r0_1, r0_2, r0_3, r0_4, r0_5, r0_6, r0_7, View.ld_unit_zero (S := S256x1024) hz0, View.ld_unit_zero (S := S1x1024) hz0, View.ld_unit_zero (S := S1024x2048) hz0,
    View.ld_unit_zero (S := S256x512) hz0, View.ld_unit_zero (S := S512x1024) hz0, View.ld_unit_zero (S := S1024x1024) hz0,
    View.ld_unit_zero (S := S1024x4096) hz0, View.ld_unit_zero (S := S4096x1024) hz0]
  rw [payload_eq]
  unfold tail
  rw [rmsV_apply]
  simp only [mlpV_apply, residV_apply, mixV_apply, rmsV_apply]

end Cert.TailIdeal.Hand

end
-- ==== Proof.TailRun.lean ====
/- The tail call's run: its result array, row by row. -/
module

public import proofs.«01_k».proof.Proof.TailKernel
public import Idealize.ShloMosaic.Lib.Pipeline.ValueKit.Geometry

@[expose] public section

noncomputable section

namespace Cert.TailIdeal.Hand

open Cert.TailIdeal Cert.TailIdeal.Gen Idealize.ShloMosaic Idealize.ShloMosaic.TcCoe Idealize.SL.Sem Cert.Rows
open Idealize.ShloMosaic.Pipeline (Dat)

variable (m : (ℓ : Loc nD τ sig) → Buf (Elt Ideal) ℓ) (ρ : Dev nD → PrngReg)

/-- The input rows the region reads: the reshaped argument. -/
theorem V_x (c : Dev nD) : V m c main_v0 = shapeCast S16384x1024 (m ((c : Thread nD τ).loc main_arg0)) shapeCasts_S8x2048x1024_S16384x1024 := by
  simp only [V, hostOps0]; after_results_simp <;> rfl

/-- The attention rows. -/
theorem V_att (c : Dev nD) : V m c main_v17 = shapeCast S16384x512 (m ((c : Thread nD τ).loc main_arg1)) shapeCasts_S8x2048x512_S16384x512 := by
  simp only [V, hostOps0]; after_results_simp <;> rfl

/-- The recurrence's rows. -/
theorem V_rw (c : Dev nD) : V m c main_v18 = shapeCast S16384x512 (m ((c : Thread nD τ).loc main_arg2)) shapeCasts_S8x2048x512_S16384x512 := by
  simp only [V, hostOps0]; after_results_simp <;> rfl

/-- The first gain. -/
theorem V_g1 (c : Dev nD) : V m c main_v20 = (m ((c : Thread nD τ).loc main_arg3)) := by
  have h : V m c main_v20 = shapeCast S1x1024 (shapeCast S1024 (m ((c : Thread nD τ).loc main_arg3)) shapeCasts_S1x1024_S1024) shapeCasts_S1024_S1x1024 := by
    simp only [V, hostOps0]; after_results_simp <;> rfl
  rw [h, shapeCast_shapeCast]

/-- The second gain. -/
theorem V_g2 (c : Dev nD) : V m c main_v28 = (m ((c : Thread nD τ).loc main_arg8)) := by
  have h : V m c main_v28 = shapeCast S1x1024 (shapeCast S1024 (m ((c : Thread nD τ).loc main_arg8)) shapeCasts_S1x1024_S1024) shapeCasts_S1024_S1x1024 := by
    simp only [V, hostOps0]; after_results_simp <;> rfl
  rw [h, shapeCast_shapeCast]

/-- The last gain. -/
theorem V_gf (c : Dev nD) : V m c main_v33 = shapeCast S1x1024 (m ((c : Thread nD τ).loc main_arg11)) shapeCasts_S1024_S1x1024 := by
  simp only [V, hostOps0]; after_results_simp <;> rfl

/-- The gate weights: two groups of columns of the input projection, side by side. -/
theorem V_wg (c : Dev nD) : V m c main_v16 = truncf .bf16 (concatenate S1024x2048 1
    [⟨S1024x1024, extractStridedSlice S1024x1024 ![0, 3144] (shapeCast S1024x5192 (m ((c : Thread nD τ).loc main_arg4)) shapeCasts_S1x1024x5192_S1024x5192 : FVec Ideal S1024x5192 .f32) slices_S1024x5192_S1024x1024_0_3144⟩,
     ⟨S1024x1024, extractStridedSlice S1024x1024 ![0, 4168] (shapeCast S1024x5192 (m ((c : Thread nD τ).loc main_arg4)) shapeCasts_S1x1024x5192_S1024x5192 : FVec Ideal S1024x5192 .f32) slices_S1024x5192_S1024x1024_0_4168⟩]
    concatenates_S1024x1024_S1024x1024_S1024x2048_d1) bitsLt_bf16_f32 := by
  simp only [V, hostOps0]; after_results_simp <;> rfl

/-- The attention projection. -/
theorem V_wa (c : Dev nD) : V m c main_v22 = (truncf .bf16 (shapeCast S512x1024 (m ((c : Thread nD τ).loc main_arg5)) shapeCasts_S1x512x1024_S512x1024 : FVec Ideal S512x1024 .f32) bitsLt_bf16_f32) := by
  simp only [V, hostOps0]; after_results_simp <;> rfl

/-- The recurrence's projection. -/
theorem V_wr (c : Dev nD) : V m c main_v24 = (truncf .bf16 (shapeCast S512x1024 (m ((c : Thread nD τ).loc main_arg6)) shapeCasts_S1x512x1024_S512x1024 : FVec Ideal S512x1024 .f32) bitsLt_bf16_f32) := by
  simp only [V, hostOps0]; after_results_simp <;> rfl

/-- The output projection. -/
theorem V_wo (c : Dev nD) : V m c main_v26 = (truncf .bf16 (shapeCast S1024x1024 (m ((c : Thread nD τ).loc main_arg7)) shapeCasts_S1x1024x1024_S1024x1024 : FVec Ideal S1024x1024 .f32) bitsLt_bf16_f32) := by
  simp only [V, hostOps0]; after_results_simp <;> rfl

/-- The first feed-forward matrix. -/
theorem V_w1 (c : Dev nD) : V m c main_v30 = (truncf .bf16 (shapeCast S1024x4096 (m ((c : Thread nD τ).loc main_arg9)) shapeCasts_S1x1024x4096_S1024x4096 : FVec Ideal S1024x4096 .f32) bitsLt_bf16_f32) := by
  simp only [V, hostOps0]; after_results_simp <;> rfl

/-- The second feed-forward matrix. -/
theorem V_w2 (c : Dev nD) : V m c main_v32 = (truncf .bf16 (shapeCast S4096x1024 (m ((c : Thread nD τ).loc main_arg10)) shapeCasts_S1x4096x1024_S4096x1024 : FVec Ideal S4096x1024 .f32) bitsLt_bf16_f32) := by
  simp only [V, hostOps0]; after_results_simp <;> rfl

/-- Where each window stands at point `t`: the three row windows and the result at block row `t`, the others at the origin. -/
theorem idx_facts : ∀ t : Fin cfg0.N,
    (win0_0.index t 0 = t.val ∧ win0_0.index t 1 = 0) ∧ (win0_1.index t 0 = t.val ∧ win0_1.index t 1 = 0)
    ∧ (win0_2.index t 0 = t.val ∧ win0_2.index t 1 = 0) ∧ (win0_12.index t 0 = t.val ∧ win0_12.index t 1 = 0)
    ∧ (win0_3.index t 0 = 0 ∧ win0_3.index t 1 = 0) ∧ (win0_4.index t 0 = 0 ∧ win0_4.index t 1 = 0)
    ∧ (win0_5.index t 0 = 0 ∧ win0_5.index t 1 = 0) ∧ (win0_6.index t 0 = 0 ∧ win0_6.index t 1 = 0)
    ∧ (win0_7.index t 0 = 0 ∧ win0_7.index t 1 = 0) ∧ (win0_8.index t 0 = 0 ∧ win0_8.index t 1 = 0)
    ∧ (win0_9.index t 0 = 0 ∧ win0_9.index t 1 = 0) ∧ (win0_10.index t 0 = 0 ∧ win0_10.index t 1 = 0)
    ∧ (win0_11.index t 0 = 0 ∧ win0_11.index t 1 = 0) :=
  (by decide +kernel : ∀ t : Fin grid0.N,
    (win0_0.index t 0 = t.val ∧ win0_0.index t 1 = 0) ∧ (win0_1.index t 0 = t.val ∧ win0_1.index t 1 = 0)
    ∧ (win0_2.index t 0 = t.val ∧ win0_2.index t 1 = 0) ∧ (win0_12.index t 0 = t.val ∧ win0_12.index t 1 = 0)
    ∧ (win0_3.index t 0 = 0 ∧ win0_3.index t 1 = 0) ∧ (win0_4.index t 0 = 0 ∧ win0_4.index t 1 = 0)
    ∧ (win0_5.index t 0 = 0 ∧ win0_5.index t 1 = 0) ∧ (win0_6.index t 0 = 0 ∧ win0_6.index t 1 = 0)
    ∧ (win0_7.index t 0 = 0 ∧ win0_7.index t 1 = 0) ∧ (win0_8.index t 0 = 0 ∧ win0_8.index t 1 = 0)
    ∧ (win0_9.index t 0 = 0 ∧ win0_9.index t 1 = 0) ∧ (win0_10.index t 0 = 0 ∧ win0_10.index t 1 = 0)
    ∧ (win0_11.index t 0 = 0 ∧ win0_11.index t 1 = 0))

/-- Row `a` of block `t` is row `256 t + a` of the array. -/
def row (t : Fin cfg0.N) (a : Fin 256) : Fin 16384 := ⟨256 * t.val + a.val, by have : t.val < 64 := t.isLt; omega⟩

/-- The input window's block. -/
theorem blk_x (c : Dev nD) (t : Fin cfg0.N) (a : Fin 256) (b : Fin 1024) :
    (iblk m c 0 t : S256x1024.Idx → EReal) (ix2 a b) = (V m c main_v0 : S16384x1024.Idx → EReal) (ix2 (row t a) b) := by
  obtain ⟨h0, h1⟩ := (idx_facts t).1
  unfold iblk
  rw [View.read_apply]
  refine congrArg (V m c main_v0) (funext fun d => Fin.ext ?_)
  match d with
  | ⟨0, _⟩ => show win0_0.index t 0 * 256 + 1 * a.val = 256 * t.val + a.val; rw [h0]; omega
  | ⟨1, _⟩ => show win0_0.index t 1 * 1024 + 1 * b.val = b.val; rw [h1]; omega

/-- The attention window's block. -/
theorem blk_att (c : Dev nD) (t : Fin cfg0.N) (a : Fin 256) (b : Fin 512) :
    (iblk m c 1 t : S256x512.Idx → EReal) (ix2 a b) = (V m c main_v17 : S16384x512.Idx → EReal) (ix2 (row t a) b) := by
  obtain ⟨h0, h1⟩ := (idx_facts t).2.1
  unfold iblk
  rw [View.read_apply]
  refine congrArg (V m c main_v17) (funext fun d => Fin.ext ?_)
  match d with
  | ⟨0, _⟩ => show win0_1.index t 0 * 256 + 1 * a.val = 256 * t.val + a.val; rw [h0]; omega
  | ⟨1, _⟩ => show win0_1.index t 1 * 512 + 1 * b.val = b.val; rw [h1]; omega

/-- The recurrence window's block. -/
theorem blk_rw (c : Dev nD) (t : Fin cfg0.N) (a : Fin 256) (b : Fin 512) :
    (iblk m c 2 t : S256x512.Idx → EReal) (ix2 a b) = (V m c main_v18 : S16384x512.Idx → EReal) (ix2 (row t a) b) := by
  obtain ⟨h0, h1⟩ := (idx_facts t).2.2.1
  unfold iblk
  rw [View.read_apply]
  refine congrArg (V m c main_v18) (funext fun d => Fin.ext ?_)
  match d with
  | ⟨0, _⟩ => show win0_2.index t 0 * 256 + 1 * a.val = 256 * t.val + a.val; rw [h0]; omega
  | ⟨1, _⟩ => show win0_2.index t 1 * 512 + 1 * b.val = b.val; rw [h1]; omega

/-- The window of `g1` is the whole array. -/
theorem blk_g1 (c : Dev nD) (t : Fin cfg0.N) (a : Fin 1) (b : Fin 1024) :
    (iblk m c 3 t : S1x1024.Idx → EReal) (ix2 a b) = (V m c main_v20 : S1x1024.Idx → EReal) (ix2 a b) := by
  obtain ⟨h0, h1⟩ := (idx_facts t).2.2.2.2.1
  unfold iblk
  rw [View.read_apply]
  refine congrArg (V m c main_v20) (funext fun d => Fin.ext ?_)
  match d with
  | ⟨0, _⟩ => show win0_3.index t 0 * 1 + 1 * a.val = a.val; rw [h0]; omega
  | ⟨1, _⟩ => show win0_3.index t 1 * 1024 + 1 * b.val = b.val; rw [h1]; omega

/-- The window of `wg` is the whole array. -/
theorem blk_wg (c : Dev nD) (t : Fin cfg0.N) (a : Fin 1024) (b : Fin 2048) :
    (iblk m c 4 t : S1024x2048.Idx → EReal) (ix2 a b) = (V m c main_v16 : S1024x2048.Idx → EReal) (ix2 a b) := by
  obtain ⟨h0, h1⟩ := (idx_facts t).2.2.2.2.2.1
  unfold iblk
  rw [View.read_apply]
  refine congrArg (V m c main_v16) (funext fun d => Fin.ext ?_)
  match d with
  | ⟨0, _⟩ => show win0_4.index t 0 * 1024 + 1 * a.val = a.val; rw [h0]; omega
  | ⟨1, _⟩ => show win0_4.index t 1 * 2048 + 1 * b.val = b.val; rw [h1]; omega

/-- The window of `wa` is the whole array. -/
theorem blk_wa (c : Dev nD) (t : Fin cfg0.N) (a : Fin 512) (b : Fin 1024) :
    (iblk m c 5 t : S512x1024.Idx → EReal) (ix2 a b) = (V m c main_v22 : S512x1024.Idx → EReal) (ix2 a b) := by
  obtain ⟨h0, h1⟩ := (idx_facts t).2.2.2.2.2.2.1
  unfold iblk
  rw [View.read_apply]
  refine congrArg (V m c main_v22) (funext fun d => Fin.ext ?_)
  match d with
  | ⟨0, _⟩ => show win0_5.index t 0 * 512 + 1 * a.val = a.val; rw [h0]; omega
  | ⟨1, _⟩ => show win0_5.index t 1 * 1024 + 1 * b.val = b.val; rw [h1]; omega

/-- The window of `wr` is the whole array. -/
theorem blk_wr (c : Dev nD) (t : Fin cfg0.N) (a : Fin 512) (b : Fin 1024) :
    (iblk m c 6 t : S512x1024.Idx → EReal) (ix2 a b) = (V m c main_v24 : S512x1024.Idx → EReal) (ix2 a b) := by
  obtain ⟨h0, h1⟩ := (idx_facts t).2.2.2.2.2.2.2.1
  unfold iblk
  rw [View.read_apply]
  refine congrArg (V m c main_v24) (funext fun d => Fin.ext ?_)
  match d with
  | ⟨0, _⟩ => show win0_6.index t 0 * 512 + 1 * a.val = a.val; rw [h0]; omega
  | ⟨1, _⟩ => show win0_6.index t 1 * 1024 + 1 * b.val = b.val; rw [h1]; omega

/-- The window of `wo` is the whole array. -/
theorem blk_wo (c : Dev nD) (t : Fin cfg0.N) (a : Fin 1024) (b : Fin 1024) :
    (iblk m c 7 t : S1024x1024.Idx → EReal) (ix2 a b) = (V m c main_v26 : S1024x1024.Idx → EReal) (ix2 a b) := by
  obtain ⟨h0, h1⟩ := (idx_facts t).2.2.2.2.2.2.2.2.1
  unfold iblk
  rw [View.read_apply]
  refine congrArg (V m c main_v26) (funext fun d => Fin.ext ?_)
  match d with
  | ⟨0, _⟩ => show win0_7.index t 0 * 1024 + 1 * a.val = a.val; rw [h0]; omega
  | ⟨1, _⟩ => show win0_7.index t 1 * 1024 + 1 * b.val = b.val; rw [h1]; omega

/-- The window of `g2` is the whole array. -/
theorem blk_g2 (c : Dev nD) (t : Fin cfg0.N) (a : Fin 1) (b : Fin 1024) :
    (iblk m c 8 t : S1x1024.Idx → EReal) (ix2 a b) = (V m c main_v28 : S1x1024.Idx → EReal) (ix2 a b) := by
  obtain ⟨h0, h1⟩ := (idx_facts t).2.2.2.2.2.2.2.2.2.1
  unfold iblk
  rw [View.read_apply]
  refine congrArg (V m c main_v28) (funext fun d => Fin.ext ?_)
  match d with
  | ⟨0, _⟩ => show win0_8.index t 0 * 1 + 1 * a.val = a.val; rw [h0]; omega
  | ⟨1, _⟩ => show win0_8.index t 1 * 1024 + 1 * b.val = b.val; rw [h1]; omega

/-- The window of `w1` is the whole array. -/
theorem blk_w1 (c : Dev nD) (t : Fin cfg0.N) (a : Fin 1024) (b : Fin 4096) :
    (iblk m c 9 t : S1024x4096.Idx → EReal) (ix2 a b) = (V m c main_v30 : S1024x4096.Idx → EReal) (ix2 a b) := by
  obtain ⟨h0, h1⟩ := (idx_facts t).2.2.2.2.2.2.2.2.2.2.1
  unfold iblk
  rw [View.read_apply]
  refine congrArg (V m c main_v30) (funext fun d => Fin.ext ?_)
  match d with
  | ⟨0, _⟩ => show win0_9.index t 0 * 1024 + 1 * a.val = a.val; rw [h0]; omega
  | ⟨1, _⟩ => show win0_9.index t 1 * 4096 + 1 * b.val = b.val; rw [h1]; omega

/-- The window of `w2` is the whole array. -/
theorem blk_w2 (c : Dev nD) (t : Fin cfg0.N) (a : Fin 4096) (b : Fin 1024) :
    (iblk m c 10 t : S4096x1024.Idx → EReal) (ix2 a b) = (V m c main_v32 : S4096x1024.Idx → EReal) (ix2 a b) := by
  obtain ⟨h0, h1⟩ := (idx_facts t).2.2.2.2.2.2.2.2.2.2.2.1
  unfold iblk
  rw [View.read_apply]
  refine congrArg (V m c main_v32) (funext fun d => Fin.ext ?_)
  match d with
  | ⟨0, _⟩ => show win0_10.index t 0 * 4096 + 1 * a.val = a.val; rw [h0]; omega
  | ⟨1, _⟩ => show win0_10.index t 1 * 1024 + 1 * b.val = b.val; rw [h1]; omega

/-- The window of `gf` is the whole array. -/
theorem blk_gf (c : Dev nD) (t : Fin cfg0.N) (a : Fin 1) (b : Fin 1024) :
    (iblk m c 11 t : S1x1024.Idx → EReal) (ix2 a b) = (V m c main_v33 : S1x1024.Idx → EReal) (ix2 a b) := by
  obtain ⟨h0, h1⟩ := (idx_facts t).2.2.2.2.2.2.2.2.2.2.2.2
  unfold iblk
  rw [View.read_apply]
  refine congrArg (V m c main_v33) (funext fun d => Fin.ext ?_)
  match d with
  | ⟨0, _⟩ => show win0_11.index t 0 * 1 + 1 * a.val = a.val; rw [h0]; omega
  | ⟨1, _⟩ => show win0_11.index t 1 * 1024 + 1 * b.val = b.val; rw [h1]; omega

/-- The gate array's first half is the group of columns from 3144 on, its second half the group from 4168 on. -/
theorem wg_left (c : Dev nD) (k l : Fin 1024) : (V m c main_v16 : S1024x2048.Idx → EReal) (ix2 k ⟨l.val, by omega⟩)
    = shapeCast S1024x5192 (m ((c : Thread nD τ).loc main_arg4)) shapeCasts_S1x1024x5192_S1024x5192 (ix2 k ⟨3144 + l.val, by omega⟩) := by
  rw [V_wg]
  refine (concatenate_pair_apply_left (t := S1024x2048) (s₁ := S1024x1024) (s₂ := S1024x1024) 1 _ _
    concatenates_S1024x1024_S1024x1024_S1024x2048_d1 _ rfl (ix2 k l) (by
    intro a; match a with | ⟨0, _⟩ => rfl | ⟨1, _⟩ => rfl)).trans ?_
  rw [extractStridedSlice_apply _ _ _ _ (ix2 k ⟨3144 + l.val, by omega⟩ : S1024x5192.Idx) (fun a => by
    match a with | ⟨0, _⟩ => exact (Nat.zero_add _).symm | ⟨1, _⟩ => rfl)]

/-- The second half of it. -/
theorem wg_right (c : Dev nD) (k l : Fin 1024) : (V m c main_v16 : S1024x2048.Idx → EReal) (ix2 k ⟨1024 + l.val, by omega⟩)
    = shapeCast S1024x5192 (m ((c : Thread nD τ).loc main_arg4)) shapeCasts_S1x1024x5192_S1024x5192 (ix2 k ⟨4168 + l.val, by omega⟩) := by
  rw [V_wg]
  refine (concatenate_pair_apply_right (t := S1024x2048) (s₁ := S1024x1024) (s₂ := S1024x1024) 1 _ _
    concatenates_S1024x1024_S1024x1024_S1024x2048_d1 _ rfl rfl (ix2 k l) (by
    intro a ha; match a with | ⟨0, _⟩ => rfl | ⟨1, _⟩ => exact absurd rfl ha) (Nat.add_comm _ _)).trans ?_
  rw [extractStridedSlice_apply _ _ _ _ (ix2 k ⟨4168 + l.val, by omega⟩ : S1024x5192.Idx) (fun a => by
    match a with | ⟨0, _⟩ => exact (Nat.zero_add _).symm | ⟨1, _⟩ => rfl)]

/-- The result array: `Rows.tailAll` of the arguments. -/
def result (c : Dev nD) : S16384x1024.Idx → EReal := fun i => tailAll
  (fun r k => shapeCast S16384x1024 (m ((c : Thread nD τ).loc main_arg0)) shapeCasts_S8x2048x1024_S16384x1024 (ix2 r k))
  (fun r k => shapeCast S16384x512 (m ((c : Thread nD τ).loc main_arg1)) shapeCasts_S8x2048x512_S16384x512 (ix2 r k))
  (fun r k => shapeCast S16384x512 (m ((c : Thread nD τ).loc main_arg2)) shapeCasts_S8x2048x512_S16384x512 (ix2 r k))
  (fun k => (m ((c : Thread nD τ).loc main_arg3) : S1x1024.Idx → EReal) (ix2 0 k))
  (fun k l => shapeCast S1024x5192 (m ((c : Thread nD τ).loc main_arg4)) shapeCasts_S1x1024x5192_S1024x5192 (ix2 k l))
  (fun k l => shapeCast S512x1024 (m ((c : Thread nD τ).loc main_arg5)) shapeCasts_S1x512x1024_S512x1024 (ix2 k l))
  (fun k l => shapeCast S512x1024 (m ((c : Thread nD τ).loc main_arg6)) shapeCasts_S1x512x1024_S512x1024 (ix2 k l))
  (fun k l => shapeCast S1024x1024 (m ((c : Thread nD τ).loc main_arg7)) shapeCasts_S1x1024x1024_S1024x1024 (ix2 k l))
  (fun k => (m ((c : Thread nD τ).loc main_arg8) : S1x1024.Idx → EReal) (ix2 0 k))
  (fun k l => shapeCast S1024x4096 (m ((c : Thread nD τ).loc main_arg9)) shapeCasts_S1x1024x4096_S1024x4096 (ix2 k l))
  (fun k l => shapeCast S4096x1024 (m ((c : Thread nD τ).loc main_arg10)) shapeCasts_S1x4096x1024_S4096x1024 (ix2 k l))
  (fun k => (m ((c : Thread nD τ).loc main_arg11) : S1024.Idx → EReal) (ix1 k)) (i 0) (i 1)

/-- The last gain's row is the argument vector. -/
theorem gf_apply (c : Dev nD) (k : Fin 1024) : (V m c main_v33 : S1x1024.Idx → EReal) (ix2 0 k) = (m ((c : Thread nD τ).loc main_arg11) : S1024.Idx → EReal) (ix1 k) := by
  rw [V_gf]
  refine (shapeCast_addUnit_apply ![1024] _ _ _).trans (congrArg _ (funext fun a => ?_))
  match a with | ⟨0, _⟩ => rfl

/-- What point `t` leaves in its block is block `t` of `result`. -/
theorem block_eq (c : Dev nD) (t : Fin cfg0.N) (a : Fin 256) (b : Fin 1024) :
    out0_12 (F := Ideal) (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t) (ix2 a b) = result m c (ix2 (row t a) b) := by
  refine (out_apply _ _ _ _ _ _ _ _ _ _ _ _ a b).trans ?_
  unfold result tailAll
  refine tail_congr b (fun k => ?_) (fun k => ?_) (fun k => ?_) (fun k => ?_) (fun k l => ?_) (fun k l => ?_) (fun k l => ?_) (fun k l => ?_)
    (fun k l => ?_) (fun k => ?_) (fun k l => ?_) (fun k l => ?_) (fun k => ?_)
  · exact (blk_x m c t a k).trans (congrFun (V_x m c) _)
  · exact (blk_att m c t a k).trans (congrFun (V_att m c) _)
  · exact (blk_rw m c t a k).trans (congrFun (V_rw m c) _)
  · exact (blk_g1 m c t 0 k).trans (congrFun (V_g1 m c) _)
  · exact (blk_wg m c t k _).trans (wg_left m c k l)
  · exact (blk_wg m c t k _).trans (wg_right m c k l)
  · exact (blk_wa m c t k l).trans (congrFun (V_wa m c) _)
  · exact (blk_wr m c t k l).trans (congrFun (V_wr m c) _)
  · exact (blk_wo m c t k l).trans (congrFun (V_wo m c) _)
  · exact (blk_g2 m c t 0 k).trans (congrFun (V_g2 m c) _)
  · exact (blk_w1 m c t k l).trans (congrFun (V_w1 m c) _)
  · exact (blk_w2 m c t k l).trans (congrFun (V_w2 m c) _)
  · exact (blk_gf m c t 0 k).trans (gf_apply m c k)

/-- The result array after the run. -/
theorem final_eq (c : Dev nD) : (dats m 0 c).arrAt 12 cfg0.N = result m c := by
  refine (dats m 0 c).arrAt_eq_of_covers 12 _ (by decide +kernel) fun t hf y => ?_
  obtain ⟨h0, h1⟩ := (idx_facts t).2.2.2.1
  have e : (((cfg0.win 12).blk t).view.emb y : S16384x1024.Idx) = ix2 (row t (y 0)) (y 1) := funext fun d => Fin.ext (by
    match d with
    | ⟨0, _⟩ => show win0_12.index t 0 * 256 + 1 * (y 0).val = 256 * t.val + (y 0).val; rw [h0]; omega
    | ⟨1, _⟩ => show win0_12.index t 1 * 1024 + 1 * (y 1).val = (y 1).val; rw [h1]; omega)
  have hy : ((cfg0.win 12).xinj (cfg0.grid.coords t) y : S256x1024.Idx) = ix2 (n0 := 256) (n1 := 1024) (y 0) (y 1) :=
    funext fun a => by match a with | ⟨0, _⟩ => rfl | ⟨1, _⟩ => rfl
  rw [after0_12]
  generalize hX : out0_12 (F := Ideal) (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t) = X
  refine Eq.trans ?_ (congrArg (result m c) e).symm
  refine Eq.trans (congrArg X hy) ?_
  rw [← hX]
  exact block_eq m c t (y 0) (y 1)

end Cert.TailIdeal.Hand
-- ==== Proof.TailClaims.lean ====
/- The claims about the tail call: the frames of its three programs, and the equality of the call and its reference. -/
module

public import proofs.«01_k».proof.Defs
public import proofs.«01_k».proof.Proof.TailRef
public import proofs.«01_k».proof.Proof.TailRun
public import proofs.«01_k».proof.Proof.Gen.Tail.Frame
public import proofs.«01_k».proof.Proof.Gen.TailRefIdeal.Run

@[expose] public section

noncomputable section

namespace Cert.TailRefIdeal.Hand

open Cert.TailRefIdeal Cert.TailRefIdeal.Gen Cert.TailRefIdeal.Read Idealize.ShloMosaic Idealize.SL.Sem Cert.Rows

/-- A vector stored as one row, read at an entry. -/
theorem row_apply (x : FVec Ideal S1x1024 .f32) (k : Fin 1024) : shapeCast S1024 x shapeCasts_S1x1024_S1024 (ix1 k) = x (ix2 0 k) := by
  refine shapeCast_apply x _ _ (ix2 0 k) ?_
  rw [Shape.rowMajor_val_two, Shape.rowMajor_val_one]
  show 0 * 1024 + k.val = k.val
  omega

/-- The reference's result as a function of its arguments. -/
theorem v85_fun (x0 : FVec Ideal S8x2048x1024 .f32) (x1 : FVec Ideal S8x2048x512 .bf16) (x2 : FVec Ideal S8x2048x512 .bf16) (x3 : FVec Ideal S1x1024 .f32) (x4 : FVec Ideal S1x1024x5192 .f32) (x5 : FVec Ideal S1x512x1024 .f32) (x6 : FVec Ideal S1x512x1024 .f32) (x7 : FVec Ideal S1x1024x1024 .f32) (x8 : FVec Ideal S1x1024 .f32) (x9 : FVec Ideal S1x1024x4096 .f32) (x10 : FVec Ideal S1x4096x1024 .f32) (x11 : FVec Ideal S1024 .f32) :
    val_main_v85 (F := Ideal) x0 x1 x2 x3 x4 x5 x6 x7 x8 x9 x10 x11 = fun i => tailAll
      (fun r k => shapeCast S16384x1024 x0 shapeCasts_S8x2048x1024_S16384x1024 (ix2 r k)) (fun r k => shapeCast S16384x512 x1 shapeCasts_S8x2048x512_S16384x512 (ix2 r k))
      (fun r k => shapeCast S16384x512 x2 shapeCasts_S8x2048x512_S16384x512 (ix2 r k)) (fun k => x3 (ix2 0 k))
      (fun k l => shapeCast S1024x5192 x4 shapeCasts_S1x1024x5192_S1024x5192 (ix2 k l)) (fun k l => shapeCast S512x1024 x5 shapeCasts_S1x512x1024_S512x1024 (ix2 k l))
      (fun k l => shapeCast S512x1024 x6 shapeCasts_S1x512x1024_S512x1024 (ix2 k l)) (fun k l => shapeCast S1024x1024 x7 shapeCasts_S1x1024x1024_S1024x1024 (ix2 k l))
      (fun k => x8 (ix2 0 k)) (fun k l => shapeCast S1024x4096 x9 shapeCasts_S1x1024x4096_S1024x4096 (ix2 k l))
      (fun k l => shapeCast S4096x1024 x10 shapeCasts_S1x4096x1024_S4096x1024 (ix2 k l)) (fun k => x11 (ix1 k)) (i 0) (i 1) := by
  funext i
  have hi : i = ix2 (n0 := 16384) (n1 := 1024) (i 0) (i 1) := by funext a; match a with | ⟨0, _⟩ => rfl | ⟨1, _⟩ => rfl
  refine (congrArg (val_main_v85 (F := Ideal) x0 x1 x2 x3 x4 x5 x6 x7 x8 x9 x10 x11) hi).trans ((v85_apply x0 x1 x2 x3 x4 x5 x6 x7 x8 x9 x10 x11 (i 0) (i 1)).trans ?_)
  have h5 : (fun k : Fin 1024 => val_main_v5 (F := Ideal) x3 (ix1 k)) = fun k => x3 (ix2 0 k) := funext fun k => row_apply x3 k
  have h52 : (fun k : Fin 1024 => val_main_v52 (F := Ideal) x8 (ix1 k)) = fun k => x8 (ix2 0 k) := funext fun k => row_apply x8 k
  rw [h5, h52]
  rfl

end Cert.TailRefIdeal.Hand

namespace Cert.TailClaims

open Idealize.ShloMosaic Idealize.SL.Sem

/-- The kernel, over the device's numbers, leaves its arguments unchanged. -/
theorem frame_p : Cert.quiescent_Tail := fun m ρ _ => Cert.Tail.Gen.frame m ρ

/-- So does the kernel over the reals. -/
theorem frame_i : Cert.quiescent_TailIdeal := fun m ρ _ => Cert.TailIdeal.Gen.frame m ρ

/-- So does the reference over the reals. -/
theorem frame_r : Cert.quiescent_TailRefIdeal := fun m ρ _ =>
  (θ_run Cert.TailRefIdeal.defs _ _).mono (fun r h => ⟨fun c => (h c).2, sem_eq_zero_of_no_sems (by decide) r.2⟩)
    (Cert.TailRefIdeal.Value.run (F := Ideal) m ρ)

/-- The kernel over the reals is the kernel with every operation read at its ideal meaning; no rule changes it. -/
theorem preserves : Cert.preserves_Tail_TailIdeal := trivial

/-- The kernel and the reference give the same array of reals from the same arguments. -/
theorem algebraic : Cert.algebraic_TailIdeal_TailRefIdeal := by
  intro m ρ m' ρ' _ hagree
  refine ⟨fun c => Cert.TailIdeal.Hand.result m c, ?_, ?_⟩
  · exact (θ_run Cert.TailIdeal.defs _ _).mono (fun r h c => ⟨(h c).1.trans (Cert.TailIdeal.Hand.final_eq m c), (h c).2⟩)
      (Cert.TailIdeal.Value.run_blocks (F := Ideal) m ρ)
  · refine (θ_run Cert.TailRefIdeal.defs _ _).mono (fun r h c => ⟨((h c).1.trans (Cert.TailRefIdeal.Read.val_main_v85_eq m' c)).trans ?_, (h c).2⟩)
      (Cert.TailRefIdeal.Value.run (F := Ideal) m' ρ')
    obtain ⟨e0, e1, e2, e3, e4, e5, e6, e7, e8, e9, e10, e11⟩ := hagree c
    refine (Cert.TailRefIdeal.Hand.v85_fun (m' ((c.tc : Thread Cert.TailRefIdeal.nD Cert.TailRefIdeal.τ).loc Cert.TailRefIdeal.main_arg0)) (m' ((c.tc : Thread Cert.TailRefIdeal.nD Cert.TailRefIdeal.τ).loc Cert.TailRefIdeal.main_arg1)) (m' ((c.tc : Thread Cert.TailRefIdeal.nD Cert.TailRefIdeal.τ).loc Cert.TailRefIdeal.main_arg2)) (m' ((c.tc : Thread Cert.TailRefIdeal.nD Cert.TailRefIdeal.τ).loc Cert.TailRefIdeal.main_arg3)) (m' ((c.tc : Thread Cert.TailRefIdeal.nD Cert.TailRefIdeal.τ).loc Cert.TailRefIdeal.main_arg4)) (m' ((c.tc : Thread Cert.TailRefIdeal.nD Cert.TailRefIdeal.τ).loc Cert.TailRefIdeal.main_arg5)) (m' ((c.tc : Thread Cert.TailRefIdeal.nD Cert.TailRefIdeal.τ).loc Cert.TailRefIdeal.main_arg6)) (m' ((c.tc : Thread Cert.TailRefIdeal.nD Cert.TailRefIdeal.τ).loc Cert.TailRefIdeal.main_arg7)) (m' ((c.tc : Thread Cert.TailRefIdeal.nD Cert.TailRefIdeal.τ).loc Cert.TailRefIdeal.main_arg8)) (m' ((c.tc : Thread Cert.TailRefIdeal.nD Cert.TailRefIdeal.τ).loc Cert.TailRefIdeal.main_arg9)) (m' ((c.tc : Thread Cert.TailRefIdeal.nD Cert.TailRefIdeal.τ).loc Cert.TailRefIdeal.main_arg10)) (m' ((c.tc : Thread Cert.TailRefIdeal.nD Cert.TailRefIdeal.τ).loc Cert.TailRefIdeal.main_arg11))).trans ?_
    rw [e0, e1, e2, e3, e4, e5, e6, e7, e8, e9, e10, e11]
    rfl

end Cert.TailClaims
-- ==== Proof.InProjRows.lean ====
/- The input projection's results, entry by entry: functions of the three arguments. -/
module

public import proofs.«01_k».proof.Proof.Rows

@[expose] public section

noncomputable section

namespace Cert.Rows

open Idealize.ShloMosaic

/-- Entry `l` of token `r`'s wide projection: its normalised row against column `l` of the weights. -/
def lin (X : (⟨3, ![8, 2048, 1024]⟩ : Shape).Idx → EReal) (G : (⟨2, ![1, 1024]⟩ : Shape).Idx → EReal) (W : (⟨3, ![1, 1024, 5192]⟩ : Shape).Idx → EReal)
    (r : Fin 16384) (l : Fin 5192) : EReal :=
  dot (rms (fun k => shapeCast ⟨2, ![16384, 1024]⟩ X (by decide) (ix2 r k)) (fun k => G (ix2 0 k))) (fun k l => shapeCast ⟨2, ![1024, 5192]⟩ W (by decide) (ix2 k l)) l

/-- A group of `n` columns from column `o` on, times a constant. -/
def group (o n : ℕ) (h : o + n ≤ 5192) (s : EReal) (X : (⟨3, ![8, 2048, 1024]⟩ : Shape).Idx → EReal) (G : (⟨2, ![1, 1024]⟩ : Shape).Idx → EReal)
    (W : (⟨3, ![1, 1024, 5192]⟩ : Shape).Idx → EReal) : (⟨2, ![16384, n]⟩ : Shape).Idx → EReal :=
  fun i => lin X G W (i 0) ⟨o + (i 1).val, by have : (i 1).val < n := (i 1).isLt; omega⟩ * s

/-- A group of `n` columns from column `o` on. -/
def cols (o n : ℕ) (h : o + n ≤ 5192) (X : (⟨3, ![8, 2048, 1024]⟩ : Shape).Idx → EReal) (G : (⟨2, ![1, 1024]⟩ : Shape).Idx → EReal)
    (W : (⟨3, ![1, 1024, 5192]⟩ : Shape).Idx → EReal) : (⟨2, ![16384, n]⟩ : Shape).Idx → EReal :=
  fun i => lin X G W (i 0) ⟨o + (i 1).val, by have : (i 1).val < n := (i 1).isLt; omega⟩

/-- A group of `n` columns from column `o` on, each sequence's transposed. -/
def colsT (o n : ℕ) (h : o + n ≤ 5192) (X : (⟨3, ![8, 2048, 1024]⟩ : Shape).Idx → EReal) (G : (⟨2, ![1, 1024]⟩ : Shape).Idx → EReal)
    (W : (⟨3, ![1, 1024, 5192]⟩ : Shape).Idx → EReal) : (⟨3, ![8, n, 2048]⟩ : Shape).Idx → EReal :=
  fun i => lin X G W ⟨2048 * (i 0).val + (i 2).val, by have : (i 0).val < 8 := (i 0).isLt; have : (i 2).val < 2048 := (i 2).isLt; omega⟩
    ⟨o + (i 1).val, by have : (i 1).val < n := (i 1).isLt; omega⟩

/-- The scale of the queries, one over the root of 64. -/
def eighth : EReal := Ideal.ofBits .f32 0x3E000000#32

/-- The scale of the index heads' weights, one over the root of 8, as a 32-bit number. -/
def rootEighth : EReal := Ideal.ofBits .f32 0x3EB504F3#32

end Cert.Rows

end
-- ==== Proof.InProjRef.lean ====
/- The input projection's reference: its ten result arrays, entry by entry. -/
module

public import proofs.«01_k».proof.Proof.InProjRows
public import proofs.«01_k».proof.Proof.HostRead
public import proofs.«01_k».proof.Proof.Gen.InProjRefIdeal.Read

@[expose] public section

noncomputable section

namespace Cert.InProjRefIdeal.Hand

open Cert.InProjRefIdeal Cert.InProjRefIdeal.Gen Cert.InProjRefIdeal.Read Idealize.ShloMosaic Idealize.SL.Sem Cert.Rows

variable (x0 : FVec Ideal S8x2048x1024 .f32) (x1 : FVec Ideal S1x1024 .f32) (x2 : FVec Ideal S1x1024x5192 .f32)

/-- The reference's root-mean-square normalisation of every row, as array operations. -/
def rmsR (x : FVec Ideal S16384x1024 .f32) (g : FVec Ideal S1024 .f32) : FVec Ideal S16384x1024 .f32 :=
  mulf (mulf x (broadcastInDim S16384x1024 ![0, 1] bcast_S16384x1_S16384x1024_0_1 (Host.rsqrt (addf (Host.divf
    (broadcastInDim S16384x1 ![0] bcast_S16384_S16384x1_0 (Host.reduceAdd (mulf x x) (val_main_cst (F := Ideal)) reducesTo_S16384x1024_S16384_d1 h_S_))
    (broadcastInDim S16384x1 ![] bcast_S_S16384x1 (val_main_cst_0 (F := Ideal)))) (broadcastInDim S16384x1 ![] bcast_S_S16384x1 (val_main_cst_1 (F := Ideal)))))))
    (broadcastInDim S16384x1024 ![0, 1] bcast_S1x1024_S16384x1024_0_1 (broadcastInDim S1x1024 ![1] bcast_S1024_S1x1024_1 g))

/-- The sum of a row's squares. -/
theorem sq_apply (x : FVec Ideal S16384x1024 .f32) (i : Fin 16384) :
    Host.reduceAdd (mulf x x) (constant S_ .f32 0x00000000#32 : FVec Ideal S_ .f32) reducesTo_S16384x1024_S16384_d1 h_S_ (ix1 i) = ∑ k : Fin 1024, x (ix2 i k) * x (ix2 i k) :=
  hostSum_apply reducesTo_S16384x1024_S16384_d1 (by decide) h_S_ (mulf x x) i

/-- It is `Rows.rms` of each row. -/
theorem rmsR_apply (x : FVec Ideal S16384x1024 .f32) (g : FVec Ideal S1024 .f32) (i : Fin 16384) (j : Fin 1024) :
    rmsR x g (ix2 i j) = rms (fun k => x (ix2 i k)) (fun k => g (ix1 k)) j := by
  unfold rmsR rms val_main_cst val_main_cst_0 val_main_cst_1
  pointwise [sq_apply]

/-- The normalised rows. -/
theorem v14_eq : val_main_v14 (F := Ideal) x0 x1 = rmsR (val_main_v0 (F := Ideal) x0) (val_main_v1 (F := Ideal) x1) := rfl

/-- The gain's vector. -/
theorem v1_apply (k : Fin 1024) : val_main_v1 (F := Ideal) x1 (ix1 k) = x1 (ix2 0 k) := by
  refine shapeCast_apply x1 _ _ (ix2 0 k) ?_
  rw [Shape.rowMajor_val_two, Shape.rowMajor_val_one]
  show 0 * 1024 + k.val = k.val
  omega

/-- The wide projection, an entry. -/
theorem v16_at (r : Fin 16384) (l : Fin 5192) : val_main_v16 (F := Ideal) x0 x1 x2 (ix2 r l) = lin x0 x1 x2 r l := by
  unfold val_main_v16
  refine (hostDot_apply dot_S16384x1024_S1024x5192_S16384x5192_1_0_0_1_n_n rfl _ _ r l).trans ?_
  rw [v14_eq]
  simp only [rmsR_apply, v1_apply]
  rfl

/-- The same at an index. -/
theorem v16_apply (i : S16384x5192.Idx) : val_main_v16 (F := Ideal) x0 x1 x2 i = lin x0 x1 x2 (i 0) (i 1) := by
  have h : i = ix2 (n0 := 16384) (n1 := 5192) (i 0) (i 1) := funext fun a => by match a with | ⟨0, _⟩ => rfl | ⟨1, _⟩ => rfl
  exact (congrArg _ h).trans (v16_at x0 x1 x2 (i 0) (i 1))

/-- The queries. -/
theorem v30_fun : val_main_v30 (F := Ideal) x0 x1 x2 = group 0 512 (by omega) eighth x0 x1 x2 := by
  funext i
  simp only [val_main_v30_apply, val_main_v29_apply, val_main_v17_apply, val_main_v28_apply, val_main_cst_3_apply, v16_apply]
  refine congrArg (· * eighth) (congrArg (lin x0 x1 x2 (i 0)) (Fin.ext ?_))
  exact (Nat.zero_add _).symm

/-- The index queries. -/
theorem v33_fun : val_main_v33 (F := Ideal) x0 x1 x2 = group 768 512 (by omega) eighth x0 x1 x2 := by
  funext i
  simp only [val_main_v33_apply, val_main_v32_apply, val_main_v20_apply, val_main_v31_apply, val_main_cst_4_apply, v16_apply]
  refine congrArg (· * eighth) (congrArg (lin x0 x1 x2 (i 0)) (Fin.ext ?_))
  rfl

/-- The keys. -/
theorem v18_fun : val_main_v18 (F := Ideal) x0 x1 x2 = cols 512 128 (by omega) x0 x1 x2 := by
  funext i
  simp only [val_main_v18_apply, v16_apply]
  refine congrArg (lin x0 x1 x2 (i 0)) (Fin.ext ?_)
  rfl

/-- The values. -/
theorem v19_fun : val_main_v19 (F := Ideal) x0 x1 x2 = cols 640 128 (by omega) x0 x1 x2 := by
  funext i
  simp only [val_main_v19_apply, v16_apply]
  refine congrArg (lin x0 x1 x2 (i 0)) (Fin.ext ?_)
  rfl

/-- The index keys. -/
theorem v21_fun : val_main_v21 (F := Ideal) x0 x1 x2 = cols 1280 64 (by omega) x0 x1 x2 := by
  funext i
  simp only [val_main_v21_apply, v16_apply]
  refine congrArg (lin x0 x1 x2 (i 0)) (Fin.ext ?_)
  rfl

/-- The index heads' weights. -/
theorem v27_fun : val_main_v27 (F := Ideal) x0 x1 x2 = group 1344 8 (by omega) rootEighth x0 x1 x2 := by
  funext i
  simp only [val_main_v27_apply, val_main_v22_apply, val_main_v26_apply, val_main_cst_2_apply, v16_apply]
  refine congrArg (· * rootEighth) (congrArg (lin x0 x1 x2 (i 0)) (Fin.ext ?_))
  rfl

/-- The recurrence's columns. -/
theorem v23_fun : val_main_v23 (F := Ideal) x0 x1 x2 = cols 1352 1792 (by omega) x0 x1 x2 := by
  funext i
  simp only [val_main_v23_apply, v16_apply]
  refine congrArg (lin x0 x1 x2 (i 0)) (Fin.ext ?_)
  rfl

/-- The keys, transposed. -/
theorem v35_fun : val_main_v35 (F := Ideal) x0 x1 x2 = colsT 512 128 (by omega) x0 x1 x2 := by
  funext i
  have h0 : (i 0).val < 8 := (i 0).isLt
  have h1 : (i 1).val < 128 := (i 1).isLt
  have h2 : (i 2).val < 2048 := (i 2).isLt
  simp only [val_main_v35_apply, val_main_v34_apply, val_main_v18_apply, v16_apply]
  unfold colsT
  refine congrArg₂ (lin x0 x1 x2) (Fin.ext ?_) (Fin.ext ?_)
  · show (((i 0).val * 2048 + (i 2).val) * 128 + (i 1).val) / 128 = 2048 * (i 0).val + (i 2).val
    omega
  · show 512 + (((i 0).val * 2048 + (i 2).val) * 128 + (i 1).val) % 128 = 512 + (i 1).val
    omega

/-- The values, transposed. -/
theorem v37_fun : val_main_v37 (F := Ideal) x0 x1 x2 = colsT 640 128 (by omega) x0 x1 x2 := by
  funext i
  have h0 : (i 0).val < 8 := (i 0).isLt
  have h1 : (i 1).val < 128 := (i 1).isLt
  have h2 : (i 2).val < 2048 := (i 2).isLt
  simp only [val_main_v37_apply, val_main_v36_apply, val_main_v19_apply, v16_apply]
  unfold colsT
  refine congrArg₂ (lin x0 x1 x2) (Fin.ext ?_) (Fin.ext ?_)
  · show (((i 0).val * 2048 + (i 2).val) * 128 + (i 1).val) / 128 = 2048 * (i 0).val + (i 2).val
    omega
  · show 640 + (((i 0).val * 2048 + (i 2).val) * 128 + (i 1).val) % 128 = 640 + (i 1).val
    omega

/-- The index keys, transposed. -/
theorem v39_fun : val_main_v39 (F := Ideal) x0 x1 x2 = colsT 1280 64 (by omega) x0 x1 x2 := by
  funext i
  have h0 : (i 0).val < 8 := (i 0).isLt
  have h1 : (i 1).val < 64 := (i 1).isLt
  have h2 : (i 2).val < 2048 := (i 2).isLt
  simp only [val_main_v39_apply, val_main_v38_apply, val_main_v21_apply, v16_apply]
  unfold colsT
  refine congrArg₂ (lin x0 x1 x2) (Fin.ext ?_) (Fin.ext ?_)
  · show (((i 0).val * 2048 + (i 2).val) * 64 + (i 1).val) / 64 = 2048 * (i 0).val + (i 2).val
    omega
  · show 1280 + (((i 0).val * 2048 + (i 2).val) * 64 + (i 1).val) % 64 = 1280 + (i 1).val
    omega

end Cert.InProjRefIdeal.Hand

end
-- ==== Proof.InProjRun.lean ====
/- The input projection's run: its ten result arrays, entry by entry. -/
module

public import proofs.«01_k».proof.Proof.InProjRows
public import proofs.«01_k».proof.Proof.Gen.InProjIdeal.Value
public import Idealize.ShloMosaic.Lib.Pointwise.Tactic
public import Idealize.ShloMosaic.Lib.ValueIdx
public import Idealize.ShloMosaic.Lib.Pipeline.ValueKit.Geometry

@[expose] public section

noncomputable section

namespace Cert.InProjIdeal.Hand

open Cert.InProjIdeal Cert.InProjIdeal.Gen Cert.InProjIdeal.Value Idealize.ShloMosaic Idealize.ShloMosaic.TcCoe Idealize.SL.Sem Cert.Rows
open Idealize.ShloMosaic.Pipeline (Dat)

/-- The block's root-mean-square normalisation as vector operations. -/
def rmsV (x : FVec Ideal S512x1024 .f32) (g : FVec Ideal S1x1024 .f32) : FVec Ideal S512x1024 .f32 :=
  mulf (mulf x (broadcastTo S512x1024 (rsqrt (addf (divf (shapeCast S512x1 (multiReduction .add [1] S512 (mulf x x) 0x00000000#32
    reduces_S512x1024_S512 (.inl rfl) rfl) shapeCasts_S512_S512x1) (broadcast S512x1 (Scalar.ofBits .f32 0x44800000#32)))
    (broadcast S512x1 (Scalar.ofBits .f32 0x358637BD#32)))) broadcasts_S512x1_S512x1024))
    (broadcastTo S512x1024 g broadcasts_S1x1024_S512x1024)

/-- It is `Rows.rms` of each row. -/
theorem rmsV_apply (x : FVec Ideal S512x1024 .f32) (g : FVec Ideal S1x1024 .f32) (i : Fin 512) (j : Fin 1024) :
    rmsV x g (ix2 i j) = rms (fun k => x (ix2 i k)) (fun k => g (ix2 0 k)) j := by
  have e : shapeCast S512x1 (multiReduction .add [1] S512 (mulf x x) 0x00000000#32 reduces_S512x1024_S512 (.inl rfl) rfl)
      shapeCasts_S512_S512x1 (ix2 i 0) = ∑ k : Fin 1024, x (ix2 i k) * x (ix2 i k) := by
    rw [shapeCast_apply _ _ _ (ix1 i : S512.Idx) (by rfl)]
    refine (Ideal.multiReduction_add_single _ _ _ _ _ _).trans ?_
    refine Finset.sum_congr rfl fun k _ => ?_
    have h : (reduces_S512x1024_S512.lift (ix1 i : S512.Idx) k : S512x1024.Idx) = ix2 i k := funext fun a => Fin.ext (by
      match a with | ⟨0, _⟩ => rfl | ⟨1, _⟩ => rfl)
    rw [h]
    rfl
  unfold rmsV rms
  pointwise [e]

/-- The normalised block as the kernel binds it. -/
theorem pay6_eq (x : Vec Ideal S512x1024 .f32) (g : Vec Ideal S1x1024 .f32) : k0_pay6 x g = truncf .bf16 (rmsV x g) bitsLt_bf16_f32 := by
  have h : k0_pay6 x g = truncf .bf16 (rmsV (shapeCast S512x1024 x shapeCasts_S512x1024_S512x1024) (shapeCast S1x1024 g shapeCasts_S1x1024_S1x1024)) bitsLt_bf16_f32 := rfl
  rw [h, shapeCast_self, shapeCast_self]

/-- The block's product with the attention weights, an entry. -/
theorem pay7_apply (x : Vec Ideal S512x1024 .f32) (g : Vec Ideal S1x1024 .f32) (w : Vec Ideal S1024x1408 .bf16) (i : Fin 512) (j : Fin 1408) :
    k0_pay7 x g w (ix2 i j) = dot (rms (fun k => x (ix2 i k)) (fun k => g (ix2 0 k))) (fun k l => w (ix2 k l)) j := by
  have e1 := mm_apply dot_S512x1024_S1024x1408_S512x1408_1_0_0_1_n_n rfl
  unfold k0_pay7 dot
  rw [pay6_eq]
  pointwise [e1, shapeCast_self, rmsV_apply]

/-- The block's product with the recurrence's weights, an entry. -/
theorem pay2_apply (x : Vec Ideal S512x1024 .f32) (g : Vec Ideal S1x1024 .f32) (w : Vec Ideal S1024x1792 .bf16) (i : Fin 512) (j : Fin 1792) :
    k0_pay2 (k0_pay6 x g) w (ix2 i j) = dot (rms (fun k => x (ix2 i k)) (fun k => g (ix2 0 k))) (fun k l => w (ix2 k l)) j := by
  have e1 := mm_apply dot_S512x1024_S1024x1792_S512x1792_1_0_0_1_n_n rfl
  unfold k0_pay2 dot
  rw [pay6_eq]
  pointwise [e1, shapeCast_self, rmsV_apply]

variable (m : (ℓ : Loc nD τ sig) → Buf (Elt Ideal) ℓ) (ρ : Dev nD → PrngReg)

/-- The argument arrays. -/
abbrev argX (c : Dev nD) : S8x2048x1024.Idx → EReal := m ((c : Thread nD τ).loc main_arg0)
/-- The gain. -/
abbrev argG (c : Dev nD) : S1x1024.Idx → EReal := m ((c : Thread nD τ).loc main_arg1)
/-- The wide projection's weights. -/
abbrev argW (c : Dev nD) : S1x1024x5192.Idx → EReal := m ((c : Thread nD τ).loc main_arg2)

/-- The input rows the region reads: the reshaped argument. -/
theorem V_x (c : Dev nD) : V m c main_v0 = shapeCast S16384x1024 (argX m c) shapeCasts_S8x2048x1024_S16384x1024 := by
  simp only [V, hostOps0]; after_results_simp <;> rfl

/-- The gain the region reads. -/
theorem V_g (c : Dev nD) : V m c main_v18 = argG m c := by
  have h : V m c main_v18 = shapeCast S1x1024 (shapeCast S1024 (argG m c) shapeCasts_S1x1024_S1024) shapeCasts_S1024_S1x1024 := by
    simp only [V, hostOps0]; after_results_simp <;> rfl
  rw [h, shapeCast_shapeCast]

/-- The recurrence's weights: a group of columns. -/
theorem V_wr (c : Dev nD) : V m c main_v12 = truncf .bf16 (extractStridedSlice S1024x1792 ![0, 1352] (shapeCast S1024x5192 (argW m c) shapeCasts_S1x1024x5192_S1024x5192 : FVec Ideal S1024x5192 .f32)
    slices_S1024x5192_S1024x1792_0_1352) bitsLt_bf16_f32 := by
  simp only [V, hostOps0]; after_results_simp <;> rfl

/-- The pieces of the attention weights, left to right: six groups of columns and a padding. -/
def wpieces (W : FVec Ideal S1024x5192 .f32) : List ((s : Shape) × (s.Idx → Ideal .f32)) :=
    [⟨S1024x512, extractStridedSlice S1024x512 ![0, 0] W slices_S1024x5192_S1024x512_0_0⟩,
     ⟨S1024x512, extractStridedSlice S1024x512 ![0, 768] W slices_S1024x5192_S1024x512_0_768⟩,
     ⟨S1024x128, extractStridedSlice S1024x128 ![0, 512] W slices_S1024x5192_S1024x128_0_512⟩,
     ⟨S1024x128, extractStridedSlice S1024x128 ![0, 640] W slices_S1024x5192_S1024x128_0_640⟩,
     ⟨S1024x64, extractStridedSlice S1024x64 ![0, 1280] W slices_S1024x5192_S1024x64_0_1280⟩,
     ⟨S1024x8, extractStridedSlice S1024x8 ![0, 1344] W slices_S1024x5192_S1024x8_0_1344⟩,
     ⟨S1024x56, broadcastInDim S1024x56 ![] bcast_S_S1024x56 (constant S_ .f32 0x00000000#32 : FVec Ideal S_ .f32)⟩]

/-- The attention weights. -/
theorem V_wa (c : Dev nD) : V m c main_v10 = truncf .bf16 (concatenate S1024x1408 1 (wpieces (shapeCast S1024x5192 (argW m c) shapeCasts_S1x1024x5192_S1024x5192))
    concatenates_S1024x512_S1024x512_S1024x128_S1024x128_S1024x64_S1024x8_S1024x56_S1024x1408_d1 : FVec Ideal S1024x1408 .f32) bitsLt_bf16_f32 := by
  simp only [V, hostOps0]; after_results_simp <;> rfl

/-- Piece 0 of the attention weights is the group of 512 columns from column 0 on. -/
theorem wcat_0 (W : FVec Ideal S1024x5192 .f32) (k : Fin 1024) (l : Fin 512) : concatenate S1024x1408 1 (wpieces W)
    concatenates_S1024x512_S1024x512_S1024x128_S1024x128_S1024x64_S1024x8_S1024x56_S1024x1408_d1 (ix2 k ⟨0 + l.val, by omega⟩) = W (ix2 k ⟨0 + l.val, by omega⟩) := by
  refine (concatenate_apply_piece (t := S1024x1408) 1 (wpieces W) concatenates_S1024x512_S1024x512_S1024x128_S1024x128_S1024x64_S1024x8_S1024x56_S1024x1408_d1
    (ix2 k ⟨0 + l.val, by omega⟩) 0 (by show 0 < 7; omega) S1024x512 (extractStridedSlice S1024x512 ![0, 0] W slices_S1024x5192_S1024x512_0_0) rfl rfl 0 (by rfl) (ix2 k l)
    (by intro a ha; match a with | ⟨0, _⟩ => rfl | ⟨1, _⟩ => exact absurd rfl ha) rfl).trans ?_
  exact extractStridedSlice_apply ![0, 0] W _ (ix2 k l) (ix2 k ⟨0 + l.val, by omega⟩ : S1024x5192.Idx) (fun a => by
    match a with | ⟨0, _⟩ => exact (Nat.zero_add _).symm | ⟨1, _⟩ => first | rfl | exact (Nat.zero_add _).symm)

/-- The same of the array the region reads. -/
theorem col_0 (c : Dev nD) (k : Fin 1024) (l : Fin 512) : (V m c main_v10 : S1024x1408.Idx → EReal) (ix2 k ⟨0 + l.val, by omega⟩)
    = shapeCast S1024x5192 (argW m c) shapeCasts_S1x1024x5192_S1024x5192 (ix2 k ⟨0 + l.val, by omega⟩) :=
  (congrFun (V_wa m c) _).trans (wcat_0 _ k l)

/-- Piece 1 of the attention weights is the group of 512 columns from column 768 on. -/
theorem wcat_1 (W : FVec Ideal S1024x5192 .f32) (k : Fin 1024) (l : Fin 512) : concatenate S1024x1408 1 (wpieces W)
    concatenates_S1024x512_S1024x512_S1024x128_S1024x128_S1024x64_S1024x8_S1024x56_S1024x1408_d1 (ix2 k ⟨512 + l.val, by omega⟩) = W (ix2 k ⟨768 + l.val, by omega⟩) := by
  refine (concatenate_apply_piece (t := S1024x1408) 1 (wpieces W) concatenates_S1024x512_S1024x512_S1024x128_S1024x128_S1024x64_S1024x8_S1024x56_S1024x1408_d1
    (ix2 k ⟨512 + l.val, by omega⟩) 1 (by show 1 < 7; omega) S1024x512 (extractStridedSlice S1024x512 ![0, 768] W slices_S1024x5192_S1024x512_0_768) rfl rfl 512 (by rfl) (ix2 k l)
    (by intro a ha; match a with | ⟨0, _⟩ => rfl | ⟨1, _⟩ => exact absurd rfl ha) rfl).trans ?_
  exact extractStridedSlice_apply ![0, 768] W _ (ix2 k l) (ix2 k ⟨768 + l.val, by omega⟩ : S1024x5192.Idx) (fun a => by
    match a with | ⟨0, _⟩ => exact (Nat.zero_add _).symm | ⟨1, _⟩ => first | rfl | exact (Nat.zero_add _).symm)

/-- The same of the array the region reads. -/
theorem col_1 (c : Dev nD) (k : Fin 1024) (l : Fin 512) : (V m c main_v10 : S1024x1408.Idx → EReal) (ix2 k ⟨512 + l.val, by omega⟩)
    = shapeCast S1024x5192 (argW m c) shapeCasts_S1x1024x5192_S1024x5192 (ix2 k ⟨768 + l.val, by omega⟩) :=
  (congrFun (V_wa m c) _).trans (wcat_1 _ k l)

/-- Piece 2 of the attention weights is the group of 128 columns from column 512 on. -/
theorem wcat_2 (W : FVec Ideal S1024x5192 .f32) (k : Fin 1024) (l : Fin 128) : concatenate S1024x1408 1 (wpieces W)
    concatenates_S1024x512_S1024x512_S1024x128_S1024x128_S1024x64_S1024x8_S1024x56_S1024x1408_d1 (ix2 k ⟨1024 + l.val, by omega⟩) = W (ix2 k ⟨512 + l.val, by omega⟩) := by
  refine (concatenate_apply_piece (t := S1024x1408) 1 (wpieces W) concatenates_S1024x512_S1024x512_S1024x128_S1024x128_S1024x64_S1024x8_S1024x56_S1024x1408_d1
    (ix2 k ⟨1024 + l.val, by omega⟩) 2 (by show 2 < 7; omega) S1024x128 (extractStridedSlice S1024x128 ![0, 512] W slices_S1024x5192_S1024x128_0_512) rfl rfl 1024 (by rfl) (ix2 k l)
    (by intro a ha; match a with | ⟨0, _⟩ => rfl | ⟨1, _⟩ => exact absurd rfl ha) rfl).trans ?_
  exact extractStridedSlice_apply ![0, 512] W _ (ix2 k l) (ix2 k ⟨512 + l.val, by omega⟩ : S1024x5192.Idx) (fun a => by
    match a with | ⟨0, _⟩ => exact (Nat.zero_add _).symm | ⟨1, _⟩ => first | rfl | exact (Nat.zero_add _).symm)

/-- The same of the array the region reads. -/
theorem col_2 (c : Dev nD) (k : Fin 1024) (l : Fin 128) : (V m c main_v10 : S1024x1408.Idx → EReal) (ix2 k ⟨1024 + l.val, by omega⟩)
    = shapeCast S1024x5192 (argW m c) shapeCasts_S1x1024x5192_S1024x5192 (ix2 k ⟨512 + l.val, by omega⟩) :=
  (congrFun (V_wa m c) _).trans (wcat_2 _ k l)

/-- Piece 3 of the attention weights is the group of 128 columns from column 640 on. -/
theorem wcat_3 (W : FVec Ideal S1024x5192 .f32) (k : Fin 1024) (l : Fin 128) : concatenate S1024x1408 1 (wpieces W)
    concatenates_S1024x512_S1024x512_S1024x128_S1024x128_S1024x64_S1024x8_S1024x56_S1024x1408_d1 (ix2 k ⟨1152 + l.val, by omega⟩) = W (ix2 k ⟨640 + l.val, by omega⟩) := by
  refine (concatenate_apply_piece (t := S1024x1408) 1 (wpieces W) concatenates_S1024x512_S1024x512_S1024x128_S1024x128_S1024x64_S1024x8_S1024x56_S1024x1408_d1
    (ix2 k ⟨1152 + l.val, by omega⟩) 3 (by show 3 < 7; omega) S1024x128 (extractStridedSlice S1024x128 ![0, 640] W slices_S1024x5192_S1024x128_0_640) rfl rfl 1152 (by rfl) (ix2 k l)
    (by intro a ha; match a with | ⟨0, _⟩ => rfl | ⟨1, _⟩ => exact absurd rfl ha) rfl).trans ?_
  exact extractStridedSlice_apply ![0, 640] W _ (ix2 k l) (ix2 k ⟨640 + l.val, by omega⟩ : S1024x5192.Idx) (fun a => by
    match a with | ⟨0, _⟩ => exact (Nat.zero_add _).symm | ⟨1, _⟩ => first | rfl | exact (Nat.zero_add _).symm)

/-- The same of the array the region reads. -/
theorem col_3 (c : Dev nD) (k : Fin 1024) (l : Fin 128) : (V m c main_v10 : S1024x1408.Idx → EReal) (ix2 k ⟨1152 + l.val, by omega⟩)
    = shapeCast S1024x5192 (argW m c) shapeCasts_S1x1024x5192_S1024x5192 (ix2 k ⟨640 + l.val, by omega⟩) :=
  (congrFun (V_wa m c) _).trans (wcat_3 _ k l)

/-- Piece 4 of the attention weights is the group of 64 columns from column 1280 on. -/
theorem wcat_4 (W : FVec Ideal S1024x5192 .f32) (k : Fin 1024) (l : Fin 64) : concatenate S1024x1408 1 (wpieces W)
    concatenates_S1024x512_S1024x512_S1024x128_S1024x128_S1024x64_S1024x8_S1024x56_S1024x1408_d1 (ix2 k ⟨1280 + l.val, by omega⟩) = W (ix2 k ⟨1280 + l.val, by omega⟩) := by
  refine (concatenate_apply_piece (t := S1024x1408) 1 (wpieces W) concatenates_S1024x512_S1024x512_S1024x128_S1024x128_S1024x64_S1024x8_S1024x56_S1024x1408_d1
    (ix2 k ⟨1280 + l.val, by omega⟩) 4 (by show 4 < 7; omega) S1024x64 (extractStridedSlice S1024x64 ![0, 1280] W slices_S1024x5192_S1024x64_0_1280) rfl rfl 1280 (by rfl) (ix2 k l)
    (by intro a ha; match a with | ⟨0, _⟩ => rfl | ⟨1, _⟩ => exact absurd rfl ha) rfl).trans ?_
  exact extractStridedSlice_apply ![0, 1280] W _ (ix2 k l) (ix2 k ⟨1280 + l.val, by omega⟩ : S1024x5192.Idx) (fun a => by
    match a with | ⟨0, _⟩ => exact (Nat.zero_add _).symm | ⟨1, _⟩ => first | rfl | exact (Nat.zero_add _).symm)

/-- The same of the array the region reads. -/
theorem col_4 (c : Dev nD) (k : Fin 1024) (l : Fin 64) : (V m c main_v10 : S1024x1408.Idx → EReal) (ix2 k ⟨1280 + l.val, by omega⟩)
    = shapeCast S1024x5192 (argW m c) shapeCasts_S1x1024x5192_S1024x5192 (ix2 k ⟨1280 + l.val, by omega⟩) :=
  (congrFun (V_wa m c) _).trans (wcat_4 _ k l)

/-- Piece 5 of the attention weights is the group of 8 columns from column 1344 on. -/
theorem wcat_5 (W : FVec Ideal S1024x5192 .f32) (k : Fin 1024) (l : Fin 8) : concatenate S1024x1408 1 (wpieces W)
    concatenates_S1024x512_S1024x512_S1024x128_S1024x128_S1024x64_S1024x8_S1024x56_S1024x1408_d1 (ix2 k ⟨1344 + l.val, by omega⟩) = W (ix2 k ⟨1344 + l.val, by omega⟩) := by
  refine (concatenate_apply_piece (t := S1024x1408) 1 (wpieces W) concatenates_S1024x512_S1024x512_S1024x128_S1024x128_S1024x64_S1024x8_S1024x56_S1024x1408_d1
    (ix2 k ⟨1344 + l.val, by omega⟩) 5 (by show 5 < 7; omega) S1024x8 (extractStridedSlice S1024x8 ![0, 1344] W slices_S1024x5192_S1024x8_0_1344) rfl rfl 1344 (by rfl) (ix2 k l)
    (by intro a ha; match a with | ⟨0, _⟩ => rfl | ⟨1, _⟩ => exact absurd rfl ha) rfl).trans ?_
  exact extractStridedSlice_apply ![0, 1344] W _ (ix2 k l) (ix2 k ⟨1344 + l.val, by omega⟩ : S1024x5192.Idx) (fun a => by
    match a with | ⟨0, _⟩ => exact (Nat.zero_add _).symm | ⟨1, _⟩ => first | rfl | exact (Nat.zero_add _).symm)

/-- The same of the array the region reads. -/
theorem col_5 (c : Dev nD) (k : Fin 1024) (l : Fin 8) : (V m c main_v10 : S1024x1408.Idx → EReal) (ix2 k ⟨1344 + l.val, by omega⟩)
    = shapeCast S1024x5192 (argW m c) shapeCasts_S1x1024x5192_S1024x5192 (ix2 k ⟨1344 + l.val, by omega⟩) :=
  (congrFun (V_wa m c) _).trans (wcat_5 _ k l)

/-- The recurrence's weights, an entry. -/
theorem col_wr (c : Dev nD) (k : Fin 1024) (l : Fin 1792) : (V m c main_v12 : S1024x1792.Idx → EReal) (ix2 k l)
    = shapeCast S1024x5192 (argW m c) shapeCasts_S1x1024x5192_S1024x5192 (ix2 k ⟨1352 + l.val, by omega⟩) := by
  refine (congrFun (V_wr m c) _).trans ?_
  exact extractStridedSlice_apply ![0, 1352] (shapeCast S1024x5192 (argW m c) shapeCasts_S1x1024x5192_S1024x5192) slices_S1024x5192_S1024x1792_0_1352 (ix2 k l) (ix2 k ⟨1352 + l.val, by omega⟩ : S1024x5192.Idx) (fun a => by
    match a with | ⟨0, _⟩ => exact (Nat.zero_add _).symm | ⟨1, _⟩ => rfl)

/-- Where each window stands at point `t`: the input rows and seven results at block row `t`, the weights at the origin, the
    transposed results at sequence `t / 4` and its quarter `t % 4`. -/
theorem idx_facts : ∀ t : Fin cfg0.N,
    (win0_0.index t 0 = t.val ∧ win0_0.index t 1 = 0)
    ∧ (win0_4.index t 0 = t.val ∧ win0_4.index t 1 = 0)
    ∧ (win0_5.index t 0 = t.val ∧ win0_5.index t 1 = 0)
    ∧ (win0_6.index t 0 = t.val ∧ win0_6.index t 1 = 0)
    ∧ (win0_7.index t 0 = t.val ∧ win0_7.index t 1 = 0)
    ∧ (win0_8.index t 0 = t.val ∧ win0_8.index t 1 = 0)
    ∧ (win0_9.index t 0 = t.val ∧ win0_9.index t 1 = 0)
    ∧ (win0_10.index t 0 = t.val ∧ win0_10.index t 1 = 0)
    ∧ (win0_1.index t 0 = 0 ∧ win0_1.index t 1 = 0)
    ∧ (win0_2.index t 0 = 0 ∧ win0_2.index t 1 = 0)
    ∧ (win0_3.index t 0 = 0 ∧ win0_3.index t 1 = 0)
    ∧ (win0_11.index t 0 = t.val / 4 ∧ win0_11.index t 1 = 0 ∧ win0_11.index t 2 = t.val % 4)
    ∧ (win0_12.index t 0 = t.val / 4 ∧ win0_12.index t 1 = 0 ∧ win0_12.index t 2 = t.val % 4)
    ∧ (win0_13.index t 0 = t.val / 4 ∧ win0_13.index t 1 = 0 ∧ win0_13.index t 2 = t.val % 4) :=
  (by decide +kernel : ∀ t : Fin grid0.N,
    (win0_0.index t 0 = t.val ∧ win0_0.index t 1 = 0)
    ∧ (win0_4.index t 0 = t.val ∧ win0_4.index t 1 = 0)
    ∧ (win0_5.index t 0 = t.val ∧ win0_5.index t 1 = 0)
    ∧ (win0_6.index t 0 = t.val ∧ win0_6.index t 1 = 0)
    ∧ (win0_7.index t 0 = t.val ∧ win0_7.index t 1 = 0)
    ∧ (win0_8.index t 0 = t.val ∧ win0_8.index t 1 = 0)
    ∧ (win0_9.index t 0 = t.val ∧ win0_9.index t 1 = 0)
    ∧ (win0_10.index t 0 = t.val ∧ win0_10.index t 1 = 0)
    ∧ (win0_1.index t 0 = 0 ∧ win0_1.index t 1 = 0)
    ∧ (win0_2.index t 0 = 0 ∧ win0_2.index t 1 = 0)
    ∧ (win0_3.index t 0 = 0 ∧ win0_3.index t 1 = 0)
    ∧ (win0_11.index t 0 = t.val / 4 ∧ win0_11.index t 1 = 0 ∧ win0_11.index t 2 = t.val % 4)
    ∧ (win0_12.index t 0 = t.val / 4 ∧ win0_12.index t 1 = 0 ∧ win0_12.index t 2 = t.val % 4)
    ∧ (win0_13.index t 0 = t.val / 4 ∧ win0_13.index t 1 = 0 ∧ win0_13.index t 2 = t.val % 4))

/-- Row `a` of block `t` is row `512 t + a` of the array. -/
def row (t : Fin cfg0.N) (a : Fin 512) : Fin 16384 := ⟨512 * t.val + a.val, by have : t.val < 32 := t.isLt; omega⟩

/-- The block of `x`. -/
theorem blk_x (c : Dev nD) (t : Fin cfg0.N) (a : Fin 512) (b : Fin 1024) :
    (iblk m c 0 t : S512x1024.Idx → EReal) (ix2 a b) = (V m c main_v0 : S16384x1024.Idx → EReal) (ix2 (row t a) b) := by
  obtain ⟨h0, h1⟩ := (idx_facts t).1
  unfold iblk
  rw [View.read_apply]
  refine congrArg (V m c main_v0) (funext fun d => Fin.ext ?_)
  match d with
  | ⟨0, _⟩ => show win0_0.index t 0 * 512 + 1 * a.val = 512 * t.val + a.val; rw [h0]; omega
  | ⟨1, _⟩ => show win0_0.index t 1 * 1024 + 1 * b.val = b.val; rw [h1]; omega

/-- The block of `g`. -/
theorem blk_g (c : Dev nD) (t : Fin cfg0.N) (a : Fin 1) (b : Fin 1024) :
    (iblk m c 1 t : S1x1024.Idx → EReal) (ix2 a b) = (V m c main_v18 : S1x1024.Idx → EReal) (ix2 a b) := by
  obtain ⟨h0, h1⟩ := (idx_facts t).2.2.2.2.2.2.2.2.1
  unfold iblk
  rw [View.read_apply]
  refine congrArg (V m c main_v18) (funext fun d => Fin.ext ?_)
  match d with
  | ⟨0, _⟩ => show win0_1.index t 0 * 1 + 1 * a.val = a.val; rw [h0]; omega
  | ⟨1, _⟩ => show win0_1.index t 1 * 1024 + 1 * b.val = b.val; rw [h1]; omega

/-- The block of `wa`. -/
theorem blk_wa (c : Dev nD) (t : Fin cfg0.N) (a : Fin 1024) (b : Fin 1408) :
    (iblk m c 2 t : S1024x1408.Idx → EReal) (ix2 a b) = (V m c main_v10 : S1024x1408.Idx → EReal) (ix2 a b) := by
  obtain ⟨h0, h1⟩ := (idx_facts t).2.2.2.2.2.2.2.2.2.1
  unfold iblk
  rw [View.read_apply]
  refine congrArg (V m c main_v10) (funext fun d => Fin.ext ?_)
  match d with
  | ⟨0, _⟩ => show win0_2.index t 0 * 1024 + 1 * a.val = a.val; rw [h0]; omega
  | ⟨1, _⟩ => show win0_2.index t 1 * 1408 + 1 * b.val = b.val; rw [h1]; omega

/-- The block of `wr`. -/
theorem blk_wr (c : Dev nD) (t : Fin cfg0.N) (a : Fin 1024) (b : Fin 1792) :
    (iblk m c 3 t : S1024x1792.Idx → EReal) (ix2 a b) = (V m c main_v12 : S1024x1792.Idx → EReal) (ix2 a b) := by
  obtain ⟨h0, h1⟩ := (idx_facts t).2.2.2.2.2.2.2.2.2.2.1
  unfold iblk
  rw [View.read_apply]
  refine congrArg (V m c main_v12) (funext fun d => Fin.ext ?_)
  match d with
  | ⟨0, _⟩ => show win0_3.index t 0 * 1024 + 1 * a.val = a.val; rw [h0]; omega
  | ⟨1, _⟩ => show win0_3.index t 1 * 1792 + 1 * b.val = b.val; rw [h1]; omega

/-- The block's product with the attention weights is the wide projection of its rows, at the column the piece came from. -/
theorem pay7_blk (c : Dev nD) (t : Fin cfg0.N) (a : Fin 512) (l : Fin 1408) (l' : Fin 5192)
    (h : ∀ k : Fin 1024, (V m c main_v10 : S1024x1408.Idx → EReal) (ix2 k l) = shapeCast S1024x5192 (argW m c) shapeCasts_S1x1024x5192_S1024x5192 (ix2 k l')) :
    k0_pay7 (F := Ideal) (iblk m c 0 t) (iblk m c 1 t) (iblk m c 2 t) (ix2 a l) = lin (argX m c) (argG m c) (argW m c) (row t a) l' := by
  refine (pay7_apply _ _ _ a l).trans ?_
  have hx : (fun k => (iblk m c 0 t : S512x1024.Idx → EReal) (ix2 a k)) = fun k => shapeCast S16384x1024 (argX m c) shapeCasts_S8x2048x1024_S16384x1024 (ix2 (row t a) k) :=
    funext fun k => (blk_x m c t a k).trans (congrFun (V_x m c) _)
  have hg : (fun k => (iblk m c 1 t : S1x1024.Idx → EReal) (ix2 0 k)) = fun k => argG m c (ix2 0 k) :=
    funext fun k => (blk_g m c t 0 k).trans (congrFun (V_g m c) _)
  unfold lin
  rw [hx, hg]
  exact Finset.sum_congr rfl fun k _ => congrArg _ ((blk_wa m c t k l).trans (h k))

/-- The same for the recurrence's weights. -/
theorem pay2_blk (c : Dev nD) (t : Fin cfg0.N) (a : Fin 512) (l : Fin 1792) :
    k0_pay2 (k0_pay6 (F := Ideal) (iblk m c 0 t) (iblk m c 1 t)) (iblk m c 3 t) (ix2 a l) = lin (argX m c) (argG m c) (argW m c) (row t a) ⟨1352 + l.val, by omega⟩ := by
  refine (pay2_apply _ _ _ a l).trans ?_
  have hx : (fun k => (iblk m c 0 t : S512x1024.Idx → EReal) (ix2 a k)) = fun k => shapeCast S16384x1024 (argX m c) shapeCasts_S8x2048x1024_S16384x1024 (ix2 (row t a) k) :=
    funext fun k => (blk_x m c t a k).trans (congrFun (V_x m c) _)
  have hg : (fun k => (iblk m c 1 t : S1x1024.Idx → EReal) (ix2 0 k)) = fun k => argG m c (ix2 0 k) :=
    funext fun k => (blk_g m c t 0 k).trans (congrFun (V_g m c) _)
  unfold lin
  rw [hx, hg]
  exact Finset.sum_congr rfl fun k _ => congrArg _ ((blk_wr m c t k l).trans (col_wr m c k l))

/-- A load's origin. -/
theorem hz : (![0, 0] : Fin 2 → Nat) = fun _ => 0 := funext fun a => by fin_cases a <;> rfl

/-- What point `t` leaves of the queries. -/
theorem block_4 (c : Dev nD) (t : Fin cfg0.N) (a : Fin 512) (b : Fin 512) :
    out0_4 (F := Ideal) (iblk m c 0 t) (iblk m c 1 t) (iblk m c 2 t) (iblk m c 3 t) (ix2 a b) = group 0 512 (by omega) eighth (argX m c) (argG m c) (argW m c) (ix2 (row t a) b) := by
  have e := pay7_blk m c t a ⟨0 + b.val, by omega⟩ ⟨0 + b.val, by omega⟩ (fun k => col_0 m c k b)
  unfold out0_4
  simp only [r0_0, r0_1, r0_2, View.ld_unit_zero (S := S512x1024) hz, View.ld_unit_zero (S := S1x1024) hz, View.ld_unit_zero (S := S1024x1408) hz]
  refine (canon4_eq _ _ _ (ix2 a b)).trans ?_
  have hi : (ix4_0 (ix2 a b) : S512x1408.Idx) = ix2 a ⟨0 + b.val, by omega⟩ := funext fun d => Fin.ext (by
    match d with | ⟨0, _⟩ => rfl | ⟨1, _⟩ => first | exact Nat.add_comm _ _ | exact (Nat.zero_add _).symm)
  simp only [E4, hi, e]
  rfl

/-- The queries after the run. -/
theorem final_4 (c : Dev nD) : (dats m 0 c).arrAt 4 cfg0.N = group 0 512 (by omega) eighth (argX m c) (argG m c) (argW m c) := by
  refine (dats m 0 c).arrAt_eq_of_covers 4 _ (by decide +kernel) fun t hf y => ?_
  obtain ⟨h0, h1⟩ := (idx_facts t).2.1
  have e : (((cfg0.win 4).blk t).view.emb y : S16384x512.Idx) = ix2 (row t (y 0)) (y 1) := funext fun d => Fin.ext (by
    match d with
    | ⟨0, _⟩ => show win0_4.index t 0 * 512 + 1 * (y 0).val = 512 * t.val + (y 0).val; rw [h0]; omega
    | ⟨1, _⟩ => show win0_4.index t 1 * 512 + 1 * (y 1).val = (y 1).val; rw [h1]; omega)
  have hy : ((cfg0.win 4).xinj (cfg0.grid.coords t) y : S512x512.Idx) = ix2 (n0 := 512) (n1 := 512) (y 0) (y 1) :=
    funext fun a => by match a with | ⟨0, _⟩ => rfl | ⟨1, _⟩ => rfl
  rw [after0_4]
  generalize hX : out0_4 (F := Ideal) (iblk m c 0 t) (iblk m c 1 t) (iblk m c 2 t) (iblk m c 3 t) = X
  refine Eq.trans ?_ (congrArg (group 0 512 (by omega) eighth (argX m c) (argG m c) (argW m c)) e).symm
  refine Eq.trans (congrArg X hy) ?_
  rw [← hX]
  exact block_4 m c t (y 0) (y 1)

/-- What point `t` leaves of the index queries. -/
theorem block_5 (c : Dev nD) (t : Fin cfg0.N) (a : Fin 512) (b : Fin 512) :
    out0_5 (F := Ideal) (iblk m c 0 t) (iblk m c 1 t) (iblk m c 2 t) (iblk m c 3 t) (ix2 a b) = group 768 512 (by omega) eighth (argX m c) (argG m c) (argW m c) (ix2 (row t a) b) := by
  have e := pay7_blk m c t a ⟨512 + b.val, by omega⟩ ⟨768 + b.val, by omega⟩ (fun k => col_1 m c k b)
  unfold out0_5
  simp only [r0_0, r0_1, r0_2, View.ld_unit_zero (S := S512x1024) hz, View.ld_unit_zero (S := S1x1024) hz, View.ld_unit_zero (S := S1024x1408) hz]
  refine (canon5_eq _ _ _ (ix2 a b)).trans ?_
  have hi : (ix5_0 (ix2 a b) : S512x1408.Idx) = ix2 a ⟨512 + b.val, by omega⟩ := funext fun d => Fin.ext (by
    match d with | ⟨0, _⟩ => rfl | ⟨1, _⟩ => first | exact Nat.add_comm _ _ | exact (Nat.zero_add _).symm)
  simp only [E5, hi, e]
  rfl

/-- The index queries after the run. -/
theorem final_5 (c : Dev nD) : (dats m 0 c).arrAt 5 cfg0.N = group 768 512 (by omega) eighth (argX m c) (argG m c) (argW m c) := by
  refine (dats m 0 c).arrAt_eq_of_covers 5 _ (by decide +kernel) fun t hf y => ?_
  obtain ⟨h0, h1⟩ := (idx_facts t).2.2.1
  have e : (((cfg0.win 5).blk t).view.emb y : S16384x512.Idx) = ix2 (row t (y 0)) (y 1) := funext fun d => Fin.ext (by
    match d with
    | ⟨0, _⟩ => show win0_5.index t 0 * 512 + 1 * (y 0).val = 512 * t.val + (y 0).val; rw [h0]; omega
    | ⟨1, _⟩ => show win0_5.index t 1 * 512 + 1 * (y 1).val = (y 1).val; rw [h1]; omega)
  have hy : ((cfg0.win 5).xinj (cfg0.grid.coords t) y : S512x512.Idx) = ix2 (n0 := 512) (n1 := 512) (y 0) (y 1) :=
    funext fun a => by match a with | ⟨0, _⟩ => rfl | ⟨1, _⟩ => rfl
  rw [after0_5]
  generalize hX : out0_5 (F := Ideal) (iblk m c 0 t) (iblk m c 1 t) (iblk m c 2 t) (iblk m c 3 t) = X
  refine Eq.trans ?_ (congrArg (group 768 512 (by omega) eighth (argX m c) (argG m c) (argW m c)) e).symm
  refine Eq.trans (congrArg X hy) ?_
  rw [← hX]
  exact block_5 m c t (y 0) (y 1)

/-- What point `t` leaves of the keys. -/
theorem block_6 (c : Dev nD) (t : Fin cfg0.N) (a : Fin 512) (b : Fin 128) :
    out0_6 (F := Ideal) (iblk m c 0 t) (iblk m c 1 t) (iblk m c 2 t) (iblk m c 3 t) (ix2 a b) = cols 512 128 (by omega) (argX m c) (argG m c) (argW m c) (ix2 (row t a) b) := by
  have e := pay7_blk m c t a ⟨1024 + b.val, by omega⟩ ⟨512 + b.val, by omega⟩ (fun k => col_2 m c k b)
  unfold out0_6
  simp only [r0_0, r0_1, r0_2, View.ld_unit_zero (S := S512x1024) hz, View.ld_unit_zero (S := S1x1024) hz, View.ld_unit_zero (S := S1024x1408) hz]
  refine (canon6_eq _ _ _ (ix2 a b)).trans ?_
  have hi : (ix6_0 (ix2 a b) : S512x1408.Idx) = ix2 a ⟨1024 + b.val, by omega⟩ := funext fun d => Fin.ext (by
    match d with | ⟨0, _⟩ => rfl | ⟨1, _⟩ => first | exact Nat.add_comm _ _ | exact (Nat.zero_add _).symm)
  simp only [E6, hi, e]
  rfl

/-- The keys after the run. -/
theorem final_6 (c : Dev nD) : (dats m 0 c).arrAt 6 cfg0.N = cols 512 128 (by omega) (argX m c) (argG m c) (argW m c) := by
  refine (dats m 0 c).arrAt_eq_of_covers 6 _ (by decide +kernel) fun t hf y => ?_
  obtain ⟨h0, h1⟩ := (idx_facts t).2.2.2.1
  have e : (((cfg0.win 6).blk t).view.emb y : S16384x128.Idx) = ix2 (row t (y 0)) (y 1) := funext fun d => Fin.ext (by
    match d with
    | ⟨0, _⟩ => show win0_6.index t 0 * 512 + 1 * (y 0).val = 512 * t.val + (y 0).val; rw [h0]; omega
    | ⟨1, _⟩ => show win0_6.index t 1 * 128 + 1 * (y 1).val = (y 1).val; rw [h1]; omega)
  have hy : ((cfg0.win 6).xinj (cfg0.grid.coords t) y : S512x128.Idx) = ix2 (n0 := 512) (n1 := 128) (y 0) (y 1) :=
    funext fun a => by match a with | ⟨0, _⟩ => rfl | ⟨1, _⟩ => rfl
  rw [after0_6]
  generalize hX : out0_6 (F := Ideal) (iblk m c 0 t) (iblk m c 1 t) (iblk m c 2 t) (iblk m c 3 t) = X
  refine Eq.trans ?_ (congrArg (cols 512 128 (by omega) (argX m c) (argG m c) (argW m c)) e).symm
  refine Eq.trans (congrArg X hy) ?_
  rw [← hX]
  exact block_6 m c t (y 0) (y 1)

/-- What point `t` leaves of the values. -/
theorem block_7 (c : Dev nD) (t : Fin cfg0.N) (a : Fin 512) (b : Fin 128) :
    out0_7 (F := Ideal) (iblk m c 0 t) (iblk m c 1 t) (iblk m c 2 t) (iblk m c 3 t) (ix2 a b) = cols 640 128 (by omega) (argX m c) (argG m c) (argW m c) (ix2 (row t a) b) := by
  have e := pay7_blk m c t a ⟨1152 + b.val, by omega⟩ ⟨640 + b.val, by omega⟩ (fun k => col_3 m c k b)
  unfold out0_7
  simp only [r0_0, r0_1, r0_2, View.ld_unit_zero (S := S512x1024) hz, View.ld_unit_zero (S := S1x1024) hz, View.ld_unit_zero (S := S1024x1408) hz]
  refine (canon7_eq _ _ _ (ix2 a b)).trans ?_
  have hi : (ix7_0 (ix2 a b) : S512x1408.Idx) = ix2 a ⟨1152 + b.val, by omega⟩ := funext fun d => Fin.ext (by
    match d with | ⟨0, _⟩ => rfl | ⟨1, _⟩ => first | exact Nat.add_comm _ _ | exact (Nat.zero_add _).symm)
  simp only [E7, hi, e]
  rfl

/-- The values after the run. -/
theorem final_7 (c : Dev nD) : (dats m 0 c).arrAt 7 cfg0.N = cols 640 128 (by omega) (argX m c) (argG m c) (argW m c) := by
  refine (dats m 0 c).arrAt_eq_of_covers 7 _ (by decide +kernel) fun t hf y => ?_
  obtain ⟨h0, h1⟩ := (idx_facts t).2.2.2.2.1
  have e : (((cfg0.win 7).blk t).view.emb y : S16384x128.Idx) = ix2 (row t (y 0)) (y 1) := funext fun d => Fin.ext (by
    match d with
    | ⟨0, _⟩ => show win0_7.index t 0 * 512 + 1 * (y 0).val = 512 * t.val + (y 0).val; rw [h0]; omega
    | ⟨1, _⟩ => show win0_7.index t 1 * 128 + 1 * (y 1).val = (y 1).val; rw [h1]; omega)
  have hy : ((cfg0.win 7).xinj (cfg0.grid.coords t) y : S512x128.Idx) = ix2 (n0 := 512) (n1 := 128) (y 0) (y 1) :=
    funext fun a => by match a with | ⟨0, _⟩ => rfl | ⟨1, _⟩ => rfl
  rw [after0_7]
  generalize hX : out0_7 (F := Ideal) (iblk m c 0 t) (iblk m c 1 t) (iblk m c 2 t) (iblk m c 3 t) = X
  refine Eq.trans ?_ (congrArg (cols 640 128 (by omega) (argX m c) (argG m c) (argW m c)) e).symm
  refine Eq.trans (congrArg X hy) ?_
  rw [← hX]
  exact block_7 m c t (y 0) (y 1)

/-- What point `t` leaves of the index keys. -/
theorem block_8 (c : Dev nD) (t : Fin cfg0.N) (a : Fin 512) (b : Fin 64) :
    out0_8 (F := Ideal) (iblk m c 0 t) (iblk m c 1 t) (iblk m c 2 t) (iblk m c 3 t) (ix2 a b) = cols 1280 64 (by omega) (argX m c) (argG m c) (argW m c) (ix2 (row t a) b) := by
  have e := pay7_blk m c t a ⟨1280 + b.val, by omega⟩ ⟨1280 + b.val, by omega⟩ (fun k => col_4 m c k b)
  unfold out0_8
  simp only [r0_0, r0_1, r0_2, View.ld_unit_zero (S := S512x1024) hz, View.ld_unit_zero (S := S1x1024) hz, View.ld_unit_zero (S := S1024x1408) hz]
  refine (canon8_eq _ _ _ (ix2 a b)).trans ?_
  have hi : (ix8_0 (ix2 a b) : S512x1408.Idx) = ix2 a ⟨1280 + b.val, by omega⟩ := funext fun d => Fin.ext (by
    match d with | ⟨0, _⟩ => rfl | ⟨1, _⟩ => first | exact Nat.add_comm _ _ | exact (Nat.zero_add _).symm)
  simp only [E8, hi, e]
  rfl

/-- The index keys after the run. -/
theorem final_8 (c : Dev nD) : (dats m 0 c).arrAt 8 cfg0.N = cols 1280 64 (by omega) (argX m c) (argG m c) (argW m c) := by
  refine (dats m 0 c).arrAt_eq_of_covers 8 _ (by decide +kernel) fun t hf y => ?_
  obtain ⟨h0, h1⟩ := (idx_facts t).2.2.2.2.2.1
  have e : (((cfg0.win 8).blk t).view.emb y : S16384x64.Idx) = ix2 (row t (y 0)) (y 1) := funext fun d => Fin.ext (by
    match d with
    | ⟨0, _⟩ => show win0_8.index t 0 * 512 + 1 * (y 0).val = 512 * t.val + (y 0).val; rw [h0]; omega
    | ⟨1, _⟩ => show win0_8.index t 1 * 64 + 1 * (y 1).val = (y 1).val; rw [h1]; omega)
  have hy : ((cfg0.win 8).xinj (cfg0.grid.coords t) y : S512x64.Idx) = ix2 (n0 := 512) (n1 := 64) (y 0) (y 1) :=
    funext fun a => by match a with | ⟨0, _⟩ => rfl | ⟨1, _⟩ => rfl
  rw [after0_8]
  generalize hX : out0_8 (F := Ideal) (iblk m c 0 t) (iblk m c 1 t) (iblk m c 2 t) (iblk m c 3 t) = X
  refine Eq.trans ?_ (congrArg (cols 1280 64 (by omega) (argX m c) (argG m c) (argW m c)) e).symm
  refine Eq.trans (congrArg X hy) ?_
  rw [← hX]
  exact block_8 m c t (y 0) (y 1)

/-- What point `t` leaves of the index heads' weights. -/
theorem block_9 (c : Dev nD) (t : Fin cfg0.N) (a : Fin 512) (b : Fin 8) :
    out0_9 (F := Ideal) (iblk m c 0 t) (iblk m c 1 t) (iblk m c 2 t) (iblk m c 3 t) (ix2 a b) = group 1344 8 (by omega) rootEighth (argX m c) (argG m c) (argW m c) (ix2 (row t a) b) := by
  have e := pay7_blk m c t a ⟨1344 + b.val, by omega⟩ ⟨1344 + b.val, by omega⟩ (fun k => col_5 m c k b)
  unfold out0_9 k0_pay13
  simp only [r0_0, r0_1, r0_2, View.ld_unit_zero (S := S512x1024) hz, View.ld_unit_zero (S := S1x1024) hz, View.ld_unit_zero (S := S1024x1408) hz]
  refine (canon9_eq _ _ _ (ix2 a b)).trans ?_
  have hi : (ix9_0 (ix2 a b) : S512x1408.Idx) = ix2 a ⟨1344 + b.val, by omega⟩ := funext fun d => Fin.ext (by
    match d with | ⟨0, _⟩ => rfl | ⟨1, _⟩ => first | exact Nat.add_comm _ _ | exact (Nat.zero_add _).symm)
  simp only [E9, hi, e]
  rfl

/-- The index heads' weights after the run. -/
theorem final_9 (c : Dev nD) : (dats m 0 c).arrAt 9 cfg0.N = group 1344 8 (by omega) rootEighth (argX m c) (argG m c) (argW m c) := by
  refine (dats m 0 c).arrAt_eq_of_covers 9 _ (by decide +kernel) fun t hf y => ?_
  obtain ⟨h0, h1⟩ := (idx_facts t).2.2.2.2.2.2.1
  have e : (((cfg0.win 9).blk t).view.emb y : S16384x8.Idx) = ix2 (row t (y 0)) (y 1) := funext fun d => Fin.ext (by
    match d with
    | ⟨0, _⟩ => show win0_9.index t 0 * 512 + 1 * (y 0).val = 512 * t.val + (y 0).val; rw [h0]; omega
    | ⟨1, _⟩ => show win0_9.index t 1 * 8 + 1 * (y 1).val = (y 1).val; rw [h1]; omega)
  have hy : ((cfg0.win 9).xinj (cfg0.grid.coords t) y : S512x8.Idx) = ix2 (n0 := 512) (n1 := 8) (y 0) (y 1) :=
    funext fun a => by match a with | ⟨0, _⟩ => rfl | ⟨1, _⟩ => rfl
  rw [after0_9]
  generalize hX : out0_9 (F := Ideal) (iblk m c 0 t) (iblk m c 1 t) (iblk m c 2 t) (iblk m c 3 t) = X
  refine Eq.trans ?_ (congrArg (group 1344 8 (by omega) rootEighth (argX m c) (argG m c) (argW m c)) e).symm
  refine Eq.trans (congrArg X hy) ?_
  rw [← hX]
  exact block_9 m c t (y 0) (y 1)

/-- What point `t` leaves of the recurrence's columns. -/
theorem block_10 (c : Dev nD) (t : Fin cfg0.N) (a : Fin 512) (b : Fin 1792) :
    out0_10 (F := Ideal) (iblk m c 0 t) (iblk m c 1 t) (iblk m c 2 t) (iblk m c 3 t) (ix2 a b) = cols 1352 1792 (by omega) (argX m c) (argG m c) (argW m c) (ix2 (row t a) b) := by
  unfold out0_10
  simp only [r0_0, r0_1, r0_7, r0_8, View.ld_unit_zero (S := S512x1024) hz, View.ld_unit_zero (S := S1x1024) hz, View.ld_unit_zero (S := S1024x1792) hz]
  rw [View.canon_unit_zero (S := S512x1792) hz]
  exact pay2_blk m c t a b

/-- The recurrence's columns after the run. -/
theorem final_10 (c : Dev nD) : (dats m 0 c).arrAt 10 cfg0.N = cols 1352 1792 (by omega) (argX m c) (argG m c) (argW m c) := by
  refine (dats m 0 c).arrAt_eq_of_covers 10 _ (by decide +kernel) fun t hf y => ?_
  obtain ⟨h0, h1⟩ := (idx_facts t).2.2.2.2.2.2.2.1
  have e : (((cfg0.win 10).blk t).view.emb y : S16384x1792.Idx) = ix2 (row t (y 0)) (y 1) := funext fun d => Fin.ext (by
    match d with
    | ⟨0, _⟩ => show win0_10.index t 0 * 512 + 1 * (y 0).val = 512 * t.val + (y 0).val; rw [h0]; omega
    | ⟨1, _⟩ => show win0_10.index t 1 * 1792 + 1 * (y 1).val = (y 1).val; rw [h1]; omega)
  have hy : ((cfg0.win 10).xinj (cfg0.grid.coords t) y : S512x1792.Idx) = ix2 (n0 := 512) (n1 := 1792) (y 0) (y 1) :=
    funext fun a => by match a with | ⟨0, _⟩ => rfl | ⟨1, _⟩ => rfl
  rw [after0_10]
  generalize hX : out0_10 (F := Ideal) (iblk m c 0 t) (iblk m c 1 t) (iblk m c 2 t) (iblk m c 3 t) = X
  refine Eq.trans ?_ (congrArg (cols 1352 1792 (by omega) (argX m c) (argG m c) (argW m c)) e).symm
  refine Eq.trans (congrArg X hy) ?_
  rw [← hX]
  exact block_10 m c t (y 0) (y 1)

/-- What point `t` leaves of the keys, transposed. -/
theorem block_11 (c : Dev nD) (t : Fin cfg0.N) (y : S1x128x512.Idx) (i : S8x128x2048.Idx)
    (h0 : (i 0).val = t.val / 4) (h1 : (i 1).val = (y 1).val) (h2 : (i 2).val = t.val % 4 * 512 + (y 2).val) :
    out0_11 (F := Ideal) (iblk m c 0 t) (iblk m c 1 t) (iblk m c 2 t) (iblk m c 3 t) y = colsT 512 128 (by omega) (argX m c) (argG m c) (argW m c) i := by
  have hy1 : (y 1).val < 128 := (y 1).isLt
  have e := pay7_blk m c t (y 2) ⟨1024 + (y 1).val, by omega⟩ ⟨512 + (y 1).val, by omega⟩ (fun k => col_2 m c k (y 1))
  unfold out0_11 k0_pay13
  simp only [r0_0, r0_1, r0_2, View.ld_unit_zero (S := S512x1024) hz, View.ld_unit_zero (S := S1x1024) hz, View.ld_unit_zero (S := S1024x1408) hz]
  refine (canon11_eq _ _ _ y).trans ?_
  have hi : (ix11_0 y : S512x1408.Idx) = ix2 (y 2) ⟨1024 + (y 1).val, by omega⟩ := funext fun d => Fin.ext (by
    match d with | ⟨0, _⟩ => rfl | ⟨1, _⟩ => exact Nat.add_comm _ _)
  show k0_pay7 _ _ _ (ix11_0 y) = _
  rw [hi]
  refine e.trans ?_
  unfold colsT
  have ht : t.val < 32 := t.isLt
  refine congrArg₂ (lin (argX m c) (argG m c) (argW m c)) (Fin.ext ?_) (Fin.ext ?_)
  · show 512 * t.val + (y 2).val = 2048 * (i 0).val + (i 2).val
    rw [h0, h2]; omega
  · show 512 + (y 1).val = 512 + (i 1).val
    rw [h1]

/-- The keys, transposed after the run. -/
theorem final_11 (c : Dev nD) : (dats m 0 c).arrAt 11 cfg0.N = colsT 512 128 (by omega) (argX m c) (argG m c) (argW m c) := by
  refine (dats m 0 c).arrAt_eq_of_covers 11 _ (by decide +kernel) fun t hf y => ?_
  obtain ⟨h0, h1, h2⟩ := (idx_facts t).2.2.2.2.2.2.2.2.2.2.2.1
  rw [after0_11]
  generalize hX : out0_11 (F := Ideal) (iblk m c 0 t) (iblk m c 1 t) (iblk m c 2 t) (iblk m c 3 t) = X
  have hb : ∀ (z : S1x128x512.Idx) (i : S8x128x2048.Idx), (i 0).val = t.val / 4 → (i 1).val = (z 1).val → (i 2).val = t.val % 4 * 512 + (z 2).val → X z = colsT 512 128 (by omega) (argX m c) (argG m c) (argW m c) i := by
    intro z i e0 e1 e2
    rw [← hX]
    exact block_11 m c t z i e0 e1 e2
  have hy0 : (y 0).val < 1 := (y 0).isLt
  refine hb ((cfg0.win 11).xinj (cfg0.grid.coords t) y) _ ?_ ?_ ?_
  · show win0_11.index t 0 * 1 + 1 * (y 0).val = _; rw [h0]; omega
  · show win0_11.index t 1 * 128 + 1 * (y 1).val = (y 1).val; rw [h1]; omega
  · show win0_11.index t 2 * 512 + 1 * (y 2).val = t.val % 4 * 512 + (y 2).val; rw [h2]; omega

/-- What point `t` leaves of the values, transposed. -/
theorem block_12 (c : Dev nD) (t : Fin cfg0.N) (y : S1x128x512.Idx) (i : S8x128x2048.Idx)
    (h0 : (i 0).val = t.val / 4) (h1 : (i 1).val = (y 1).val) (h2 : (i 2).val = t.val % 4 * 512 + (y 2).val) :
    out0_12 (F := Ideal) (iblk m c 0 t) (iblk m c 1 t) (iblk m c 2 t) (iblk m c 3 t) y = colsT 640 128 (by omega) (argX m c) (argG m c) (argW m c) i := by
  have hy1 : (y 1).val < 128 := (y 1).isLt
  have e := pay7_blk m c t (y 2) ⟨1152 + (y 1).val, by omega⟩ ⟨640 + (y 1).val, by omega⟩ (fun k => col_3 m c k (y 1))
  unfold out0_12 k0_pay13
  simp only [r0_0, r0_1, r0_2, View.ld_unit_zero (S := S512x1024) hz, View.ld_unit_zero (S := S1x1024) hz, View.ld_unit_zero (S := S1024x1408) hz]
  refine (canon12_eq _ _ _ y).trans ?_
  have hi : (ix12_0 y : S512x1408.Idx) = ix2 (y 2) ⟨1152 + (y 1).val, by omega⟩ := funext fun d => Fin.ext (by
    match d with | ⟨0, _⟩ => rfl | ⟨1, _⟩ => exact Nat.add_comm _ _)
  show k0_pay7 _ _ _ (ix12_0 y) = _
  rw [hi]
  refine e.trans ?_
  unfold colsT
  have ht : t.val < 32 := t.isLt
  refine congrArg₂ (lin (argX m c) (argG m c) (argW m c)) (Fin.ext ?_) (Fin.ext ?_)
  · show 512 * t.val + (y 2).val = 2048 * (i 0).val + (i 2).val
    rw [h0, h2]; omega
  · show 640 + (y 1).val = 640 + (i 1).val
    rw [h1]

/-- The values, transposed after the run. -/
theorem final_12 (c : Dev nD) : (dats m 0 c).arrAt 12 cfg0.N = colsT 640 128 (by omega) (argX m c) (argG m c) (argW m c) := by
  refine (dats m 0 c).arrAt_eq_of_covers 12 _ (by decide +kernel) fun t hf y => ?_
  obtain ⟨h0, h1, h2⟩ := (idx_facts t).2.2.2.2.2.2.2.2.2.2.2.2.1
  rw [after0_12]
  generalize hX : out0_12 (F := Ideal) (iblk m c 0 t) (iblk m c 1 t) (iblk m c 2 t) (iblk m c 3 t) = X
  have hb : ∀ (z : S1x128x512.Idx) (i : S8x128x2048.Idx), (i 0).val = t.val / 4 → (i 1).val = (z 1).val → (i 2).val = t.val % 4 * 512 + (z 2).val → X z = colsT 640 128 (by omega) (argX m c) (argG m c) (argW m c) i := by
    intro z i e0 e1 e2
    rw [← hX]
    exact block_12 m c t z i e0 e1 e2
  have hy0 : (y 0).val < 1 := (y 0).isLt
  refine hb ((cfg0.win 12).xinj (cfg0.grid.coords t) y) _ ?_ ?_ ?_
  · show win0_12.index t 0 * 1 + 1 * (y 0).val = _; rw [h0]; omega
  · show win0_12.index t 1 * 128 + 1 * (y 1).val = (y 1).val; rw [h1]; omega
  · show win0_12.index t 2 * 512 + 1 * (y 2).val = t.val % 4 * 512 + (y 2).val; rw [h2]; omega

/-- What point `t` leaves of the index keys, transposed. -/
theorem block_13 (c : Dev nD) (t : Fin cfg0.N) (y : S1x64x512.Idx) (i : S8x64x2048.Idx)
    (h0 : (i 0).val = t.val / 4) (h1 : (i 1).val = (y 1).val) (h2 : (i 2).val = t.val % 4 * 512 + (y 2).val) :
    out0_13 (F := Ideal) (iblk m c 0 t) (iblk m c 1 t) (iblk m c 2 t) (iblk m c 3 t) y = colsT 1280 64 (by omega) (argX m c) (argG m c) (argW m c) i := by
  have hy1 : (y 1).val < 64 := (y 1).isLt
  have e := pay7_blk m c t (y 2) ⟨1280 + (y 1).val, by omega⟩ ⟨1280 + (y 1).val, by omega⟩ (fun k => col_4 m c k (y 1))
  unfold out0_13 k0_pay13
  simp only [r0_0, r0_1, r0_2, View.ld_unit_zero (S := S512x1024) hz, View.ld_unit_zero (S := S1x1024) hz, View.ld_unit_zero (S := S1024x1408) hz]
  refine (canon13_eq _ _ _ y).trans ?_
  have hi : (ix13_0 y : S512x1408.Idx) = ix2 (y 2) ⟨1280 + (y 1).val, by omega⟩ := funext fun d => Fin.ext (by
    match d with | ⟨0, _⟩ => rfl | ⟨1, _⟩ => exact Nat.add_comm _ _)
  show k0_pay7 _ _ _ (ix13_0 y) = _
  rw [hi]
  refine e.trans ?_
  unfold colsT
  have ht : t.val < 32 := t.isLt
  refine congrArg₂ (lin (argX m c) (argG m c) (argW m c)) (Fin.ext ?_) (Fin.ext ?_)
  · show 512 * t.val + (y 2).val = 2048 * (i 0).val + (i 2).val
    rw [h0, h2]; omega
  · show 1280 + (y 1).val = 1280 + (i 1).val
    rw [h1]

/-- The index keys, transposed after the run. -/
theorem final_13 (c : Dev nD) : (dats m 0 c).arrAt 13 cfg0.N = colsT 1280 64 (by omega) (argX m c) (argG m c) (argW m c) := by
  refine (dats m 0 c).arrAt_eq_of_covers 13 _ (by decide +kernel) fun t hf y => ?_
  obtain ⟨h0, h1, h2⟩ := (idx_facts t).2.2.2.2.2.2.2.2.2.2.2.2.2
  rw [after0_13]
  generalize hX : out0_13 (F := Ideal) (iblk m c 0 t) (iblk m c 1 t) (iblk m c 2 t) (iblk m c 3 t) = X
  have hb : ∀ (z : S1x64x512.Idx) (i : S8x64x2048.Idx), (i 0).val = t.val / 4 → (i 1).val = (z 1).val → (i 2).val = t.val % 4 * 512 + (z 2).val → X z = colsT 1280 64 (by omega) (argX m c) (argG m c) (argW m c) i := by
    intro z i e0 e1 e2
    rw [← hX]
    exact block_13 m c t z i e0 e1 e2
  have hy0 : (y 0).val < 1 := (y 0).isLt
  refine hb ((cfg0.win 13).xinj (cfg0.grid.coords t) y) _ ?_ ?_ ?_
  · show win0_13.index t 0 * 1 + 1 * (y 0).val = _; rw [h0]; omega
  · show win0_13.index t 1 * 64 + 1 * (y 1).val = (y 1).val; rw [h1]; omega
  · show win0_13.index t 2 * 512 + 1 * (y 2).val = t.val % 4 * 512 + (y 2).val; rw [h2]; omega

end Cert.InProjIdeal.Hand

end
-- ==== Proof.InProjClaims.lean ====
/- The claims about the input projection's call: the frames of its three programs, and the equality of the call and its reference. -/
module

public import proofs.«01_k».proof.Defs
public import proofs.«01_k».proof.Proof.InProjRef
public import proofs.«01_k».proof.Proof.InProjRun
public import proofs.«01_k».proof.Proof.Gen.InProj.Frame
public import proofs.«01_k».proof.Proof.Gen.InProjRefIdeal.Run

@[expose] public section

noncomputable section

namespace Cert.InProjClaims

open Idealize.ShloMosaic Idealize.SL.Sem Cert.Rows

/-- The kernel, over the device's numbers, leaves its arguments unchanged. -/
theorem frame_p : Cert.quiescent_InProj := fun m ρ _ => Cert.InProj.Gen.frame m ρ

/-- So does the kernel over the reals. -/
theorem frame_i : Cert.quiescent_InProjIdeal := fun m ρ _ => Cert.InProjIdeal.Gen.frame m ρ

/-- So does the reference over the reals. -/
theorem frame_r : Cert.quiescent_InProjRefIdeal := fun m ρ _ =>
  (θ_run Cert.InProjRefIdeal.defs _ _).mono (fun r h => ⟨fun c => (h c).2.2.2.2.2.2.2.2.2.2, sem_eq_zero_of_no_sems (by decide) r.2⟩)
    (Cert.InProjRefIdeal.Value.run (F := Ideal) m ρ)

/-- The kernel over the reals is the kernel with every operation read at its ideal meaning; no rule changes it. -/
theorem preserves : Cert.preserves_InProj_InProjIdeal := trivial

/-- The kernel and the reference give the same ten arrays of reals from the same arguments. -/
theorem algebraic : Cert.algebraic_InProjIdeal_InProjRefIdeal := by
  intro m ρ m' ρ' _ hagree
  have same : ∀ (c : Dev Cert.InProjIdeal.nD) {α : Type} (f : FVec Ideal Cert.InProjIdeal.S8x2048x1024 .f32 → FVec Ideal Cert.InProjIdeal.S1x1024 .f32 → FVec Ideal Cert.InProjIdeal.S1x1024x5192 .f32 → α),
      f (m' ((c.tc : Thread Cert.InProjRefIdeal.nD Cert.InProjRefIdeal.τ).loc Cert.InProjRefIdeal.main_arg0)) (m' ((c.tc : Thread Cert.InProjRefIdeal.nD Cert.InProjRefIdeal.τ).loc Cert.InProjRefIdeal.main_arg1))
        (m' ((c.tc : Thread Cert.InProjRefIdeal.nD Cert.InProjRefIdeal.τ).loc Cert.InProjRefIdeal.main_arg2)) = f (Cert.InProjIdeal.Hand.argX m c) (Cert.InProjIdeal.Hand.argG m c) (Cert.InProjIdeal.Hand.argW m c) := by
    intro c α f
    obtain ⟨e0, e1, e2⟩ := hagree c
    rw [e0, e1, e2]
  refine ⟨fun c => group 0 512 (by omega) eighth (Cert.InProjIdeal.Hand.argX m c) (Cert.InProjIdeal.Hand.argG m c) (Cert.InProjIdeal.Hand.argW m c), fun c => group 768 512 (by omega) eighth (Cert.InProjIdeal.Hand.argX m c) (Cert.InProjIdeal.Hand.argG m c) (Cert.InProjIdeal.Hand.argW m c), fun c => cols 512 128 (by omega) (Cert.InProjIdeal.Hand.argX m c) (Cert.InProjIdeal.Hand.argG m c) (Cert.InProjIdeal.Hand.argW m c), fun c => cols 640 128 (by omega) (Cert.InProjIdeal.Hand.argX m c) (Cert.InProjIdeal.Hand.argG m c) (Cert.InProjIdeal.Hand.argW m c), fun c => cols 1280 64 (by omega) (Cert.InProjIdeal.Hand.argX m c) (Cert.InProjIdeal.Hand.argG m c) (Cert.InProjIdeal.Hand.argW m c), fun c => group 1344 8 (by omega) rootEighth (Cert.InProjIdeal.Hand.argX m c) (Cert.InProjIdeal.Hand.argG m c) (Cert.InProjIdeal.Hand.argW m c), fun c => cols 1352 1792 (by omega) (Cert.InProjIdeal.Hand.argX m c) (Cert.InProjIdeal.Hand.argG m c) (Cert.InProjIdeal.Hand.argW m c), fun c => colsT 512 128 (by omega) (Cert.InProjIdeal.Hand.argX m c) (Cert.InProjIdeal.Hand.argG m c) (Cert.InProjIdeal.Hand.argW m c), fun c => colsT 640 128 (by omega) (Cert.InProjIdeal.Hand.argX m c) (Cert.InProjIdeal.Hand.argG m c) (Cert.InProjIdeal.Hand.argW m c), fun c => colsT 1280 64 (by omega) (Cert.InProjIdeal.Hand.argX m c) (Cert.InProjIdeal.Hand.argG m c) (Cert.InProjIdeal.Hand.argW m c), ?_, ?_⟩
  · exact (θ_run Cert.InProjIdeal.defs _ _).mono (fun r h c => ⟨(h c).1.trans (Cert.InProjIdeal.Hand.final_4 m c), (h c).2.1.trans (Cert.InProjIdeal.Hand.final_5 m c), (h c).2.2.1.trans (Cert.InProjIdeal.Hand.final_6 m c), (h c).2.2.2.1.trans (Cert.InProjIdeal.Hand.final_7 m c), (h c).2.2.2.2.1.trans (Cert.InProjIdeal.Hand.final_8 m c), (h c).2.2.2.2.2.1.trans (Cert.InProjIdeal.Hand.final_9 m c), (h c).2.2.2.2.2.2.1.trans (Cert.InProjIdeal.Hand.final_10 m c), (h c).2.2.2.2.2.2.2.1.trans (Cert.InProjIdeal.Hand.final_11 m c), (h c).2.2.2.2.2.2.2.2.1.trans (Cert.InProjIdeal.Hand.final_12 m c), (h c).2.2.2.2.2.2.2.2.2.1.trans (Cert.InProjIdeal.Hand.final_13 m c), (h c).2.2.2.2.2.2.2.2.2.2⟩)
      (Cert.InProjIdeal.Value.run_blocks (F := Ideal) m ρ)
  · exact (θ_run Cert.InProjRefIdeal.defs _ _).mono (fun r h c => ⟨((h c).1.trans (Cert.InProjRefIdeal.Read.val_main_v30_eq _ _ _)).trans ((Cert.InProjRefIdeal.Hand.v30_fun _ _ _).trans (same c (group 0 512 (by omega) eighth))),
      ((h c).2.1.trans (Cert.InProjRefIdeal.Read.val_main_v33_eq _ _ _)).trans ((Cert.InProjRefIdeal.Hand.v33_fun _ _ _).trans (same c (group 768 512 (by omega) eighth))),
      ((h c).2.2.1.trans (Cert.InProjRefIdeal.Read.val_main_v18_eq _ _ _)).trans ((Cert.InProjRefIdeal.Hand.v18_fun _ _ _).trans (same c (cols 512 128 (by omega)))),
      ((h c).2.2.2.1.trans (Cert.InProjRefIdeal.Read.val_main_v19_eq _ _ _)).trans ((Cert.InProjRefIdeal.Hand.v19_fun _ _ _).trans (same c (cols 640 128 (by omega)))),
      ((h c).2.2.2.2.1.trans (Cert.InProjRefIdeal.Read.val_main_v21_eq _ _ _)).trans ((Cert.InProjRefIdeal.Hand.v21_fun _ _ _).trans (same c (cols 1280 64 (by omega)))),
      ((h c).2.2.2.2.2.1.trans (Cert.InProjRefIdeal.Read.val_main_v27_eq _ _ _)).trans ((Cert.InProjRefIdeal.Hand.v27_fun _ _ _).trans (same c (group 1344 8 (by omega) rootEighth))),
      ((h c).2.2.2.2.2.2.1.trans (Cert.InProjRefIdeal.Read.val_main_v23_eq _ _ _)).trans ((Cert.InProjRefIdeal.Hand.v23_fun _ _ _).trans (same c (cols 1352 1792 (by omega)))),
      ((h c).2.2.2.2.2.2.2.1.trans (Cert.InProjRefIdeal.Read.val_main_v35_eq _ _ _)).trans ((Cert.InProjRefIdeal.Hand.v35_fun _ _ _).trans (same c (colsT 512 128 (by omega)))),
      ((h c).2.2.2.2.2.2.2.2.1.trans (Cert.InProjRefIdeal.Read.val_main_v37_eq _ _ _)).trans ((Cert.InProjRefIdeal.Hand.v37_fun _ _ _).trans (same c (colsT 640 128 (by omega)))),
      ((h c).2.2.2.2.2.2.2.2.2.1.trans (Cert.InProjRefIdeal.Read.val_main_v39_eq _ _ _)).trans ((Cert.InProjRefIdeal.Hand.v39_fun _ _ _).trans (same c (colsT 1280 64 (by omega)))), (h c).2.2.2.2.2.2.2.2.2.2⟩)
      (Cert.InProjRefIdeal.Value.run (F := Ideal) m' ρ')

end Cert.InProjClaims
-- ==== Proof.TailSRef.lean ====
/- The sample batch. The tail call's reference: its result array, row by row. -/
module

public import proofs.«01_k».proof.Proof.HostRead
public import proofs.«01_k».proof.Proof.Gen.TailSRefIdeal.Read

@[expose] public section

noncomputable section

namespace Cert.TailSRefIdeal.Hand

open Cert.TailSRefIdeal Cert.TailSRefIdeal.Gen Cert.TailSRefIdeal.Read Idealize.ShloMosaic Idealize.SL.Sem Cert.Rows

/-- The reference's root-mean-square normalisation of every row, as array operations. -/
def rmsR (x : FVec Ideal S512x1024 .f32) (g : FVec Ideal S1024 .f32) : FVec Ideal S512x1024 .f32 :=
  mulf (mulf x (broadcastInDim S512x1024 ![0, 1] bcast_S512x1_S512x1024_0_1 (Host.rsqrt (addf (Host.divf
    (broadcastInDim S512x1 ![0] bcast_S512_S512x1_0 (Host.reduceAdd (mulf x x) (val_main_cst (F := Ideal)) reducesTo_S512x1024_S512_d1 h_S_))
    (broadcastInDim S512x1 ![] bcast_S_S512x1 (val_main_cst_0 (F := Ideal)))) (broadcastInDim S512x1 ![] bcast_S_S512x1 (val_main_cst_1 (F := Ideal)))))))
    (broadcastInDim S512x1024 ![0, 1] bcast_S1x1024_S512x1024_0_1 (broadcastInDim S1x1024 ![1] bcast_S1024_S1x1024_1 g))

/-- The sum of a row's squares. -/
theorem sq_apply (x : FVec Ideal S512x1024 .f32) (i : Fin 512) :
    Host.reduceAdd (mulf x x) (constant S_ .f32 0x00000000#32 : FVec Ideal S_ .f32) reducesTo_S512x1024_S512_d1 h_S_ (ix1 i) = ∑ k : Fin 1024, x (ix2 i k) * x (ix2 i k) :=
  hostSum_apply reducesTo_S512x1024_S512_d1 (by decide) h_S_ (mulf x x) i

/-- It is `Rows.rms` of each row. -/
theorem rmsR_apply (x : FVec Ideal S512x1024 .f32) (g : FVec Ideal S1024 .f32) (i : Fin 512) (j : Fin 1024) :
    rmsR x g (ix2 i j) = rms (fun k => x (ix2 i k)) (fun k => g (ix1 k)) j := by
  unfold rmsR rms val_main_cst val_main_cst_0 val_main_cst_1
  pointwise [sq_apply]

/-- A sigmoid, as the reference writes it. -/
def sigR (x : FVec Ideal S512x1024 .f32) : FVec Ideal S512x1024 .f32 :=
  Host.divf (broadcastInDim S512x1024 ![] bcast_S_S512x1024 (val_main_cst_3 (F := Ideal)))
    (addf (broadcastInDim S512x1024 ![] bcast_S_S512x1024 (val_main_cst_2 (F := Ideal))) (Host.exp (Host.negf x)))

/-- The sigmoid, at an entry. -/
theorem sigR_apply (x : FVec Ideal S512x1024 .f32) (i : Fin 512) (j : Fin 1024) : sigR x (ix2 i j) = Ideal.logistic (x (ix2 i j)) := by
  unfold sigR Ideal.logistic val_main_cst_3 val_main_cst_2
  pointwise

/-- The gates and the two projections, as the reference writes them. -/
def mixR (h : FVec Ideal S512x1024 .f32) (win : FVec Ideal S1024x5192 .f32) (att rw : FVec Ideal S512x512 .f32) (wa wr : FVec Ideal S512x1024 .f32) :
    FVec Ideal S512x1024 .f32 :=
  addf (mulf (sigR (extractStridedSlice S512x1024 ![0, 3144] (Host.dotGeneral dot_S512x1024_S1024x5192_S512x5192_1_0_0_1_n_n none h win) slices_S512x5192_S512x1024_0_3144))
      (Host.dotGeneral dot_S512x512_S512x1024_S512x1024_1_0_0_1_n_n none att wa))
    (mulf (sigR (extractStridedSlice S512x1024 ![0, 4168] (Host.dotGeneral dot_S512x1024_S1024x5192_S512x5192_1_0_0_1_n_n none h win) slices_S512x5192_S512x1024_0_4168))
      (Host.dotGeneral dot_S512x512_S512x1024_S512x1024_1_0_0_1_n_n none rw wr))

/-- They are `Rows.mix` of each row. -/
theorem mixR_apply (h : FVec Ideal S512x1024 .f32) (win : FVec Ideal S1024x5192 .f32) (att rw : FVec Ideal S512x512 .f32) (wa wr : FVec Ideal S512x1024 .f32)
    (i : Fin 512) (j : Fin 1024) :
    mixR h win att rw wa wr (ix2 i j) = mix (fun k => h (ix2 i k)) (fun k l => win (ix2 k ⟨3144 + l.val, by omega⟩)) (fun k l => win (ix2 k ⟨4168 + l.val, by omega⟩))
      (fun k => att (ix2 i k)) (fun k => rw (ix2 i k)) (fun k l => wa (ix2 k l)) (fun k l => wr (ix2 k l)) j := by
  unfold mixR
  simp only [addf_apply, mulf_apply, sigR_apply]
  rw [extractStridedSlice_apply ![0, 3144] _ _ (ix2 i j) (ix2 i ⟨3144 + j.val, by omega⟩) (by intro a; match a with | ⟨0, _⟩ => exact (Nat.zero_add _).symm | ⟨1, _⟩ => rfl),
    extractStridedSlice_apply ![0, 4168] _ _ (ix2 i j) (ix2 i ⟨4168 + j.val, by omega⟩) (by intro a; match a with | ⟨0, _⟩ => exact (Nat.zero_add _).symm | ⟨1, _⟩ => rfl),
    hostDot_apply dot_S512x1024_S1024x5192_S512x5192_1_0_0_1_n_n rfl, hostDot_apply dot_S512x1024_S1024x5192_S512x5192_1_0_0_1_n_n rfl,
    hostDot_apply dot_S512x512_S512x1024_S512x1024_1_0_0_1_n_n rfl, hostDot_apply dot_S512x512_S512x1024_S512x1024_1_0_0_1_n_n rfl]
  rfl

/-- The residual, as the reference writes it. -/
def residR (x mx : FVec Ideal S512x1024 .f32) (wo : FVec Ideal S1024x1024 .f32) : FVec Ideal S512x1024 .f32 :=
  addf x (Host.dotGeneral dot_S512x1024_S1024x1024_S512x1024_1_0_0_1_n_n none mx wo)

/-- The residual, at an entry. -/
theorem residR_apply (x mx : FVec Ideal S512x1024 .f32) (wo : FVec Ideal S1024x1024 .f32) (i : Fin 512) (j : Fin 1024) :
    residR x mx wo (ix2 i j) = resid (fun k => x (ix2 i k)) (fun k => mx (ix2 i k)) (fun k l => wo (ix2 k l)) j := by
  unfold residR
  rw [addf_apply, hostDot_apply dot_S512x1024_S1024x1024_S512x1024_1_0_0_1_n_n rfl]
  rfl

/-- The feed-forward block's hidden layer before its rectifier. -/
def upR (x : FVec Ideal S512x1024 .f32) (g : FVec Ideal S1024 .f32) (w1 : FVec Ideal S1024x4096 .f32) : FVec Ideal S512x4096 .f32 :=
  maximumf (Host.dotGeneral dot_S512x1024_S1024x4096_S512x4096_1_0_0_1_n_n none (rmsR x g) w1) (val_main_call0_v0 (F := Ideal))

/-- The feed-forward block, as the reference writes it. -/
def mlpR (x : FVec Ideal S512x1024 .f32) (g : FVec Ideal S1024 .f32) (w1 : FVec Ideal S1024x4096 .f32) (w2 : FVec Ideal S4096x1024 .f32) : FVec Ideal S512x1024 .f32 :=
  addf x (Host.dotGeneral dot_S512x4096_S4096x1024_S512x1024_1_0_0_1_n_n none (mulf (upR x g w1) (upR x g w1)) w2)

/-- The rectified hidden layer, an entry. -/
theorem upR_apply (x : FVec Ideal S512x1024 .f32) (g : FVec Ideal S1024 .f32) (w1 : FVec Ideal S1024x4096 .f32) (i : Fin 512) (j : Fin 4096) :
    upR x g w1 (ix2 i j) = max (dot (rms (fun k => x (ix2 i k)) (fun k => g (ix1 k))) (fun k l => w1 (ix2 k l)) j) 0 := by
  unfold upR
  have h0 : (val_main_call0_v0 (F := Ideal)) (ix2 i j) = (0 : EReal) := by
    rw [val_main_call0_v0_apply]; exact Ideal.ofBits_zero_f32
  show max _ _ = _
  rw [h0, hostDot_apply dot_S512x1024_S1024x4096_S512x4096_1_0_0_1_n_n rfl]
  simp only [rmsR_apply]
  rfl

/-- The feed-forward block, at an entry. -/
theorem mlpR_apply (x : FVec Ideal S512x1024 .f32) (g : FVec Ideal S1024 .f32) (w1 : FVec Ideal S1024x4096 .f32) (w2 : FVec Ideal S4096x1024 .f32) (i : Fin 512) (j : Fin 1024) :
    mlpR x g w1 w2 (ix2 i j) = mlp (fun k => x (ix2 i k)) (fun k => g (ix1 k)) (fun k l => w1 (ix2 k l)) (fun k l => w2 (ix2 k l)) j := by
  unfold mlpR
  rw [addf_apply, hostDot_apply dot_S512x4096_S4096x1024_S512x1024_1_0_0_1_n_n rfl]
  simp only [mulf_apply, upR_apply]
  rfl

variable {F : FTy → Type}

/-- The reference's result is the composition of these. -/
theorem v85_eq (x0 : FVec Ideal S32x16x1024 .f32) (x1 x2 : FVec Ideal S32x16x512 .bf16) (x3 : FVec Ideal S1x1024 .f32) (x4 : FVec Ideal S1x1024x5192 .f32)
    (x5 x6 : FVec Ideal S1x512x1024 .f32) (x7 : FVec Ideal S1x1024x1024 .f32) (x8 : FVec Ideal S1x1024 .f32) (x9 : FVec Ideal S1x1024x4096 .f32)
    (x10 : FVec Ideal S1x4096x1024 .f32) (x11 : FVec Ideal S1024 .f32) :
    val_main_v85 (F := Ideal) x0 x1 x2 x3 x4 x5 x6 x7 x8 x9 x10 x11 =
      rmsR (mlpR (residR (val_main_v0 (F := Ideal) x0) (mixR (rmsR (val_main_v0 (F := Ideal) x0) (val_main_v5 (F := Ideal) x3)) (val_main_v19 (F := Ideal) x4)
        (val_main_v2 (F := Ideal) x1) (val_main_v4 (F := Ideal) x2) (val_main_v30 (F := Ideal) x5) (val_main_v32 (F := Ideal) x6)) (val_main_v49 (F := Ideal) x7))
        (val_main_v52 (F := Ideal) x8) (val_main_v66 (F := Ideal) x9) (val_main_v70 (F := Ideal) x10)) x11 := rfl

/-- The reference's result, at an index. -/
theorem v85_apply (x0 : FVec Ideal S32x16x1024 .f32) (x1 x2 : FVec Ideal S32x16x512 .bf16) (x3 : FVec Ideal S1x1024 .f32) (x4 : FVec Ideal S1x1024x5192 .f32)
    (x5 x6 : FVec Ideal S1x512x1024 .f32) (x7 : FVec Ideal S1x1024x1024 .f32) (x8 : FVec Ideal S1x1024 .f32) (x9 : FVec Ideal S1x1024x4096 .f32)
    (x10 : FVec Ideal S1x4096x1024 .f32) (x11 : FVec Ideal S1024 .f32) (i : Fin 512) (j : Fin 1024) :
    val_main_v85 (F := Ideal) x0 x1 x2 x3 x4 x5 x6 x7 x8 x9 x10 x11 (ix2 i j) =
      tailAll (fun r k => val_main_v0 (F := Ideal) x0 (ix2 r k)) (fun r k => val_main_v2 (F := Ideal) x1 (ix2 r k)) (fun r k => val_main_v4 (F := Ideal) x2 (ix2 r k))
        (fun k => val_main_v5 (F := Ideal) x3 (ix1 k)) (fun k l => val_main_v19 (F := Ideal) x4 (ix2 k l)) (fun k l => val_main_v30 (F := Ideal) x5 (ix2 k l))
        (fun k l => val_main_v32 (F := Ideal) x6 (ix2 k l)) (fun k l => val_main_v49 (F := Ideal) x7 (ix2 k l)) (fun k => val_main_v52 (F := Ideal) x8 (ix1 k))
        (fun k l => val_main_v66 (F := Ideal) x9 (ix2 k l)) (fun k l => val_main_v70 (F := Ideal) x10 (ix2 k l)) (fun k => x11 (ix1 k)) i j := by
  rw [v85_eq, rmsR_apply]
  simp only [mlpR_apply, residR_apply, mixR_apply, rmsR_apply]
  rfl

end Cert.TailSRefIdeal.Hand

end
-- ==== Proof.TailSKernel.lean ====
/- The sample batch. The tail call's stored block, element by element: row `i` of the block is `Rows.tail` of row `i` of its operands. -/
module

public import proofs.«01_k».proof.Proof.Rows
public import proofs.«01_k».proof.Proof.Gen.TailSIdeal.Value
public import Idealize.ShloMosaic.Lib.Pointwise.Tactic
public import Idealize.ShloMosaic.Lib.ValueIdx

@[expose] public section

noncomputable section

namespace Cert.TailSIdeal.Hand

open Cert.TailSIdeal Cert.TailSIdeal.Gen Idealize.ShloMosaic Cert.Rows

/-- The block's root-mean-square normalisation as vector operations. -/
def rmsV (x : FVec Ideal S256x1024 .f32) (g : FVec Ideal S1x1024 .f32) : FVec Ideal S256x1024 .f32 :=
  mulf (mulf x (broadcastTo S256x1024 (rsqrt (addf (divf (shapeCast S256x1 (multiReduction .add [1] S256 (mulf x x) 0x00000000#32
    reduces_S256x1024_S256 (.inl rfl) rfl) shapeCasts_S256_S256x1) (broadcast S256x1 (Scalar.ofBits .f32 0x44800000#32)))
    (broadcast S256x1 (Scalar.ofBits .f32 0x358637BD#32)))) broadcasts_S256x1_S256x1024))
    (broadcastTo S256x1024 g broadcasts_S1x1024_S256x1024)

/-- It is `Rows.rms` of each row. -/
theorem rmsV_apply (x : FVec Ideal S256x1024 .f32) (g : FVec Ideal S1x1024 .f32) (i : Fin 256) (j : Fin 1024) :
    rmsV x g (ix2 i j) = rms (fun k => x (ix2 i k)) (fun k => g (ix2 0 k)) j := by
  have e : shapeCast S256x1 (multiReduction .add [1] S256 (mulf x x) 0x00000000#32 reduces_S256x1024_S256 (.inl rfl) rfl)
      shapeCasts_S256_S256x1 (ix2 i 0) = ∑ k : Fin 1024, x (ix2 i k) * x (ix2 i k) := by
    rw [shapeCast_apply _ _ _ (ix1 i : S256.Idx) (by rfl)]
    refine (Ideal.multiReduction_add_single _ _ _ _ _ _).trans ?_
    refine Finset.sum_congr rfl fun k _ => ?_
    have h : (reduces_S256x1024_S256.lift (ix1 i : S256.Idx) k : S256x1024.Idx) = ix2 i k := funext fun a => Fin.ext (by
      match a with | ⟨0, _⟩ => rfl | ⟨1, _⟩ => rfl)
    rw [h]
    rfl
  unfold rmsV rms
  pointwise [e]

/-- The gated sum of the two projections, from the normalised block, as vector operations. -/
def mixV (h : FVec Ideal S256x1024 .f32) (wg : FVec Ideal S1024x2048 .bf16) (a : FVec Ideal S256x512 .bf16) (wa : FVec Ideal S512x1024 .bf16)
    (r : FVec Ideal S256x512 .bf16) (wr : FVec Ideal S512x1024 .bf16) : FVec Ideal S256x1024 .f32 :=
  addf (mulf (extractStridedSlice S256x1024 ![0, 0] (logistic (matmul dot_S256x1024_S1024x2048_S256x2048_1_0_0_1_n_n none
      (truncf .bf16 h bitsLt_bf16_f32) (shapeCast S1024x2048 wg shapeCasts_S1024x2048_S1024x2048)
      (constant S256x2048 .f32 0x00000000#32))) slices_S256x2048_o0_0_S256x1024)
    (matmul dot_S256x512_S512x1024_S256x1024_1_0_0_1_n_n none (shapeCast S256x512 a shapeCasts_S256x512_S256x512)
      (shapeCast S512x1024 wa shapeCasts_S512x1024_S512x1024) (constant S256x1024 .f32 0x00000000#32)))
   (mulf (extractStridedSlice S256x1024 ![0, 1024] (logistic (matmul dot_S256x1024_S1024x2048_S256x2048_1_0_0_1_n_n none
      (truncf .bf16 h bitsLt_bf16_f32) (shapeCast S1024x2048 wg shapeCasts_S1024x2048_S1024x2048)
      (constant S256x2048 .f32 0x00000000#32))) slices_S256x2048_o0_1024_S256x1024)
    (matmul dot_S256x512_S512x1024_S256x1024_1_0_0_1_n_n none (shapeCast S256x512 r shapeCasts_S256x512_S256x512)
      (shapeCast S512x1024 wr shapeCasts_S512x1024_S512x1024) (constant S256x1024 .f32 0x00000000#32)))

/-- It is `Rows.mix` of each row, the gate weights the two halves of the wide matrix. -/
theorem mixV_apply (h : FVec Ideal S256x1024 .f32) (wg : FVec Ideal S1024x2048 .bf16) (a : FVec Ideal S256x512 .bf16) (wa : FVec Ideal S512x1024 .bf16)
    (r : FVec Ideal S256x512 .bf16) (wr : FVec Ideal S512x1024 .bf16) (i : Fin 256) (j : Fin 1024) :
    mixV h wg a wa r wr (ix2 i j) = mix (fun k => h (ix2 i k)) (fun k l => wg (ix2 k ⟨l.val, by omega⟩))
      (fun k l => wg (ix2 k ⟨1024 + l.val, by omega⟩)) (fun k => a (ix2 i k)) (fun k => r (ix2 i k))
      (fun k l => wa (ix2 k l)) (fun k l => wr (ix2 k l)) j := by
  have e1 := mm_apply dot_S256x1024_S1024x2048_S256x2048_1_0_0_1_n_n rfl
  have e2 := mm_apply dot_S256x512_S512x1024_S256x1024_1_0_0_1_n_n rfl
  unfold mixV mix dot
  pointwise [e1, e2, shapeCast_self]

/-- The block after the output projection, as vector operations. -/
def residV (x mx : FVec Ideal S256x1024 .f32) (wo : FVec Ideal S1024x1024 .bf16) : FVec Ideal S256x1024 .f32 :=
  addf x (matmul dot_S256x1024_S1024x1024_S256x1024_1_0_0_1_n_n none (truncf .bf16 mx bitsLt_bf16_f32)
    (shapeCast S1024x1024 wo shapeCasts_S1024x1024_S1024x1024) (constant S256x1024 .f32 0x00000000#32))

/-- It is `Rows.resid` of each row. -/
theorem residV_apply (x mx : FVec Ideal S256x1024 .f32) (wo : FVec Ideal S1024x1024 .bf16) (i : Fin 256) (j : Fin 1024) :
    residV x mx wo (ix2 i j) = resid (fun k => x (ix2 i k)) (fun k => mx (ix2 i k)) (fun k l => wo (ix2 k l)) j := by
  have e1 := mm_apply dot_S256x1024_S1024x1024_S256x1024_1_0_0_1_n_n rfl
  unfold residV resid dot
  pointwise [e1, shapeCast_self]

/-- The feed-forward block with its residual, as vector operations. -/
def mlpV (x : FVec Ideal S256x1024 .f32) (g : FVec Ideal S1x1024 .f32) (w1 : FVec Ideal S1024x4096 .bf16) (w2 : FVec Ideal S4096x1024 .bf16) :
    FVec Ideal S256x1024 .f32 :=
  have u : FVec Ideal S256x4096 .f32 := maximumf (matmul dot_S256x1024_S1024x4096_S256x4096_1_0_0_1_n_n none (truncf .bf16 (rmsV x g) bitsLt_bf16_f32)
    (shapeCast S1024x4096 w1 shapeCasts_S1024x4096_S1024x4096) (constant S256x4096 .f32 0x00000000#32))
    (broadcast S256x4096 (Scalar.ofBits .f32 0x00000000#32))
  addf x (matmul dot_S256x4096_S4096x1024_S256x1024_1_0_0_1_n_n none (truncf .bf16 (mulf u u) bitsLt_bf16_f32)
    (shapeCast S4096x1024 w2 shapeCasts_S4096x1024_S4096x1024) (constant S256x1024 .f32 0x00000000#32))

/-- It is `Rows.mlp` of each row. -/
theorem mlpV_apply (x : FVec Ideal S256x1024 .f32) (g : FVec Ideal S1x1024 .f32) (w1 : FVec Ideal S1024x4096 .bf16) (w2 : FVec Ideal S4096x1024 .bf16)
    (i : Fin 256) (j : Fin 1024) :
    mlpV x g w1 w2 (ix2 i j) = mlp (fun k => x (ix2 i k)) (fun k => g (ix2 0 k)) (fun k l => w1 (ix2 k l)) (fun k l => w2 (ix2 k l)) j := by
  have e1 := mm_apply dot_S256x1024_S1024x4096_S256x4096_1_0_0_1_n_n rfl
  have e2 := mm_apply dot_S256x4096_S4096x1024_S256x1024_1_0_0_1_n_n rfl
  unfold mlpV mlp Rows.hidden dot
  pointwise [e1, e2, shapeCast_self, rmsV_apply]

/-- The stored block is the composition of these. -/
theorem payload_eq (v0 : Vec Ideal S256x1024 .f32) (v2 : Vec Ideal S1x1024 .f32) (v17 : Vec Ideal S1024x2048 .bf16) (v21 : Vec Ideal S256x512 .bf16)
    (v23 : Vec Ideal S512x1024 .bf16) (v26 : Vec Ideal S256x512 .bf16) (v28 : Vec Ideal S512x1024 .bf16) (v37 : Vec Ideal S1024x1024 .bf16)
    (v41 : Vec Ideal S1x1024 .f32) (v56 : Vec Ideal S1024x4096 .bf16) (v63 : Vec Ideal S4096x1024 .bf16) (v67 : Vec Ideal S1x1024 .f32) :
    k0_pay1 (k0_pay4 v67) (k0_pay5 (k0_pay2 v0) (k0_pay3 v0 v2 v17 v21 v23 v26 v28) v37 v41 v56 v63)
      = rmsV (mlpV (residV v0 (mixV (rmsV v0 v2) v17 v21 v23 v26 v28) v37) v41 v56 v63) v67 := by
  have h : k0_pay1 (k0_pay4 v67) (k0_pay5 (k0_pay2 v0) (k0_pay3 v0 v2 v17 v21 v23 v26 v28) v37 v41 v56 v63)
      = rmsV (mlpV (residV (k0_pay2 v0) (mixV (rmsV (k0_pay2 v0) (k0_pay4 v2)) v17 v21 v23 v26 v28) v37) (k0_pay4 v41) v56 v63) (k0_pay4 v67) := rfl
  rw [h]
  simp only [k0_pay2, k0_pay4, shapeCast_self]

/-- What a grid point leaves in its block: each row is `Rows.tail` of the operands' rows. -/
theorem out_apply (x0 : Vec Ideal S256x1024 .f32) (x1 x2 : Vec Ideal S256x512 .bf16) (x3 : Vec Ideal S1x1024 .f32)
    (x4 : Vec Ideal S1024x2048 .bf16) (x5 x6 : Vec Ideal S512x1024 .bf16) (x7 : Vec Ideal S1024x1024 .bf16) (x8 : Vec Ideal S1x1024 .f32)
    (x9 : Vec Ideal S1024x4096 .bf16) (x10 : Vec Ideal S4096x1024 .bf16) (x11 : Vec Ideal S1x1024 .f32) (i : Fin 256) (j : Fin 1024) :
    out0_12 (F := Ideal) x0 x1 x2 x3 x4 x5 x6 x7 x8 x9 x10 x11 (ix2 i j)
      = tail (fun k => x0 (ix2 i k)) (fun k => x1 (ix2 i k)) (fun k => x2 (ix2 i k)) (fun k => x3 (ix2 0 k))
          (fun k l => x4 (ix2 k ⟨l.val, by omega⟩)) (fun k l => x4 (ix2 k ⟨1024 + l.val, by omega⟩))
          (fun k l => x5 (ix2 k l)) (fun k l => x6 (ix2 k l)) (fun k l => x7 (ix2 k l)) (fun k => x8 (ix2 0 k))
          (fun k l => x9 (ix2 k l)) (fun k l => x10 (ix2 k l)) (fun k => x11 (ix2 0 k)) j := by
  have hz0 : (![0, 0] : Fin S256x1024.rank → Nat) = fun _ => 0 := funext fun a => by fin_cases a <;> rfl
  unfold out0_12
  rw [View.canon_unit_zero hz0]
  simp only [r0_0, r0_1, r0_2, r0_3, r0_4, r0_5, r0_6, r0_7, View.ld_unit_zero (S := S256x1024) hz0, View.ld_unit_zero (S := S1x1024) hz0, View.ld_unit_zero (S := S1024x2048) hz0,
    View.ld_unit_zero (S := S256x512) hz0, View.ld_unit_zero (S := S512x1024) hz0, View.ld_unit_zero (S := S1024x1024) hz0,
    View.ld_unit_zero (S := S1024x4096) hz0, View.ld_unit_zero (S := S4096x1024) hz0]
  rw [payload_eq]
  unfold tail
  rw [rmsV_apply]
  simp only [mlpV_apply, residV_apply, mixV_apply, rmsV_apply]

end Cert.TailSIdeal.Hand

end
-- ==== Proof.TailSRun.lean ====
/- The sample batch. The tail call's run: its result array, row by row. -/
module

public import proofs.«01_k».proof.Proof.TailSKernel
public import Idealize.ShloMosaic.Lib.Pipeline.ValueKit.Geometry

@[expose] public section

noncomputable section

namespace Cert.TailSIdeal.Hand

open Cert.TailSIdeal Cert.TailSIdeal.Gen Idealize.ShloMosaic Idealize.ShloMosaic.TcCoe Idealize.SL.Sem Cert.Rows
open Idealize.ShloMosaic.Pipeline (Dat)

variable (m : (ℓ : Loc nD τ sig) → Buf (Elt Ideal) ℓ) (ρ : Dev nD → PrngReg)

/-- The input rows the region reads: the reshaped argument. -/
theorem V_x (c : Dev nD) : V m c main_v0 = shapeCast S512x1024 (m ((c : Thread nD τ).loc main_arg0)) shapeCasts_S32x16x1024_S512x1024 := by
  simp only [V, hostOps0]; after_results_simp <;> rfl

/-- The attention rows. -/
theorem V_att (c : Dev nD) : V m c main_v17 = shapeCast S512x512 (m ((c : Thread nD τ).loc main_arg1)) shapeCasts_S32x16x512_S512x512 := by
  simp only [V, hostOps0]; after_results_simp <;> rfl

/-- The recurrence's rows. -/
theorem V_rw (c : Dev nD) : V m c main_v18 = shapeCast S512x512 (m ((c : Thread nD τ).loc main_arg2)) shapeCasts_S32x16x512_S512x512 := by
  simp only [V, hostOps0]; after_results_simp <;> rfl

/-- The first gain. -/
theorem V_g1 (c : Dev nD) : V m c main_v20 = (m ((c : Thread nD τ).loc main_arg3)) := by
  have h : V m c main_v20 = shapeCast S1x1024 (shapeCast S1024 (m ((c : Thread nD τ).loc main_arg3)) shapeCasts_S1x1024_S1024) shapeCasts_S1024_S1x1024 := by
    simp only [V, hostOps0]; after_results_simp <;> rfl
  rw [h, shapeCast_shapeCast]

/-- The second gain. -/
theorem V_g2 (c : Dev nD) : V m c main_v28 = (m ((c : Thread nD τ).loc main_arg8)) := by
  have h : V m c main_v28 = shapeCast S1x1024 (shapeCast S1024 (m ((c : Thread nD τ).loc main_arg8)) shapeCasts_S1x1024_S1024) shapeCasts_S1024_S1x1024 := by
    simp only [V, hostOps0]; after_results_simp <;> rfl
  rw [h, shapeCast_shapeCast]

/-- The last gain. -/
theorem V_gf (c : Dev nD) : V m c main_v33 = shapeCast S1x1024 (m ((c : Thread nD τ).loc main_arg11)) shapeCasts_S1024_S1x1024 := by
  simp only [V, hostOps0]; after_results_simp <;> rfl

/-- The gate weights: two groups of columns of the input projection, side by side. -/
theorem V_wg (c : Dev nD) : V m c main_v16 = truncf .bf16 (concatenate S1024x2048 1
    [⟨S1024x1024, extractStridedSlice S1024x1024 ![0, 3144] (shapeCast S1024x5192 (m ((c : Thread nD τ).loc main_arg4)) shapeCasts_S1x1024x5192_S1024x5192 : FVec Ideal S1024x5192 .f32) slices_S1024x5192_S1024x1024_0_3144⟩,
     ⟨S1024x1024, extractStridedSlice S1024x1024 ![0, 4168] (shapeCast S1024x5192 (m ((c : Thread nD τ).loc main_arg4)) shapeCasts_S1x1024x5192_S1024x5192 : FVec Ideal S1024x5192 .f32) slices_S1024x5192_S1024x1024_0_4168⟩]
    concatenates_S1024x1024_S1024x1024_S1024x2048_d1) bitsLt_bf16_f32 := by
  simp only [V, hostOps0]; after_results_simp <;> rfl

/-- The attention projection. -/
theorem V_wa (c : Dev nD) : V m c main_v22 = (truncf .bf16 (shapeCast S512x1024 (m ((c : Thread nD τ).loc main_arg5)) shapeCasts_S1x512x1024_S512x1024 : FVec Ideal S512x1024 .f32) bitsLt_bf16_f32) := by
  simp only [V, hostOps0]; after_results_simp <;> rfl

/-- The recurrence's projection. -/
theorem V_wr (c : Dev nD) : V m c main_v24 = (truncf .bf16 (shapeCast S512x1024 (m ((c : Thread nD τ).loc main_arg6)) shapeCasts_S1x512x1024_S512x1024 : FVec Ideal S512x1024 .f32) bitsLt_bf16_f32) := by
  simp only [V, hostOps0]; after_results_simp <;> rfl

/-- The output projection. -/
theorem V_wo (c : Dev nD) : V m c main_v26 = (truncf .bf16 (shapeCast S1024x1024 (m ((c : Thread nD τ).loc main_arg7)) shapeCasts_S1x1024x1024_S1024x1024 : FVec Ideal S1024x1024 .f32) bitsLt_bf16_f32) := by
  simp only [V, hostOps0]; after_results_simp <;> rfl

/-- The first feed-forward matrix. -/
theorem V_w1 (c : Dev nD) : V m c main_v30 = (truncf .bf16 (shapeCast S1024x4096 (m ((c : Thread nD τ).loc main_arg9)) shapeCasts_S1x1024x4096_S1024x4096 : FVec Ideal S1024x4096 .f32) bitsLt_bf16_f32) := by
  simp only [V, hostOps0]; after_results_simp <;> rfl

/-- The second feed-forward matrix. -/
theorem V_w2 (c : Dev nD) : V m c main_v32 = (truncf .bf16 (shapeCast S4096x1024 (m ((c : Thread nD τ).loc main_arg10)) shapeCasts_S1x4096x1024_S4096x1024 : FVec Ideal S4096x1024 .f32) bitsLt_bf16_f32) := by
  simp only [V, hostOps0]; after_results_simp <;> rfl

/-- Where each window stands at point `t`: the three row windows and the result at block row `t`, the others at the origin. -/
theorem idx_facts : ∀ t : Fin cfg0.N,
    (win0_0.index t 0 = t.val ∧ win0_0.index t 1 = 0) ∧ (win0_1.index t 0 = t.val ∧ win0_1.index t 1 = 0)
    ∧ (win0_2.index t 0 = t.val ∧ win0_2.index t 1 = 0) ∧ (win0_12.index t 0 = t.val ∧ win0_12.index t 1 = 0)
    ∧ (win0_3.index t 0 = 0 ∧ win0_3.index t 1 = 0) ∧ (win0_4.index t 0 = 0 ∧ win0_4.index t 1 = 0)
    ∧ (win0_5.index t 0 = 0 ∧ win0_5.index t 1 = 0) ∧ (win0_6.index t 0 = 0 ∧ win0_6.index t 1 = 0)
    ∧ (win0_7.index t 0 = 0 ∧ win0_7.index t 1 = 0) ∧ (win0_8.index t 0 = 0 ∧ win0_8.index t 1 = 0)
    ∧ (win0_9.index t 0 = 0 ∧ win0_9.index t 1 = 0) ∧ (win0_10.index t 0 = 0 ∧ win0_10.index t 1 = 0)
    ∧ (win0_11.index t 0 = 0 ∧ win0_11.index t 1 = 0) :=
  (by decide +kernel : ∀ t : Fin grid0.N,
    (win0_0.index t 0 = t.val ∧ win0_0.index t 1 = 0) ∧ (win0_1.index t 0 = t.val ∧ win0_1.index t 1 = 0)
    ∧ (win0_2.index t 0 = t.val ∧ win0_2.index t 1 = 0) ∧ (win0_12.index t 0 = t.val ∧ win0_12.index t 1 = 0)
    ∧ (win0_3.index t 0 = 0 ∧ win0_3.index t 1 = 0) ∧ (win0_4.index t 0 = 0 ∧ win0_4.index t 1 = 0)
    ∧ (win0_5.index t 0 = 0 ∧ win0_5.index t 1 = 0) ∧ (win0_6.index t 0 = 0 ∧ win0_6.index t 1 = 0)
    ∧ (win0_7.index t 0 = 0 ∧ win0_7.index t 1 = 0) ∧ (win0_8.index t 0 = 0 ∧ win0_8.index t 1 = 0)
    ∧ (win0_9.index t 0 = 0 ∧ win0_9.index t 1 = 0) ∧ (win0_10.index t 0 = 0 ∧ win0_10.index t 1 = 0)
    ∧ (win0_11.index t 0 = 0 ∧ win0_11.index t 1 = 0))

/-- Row `a` of block `t` is row `256 t + a` of the array. -/
def row (t : Fin cfg0.N) (a : Fin 256) : Fin 512 := ⟨256 * t.val + a.val, by have : t.val < 2 := t.isLt; omega⟩

/-- The input window's block. -/
theorem blk_x (c : Dev nD) (t : Fin cfg0.N) (a : Fin 256) (b : Fin 1024) :
    (iblk m c 0 t : S256x1024.Idx → EReal) (ix2 a b) = (V m c main_v0 : S512x1024.Idx → EReal) (ix2 (row t a) b) := by
  obtain ⟨h0, h1⟩ := (idx_facts t).1
  unfold iblk
  rw [View.read_apply]
  refine congrArg (V m c main_v0) (funext fun d => Fin.ext ?_)
  match d with
  | ⟨0, _⟩ => show win0_0.index t 0 * 256 + 1 * a.val = 256 * t.val + a.val; rw [h0]; omega
  | ⟨1, _⟩ => show win0_0.index t 1 * 1024 + 1 * b.val = b.val; rw [h1]; omega

/-- The attention window's block. -/
theorem blk_att (c : Dev nD) (t : Fin cfg0.N) (a : Fin 256) (b : Fin 512) :
    (iblk m c 1 t : S256x512.Idx → EReal) (ix2 a b) = (V m c main_v17 : S512x512.Idx → EReal) (ix2 (row t a) b) := by
  obtain ⟨h0, h1⟩ := (idx_facts t).2.1
  unfold iblk
  rw [View.read_apply]
  refine congrArg (V m c main_v17) (funext fun d => Fin.ext ?_)
  match d with
  | ⟨0, _⟩ => show win0_1.index t 0 * 256 + 1 * a.val = 256 * t.val + a.val; rw [h0]; omega
  | ⟨1, _⟩ => show win0_1.index t 1 * 512 + 1 * b.val = b.val; rw [h1]; omega

/-- The recurrence window's block. -/
theorem blk_rw (c : Dev nD) (t : Fin cfg0.N) (a : Fin 256) (b : Fin 512) :
    (iblk m c 2 t : S256x512.Idx → EReal) (ix2 a b) = (V m c main_v18 : S512x512.Idx → EReal) (ix2 (row t a) b) := by
  obtain ⟨h0, h1⟩ := (idx_facts t).2.2.1
  unfold iblk
  rw [View.read_apply]
  refine congrArg (V m c main_v18) (funext fun d => Fin.ext ?_)
  match d with
  | ⟨0, _⟩ => show win0_2.index t 0 * 256 + 1 * a.val = 256 * t.val + a.val; rw [h0]; omega
  | ⟨1, _⟩ => show win0_2.index t 1 * 512 + 1 * b.val = b.val; rw [h1]; omega

/-- The window of `g1` is the whole array. -/
theorem blk_g1 (c : Dev nD) (t : Fin cfg0.N) (a : Fin 1) (b : Fin 1024) :
    (iblk m c 3 t : S1x1024.Idx → EReal) (ix2 a b) = (V m c main_v20 : S1x1024.Idx → EReal) (ix2 a b) := by
  obtain ⟨h0, h1⟩ := (idx_facts t).2.2.2.2.1
  unfold iblk
  rw [View.read_apply]
  refine congrArg (V m c main_v20) (funext fun d => Fin.ext ?_)
  match d with
  | ⟨0, _⟩ => show win0_3.index t 0 * 1 + 1 * a.val = a.val; rw [h0]; omega
  | ⟨1, _⟩ => show win0_3.index t 1 * 1024 + 1 * b.val = b.val; rw [h1]; omega

/-- The window of `wg` is the whole array. -/
theorem blk_wg (c : Dev nD) (t : Fin cfg0.N) (a : Fin 1024) (b : Fin 2048) :
    (iblk m c 4 t : S1024x2048.Idx → EReal) (ix2 a b) = (V m c main_v16 : S1024x2048.Idx → EReal) (ix2 a b) := by
  obtain ⟨h0, h1⟩ := (idx_facts t).2.2.2.2.2.1
  unfold iblk
  rw [View.read_apply]
  refine congrArg (V m c main_v16) (funext fun d => Fin.ext ?_)
  match d with
  | ⟨0, _⟩ => show win0_4.index t 0 * 1024 + 1 * a.val = a.val; rw [h0]; omega
  | ⟨1, _⟩ => show win0_4.index t 1 * 2048 + 1 * b.val = b.val; rw [h1]; omega

/-- The window of `wa` is the whole array. -/
theorem blk_wa (c : Dev nD) (t : Fin cfg0.N) (a : Fin 512) (b : Fin 1024) :
    (iblk m c 5 t : S512x1024.Idx → EReal) (ix2 a b) = (V m c main_v22 : S512x1024.Idx → EReal) (ix2 a b) := by
  obtain ⟨h0, h1⟩ := (idx_facts t).2.2.2.2.2.2.1
  unfold iblk
  rw [View.read_apply]
  refine congrArg (V m c main_v22) (funext fun d => Fin.ext ?_)
  match d with
  | ⟨0, _⟩ => show win0_5.index t 0 * 512 + 1 * a.val = a.val; rw [h0]; omega
  | ⟨1, _⟩ => show win0_5.index t 1 * 1024 + 1 * b.val = b.val; rw [h1]; omega

/-- The window of `wr` is the whole array. -/
theorem blk_wr (c : Dev nD) (t : Fin cfg0.N) (a : Fin 512) (b : Fin 1024) :
    (iblk m c 6 t : S512x1024.Idx → EReal) (ix2 a b) = (V m c main_v24 : S512x1024.Idx → EReal) (ix2 a b) := by
  obtain ⟨h0, h1⟩ := (idx_facts t).2.2.2.2.2.2.2.1
  unfold iblk
  rw [View.read_apply]
  refine congrArg (V m c main_v24) (funext fun d => Fin.ext ?_)
  match d with
  | ⟨0, _⟩ => show win0_6.index t 0 * 512 + 1 * a.val = a.val; rw [h0]; omega
  | ⟨1, _⟩ => show win0_6.index t 1 * 1024 + 1 * b.val = b.val; rw [h1]; omega

/-- The window of `wo` is the whole array. -/
theorem blk_wo (c : Dev nD) (t : Fin cfg0.N) (a : Fin 1024) (b : Fin 1024) :
    (iblk m c 7 t : S1024x1024.Idx → EReal) (ix2 a b) = (V m c main_v26 : S1024x1024.Idx → EReal) (ix2 a b) := by
  obtain ⟨h0, h1⟩ := (idx_facts t).2.2.2.2.2.2.2.2.1
  unfold iblk
  rw [View.read_apply]
  refine congrArg (V m c main_v26) (funext fun d => Fin.ext ?_)
  match d with
  | ⟨0, _⟩ => show win0_7.index t 0 * 1024 + 1 * a.val = a.val; rw [h0]; omega
  | ⟨1, _⟩ => show win0_7.index t 1 * 1024 + 1 * b.val = b.val; rw [h1]; omega

/-- The window of `g2` is the whole array. -/
theorem blk_g2 (c : Dev nD) (t : Fin cfg0.N) (a : Fin 1) (b : Fin 1024) :
    (iblk m c 8 t : S1x1024.Idx → EReal) (ix2 a b) = (V m c main_v28 : S1x1024.Idx → EReal) (ix2 a b) := by
  obtain ⟨h0, h1⟩ := (idx_facts t).2.2.2.2.2.2.2.2.2.1
  unfold iblk
  rw [View.read_apply]
  refine congrArg (V m c main_v28) (funext fun d => Fin.ext ?_)
  match d with
  | ⟨0, _⟩ => show win0_8.index t 0 * 1 + 1 * a.val = a.val; rw [h0]; omega
  | ⟨1, _⟩ => show win0_8.index t 1 * 1024 + 1 * b.val = b.val; rw [h1]; omega

/-- The window of `w1` is the whole array. -/
theorem blk_w1 (c : Dev nD) (t : Fin cfg0.N) (a : Fin 1024) (b : Fin 4096) :
    (iblk m c 9 t : S1024x4096.Idx → EReal) (ix2 a b) = (V m c main_v30 : S1024x4096.Idx → EReal) (ix2 a b) := by
  obtain ⟨h0, h1⟩ := (idx_facts t).2.2.2.2.2.2.2.2.2.2.1
  unfold iblk
  rw [View.read_apply]
  refine congrArg (V m c main_v30) (funext fun d => Fin.ext ?_)
  match d with
  | ⟨0, _⟩ => show win0_9.index t 0 * 1024 + 1 * a.val = a.val; rw [h0]; omega
  | ⟨1, _⟩ => show win0_9.index t 1 * 4096 + 1 * b.val = b.val; rw [h1]; omega

/-- The window of `w2` is the whole array. -/
theorem blk_w2 (c : Dev nD) (t : Fin cfg0.N) (a : Fin 4096) (b : Fin 1024) :
    (iblk m c 10 t : S4096x1024.Idx → EReal) (ix2 a b) = (V m c main_v32 : S4096x1024.Idx → EReal) (ix2 a b) := by
  obtain ⟨h0, h1⟩ := (idx_facts t).2.2.2.2.2.2.2.2.2.2.2.1
  unfold iblk
  rw [View.read_apply]
  refine congrArg (V m c main_v32) (funext fun d => Fin.ext ?_)
  match d with
  | ⟨0, _⟩ => show win0_10.index t 0 * 4096 + 1 * a.val = a.val; rw [h0]; omega
  | ⟨1, _⟩ => show win0_10.index t 1 * 1024 + 1 * b.val = b.val; rw [h1]; omega

/-- The window of `gf` is the whole array. -/
theorem blk_gf (c : Dev nD) (t : Fin cfg0.N) (a : Fin 1) (b : Fin 1024) :
    (iblk m c 11 t : S1x1024.Idx → EReal) (ix2 a b) = (V m c main_v33 : S1x1024.Idx → EReal) (ix2 a b) := by
  obtain ⟨h0, h1⟩ := (idx_facts t).2.2.2.2.2.2.2.2.2.2.2.2
  unfold iblk
  rw [View.read_apply]
  refine congrArg (V m c main_v33) (funext fun d => Fin.ext ?_)
  match d with
  | ⟨0, _⟩ => show win0_11.index t 0 * 1 + 1 * a.val = a.val; rw [h0]; omega
  | ⟨1, _⟩ => show win0_11.index t 1 * 1024 + 1 * b.val = b.val; rw [h1]; omega

/-- The gate array's first half is the group of columns from 3144 on, its second half the group from 4168 on. -/
theorem wg_left (c : Dev nD) (k l : Fin 1024) : (V m c main_v16 : S1024x2048.Idx → EReal) (ix2 k ⟨l.val, by omega⟩)
    = shapeCast S1024x5192 (m ((c : Thread nD τ).loc main_arg4)) shapeCasts_S1x1024x5192_S1024x5192 (ix2 k ⟨3144 + l.val, by omega⟩) := by
  rw [V_wg]
  refine (concatenate_pair_apply_left (t := S1024x2048) (s₁ := S1024x1024) (s₂ := S1024x1024) 1 _ _
    concatenates_S1024x1024_S1024x1024_S1024x2048_d1 _ rfl (ix2 k l) (by
    intro a; match a with | ⟨0, _⟩ => rfl | ⟨1, _⟩ => rfl)).trans ?_
  rw [extractStridedSlice_apply _ _ _ _ (ix2 k ⟨3144 + l.val, by omega⟩ : S1024x5192.Idx) (fun a => by
    match a with | ⟨0, _⟩ => exact (Nat.zero_add _).symm | ⟨1, _⟩ => rfl)]

/-- The second half of it. -/
theorem wg_right (c : Dev nD) (k l : Fin 1024) : (V m c main_v16 : S1024x2048.Idx → EReal) (ix2 k ⟨1024 + l.val, by omega⟩)
    = shapeCast S1024x5192 (m ((c : Thread nD τ).loc main_arg4)) shapeCasts_S1x1024x5192_S1024x5192 (ix2 k ⟨4168 + l.val, by omega⟩) := by
  rw [V_wg]
  refine (concatenate_pair_apply_right (t := S1024x2048) (s₁ := S1024x1024) (s₂ := S1024x1024) 1 _ _
    concatenates_S1024x1024_S1024x1024_S1024x2048_d1 _ rfl rfl (ix2 k l) (by
    intro a ha; match a with | ⟨0, _⟩ => rfl | ⟨1, _⟩ => exact absurd rfl ha) (Nat.add_comm _ _)).trans ?_
  rw [extractStridedSlice_apply _ _ _ _ (ix2 k ⟨4168 + l.val, by omega⟩ : S1024x5192.Idx) (fun a => by
    match a with | ⟨0, _⟩ => exact (Nat.zero_add _).symm | ⟨1, _⟩ => rfl)]

/-- The result array: `Rows.tailAll` of the arguments. -/
def result (c : Dev nD) : S512x1024.Idx → EReal := fun i => tailAll
  (fun r k => shapeCast S512x1024 (m ((c : Thread nD τ).loc main_arg0)) shapeCasts_S32x16x1024_S512x1024 (ix2 r k))
  (fun r k => shapeCast S512x512 (m ((c : Thread nD τ).loc main_arg1)) shapeCasts_S32x16x512_S512x512 (ix2 r k))
  (fun r k => shapeCast S512x512 (m ((c : Thread nD τ).loc main_arg2)) shapeCasts_S32x16x512_S512x512 (ix2 r k))
  (fun k => (m ((c : Thread nD τ).loc main_arg3) : S1x1024.Idx → EReal) (ix2 0 k))
  (fun k l => shapeCast S1024x5192 (m ((c : Thread nD τ).loc main_arg4)) shapeCasts_S1x1024x5192_S1024x5192 (ix2 k l))
  (fun k l => shapeCast S512x1024 (m ((c : Thread nD τ).loc main_arg5)) shapeCasts_S1x512x1024_S512x1024 (ix2 k l))
  (fun k l => shapeCast S512x1024 (m ((c : Thread nD τ).loc main_arg6)) shapeCasts_S1x512x1024_S512x1024 (ix2 k l))
  (fun k l => shapeCast S1024x1024 (m ((c : Thread nD τ).loc main_arg7)) shapeCasts_S1x1024x1024_S1024x1024 (ix2 k l))
  (fun k => (m ((c : Thread nD τ).loc main_arg8) : S1x1024.Idx → EReal) (ix2 0 k))
  (fun k l => shapeCast S1024x4096 (m ((c : Thread nD τ).loc main_arg9)) shapeCasts_S1x1024x4096_S1024x4096 (ix2 k l))
  (fun k l => shapeCast S4096x1024 (m ((c : Thread nD τ).loc main_arg10)) shapeCasts_S1x4096x1024_S4096x1024 (ix2 k l))
  (fun k => (m ((c : Thread nD τ).loc main_arg11) : S1024.Idx → EReal) (ix1 k)) (i 0) (i 1)

/-- The last gain's row is the argument vector. -/
theorem gf_apply (c : Dev nD) (k : Fin 1024) : (V m c main_v33 : S1x1024.Idx → EReal) (ix2 0 k) = (m ((c : Thread nD τ).loc main_arg11) : S1024.Idx → EReal) (ix1 k) := by
  rw [V_gf]
  refine (shapeCast_addUnit_apply ![1024] _ _ _).trans (congrArg _ (funext fun a => ?_))
  match a with | ⟨0, _⟩ => rfl

/-- What point `t` leaves in its block is block `t` of `result`. -/
theorem block_eq (c : Dev nD) (t : Fin cfg0.N) (a : Fin 256) (b : Fin 1024) :
    out0_12 (F := Ideal) (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t) (ix2 a b) = result m c (ix2 (row t a) b) := by
  refine (out_apply _ _ _ _ _ _ _ _ _ _ _ _ a b).trans ?_
  unfold result tailAll
  refine tail_congr b (fun k => ?_) (fun k => ?_) (fun k => ?_) (fun k => ?_) (fun k l => ?_) (fun k l => ?_) (fun k l => ?_) (fun k l => ?_)
    (fun k l => ?_) (fun k => ?_) (fun k l => ?_) (fun k l => ?_) (fun k => ?_)
  · exact (blk_x m c t a k).trans (congrFun (V_x m c) _)
  · exact (blk_att m c t a k).trans (congrFun (V_att m c) _)
  · exact (blk_rw m c t a k).trans (congrFun (V_rw m c) _)
  · exact (blk_g1 m c t 0 k).trans (congrFun (V_g1 m c) _)
  · exact (blk_wg m c t k _).trans (wg_left m c k l)
  · exact (blk_wg m c t k _).trans (wg_right m c k l)
  · exact (blk_wa m c t k l).trans (congrFun (V_wa m c) _)
  · exact (blk_wr m c t k l).trans (congrFun (V_wr m c) _)
  · exact (blk_wo m c t k l).trans (congrFun (V_wo m c) _)
  · exact (blk_g2 m c t 0 k).trans (congrFun (V_g2 m c) _)
  · exact (blk_w1 m c t k l).trans (congrFun (V_w1 m c) _)
  · exact (blk_w2 m c t k l).trans (congrFun (V_w2 m c) _)
  · exact (blk_gf m c t 0 k).trans (gf_apply m c k)

/-- The result array after the run. -/
theorem final_eq (c : Dev nD) : (dats m 0 c).arrAt 12 cfg0.N = result m c := by
  refine (dats m 0 c).arrAt_eq_of_covers 12 _ (by decide +kernel) fun t hf y => ?_
  obtain ⟨h0, h1⟩ := (idx_facts t).2.2.2.1
  have e : (((cfg0.win 12).blk t).view.emb y : S512x1024.Idx) = ix2 (row t (y 0)) (y 1) := funext fun d => Fin.ext (by
    match d with
    | ⟨0, _⟩ => show win0_12.index t 0 * 256 + 1 * (y 0).val = 256 * t.val + (y 0).val; rw [h0]; omega
    | ⟨1, _⟩ => show win0_12.index t 1 * 1024 + 1 * (y 1).val = (y 1).val; rw [h1]; omega)
  have hy : ((cfg0.win 12).xinj (cfg0.grid.coords t) y : S256x1024.Idx) = ix2 (n0 := 256) (n1 := 1024) (y 0) (y 1) :=
    funext fun a => by match a with | ⟨0, _⟩ => rfl | ⟨1, _⟩ => rfl
  rw [after0_12]
  generalize hX : out0_12 (F := Ideal) (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t) = X
  refine Eq.trans ?_ (congrArg (result m c) e).symm
  refine Eq.trans (congrArg X hy) ?_
  rw [← hX]
  exact block_eq m c t (y 0) (y 1)

end Cert.TailSIdeal.Hand
-- ==== Proof.TailSClaims.lean ====
/- The sample batch. The claims about the tail call: the frames of its three programs, and the equality of the call and its reference. -/
module

public import proofs.«01_k».proof.Defs
public import proofs.«01_k».proof.Proof.TailSRef
public import proofs.«01_k».proof.Proof.TailSRun
public import proofs.«01_k».proof.Proof.Gen.TailS.Frame
public import proofs.«01_k».proof.Proof.Gen.TailSRefIdeal.Run

@[expose] public section

noncomputable section

namespace Cert.TailSRefIdeal.Hand

open Cert.TailSRefIdeal Cert.TailSRefIdeal.Gen Cert.TailSRefIdeal.Read Idealize.ShloMosaic Idealize.SL.Sem Cert.Rows

/-- A vector stored as one row, read at an entry. -/
theorem row_apply (x : FVec Ideal S1x1024 .f32) (k : Fin 1024) : shapeCast S1024 x shapeCasts_S1x1024_S1024 (ix1 k) = x (ix2 0 k) := by
  refine shapeCast_apply x _ _ (ix2 0 k) ?_
  rw [Shape.rowMajor_val_two, Shape.rowMajor_val_one]
  show 0 * 1024 + k.val = k.val
  omega

/-- The reference's result as a function of its arguments. -/
theorem v85_fun (x0 : FVec Ideal S32x16x1024 .f32) (x1 : FVec Ideal S32x16x512 .bf16) (x2 : FVec Ideal S32x16x512 .bf16) (x3 : FVec Ideal S1x1024 .f32) (x4 : FVec Ideal S1x1024x5192 .f32) (x5 : FVec Ideal S1x512x1024 .f32) (x6 : FVec Ideal S1x512x1024 .f32) (x7 : FVec Ideal S1x1024x1024 .f32) (x8 : FVec Ideal S1x1024 .f32) (x9 : FVec Ideal S1x1024x4096 .f32) (x10 : FVec Ideal S1x4096x1024 .f32) (x11 : FVec Ideal S1024 .f32) :
    val_main_v85 (F := Ideal) x0 x1 x2 x3 x4 x5 x6 x7 x8 x9 x10 x11 = fun i => tailAll
      (fun r k => shapeCast S512x1024 x0 shapeCasts_S32x16x1024_S512x1024 (ix2 r k)) (fun r k => shapeCast S512x512 x1 shapeCasts_S32x16x512_S512x512 (ix2 r k))
      (fun r k => shapeCast S512x512 x2 shapeCasts_S32x16x512_S512x512 (ix2 r k)) (fun k => x3 (ix2 0 k))
      (fun k l => shapeCast S1024x5192 x4 shapeCasts_S1x1024x5192_S1024x5192 (ix2 k l)) (fun k l => shapeCast S512x1024 x5 shapeCasts_S1x512x1024_S512x1024 (ix2 k l))
      (fun k l => shapeCast S512x1024 x6 shapeCasts_S1x512x1024_S512x1024 (ix2 k l)) (fun k l => shapeCast S1024x1024 x7 shapeCasts_S1x1024x1024_S1024x1024 (ix2 k l))
      (fun k => x8 (ix2 0 k)) (fun k l => shapeCast S1024x4096 x9 shapeCasts_S1x1024x4096_S1024x4096 (ix2 k l))
      (fun k l => shapeCast S4096x1024 x10 shapeCasts_S1x4096x1024_S4096x1024 (ix2 k l)) (fun k => x11 (ix1 k)) (i 0) (i 1) := by
  funext i
  have hi : i = ix2 (n0 := 512) (n1 := 1024) (i 0) (i 1) := by funext a; match a with | ⟨0, _⟩ => rfl | ⟨1, _⟩ => rfl
  refine (congrArg (val_main_v85 (F := Ideal) x0 x1 x2 x3 x4 x5 x6 x7 x8 x9 x10 x11) hi).trans ((v85_apply x0 x1 x2 x3 x4 x5 x6 x7 x8 x9 x10 x11 (i 0) (i 1)).trans ?_)
  have h5 : (fun k : Fin 1024 => val_main_v5 (F := Ideal) x3 (ix1 k)) = fun k => x3 (ix2 0 k) := funext fun k => row_apply x3 k
  have h52 : (fun k : Fin 1024 => val_main_v52 (F := Ideal) x8 (ix1 k)) = fun k => x8 (ix2 0 k) := funext fun k => row_apply x8 k
  rw [h5, h52]
  rfl

end Cert.TailSRefIdeal.Hand

namespace Cert.TailSClaims

open Idealize.ShloMosaic Idealize.SL.Sem

/-- The kernel, over the device's numbers, leaves its arguments unchanged. -/
theorem frame_p : Cert.quiescent_TailS := fun m ρ _ => Cert.TailS.Gen.frame m ρ

/-- So does the kernel over the reals. -/
theorem frame_i : Cert.quiescent_TailSIdeal := fun m ρ _ => Cert.TailSIdeal.Gen.frame m ρ

/-- So does the reference over the reals. -/
theorem frame_r : Cert.quiescent_TailSRefIdeal := fun m ρ _ =>
  (θ_run Cert.TailSRefIdeal.defs _ _).mono (fun r h => ⟨fun c => (h c).2, sem_eq_zero_of_no_sems (by decide) r.2⟩)
    (Cert.TailSRefIdeal.Value.run (F := Ideal) m ρ)

/-- The kernel over the reals is the kernel with every operation read at its ideal meaning; no rule changes it. -/
theorem preserves : Cert.preserves_TailS_TailSIdeal := trivial

/-- The kernel and the reference give the same array of reals from the same arguments. -/
theorem algebraic : Cert.algebraic_TailSIdeal_TailSRefIdeal := by
  intro m ρ m' ρ' _ hagree
  refine ⟨fun c => Cert.TailSIdeal.Hand.result m c, ?_, ?_⟩
  · exact (θ_run Cert.TailSIdeal.defs _ _).mono (fun r h c => ⟨(h c).1.trans (Cert.TailSIdeal.Hand.final_eq m c), (h c).2⟩)
      (Cert.TailSIdeal.Value.run_blocks (F := Ideal) m ρ)
  · refine (θ_run Cert.TailSRefIdeal.defs _ _).mono (fun r h c => ⟨((h c).1.trans (Cert.TailSRefIdeal.Read.val_main_v85_eq m' c)).trans ?_, (h c).2⟩)
      (Cert.TailSRefIdeal.Value.run (F := Ideal) m' ρ')
    obtain ⟨e0, e1, e2, e3, e4, e5, e6, e7, e8, e9, e10, e11⟩ := hagree c
    refine (Cert.TailSRefIdeal.Hand.v85_fun (m' ((c.tc : Thread Cert.TailSRefIdeal.nD Cert.TailSRefIdeal.τ).loc Cert.TailSRefIdeal.main_arg0)) (m' ((c.tc : Thread Cert.TailSRefIdeal.nD Cert.TailSRefIdeal.τ).loc Cert.TailSRefIdeal.main_arg1)) (m' ((c.tc : Thread Cert.TailSRefIdeal.nD Cert.TailSRefIdeal.τ).loc Cert.TailSRefIdeal.main_arg2)) (m' ((c.tc : Thread Cert.TailSRefIdeal.nD Cert.TailSRefIdeal.τ).loc Cert.TailSRefIdeal.main_arg3)) (m' ((c.tc : Thread Cert.TailSRefIdeal.nD Cert.TailSRefIdeal.τ).loc Cert.TailSRefIdeal.main_arg4)) (m' ((c.tc : Thread Cert.TailSRefIdeal.nD Cert.TailSRefIdeal.τ).loc Cert.TailSRefIdeal.main_arg5)) (m' ((c.tc : Thread Cert.TailSRefIdeal.nD Cert.TailSRefIdeal.τ).loc Cert.TailSRefIdeal.main_arg6)) (m' ((c.tc : Thread Cert.TailSRefIdeal.nD Cert.TailSRefIdeal.τ).loc Cert.TailSRefIdeal.main_arg7)) (m' ((c.tc : Thread Cert.TailSRefIdeal.nD Cert.TailSRefIdeal.τ).loc Cert.TailSRefIdeal.main_arg8)) (m' ((c.tc : Thread Cert.TailSRefIdeal.nD Cert.TailSRefIdeal.τ).loc Cert.TailSRefIdeal.main_arg9)) (m' ((c.tc : Thread Cert.TailSRefIdeal.nD Cert.TailSRefIdeal.τ).loc Cert.TailSRefIdeal.main_arg10)) (m' ((c.tc : Thread Cert.TailSRefIdeal.nD Cert.TailSRefIdeal.τ).loc Cert.TailSRefIdeal.main_arg11))).trans ?_
    rw [e0, e1, e2, e3, e4, e5, e6, e7, e8, e9, e10, e11]
    rfl

end Cert.TailSClaims
-- ==== Proof.InProjSRows.lean ====
/- The sample batch. The input projection's results, entry by entry: functions of the three arguments. -/
module

public import proofs.«01_k».proof.Proof.Rows

@[expose] public section

noncomputable section

namespace Cert.RowsS

open Idealize.ShloMosaic Cert.Rows

/-- Entry `l` of token `r`'s wide projection: its normalised row against column `l` of the weights. -/
def lin (X : (⟨3, ![32, 16, 1024]⟩ : Shape).Idx → EReal) (G : (⟨2, ![1, 1024]⟩ : Shape).Idx → EReal) (W : (⟨3, ![1, 1024, 5192]⟩ : Shape).Idx → EReal)
    (r : Fin 512) (l : Fin 5192) : EReal :=
  dot (rms (fun k => shapeCast ⟨2, ![512, 1024]⟩ X (by decide) (ix2 r k)) (fun k => G (ix2 0 k))) (fun k l => shapeCast ⟨2, ![1024, 5192]⟩ W (by decide) (ix2 k l)) l

/-- A group of `n` columns from column `o` on, times a constant. -/
def group (o n : ℕ) (h : o + n ≤ 5192) (s : EReal) (X : (⟨3, ![32, 16, 1024]⟩ : Shape).Idx → EReal) (G : (⟨2, ![1, 1024]⟩ : Shape).Idx → EReal)
    (W : (⟨3, ![1, 1024, 5192]⟩ : Shape).Idx → EReal) : (⟨2, ![512, n]⟩ : Shape).Idx → EReal :=
  fun i => lin X G W (i 0) ⟨o + (i 1).val, by have : (i 1).val < n := (i 1).isLt; omega⟩ * s

/-- A group of `n` columns from column `o` on. -/
def cols (o n : ℕ) (h : o + n ≤ 5192) (X : (⟨3, ![32, 16, 1024]⟩ : Shape).Idx → EReal) (G : (⟨2, ![1, 1024]⟩ : Shape).Idx → EReal)
    (W : (⟨3, ![1, 1024, 5192]⟩ : Shape).Idx → EReal) : (⟨2, ![512, n]⟩ : Shape).Idx → EReal :=
  fun i => lin X G W (i 0) ⟨o + (i 1).val, by have : (i 1).val < n := (i 1).isLt; omega⟩

/-- The scale of the queries, one over the root of 64. -/
def eighth : EReal := Ideal.ofBits .f32 0x3E000000#32

/-- The scale of the index heads' weights, one over the root of 8, as a 32-bit number. -/
def rootEighth : EReal := Ideal.ofBits .f32 0x3EB504F3#32

end Cert.RowsS

end
-- ==== Proof.InProjSRef.lean ====
/- The sample batch. The input projection's reference: its seven result arrays, entry by entry. -/
module

public import proofs.«01_k».proof.Proof.InProjSRows
public import proofs.«01_k».proof.Proof.HostRead
public import proofs.«01_k».proof.Proof.Gen.InProjSRefIdeal.Read

@[expose] public section

noncomputable section

namespace Cert.InProjSRefIdeal.Hand

open Cert.InProjSRefIdeal Cert.InProjSRefIdeal.Gen Cert.InProjSRefIdeal.Read Idealize.ShloMosaic Idealize.SL.Sem Cert.Rows Cert.RowsS

variable (x0 : FVec Ideal S32x16x1024 .f32) (x1 : FVec Ideal S1x1024 .f32) (x2 : FVec Ideal S1x1024x5192 .f32)

/-- The reference's root-mean-square normalisation of every row, as array operations. -/
def rmsR (x : FVec Ideal S512x1024 .f32) (g : FVec Ideal S1024 .f32) : FVec Ideal S512x1024 .f32 :=
  mulf (mulf x (broadcastInDim S512x1024 ![0, 1] bcast_S512x1_S512x1024_0_1 (Host.rsqrt (addf (Host.divf
    (broadcastInDim S512x1 ![0] bcast_S512_S512x1_0 (Host.reduceAdd (mulf x x) (val_main_cst (F := Ideal)) reducesTo_S512x1024_S512_d1 h_S_))
    (broadcastInDim S512x1 ![] bcast_S_S512x1 (val_main_cst_0 (F := Ideal)))) (broadcastInDim S512x1 ![] bcast_S_S512x1 (val_main_cst_1 (F := Ideal)))))))
    (broadcastInDim S512x1024 ![0, 1] bcast_S1x1024_S512x1024_0_1 (broadcastInDim S1x1024 ![1] bcast_S1024_S1x1024_1 g))

/-- The sum of a row's squares. -/
theorem sq_apply (x : FVec Ideal S512x1024 .f32) (i : Fin 512) :
    Host.reduceAdd (mulf x x) (constant S_ .f32 0x00000000#32 : FVec Ideal S_ .f32) reducesTo_S512x1024_S512_d1 h_S_ (ix1 i) = ∑ k : Fin 1024, x (ix2 i k) * x (ix2 i k) :=
  hostSum_apply reducesTo_S512x1024_S512_d1 (by decide) h_S_ (mulf x x) i

/-- It is `Rows.rms` of each row. -/
theorem rmsR_apply (x : FVec Ideal S512x1024 .f32) (g : FVec Ideal S1024 .f32) (i : Fin 512) (j : Fin 1024) :
    rmsR x g (ix2 i j) = rms (fun k => x (ix2 i k)) (fun k => g (ix1 k)) j := by
  unfold rmsR rms val_main_cst val_main_cst_0 val_main_cst_1
  pointwise [sq_apply]

/-- The normalised rows. -/
theorem v14_eq : val_main_v14 (F := Ideal) x0 x1 = rmsR (val_main_v0 (F := Ideal) x0) (val_main_v1 (F := Ideal) x1) := rfl

/-- The gain's vector. -/
theorem v1_apply (k : Fin 1024) : val_main_v1 (F := Ideal) x1 (ix1 k) = x1 (ix2 0 k) := by
  refine shapeCast_apply x1 _ _ (ix2 0 k) ?_
  rw [Shape.rowMajor_val_two, Shape.rowMajor_val_one]
  show 0 * 1024 + k.val = k.val
  omega

/-- The wide projection, an entry. -/
theorem v16_at (r : Fin 512) (l : Fin 5192) : val_main_v16 (F := Ideal) x0 x1 x2 (ix2 r l) = lin x0 x1 x2 r l := by
  unfold val_main_v16
  refine (hostDot_apply dot_S512x1024_S1024x5192_S512x5192_1_0_0_1_n_n rfl _ _ r l).trans ?_
  rw [v14_eq]
  simp only [rmsR_apply, v1_apply]
  rfl

/-- The same at an index. -/
theorem v16_apply (i : S512x5192.Idx) : val_main_v16 (F := Ideal) x0 x1 x2 i = lin x0 x1 x2 (i 0) (i 1) := by
  have h : i = ix2 (n0 := 512) (n1 := 5192) (i 0) (i 1) := funext fun a => by match a with | ⟨0, _⟩ => rfl | ⟨1, _⟩ => rfl
  exact (congrArg _ h).trans (v16_at x0 x1 x2 (i 0) (i 1))

/-- The queries. -/
theorem v30_fun : val_main_v30 (F := Ideal) x0 x1 x2 = group 0 512 (by omega) eighth x0 x1 x2 := by
  funext i
  simp only [val_main_v30_apply, val_main_v29_apply, val_main_v17_apply, val_main_v28_apply, val_main_cst_3_apply, v16_apply]
  refine congrArg (· * eighth) (congrArg (lin x0 x1 x2 (i 0)) (Fin.ext ?_))
  exact (Nat.zero_add _).symm

/-- The index queries. -/
theorem v33_fun : val_main_v33 (F := Ideal) x0 x1 x2 = group 768 512 (by omega) eighth x0 x1 x2 := by
  funext i
  simp only [val_main_v33_apply, val_main_v32_apply, val_main_v20_apply, val_main_v31_apply, val_main_cst_4_apply, v16_apply]
  refine congrArg (· * eighth) (congrArg (lin x0 x1 x2 (i 0)) (Fin.ext ?_))
  rfl

/-- The keys. -/
theorem v18_fun : val_main_v18 (F := Ideal) x0 x1 x2 = cols 512 128 (by omega) x0 x1 x2 := by
  funext i
  simp only [val_main_v18_apply, v16_apply]
  refine congrArg (lin x0 x1 x2 (i 0)) (Fin.ext ?_)
  rfl

/-- The values. -/
theorem v19_fun : val_main_v19 (F := Ideal) x0 x1 x2 = cols 640 128 (by omega) x0 x1 x2 := by
  funext i
  simp only [val_main_v19_apply, v16_apply]
  refine congrArg (lin x0 x1 x2 (i 0)) (Fin.ext ?_)
  rfl

/-- The index keys. -/
theorem v21_fun : val_main_v21 (F := Ideal) x0 x1 x2 = cols 1280 64 (by omega) x0 x1 x2 := by
  funext i
  simp only [val_main_v21_apply, v16_apply]
  refine congrArg (lin x0 x1 x2 (i 0)) (Fin.ext ?_)
  rfl

/-- The index heads' weights. -/
theorem v27_fun : val_main_v27 (F := Ideal) x0 x1 x2 = group 1344 8 (by omega) rootEighth x0 x1 x2 := by
  funext i
  simp only [val_main_v27_apply, val_main_v22_apply, val_main_v26_apply, val_main_cst_2_apply, v16_apply]
  refine congrArg (· * rootEighth) (congrArg (lin x0 x1 x2 (i 0)) (Fin.ext ?_))
  rfl

/-- The recurrence's columns. -/
theorem v23_fun : val_main_v23 (F := Ideal) x0 x1 x2 = cols 1352 1792 (by omega) x0 x1 x2 := by
  funext i
  simp only [val_main_v23_apply, v16_apply]
  refine congrArg (lin x0 x1 x2 (i 0)) (Fin.ext ?_)
  rfl

end Cert.InProjSRefIdeal.Hand

end
-- ==== Proof.InProjSRun.lean ====
/- The sample batch. The input projection's run: its seven result arrays, entry by entry. -/
module

public import proofs.«01_k».proof.Proof.InProjSRows
public import proofs.«01_k».proof.Proof.Gen.InProjSIdeal.Value
public import Idealize.ShloMosaic.Lib.Pointwise.Tactic
public import Idealize.ShloMosaic.Lib.ValueIdx
public import Idealize.ShloMosaic.Lib.Pipeline.ValueKit.Geometry

@[expose] public section

noncomputable section

namespace Cert.InProjSIdeal.Hand

open Cert.InProjSIdeal Cert.InProjSIdeal.Gen Cert.InProjSIdeal.Value Idealize.ShloMosaic Idealize.ShloMosaic.TcCoe Idealize.SL.Sem Cert.Rows Cert.RowsS
open Idealize.ShloMosaic.Pipeline (Dat)

/-- The block's root-mean-square normalisation as vector operations. -/
def rmsV (x : FVec Ideal S512x1024 .f32) (g : FVec Ideal S1x1024 .f32) : FVec Ideal S512x1024 .f32 :=
  mulf (mulf x (broadcastTo S512x1024 (rsqrt (addf (divf (shapeCast S512x1 (multiReduction .add [1] S512 (mulf x x) 0x00000000#32
    reduces_S512x1024_S512 (.inl rfl) rfl) shapeCasts_S512_S512x1) (broadcast S512x1 (Scalar.ofBits .f32 0x44800000#32)))
    (broadcast S512x1 (Scalar.ofBits .f32 0x358637BD#32)))) broadcasts_S512x1_S512x1024))
    (broadcastTo S512x1024 g broadcasts_S1x1024_S512x1024)

/-- It is `Rows.rms` of each row. -/
theorem rmsV_apply (x : FVec Ideal S512x1024 .f32) (g : FVec Ideal S1x1024 .f32) (i : Fin 512) (j : Fin 1024) :
    rmsV x g (ix2 i j) = rms (fun k => x (ix2 i k)) (fun k => g (ix2 0 k)) j := by
  have e : shapeCast S512x1 (multiReduction .add [1] S512 (mulf x x) 0x00000000#32 reduces_S512x1024_S512 (.inl rfl) rfl)
      shapeCasts_S512_S512x1 (ix2 i 0) = ∑ k : Fin 1024, x (ix2 i k) * x (ix2 i k) := by
    rw [shapeCast_apply _ _ _ (ix1 i : S512.Idx) (by rfl)]
    refine (Ideal.multiReduction_add_single _ _ _ _ _ _).trans ?_
    refine Finset.sum_congr rfl fun k _ => ?_
    have h : (reduces_S512x1024_S512.lift (ix1 i : S512.Idx) k : S512x1024.Idx) = ix2 i k := funext fun a => Fin.ext (by
      match a with | ⟨0, _⟩ => rfl | ⟨1, _⟩ => rfl)
    rw [h]
    rfl
  unfold rmsV rms
  pointwise [e]

/-- The normalised block as the kernel binds it. -/
theorem pay3_eq (x : Vec Ideal S512x1024 .f32) (g : Vec Ideal S1x1024 .f32) : k0_pay3 x g = truncf .bf16 (rmsV x g) bitsLt_bf16_f32 := by
  have h : k0_pay3 x g = truncf .bf16 (rmsV (shapeCast S512x1024 x shapeCasts_S512x1024_S512x1024) (shapeCast S1x1024 g shapeCasts_S1x1024_S1x1024)) bitsLt_bf16_f32 := rfl
  rw [h, shapeCast_self, shapeCast_self]

/-- The block's product with the attention weights, an entry. -/
theorem pay4_apply (x : Vec Ideal S512x1024 .f32) (g : Vec Ideal S1x1024 .f32) (w : Vec Ideal S1024x1408 .bf16) (i : Fin 512) (j : Fin 1408) :
    k0_pay4 x g w (ix2 i j) = dot (rms (fun k => x (ix2 i k)) (fun k => g (ix2 0 k))) (fun k l => w (ix2 k l)) j := by
  have e1 := mm_apply dot_S512x1024_S1024x1408_S512x1408_1_0_0_1_n_n rfl
  unfold k0_pay4 dot
  rw [pay3_eq]
  pointwise [e1, shapeCast_self, rmsV_apply]

/-- The block's product with the recurrence's weights, an entry. -/
theorem pay2_apply (x : Vec Ideal S512x1024 .f32) (g : Vec Ideal S1x1024 .f32) (w : Vec Ideal S1024x1792 .bf16) (i : Fin 512) (j : Fin 1792) :
    k0_pay2 (k0_pay3 x g) w (ix2 i j) = dot (rms (fun k => x (ix2 i k)) (fun k => g (ix2 0 k))) (fun k l => w (ix2 k l)) j := by
  have e1 := mm_apply dot_S512x1024_S1024x1792_S512x1792_1_0_0_1_n_n rfl
  unfold k0_pay2 dot
  rw [pay3_eq]
  pointwise [e1, shapeCast_self, rmsV_apply]

variable (m : (ℓ : Loc nD τ sig) → Buf (Elt Ideal) ℓ) (ρ : Dev nD → PrngReg)

/-- The argument arrays. -/
abbrev argX (c : Dev nD) : S32x16x1024.Idx → EReal := m ((c : Thread nD τ).loc main_arg0)
/-- The gain. -/
abbrev argG (c : Dev nD) : S1x1024.Idx → EReal := m ((c : Thread nD τ).loc main_arg1)
/-- The wide projection's weights. -/
abbrev argW (c : Dev nD) : S1x1024x5192.Idx → EReal := m ((c : Thread nD τ).loc main_arg2)

/-- The input rows the region reads: the reshaped argument. -/
theorem V_x (c : Dev nD) : V m c main_v0 = shapeCast S512x1024 (argX m c) shapeCasts_S32x16x1024_S512x1024 := by
  simp only [V, hostOps0]; after_results_simp <;> rfl

/-- The gain the region reads. -/
theorem V_g (c : Dev nD) : V m c main_v18 = argG m c := by
  have h : V m c main_v18 = shapeCast S1x1024 (shapeCast S1024 (argG m c) shapeCasts_S1x1024_S1024) shapeCasts_S1024_S1x1024 := by
    simp only [V, hostOps0]; after_results_simp <;> rfl
  rw [h, shapeCast_shapeCast]

/-- The recurrence's weights: a group of columns. -/
theorem V_wr (c : Dev nD) : V m c main_v12 = truncf .bf16 (extractStridedSlice S1024x1792 ![0, 1352] (shapeCast S1024x5192 (argW m c) shapeCasts_S1x1024x5192_S1024x5192 : FVec Ideal S1024x5192 .f32)
    slices_S1024x5192_S1024x1792_0_1352) bitsLt_bf16_f32 := by
  simp only [V, hostOps0]; after_results_simp <;> rfl

/-- The pieces of the attention weights, left to right: six groups of columns and a padding. -/
def wpieces (W : FVec Ideal S1024x5192 .f32) : List ((s : Shape) × (s.Idx → Ideal .f32)) :=
    [⟨S1024x512, extractStridedSlice S1024x512 ![0, 0] W slices_S1024x5192_S1024x512_0_0⟩,
     ⟨S1024x512, extractStridedSlice S1024x512 ![0, 768] W slices_S1024x5192_S1024x512_0_768⟩,
     ⟨S1024x128, extractStridedSlice S1024x128 ![0, 512] W slices_S1024x5192_S1024x128_0_512⟩,
     ⟨S1024x128, extractStridedSlice S1024x128 ![0, 640] W slices_S1024x5192_S1024x128_0_640⟩,
     ⟨S1024x64, extractStridedSlice S1024x64 ![0, 1280] W slices_S1024x5192_S1024x64_0_1280⟩,
     ⟨S1024x8, extractStridedSlice S1024x8 ![0, 1344] W slices_S1024x5192_S1024x8_0_1344⟩,
     ⟨S1024x56, broadcastInDim S1024x56 ![] bcast_S_S1024x56 (constant S_ .f32 0x00000000#32 : FVec Ideal S_ .f32)⟩]

/-- The attention weights. -/
theorem V_wa (c : Dev nD) : V m c main_v10 = truncf .bf16 (concatenate S1024x1408 1 (wpieces (shapeCast S1024x5192 (argW m c) shapeCasts_S1x1024x5192_S1024x5192))
    concatenates_S1024x512_S1024x512_S1024x128_S1024x128_S1024x64_S1024x8_S1024x56_S1024x1408_d1 : FVec Ideal S1024x1408 .f32) bitsLt_bf16_f32 := by
  simp only [V, hostOps0]; after_results_simp <;> rfl

/-- Piece 0 of the attention weights is the group of 512 columns from column 0 on. -/
theorem wcat_0 (W : FVec Ideal S1024x5192 .f32) (k : Fin 1024) (l : Fin 512) : concatenate S1024x1408 1 (wpieces W)
    concatenates_S1024x512_S1024x512_S1024x128_S1024x128_S1024x64_S1024x8_S1024x56_S1024x1408_d1 (ix2 k ⟨0 + l.val, by omega⟩) = W (ix2 k ⟨0 + l.val, by omega⟩) := by
  refine (concatenate_apply_piece (t := S1024x1408) 1 (wpieces W) concatenates_S1024x512_S1024x512_S1024x128_S1024x128_S1024x64_S1024x8_S1024x56_S1024x1408_d1
    (ix2 k ⟨0 + l.val, by omega⟩) 0 (by show 0 < 7; omega) S1024x512 (extractStridedSlice S1024x512 ![0, 0] W slices_S1024x5192_S1024x512_0_0) rfl rfl 0 (by rfl) (ix2 k l)
    (by intro a ha; match a with | ⟨0, _⟩ => rfl | ⟨1, _⟩ => exact absurd rfl ha) rfl).trans ?_
  exact extractStridedSlice_apply ![0, 0] W _ (ix2 k l) (ix2 k ⟨0 + l.val, by omega⟩ : S1024x5192.Idx) (fun a => by
    match a with | ⟨0, _⟩ => exact (Nat.zero_add _).symm | ⟨1, _⟩ => first | rfl | exact (Nat.zero_add _).symm)

/-- The same of the array the region reads. -/
theorem col_0 (c : Dev nD) (k : Fin 1024) (l : Fin 512) : (V m c main_v10 : S1024x1408.Idx → EReal) (ix2 k ⟨0 + l.val, by omega⟩)
    = shapeCast S1024x5192 (argW m c) shapeCasts_S1x1024x5192_S1024x5192 (ix2 k ⟨0 + l.val, by omega⟩) :=
  (congrFun (V_wa m c) _).trans (wcat_0 _ k l)

/-- Piece 1 of the attention weights is the group of 512 columns from column 768 on. -/
theorem wcat_1 (W : FVec Ideal S1024x5192 .f32) (k : Fin 1024) (l : Fin 512) : concatenate S1024x1408 1 (wpieces W)
    concatenates_S1024x512_S1024x512_S1024x128_S1024x128_S1024x64_S1024x8_S1024x56_S1024x1408_d1 (ix2 k ⟨512 + l.val, by omega⟩) = W (ix2 k ⟨768 + l.val, by omega⟩) := by
  refine (concatenate_apply_piece (t := S1024x1408) 1 (wpieces W) concatenates_S1024x512_S1024x512_S1024x128_S1024x128_S1024x64_S1024x8_S1024x56_S1024x1408_d1
    (ix2 k ⟨512 + l.val, by omega⟩) 1 (by show 1 < 7; omega) S1024x512 (extractStridedSlice S1024x512 ![0, 768] W slices_S1024x5192_S1024x512_0_768) rfl rfl 512 (by rfl) (ix2 k l)
    (by intro a ha; match a with | ⟨0, _⟩ => rfl | ⟨1, _⟩ => exact absurd rfl ha) rfl).trans ?_
  exact extractStridedSlice_apply ![0, 768] W _ (ix2 k l) (ix2 k ⟨768 + l.val, by omega⟩ : S1024x5192.Idx) (fun a => by
    match a with | ⟨0, _⟩ => exact (Nat.zero_add _).symm | ⟨1, _⟩ => first | rfl | exact (Nat.zero_add _).symm)

/-- The same of the array the region reads. -/
theorem col_1 (c : Dev nD) (k : Fin 1024) (l : Fin 512) : (V m c main_v10 : S1024x1408.Idx → EReal) (ix2 k ⟨512 + l.val, by omega⟩)
    = shapeCast S1024x5192 (argW m c) shapeCasts_S1x1024x5192_S1024x5192 (ix2 k ⟨768 + l.val, by omega⟩) :=
  (congrFun (V_wa m c) _).trans (wcat_1 _ k l)

/-- Piece 2 of the attention weights is the group of 128 columns from column 512 on. -/
theorem wcat_2 (W : FVec Ideal S1024x5192 .f32) (k : Fin 1024) (l : Fin 128) : concatenate S1024x1408 1 (wpieces W)
    concatenates_S1024x512_S1024x512_S1024x128_S1024x128_S1024x64_S1024x8_S1024x56_S1024x1408_d1 (ix2 k ⟨1024 + l.val, by omega⟩) = W (ix2 k ⟨512 + l.val, by omega⟩) := by
  refine (concatenate_apply_piece (t := S1024x1408) 1 (wpieces W) concatenates_S1024x512_S1024x512_S1024x128_S1024x128_S1024x64_S1024x8_S1024x56_S1024x1408_d1
    (ix2 k ⟨1024 + l.val, by omega⟩) 2 (by show 2 < 7; omega) S1024x128 (extractStridedSlice S1024x128 ![0, 512] W slices_S1024x5192_S1024x128_0_512) rfl rfl 1024 (by rfl) (ix2 k l)
    (by intro a ha; match a with | ⟨0, _⟩ => rfl | ⟨1, _⟩ => exact absurd rfl ha) rfl).trans ?_
  exact extractStridedSlice_apply ![0, 512] W _ (ix2 k l) (ix2 k ⟨512 + l.val, by omega⟩ : S1024x5192.Idx) (fun a => by
    match a with | ⟨0, _⟩ => exact (Nat.zero_add _).symm | ⟨1, _⟩ => first | rfl | exact (Nat.zero_add _).symm)

/-- The same of the array the region reads. -/
theorem col_2 (c : Dev nD) (k : Fin 1024) (l : Fin 128) : (V m c main_v10 : S1024x1408.Idx → EReal) (ix2 k ⟨1024 + l.val, by omega⟩)
    = shapeCast S1024x5192 (argW m c) shapeCasts_S1x1024x5192_S1024x5192 (ix2 k ⟨512 + l.val, by omega⟩) :=
  (congrFun (V_wa m c) _).trans (wcat_2 _ k l)

/-- Piece 3 of the attention weights is the group of 128 columns from column 640 on. -/
theorem wcat_3 (W : FVec Ideal S1024x5192 .f32) (k : Fin 1024) (l : Fin 128) : concatenate S1024x1408 1 (wpieces W)
    concatenates_S1024x512_S1024x512_S1024x128_S1024x128_S1024x64_S1024x8_S1024x56_S1024x1408_d1 (ix2 k ⟨1152 + l.val, by omega⟩) = W (ix2 k ⟨640 + l.val, by omega⟩) := by
  refine (concatenate_apply_piece (t := S1024x1408) 1 (wpieces W) concatenates_S1024x512_S1024x512_S1024x128_S1024x128_S1024x64_S1024x8_S1024x56_S1024x1408_d1
    (ix2 k ⟨1152 + l.val, by omega⟩) 3 (by show 3 < 7; omega) S1024x128 (extractStridedSlice S1024x128 ![0, 640] W slices_S1024x5192_S1024x128_0_640) rfl rfl 1152 (by rfl) (ix2 k l)
    (by intro a ha; match a with | ⟨0, _⟩ => rfl | ⟨1, _⟩ => exact absurd rfl ha) rfl).trans ?_
  exact extractStridedSlice_apply ![0, 640] W _ (ix2 k l) (ix2 k ⟨640 + l.val, by omega⟩ : S1024x5192.Idx) (fun a => by
    match a with | ⟨0, _⟩ => exact (Nat.zero_add _).symm | ⟨1, _⟩ => first | rfl | exact (Nat.zero_add _).symm)

/-- The same of the array the region reads. -/
theorem col_3 (c : Dev nD) (k : Fin 1024) (l : Fin 128) : (V m c main_v10 : S1024x1408.Idx → EReal) (ix2 k ⟨1152 + l.val, by omega⟩)
    = shapeCast S1024x5192 (argW m c) shapeCasts_S1x1024x5192_S1024x5192 (ix2 k ⟨640 + l.val, by omega⟩) :=
  (congrFun (V_wa m c) _).trans (wcat_3 _ k l)

/-- Piece 4 of the attention weights is the group of 64 columns from column 1280 on. -/
theorem wcat_4 (W : FVec Ideal S1024x5192 .f32) (k : Fin 1024) (l : Fin 64) : concatenate S1024x1408 1 (wpieces W)
    concatenates_S1024x512_S1024x512_S1024x128_S1024x128_S1024x64_S1024x8_S1024x56_S1024x1408_d1 (ix2 k ⟨1280 + l.val, by omega⟩) = W (ix2 k ⟨1280 + l.val, by omega⟩) := by
  refine (concatenate_apply_piece (t := S1024x1408) 1 (wpieces W) concatenates_S1024x512_S1024x512_S1024x128_S1024x128_S1024x64_S1024x8_S1024x56_S1024x1408_d1
    (ix2 k ⟨1280 + l.val, by omega⟩) 4 (by show 4 < 7; omega) S1024x64 (extractStridedSlice S1024x64 ![0, 1280] W slices_S1024x5192_S1024x64_0_1280) rfl rfl 1280 (by rfl) (ix2 k l)
    (by intro a ha; match a with | ⟨0, _⟩ => rfl | ⟨1, _⟩ => exact absurd rfl ha) rfl).trans ?_
  exact extractStridedSlice_apply ![0, 1280] W _ (ix2 k l) (ix2 k ⟨1280 + l.val, by omega⟩ : S1024x5192.Idx) (fun a => by
    match a with | ⟨0, _⟩ => exact (Nat.zero_add _).symm | ⟨1, _⟩ => first | rfl | exact (Nat.zero_add _).symm)

/-- The same of the array the region reads. -/
theorem col_4 (c : Dev nD) (k : Fin 1024) (l : Fin 64) : (V m c main_v10 : S1024x1408.Idx → EReal) (ix2 k ⟨1280 + l.val, by omega⟩)
    = shapeCast S1024x5192 (argW m c) shapeCasts_S1x1024x5192_S1024x5192 (ix2 k ⟨1280 + l.val, by omega⟩) :=
  (congrFun (V_wa m c) _).trans (wcat_4 _ k l)

/-- Piece 5 of the attention weights is the group of 8 columns from column 1344 on. -/
theorem wcat_5 (W : FVec Ideal S1024x5192 .f32) (k : Fin 1024) (l : Fin 8) : concatenate S1024x1408 1 (wpieces W)
    concatenates_S1024x512_S1024x512_S1024x128_S1024x128_S1024x64_S1024x8_S1024x56_S1024x1408_d1 (ix2 k ⟨1344 + l.val, by omega⟩) = W (ix2 k ⟨1344 + l.val, by omega⟩) := by
  refine (concatenate_apply_piece (t := S1024x1408) 1 (wpieces W) concatenates_S1024x512_S1024x512_S1024x128_S1024x128_S1024x64_S1024x8_S1024x56_S1024x1408_d1
    (ix2 k ⟨1344 + l.val, by omega⟩) 5 (by show 5 < 7; omega) S1024x8 (extractStridedSlice S1024x8 ![0, 1344] W slices_S1024x5192_S1024x8_0_1344) rfl rfl 1344 (by rfl) (ix2 k l)
    (by intro a ha; match a with | ⟨0, _⟩ => rfl | ⟨1, _⟩ => exact absurd rfl ha) rfl).trans ?_
  exact extractStridedSlice_apply ![0, 1344] W _ (ix2 k l) (ix2 k ⟨1344 + l.val, by omega⟩ : S1024x5192.Idx) (fun a => by
    match a with | ⟨0, _⟩ => exact (Nat.zero_add _).symm | ⟨1, _⟩ => first | rfl | exact (Nat.zero_add _).symm)

/-- The same of the array the region reads. -/
theorem col_5 (c : Dev nD) (k : Fin 1024) (l : Fin 8) : (V m c main_v10 : S1024x1408.Idx → EReal) (ix2 k ⟨1344 + l.val, by omega⟩)
    = shapeCast S1024x5192 (argW m c) shapeCasts_S1x1024x5192_S1024x5192 (ix2 k ⟨1344 + l.val, by omega⟩) :=
  (congrFun (V_wa m c) _).trans (wcat_5 _ k l)

/-- The recurrence's weights, an entry. -/
theorem col_wr (c : Dev nD) (k : Fin 1024) (l : Fin 1792) : (V m c main_v12 : S1024x1792.Idx → EReal) (ix2 k l)
    = shapeCast S1024x5192 (argW m c) shapeCasts_S1x1024x5192_S1024x5192 (ix2 k ⟨1352 + l.val, by omega⟩) := by
  refine (congrFun (V_wr m c) _).trans ?_
  exact extractStridedSlice_apply ![0, 1352] (shapeCast S1024x5192 (argW m c) shapeCasts_S1x1024x5192_S1024x5192) slices_S1024x5192_S1024x1792_0_1352 (ix2 k l) (ix2 k ⟨1352 + l.val, by omega⟩ : S1024x5192.Idx) (fun a => by
    match a with | ⟨0, _⟩ => exact (Nat.zero_add _).symm | ⟨1, _⟩ => rfl)

/-- Where each window stands at point `t`: the input rows and seven results at block row `t`, the weights at the origin. -/
theorem idx_facts : ∀ t : Fin cfg0.N,
    (win0_0.index t 0 = t.val ∧ win0_0.index t 1 = 0)
    ∧ (win0_4.index t 0 = t.val ∧ win0_4.index t 1 = 0)
    ∧ (win0_5.index t 0 = t.val ∧ win0_5.index t 1 = 0)
    ∧ (win0_6.index t 0 = t.val ∧ win0_6.index t 1 = 0)
    ∧ (win0_7.index t 0 = t.val ∧ win0_7.index t 1 = 0)
    ∧ (win0_8.index t 0 = t.val ∧ win0_8.index t 1 = 0)
    ∧ (win0_9.index t 0 = t.val ∧ win0_9.index t 1 = 0)
    ∧ (win0_10.index t 0 = t.val ∧ win0_10.index t 1 = 0)
    ∧ (win0_1.index t 0 = 0 ∧ win0_1.index t 1 = 0)
    ∧ (win0_2.index t 0 = 0 ∧ win0_2.index t 1 = 0)
    ∧ (win0_3.index t 0 = 0 ∧ win0_3.index t 1 = 0) :=
  (by decide +kernel : ∀ t : Fin grid0.N,
    (win0_0.index t 0 = t.val ∧ win0_0.index t 1 = 0)
    ∧ (win0_4.index t 0 = t.val ∧ win0_4.index t 1 = 0)
    ∧ (win0_5.index t 0 = t.val ∧ win0_5.index t 1 = 0)
    ∧ (win0_6.index t 0 = t.val ∧ win0_6.index t 1 = 0)
    ∧ (win0_7.index t 0 = t.val ∧ win0_7.index t 1 = 0)
    ∧ (win0_8.index t 0 = t.val ∧ win0_8.index t 1 = 0)
    ∧ (win0_9.index t 0 = t.val ∧ win0_9.index t 1 = 0)
    ∧ (win0_10.index t 0 = t.val ∧ win0_10.index t 1 = 0)
    ∧ (win0_1.index t 0 = 0 ∧ win0_1.index t 1 = 0)
    ∧ (win0_2.index t 0 = 0 ∧ win0_2.index t 1 = 0)
    ∧ (win0_3.index t 0 = 0 ∧ win0_3.index t 1 = 0))

/-- Row `a` of block `t` is row `512 t + a` of the array. -/
def row (t : Fin cfg0.N) (a : Fin 512) : Fin 512 := ⟨512 * t.val + a.val, by have : t.val < 1 := t.isLt; omega⟩

/-- The block of `x`. -/
theorem blk_x (c : Dev nD) (t : Fin cfg0.N) (a : Fin 512) (b : Fin 1024) :
    (iblk m c 0 t : S512x1024.Idx → EReal) (ix2 a b) = (V m c main_v0 : S512x1024.Idx → EReal) (ix2 (row t a) b) := by
  obtain ⟨h0, h1⟩ := (idx_facts t).1
  unfold iblk
  rw [View.read_apply]
  refine congrArg (V m c main_v0) (funext fun d => Fin.ext ?_)
  match d with
  | ⟨0, _⟩ => show win0_0.index t 0 * 512 + 1 * a.val = 512 * t.val + a.val; rw [h0]; omega
  | ⟨1, _⟩ => show win0_0.index t 1 * 1024 + 1 * b.val = b.val; rw [h1]; omega

/-- The block of `g`. -/
theorem blk_g (c : Dev nD) (t : Fin cfg0.N) (a : Fin 1) (b : Fin 1024) :
    (iblk m c 1 t : S1x1024.Idx → EReal) (ix2 a b) = (V m c main_v18 : S1x1024.Idx → EReal) (ix2 a b) := by
  obtain ⟨h0, h1⟩ := (idx_facts t).2.2.2.2.2.2.2.2.1
  unfold iblk
  rw [View.read_apply]
  refine congrArg (V m c main_v18) (funext fun d => Fin.ext ?_)
  match d with
  | ⟨0, _⟩ => show win0_1.index t 0 * 1 + 1 * a.val = a.val; rw [h0]; omega
  | ⟨1, _⟩ => show win0_1.index t 1 * 1024 + 1 * b.val = b.val; rw [h1]; omega

/-- The block of `wa`. -/
theorem blk_wa (c : Dev nD) (t : Fin cfg0.N) (a : Fin 1024) (b : Fin 1408) :
    (iblk m c 2 t : S1024x1408.Idx → EReal) (ix2 a b) = (V m c main_v10 : S1024x1408.Idx → EReal) (ix2 a b) := by
  obtain ⟨h0, h1⟩ := (idx_facts t).2.2.2.2.2.2.2.2.2.1
  unfold iblk
  rw [View.read_apply]
  refine congrArg (V m c main_v10) (funext fun d => Fin.ext ?_)
  match d with
  | ⟨0, _⟩ => show win0_2.index t 0 * 1024 + 1 * a.val = a.val; rw [h0]; omega
  | ⟨1, _⟩ => show win0_2.index t 1 * 1408 + 1 * b.val = b.val; rw [h1]; omega

/-- The block of `wr`. -/
theorem blk_wr (c : Dev nD) (t : Fin cfg0.N) (a : Fin 1024) (b : Fin 1792) :
    (iblk m c 3 t : S1024x1792.Idx → EReal) (ix2 a b) = (V m c main_v12 : S1024x1792.Idx → EReal) (ix2 a b) := by
  obtain ⟨h0, h1⟩ := (idx_facts t).2.2.2.2.2.2.2.2.2.2
  unfold iblk
  rw [View.read_apply]
  refine congrArg (V m c main_v12) (funext fun d => Fin.ext ?_)
  match d with
  | ⟨0, _⟩ => show win0_3.index t 0 * 1024 + 1 * a.val = a.val; rw [h0]; omega
  | ⟨1, _⟩ => show win0_3.index t 1 * 1792 + 1 * b.val = b.val; rw [h1]; omega

/-- The block's product with the attention weights is the wide projection of its rows, at the column the piece came from. -/
theorem pay4_blk (c : Dev nD) (t : Fin cfg0.N) (a : Fin 512) (l : Fin 1408) (l' : Fin 5192)
    (h : ∀ k : Fin 1024, (V m c main_v10 : S1024x1408.Idx → EReal) (ix2 k l) = shapeCast S1024x5192 (argW m c) shapeCasts_S1x1024x5192_S1024x5192 (ix2 k l')) :
    k0_pay4 (F := Ideal) (iblk m c 0 t) (iblk m c 1 t) (iblk m c 2 t) (ix2 a l) = lin (argX m c) (argG m c) (argW m c) (row t a) l' := by
  refine (pay4_apply _ _ _ a l).trans ?_
  have hx : (fun k => (iblk m c 0 t : S512x1024.Idx → EReal) (ix2 a k)) = fun k => shapeCast S512x1024 (argX m c) shapeCasts_S32x16x1024_S512x1024 (ix2 (row t a) k) :=
    funext fun k => (blk_x m c t a k).trans (congrFun (V_x m c) _)
  have hg : (fun k => (iblk m c 1 t : S1x1024.Idx → EReal) (ix2 0 k)) = fun k => argG m c (ix2 0 k) :=
    funext fun k => (blk_g m c t 0 k).trans (congrFun (V_g m c) _)
  unfold lin
  rw [hx, hg]
  exact Finset.sum_congr rfl fun k _ => congrArg _ ((blk_wa m c t k l).trans (h k))

/-- The same for the recurrence's weights. -/
theorem pay2_blk (c : Dev nD) (t : Fin cfg0.N) (a : Fin 512) (l : Fin 1792) :
    k0_pay2 (k0_pay3 (F := Ideal) (iblk m c 0 t) (iblk m c 1 t)) (iblk m c 3 t) (ix2 a l) = lin (argX m c) (argG m c) (argW m c) (row t a) ⟨1352 + l.val, by omega⟩ := by
  refine (pay2_apply _ _ _ a l).trans ?_
  have hx : (fun k => (iblk m c 0 t : S512x1024.Idx → EReal) (ix2 a k)) = fun k => shapeCast S512x1024 (argX m c) shapeCasts_S32x16x1024_S512x1024 (ix2 (row t a) k) :=
    funext fun k => (blk_x m c t a k).trans (congrFun (V_x m c) _)
  have hg : (fun k => (iblk m c 1 t : S1x1024.Idx → EReal) (ix2 0 k)) = fun k => argG m c (ix2 0 k) :=
    funext fun k => (blk_g m c t 0 k).trans (congrFun (V_g m c) _)
  unfold lin
  rw [hx, hg]
  exact Finset.sum_congr rfl fun k _ => congrArg _ ((blk_wr m c t k l).trans (col_wr m c k l))

/-- A load's origin. -/
theorem hz : (![0, 0] : Fin 2 → Nat) = fun _ => 0 := funext fun a => by fin_cases a <;> rfl

/-- What point `t` leaves of the queries. -/
theorem block_4 (c : Dev nD) (t : Fin cfg0.N) (a : Fin 512) (b : Fin 512) :
    out0_4 (F := Ideal) (iblk m c 0 t) (iblk m c 1 t) (iblk m c 2 t) (iblk m c 3 t) (ix2 a b) = group 0 512 (by omega) eighth (argX m c) (argG m c) (argW m c) (ix2 (row t a) b) := by
  have e := pay4_blk m c t a ⟨0 + b.val, by omega⟩ ⟨0 + b.val, by omega⟩ (fun k => col_0 m c k b)
  unfold out0_4
  simp only [r0_0, r0_1, r0_2, View.ld_unit_zero (S := S512x1024) hz, View.ld_unit_zero (S := S1x1024) hz, View.ld_unit_zero (S := S1024x1408) hz]
  refine (canon4_eq _ _ _ (ix2 a b)).trans ?_
  have hi : (ix4_0 (ix2 a b) : S512x1408.Idx) = ix2 a ⟨0 + b.val, by omega⟩ := funext fun d => Fin.ext (by
    match d with | ⟨0, _⟩ => rfl | ⟨1, _⟩ => first | exact Nat.add_comm _ _ | exact (Nat.zero_add _).symm)
  simp only [E4, hi, e]
  rfl

/-- The queries after the run. -/
theorem final_4 (c : Dev nD) : (dats m 0 c).arrAt 4 cfg0.N = group 0 512 (by omega) eighth (argX m c) (argG m c) (argW m c) := by
  refine (dats m 0 c).arrAt_eq_of_covers 4 _ (by decide +kernel) fun t hf y => ?_
  obtain ⟨h0, h1⟩ := (idx_facts t).2.1
  have e : (((cfg0.win 4).blk t).view.emb y : S512x512.Idx) = ix2 (row t (y 0)) (y 1) := funext fun d => Fin.ext (by
    match d with
    | ⟨0, _⟩ => show win0_4.index t 0 * 512 + 1 * (y 0).val = 512 * t.val + (y 0).val; rw [h0]; omega
    | ⟨1, _⟩ => show win0_4.index t 1 * 512 + 1 * (y 1).val = (y 1).val; rw [h1]; omega)
  have hy : ((cfg0.win 4).xinj (cfg0.grid.coords t) y : S512x512.Idx) = ix2 (n0 := 512) (n1 := 512) (y 0) (y 1) :=
    funext fun a => by match a with | ⟨0, _⟩ => rfl | ⟨1, _⟩ => rfl
  rw [after0_4]
  generalize hX : out0_4 (F := Ideal) (iblk m c 0 t) (iblk m c 1 t) (iblk m c 2 t) (iblk m c 3 t) = X
  refine Eq.trans ?_ (congrArg (group 0 512 (by omega) eighth (argX m c) (argG m c) (argW m c)) e).symm
  refine Eq.trans (congrArg X hy) ?_
  rw [← hX]
  exact block_4 m c t (y 0) (y 1)

/-- What point `t` leaves of the index queries. -/
theorem block_5 (c : Dev nD) (t : Fin cfg0.N) (a : Fin 512) (b : Fin 512) :
    out0_5 (F := Ideal) (iblk m c 0 t) (iblk m c 1 t) (iblk m c 2 t) (iblk m c 3 t) (ix2 a b) = group 768 512 (by omega) eighth (argX m c) (argG m c) (argW m c) (ix2 (row t a) b) := by
  have e := pay4_blk m c t a ⟨512 + b.val, by omega⟩ ⟨768 + b.val, by omega⟩ (fun k => col_1 m c k b)
  unfold out0_5
  simp only [r0_0, r0_1, r0_2, View.ld_unit_zero (S := S512x1024) hz, View.ld_unit_zero (S := S1x1024) hz, View.ld_unit_zero (S := S1024x1408) hz]
  refine (canon5_eq _ _ _ (ix2 a b)).trans ?_
  have hi : (ix5_0 (ix2 a b) : S512x1408.Idx) = ix2 a ⟨512 + b.val, by omega⟩ := funext fun d => Fin.ext (by
    match d with | ⟨0, _⟩ => rfl | ⟨1, _⟩ => first | exact Nat.add_comm _ _ | exact (Nat.zero_add _).symm)
  simp only [E5, hi, e]
  rfl

/-- The index queries after the run. -/
theorem final_5 (c : Dev nD) : (dats m 0 c).arrAt 5 cfg0.N = group 768 512 (by omega) eighth (argX m c) (argG m c) (argW m c) := by
  refine (dats m 0 c).arrAt_eq_of_covers 5 _ (by decide +kernel) fun t hf y => ?_
  obtain ⟨h0, h1⟩ := (idx_facts t).2.2.1
  have e : (((cfg0.win 5).blk t).view.emb y : S512x512.Idx) = ix2 (row t (y 0)) (y 1) := funext fun d => Fin.ext (by
    match d with
    | ⟨0, _⟩ => show win0_5.index t 0 * 512 + 1 * (y 0).val = 512 * t.val + (y 0).val; rw [h0]; omega
    | ⟨1, _⟩ => show win0_5.index t 1 * 512 + 1 * (y 1).val = (y 1).val; rw [h1]; omega)
  have hy : ((cfg0.win 5).xinj (cfg0.grid.coords t) y : S512x512.Idx) = ix2 (n0 := 512) (n1 := 512) (y 0) (y 1) :=
    funext fun a => by match a with | ⟨0, _⟩ => rfl | ⟨1, _⟩ => rfl
  rw [after0_5]
  generalize hX : out0_5 (F := Ideal) (iblk m c 0 t) (iblk m c 1 t) (iblk m c 2 t) (iblk m c 3 t) = X
  refine Eq.trans ?_ (congrArg (group 768 512 (by omega) eighth (argX m c) (argG m c) (argW m c)) e).symm
  refine Eq.trans (congrArg X hy) ?_
  rw [← hX]
  exact block_5 m c t (y 0) (y 1)

/-- What point `t` leaves of the keys. -/
theorem block_6 (c : Dev nD) (t : Fin cfg0.N) (a : Fin 512) (b : Fin 128) :
    out0_6 (F := Ideal) (iblk m c 0 t) (iblk m c 1 t) (iblk m c 2 t) (iblk m c 3 t) (ix2 a b) = cols 512 128 (by omega) (argX m c) (argG m c) (argW m c) (ix2 (row t a) b) := by
  have e := pay4_blk m c t a ⟨1024 + b.val, by omega⟩ ⟨512 + b.val, by omega⟩ (fun k => col_2 m c k b)
  unfold out0_6
  simp only [r0_0, r0_1, r0_2, View.ld_unit_zero (S := S512x1024) hz, View.ld_unit_zero (S := S1x1024) hz, View.ld_unit_zero (S := S1024x1408) hz]
  refine (canon6_eq _ _ _ (ix2 a b)).trans ?_
  have hi : (ix6_0 (ix2 a b) : S512x1408.Idx) = ix2 a ⟨1024 + b.val, by omega⟩ := funext fun d => Fin.ext (by
    match d with | ⟨0, _⟩ => rfl | ⟨1, _⟩ => first | exact Nat.add_comm _ _ | exact (Nat.zero_add _).symm)
  simp only [E6, hi, e]
  rfl

/-- The keys after the run. -/
theorem final_6 (c : Dev nD) : (dats m 0 c).arrAt 6 cfg0.N = cols 512 128 (by omega) (argX m c) (argG m c) (argW m c) := by
  refine (dats m 0 c).arrAt_eq_of_covers 6 _ (by decide +kernel) fun t hf y => ?_
  obtain ⟨h0, h1⟩ := (idx_facts t).2.2.2.1
  have e : (((cfg0.win 6).blk t).view.emb y : S512x128.Idx) = ix2 (row t (y 0)) (y 1) := funext fun d => Fin.ext (by
    match d with
    | ⟨0, _⟩ => show win0_6.index t 0 * 512 + 1 * (y 0).val = 512 * t.val + (y 0).val; rw [h0]; omega
    | ⟨1, _⟩ => show win0_6.index t 1 * 128 + 1 * (y 1).val = (y 1).val; rw [h1]; omega)
  have hy : ((cfg0.win 6).xinj (cfg0.grid.coords t) y : S512x128.Idx) = ix2 (n0 := 512) (n1 := 128) (y 0) (y 1) :=
    funext fun a => by match a with | ⟨0, _⟩ => rfl | ⟨1, _⟩ => rfl
  rw [after0_6]
  generalize hX : out0_6 (F := Ideal) (iblk m c 0 t) (iblk m c 1 t) (iblk m c 2 t) (iblk m c 3 t) = X
  refine Eq.trans ?_ (congrArg (cols 512 128 (by omega) (argX m c) (argG m c) (argW m c)) e).symm
  refine Eq.trans (congrArg X hy) ?_
  rw [← hX]
  exact block_6 m c t (y 0) (y 1)

/-- What point `t` leaves of the values. -/
theorem block_7 (c : Dev nD) (t : Fin cfg0.N) (a : Fin 512) (b : Fin 128) :
    out0_7 (F := Ideal) (iblk m c 0 t) (iblk m c 1 t) (iblk m c 2 t) (iblk m c 3 t) (ix2 a b) = cols 640 128 (by omega) (argX m c) (argG m c) (argW m c) (ix2 (row t a) b) := by
  have e := pay4_blk m c t a ⟨1152 + b.val, by omega⟩ ⟨640 + b.val, by omega⟩ (fun k => col_3 m c k b)
  unfold out0_7
  simp only [r0_0, r0_1, r0_2, View.ld_unit_zero (S := S512x1024) hz, View.ld_unit_zero (S := S1x1024) hz, View.ld_unit_zero (S := S1024x1408) hz]
  refine (canon7_eq _ _ _ (ix2 a b)).trans ?_
  have hi : (ix7_0 (ix2 a b) : S512x1408.Idx) = ix2 a ⟨1152 + b.val, by omega⟩ := funext fun d => Fin.ext (by
    match d with | ⟨0, _⟩ => rfl | ⟨1, _⟩ => first | exact Nat.add_comm _ _ | exact (Nat.zero_add _).symm)
  simp only [E7, hi, e]
  rfl

/-- The values after the run. -/
theorem final_7 (c : Dev nD) : (dats m 0 c).arrAt 7 cfg0.N = cols 640 128 (by omega) (argX m c) (argG m c) (argW m c) := by
  refine (dats m 0 c).arrAt_eq_of_covers 7 _ (by decide +kernel) fun t hf y => ?_
  obtain ⟨h0, h1⟩ := (idx_facts t).2.2.2.2.1
  have e : (((cfg0.win 7).blk t).view.emb y : S512x128.Idx) = ix2 (row t (y 0)) (y 1) := funext fun d => Fin.ext (by
    match d with
    | ⟨0, _⟩ => show win0_7.index t 0 * 512 + 1 * (y 0).val = 512 * t.val + (y 0).val; rw [h0]; omega
    | ⟨1, _⟩ => show win0_7.index t 1 * 128 + 1 * (y 1).val = (y 1).val; rw [h1]; omega)
  have hy : ((cfg0.win 7).xinj (cfg0.grid.coords t) y : S512x128.Idx) = ix2 (n0 := 512) (n1 := 128) (y 0) (y 1) :=
    funext fun a => by match a with | ⟨0, _⟩ => rfl | ⟨1, _⟩ => rfl
  rw [after0_7]
  generalize hX : out0_7 (F := Ideal) (iblk m c 0 t) (iblk m c 1 t) (iblk m c 2 t) (iblk m c 3 t) = X
  refine Eq.trans ?_ (congrArg (cols 640 128 (by omega) (argX m c) (argG m c) (argW m c)) e).symm
  refine Eq.trans (congrArg X hy) ?_
  rw [← hX]
  exact block_7 m c t (y 0) (y 1)

/-- What point `t` leaves of the index keys. -/
theorem block_8 (c : Dev nD) (t : Fin cfg0.N) (a : Fin 512) (b : Fin 64) :
    out0_8 (F := Ideal) (iblk m c 0 t) (iblk m c 1 t) (iblk m c 2 t) (iblk m c 3 t) (ix2 a b) = cols 1280 64 (by omega) (argX m c) (argG m c) (argW m c) (ix2 (row t a) b) := by
  have e := pay4_blk m c t a ⟨1280 + b.val, by omega⟩ ⟨1280 + b.val, by omega⟩ (fun k => col_4 m c k b)
  unfold out0_8
  simp only [r0_0, r0_1, r0_2, View.ld_unit_zero (S := S512x1024) hz, View.ld_unit_zero (S := S1x1024) hz, View.ld_unit_zero (S := S1024x1408) hz]
  refine (canon8_eq _ _ _ (ix2 a b)).trans ?_
  have hi : (ix8_0 (ix2 a b) : S512x1408.Idx) = ix2 a ⟨1280 + b.val, by omega⟩ := funext fun d => Fin.ext (by
    match d with | ⟨0, _⟩ => rfl | ⟨1, _⟩ => first | exact Nat.add_comm _ _ | exact (Nat.zero_add _).symm)
  simp only [E8, hi, e]
  rfl

/-- The index keys after the run. -/
theorem final_8 (c : Dev nD) : (dats m 0 c).arrAt 8 cfg0.N = cols 1280 64 (by omega) (argX m c) (argG m c) (argW m c) := by
  refine (dats m 0 c).arrAt_eq_of_covers 8 _ (by decide +kernel) fun t hf y => ?_
  obtain ⟨h0, h1⟩ := (idx_facts t).2.2.2.2.2.1
  have e : (((cfg0.win 8).blk t).view.emb y : S512x64.Idx) = ix2 (row t (y 0)) (y 1) := funext fun d => Fin.ext (by
    match d with
    | ⟨0, _⟩ => show win0_8.index t 0 * 512 + 1 * (y 0).val = 512 * t.val + (y 0).val; rw [h0]; omega
    | ⟨1, _⟩ => show win0_8.index t 1 * 64 + 1 * (y 1).val = (y 1).val; rw [h1]; omega)
  have hy : ((cfg0.win 8).xinj (cfg0.grid.coords t) y : S512x64.Idx) = ix2 (n0 := 512) (n1 := 64) (y 0) (y 1) :=
    funext fun a => by match a with | ⟨0, _⟩ => rfl | ⟨1, _⟩ => rfl
  rw [after0_8]
  generalize hX : out0_8 (F := Ideal) (iblk m c 0 t) (iblk m c 1 t) (iblk m c 2 t) (iblk m c 3 t) = X
  refine Eq.trans ?_ (congrArg (cols 1280 64 (by omega) (argX m c) (argG m c) (argW m c)) e).symm
  refine Eq.trans (congrArg X hy) ?_
  rw [← hX]
  exact block_8 m c t (y 0) (y 1)

/-- What point `t` leaves of the index heads' weights. -/
theorem block_9 (c : Dev nD) (t : Fin cfg0.N) (a : Fin 512) (b : Fin 8) :
    out0_9 (F := Ideal) (iblk m c 0 t) (iblk m c 1 t) (iblk m c 2 t) (iblk m c 3 t) (ix2 a b) = group 1344 8 (by omega) rootEighth (argX m c) (argG m c) (argW m c) (ix2 (row t a) b) := by
  have e := pay4_blk m c t a ⟨1344 + b.val, by omega⟩ ⟨1344 + b.val, by omega⟩ (fun k => col_5 m c k b)
  unfold out0_9
  simp only [r0_0, r0_1, r0_2, View.ld_unit_zero (S := S512x1024) hz, View.ld_unit_zero (S := S1x1024) hz, View.ld_unit_zero (S := S1024x1408) hz]
  refine (canon9_eq _ _ _ (ix2 a b)).trans ?_
  have hi : (ix9_0 (ix2 a b) : S512x1408.Idx) = ix2 a ⟨1344 + b.val, by omega⟩ := funext fun d => Fin.ext (by
    match d with | ⟨0, _⟩ => rfl | ⟨1, _⟩ => first | exact Nat.add_comm _ _ | exact (Nat.zero_add _).symm)
  simp only [E9, hi, e]
  rfl

/-- The index heads' weights after the run. -/
theorem final_9 (c : Dev nD) : (dats m 0 c).arrAt 9 cfg0.N = group 1344 8 (by omega) rootEighth (argX m c) (argG m c) (argW m c) := by
  refine (dats m 0 c).arrAt_eq_of_covers 9 _ (by decide +kernel) fun t hf y => ?_
  obtain ⟨h0, h1⟩ := (idx_facts t).2.2.2.2.2.2.1
  have e : (((cfg0.win 9).blk t).view.emb y : S512x8.Idx) = ix2 (row t (y 0)) (y 1) := funext fun d => Fin.ext (by
    match d with
    | ⟨0, _⟩ => show win0_9.index t 0 * 512 + 1 * (y 0).val = 512 * t.val + (y 0).val; rw [h0]; omega
    | ⟨1, _⟩ => show win0_9.index t 1 * 8 + 1 * (y 1).val = (y 1).val; rw [h1]; omega)
  have hy : ((cfg0.win 9).xinj (cfg0.grid.coords t) y : S512x8.Idx) = ix2 (n0 := 512) (n1 := 8) (y 0) (y 1) :=
    funext fun a => by match a with | ⟨0, _⟩ => rfl | ⟨1, _⟩ => rfl
  rw [after0_9]
  generalize hX : out0_9 (F := Ideal) (iblk m c 0 t) (iblk m c 1 t) (iblk m c 2 t) (iblk m c 3 t) = X
  refine Eq.trans ?_ (congrArg (group 1344 8 (by omega) rootEighth (argX m c) (argG m c) (argW m c)) e).symm
  refine Eq.trans (congrArg X hy) ?_
  rw [← hX]
  exact block_9 m c t (y 0) (y 1)

/-- What point `t` leaves of the recurrence's columns. -/
theorem block_10 (c : Dev nD) (t : Fin cfg0.N) (a : Fin 512) (b : Fin 1792) :
    out0_10 (F := Ideal) (iblk m c 0 t) (iblk m c 1 t) (iblk m c 2 t) (iblk m c 3 t) (ix2 a b) = cols 1352 1792 (by omega) (argX m c) (argG m c) (argW m c) (ix2 (row t a) b) := by
  unfold out0_10
  simp only [r0_0, r0_1, r0_7, r0_8, View.ld_unit_zero (S := S512x1024) hz, View.ld_unit_zero (S := S1x1024) hz, View.ld_unit_zero (S := S1024x1792) hz]
  rw [View.canon_unit_zero (S := S512x1792) hz]
  exact pay2_blk m c t a b

/-- The recurrence's columns after the run. -/
theorem final_10 (c : Dev nD) : (dats m 0 c).arrAt 10 cfg0.N = cols 1352 1792 (by omega) (argX m c) (argG m c) (argW m c) := by
  refine (dats m 0 c).arrAt_eq_of_covers 10 _ (by decide +kernel) fun t hf y => ?_
  obtain ⟨h0, h1⟩ := (idx_facts t).2.2.2.2.2.2.2.1
  have e : (((cfg0.win 10).blk t).view.emb y : S512x1792.Idx) = ix2 (row t (y 0)) (y 1) := funext fun d => Fin.ext (by
    match d with
    | ⟨0, _⟩ => show win0_10.index t 0 * 512 + 1 * (y 0).val = 512 * t.val + (y 0).val; rw [h0]; omega
    | ⟨1, _⟩ => show win0_10.index t 1 * 1792 + 1 * (y 1).val = (y 1).val; rw [h1]; omega)
  have hy : ((cfg0.win 10).xinj (cfg0.grid.coords t) y : S512x1792.Idx) = ix2 (n0 := 512) (n1 := 1792) (y 0) (y 1) :=
    funext fun a => by match a with | ⟨0, _⟩ => rfl | ⟨1, _⟩ => rfl
  rw [after0_10]
  generalize hX : out0_10 (F := Ideal) (iblk m c 0 t) (iblk m c 1 t) (iblk m c 2 t) (iblk m c 3 t) = X
  refine Eq.trans ?_ (congrArg (cols 1352 1792 (by omega) (argX m c) (argG m c) (argW m c)) e).symm
  refine Eq.trans (congrArg X hy) ?_
  rw [← hX]
  exact block_10 m c t (y 0) (y 1)

end Cert.InProjSIdeal.Hand

end
-- ==== Proof.InProjSClaims.lean ====
/- The sample batch. The claims about the input projection's call: the frames of its three programs, and the equality of the call and its reference. -/
module

public import proofs.«01_k».proof.Defs
public import proofs.«01_k».proof.Proof.InProjSRef
public import proofs.«01_k».proof.Proof.InProjSRun
public import proofs.«01_k».proof.Proof.Gen.InProjS.Frame
public import proofs.«01_k».proof.Proof.Gen.InProjSRefIdeal.Run

@[expose] public section

noncomputable section

namespace Cert.InProjSClaims

open Idealize.ShloMosaic Idealize.SL.Sem Cert.Rows Cert.RowsS

/-- The kernel, over the device's numbers, leaves its arguments unchanged. -/
theorem frame_p : Cert.quiescent_InProjS := fun m ρ _ => Cert.InProjS.Gen.frame m ρ

/-- So does the kernel over the reals. -/
theorem frame_i : Cert.quiescent_InProjSIdeal := fun m ρ _ => Cert.InProjSIdeal.Gen.frame m ρ

/-- So does the reference over the reals. -/
theorem frame_r : Cert.quiescent_InProjSRefIdeal := fun m ρ _ =>
  (θ_run Cert.InProjSRefIdeal.defs _ _).mono (fun r h => ⟨fun c => (h c).2.2.2.2.2.2.2, sem_eq_zero_of_no_sems (by decide) r.2⟩)
    (Cert.InProjSRefIdeal.Value.run (F := Ideal) m ρ)

/-- The kernel over the reals is the kernel with every operation read at its ideal meaning; no rule changes it. -/
theorem preserves : Cert.preserves_InProjS_InProjSIdeal := trivial

/-- The kernel and the reference give the same seven arrays of reals from the same arguments. -/
theorem algebraic : Cert.algebraic_InProjSIdeal_InProjSRefIdeal := by
  intro m ρ m' ρ' _ hagree
  have same : ∀ (c : Dev Cert.InProjSIdeal.nD) {α : Type} (f : FVec Ideal Cert.InProjSIdeal.S32x16x1024 .f32 → FVec Ideal Cert.InProjSIdeal.S1x1024 .f32 → FVec Ideal Cert.InProjSIdeal.S1x1024x5192 .f32 → α),
      f (m' ((c.tc : Thread Cert.InProjSRefIdeal.nD Cert.InProjSRefIdeal.τ).loc Cert.InProjSRefIdeal.main_arg0)) (m' ((c.tc : Thread Cert.InProjSRefIdeal.nD Cert.InProjSRefIdeal.τ).loc Cert.InProjSRefIdeal.main_arg1))
        (m' ((c.tc : Thread Cert.InProjSRefIdeal.nD Cert.InProjSRefIdeal.τ).loc Cert.InProjSRefIdeal.main_arg2)) = f (Cert.InProjSIdeal.Hand.argX m c) (Cert.InProjSIdeal.Hand.argG m c) (Cert.InProjSIdeal.Hand.argW m c) := by
    intro c α f
    obtain ⟨e0, e1, e2⟩ := hagree c
    rw [e0, e1, e2]
  refine ⟨fun c => group 0 512 (by omega) eighth (Cert.InProjSIdeal.Hand.argX m c) (Cert.InProjSIdeal.Hand.argG m c) (Cert.InProjSIdeal.Hand.argW m c), fun c => group 768 512 (by omega) eighth (Cert.InProjSIdeal.Hand.argX m c) (Cert.InProjSIdeal.Hand.argG m c) (Cert.InProjSIdeal.Hand.argW m c), fun c => cols 512 128 (by omega) (Cert.InProjSIdeal.Hand.argX m c) (Cert.InProjSIdeal.Hand.argG m c) (Cert.InProjSIdeal.Hand.argW m c), fun c => cols 640 128 (by omega) (Cert.InProjSIdeal.Hand.argX m c) (Cert.InProjSIdeal.Hand.argG m c) (Cert.InProjSIdeal.Hand.argW m c), fun c => cols 1280 64 (by omega) (Cert.InProjSIdeal.Hand.argX m c) (Cert.InProjSIdeal.Hand.argG m c) (Cert.InProjSIdeal.Hand.argW m c), fun c => group 1344 8 (by omega) rootEighth (Cert.InProjSIdeal.Hand.argX m c) (Cert.InProjSIdeal.Hand.argG m c) (Cert.InProjSIdeal.Hand.argW m c), fun c => cols 1352 1792 (by omega) (Cert.InProjSIdeal.Hand.argX m c) (Cert.InProjSIdeal.Hand.argG m c) (Cert.InProjSIdeal.Hand.argW m c), ?_, ?_⟩
  · exact (θ_run Cert.InProjSIdeal.defs _ _).mono (fun r h c => ⟨(h c).1.trans (Cert.InProjSIdeal.Hand.final_4 m c), (h c).2.1.trans (Cert.InProjSIdeal.Hand.final_5 m c), (h c).2.2.1.trans (Cert.InProjSIdeal.Hand.final_6 m c), (h c).2.2.2.1.trans (Cert.InProjSIdeal.Hand.final_7 m c), (h c).2.2.2.2.1.trans (Cert.InProjSIdeal.Hand.final_8 m c), (h c).2.2.2.2.2.1.trans (Cert.InProjSIdeal.Hand.final_9 m c), (h c).2.2.2.2.2.2.1.trans (Cert.InProjSIdeal.Hand.final_10 m c), (h c).2.2.2.2.2.2.2⟩)
      (Cert.InProjSIdeal.Value.run_blocks (F := Ideal) m ρ)
  · exact (θ_run Cert.InProjSRefIdeal.defs _ _).mono (fun r h c => ⟨((h c).1.trans (Cert.InProjSRefIdeal.Read.val_main_v30_eq _ _ _)).trans ((Cert.InProjSRefIdeal.Hand.v30_fun _ _ _).trans (same c (group 0 512 (by omega) eighth))),
      ((h c).2.1.trans (Cert.InProjSRefIdeal.Read.val_main_v33_eq _ _ _)).trans ((Cert.InProjSRefIdeal.Hand.v33_fun _ _ _).trans (same c (group 768 512 (by omega) eighth))),
      ((h c).2.2.1.trans (Cert.InProjSRefIdeal.Read.val_main_v18_eq _ _ _)).trans ((Cert.InProjSRefIdeal.Hand.v18_fun _ _ _).trans (same c (cols 512 128 (by omega)))),
      ((h c).2.2.2.1.trans (Cert.InProjSRefIdeal.Read.val_main_v19_eq _ _ _)).trans ((Cert.InProjSRefIdeal.Hand.v19_fun _ _ _).trans (same c (cols 640 128 (by omega)))),
      ((h c).2.2.2.2.1.trans (Cert.InProjSRefIdeal.Read.val_main_v21_eq _ _ _)).trans ((Cert.InProjSRefIdeal.Hand.v21_fun _ _ _).trans (same c (cols 1280 64 (by omega)))),
      ((h c).2.2.2.2.2.1.trans (Cert.InProjSRefIdeal.Read.val_main_v27_eq _ _ _)).trans ((Cert.InProjSRefIdeal.Hand.v27_fun _ _ _).trans (same c (group 1344 8 (by omega) rootEighth))),
      ((h c).2.2.2.2.2.2.1.trans (Cert.InProjSRefIdeal.Read.val_main_v23_eq _ _ _)).trans ((Cert.InProjSRefIdeal.Hand.v23_fun _ _ _).trans (same c (cols 1352 1792 (by omega)))), (h c).2.2.2.2.2.2.2⟩)
      (Cert.InProjSRefIdeal.Value.run (F := Ideal) m' ρ')

end Cert.InProjSClaims
-- ==== Proof.lean ====
/- The certificate's claim, from the claims about its programs. -/
module

public import proofs.«01_k».proof.Defs
public import proofs.«01_k».proof.Proof.RwkvClaims
public import proofs.«01_k».proof.Proof.TailClaims
public import proofs.«01_k».proof.Proof.InProjClaims
public import proofs.«01_k».proof.Proof.TailSClaims
public import proofs.«01_k».proof.Proof.InProjSClaims

@[expose] public section

noncomputable section

namespace Cert.Proof

/-- Every claim of the certificate: the frames, the preservations and the equalities with the references. -/
theorem claim : Cert.Claim :=
  ⟨Cert.Rwkv.Gen.facts, Cert.RwkvIdeal.Gen.facts, Cert.RwkvRefIdeal.Gen.facts, Cert.Tail.Gen.facts, Cert.TailIdeal.Gen.facts,
    Cert.TailRefIdeal.Gen.facts, Cert.InProj.Gen.facts, Cert.InProjIdeal.Gen.facts, Cert.InProjRefIdeal.Gen.facts, Cert.TailS.Gen.facts,
    Cert.TailSIdeal.Gen.facts, Cert.TailSRefIdeal.Gen.facts, Cert.InProjS.Gen.facts, Cert.InProjSIdeal.Gen.facts, Cert.InProjSRefIdeal.Gen.facts,
    Cert.RwkvPre.facts, RwkvClaims.frame_p, RwkvClaims.frame_i, RwkvClaims.frame_ip, RwkvClaims.frame_r,
    RwkvClaims.frame_rp, TailClaims.frame_p, TailClaims.frame_i, TailClaims.frame_r, InProjClaims.frame_p,
    InProjClaims.frame_i, InProjClaims.frame_r, TailSClaims.frame_p, TailSClaims.frame_i, TailSClaims.frame_r,
    InProjSClaims.frame_p, InProjSClaims.frame_i, InProjSClaims.frame_r, RwkvClaims.preserves, RwkvClaims.algebraic,
    TailClaims.preserves, TailClaims.algebraic, InProjClaims.preserves, InProjClaims.algebraic, TailSClaims.preserves,
    TailSClaims.algebraic, InProjSClaims.preserves, InProjSClaims.algebraic⟩

end Cert.Proof

end
